-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_q_norm_finite [hPre_q_norm_finite : Cert.Pre_q_norm_finite.Facts] (m : (ℓ : Loc Cert.KernelIdeal.nD Cert.KernelIdeal.τ Cert.KernelIdeal.sig) → Buf (Elt Ideal) ℓ) : Prop :=
  ∀ c : Dev Cert.KernelIdeal.nD,
    (Cert.Pre_q_norm_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_q_norm_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_q_norm_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_q_norm_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_q_norm_finite [hPre_q_norm_finite : Cert.Pre_q_norm_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_q_norm_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_q_norm_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_q_norm_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_q_norm_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_kv_norm_finite [hPre_kv_norm_finite : Cert.Pre_kv_norm_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_kv_norm_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).1 = (fun _ => 1#1)
    ∧ (Cert.Pre_kv_norm_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.1 = (fun _ => 1#1)
    ∧ (Cert.Pre_kv_norm_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.2.1 = (fun _ => 1#1)
    ∧ (Cert.Pre_kv_norm_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.2.2.1 = (fun _ => 1#1)
    ∧ (Cert.Pre_kv_norm_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.2.2.2.1 = (fun _ => 1#1)
    ∧ (Cert.Pre_kv_norm_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_kv_norm_finite [hPre_kv_norm_finite : Cert.Pre_kv_norm_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_kv_norm_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).1 = (fun _ => 1#1)
    ∧ (Cert.Pre_kv_norm_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).2.1 = (fun _ => 1#1)
    ∧ (Cert.Pre_kv_norm_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).2.2.1 = (fun _ => 1#1)
    ∧ (Cert.Pre_kv_norm_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).2.2.2.1 = (fun _ => 1#1)
    ∧ (Cert.Pre_kv_norm_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).2.2.2.2.1 = (fun _ => 1#1)
    ∧ (Cert.Pre_kv_norm_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).2.2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_first_norm_finite [hPre_first_norm_finite : Cert.Pre_first_norm_finite.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_first_norm_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))).1 = (fun _ => 1#1)
    ∧ (Cert.Pre_first_norm_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))).2.1 = (fun _ => 1#1)
    ∧ (Cert.Pre_first_norm_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))).2.2.1 = (fun _ => 1#1)
    ∧ (Cert.Pre_first_norm_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))).2.2.2.1 = (fun _ => 1#1)
    ∧ (Cert.Pre_first_norm_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))).2.2.2.2.1 = (fun _ => 1#1)
    ∧ (Cert.Pre_first_norm_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))).2.2.2.2.2.1 = (fun _ => 1#1)
    ∧ (Cert.Pre_first_norm_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))).2.2.2.2.2.2.1 = (fun _ => 1#1)
    ∧ (Cert.Pre_first_norm_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))).2.2.2.2.2.2.2.1 = (fun _ => 1#1)
    ∧ (Cert.Pre_first_norm_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))).2.2.2.2.2.2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_first_norm_finite [hPre_first_norm_finite : Cert.Pre_first_norm_finite.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_first_norm_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9))).1 = (fun _ => 1#1)
    ∧ (Cert.Pre_first_norm_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9))).2.1 = (fun _ => 1#1)
    ∧ (Cert.Pre_first_norm_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9))).2.2.1 = (fun _ => 1#1)
    ∧ (Cert.Pre_first_norm_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9))).2.2.2.1 = (fun _ => 1#1)
    ∧ (Cert.Pre_first_norm_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9))).2.2.2.2.1 = (fun _ => 1#1)
    ∧ (Cert.Pre_first_norm_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9))).2.2.2.2.2.1 = (fun _ => 1#1)
    ∧ (Cert.Pre_first_norm_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9))).2.2.2.2.2.2.1 = (fun _ => 1#1)
    ∧ (Cert.Pre_first_norm_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9))).2.2.2.2.2.2.2.1 = (fun _ => 1#1)
    ∧ (Cert.Pre_first_norm_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9))).2.2.2.2.2.2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_loss_finite [hPre_loss_finite : Cert.Pre_loss_finite.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_loss_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))).1 = (fun _ => 1#1)
    ∧ (Cert.Pre_loss_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))).2.1 = (fun _ => 1#1)
    ∧ (Cert.Pre_loss_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))).2.2.1 = (fun _ => 1#1)
    ∧ (Cert.Pre_loss_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))).2.2.2.1 = (fun _ => 1#1)
    ∧ (Cert.Pre_loss_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))).2.2.2.2.1 = (fun _ => 1#1)
    ∧ (Cert.Pre_loss_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))).2.2.2.2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_loss_finite [hPre_loss_finite : Cert.Pre_loss_finite.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_loss_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))).1 = (fun _ => 1#1)
    ∧ (Cert.Pre_loss_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))).2.1 = (fun _ => 1#1)
    ∧ (Cert.Pre_loss_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))).2.2.1 = (fun _ => 1#1)
    ∧ (Cert.Pre_loss_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))).2.2.2.1 = (fun _ => 1#1)
    ∧ (Cert.Pre_loss_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))).2.2.2.2.1 = (fun _ => 1#1)
    ∧ (Cert.Pre_loss_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))).2.2.2.2.2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_attention_finite [hPre_attention_finite : Cert.Pre_attention_finite.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_attention_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6))).1 = (fun _ => 1#1)
    ∧ (Cert.Pre_attention_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6))).2.1 = (fun _ => 1#1)
    ∧ (Cert.Pre_attention_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6))).2.2.1 = (fun _ => 1#1)
    ∧ (Cert.Pre_attention_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6))).2.2.2.1 = (fun _ => 1#1)
    ∧ (Cert.Pre_attention_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6))).2.2.2.2.1 = (fun _ => 1#1)
    ∧ (Cert.Pre_attention_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6))).2.2.2.2.2 = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_attention_finite [hPre_attention_finite : Cert.Pre_attention_finite.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_attention_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6))).1 = (fun _ => 1#1)
    ∧ (Cert.Pre_attention_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6))).2.1 = (fun _ => 1#1)
    ∧ (Cert.Pre_attention_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6))).2.2.1 = (fun _ => 1#1)
    ∧ (Cert.Pre_attention_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6))).2.2.2.1 = (fun _ => 1#1)
    ∧ (Cert.Pre_attention_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6))).2.2.2.2.1 = (fun _ => 1#1)
    ∧ (Cert.Pre_attention_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6))).2.2.2.2.2 = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_attention_forward_finite [hPre_attention_forward_finite : Cert.Pre_attention_forward_finite.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_attention_forward_finite.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6))).1 = (fun _ => 1#1)
    ∧ (Cert.Pre_attention_forward_finite.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6))).2.1 = (fun _ => 1#1)
    ∧ (Cert.Pre_attention_forward_finite.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6))).2.2.1 = (fun _ => 1#1)
    ∧ (Cert.Pre_attention_forward_finite.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6))).2.2.2.1 = (fun _ => 1#1)
    ∧ (Cert.Pre_attention_forward_finite.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6))).2.2.2.2 = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_attention_forward_finite [hPre_attention_forward_finite : Cert.Pre_attention_forward_finite.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_attention_forward_finite.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6))).1 = (fun _ => 1#1)
    ∧ (Cert.Pre_attention_forward_finite.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6))).2.1 = (fun _ => 1#1)
    ∧ (Cert.Pre_attention_forward_finite.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6))).2.2.1 = (fun _ => 1#1)
    ∧ (Cert.Pre_attention_forward_finite.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6))).2.2.2.1 = (fun _ => 1#1)
    ∧ (Cert.Pre_attention_forward_finite.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6))).2.2.2.2 = (fun _ => 1#1)

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_q_norm_finite [hKernelIdeal : Cert.KernelIdeal.Facts] [hPre_q_norm_finite : Cert.Pre_q_norm_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_q_norm_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_q_norm_finite [hReferenceIdeal : Cert.ReferenceIdeal.Facts] [hPre_q_norm_finite : Cert.Pre_q_norm_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_q_norm_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Kernel2Ideal_pre_kv_norm_finite [hKernel2Ideal : Cert.Kernel2Ideal.Facts] [hPre_kv_norm_finite : Cert.Pre_kv_norm_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_kv_norm_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Reference2Ideal_pre_kv_norm_finite [hReference2Ideal : Cert.Reference2Ideal.Facts] [hPre_kv_norm_finite : Cert.Pre_kv_norm_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_kv_norm_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Kernel3Ideal_pre_first_norm_finite [hKernel3Ideal : Cert.Kernel3Ideal.Facts] [hPre_first_norm_finite : Cert.Pre_first_norm_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_first_norm_finite m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Reference3Ideal_pre_first_norm_finite [hReference3Ideal : Cert.Reference3Ideal.Facts] [hPre_first_norm_finite : Cert.Pre_first_norm_finite.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_first_norm_finite m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Kernel4Ideal_pre_loss_finite [hKernel4Ideal : Cert.Kernel4Ideal.Facts] [hPre_loss_finite : Cert.Pre_loss_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_loss_finite m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Reference4Ideal_pre_loss_finite [hReference4Ideal : Cert.Reference4Ideal.Facts] [hPre_loss_finite : Cert.Pre_loss_finite.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_loss_finite m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Kernel6Ideal_pre_attention_finite [hKernel6Ideal : Cert.Kernel6Ideal.Facts] [hPre_attention_finite : Cert.Pre_attention_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_attention_finite m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Reference6Ideal_pre_attention_finite [hReference6Ideal : Cert.Reference6Ideal.Facts] [hPre_attention_finite : Cert.Pre_attention_finite.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_attention_finite m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ r.2.sem = fun _ => 0)

def quiescent_Kernel9Ideal_pre_attention_forward_finite [hKernel9Ideal : Cert.Kernel9Ideal.Facts] [hPre_attention_forward_finite : Cert.Pre_attention_forward_finite.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_attention_forward_finite m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6))
      ∧ r.2.sem = fun _ => 0)

def quiescent_Reference9Ideal_pre_attention_forward_finite [hReference9Ideal : Cert.Reference9Ideal.Facts] [hPre_attention_forward_finite : Cert.Pre_attention_forward_finite.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_attention_forward_finite m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def preserves_Kernel_KernelIdeal : Prop :=
  True

def algebraic_KernelIdeal_ReferenceIdeal_pre_q_norm_finite [hKernelIdeal : Cert.KernelIdeal.Facts] [hReferenceIdeal : Cert.ReferenceIdeal.Facts] [hPre_q_norm_finite : Cert.Pre_q_norm_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_q_norm_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_v42) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_pre_kv_norm_finite [hKernel2Ideal : Cert.Kernel2Ideal.Facts] [hReference2Ideal : Cert.Reference2Ideal.Facts] [hPre_kv_norm_finite : Cert.Pre_kv_norm_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_kv_norm_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v34_0)) (v1 : (c : Dev Cert.Kernel2Ideal.nD) → Buf (Elt Ideal) ((c.tc : Thread Cert.Kernel2Ideal.nD Cert.Kernel2Ideal.τ).loc Cert.Kernel2Ideal.main_v34_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v34_0) = v0 c
          ∧ r.2.mem ((c.tc : Thread Cert.Kernel2Ideal.nD Cert.Kernel2Ideal.τ).loc Cert.Kernel2Ideal.main_v34_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v82) = v0 c
          ∧ r.2.mem ((c.tc : Thread Cert.Reference2Ideal.nD Cert.Reference2Ideal.τ).loc Cert.Reference2Ideal.main_v83) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal_pre_first_norm_finite [hKernel3Ideal : Cert.Kernel3Ideal.Facts] [hReference3Ideal : Cert.Reference3Ideal.Facts] [hPre_first_norm_finite : Cert.Pre_first_norm_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_first_norm_finite m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v29_0)) (v1 : (c : Dev Cert.Kernel3Ideal.nD) → Buf (Elt Ideal) ((c.tc : Thread Cert.Kernel3Ideal.nD Cert.Kernel3Ideal.τ).loc Cert.Kernel3Ideal.main_v29_1)) (v2 : (c : Dev Cert.Kernel3Ideal.nD) → Buf (Elt Ideal) ((c.tc : Thread Cert.Kernel3Ideal.nD Cert.Kernel3Ideal.τ).loc Cert.Kernel3Ideal.main_v29_2)) (v3 : (c : Dev Cert.Kernel3Ideal.nD) → Buf (Elt Ideal) ((c.tc : Thread Cert.Kernel3Ideal.nD Cert.Kernel3Ideal.τ).loc Cert.Kernel3Ideal.main_v29_3)) (v4 : (c : Dev Cert.Kernel3Ideal.nD) → Buf (Elt Ideal) ((c.tc : Thread Cert.Kernel3Ideal.nD Cert.Kernel3Ideal.τ).loc Cert.Kernel3Ideal.main_v29_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v29_0) = v0 c
          ∧ r.2.mem ((c.tc : Thread Cert.Kernel3Ideal.nD Cert.Kernel3Ideal.τ).loc Cert.Kernel3Ideal.main_v29_1) = v1 c
          ∧ r.2.mem ((c.tc : Thread Cert.Kernel3Ideal.nD Cert.Kernel3Ideal.τ).loc Cert.Kernel3Ideal.main_v29_2) = v2 c
          ∧ r.2.mem ((c.tc : Thread Cert.Kernel3Ideal.nD Cert.Kernel3Ideal.τ).loc Cert.Kernel3Ideal.main_v29_3) = v3 c
          ∧ r.2.mem ((c.tc : Thread Cert.Kernel3Ideal.nD Cert.Kernel3Ideal.τ).loc Cert.Kernel3Ideal.main_v29_4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v77) = v0 c
          ∧ r.2.mem ((c.tc : Thread Cert.Reference3Ideal.nD Cert.Reference3Ideal.τ).loc Cert.Reference3Ideal.main_v81) = v1 c
          ∧ r.2.mem ((c.tc : Thread Cert.Reference3Ideal.nD Cert.Reference3Ideal.τ).loc Cert.Reference3Ideal.main_v82) = v2 c
          ∧ r.2.mem ((c.tc : Thread Cert.Reference3Ideal.nD Cert.Reference3Ideal.τ).loc Cert.Reference3Ideal.main_v83) = v3 c
          ∧ r.2.mem ((c.tc : Thread Cert.Reference3Ideal.nD Cert.Reference3Ideal.τ).loc Cert.Reference3Ideal.main_v84) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def algebraic_Kernel4Ideal_Reference4Ideal_pre_loss_finite [hKernel4Ideal : Cert.Kernel4Ideal.Facts] [hReference4Ideal : Cert.Reference4Ideal.Facts] [hPre_loss_finite : Cert.Pre_loss_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_loss_finite m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v4_0)) (v1 : (c : Dev Cert.Kernel4Ideal.nD) → Buf (Elt Ideal) ((c.tc : Thread Cert.Kernel4Ideal.nD Cert.Kernel4Ideal.τ).loc Cert.Kernel4Ideal.main_v4_1)) (v2 : (c : Dev Cert.Kernel4Ideal.nD) → Buf (Elt Ideal) ((c.tc : Thread Cert.Kernel4Ideal.nD Cert.Kernel4Ideal.τ).loc Cert.Kernel4Ideal.main_v4_2)) (v3 : (c : Dev Cert.Kernel4Ideal.nD) → Buf (Elt Ideal) ((c.tc : Thread Cert.Kernel4Ideal.nD Cert.Kernel4Ideal.τ).loc Cert.Kernel4Ideal.main_v4_3)) (v4 : (c : Dev Cert.Kernel4Ideal.nD) → Buf (Elt Ideal) ((c.tc : Thread Cert.Kernel4Ideal.nD Cert.Kernel4Ideal.τ).loc Cert.Kernel4Ideal.main_v4_4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4_0) = v0 c
          ∧ r.2.mem ((c.tc : Thread Cert.Kernel4Ideal.nD Cert.Kernel4Ideal.τ).loc Cert.Kernel4Ideal.main_v4_1) = v1 c
          ∧ r.2.mem ((c.tc : Thread Cert.Kernel4Ideal.nD Cert.Kernel4Ideal.τ).loc Cert.Kernel4Ideal.main_v4_2) = v2 c
          ∧ r.2.mem ((c.tc : Thread Cert.Kernel4Ideal.nD Cert.Kernel4Ideal.τ).loc Cert.Kernel4Ideal.main_v4_3) = v3 c
          ∧ r.2.mem ((c.tc : Thread Cert.Kernel4Ideal.nD Cert.Kernel4Ideal.τ).loc Cert.Kernel4Ideal.main_v4_4) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v81) = v0 c
          ∧ r.2.mem ((c.tc : Thread Cert.Reference4Ideal.nD Cert.Reference4Ideal.τ).loc Cert.Reference4Ideal.main_v80) = v1 c
          ∧ r.2.mem ((c.tc : Thread Cert.Reference4Ideal.nD Cert.Reference4Ideal.τ).loc Cert.Reference4Ideal.main_v82) = v2 c
          ∧ r.2.mem ((c.tc : Thread Cert.Reference4Ideal.nD Cert.Reference4Ideal.τ).loc Cert.Reference4Ideal.main_v83) = v3 c
          ∧ r.2.mem ((c.tc : Thread Cert.Reference4Ideal.nD Cert.Reference4Ideal.τ).loc Cert.Reference4Ideal.main_v84) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel6_Kernel6Ideal : Prop :=
  IdealRules.named_const.Statement Cert.Kernel6Ideal.κ "mask" .f32 0xF149F2CA#32 ⊥
  ∧ IdealRules.named_const.Statement Cert.Kernel6Ideal.κ "scale_log2e" .f32 0x3DD53B95#32 (((Real.sqrt 192)⁻¹ * (Real.log 2)⁻¹ : ℝ) : EReal)
  ∧ IdealRules.named_const.Statement Cert.Kernel6Ideal.κ "log2e" .f32 0x3FB8AA3B#32 (((Real.log 2)⁻¹ : ℝ) : EReal)
  ∧ IdealRules.named_const.Statement Cert.Kernel6Ideal.κ "scale" .f32 0x3D93CD3A#32 (((Real.sqrt 192)⁻¹ : ℝ) : EReal)

def algebraic_Kernel6Ideal_Reference6Ideal_pre_attention_finite [hKernel6Ideal : Cert.Kernel6Ideal.Facts] [hReference6Ideal : Cert.Reference6Ideal.Facts] [hPre_attention_finite : Cert.Pre_attention_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_attention_finite m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v78_0)) (v1 : (c : Dev Cert.Kernel6Ideal.nD) → Buf (Elt Ideal) ((c.tc : Thread Cert.Kernel6Ideal.nD Cert.Kernel6Ideal.τ).loc Cert.Kernel6Ideal.main_v78_1)) (v2 : (c : Dev Cert.Kernel6Ideal.nD) → Buf (Elt Ideal) ((c.tc : Thread Cert.Kernel6Ideal.nD Cert.Kernel6Ideal.τ).loc Cert.Kernel6Ideal.main_v78_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v78_0) = v0 c
          ∧ r.2.mem ((c.tc : Thread Cert.Kernel6Ideal.nD Cert.Kernel6Ideal.τ).loc Cert.Kernel6Ideal.main_v78_1) = v1 c
          ∧ r.2.mem ((c.tc : Thread Cert.Kernel6Ideal.nD Cert.Kernel6Ideal.τ).loc Cert.Kernel6Ideal.main_v78_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v117) = v0 c
          ∧ r.2.mem ((c.tc : Thread Cert.Reference6Ideal.nD Cert.Reference6Ideal.τ).loc Cert.Reference6Ideal.main_v120) = v1 c
          ∧ r.2.mem ((c.tc : Thread Cert.Reference6Ideal.nD Cert.Reference6Ideal.τ).loc Cert.Reference6Ideal.main_v121) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def preserves_Kernel9_Kernel9Ideal : Prop :=
  IdealRules.named_const.Statement Cert.Kernel9Ideal.κ "mask" .f32 0xF149F2CA#32 ⊥
  ∧ IdealRules.named_const.Statement Cert.Kernel9Ideal.κ "scale_log2e" .f32 0x3DD53B95#32 (((Real.sqrt 192)⁻¹ * (Real.log 2)⁻¹ : ℝ) : EReal)
  ∧ IdealRules.named_const.Statement Cert.Kernel9Ideal.κ "scale" .f32 0x3D93CD3A#32 (((Real.sqrt 192)⁻¹ : ℝ) : EReal)

def algebraic_Kernel9Ideal_Reference9Ideal_pre_attention_forward_finite [hKernel9Ideal : Cert.Kernel9Ideal.Facts] [hReference9Ideal : Cert.Reference9Ideal.Facts] [hPre_attention_forward_finite : Cert.Pre_attention_forward_finite.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_attention_forward_finite m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)) →
    ∃ (v0 : (c : Dev Cert.Kernel9Ideal.nD) → Buf (Elt Ideal) ((c.tc : Thread Cert.Kernel9Ideal.nD Cert.Kernel9Ideal.τ).loc Cert.Kernel9Ideal.main_v43_0)) (v1 : (c : Dev Cert.Kernel9Ideal.nD) → Buf (Elt Ideal) ((c.tc : Thread Cert.Kernel9Ideal.nD Cert.Kernel9Ideal.τ).loc Cert.Kernel9Ideal.main_v43_1)) (v2 : (c : Dev Cert.Kernel9Ideal.nD) → Buf (Elt Ideal) ((c.tc : Thread Cert.Kernel9Ideal.nD Cert.Kernel9Ideal.τ).loc Cert.Kernel9Ideal.main_v43_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v43_0) = v0 c
          ∧ r.2.mem ((c.tc : Thread Cert.Kernel9Ideal.nD Cert.Kernel9Ideal.τ).loc Cert.Kernel9Ideal.main_v43_1) = v1 c
          ∧ r.2.mem ((c.tc : Thread Cert.Kernel9Ideal.nD Cert.Kernel9Ideal.τ).loc Cert.Kernel9Ideal.main_v43_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v57) = v0 c
          ∧ r.2.mem ((c.tc : Thread Cert.Reference9Ideal.nD Cert.Reference9Ideal.τ).loc Cert.Reference9Ideal.main_v64) = v1 c
          ∧ r.2.mem ((c.tc : Thread Cert.Reference9Ideal.nD Cert.Reference9Ideal.τ).loc Cert.Reference9Ideal.main_v68) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)) →
    ∃ (v0 : (c : Dev Cert.Kernel10Ideal.nD) → Buf (Elt Ideal) ((c.tc : Thread Cert.Kernel10Ideal.nD Cert.Kernel10Ideal.τ).loc Cert.Kernel10Ideal.main_v31_0)) (v1 : (c : Dev Cert.Kernel10Ideal.nD) → Buf (Elt Ideal) ((c.tc : Thread Cert.Kernel10Ideal.nD Cert.Kernel10Ideal.τ).loc Cert.Kernel10Ideal.main_v31_1)) (v2 : (c : Dev Cert.Kernel10Ideal.nD) → Buf (Elt Ideal) ((c.tc : Thread Cert.Kernel10Ideal.nD Cert.Kernel10Ideal.τ).loc Cert.Kernel10Ideal.main_v31_2)) (v3 : (c : Dev Cert.Kernel10Ideal.nD) → Buf (Elt Ideal) ((c.tc : Thread Cert.Kernel10Ideal.nD Cert.Kernel10Ideal.τ).loc Cert.Kernel10Ideal.main_v31_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v31_0) = v0 c
          ∧ r.2.mem ((c.tc : Thread Cert.Kernel10Ideal.nD Cert.Kernel10Ideal.τ).loc Cert.Kernel10Ideal.main_v31_1) = v1 c
          ∧ r.2.mem ((c.tc : Thread Cert.Kernel10Ideal.nD Cert.Kernel10Ideal.τ).loc Cert.Kernel10Ideal.main_v31_2) = v2 c
          ∧ r.2.mem ((c.tc : Thread Cert.Kernel10Ideal.nD Cert.Kernel10Ideal.τ).loc Cert.Kernel10Ideal.main_v31_3) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v45) = v0 c
          ∧ r.2.mem ((c.tc : Thread Cert.Reference10Ideal.nD Cert.Reference10Ideal.τ).loc Cert.Reference10Ideal.main_v60) = v1 c
          ∧ r.2.mem ((c.tc : Thread Cert.Reference10Ideal.nD Cert.Reference10Ideal.τ).loc Cert.Reference10Ideal.main_v62) = v2 c
          ∧ r.2.mem ((c.tc : Thread Cert.Reference10Ideal.nD Cert.Reference10Ideal.τ).loc Cert.Reference10Ideal.main_v65) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v27)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v27) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v39) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel6 : Cert.Kernel6.Facts) (hKernel6Ideal : Cert.Kernel6Ideal.Facts) (hReference6Ideal : Cert.Reference6Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hPre_q_norm_finite : Cert.Pre_q_norm_finite.Facts) (hPre_kv_norm_finite : Cert.Pre_kv_norm_finite.Facts) (hPre_first_norm_finite : Cert.Pre_first_norm_finite.Facts) (hPre_loss_finite : Cert.Pre_loss_finite.Facts) (hPre_attention_finite : Cert.Pre_attention_finite.Facts) (hPre_attention_forward_finite : Cert.Pre_attention_forward_finite.Facts),
    quiescent_Kernel (hKernel := hKernel)
    ∧ quiescent_KernelIdeal (hKernelIdeal := hKernelIdeal)
    ∧ quiescent_KernelIdeal_pre_q_norm_finite (hKernelIdeal := hKernelIdeal) (hPre_q_norm_finite := hPre_q_norm_finite)
    ∧ quiescent_ReferenceIdeal (hReferenceIdeal := hReferenceIdeal)
    ∧ quiescent_ReferenceIdeal_pre_q_norm_finite (hReferenceIdeal := hReferenceIdeal) (hPre_q_norm_finite := hPre_q_norm_finite)
    ∧ quiescent_Kernel2 (hKernel2 := hKernel2)
    ∧ quiescent_Kernel2Ideal (hKernel2Ideal := hKernel2Ideal)
    ∧ quiescent_Kernel2Ideal_pre_kv_norm_finite (hKernel2Ideal := hKernel2Ideal) (hPre_kv_norm_finite := hPre_kv_norm_finite)
    ∧ quiescent_Reference2Ideal (hReference2Ideal := hReference2Ideal)
    ∧ quiescent_Reference2Ideal_pre_kv_norm_finite (hReference2Ideal := hReference2Ideal) (hPre_kv_norm_finite := hPre_kv_norm_finite)
    ∧ quiescent_Kernel3 (hKernel3 := hKernel3)
    ∧ quiescent_Kernel3Ideal (hKernel3Ideal := hKernel3Ideal)
    ∧ quiescent_Kernel3Ideal_pre_first_norm_finite (hKernel3Ideal := hKernel3Ideal) (hPre_first_norm_finite := hPre_first_norm_finite)
    ∧ quiescent_Reference3Ideal (hReference3Ideal := hReference3Ideal)
    ∧ quiescent_Reference3Ideal_pre_first_norm_finite (hReference3Ideal := hReference3Ideal) (hPre_first_norm_finite := hPre_first_norm_finite)
    ∧ quiescent_Kernel4 (hKernel4 := hKernel4)
    ∧ quiescent_Kernel4Ideal (hKernel4Ideal := hKernel4Ideal)
    ∧ quiescent_Kernel4Ideal_pre_loss_finite (hKernel4Ideal := hKernel4Ideal) (hPre_loss_finite := hPre_loss_finite)
    ∧ quiescent_Reference4Ideal (hReference4Ideal := hReference4Ideal)
    ∧ quiescent_Reference4Ideal_pre_loss_finite (hReference4Ideal := hReference4Ideal) (hPre_loss_finite := hPre_loss_finite)
    ∧ quiescent_Kernel6 (hKernel6 := hKernel6)
    ∧ quiescent_Kernel6Ideal (hKernel6Ideal := hKernel6Ideal)
    ∧ quiescent_Kernel6Ideal_pre_attention_finite (hKernel6Ideal := hKernel6Ideal) (hPre_attention_finite := hPre_attention_finite)
    ∧ quiescent_Reference6Ideal (hReference6Ideal := hReference6Ideal)
    ∧ quiescent_Reference6Ideal_pre_attention_finite (hReference6Ideal := hReference6Ideal) (hPre_attention_finite := hPre_attention_finite)
    ∧ quiescent_Kernel9 (hKernel9 := hKernel9)
    ∧ quiescent_Kernel9Ideal (hKernel9Ideal := hKernel9Ideal)
    ∧ quiescent_Kernel9Ideal_pre_attention_forward_finite (hKernel9Ideal := hKernel9Ideal) (hPre_attention_forward_finite := hPre_attention_forward_finite)
    ∧ quiescent_Reference9Ideal (hReference9Ideal := hReference9Ideal)
    ∧ quiescent_Reference9Ideal_pre_attention_forward_finite (hReference9Ideal := hReference9Ideal) (hPre_attention_forward_finite := hPre_attention_forward_finite)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ preserves_Kernel_KernelIdeal
    ∧ algebraic_KernelIdeal_ReferenceIdeal_pre_q_norm_finite (hKernelIdeal := hKernelIdeal) (hReferenceIdeal := hReferenceIdeal) (hPre_q_norm_finite := hPre_q_norm_finite)
    ∧ preserves_Kernel2_Kernel2Ideal
    ∧ algebraic_Kernel2Ideal_Reference2Ideal_pre_kv_norm_finite (hKernel2Ideal := hKernel2Ideal) (hReference2Ideal := hReference2Ideal) (hPre_kv_norm_finite := hPre_kv_norm_finite)
    ∧ preserves_Kernel3_Kernel3Ideal
    ∧ algebraic_Kernel3Ideal_Reference3Ideal_pre_first_norm_finite (hKernel3Ideal := hKernel3Ideal) (hReference3Ideal := hReference3Ideal) (hPre_first_norm_finite := hPre_first_norm_finite)
    ∧ preserves_Kernel4_Kernel4Ideal
    ∧ algebraic_Kernel4Ideal_Reference4Ideal_pre_loss_finite (hKernel4Ideal := hKernel4Ideal) (hReference4Ideal := hReference4Ideal) (hPre_loss_finite := hPre_loss_finite)
    ∧ preserves_Kernel6_Kernel6Ideal
    ∧ algebraic_Kernel6Ideal_Reference6Ideal_pre_attention_finite (hKernel6Ideal := hKernel6Ideal) (hReference6Ideal := hReference6Ideal) (hPre_attention_finite := hPre_attention_finite)
    ∧ preserves_Kernel9_Kernel9Ideal
    ∧ algebraic_Kernel9Ideal_Reference9Ideal_pre_attention_forward_finite (hKernel9Ideal := hKernel9Ideal) (hReference9Ideal := hReference9Ideal) (hPre_attention_forward_finite := hPre_attention_forward_finite)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
-- ==== Pre_attention_finite.lean ====
abbrev S4096x16x128 : Shape := ⟨3, ![4096, 16, 128]⟩
abbrev S4096x16x64 : Shape := ⟨3, ![4096, 16, 64]⟩
abbrev S4096x64 : Shape := ⟨2, ![4096, 64]⟩
abbrev S4096 : Shape := ⟨1, ![4096]⟩
abbrev S_ : Shape := ⟨0, ![]⟩

class Facts : Prop where
  bcast_S_S4096x16x128 : S_.BroadcastsInDim S4096x16x128 (![] : Fin 0 → Fin S4096x16x128.rank)
  bcast_S_S4096x16x64 : S_.BroadcastsInDim S4096x16x64 (![] : Fin 0 → Fin S4096x16x64.rank)
  bcast_S_S4096x64 : S_.BroadcastsInDim S4096x64 (![] : Fin 0 → Fin S4096x64.rank)

variable [Facts]

def fn {F : FTy → Type} [FloatOps F] (main_arg0 : FVec F S4096x16x128 .f32) (main_arg1 : FVec F S4096x16x64 .f32) (main_arg2 : FVec F S4096x16x128 .f32) (main_arg3 : FVec F S4096x64 .f32) (main_arg4 : FVec F S4096x16x128 .f32) (main_arg5 : IVec S4096 32) (main_arg6 : FVec F S4096x16x128 .f32) : IVec S4096x16x128 1 × IVec S4096x16x64 1 × IVec S4096x16x128 1 × IVec S4096x64 1 × IVec S4096x16x128 1 × IVec S4096x16x128 1 :=
  let main_v0 : FVec F S4096x16x128 .f32 := Host.absf main_arg0
  let main_cst : FVec F S_ .f32 := constant S_ .f32 0x7F800000#32
  let main_v1 : FVec F S4096x16x128 .f32 := broadcastInDim S4096x16x128 ![] bcast_S_S4096x16x128 main_cst
  let main_v2 : IVec S4096x16x128 1 := cmpf .olt main_v0 main_v1
  let main_v3 : FVec F S4096x16x64 .f32 := Host.absf main_arg1
  let main_cst_0 : FVec F S_ .f32 := constant S_ .f32 0x7F800000#32
  let main_v4 : FVec F S4096x16x64 .f32 := broadcastInDim S4096x16x64 ![] bcast_S_S4096x16x64 main_cst_0
  let main_v5 : IVec S4096x16x64 1 := cmpf .olt main_v3 main_v4
  let main_v6 : FVec F S4096x16x128 .f32 := Host.absf main_arg2
  let main_cst_1 : FVec F S_ .f32 := constant S_ .f32 0x7F800000#32
  let main_v7 : FVec F S4096x16x128 .f32 := broadcastInDim S4096x16x128 ![] bcast_S_S4096x16x128 main_cst_1
  let main_v8 : IVec S4096x16x128 1 := cmpf .olt main_v6 main_v7
  let main_v9 : FVec F S4096x64 .f32 := Host.absf main_arg3
  let main_cst_2 : FVec F S_ .f32 := constant S_ .f32 0x7F800000#32
  let main_v10 : FVec F S4096x64 .f32 := broadcastInDim S4096x64 ![] bcast_S_S4096x64 main_cst_2
  let main_v11 : IVec S4096x64 1 := cmpf .olt main_v9 main_v10
  let main_v12 : FVec F S4096x16x128 .f32 := Host.absf main_arg4
  let main_cst_3 : FVec F S_ .f32 := constant S_ .f32 0x7F800000#32
  let main_v13 : FVec F S4096x16x128 .f32 := broadcastInDim S4096x16x128 ![] bcast_S_S4096x16x128 main_cst_3
  let main_v14 : IVec S4096x16x128 1 := cmpf .olt main_v12 main_v13
  let main_v15 : FVec F S4096x16x128 .f32 := Host.absf main_arg6
  let main_cst_4 : FVec F S_ .f32 := constant S_ .f32 0x7F800000#32
  let main_v16 : FVec F S4096x16x128 .f32 := broadcastInDim S4096x16x128 ![] bcast_S_S4096x16x128 main_cst_4
  let main_v17 : IVec S4096x16x128 1 := cmpf .olt main_v15 main_v16
  (main_v2, main_v5, main_v8, main_v11, main_v14, main_v17)
-- ==== Pre_attention_forward_finite.lean ====
abbrev S4096x16x128 : Shape := ⟨3, ![4096, 16, 128]⟩
abbrev S4096x16x64 : Shape := ⟨3, ![4096, 16, 64]⟩
abbrev S4096x64 : Shape := ⟨2, ![4096, 64]⟩
abbrev S4096x2560 : Shape := ⟨2, ![4096, 2560]⟩
abbrev S4096 : Shape := ⟨1, ![4096]⟩
abbrev S_ : Shape := ⟨0, ![]⟩

class Facts : Prop where
  bcast_S_S4096x16x128 : S_.BroadcastsInDim S4096x16x128 (![] : Fin 0 → Fin S4096x16x128.rank)
  bcast_S_S4096x16x64 : S_.BroadcastsInDim S4096x16x64 (![] : Fin 0 → Fin S4096x16x64.rank)
  bcast_S_S4096x64 : S_.BroadcastsInDim S4096x64 (![] : Fin 0 → Fin S4096x64.rank)

variable [Facts]

def fn {F : FTy → Type} [FloatOps F] (main_arg0 : FVec F S4096x16x128 .f32) (main_arg1 : FVec F S4096x16x64 .f32) (main_arg2 : FVec F S4096x16x128 .f32) (main_arg3 : FVec F S4096x64 .f32) (main_arg4 : FVec F S4096x16x128 .f32) (main_arg5 : FVec F S4096x2560 .f32) (main_arg6 : IVec S4096 32) : IVec S4096x16x128 1 × IVec S4096x16x64 1 × IVec S4096x16x128 1 × IVec S4096x64 1 × IVec S4096x16x128 1 :=
  let main_v0 : FVec F S4096x16x128 .f32 := Host.absf main_arg0
  let main_cst : FVec F S_ .f32 := constant S_ .f32 0x7F800000#32
  let main_v1 : FVec F S4096x16x128 .f32 := broadcastInDim S4096x16x128 ![] bcast_S_S4096x16x128 main_cst
  let main_v2 : IVec S4096x16x128 1 := cmpf .olt main_v0 main_v1
  let main_v3 : FVec F S4096x16x64 .f32 := Host.absf main_arg1
  let main_cst_0 : FVec F S_ .f32 := constant S_ .f32 0x7F800000#32
  let main_v4 : FVec F S4096x16x64 .f32 := broadcastInDim S4096x16x64 ![] bcast_S_S4096x16x64 main_cst_0
  let main_v5 : IVec S4096x16x64 1 := cmpf .olt main_v3 main_v4
  let main_v6 : FVec F S4096x16x128 .f32 := Host.absf main_arg2
  let main_cst_1 : FVec F S_ .f32 := constant S_ .f32 0x7F800000#32
  let main_v7 : FVec F S4096x16x128 .f32 := broadcastInDim S4096x16x128 ![] bcast_S_S4096x16x128 main_cst_1
  let main_v8 : IVec S4096x16x128 1 := cmpf .olt main_v6 main_v7
  let main_v9 : FVec F S4096x64 .f32 := Host.absf main_arg3
  let main_cst_2 : FVec F S_ .f32 := constant S_ .f32 0x7F800000#32
  let main_v10 : FVec F S4096x64 .f32 := broadcastInDim S4096x64 ![] bcast_S_S4096x64 main_cst_2
  let main_v11 : IVec S4096x64 1 := cmpf .olt main_v9 main_v10
  let main_v12 : FVec F S4096x16x128 .f32 := Host.absf main_arg4
  let main_cst_3 : FVec F S_ .f32 := constant S_ .f32 0x7F800000#32
  let main_v13 : FVec F S4096x16x128 .f32 := broadcastInDim S4096x16x128 ![] bcast_S_S4096x16x128 main_cst_3
  let main_v14 : IVec S4096x16x128 1 := cmpf .olt main_v12 main_v13
  (main_v2, main_v5, main_v8, main_v11, main_v14)
-- ==== Pre_first_norm_finite.lean ====
abbrev S4096x1024 : Shape := ⟨2, ![4096, 1024]⟩
abbrev S1024 : Shape := ⟨1, ![1024]⟩
abbrev S1024x2560 : Shape := ⟨2, ![1024, 2560]⟩
abbrev S1024x320 : Shape := ⟨2, ![1024, 320]⟩
abbrev S4096x2560 : Shape := ⟨2, ![4096, 2560]⟩
abbrev S4096x320 : Shape := ⟨2, ![4096, 320]⟩
abbrev S_ : Shape := ⟨0, ![]⟩

class Facts : Prop where
  bcast_S_S4096x1024 : S_.BroadcastsInDim S4096x1024 (![] : Fin 0 → Fin S4096x1024.rank)
  bcast_S_S1024 : S_.BroadcastsInDim S1024 (![] : Fin 0 → Fin S1024.rank)
  bcast_S_S1024x2560 : S_.BroadcastsInDim S1024x2560 (![] : Fin 0 → Fin S1024x2560.rank)
  bcast_S_S1024x320 : S_.BroadcastsInDim S1024x320 (![] : Fin 0 → Fin S1024x320.rank)
  bcast_S_S4096x2560 : S_.BroadcastsInDim S4096x2560 (![] : Fin 0 → Fin S4096x2560.rank)
  bcast_S_S4096x320 : S_.BroadcastsInDim S4096x320 (![] : Fin 0 → Fin S4096x320.rank)

variable [Facts]

def fn_part1 {F : FTy → Type} [FloatOps F] (main_arg7 : FVec F S4096x1024 .f32) (main_arg8 : FVec F S4096x2560 .f32) (main_arg9 : FVec F S4096x320 .f32) (main_v2 : IVec S4096x1024 1) (main_v5 : IVec S4096x1024 1) (main_v8 : IVec S1024 1) (main_v11 : IVec S1024 1) (main_v14 : IVec S1024x2560 1) (main_v17 : IVec S1024x320 1) : IVec S4096x1024 1 × IVec S4096x1024 1 × IVec S1024 1 × IVec S1024 1 × IVec S1024x2560 1 × IVec S1024x320 1 × IVec S4096x1024 1 × IVec S4096x2560 1 × IVec S4096x320 1 :=
  let main_v18 : FVec F S4096x1024 .f32 := Host.absf main_arg7
  let main_cst_5 : FVec F S_ .f32 := constant S_ .f32 0x7F800000#32
  let main_v19 : FVec F S4096x1024 .f32 := broadcastInDim S4096x1024 ![] bcast_S_S4096x1024 main_cst_5
  let main_v20 : IVec S4096x1024 1 := cmpf .olt main_v18 main_v19
  let main_v21 : FVec F S4096x2560 .f32 := Host.absf main_arg8
  let main_cst_6 : FVec F S_ .f32 := constant S_ .f32 0x7F800000#32
  let main_v22 : FVec F S4096x2560 .f32 := broadcastInDim S4096x2560 ![] bcast_S_S4096x2560 main_cst_6
  let main_v23 : IVec S4096x2560 1 := cmpf .olt main_v21 main_v22
  let main_v24 : FVec F S4096x320 .f32 := Host.absf main_arg9
  let main_cst_7 : FVec F S_ .f32 := constant S_ .f32 0x7F800000#32
  let main_v25 : FVec F S4096x320 .f32 := broadcastInDim S4096x320 ![] bcast_S_S4096x320 main_cst_7
  let main_v26 : IVec S4096x320 1 := cmpf .olt main_v24 main_v25
  (main_v2, main_v5, main_v8, main_v11, main_v14, main_v17, main_v20, main_v23, main_v26)

def fn {F : FTy → Type} [FloatOps F] (main_arg0 : FVec F S4096x1024 .f32) (main_arg1 : FVec F S4096x1024 .f32) (main_arg2 : FVec F S1024 .f32) (main_arg3 : FVec F S1024 .f32) (main_arg4 : FVec F S1024 .f32) (main_arg5 : FVec F S1024x2560 .f32) (main_arg6 : FVec F S1024x320 .f32) (main_arg7 : FVec F S4096x1024 .f32) (main_arg8 : FVec F S4096x2560 .f32) (main_arg9 : FVec F S4096x320 .f32) : IVec S4096x1024 1 × IVec S4096x1024 1 × IVec S1024 1 × IVec S1024 1 × IVec S1024x2560 1 × IVec S1024x320 1 × IVec S4096x1024 1 × IVec S4096x2560 1 × IVec S4096x320 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_v12 : FVec F S1024x2560 .f32 := Host.absf main_arg5
  let main_cst_3 : FVec F S_ .f32 := constant S_ .f32 0x7F800000#32
  let main_v13 : FVec F S1024x2560 .f32 := broadcastInDim S1024x2560 ![] bcast_S_S1024x2560 main_cst_3
  let main_v14 : IVec S1024x2560 1 := cmpf .olt main_v12 main_v13
  let main_v15 : FVec F S1024x320 .f32 := Host.absf main_arg6
  let main_cst_4 : FVec F S_ .f32 := constant S_ .f32 0x7F800000#32
  let main_v16 : FVec F S1024x320 .f32 := broadcastInDim S1024x320 ![] bcast_S_S1024x320 main_cst_4
  let main_v17 : IVec S1024x320 1 := cmpf .olt main_v15 main_v16
  fn_part1 (F := F) main_arg7 main_arg8 main_arg9 main_v2 main_v5 main_v8 main_v11 main_v14 main_v17
-- ==== Pre_kv_norm_finite.lean ====
abbrev S4096x320 : Shape := ⟨2, ![4096, 320]⟩
abbrev S4096 : Shape := ⟨1, ![4096]⟩
abbrev S256 : Shape := ⟨1, ![256]⟩
abbrev S256x16x128 : Shape := ⟨3, ![256, 16, 128]⟩
abbrev S4096x16x128 : Shape := ⟨3, ![4096, 16, 128]⟩
abbrev S4096x64 : Shape := ⟨2, ![4096, 64]⟩
abbrev S4096x256 : Shape := ⟨2, ![4096, 256]⟩
abbrev S_ : Shape := ⟨0, ![]⟩

class Facts : Prop where
  slices_S4096x320_S4096x256_0_0 : S4096x320.Slices ![0, 0] S4096x256
  bcast_S_S4096x256 : S_.BroadcastsInDim S4096x256 (![] : Fin 0 → Fin S4096x256.rank)
  bcast_S_S256 : S_.BroadcastsInDim S256 (![] : Fin 0 → Fin S256.rank)
  bcast_S_S256x16x128 : S_.BroadcastsInDim S256x16x128 (![] : Fin 0 → Fin S256x16x128.rank)
  bcast_S_S4096x16x128 : S_.BroadcastsInDim S4096x16x128 (![] : Fin 0 → Fin S4096x16x128.rank)

variable [Facts]

def fn_part1 {F : FTy → Type} [FloatOps F] (main_v3 : IVec S4096x256 1) (main_v6 : IVec S256 1) (main_v9 : IVec S256x16x128 1) (main_v12 : IVec S256x16x128 1) (main_v15 : IVec S4096x16x128 1) (main_v16 : FVec F S4096x16x128 .f32) (main_v17 : FVec F S4096x16x128 .f32) : IVec S4096x256 1 × IVec S256 1 × IVec S256x16x128 1 × IVec S256x16x128 1 × IVec S4096x16x128 1 × IVec S4096x16x128 1 :=
  let main_v18 : IVec S4096x16x128 1 := cmpf .olt main_v16 main_v17
  (main_v3, main_v6, main_v9, main_v12, main_v15, main_v18)

def fn {F : FTy → Type} [FloatOps F] (main_arg0 : FVec F S4096x320 .f32) (main_arg1 : IVec S4096 32) (main_arg2 : FVec F S256 .f32) (main_arg3 : FVec F S256x16x128 .f32) (main_arg4 : FVec F S256x16x128 .f32) (main_arg5 : FVec F S4096x16x128 .f32) (main_arg6 : FVec F S4096x64 .f32) (main_arg7 : FVec F S4096x16x128 .f32) : IVec S4096x256 1 × IVec S256 1 × IVec S256x16x128 1 × IVec S256x16x128 1 × IVec S4096x16x128 1 × IVec S4096x16x128 1 :=
  let main_v0 : FVec F S4096x256 .f32 := (extractStridedSlice S4096x256 ![0, 0] · slices_S4096x320_S4096x256_0_0) main_arg0
  let main_v1 : FVec F S4096x256 .f32 := Host.absf main_v0
  let main_cst : FVec F S_ .f32 := constant S_ .f32 0x7F800000#32
  let main_v2 : FVec F S4096x256 .f32 := broadcastInDim S4096x256 ![] bcast_S_S4096x256 main_cst
  let main_v3 : IVec S4096x256 1 := cmpf .olt main_v1 main_v2
  let main_v4 : FVec F S256 .f32 := Host.absf main_arg2
  let main_cst_0 : FVec F S_ .f32 := constant S_ .f32 0x7F800000#32
  let main_v5 : FVec F S256 .f32 := broadcastInDim S256 ![] bcast_S_S256 main_cst_0
  let main_v6 : IVec S256 1 := cmpf .olt main_v4 main_v5
  let main_v7 : FVec F S256x16x128 .f32 := Host.absf main_arg3
  let main_cst_1 : FVec F S_ .f32 := constant S_ .f32 0x7F800000#32
  let main_v8 : FVec F S256x16x128 .f32 := broadcastInDim S256x16x128 ![] bcast_S_S256x16x128 main_cst_1
  let main_v9 : IVec S256x16x128 1 := cmpf .olt main_v7 main_v8
  let main_v10 : FVec F S256x16x128 .f32 := Host.absf main_arg4
  let main_cst_2 : FVec F S_ .f32 := constant S_ .f32 0x7F800000#32
  let main_v11 : FVec F S256x16x128 .f32 := broadcastInDim S256x16x128 ![] bcast_S_S256x16x128 main_cst_2
  let main_v12 : IVec S256x16x128 1 := cmpf .olt main_v10 main_v11
  let main_v13 : FVec F S4096x16x128 .f32 := Host.absf main_arg5
  let main_cst_3 : FVec F S_ .f32 := constant S_ .f32 0x7F800000#32
  let main_v14 : FVec F S4096x16x128 .f32 := broadcastInDim S4096x16x128 ![] bcast_S_S4096x16x128 main_cst_3
  let main_v15 : IVec S4096x16x128 1 := cmpf .olt main_v13 main_v14
  let main_v16 : FVec F S4096x16x128 .f32 := Host.absf main_arg7
  let main_cst_4 : FVec F S_ .f32 := constant S_ .f32 0x7F800000#32
  let main_v17 : FVec F S4096x16x128 .f32 := broadcastInDim S4096x16x128 ![] bcast_S_S4096x16x128 main_cst_4
  fn_part1 (F := F) main_v3 main_v6 main_v9 main_v12 main_v15 main_v16 main_v17
-- ==== Pre_loss_finite.lean ====
abbrev S4096x1024 : Shape := ⟨2, ![4096, 1024]⟩
abbrev S4096x2048 : Shape := ⟨2, ![4096, 2048]⟩
abbrev S2048x1024 : Shape := ⟨2, ![2048, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  bcast_S_S4096x2048 : S_.BroadcastsInDim S4096x2048 (![] : Fin 0 → Fin S4096x2048.rank)
  bcast_S_S2048x1024 : S_.BroadcastsInDim S2048x1024 (![] : Fin 0 → Fin S2048x1024.rank)
  bcast_S_S1024 : S_.BroadcastsInDim S1024 (![] : Fin 0 → Fin S1024.rank)

variable [Facts]

def fn {F : FTy → Type} [FloatOps F] (main_arg0 : FVec F S4096x1024 .f32) (main_arg1 : FVec F S4096x2048 .f32) (main_arg2 : FVec F S2048x1024 .f32) (main_arg3 : FVec F S1024 .f32) (main_arg4 : FVec F S1024 .f32) (main_arg5 : FVec F S4096x1024 .f32) : IVec S4096x1024 1 × IVec S4096x2048 1 × IVec S2048x1024 1 × IVec S1024 1 × IVec S1024 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x2048 .f32 := Host.absf main_arg1
  let main_cst_0 : FVec F S_ .f32 := constant S_ .f32 0x7F800000#32
  let main_v4 : FVec F S4096x2048 .f32 := broadcastInDim S4096x2048 ![] bcast_S_S4096x2048 main_cst_0
  let main_v5 : IVec S4096x2048 1 := cmpf .olt main_v3 main_v4
  let main_v6 : FVec F S2048x1024 .f32 := Host.absf main_arg2
  let main_cst_1 : FVec F S_ .f32 := constant S_ .f32 0x7F800000#32
  let main_v7 : FVec F S2048x1024 .f32 := broadcastInDim S2048x1024 ![] bcast_S_S2048x1024 main_cst_1
  let main_v8 : IVec S2048x1024 1 := cmpf .olt main_v6 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_v12 : FVec F S1024 .f32 := Host.absf main_arg4
  let main_cst_3 : FVec F S_ .f32 := constant S_ .f32 0x7F800000#32
  let main_v13 : FVec F S1024 .f32 := broadcastInDim S1024 ![] bcast_S_S1024 main_cst_3
  let main_v14 : IVec S1024 1 := cmpf .olt main_v12 main_v13
  let main_v15 : FVec F S4096x1024 .f32 := Host.absf main_arg5
  let main_cst_4 : FVec F S_ .f32 := constant S_ .f32 0x7F800000#32
  let main_v16 : FVec F S4096x1024 .f32 := broadcastInDim S4096x1024 ![] bcast_S_S4096x1024 main_cst_4
  let main_v17 : IVec S4096x1024 1 := cmpf .olt main_v15 main_v16
  (main_v2, main_v5, main_v8, main_v11, main_v14, main_v17)
-- ==== Pre_q_norm_finite.lean ====
abbrev S4096x2560 : Shape := ⟨2, ![4096, 2560]⟩
abbrev S512 : Shape := ⟨1, ![512]⟩
abbrev S512x16x192 : Shape := ⟨3, ![512, 16, 192]⟩
abbrev S4096x16x192 : Shape := ⟨3, ![4096, 16, 192]⟩
abbrev S4096x2048 : Shape := ⟨2, ![4096, 2048]⟩
abbrev S4096x512 : Shape := ⟨2, ![4096, 512]⟩
abbrev S_ : Shape := ⟨0, ![]⟩

class Facts : Prop where
  slices_S4096x2560_S4096x512_0_0 : S4096x2560.Slices ![0, 0] S4096x512
  bcast_S_S4096x512 : S_.BroadcastsInDim S4096x512 (![] : Fin 0 → Fin S4096x512.rank)
  bcast_S_S512 : S_.BroadcastsInDim S512 (![] : Fin 0 → Fin S512.rank)
  bcast_S_S512x16x192 : S_.BroadcastsInDim S512x16x192 (![] : Fin 0 → Fin S512x16x192.rank)
  bcast_S_S4096x16x192 : S_.BroadcastsInDim S4096x16x192 (![] : Fin 0 → Fin S4096x16x192.rank)

variable [Facts]

def fn {F : FTy → Type} [FloatOps F] (main_arg0 : FVec F S4096x2560 .f32) (main_arg1 : FVec F S512 .f32) (main_arg2 : FVec F S512x16x192 .f32) (main_arg3 : FVec F S4096x16x192 .f32) (main_arg4 : FVec F S4096x2048 .f32) : IVec S4096x512 1 × IVec S512 1 × IVec S512x16x192 1 × IVec S4096x16x192 1 :=
  let main_v0 : FVec F S4096x512 .f32 := (extractStridedSlice S4096x512 ![0, 0] · slices_S4096x2560_S4096x512_0_0) main_arg0
  let main_v1 : FVec F S4096x512 .f32 := Host.absf main_v0
  let main_cst : FVec F S_ .f32 := constant S_ .f32 0x7F800000#32
  let main_v2 : FVec F S4096x512 .f32 := broadcastInDim S4096x512 ![] bcast_S_S4096x512 main_cst
  let main_v3 : IVec S4096x512 1 := cmpf .olt main_v1 main_v2
  let main_v4 : FVec F S512 .f32 := Host.absf main_arg1
  let main_cst_0 : FVec F S_ .f32 := constant S_ .f32 0x7F800000#32
  let main_v5 : FVec F S512 .f32 := broadcastInDim S512 ![] bcast_S_S512 main_cst_0
  let main_v6 : IVec S512 1 := cmpf .olt main_v4 main_v5
  let main_v7 : FVec F S512x16x192 .f32 := Host.absf main_arg2
  let main_cst_1 : FVec F S_ .f32 := constant S_ .f32 0x7F800000#32
  let main_v8 : FVec F S512x16x192 .f32 := broadcastInDim S512x16x192 ![] bcast_S_S512x16x192 main_cst_1
  let main_v9 : IVec S512x16x192 1 := cmpf .olt main_v7 main_v8
  let main_v10 : FVec F S4096x16x192 .f32 := Host.absf main_arg3
  let main_cst_2 : FVec F S_ .f32 := constant S_ .f32 0x7F800000#32
  let main_v11 : FVec F S4096x16x192 .f32 := broadcastInDim S4096x16x192 ![] bcast_S_S4096x16x192 main_cst_2
  let main_v12 : IVec S4096x16x192 1 := cmpf .olt main_v10 main_v11
  (main_v3, main_v6, main_v9, main_v12)
-- ==== Kernel.lean ====
abbrev S4096x2560 : Shape := ⟨2, ![4096, 2560]⟩
abbrev S512 : Shape := ⟨1, ![512]⟩
abbrev S512x16x192 : Shape := ⟨3, ![512, 16, 192]⟩
abbrev S4096x16x192 : Shape := ⟨3, ![4096, 16, 192]⟩
abbrev S4096x2048 : Shape := ⟨2, ![4096, 2048]⟩
abbrev S_ : Shape := ⟨0, ![]⟩
abbrev S512x16x256 : Shape := ⟨3, ![512, 16, 256]⟩
abbrev S512x4096 : Shape := ⟨2, ![512, 4096]⟩
abbrev S4096x16x256 : Shape := ⟨3, ![4096, 16, 256]⟩
abbrev S4096x4096 : Shape := ⟨2, ![4096, 4096]⟩
abbrev S1x512 : Shape := ⟨2, ![1, 512]⟩
abbrev S512x512 : Shape := ⟨2, ![512, 512]⟩
abbrev S512x1 : Shape := ⟨2, ![512, 1]⟩

abbrev nBuf : Space → Nat
  | .hbm => 22
  | .vmem => 9
  | .smem => 0
  | _ => 0

abbrev bufTy : (tb : Table) → Fin (tcTables nBuf tb) → BufTy
  | .hbm, ⟨0, _⟩ => ⟨S4096x2560, .f32⟩
  | .hbm, ⟨1, _⟩ => ⟨S512, .f32⟩
  | .hbm, ⟨2, _⟩ => ⟨S512x16x192, .f32⟩
  | .hbm, ⟨3, _⟩ => ⟨S4096x16x192, .f32⟩
  | .hbm, ⟨4, _⟩ => ⟨S4096x2048, .f32⟩
  | .hbm, ⟨5, _⟩ => ⟨S512x16x192, .bf16⟩
  | .hbm, ⟨6, _⟩ => ⟨S_, .i32⟩
  | .hbm, ⟨7, _⟩ => ⟨S_, .bf16⟩
  | .hbm, ⟨8, _⟩ => ⟨S512x16x256, .bf16⟩
  | .hbm, ⟨9, _⟩ => ⟨S512x4096, .bf16⟩
  | .hbm, ⟨10, _⟩ => ⟨S4096x16x192, .bf16⟩
  | .hbm, ⟨11, _⟩ => ⟨S_, .i32⟩
  | .hbm, ⟨12, _⟩ => ⟨S_, .bf16⟩
  | .hbm, ⟨13, _⟩ => ⟨S4096x16x256, .bf16⟩
  | .hbm, ⟨14, _⟩ => ⟨S4096x4096, .bf16⟩
  | .hbm, ⟨15, _⟩ => ⟨S4096x2048, .bf16⟩
  | .hbm, ⟨16, _⟩ => ⟨S_, .i32⟩
  | .hbm, ⟨17, _⟩ => ⟨S_, .bf16⟩
  | .hbm, ⟨18, _⟩ => ⟨S4096x2560, .bf16⟩
  | .hbm, ⟨19, _⟩ => ⟨S1x512, .f32⟩
  | .hbm, ⟨20, _⟩ => ⟨S4096x2560, .bf16⟩
  | .hbm, ⟨21, _⟩ => ⟨S1x512, .f32⟩
  | .local _ .vmem, ⟨0, _⟩ => ⟨S512x4096, .bf16⟩
  | .local _ .vmem, ⟨1, _⟩ => ⟨S512x4096, .bf16⟩
  | .local _ .vmem, ⟨2, _⟩ => ⟨S512x4096, .bf16⟩
  | .local _ .vmem, ⟨3, _⟩ => ⟨S512x512, .f32⟩
  | .local _ .vmem, ⟨4, _⟩ => ⟨S512x512, .f32⟩
  | .local _ .vmem, ⟨5, _⟩ => ⟨S1x512, .f32⟩
  | .local _ .vmem, ⟨6, _⟩ => ⟨S512x512, .bf16⟩
  | .local _ .vmem, ⟨7, _⟩ => ⟨S512x512, .bf16⟩
  | .local _ .vmem, ⟨8, _⟩ => ⟨S1x512, .f32⟩
  | _, _ => ⟨S4096x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_call1_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_call2_v0 : Ref sig .tc := ⟨.hbm, 17, rfl⟩
abbrev main_v7 : Ref sig .tc := ⟨.hbm, 18, rfl⟩
abbrev main_v8 : Ref sig .tc := ⟨.hbm, 19, rfl⟩
abbrev main_v9_0 : Ref sig .tc := ⟨.hbm, 20, rfl⟩
abbrev main_v9_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S4096x2560 : Shape := ⟨2, ![4096, 2560]⟩
abbrev S512 : Shape := ⟨1, ![512]⟩
abbrev S512x16x192 : Shape := ⟨3, ![512, 16, 192]⟩
abbrev S4096x16x192 : Shape := ⟨3, ![4096, 16, 192]⟩
abbrev S4096x2048 : Shape := ⟨2, ![4096, 2048]⟩
abbrev S4096x512 : Shape := ⟨2, ![4096, 512]⟩
abbrev S_ : Shape := ⟨0, ![]⟩
abbrev S4096 : Shape := ⟨1, ![4096]⟩
abbrev S4096x1 : Shape := ⟨2, ![4096, 1]⟩
abbrev S1x512 : Shape := ⟨2, ![1, 512]⟩

abbrev nBuf : Space → Nat
  | .hbm => 58
  | .vmem => 0
  | .smem => 0
  | _ => 0

abbrev bufTy : (tb : Table) → Fin (tcTables nBuf tb) → BufTy
  | .hbm, ⟨0, _⟩ => ⟨S4096x2560, .f32⟩
  | .hbm, ⟨1, _⟩ => ⟨S512, .f32⟩
  | .hbm, ⟨2, _⟩ => ⟨S512x16x192, .f32⟩
  | .hbm, ⟨3, _⟩ => ⟨S4096x16x192, .f32⟩
  | .hbm, ⟨4, _⟩ => ⟨S4096x2048, .f32⟩
  | .hbm, ⟨5, _⟩ => ⟨S4096x512, .f32⟩
  | .hbm, ⟨6, _⟩ => ⟨S4096x2048, .f32⟩
  | .hbm, ⟨7, _⟩ => ⟨S4096x512, .f32⟩
  | .hbm, ⟨8, _⟩ => ⟨S_, .f32⟩
  | .hbm, ⟨9, _⟩ => ⟨S4096x512, .f32⟩
  | .hbm, ⟨10, _⟩ => ⟨S4096x512, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x512, .f32⟩
  | .hbm, ⟨26, _⟩ => ⟨S4096x512, .f32⟩
  | .hbm, ⟨27, _⟩ => ⟨S1x512, .f32⟩
  | .hbm, ⟨28, _⟩ => ⟨S4096x512, .f32⟩
  | .hbm, ⟨29, _⟩ => ⟨S4096x512, .f32⟩
  | .hbm, ⟨30, _⟩ => ⟨S4096x16x192, .f32⟩
  | .hbm, ⟨31, _⟩ => ⟨S4096x512, .f32⟩
  | .hbm, ⟨32, _⟩ => ⟨S4096x512, .f32⟩
  | .hbm, ⟨33, _⟩ => ⟨S_, .f32⟩
  | .hbm, ⟨34, _⟩ => ⟨S512, .f32⟩
  | .hbm, ⟨35, _⟩ => ⟨S1x512, .f32⟩
  | .hbm, ⟨36, _⟩ => ⟨S4096x512, .f32⟩
  | .hbm, ⟨37, _⟩ => ⟨S4096x512, .f32⟩
  | .hbm, ⟨38, _⟩ => ⟨S_, .f32⟩
  | .hbm, ⟨39, _⟩ => ⟨S512, .f32⟩
  | .hbm, ⟨40, _⟩ => ⟨S4096x512, .f32⟩
  | .hbm, ⟨41, _⟩ => ⟨S_, .f32⟩
  | .hbm, ⟨42, _⟩ => ⟨S4096, .f32⟩
  | .hbm, ⟨43, _⟩ => ⟨S4096x1, .f32⟩
  | .hbm, ⟨44, _⟩ => ⟨S4096x512, .f32⟩
  | .hbm, ⟨45, _⟩ => ⟨S4096x512, .f32⟩
  | .hbm, ⟨46, _⟩ => ⟨S4096x1, .f32⟩
  | .hbm, ⟨47, _⟩ => ⟨S_, .f32⟩
  | .hbm, ⟨48, _⟩ => ⟨S4096x1, .f32⟩
  | .hbm, ⟨49, _⟩ => ⟨S4096x1, .f32⟩
  | .hbm, ⟨50, _⟩ => ⟨S_, .f32⟩
  | .hbm, ⟨51, _⟩ => ⟨S4096, .f32⟩
  | .hbm, ⟨52, _⟩ => ⟨S4096x512, .f32⟩
  | .hbm, ⟨53, _⟩ => ⟨S4096x512, .f32⟩
  | .hbm, ⟨54, _⟩ => ⟨S4096x512, .f32⟩
  | .hbm, ⟨55, _⟩ => ⟨S4096x2560, .f32⟩
  | .hbm, ⟨56, _⟩ => ⟨S4096x2560, .bf16⟩
  | .hbm, ⟨57, _⟩ => ⟨S1x512, .f32⟩
  | _, _ => ⟨S4096x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_cst_6 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_cst_8 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩

abbrev nD : Nat := 1
abbrev τ : Topo := Topo.v7x

variable {F : FTy → Type} [FloatOps F]
-- ==== Kernel2.lean ====
abbrev S4096x320 : Shape := ⟨2, ![4096, 320]⟩
abbrev S4096 : Shape := ⟨1, ![4096]⟩
abbrev S256 : Shape := ⟨1, ![256]⟩
abbrev S256x16x128 : Shape := ⟨3, ![256, 16, 128]⟩
abbrev S4096x16x128 : Shape := ⟨3, ![4096, 16, 128]⟩
abbrev S4096x64 : Shape := ⟨2, ![4096, 64]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x128 : Shape := ⟨2, ![4096, 128]⟩
abbrev S256x16x256 : Shape := ⟨3, ![256, 16, 256]⟩
abbrev S256x4096 : Shape := ⟨2, ![256, 4096]⟩
abbrev S4096x16x256 : Shape := ⟨3, ![4096, 16, 256]⟩
abbrev S4096x4096 : Shape := ⟨2, ![4096, 4096]⟩
abbrev S4096x384 : Shape := ⟨2, ![4096, 384]⟩
abbrev S1x256 : Shape := ⟨2, ![1, 256]⟩
abbrev S512x4096 : Shape := ⟨2, ![512, 4096]⟩
abbrev S512x384 : Shape := ⟨2, ![512, 384]⟩
abbrev S512x128 : Shape := ⟨2, ![512, 128]⟩
abbrev S512x256 : Shape := ⟨2, ![512, 256]⟩
abbrev S512 : Shape := ⟨1, ![512]⟩
abbrev S512x1 : Shape := ⟨2, ![512, 1]⟩

abbrev nBuf : Space → Nat
  | .hbm => 56
  | .vmem => 15
  | .smem => 0
  | _ => 0

abbrev bufTy : (tb : Table) → Fin (tcTables nBuf tb) → BufTy
  | .hbm, ⟨0, _⟩ => ⟨S4096x320, .f32⟩
  | .hbm, ⟨1, _⟩ => ⟨S4096, .i32⟩
  | .hbm, ⟨2, _⟩ => ⟨S256, .f32⟩
  | .hbm, ⟨3, _⟩ => ⟨S256x16x128, .f32⟩
  | .hbm, ⟨4, _⟩ => ⟨S256x16x128, .f32⟩
  | .hbm, ⟨5, _⟩ => ⟨S4096x16x128, .f32⟩
  | .hbm, ⟨6, _⟩ => ⟨S4096x64, .f32⟩
  | .hbm, ⟨7, _⟩ => ⟨S4096x16x128, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S4096, .f32⟩
  | .hbm, ⟨23, _⟩ => ⟨S4096x1, .f32⟩
  | .hbm, ⟨24, _⟩ => ⟨S1x32, .f32⟩
  | .hbm, ⟨25, _⟩ => ⟨S4096x32, .f32⟩
  | .hbm, ⟨26, _⟩ => ⟨S4096x32, .f32⟩
  | .hbm, ⟨27, _⟩ => ⟨S4096x32, .f32⟩
  | .hbm, ⟨28, _⟩ => ⟨S4096x32, .f32⟩
  | .hbm, ⟨29, _⟩ => ⟨S4096x32, .f32⟩
  | .hbm, ⟨30, _⟩ => ⟨S4096x64, .f32⟩
  | .hbm, ⟨31, _⟩ => ⟨S_, .i32⟩
  | .hbm, ⟨32, _⟩ => ⟨S_, .f32⟩
  | .hbm, ⟨33, _⟩ => ⟨S4096x128, .f32⟩
  | .hbm, ⟨34, _⟩ => ⟨S4096x32, .f32⟩
  | .hbm, ⟨35, _⟩ => ⟨S4096x64, .f32⟩
  | .hbm, ⟨36, _⟩ => ⟨S_, .i32⟩
  | .hbm, ⟨37, _⟩ => ⟨S_, .f32⟩
  | .hbm, ⟨38, _⟩ => ⟨S4096x128, .f32⟩
  | .hbm, ⟨39, _⟩ => ⟨S256x16x128, .bf16⟩
  | .hbm, ⟨40, _⟩ => ⟨S256x16x128, .bf16⟩
  | .hbm, ⟨41, _⟩ => ⟨S256x16x256, .bf16⟩
  | .hbm, ⟨42, _⟩ => ⟨S256x4096, .bf16⟩
  | .hbm, ⟨43, _⟩ => ⟨S4096x16x128, .bf16⟩
  | .hbm, ⟨44, _⟩ => ⟨S4096x16x128, .bf16⟩
  | .hbm, ⟨45, _⟩ => ⟨S4096x16x256, .bf16⟩
  | .hbm, ⟨46, _⟩ => ⟨S4096x4096, .bf16⟩
  | .hbm, ⟨47, _⟩ => ⟨S_, .i32⟩
  | .hbm, ⟨48, _⟩ => ⟨S_, .f32⟩
  | .hbm, ⟨49, _⟩ => ⟨S4096x384, .f32⟩
  | .hbm, ⟨50, _⟩ => ⟨S_, .i32⟩
  | .hbm, ⟨51, _⟩ => ⟨S_, .f32⟩
  | .hbm, ⟨52, _⟩ => ⟨S4096x128, .f32⟩
  | .hbm, ⟨53, _⟩ => ⟨S1x256, .f32⟩
  | .hbm, ⟨54, _⟩ => ⟨S4096x384, .bf16⟩
  | .hbm, ⟨55, _⟩ => ⟨S1x256, .f32⟩
  | .local _ .vmem, ⟨0, _⟩ => ⟨S512x4096, .bf16⟩
  | .local _ .vmem, ⟨1, _⟩ => ⟨S512x4096, .bf16⟩
  | .local _ .vmem, ⟨2, _⟩ => ⟨S256x4096, .bf16⟩
  | .local _ .vmem, ⟨3, _⟩ => ⟨S512x384, .f32⟩
  | .local _ .vmem, ⟨4, _⟩ => ⟨S512x384, .f32⟩
  | .local _ .vmem, ⟨5, _⟩ => ⟨S512x128, .f32⟩
  | .local _ .vmem, ⟨6, _⟩ => ⟨S512x128, .f32⟩
  | .local _ .vmem, ⟨7, _⟩ => ⟨S1x256, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x384, .bf16⟩
  | .local _ .vmem, ⟨13, _⟩ => ⟨S512x384, .bf16⟩
  | .local _ .vmem, ⟨14, _⟩ => ⟨S1x256, .f32⟩
  | _, _ => ⟨S4096x320, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c : Ref sig .tc := ⟨.hbm, 31, rfl⟩
abbrev main_call0_v0 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_3 : Ref sig .tc := ⟨.hbm, 36, rfl⟩
abbrev main_call1_v0 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_4 : Ref sig .tc := ⟨.hbm, 47, rfl⟩
abbrev main_call2_v0 : Ref sig .tc := ⟨.hbm, 48, rfl⟩
abbrev main_v31 : Ref sig .tc := ⟨.hbm, 49, rfl⟩
abbrev main_c_5 : Ref sig .tc := ⟨.hbm, 50, rfl⟩
abbrev main_call3_v0 : Ref sig .tc := ⟨.hbm, 51, rfl⟩
abbrev main_v32 : Ref sig .tc := ⟨.hbm, 52, rfl⟩
abbrev main_v33 : Ref sig .tc := ⟨.hbm, 53, rfl⟩
abbrev main_v34_0 : Ref sig .tc := ⟨.hbm, 54, rfl⟩
abbrev main_v34_1 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x384 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference2Ideal.lean ====
abbrev S4096x320 : Shape := ⟨2, ![4096, 320]⟩
abbrev S4096 : Shape := ⟨1, ![4096]⟩
abbrev S256 : Shape := ⟨1, ![256]⟩
abbrev S256x16x128 : Shape := ⟨3, ![256, 16, 128]⟩
abbrev S4096x16x128 : Shape := ⟨3, ![4096, 16, 128]⟩
abbrev S4096x64 : Shape := ⟨2, ![4096, 64]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x256 : Shape := ⟨2, ![4096, 256]⟩
abbrev S1x256 : Shape := ⟨2, ![1, 256]⟩
abbrev S4096x384 : Shape := ⟨2, ![4096, 384]⟩

abbrev nBuf : Space → Nat
  | .hbm => 108
  | .vmem => 0
  | .smem => 0
  | _ => 0

abbrev bufTy : (tb : Table) → Fin (tcTables nBuf tb) → BufTy
  | .hbm, ⟨0, _⟩ => ⟨S4096x320, .f32⟩
  | .hbm, ⟨1, _⟩ => ⟨S4096, .i32⟩
  | .hbm, ⟨2, _⟩ => ⟨S256, .f32⟩
  | .hbm, ⟨3, _⟩ => ⟨S256x16x128, .f32⟩
  | .hbm, ⟨4, _⟩ => ⟨S256x16x128, .f32⟩
  | .hbm, ⟨5, _⟩ => ⟨S4096x16x128, .f32⟩
  | .hbm, ⟨6, _⟩ => ⟨S4096x64, .f32⟩
  | .hbm, ⟨7, _⟩ => ⟨S4096x16x128, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S4096, .f32⟩
  | .hbm, ⟨23, _⟩ => ⟨S4096x1, .f32⟩
  | .hbm, ⟨24, _⟩ => ⟨S1x32, .f32⟩
  | .hbm, ⟨25, _⟩ => ⟨S4096x32, .f32⟩
  | .hbm, ⟨26, _⟩ => ⟨S4096x32, .f32⟩
  | .hbm, ⟨27, _⟩ => ⟨S4096x32, .f32⟩
  | .hbm, ⟨28, _⟩ => ⟨S4096x32, .f32⟩
  | .hbm, ⟨29, _⟩ => ⟨S4096x32, .f32⟩
  | .hbm, ⟨30, _⟩ => ⟨S4096x256, .f32⟩
  | .hbm, ⟨31, _⟩ => ⟨S4096x64, .f32⟩
  | .hbm, ⟨32, _⟩ => ⟨S4096x256, .f32⟩
  | .hbm, ⟨33, _⟩ => ⟨S_, .f32⟩
  | .hbm, ⟨34, _⟩ => ⟨S4096x256, .f32⟩
  | .hbm, ⟨35, _⟩ => ⟨S4096x256, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S4096x1, .f32⟩
  | .hbm, ⟨46, _⟩ => ⟨S4096x1, .f32⟩
  | .hbm, ⟨47, _⟩ => ⟨S_, .f32⟩
  | .hbm, ⟨48, _⟩ => ⟨S4096x1, .f32⟩
  | .hbm, ⟨49, _⟩ => ⟨S4096x1, .f32⟩
  | .hbm, ⟨50, _⟩ => ⟨S4096x256, .f32⟩
  | .hbm, ⟨51, _⟩ => ⟨S4096x256, .f32⟩
  | .hbm, ⟨52, _⟩ => ⟨S1x256, .f32⟩
  | .hbm, ⟨53, _⟩ => ⟨S4096x256, .f32⟩
  | .hbm, ⟨54, _⟩ => ⟨S4096x256, .f32⟩
  | .hbm, ⟨55, _⟩ => ⟨S4096x16x128, .f32⟩
  | .hbm, ⟨56, _⟩ => ⟨S4096x16x128, .f32⟩
  | .hbm, ⟨57, _⟩ => ⟨S4096x32, .f32⟩
  | .hbm, ⟨58, _⟩ => ⟨S4096x32, .f32⟩
  | .hbm, ⟨59, _⟩ => ⟨S4096x32, .f32⟩
  | .hbm, ⟨60, _⟩ => ⟨S4096x32, .f32⟩
  | .hbm, ⟨61, _⟩ => ⟨S4096x32, .f32⟩
  | .hbm, ⟨62, _⟩ => ⟨S4096x32, .f32⟩
  | .hbm, ⟨63, _⟩ => ⟨S4096x32, .f32⟩
  | .hbm, ⟨64, _⟩ => ⟨S4096x32, .f32⟩
  | .hbm, ⟨65, _⟩ => ⟨S4096x64, .f32⟩
  | .hbm, ⟨66, _⟩ => ⟨S4096x32, .f32⟩
  | .hbm, ⟨67, _⟩ => ⟨S4096x32, .f32⟩
  | .hbm, ⟨68, _⟩ => ⟨S4096x32, .f32⟩
  | .hbm, ⟨69, _⟩ => ⟨S4096x32, .f32⟩
  | .hbm, ⟨70, _⟩ => ⟨S4096x32, .f32⟩
  | .hbm, ⟨71, _⟩ => ⟨S4096x32, .f32⟩
  | .hbm, ⟨72, _⟩ => ⟨S4096x32, .f32⟩
  | .hbm, ⟨73, _⟩ => ⟨S4096x32, .f32⟩
  | .hbm, ⟨74, _⟩ => ⟨S4096x32, .f32⟩
  | .hbm, ⟨75, _⟩ => ⟨S4096x64, .f32⟩
  | .hbm, ⟨76, _⟩ => ⟨S4096x256, .f32⟩
  | .hbm, ⟨77, _⟩ => ⟨S4096x256, .f32⟩
  | .hbm, ⟨78, _⟩ => ⟨S4096x256, .f32⟩
  | .hbm, ⟨79, _⟩ => ⟨S4096x256, .f32⟩
  | .hbm, ⟨80, _⟩ => ⟨S_, .f32⟩
  | .hbm, ⟨81, _⟩ => ⟨S256, .f32⟩
  | .hbm, ⟨82, _⟩ => ⟨S1x256, .f32⟩
  | .hbm, ⟨83, _⟩ => ⟨S4096x256, .f32⟩
  | .hbm, ⟨84, _⟩ => ⟨S4096x256, .f32⟩
  | .hbm, ⟨85, _⟩ => ⟨S_, .f32⟩
  | .hbm, ⟨86, _⟩ => ⟨S256, .f32⟩
  | .hbm, ⟨87, _⟩ => ⟨S4096x256, .f32⟩
  | .hbm, ⟨88, _⟩ => ⟨S_, .f32⟩
  | .hbm, ⟨89, _⟩ => ⟨S4096, .f32⟩
  | .hbm, ⟨90, _⟩ => ⟨S4096x1, .f32⟩
  | .hbm, ⟨91, _⟩ => ⟨S4096x256, .f32⟩
  | .hbm, ⟨92, _⟩ => ⟨S4096x256, .f32⟩
  | .hbm, ⟨93, _⟩ => ⟨S4096x1, .f32⟩
  | .hbm, ⟨94, _⟩ => ⟨S_, .f32⟩
  | .hbm, ⟨95, _⟩ => ⟨S4096x1, .f32⟩
  | .hbm, ⟨96, _⟩ => ⟨S4096x1, .f32⟩
  | .hbm, ⟨97, _⟩ => ⟨S_, .f32⟩
  | .hbm, ⟨98, _⟩ => ⟨S4096, .f32⟩
  | .hbm, ⟨99, _⟩ => ⟨S4096x256, .f32⟩
  | .hbm, ⟨100, _⟩ => ⟨S4096x256, .f32⟩
  | .hbm, ⟨101, _⟩ => ⟨S4096x256, .f32⟩
  | .hbm, ⟨102, _⟩ => ⟨S4096x320, .f32⟩
  | .hbm, ⟨103, _⟩ => ⟨S_, .i32⟩
  | .hbm, ⟨104, _⟩ => ⟨S_, .f32⟩
  | .hbm, ⟨105, _⟩ => ⟨S4096x384, .f32⟩
  | .hbm, ⟨106, _⟩ => ⟨S4096x384, .bf16⟩
  | .hbm, ⟨107, _⟩ => ⟨S1x256, .f32⟩
  | _, _ => ⟨S4096x320, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_cst_5 : Ref sig .tc := ⟨.hbm, 39, rfl⟩
abbrev main_v25 : Ref sig .tc := ⟨.hbm, 40, rfl⟩
abbrev main_v26 : Ref sig .tc := ⟨.hbm, 41, rfl⟩
abbrev main_cst_6 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_7 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_cst_8 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_cst_9 : Ref sig .tc := ⟨.hbm, 85, rfl⟩
abbrev main_v67 : Ref sig .tc := ⟨.hbm, 86, rfl⟩
abbrev main_v68 : Ref sig .tc := ⟨.hbm, 87, rfl⟩
abbrev main_cst_10 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_cst_11 : Ref sig .tc := ⟨.hbm, 94, rfl⟩
abbrev main_v74 : Ref sig .tc := ⟨.hbm, 95, rfl⟩
abbrev main_v75 : Ref sig .tc := ⟨.hbm, 96, rfl⟩
abbrev main_cst_12 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_c : Ref sig .tc := ⟨.hbm, 103, rfl⟩
abbrev main_call0_v0 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩

abbrev nD : Nat := 1
abbrev τ : Topo := Topo.v7x

variable {F : FTy → Type} [FloatOps F]
-- ==== Kernel3.lean ====
abbrev S4096x1024 : Shape := ⟨2, ![4096, 1024]⟩
abbrev S1024 : Shape := ⟨1, ![1024]⟩
abbrev S1024x2560 : Shape := ⟨2, ![1024, 2560]⟩
abbrev S1024x320 : Shape := ⟨2, ![1024, 320]⟩
abbrev S4096x2560 : Shape := ⟨2, ![4096, 2560]⟩
abbrev S4096x320 : Shape := ⟨2, ![4096, 320]⟩
abbrev S_ : Shape := ⟨0, ![]⟩
abbrev S1x1024 : Shape := ⟨2, ![1, 1024]⟩
abbrev S4096 : Shape := ⟨1, ![4096]⟩
abbrev S4096x1 : Shape := ⟨2, ![4096, 1]⟩
abbrev S4096x384 : Shape := ⟨2, ![4096, 384]⟩
abbrev S1024x384 : Shape := ⟨2, ![1024, 384]⟩
abbrev S256x1024 : Shape := ⟨2, ![256, 1024]⟩
abbrev S256x2560 : Shape := ⟨2, ![256, 2560]⟩
abbrev S256x384 : Shape := ⟨2, ![256, 384]⟩
abbrev S256x1 : Shape := ⟨2, ![256, 1]⟩
abbrev S256 : Shape := ⟨1, ![256]⟩

abbrev nBuf : Space → Nat
  | .hbm => 54
  | .vmem => 20
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024x2560, .f32⟩
  | .hbm, ⟨6, _⟩ => ⟨S1024x320, .f32⟩
  | .hbm, ⟨7, _⟩ => ⟨S4096x1024, .f32⟩
  | .hbm, ⟨8, _⟩ => ⟨S4096x2560, .f32⟩
  | .hbm, ⟨9, _⟩ => ⟨S4096x320, .f32⟩
  | .hbm, ⟨10, _⟩ => ⟨S_, .f32⟩
  | .hbm, ⟨11, _⟩ => ⟨S4096x1024, .f32⟩
  | .hbm, ⟨12, _⟩ => ⟨S4096x1024, .f32⟩
  | .hbm, ⟨13, _⟩ => ⟨S1x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4096x1, .f32⟩
  | .hbm, ⟨36, _⟩ => ⟨S4096x2560, .bf16⟩
  | .hbm, ⟨37, _⟩ => ⟨S1024x2560, .bf16⟩
  | .hbm, ⟨38, _⟩ => ⟨S4096x320, .bf16⟩
  | .hbm, ⟨39, _⟩ => ⟨S_, .i32⟩
  | .hbm, ⟨40, _⟩ => ⟨S_, .bf16⟩
  | .hbm, ⟨41, _⟩ => ⟨S4096x384, .bf16⟩
  | .hbm, ⟨42, _⟩ => ⟨S1024x320, .bf16⟩
  | .hbm, ⟨43, _⟩ => ⟨S_, .i32⟩
  | .hbm, ⟨44, _⟩ => ⟨S_, .bf16⟩
  | .hbm, ⟨45, _⟩ => ⟨S1024x384, .bf16⟩
  | .hbm, ⟨46, _⟩ => ⟨S4096x1024, .f32⟩
  | .hbm, ⟨47, _⟩ => ⟨S4096x1024, .f32⟩
  | .hbm, ⟨48, _⟩ => ⟨S1x1024, .f32⟩
  | .hbm, ⟨49, _⟩ => ⟨S4096x1024, .f32⟩
  | .hbm, ⟨50, _⟩ => ⟨S4096x1024, .bf16⟩
  | .hbm, ⟨51, _⟩ => ⟨S1x1024, .f32⟩
  | .hbm, ⟨52, _⟩ => ⟨S1x1024, .f32⟩
  | .hbm, ⟨53, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x2560, .bf16⟩
  | .local _ .vmem, ⟨3, _⟩ => ⟨S256x2560, .bf16⟩
  | .local _ .vmem, ⟨4, _⟩ => ⟨S1024x2560, .bf16⟩
  | .local _ .vmem, ⟨5, _⟩ => ⟨S256x384, .bf16⟩
  | .local _ .vmem, ⟨6, _⟩ => ⟨S256x384, .bf16⟩
  | .local _ .vmem, ⟨7, _⟩ => ⟨S1024x384, .bf16⟩
  | .local _ .vmem, ⟨8, _⟩ => ⟨S256x1024, .f32⟩
  | .local _ .vmem, ⟨9, _⟩ => ⟨S256x1024, .f32⟩
  | .local _ .vmem, ⟨10, _⟩ => ⟨S256x1, .f32⟩
  | .local _ .vmem, ⟨11, _⟩ => ⟨S256x1, .f32⟩
  | .local _ .vmem, ⟨12, _⟩ => ⟨S1x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .bf16⟩
  | .local _ .vmem, ⟨16, _⟩ => ⟨S256x1024, .bf16⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_cst_3 : Ref sig .tc := ⟨.hbm, 29, rfl⟩
abbrev main_v15 : Ref sig .tc := ⟨.hbm, 30, rfl⟩
abbrev main_v16 : Ref sig .tc := ⟨.hbm, 31, rfl⟩
abbrev main_cst_4 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c : Ref sig .tc := ⟨.hbm, 39, rfl⟩
abbrev main_call0_v0 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_call1_v0 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29_0 : Ref sig .tc := ⟨.hbm, 49, rfl⟩
abbrev main_v29_1 : Ref sig .tc := ⟨.hbm, 50, rfl⟩
abbrev main_v29_2 : Ref sig .tc := ⟨.hbm, 51, rfl⟩
abbrev main_v29_3 : Ref sig .tc := ⟨.hbm, 52, rfl⟩
abbrev main_v29_4 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18
abbrev cc0_sem12_0 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2560 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x384 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference3Ideal.lean ====
abbrev S4096x1024 : Shape := ⟨2, ![4096, 1024]⟩
abbrev S1024 : Shape := ⟨1, ![1024]⟩
abbrev S1024x2560 : Shape := ⟨2, ![1024, 2560]⟩
abbrev S1024x320 : Shape := ⟨2, ![1024, 320]⟩
abbrev S4096x2560 : Shape := ⟨2, ![4096, 2560]⟩
abbrev S4096x320 : Shape := ⟨2, ![4096, 320]⟩
abbrev S_ : Shape := ⟨0, ![]⟩
abbrev S1x1024 : Shape := ⟨2, ![1, 1024]⟩
abbrev S4096 : Shape := ⟨1, ![4096]⟩
abbrev S4096x1 : Shape := ⟨2, ![4096, 1]⟩

abbrev nBuf : Space → Nat
  | .hbm => 118
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024x2560, .f32⟩
  | .hbm, ⟨6, _⟩ => ⟨S1024x320, .f32⟩
  | .hbm, ⟨7, _⟩ => ⟨S4096x1024, .f32⟩
  | .hbm, ⟨8, _⟩ => ⟨S4096x2560, .f32⟩
  | .hbm, ⟨9, _⟩ => ⟨S4096x320, .f32⟩
  | .hbm, ⟨10, _⟩ => ⟨S_, .f32⟩
  | .hbm, ⟨11, _⟩ => ⟨S4096x1024, .f32⟩
  | .hbm, ⟨12, _⟩ => ⟨S4096x1024, .f32⟩
  | .hbm, ⟨13, _⟩ => ⟨S1x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S4096x1, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S4096x1024, .f32⟩
  | .hbm, ⟨46, _⟩ => ⟨S4096x1024, .f32⟩
  | .hbm, ⟨47, _⟩ => ⟨S1x1024, .f32⟩
  | .hbm, ⟨48, _⟩ => ⟨S4096x1024, .f32⟩
  | .hbm, ⟨49, _⟩ => ⟨S4096x1024, .f32⟩
  | .hbm, ⟨50, _⟩ => ⟨S1x1024, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S4096x1024, .f32⟩
  | .hbm, ⟨55, _⟩ => ⟨S4096x1024, .f32⟩
  | .hbm, ⟨56, _⟩ => ⟨S4096x2560, .f32⟩
  | .hbm, ⟨57, _⟩ => ⟨S4096x320, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S_, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S_, .f32⟩
  | .hbm, ⟨66, _⟩ => ⟨S1024, .f32⟩
  | .hbm, ⟨67, _⟩ => ⟨S1x1024, .f32⟩
  | .hbm, ⟨68, _⟩ => ⟨S_, .f32⟩
  | .hbm, ⟨69, _⟩ => ⟨S1024, .f32⟩
  | .hbm, ⟨70, _⟩ => ⟨S4096x1024, .f32⟩
  | .hbm, ⟨71, _⟩ => ⟨S_, .f32⟩
  | .hbm, ⟨72, _⟩ => ⟨S1024, .f32⟩
  | .hbm, ⟨73, _⟩ => ⟨S1x1024, .f32⟩
  | .hbm, ⟨74, _⟩ => ⟨S4096x1024, .f32⟩
  | .hbm, ⟨75, _⟩ => ⟨S4096x1024, .f32⟩
  | .hbm, ⟨76, _⟩ => ⟨S_, .f32⟩
  | .hbm, ⟨77, _⟩ => ⟨S1024, .f32⟩
  | .hbm, ⟨78, _⟩ => ⟨S4096x1024, .f32⟩
  | .hbm, ⟨79, _⟩ => ⟨S_, .f32⟩
  | .hbm, ⟨80, _⟩ => ⟨S4096, .f32⟩
  | .hbm, ⟨81, _⟩ => ⟨S4096x1, .f32⟩
  | .hbm, ⟨82, _⟩ => ⟨S4096x1024, .f32⟩
  | .hbm, ⟨83, _⟩ => ⟨S4096x1024, .f32⟩
  | .hbm, ⟨84, _⟩ => ⟨S4096x1, .f32⟩
  | .hbm, ⟨85, _⟩ => ⟨S4096x1024, .f32⟩
  | .hbm, ⟨86, _⟩ => ⟨S_, .f32⟩
  | .hbm, ⟨87, _⟩ => ⟨S4096, .f32⟩
  | .hbm, ⟨88, _⟩ => ⟨S4096x1, .f32⟩
  | .hbm, ⟨89, _⟩ => ⟨S_, .f32⟩
  | .hbm, ⟨90, _⟩ => ⟨S4096x1, .f32⟩
  | .hbm, ⟨91, _⟩ => ⟨S4096x1, .f32⟩
  | .hbm, ⟨92, _⟩ => ⟨S_, .f32⟩
  | .hbm, ⟨93, _⟩ => ⟨S4096, .f32⟩
  | .hbm, ⟨94, _⟩ => ⟨S4096x1024, .f32⟩
  | .hbm, ⟨95, _⟩ => ⟨S4096x1024, .f32⟩
  | .hbm, ⟨96, _⟩ => ⟨S4096x1024, .f32⟩
  | .hbm, ⟨97, _⟩ => ⟨S_, .f32⟩
  | .hbm, ⟨98, _⟩ => ⟨S4096, .f32⟩
  | .hbm, ⟨99, _⟩ => ⟨S4096x1, .f32⟩
  | .hbm, ⟨100, _⟩ => ⟨S4096x1024, .f32⟩
  | .hbm, ⟨101, _⟩ => ⟨S4096x1, .f32⟩
  | .hbm, ⟨102, _⟩ => ⟨S_, .f32⟩
  | .hbm, ⟨103, _⟩ => ⟨S4096x1, .f32⟩
  | .hbm, ⟨104, _⟩ => ⟨S4096x1, .f32⟩
  | .hbm, ⟨105, _⟩ => ⟨S_, .f32⟩
  | .hbm, ⟨106, _⟩ => ⟨S4096, .f32⟩
  | .hbm, ⟨107, _⟩ => ⟨S4096x1024, .f32⟩
  | .hbm, ⟨108, _⟩ => ⟨S4096x1024, .f32⟩
  | .hbm, ⟨109, _⟩ => ⟨S_, .f32⟩
  | .hbm, ⟨110, _⟩ => ⟨S1024, .f32⟩
  | .hbm, ⟨111, _⟩ => ⟨S1x1024, .f32⟩
  | .hbm, ⟨112, _⟩ => ⟨S_, .f32⟩
  | .hbm, ⟨113, _⟩ => ⟨S1024, .f32⟩
  | .hbm, ⟨114, _⟩ => ⟨S4096x1024, .bf16⟩
  | .hbm, ⟨115, _⟩ => ⟨S1x1024, .f32⟩
  | .hbm, ⟨116, _⟩ => ⟨S1x1024, .f32⟩
  | .hbm, ⟨117, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_cst_3 : Ref sig .tc := ⟨.hbm, 29, rfl⟩
abbrev main_v15 : Ref sig .tc := ⟨.hbm, 30, rfl⟩
abbrev main_v16 : Ref sig .tc := ⟨.hbm, 31, rfl⟩
abbrev main_cst_4 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_5 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_6 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_8 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_9 : Ref sig .tc := ⟨.hbm, 65, rfl⟩
abbrev main_v45 : Ref sig .tc := ⟨.hbm, 66, rfl⟩
abbrev main_v46 : Ref sig .tc := ⟨.hbm, 67, rfl⟩
abbrev main_cst_10 : Ref sig .tc := ⟨.hbm, 68, rfl⟩
abbrev main_v47 : Ref sig .tc := ⟨.hbm, 69, rfl⟩
abbrev main_v48 : Ref sig .tc := ⟨.hbm, 70, rfl⟩
abbrev main_cst_11 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_12 : Ref sig .tc := ⟨.hbm, 76, rfl⟩
abbrev main_v53 : Ref sig .tc := ⟨.hbm, 77, rfl⟩
abbrev main_v54 : Ref sig .tc := ⟨.hbm, 78, rfl⟩
abbrev main_cst_13 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_14 : Ref sig .tc := ⟨.hbm, 86, rfl⟩
abbrev main_v61 : Ref sig .tc := ⟨.hbm, 87, rfl⟩
abbrev main_v62 : Ref sig .tc := ⟨.hbm, 88, rfl⟩
abbrev main_cst_15 : Ref sig .tc := ⟨.hbm, 89, rfl⟩
abbrev main_v63 : Ref sig .tc := ⟨.hbm, 90, rfl⟩
abbrev main_v64 : Ref sig .tc := ⟨.hbm, 91, rfl⟩
abbrev main_cst_16 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_cst_17 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_cst_18 : Ref sig .tc := ⟨.hbm, 102, rfl⟩
abbrev main_v73 : Ref sig .tc := ⟨.hbm, 103, rfl⟩
abbrev main_v74 : Ref sig .tc := ⟨.hbm, 104, rfl⟩
abbrev main_cst_19 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_cst_20 : Ref sig .tc := ⟨.hbm, 109, rfl⟩
abbrev main_v78 : Ref sig .tc := ⟨.hbm, 110, rfl⟩
abbrev main_v79 : Ref sig .tc := ⟨.hbm, 111, rfl⟩
abbrev main_cst_21 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩

abbrev nD : Nat := 1
abbrev τ : Topo := Topo.v7x

variable {F : FTy → Type} [FloatOps F]
-- ==== Kernel4.lean ====
abbrev S4096x1024 : Shape := ⟨2, ![4096, 1024]⟩
abbrev S4096x2048 : Shape := ⟨2, ![4096, 2048]⟩
abbrev S2048x1024 : Shape := ⟨2, ![2048, 1024]⟩
abbrev S1024 : Shape := ⟨1, ![1024]⟩
abbrev S1x1024 : Shape := ⟨2, ![1, 1024]⟩
abbrev S1x128 : Shape := ⟨2, ![1, 128]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩
abbrev S1x512x1 : Shape := ⟨3, ![1, 512, 1]⟩
abbrev S1 : Shape := ⟨1, ![1]⟩
abbrev S1x1x1 : Shape := ⟨3, ![1, 1, 1]⟩

abbrev nBuf : Space → Nat
  | .hbm => 15
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S2048x1024, .f32⟩
  | .hbm, ⟨3, _⟩ => ⟨S1024, .f32⟩
  | .hbm, ⟨4, _⟩ => ⟨S1024, .f32⟩
  | .hbm, ⟨5, _⟩ => ⟨S4096x1024, .f32⟩
  | .hbm, ⟨6, _⟩ => ⟨S4096x2048, .bf16⟩
  | .hbm, ⟨7, _⟩ => ⟨S2048x1024, .bf16⟩
  | .hbm, ⟨8, _⟩ => ⟨S1x1024, .f32⟩
  | .hbm, ⟨9, _⟩ => ⟨S1x1024, .f32⟩
  | .hbm, ⟨10, _⟩ => ⟨S1x128, .f32⟩
  | .hbm, ⟨11, _⟩ => ⟨S4096x1024, .f32⟩
  | .hbm, ⟨12, _⟩ => ⟨S4096x1024, .bf16⟩
  | .hbm, ⟨13, _⟩ => ⟨S1x1024, .f32⟩
  | .hbm, ⟨14, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x2048, .bf16⟩
  | .local _ .vmem, ⟨3, _⟩ => ⟨S512x2048, .bf16⟩
  | .local _ .vmem, ⟨4, _⟩ => ⟨S2048x1024, .bf16⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S1x128, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S1x1024, .f32⟩
  | .local _ .vmem, ⟨15, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev main_v4_4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem10_0 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference4Ideal.lean ====
abbrev S4096x1024 : Shape := ⟨2, ![4096, 1024]⟩
abbrev S4096x2048 : Shape := ⟨2, ![4096, 2048]⟩
abbrev S2048x1024 : Shape := ⟨2, ![2048, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1x128 : Shape := ⟨2, ![1, 128]⟩

abbrev nBuf : Space → Nat
  | .hbm => 118
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S2048x1024, .f32⟩
  | .hbm, ⟨3, _⟩ => ⟨S1024, .f32⟩
  | .hbm, ⟨4, _⟩ => ⟨S1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S4096, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S4096x1, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S1x1024, .f32⟩
  | .hbm, ⟨42, _⟩ => ⟨S4096x1024, .f32⟩
  | .hbm, ⟨43, _⟩ => ⟨S4096x1024, .f32⟩
  | .hbm, ⟨44, _⟩ => ⟨S1x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S_, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S4096, .f32⟩
  | .hbm, ⟨54, _⟩ => ⟨S_, .f32⟩
  | .hbm, ⟨55, _⟩ => ⟨S4096, .f32⟩
  | .hbm, ⟨56, _⟩ => ⟨S4096, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S4096, .f32⟩
  | .hbm, ⟨65, _⟩ => ⟨S_, .f32⟩
  | .hbm, ⟨66, _⟩ => ⟨S4096, .f32⟩
  | .hbm, ⟨67, _⟩ => ⟨S4096, .f32⟩
  | .hbm, ⟨68, _⟩ => ⟨S4096x1024, .f32⟩
  | .hbm, ⟨69, _⟩ => ⟨S4096x1024, .f32⟩
  | .hbm, ⟨70, _⟩ => ⟨S_, .f32⟩
  | .hbm, ⟨71, _⟩ => ⟨S1024, .f32⟩
  | .hbm, ⟨72, _⟩ => ⟨S1x1024, .f32⟩
  | .hbm, ⟨73, _⟩ => ⟨S_, .f32⟩
  | .hbm, ⟨74, _⟩ => ⟨S1024, .f32⟩
  | .hbm, ⟨75, _⟩ => ⟨S4096x1024, .f32⟩
  | .hbm, ⟨76, _⟩ => ⟨S_, .f32⟩
  | .hbm, ⟨77, _⟩ => ⟨S1024, .f32⟩
  | .hbm, ⟨78, _⟩ => ⟨S1x1024, .f32⟩
  | .hbm, ⟨79, _⟩ => ⟨S4096x1024, .f32⟩
  | .hbm, ⟨80, _⟩ => ⟨S4096x1024, .f32⟩
  | .hbm, ⟨81, _⟩ => ⟨S_, .f32⟩
  | .hbm, ⟨82, _⟩ => ⟨S1024, .f32⟩
  | .hbm, ⟨83, _⟩ => ⟨S4096x1024, .f32⟩
  | .hbm, ⟨84, _⟩ => ⟨S_, .f32⟩
  | .hbm, ⟨85, _⟩ => ⟨S4096, .f32⟩
  | .hbm, ⟨86, _⟩ => ⟨S4096x1, .f32⟩
  | .hbm, ⟨87, _⟩ => ⟨S4096x1024, .f32⟩
  | .hbm, ⟨88, _⟩ => ⟨S4096x1024, .f32⟩
  | .hbm, ⟨89, _⟩ => ⟨S4096x1, .f32⟩
  | .hbm, ⟨90, _⟩ => ⟨S4096x1024, .f32⟩
  | .hbm, ⟨91, _⟩ => ⟨S_, .f32⟩
  | .hbm, ⟨92, _⟩ => ⟨S4096, .f32⟩
  | .hbm, ⟨93, _⟩ => ⟨S4096x1, .f32⟩
  | .hbm, ⟨94, _⟩ => ⟨S_, .f32⟩
  | .hbm, ⟨95, _⟩ => ⟨S4096x1, .f32⟩
  | .hbm, ⟨96, _⟩ => ⟨S4096x1, .f32⟩
  | .hbm, ⟨97, _⟩ => ⟨S_, .f32⟩
  | .hbm, ⟨98, _⟩ => ⟨S4096, .f32⟩
  | .hbm, ⟨99, _⟩ => ⟨S4096x1024, .f32⟩
  | .hbm, ⟨100, _⟩ => ⟨S4096x1024, .f32⟩
  | .hbm, ⟨101, _⟩ => ⟨S4096x1024, .f32⟩
  | .hbm, ⟨102, _⟩ => ⟨S_, .f32⟩
  | .hbm, ⟨103, _⟩ => ⟨S4096, .f32⟩
  | .hbm, ⟨104, _⟩ => ⟨S4096x1, .f32⟩
  | .hbm, ⟨105, _⟩ => ⟨S4096x1024, .f32⟩
  | .hbm, ⟨106, _⟩ => ⟨S4096x1, .f32⟩
  | .hbm, ⟨107, _⟩ => ⟨S_, .f32⟩
  | .hbm, ⟨108, _⟩ => ⟨S4096x1, .f32⟩
  | .hbm, ⟨109, _⟩ => ⟨S4096x1, .f32⟩
  | .hbm, ⟨110, _⟩ => ⟨S_, .f32⟩
  | .hbm, ⟨111, _⟩ => ⟨S4096, .f32⟩
  | .hbm, ⟨112, _⟩ => ⟨S4096x1024, .f32⟩
  | .hbm, ⟨113, _⟩ => ⟨S4096x1024, .f32⟩
  | .hbm, ⟨114, _⟩ => ⟨S1x128, .f32⟩
  | .hbm, ⟨115, _⟩ => ⟨S4096x1024, .bf16⟩
  | .hbm, ⟨116, _⟩ => ⟨S1x1024, .f32⟩
  | .hbm, ⟨117, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_5 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_6 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_cst_8 : Ref sig .tc := ⟨.hbm, 52, rfl⟩
abbrev main_v37 : Ref sig .tc := ⟨.hbm, 53, rfl⟩
abbrev main_cst_9 : Ref sig .tc := ⟨.hbm, 54, rfl⟩
abbrev main_v38 : Ref sig .tc := ⟨.hbm, 55, rfl⟩
abbrev main_v39 : Ref sig .tc := ⟨.hbm, 56, rfl⟩
abbrev main_cst_10 : Ref sig .tc := ⟨.hbm, 57, rfl⟩
abbrev main_v40 : Ref sig .tc := ⟨.hbm, 58, rfl⟩
abbrev main_cst_11 : Ref sig .tc := ⟨.hbm, 59, rfl⟩
abbrev main_v41 : Ref sig .tc := ⟨.hbm, 60, rfl⟩
abbrev main_cst_12 : Ref sig .tc := ⟨.hbm, 61, rfl⟩
abbrev main_cst_13 : Ref sig .tc := ⟨.hbm, 62, rfl⟩
abbrev main_v42 : Ref sig .tc := ⟨.hbm, 63, rfl⟩
abbrev main_v43 : Ref sig .tc := ⟨.hbm, 64, rfl⟩
abbrev main_cst_14 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_15 : Ref sig .tc := ⟨.hbm, 70, rfl⟩
abbrev main_v48 : Ref sig .tc := ⟨.hbm, 71, rfl⟩
abbrev main_v49 : Ref sig .tc := ⟨.hbm, 72, rfl⟩
abbrev main_cst_16 : Ref sig .tc := ⟨.hbm, 73, rfl⟩
abbrev main_v50 : Ref sig .tc := ⟨.hbm, 74, rfl⟩
abbrev main_v51 : Ref sig .tc := ⟨.hbm, 75, rfl⟩
abbrev main_cst_17 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_18 : Ref sig .tc := ⟨.hbm, 81, rfl⟩
abbrev main_v56 : Ref sig .tc := ⟨.hbm, 82, rfl⟩
abbrev main_v57 : Ref sig .tc := ⟨.hbm, 83, rfl⟩
abbrev main_cst_19 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_20 : Ref sig .tc := ⟨.hbm, 91, rfl⟩
abbrev main_v64 : Ref sig .tc := ⟨.hbm, 92, rfl⟩
abbrev main_v65 : Ref sig .tc := ⟨.hbm, 93, rfl⟩
abbrev main_cst_21 : Ref sig .tc := ⟨.hbm, 94, rfl⟩
abbrev main_v66 : Ref sig .tc := ⟨.hbm, 95, rfl⟩
abbrev main_v67 : Ref sig .tc := ⟨.hbm, 96, rfl⟩
abbrev main_cst_22 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_cst_23 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_cst_24 : Ref sig .tc := ⟨.hbm, 107, rfl⟩
abbrev main_v76 : Ref sig .tc := ⟨.hbm, 108, rfl⟩
abbrev main_v77 : Ref sig .tc := ⟨.hbm, 109, rfl⟩
abbrev main_cst_25 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩

abbrev nD : Nat := 1
abbrev τ : Topo := Topo.v7x

variable {F : FTy → Type} [FloatOps F]
-- ==== Kernel6.lean ====
abbrev S4096x16x128 : Shape := ⟨3, ![4096, 16, 128]⟩
abbrev S4096x16x64 : Shape := ⟨3, ![4096, 16, 64]⟩
abbrev S4096x64 : Shape := ⟨2, ![4096, 64]⟩
abbrev S4096 : Shape := ⟨1, ![4096]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x128 : Shape := ⟨2, ![4096, 128]⟩
abbrev S4096x1x32 : Shape := ⟨3, ![4096, 1, 32]⟩
abbrev S4096x16x32 : Shape := ⟨3, ![4096, 16, 32]⟩
abbrev S16x4096x4096 : Shape := ⟨3, ![16, 4096, 4096]⟩
abbrev S4096x4096x16 : Shape := ⟨3, ![4096, 4096, 16]⟩
abbrev S4096x4096 : Shape := ⟨2, ![4096, 4096]⟩
abbrev S16x4096 : Shape := ⟨2, ![16, 4096]⟩
abbrev S16x4096x1 : Shape := ⟨3, ![16, 4096, 1]⟩
abbrev S16x128x4096 : Shape := ⟨3, ![16, 128, 4096]⟩
abbrev S4096x16x1 : Shape := ⟨3, ![4096, 16, 1]⟩
abbrev S4096x16x192 : Shape := ⟨3, ![4096, 16, 192]⟩
abbrev S4096x16x256 : Shape := ⟨3, ![4096, 16, 256]⟩
abbrev S4096x2048 : Shape := ⟨2, ![4096, 2048]⟩
abbrev S4096x256 : Shape := ⟨2, ![4096, 256]⟩
abbrev S512x256 : Shape := ⟨2, ![512, 256]⟩
abbrev S512x128 : Shape := ⟨2, ![512, 128]⟩
abbrev S512x512 : Shape := ⟨2, ![512, 512]⟩
abbrev S512x1 : Shape := ⟨2, ![512, 1]⟩
abbrev S1024x256 : Shape := ⟨2, ![1024, 256]⟩
abbrev S1024x512 : Shape := ⟨2, ![1024, 512]⟩
abbrev S1024x1 : Shape := ⟨2, ![1024, 1]⟩
abbrev S1024x128 : Shape := ⟨2, ![1024, 128]⟩

abbrev nBuf : Space → Nat
  | .hbm => 107
  | .vmem => 23
  | .smem => 0
  | _ => 0

abbrev bufTy : (tb : Table) → Fin (tcTables nBuf tb) → BufTy
  | .hbm, ⟨0, _⟩ => ⟨S4096x16x128, .f32⟩
  | .hbm, ⟨1, _⟩ => ⟨S4096x16x64, .f32⟩
  | .hbm, ⟨2, _⟩ => ⟨S4096x16x128, .f32⟩
  | .hbm, ⟨3, _⟩ => ⟨S4096x64, .f32⟩
  | .hbm, ⟨4, _⟩ => ⟨S4096x16x128, .f32⟩
  | .hbm, ⟨5, _⟩ => ⟨S4096, .i32⟩
  | .hbm, ⟨6, _⟩ => ⟨S4096x16x128, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S4096, .f32⟩
  | .hbm, ⟨22, _⟩ => ⟨S4096x1, .f32⟩
  | .hbm, ⟨23, _⟩ => ⟨S1x32, .f32⟩
  | .hbm, ⟨24, _⟩ => ⟨S4096x32, .f32⟩
  | .hbm, ⟨25, _⟩ => ⟨S4096x32, .f32⟩
  | .hbm, ⟨26, _⟩ => ⟨S4096x32, .f32⟩
  | .hbm, ⟨27, _⟩ => ⟨S4096x32, .f32⟩
  | .hbm, ⟨28, _⟩ => ⟨S4096x32, .f32⟩
  | .hbm, ⟨29, _⟩ => ⟨S4096x64, .f32⟩
  | .hbm, ⟨30, _⟩ => ⟨S_, .i32⟩
  | .hbm, ⟨31, _⟩ => ⟨S_, .f32⟩
  | .hbm, ⟨32, _⟩ => ⟨S4096x128, .f32⟩
  | .hbm, ⟨33, _⟩ => ⟨S4096x32, .f32⟩
  | .hbm, ⟨34, _⟩ => ⟨S4096x64, .f32⟩
  | .hbm, ⟨35, _⟩ => ⟨S_, .i32⟩
  | .hbm, ⟨36, _⟩ => ⟨S_, .f32⟩
  | .hbm, ⟨37, _⟩ => ⟨S4096x128, .f32⟩
  | .hbm, ⟨38, _⟩ => ⟨S4096x1x32, .f32⟩
  | .hbm, ⟨39, _⟩ => ⟨S4096x1x32, .f32⟩
  | .hbm, ⟨40, _⟩ => ⟨S4096x16x32, .f32⟩
  | .hbm, ⟨41, _⟩ => ⟨S4096x16x32, .f32⟩
  | .hbm, ⟨42, _⟩ => ⟨S4096x16x32, .f32⟩
  | .hbm, ⟨43, _⟩ => ⟨S4096x16x32, .f32⟩
  | .hbm, ⟨44, _⟩ => ⟨S4096x16x32, .f32⟩
  | .hbm, ⟨45, _⟩ => ⟨S4096x16x32, .f32⟩
  | .hbm, ⟨46, _⟩ => ⟨S4096x16x32, .f32⟩
  | .hbm, ⟨47, _⟩ => ⟨S4096x16x32, .f32⟩
  | .hbm, ⟨48, _⟩ => ⟨S4096x16x32, .f32⟩
  | .hbm, ⟨49, _⟩ => ⟨S4096x16x32, .f32⟩
  | .hbm, ⟨50, _⟩ => ⟨S4096x16x32, .f32⟩
  | .hbm, ⟨51, _⟩ => ⟨S4096x16x32, .f32⟩
  | .hbm, ⟨52, _⟩ => ⟨S4096x16x64, .f32⟩
  | .hbm, ⟨53, _⟩ => ⟨S16x4096x4096, .f32⟩
  | .hbm, ⟨54, _⟩ => ⟨S4096x4096x16, .f32⟩
  | .hbm, ⟨55, _⟩ => ⟨S16x4096x4096, .f32⟩
  | .hbm, ⟨56, _⟩ => ⟨S16x4096x4096, .f32⟩
  | .hbm, ⟨57, _⟩ => ⟨S_, .f32⟩
  | .hbm, ⟨58, _⟩ => ⟨S_, .f32⟩
  | .hbm, ⟨59, _⟩ => ⟨S16x4096x4096, .f32⟩
  | .hbm, ⟨60, _⟩ => ⟨S16x4096x4096, .f32⟩
  | .hbm, ⟨61, _⟩ => ⟨S4096x4096, .i32⟩
  | .hbm, ⟨62, _⟩ => ⟨S4096x4096, .i32⟩
  | .hbm, ⟨63, _⟩ => ⟨S4096x4096, .i1⟩
  | .hbm, ⟨64, _⟩ => ⟨S_, .f32⟩
  | .hbm, ⟨65, _⟩ => ⟨S_, .f32⟩
  | .hbm, ⟨66, _⟩ => ⟨S16x4096x4096, .i1⟩
  | .hbm, ⟨67, _⟩ => ⟨S16x4096x4096, .f32⟩
  | .hbm, ⟨68, _⟩ => ⟨S16x4096x4096, .f32⟩
  | .hbm, ⟨69, _⟩ => ⟨S_, .f32⟩
  | .hbm, ⟨70, _⟩ => ⟨S16x4096, .f32⟩
  | .hbm, ⟨71, _⟩ => ⟨S16x4096x1, .f32⟩
  | .hbm, ⟨72, _⟩ => ⟨S16x4096x4096, .f32⟩
  | .hbm, ⟨73, _⟩ => ⟨S16x4096x4096, .f32⟩
  | .hbm, ⟨74, _⟩ => ⟨S16x4096x4096, .f32⟩
  | .hbm, ⟨75, _⟩ => ⟨S_, .f32⟩
  | .hbm, ⟨76, _⟩ => ⟨S16x4096, .f32⟩
  | .hbm, ⟨77, _⟩ => ⟨S16x4096x1, .f32⟩
  | .hbm, ⟨78, _⟩ => ⟨S16x4096x4096, .f32⟩
  | .hbm, ⟨79, _⟩ => ⟨S16x4096x4096, .f32⟩
  | .hbm, ⟨80, _⟩ => ⟨S16x128x4096, .f32⟩
  | .hbm, ⟨81, _⟩ => ⟨S4096x16x128, .f32⟩
  | .hbm, ⟨82, _⟩ => ⟨S16x4096x1, .f32⟩
  | .hbm, ⟨83, _⟩ => ⟨S16x4096x1, .f32⟩
  | .hbm, ⟨84, _⟩ => ⟨S4096x16x1, .f32⟩
  | .hbm, ⟨85, _⟩ => ⟨S4096x16x128, .f32⟩
  | .hbm, ⟨86, _⟩ => ⟨S4096x16x192, .f32⟩
  | .hbm, ⟨87, _⟩ => ⟨S4096x16x192, .bf16⟩
  | .hbm, ⟨88, _⟩ => ⟨S_, .i32⟩
  | .hbm, ⟨89, _⟩ => ⟨S_, .bf16⟩
  | .hbm, ⟨90, _⟩ => ⟨S4096x16x256, .bf16⟩
  | .hbm, ⟨91, _⟩ => ⟨S4096x16x128, .bf16⟩
  | .hbm, ⟨92, _⟩ => ⟨S4096x16x128, .bf16⟩
  | .hbm, ⟨93, _⟩ => ⟨S4096x16x256, .bf16⟩
  | .hbm, ⟨94, _⟩ => ⟨S4096x64, .bf16⟩
  | .hbm, ⟨95, _⟩ => ⟨S_, .i32⟩
  | .hbm, ⟨96, _⟩ => ⟨S_, .bf16⟩
  | .hbm, ⟨97, _⟩ => ⟨S4096x128, .bf16⟩
  | .hbm, ⟨98, _⟩ => ⟨S4096x4096, .bf16⟩
  | .hbm, ⟨99, _⟩ => ⟨S4096x4096, .bf16⟩
  | .hbm, ⟨100, _⟩ => ⟨S4096x16x128, .bf16⟩
  | .hbm, ⟨101, _⟩ => ⟨S4096x2048, .bf16⟩
  | .hbm, ⟨102, _⟩ => ⟨S4096x2048, .f32⟩
  | .hbm, ⟨103, _⟩ => ⟨S4096x2048, .f32⟩
  | .hbm, ⟨104, _⟩ => ⟨S4096x4096, .bf16⟩
  | .hbm, ⟨105, _⟩ => ⟨S4096x4096, .bf16⟩
  | .hbm, ⟨106, _⟩ => ⟨S4096x128, .f32⟩
  | .local _ .vmem, ⟨0, _⟩ => ⟨S4096x256, .bf16⟩
  | .local _ .vmem, ⟨1, _⟩ => ⟨S4096x256, .bf16⟩
  | .local _ .vmem, ⟨2, _⟩ => ⟨S4096x256, .bf16⟩
  | .local _ .vmem, ⟨3, _⟩ => ⟨S4096x256, .bf16⟩
  | .local _ .vmem, ⟨4, _⟩ => ⟨S4096x128, .bf16⟩
  | .local _ .vmem, ⟨5, _⟩ => ⟨S4096x128, .bf16⟩
  | .local _ .vmem, ⟨6, _⟩ => ⟨S4096x128, .bf16⟩
  | .local _ .vmem, ⟨7, _⟩ => ⟨S4096x128, .f32⟩
  | .local _ .vmem, ⟨8, _⟩ => ⟨S4096x128, .f32⟩
  | .local _ .vmem, ⟨9, _⟩ => ⟨S4096x128, .f32⟩
  | .local _ .vmem, ⟨10, _⟩ => ⟨S4096x128, .f32⟩
  | .local _ .vmem, ⟨11, _⟩ => ⟨S4096x128, .f32⟩
  | .local _ .vmem, ⟨12, _⟩ => ⟨S4096x128, .f32⟩
  | .local _ .vmem, ⟨13, _⟩ => ⟨S4096x256, .bf16⟩
  | .local _ .vmem, ⟨14, _⟩ => ⟨S4096x256, .bf16⟩
  | .local _ .vmem, ⟨15, _⟩ => ⟨S4096x256, .bf16⟩
  | .local _ .vmem, ⟨16, _⟩ => ⟨S4096x256, .bf16⟩
  | .local _ .vmem, ⟨17, _⟩ => ⟨S4096x128, .f32⟩
  | .local _ .vmem, ⟨18, _⟩ => ⟨S4096x256, .bf16⟩
  | .local _ .vmem, ⟨19, _⟩ => ⟨S4096x256, .f32⟩
  | .local _ .vmem, ⟨20, _⟩ => ⟨S512x256, .f32⟩
  | .local _ .vmem, ⟨21, _⟩ => ⟨S512x128, .f32⟩
  | .local _ .vmem, ⟨22, _⟩ => ⟨S4096x1, .f32⟩
  | _, _ => ⟨S4096x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c : Ref sig .tc := ⟨.hbm, 30, rfl⟩
abbrev main_call0_v0 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_3 : Ref sig .tc := ⟨.hbm, 35, rfl⟩
abbrev main_call1_v0 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_4 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_5 : Ref sig .tc := ⟨.hbm, 64, rfl⟩
abbrev main_call2_v0 : Ref sig .tc := ⟨.hbm, 65, rfl⟩
abbrev main_call2_v1 : Ref sig .tc := ⟨.hbm, 66, rfl⟩
abbrev main_call2_v2 : Ref sig .tc := ⟨.hbm, 67, rfl⟩
abbrev main_v48 : Ref sig .tc := ⟨.hbm, 68, rfl⟩
abbrev main_cst_6 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_7 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_c_8 : Ref sig .tc := ⟨.hbm, 88, rfl⟩
abbrev main_call3_v0 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_c_9 : Ref sig .tc := ⟨.hbm, 95, rfl⟩
abbrev main_call4_v0 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78_0 : Ref sig .tc := ⟨.hbm, 104, rfl⟩
abbrev main_v78_1 : Ref sig .tc := ⟨.hbm, 105, rfl⟩
abbrev main_v78_2 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4096x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4096x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S4096x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4096x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S4096x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Kernel6Ideal.lean ====
variable {F : FTy → Type} [FloatOps F] [Named F]
def κ : String → Option EReal := fun
  | "log2e" => some (((Real.log 2)⁻¹ : ℝ) : EReal)
  | "mask" => some ⊥
  | "scale" => some (((Real.sqrt 192)⁻¹ : ℝ) : EReal)
  | "scale_log2e" => some (((Real.sqrt 192)⁻¹ * (Real.log 2)⁻¹ : ℝ) : EReal)
  | _ => none
-- ==== Reference6Ideal.lean ====
abbrev S4096x16x128 : Shape := ⟨3, ![4096, 16, 128]⟩
abbrev S4096x16x64 : Shape := ⟨3, ![4096, 16, 64]⟩
abbrev S4096x64 : Shape := ⟨2, ![4096, 64]⟩
abbrev S4096 : Shape := ⟨1, ![4096]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x1x32 : Shape := ⟨3, ![4096, 1, 32]⟩
abbrev S4096x16x32 : Shape := ⟨3, ![4096, 16, 32]⟩
abbrev S16x4096x4096 : Shape := ⟨3, ![16, 4096, 4096]⟩
abbrev S4096x4096x16 : Shape := ⟨3, ![4096, 4096, 16]⟩
abbrev S4096x4096 : Shape := ⟨2, ![4096, 4096]⟩
abbrev S16x4096 : Shape := ⟨2, ![16, 4096]⟩
abbrev S16x4096x1 : Shape := ⟨3, ![16, 4096, 1]⟩
abbrev S16x128x4096 : Shape := ⟨3, ![16, 128, 4096]⟩
abbrev S16x4096x128 : Shape := ⟨3, ![16, 4096, 128]⟩
abbrev S4096x16x192 : Shape := ⟨3, ![4096, 16, 192]⟩
abbrev S4096x16x256 : Shape := ⟨3, ![4096, 16, 256]⟩
abbrev S4096x128 : Shape := ⟨2, ![4096, 128]⟩

abbrev nBuf : Space → Nat
  | .hbm => 158
  | .vmem => 0
  | .smem => 0
  | _ => 0

abbrev hbmTy0_0 (i : Nat) : BufTy := match i % 128 with
  | 0 => ⟨S4096x16x128, .f32⟩
  | 1 => ⟨S4096x16x64, .f32⟩
  | 2 => ⟨S4096x16x128, .f32⟩
  | 3 => ⟨S4096x64, .f32⟩
  | 4 => ⟨S4096x16x128, .f32⟩
  | 5 => ⟨S4096, .i32⟩
  | 6 => ⟨S4096x16x128, .f32⟩
  | 7 => ⟨S32, .f32⟩
  | 8 => ⟨S_, .f32⟩
  | 9 => ⟨S32, .f32⟩
  | 10 => ⟨S32, .f32⟩
  | 11 => ⟨S_, .f32⟩
  | 12 => ⟨S32, .f32⟩
  | 13 => ⟨S32, .f32⟩
  | 14 => ⟨S32, .f32⟩
  | 15 => ⟨S_, .f32⟩
  | 16 => ⟨S32, .f32⟩
  | 17 => ⟨S32, .f32⟩
  | 18 => ⟨S_, .f32⟩
  | 19 => ⟨S32, .f32⟩
  | 20 => ⟨S32, .f32⟩
  | 21 => ⟨S4096, .f32⟩
  | 22 => ⟨S4096x1, .f32⟩
  | 23 => ⟨S1x32, .f32⟩
  | 24 => ⟨S4096x32, .f32⟩
  | 25 => ⟨S4096x32, .f32⟩
  | 26 => ⟨S4096x32, .f32⟩
  | 27 => ⟨S4096x32, .f32⟩
  | 28 => ⟨S4096x32, .f32⟩
  | 29 => ⟨S4096x1x32, .f32⟩
  | 30 => ⟨S4096x1x32, .f32⟩
  | 31 => ⟨S4096x16x32, .f32⟩
  | 32 => ⟨S4096x16x32, .f32⟩
  | 33 => ⟨S4096x16x32, .f32⟩
  | 34 => ⟨S4096x16x32, .f32⟩
  | 35 => ⟨S4096x16x32, .f32⟩
  | 36 => ⟨S4096x16x32, .f32⟩
  | 37 => ⟨S4096x16x32, .f32⟩
  | 38 => ⟨S4096x16x32, .f32⟩
  | 39 => ⟨S4096x16x32, .f32⟩
  | 40 => ⟨S4096x16x32, .f32⟩
  | 41 => ⟨S4096x16x32, .f32⟩
  | 42 => ⟨S4096x16x32, .f32⟩
  | 43 => ⟨S4096x16x64, .f32⟩
  | 44 => ⟨S16x4096x4096, .f32⟩
  | 45 => ⟨S4096x4096x16, .f32⟩
  | 46 => ⟨S16x4096x4096, .f32⟩
  | 47 => ⟨S16x4096x4096, .f32⟩
  | 48 => ⟨S_, .f32⟩
  | 49 => ⟨S_, .f32⟩
  | 50 => ⟨S16x4096x4096, .f32⟩
  | 51 => ⟨S16x4096x4096, .f32⟩
  | 52 => ⟨S4096x4096, .i32⟩
  | 53 => ⟨S4096x4096, .i32⟩
  | 54 => ⟨S4096x4096, .i1⟩
  | 55 => ⟨S_, .f32⟩
  | 56 => ⟨S_, .f32⟩
  | 57 => ⟨S16x4096x4096, .i1⟩
  | 58 => ⟨S16x4096x4096, .f32⟩
  | 59 => ⟨S16x4096x4096, .f32⟩
  | 60 => ⟨S_, .f32⟩
  | 61 => ⟨S16x4096x4096, .f32⟩
  | 62 => ⟨S_, .f32⟩
  | 63 => ⟨S16x4096, .f32⟩
  | 64 => ⟨S16x4096x1, .f32⟩
  | 65 => ⟨S16x4096x4096, .f32⟩
  | 66 => ⟨S16x4096x4096, .i1⟩
  | 67 => ⟨S16x4096x4096, .f32⟩
  | 68 => ⟨S_, .f32⟩
  | 69 => ⟨S16x4096, .f32⟩
  | 70 => ⟨S_, .f32⟩
  | 71 => ⟨S16x4096, .f32⟩
  | 72 => ⟨S16x4096, .f32⟩
  | 73 => ⟨S_, .f32⟩
  | 74 => ⟨S16x4096, .f32⟩
  | 75 => ⟨S16x4096, .i1⟩
  | 76 => ⟨S_, .f32⟩
  | 77 => ⟨S16x4096, .f32⟩
  | 78 => ⟨S16x4096, .i1⟩
  | 79 => ⟨S_, .f32⟩
  | 80 => ⟨S16x4096, .f32⟩
  | 81 => ⟨S_, .f32⟩
  | 82 => ⟨S16x4096, .f32⟩
  | 83 => ⟨S_, .f32⟩
  | 84 => ⟨S16x4096, .f32⟩
  | 85 => ⟨S16x4096, .f32⟩
  | 86 => ⟨S16x4096, .f32⟩
  | 87 => ⟨S16x4096x1, .f32⟩
  | 88 => ⟨S16x4096x4096, .f32⟩
  | 89 => ⟨S16x4096x4096, .f32⟩
  | 90 => ⟨S16x4096x4096, .f32⟩
  | 91 => ⟨S_, .f32⟩
  | 92 => ⟨S16x4096, .f32⟩
  | 93 => ⟨S16x4096x1, .f32⟩
  | 94 => ⟨S16x4096x4096, .f32⟩
  | 95 => ⟨S16x4096x4096, .f32⟩
  | 96 => ⟨S16x4096x1, .f32⟩
  | 97 => ⟨S_, .f32⟩
  | 98 => ⟨S16x4096x1, .f32⟩
  | 99 => ⟨S16x4096x1, .f32⟩
  | 100 => ⟨S16x128x4096, .f32⟩
  | 101 => ⟨S4096x16x128, .f32⟩
  | 102 => ⟨S16x128x4096, .f32⟩
  | 103 => ⟨S16x4096x4096, .f32⟩
  | 104 => ⟨S16x128x4096, .f32⟩
  | 105 => ⟨S4096x16x128, .f32⟩
  | 106 => ⟨S16x4096x4096, .f32⟩
  | 107 => ⟨S16x4096x4096, .f32⟩
  | 108 => ⟨S16x4096x4096, .f32⟩
  | 109 => ⟨S_, .f32⟩
  | 110 => ⟨S16x4096, .f32⟩
  | 111 => ⟨S16x4096x1, .f32⟩
  | 112 => ⟨S16x4096x1, .f32⟩
  | 113 => ⟨S16x4096x4096, .f32⟩
  | 114 => ⟨S16x4096x4096, .f32⟩
  | 115 => ⟨S_, .f32⟩
  | 116 => ⟨S16x4096, .f32⟩
  | 117 => ⟨S16x4096x4096, .f32⟩
  | 118 => ⟨S16x4096x4096, .f32⟩
  | 119 => ⟨S16x4096x4096, .f32⟩
  | 120 => ⟨S_, .f32⟩
  | 121 => ⟨S16x4096x4096, .f32⟩
  | 122 => ⟨S16x4096x4096, .f32⟩
  | 123 => ⟨S16x4096x4096, .f32⟩
  | 124 => ⟨S16x4096x4096, .f32⟩
  | 125 => ⟨S4096x4096x16, .f32⟩
  | 126 => ⟨S4096x16x64, .f32⟩
  | 127 => ⟨S4096x64, .f32⟩
  | _ => ⟨S4096x16x128, .f32⟩

abbrev hbmTy0_1 (i : Nat) : BufTy := match i % 128 with
  | 0 => ⟨S16x4096x128, .f32⟩
  | 1 => ⟨S4096x16x128, .f32⟩
  | 2 => ⟨S16x4096x128, .f32⟩
  | 3 => ⟨S4096x16x128, .f32⟩
  | 4 => ⟨S4096x16x32, .f32⟩
  | 5 => ⟨S4096x16x32, .f32⟩
  | 6 => ⟨S4096x16x32, .f32⟩
  | 7 => ⟨S4096x16x32, .f32⟩
  | 8 => ⟨S4096x16x32, .f32⟩
  | 9 => ⟨S4096x16x32, .f32⟩
  | 10 => ⟨S4096x16x32, .f32⟩
  | 11 => ⟨S4096x16x32, .f32⟩
  | 12 => ⟨S4096x16x32, .f32⟩
  | 13 => ⟨S4096x16x32, .f32⟩
  | 14 => ⟨S4096x16x32, .f32⟩
  | 15 => ⟨S4096x16x32, .f32⟩
  | 16 => ⟨S4096x16x32, .f32⟩
  | 17 => ⟨S4096x16x64, .f32⟩
  | 18 => ⟨S4096x16x192, .f32⟩
  | 19 => ⟨S_, .i32⟩
  | 20 => ⟨S_, .f32⟩
  | 21 => ⟨S4096x16x256, .f32⟩
  | 22 => ⟨S4096x4096, .f32⟩
  | 23 => ⟨S4096x4096, .bf16⟩
  | 24 => ⟨S4096x16x256, .f32⟩
  | 25 => ⟨S4096x4096, .f32⟩
  | 26 => ⟨S4096x4096, .bf16⟩
  | 27 => ⟨S_, .i32⟩
  | 28 => ⟨S_, .f32⟩
  | 29 => ⟨S4096x128, .f32⟩
  | _ => ⟨S4096x16x128, .f32⟩

abbrev hbmTy (i : Nat) : BufTy := match i / 128 with
  | 0 => hbmTy0_0 i
  | 1 => hbmTy0_1 i
  | _ => ⟨S4096x16x128, .f32⟩

abbrev bufTy : (tb : Table) → Fin (tcTables nBuf tb) → BufTy
  | .hbm, ⟨i, _⟩ => hbmTy i
  | _, _ => ⟨S4096x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_3 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_4 : Ref sig .tc := ⟨.hbm, 55, rfl⟩
abbrev main_call0_v0 : Ref sig .tc := ⟨.hbm, 56, rfl⟩
abbrev main_v43_1 : Ref sig .tc := ⟨.hbm, 57, rfl⟩
abbrev main_call0_v2 : Ref sig .tc := ⟨.hbm, 58, rfl⟩
abbrev main_v43_0 : Ref sig .tc := ⟨.hbm, 59, rfl⟩
abbrev main_call0_cst : Ref sig .tc := ⟨.hbm, 60, rfl⟩
abbrev main_v43_2 : Ref sig .tc := ⟨.hbm, 61, rfl⟩
abbrev main_cst_5 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_6 : Ref sig .tc := ⟨.hbm, 68, rfl⟩
abbrev main_v49 : Ref sig .tc := ⟨.hbm, 69, rfl⟩
abbrev main_cst_7 : Ref sig .tc := ⟨.hbm, 70, rfl⟩
abbrev main_v50 : Ref sig .tc := ⟨.hbm, 71, rfl⟩
abbrev main_v51 : Ref sig .tc := ⟨.hbm, 72, rfl⟩
abbrev main_cst_8 : Ref sig .tc := ⟨.hbm, 73, rfl⟩
abbrev main_v52 : Ref sig .tc := ⟨.hbm, 74, rfl⟩
abbrev main_v53 : Ref sig .tc := ⟨.hbm, 75, rfl⟩
abbrev main_cst_9 : Ref sig .tc := ⟨.hbm, 76, rfl⟩
abbrev main_v54 : Ref sig .tc := ⟨.hbm, 77, rfl⟩
abbrev main_v55 : Ref sig .tc := ⟨.hbm, 78, rfl⟩
abbrev main_cst_10 : Ref sig .tc := ⟨.hbm, 79, rfl⟩
abbrev main_v56 : Ref sig .tc := ⟨.hbm, 80, rfl⟩
abbrev main_cst_11 : Ref sig .tc := ⟨.hbm, 81, rfl⟩
abbrev main_v57 : Ref sig .tc := ⟨.hbm, 82, rfl⟩
abbrev main_cst_12 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_13 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst_14 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_cst_15 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_cst_16 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_call1_cst : Ref sig .tc := ⟨.hbm, 120, rfl⟩
abbrev main_call1_v0 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_c : Ref sig .tc := ⟨.hbm, 147, rfl⟩
abbrev main_call2_v0 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_c_17 : Ref sig .tc := ⟨.hbm, 155, rfl⟩
abbrev main_call3_v0 : Ref sig .tc := ⟨.hbm, 156, rfl⟩
abbrev main_v121 : Ref sig .tc := ⟨.hbm, 157, rfl⟩

abbrev nD : Nat := 1
abbrev τ : Topo := Topo.v7x

variable {F : FTy → Type} [FloatOps F]
-- ==== Kernel9.lean ====
abbrev S4096x16x128 : Shape := ⟨3, ![4096, 16, 128]⟩
abbrev S4096x16x64 : Shape := ⟨3, ![4096, 16, 64]⟩
abbrev S4096x64 : Shape := ⟨2, ![4096, 64]⟩
abbrev S4096x2560 : Shape := ⟨2, ![4096, 2560]⟩
abbrev S4096 : Shape := ⟨1, ![4096]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x1x32 : Shape := ⟨3, ![4096, 1, 32]⟩
abbrev S4096x16x32 : Shape := ⟨3, ![4096, 16, 32]⟩
abbrev S4096x16x192 : Shape := ⟨3, ![4096, 16, 192]⟩
abbrev S4096x16x256 : Shape := ⟨3, ![4096, 16, 256]⟩
abbrev S4096x128 : Shape := ⟨2, ![4096, 128]⟩
abbrev S4096x4096 : Shape := ⟨2, ![4096, 4096]⟩
abbrev S4096x2048 : Shape := ⟨2, ![4096, 2048]⟩
abbrev S4096x256 : Shape := ⟨2, ![4096, 256]⟩
abbrev S512x512 : Shape := ⟨2, ![512, 512]⟩
abbrev S512x256 : Shape := ⟨2, ![512, 256]⟩
abbrev S512 : Shape := ⟨1, ![512]⟩
abbrev S512x1 : Shape := ⟨2, ![512, 1]⟩
abbrev S512x128 : Shape := ⟨2, ![512, 128]⟩
abbrev S1024x256 : Shape := ⟨2, ![1024, 256]⟩
abbrev S512x1024 : Shape := ⟨2, ![512, 1024]⟩
abbrev S1024x128 : Shape := ⟨2, ![1024, 128]⟩
abbrev S1536x256 : Shape := ⟨2, ![1536, 256]⟩
abbrev S512x1536 : Shape := ⟨2, ![512, 1536]⟩
abbrev S1536x128 : Shape := ⟨2, ![1536, 128]⟩
abbrev S2048x256 : Shape := ⟨2, ![2048, 256]⟩
abbrev S512x2048 : Shape := ⟨2, ![512, 2048]⟩
abbrev S2048x128 : Shape := ⟨2, ![2048, 128]⟩
abbrev S2560x256 : Shape := ⟨2, ![2560, 256]⟩
abbrev S512x2560 : Shape := ⟨2, ![512, 2560]⟩
abbrev S2560x128 : Shape := ⟨2, ![2560, 128]⟩
abbrev S3072x256 : Shape := ⟨2, ![3072, 256]⟩
abbrev S512x3072 : Shape := ⟨2, ![512, 3072]⟩
abbrev S3072x128 : Shape := ⟨2, ![3072, 128]⟩
abbrev S3584x256 : Shape := ⟨2, ![3584, 256]⟩
abbrev S512x3584 : Shape := ⟨2, ![512, 3584]⟩
abbrev S3584x128 : Shape := ⟨2, ![3584, 128]⟩

abbrev nBuf : Space → Nat
  | .hbm => 61
  | .vmem => 14
  | .smem => 0
  | _ => 0

abbrev bufTy : (tb : Table) → Fin (tcTables nBuf tb) → BufTy
  | .hbm, ⟨0, _⟩ => ⟨S4096x16x128, .f32⟩
  | .hbm, ⟨1, _⟩ => ⟨S4096x16x64, .f32⟩
  | .hbm, ⟨2, _⟩ => ⟨S4096x16x128, .f32⟩
  | .hbm, ⟨3, _⟩ => ⟨S4096x64, .f32⟩
  | .hbm, ⟨4, _⟩ => ⟨S4096x16x128, .f32⟩
  | .hbm, ⟨5, _⟩ => ⟨S4096x2560, .f32⟩
  | .hbm, ⟨6, _⟩ => ⟨S4096, .i32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S4096, .f32⟩
  | .hbm, ⟨22, _⟩ => ⟨S4096x1, .f32⟩
  | .hbm, ⟨23, _⟩ => ⟨S1x32, .f32⟩
  | .hbm, ⟨24, _⟩ => ⟨S4096x32, .f32⟩
  | .hbm, ⟨25, _⟩ => ⟨S4096x32, .f32⟩
  | .hbm, ⟨26, _⟩ => ⟨S4096x32, .f32⟩
  | .hbm, ⟨27, _⟩ => ⟨S4096x32, .f32⟩
  | .hbm, ⟨28, _⟩ => ⟨S4096x32, .f32⟩
  | .hbm, ⟨29, _⟩ => ⟨S4096x1x32, .f32⟩
  | .hbm, ⟨30, _⟩ => ⟨S4096x1x32, .f32⟩
  | .hbm, ⟨31, _⟩ => ⟨S4096x16x32, .f32⟩
  | .hbm, ⟨32, _⟩ => ⟨S4096x16x32, .f32⟩
  | .hbm, ⟨33, _⟩ => ⟨S4096x16x32, .f32⟩
  | .hbm, ⟨34, _⟩ => ⟨S4096x16x32, .f32⟩
  | .hbm, ⟨35, _⟩ => ⟨S4096x16x32, .f32⟩
  | .hbm, ⟨36, _⟩ => ⟨S4096x16x32, .f32⟩
  | .hbm, ⟨37, _⟩ => ⟨S4096x16x32, .f32⟩
  | .hbm, ⟨38, _⟩ => ⟨S4096x16x32, .f32⟩
  | .hbm, ⟨39, _⟩ => ⟨S4096x16x32, .f32⟩
  | .hbm, ⟨40, _⟩ => ⟨S4096x16x32, .f32⟩
  | .hbm, ⟨41, _⟩ => ⟨S4096x16x32, .f32⟩
  | .hbm, ⟨42, _⟩ => ⟨S4096x16x32, .f32⟩
  | .hbm, ⟨43, _⟩ => ⟨S4096x16x64, .f32⟩
  | .hbm, ⟨44, _⟩ => ⟨S4096x16x192, .f32⟩
  | .hbm, ⟨45, _⟩ => ⟨S4096x16x192, .bf16⟩
  | .hbm, ⟨46, _⟩ => ⟨S_, .i32⟩
  | .hbm, ⟨47, _⟩ => ⟨S_, .bf16⟩
  | .hbm, ⟨48, _⟩ => ⟨S4096x16x256, .bf16⟩
  | .hbm, ⟨49, _⟩ => ⟨S4096x16x128, .bf16⟩
  | .hbm, ⟨50, _⟩ => ⟨S4096x16x128, .bf16⟩
  | .hbm, ⟨51, _⟩ => ⟨S4096x16x256, .bf16⟩
  | .hbm, ⟨52, _⟩ => ⟨S4096x64, .bf16⟩
  | .hbm, ⟨53, _⟩ => ⟨S_, .i32⟩
  | .hbm, ⟨54, _⟩ => ⟨S_, .bf16⟩
  | .hbm, ⟨55, _⟩ => ⟨S4096x128, .bf16⟩
  | .hbm, ⟨56, _⟩ => ⟨S4096x4096, .bf16⟩
  | .hbm, ⟨57, _⟩ => ⟨S4096x4096, .bf16⟩
  | .hbm, ⟨58, _⟩ => ⟨S4096x2048, .f32⟩
  | .hbm, ⟨59, _⟩ => ⟨S4096x2048, .bf16⟩
  | .hbm, ⟨60, _⟩ => ⟨S4096x2048, .f32⟩
  | .local _ .vmem, ⟨0, _⟩ => ⟨S4096x256, .bf16⟩
  | .local _ .vmem, ⟨1, _⟩ => ⟨S4096x256, .bf16⟩
  | .local _ .vmem, ⟨2, _⟩ => ⟨S4096x256, .bf16⟩
  | .local _ .vmem, ⟨3, _⟩ => ⟨S4096x256, .bf16⟩
  | .local _ .vmem, ⟨4, _⟩ => ⟨S4096x128, .bf16⟩
  | .local _ .vmem, ⟨5, _⟩ => ⟨S4096x128, .f32⟩
  | .local _ .vmem, ⟨6, _⟩ => ⟨S4096x128, .f32⟩
  | .local _ .vmem, ⟨7, _⟩ => ⟨S4096x128, .f32⟩
  | .local _ .vmem, ⟨8, _⟩ => ⟨S4096x128, .f32⟩
  | .local _ .vmem, ⟨9, _⟩ => ⟨S4096x128, .bf16⟩
  | .local _ .vmem, ⟨10, _⟩ => ⟨S4096x128, .bf16⟩
  | .local _ .vmem, ⟨11, _⟩ => ⟨S4096x128, .f32⟩
  | .local _ .vmem, ⟨12, _⟩ => ⟨S4096x128, .f32⟩
  | .local _ .vmem, ⟨13, _⟩ => ⟨S4096x256, .bf16⟩
  | _, _ => ⟨S4096x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_c : Ref sig .tc := ⟨.hbm, 46, rfl⟩
abbrev main_call0_v0 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_c_3 : Ref sig .tc := ⟨.hbm, 53, rfl⟩
abbrev main_call1_v0 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43_0 : Ref sig .tc := ⟨.hbm, 58, rfl⟩
abbrev main_v43_1 : Ref sig .tc := ⟨.hbm, 59, rfl⟩
abbrev main_v43_2 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel9Ideal.lean ====
variable {F : FTy → Type} [FloatOps F] [Named F]
def κ : String → Option EReal := fun
  | "mask" => some ⊥
  | "scale" => some (((Real.sqrt 192)⁻¹ : ℝ) : EReal)
  | "scale_log2e" => some (((Real.sqrt 192)⁻¹ * (Real.log 2)⁻¹ : ℝ) : EReal)
  | _ => none
-- ==== Reference9Ideal.lean ====
abbrev S4096x16x128 : Shape := ⟨3, ![4096, 16, 128]⟩
abbrev S4096x16x64 : Shape := ⟨3, ![4096, 16, 64]⟩
abbrev S4096x64 : Shape := ⟨2, ![4096, 64]⟩
abbrev S4096x2560 : Shape := ⟨2, ![4096, 2560]⟩
abbrev S4096 : Shape := ⟨1, ![4096]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x1x32 : Shape := ⟨3, ![4096, 1, 32]⟩
abbrev S4096x16x32 : Shape := ⟨3, ![4096, 16, 32]⟩
abbrev S16x4096x4096 : Shape := ⟨3, ![16, 4096, 4096]⟩
abbrev S4096x4096x16 : Shape := ⟨3, ![4096, 4096, 16]⟩
abbrev S4096x4096 : Shape := ⟨2, ![4096, 4096]⟩
abbrev S16x4096 : Shape := ⟨2, ![16, 4096]⟩
abbrev S16x4096x1 : Shape := ⟨3, ![16, 4096, 1]⟩
abbrev S16x128x4096 : Shape := ⟨3, ![16, 128, 4096]⟩
abbrev S4096x2048 : Shape := ⟨2, ![4096, 2048]⟩
abbrev S4096x16 : Shape := ⟨2, ![4096, 16]⟩
abbrev S4096x16x1 : Shape := ⟨3, ![4096, 16, 1]⟩

abbrev nBuf : Space → Nat
  | .hbm => 97
  | .vmem => 0
  | .smem => 0
  | _ => 0

abbrev bufTy : (tb : Table) → Fin (tcTables nBuf tb) → BufTy
  | .hbm, ⟨0, _⟩ => ⟨S4096x16x128, .f32⟩
  | .hbm, ⟨1, _⟩ => ⟨S4096x16x64, .f32⟩
  | .hbm, ⟨2, _⟩ => ⟨S4096x16x128, .f32⟩
  | .hbm, ⟨3, _⟩ => ⟨S4096x64, .f32⟩
  | .hbm, ⟨4, _⟩ => ⟨S4096x16x128, .f32⟩
  | .hbm, ⟨5, _⟩ => ⟨S4096x2560, .f32⟩
  | .hbm, ⟨6, _⟩ => ⟨S4096, .i32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S4096, .f32⟩
  | .hbm, ⟨22, _⟩ => ⟨S4096x1, .f32⟩
  | .hbm, ⟨23, _⟩ => ⟨S1x32, .f32⟩
  | .hbm, ⟨24, _⟩ => ⟨S4096x32, .f32⟩
  | .hbm, ⟨25, _⟩ => ⟨S4096x32, .f32⟩
  | .hbm, ⟨26, _⟩ => ⟨S4096x32, .f32⟩
  | .hbm, ⟨27, _⟩ => ⟨S4096x32, .f32⟩
  | .hbm, ⟨28, _⟩ => ⟨S4096x32, .f32⟩
  | .hbm, ⟨29, _⟩ => ⟨S4096x1x32, .f32⟩
  | .hbm, ⟨30, _⟩ => ⟨S4096x1x32, .f32⟩
  | .hbm, ⟨31, _⟩ => ⟨S4096x16x32, .f32⟩
  | .hbm, ⟨32, _⟩ => ⟨S4096x16x32, .f32⟩
  | .hbm, ⟨33, _⟩ => ⟨S4096x16x32, .f32⟩
  | .hbm, ⟨34, _⟩ => ⟨S4096x16x32, .f32⟩
  | .hbm, ⟨35, _⟩ => ⟨S4096x16x32, .f32⟩
  | .hbm, ⟨36, _⟩ => ⟨S4096x16x32, .f32⟩
  | .hbm, ⟨37, _⟩ => ⟨S4096x16x32, .f32⟩
  | .hbm, ⟨38, _⟩ => ⟨S4096x16x32, .f32⟩
  | .hbm, ⟨39, _⟩ => ⟨S4096x16x32, .f32⟩
  | .hbm, ⟨40, _⟩ => ⟨S4096x16x32, .f32⟩
  | .hbm, ⟨41, _⟩ => ⟨S4096x16x32, .f32⟩
  | .hbm, ⟨42, _⟩ => ⟨S4096x16x32, .f32⟩
  | .hbm, ⟨43, _⟩ => ⟨S4096x16x64, .f32⟩
  | .hbm, ⟨44, _⟩ => ⟨S16x4096x4096, .f32⟩
  | .hbm, ⟨45, _⟩ => ⟨S4096x4096x16, .f32⟩
  | .hbm, ⟨46, _⟩ => ⟨S16x4096x4096, .f32⟩
  | .hbm, ⟨47, _⟩ => ⟨S16x4096x4096, .f32⟩
  | .hbm, ⟨48, _⟩ => ⟨S_, .f32⟩
  | .hbm, ⟨49, _⟩ => ⟨S_, .f32⟩
  | .hbm, ⟨50, _⟩ => ⟨S16x4096x4096, .f32⟩
  | .hbm, ⟨51, _⟩ => ⟨S16x4096x4096, .f32⟩
  | .hbm, ⟨52, _⟩ => ⟨S4096x4096, .i32⟩
  | .hbm, ⟨53, _⟩ => ⟨S4096x4096, .i32⟩
  | .hbm, ⟨54, _⟩ => ⟨S4096x4096, .i1⟩
  | .hbm, ⟨55, _⟩ => ⟨S_, .f32⟩
  | .hbm, ⟨56, _⟩ => ⟨S_, .f32⟩
  | .hbm, ⟨57, _⟩ => ⟨S16x4096x4096, .i1⟩
  | .hbm, ⟨58, _⟩ => ⟨S16x4096x4096, .f32⟩
  | .hbm, ⟨59, _⟩ => ⟨S16x4096x4096, .f32⟩
  | .hbm, ⟨60, _⟩ => ⟨S_, .f32⟩
  | .hbm, ⟨61, _⟩ => ⟨S16x4096, .f32⟩
  | .hbm, ⟨62, _⟩ => ⟨S_, .f32⟩
  | .hbm, ⟨63, _⟩ => ⟨S16x4096, .f32⟩
  | .hbm, ⟨64, _⟩ => ⟨S16x4096, .f32⟩
  | .hbm, ⟨65, _⟩ => ⟨S16x4096x1, .f32⟩
  | .hbm, ⟨66, _⟩ => ⟨S16x4096x4096, .f32⟩
  | .hbm, ⟨67, _⟩ => ⟨S16x4096x4096, .f32⟩
  | .hbm, ⟨68, _⟩ => ⟨S16x4096x4096, .f32⟩
  | .hbm, ⟨69, _⟩ => ⟨S_, .f32⟩
  | .hbm, ⟨70, _⟩ => ⟨S16x4096, .f32⟩
  | .hbm, ⟨71, _⟩ => ⟨S16x4096x1, .f32⟩
  | .hbm, ⟨72, _⟩ => ⟨S16x4096x4096, .f32⟩
  | .hbm, ⟨73, _⟩ => ⟨S16x4096x4096, .f32⟩
  | .hbm, ⟨74, _⟩ => ⟨S16x128x4096, .f32⟩
  | .hbm, ⟨75, _⟩ => ⟨S4096x16x128, .f32⟩
  | .hbm, ⟨76, _⟩ => ⟨S4096x2048, .f32⟩
  | .hbm, ⟨77, _⟩ => ⟨S16x4096x4096, .f32⟩
  | .hbm, ⟨78, _⟩ => ⟨S_, .f32⟩
  | .hbm, ⟨79, _⟩ => ⟨S16x4096, .f32⟩
  | .hbm, ⟨80, _⟩ => ⟨S16x4096, .f32⟩
  | .hbm, ⟨81, _⟩ => ⟨S4096x2048, .f32⟩
  | .hbm, ⟨82, _⟩ => ⟨S4096x2048, .f32⟩
  | .hbm, ⟨83, _⟩ => ⟨S4096x2048, .f32⟩
  | .hbm, ⟨84, _⟩ => ⟨S_, .f32⟩
  | .hbm, ⟨85, _⟩ => ⟨S4096x2048, .f32⟩
  | .hbm, ⟨86, _⟩ => ⟨S4096x2048, .f32⟩
  | .hbm, ⟨87, _⟩ => ⟨S_, .f32⟩
  | .hbm, ⟨88, _⟩ => ⟨S4096x2048, .f32⟩
  | .hbm, ⟨89, _⟩ => ⟨S4096x2048, .f32⟩
  | .hbm, ⟨90, _⟩ => ⟨S4096x2048, .f32⟩
  | .hbm, ⟨91, _⟩ => ⟨S4096x2048, .f32⟩
  | .hbm, ⟨92, _⟩ => ⟨S4096x2048, .bf16⟩
  | .hbm, ⟨93, _⟩ => ⟨S4096x16, .f32⟩
  | .hbm, ⟨94, _⟩ => ⟨S4096x16x1, .f32⟩
  | .hbm, ⟨95, _⟩ => ⟨S4096x16x128, .f32⟩
  | .hbm, ⟨96, _⟩ => ⟨S4096x2048, .f32⟩
  | _, _ => ⟨S4096x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_3 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_4 : Ref sig .tc := ⟨.hbm, 55, rfl⟩
abbrev main_call0_v0 : Ref sig .tc := ⟨.hbm, 56, rfl⟩
abbrev main_call0_v1 : Ref sig .tc := ⟨.hbm, 57, rfl⟩
abbrev main_call0_v2 : Ref sig .tc := ⟨.hbm, 58, rfl⟩
abbrev main_v43 : Ref sig .tc := ⟨.hbm, 59, rfl⟩
abbrev main_cst_5 : Ref sig .tc := ⟨.hbm, 60, rfl⟩
abbrev main_v44 : Ref sig .tc := ⟨.hbm, 61, rfl⟩
abbrev main_cst_6 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_7 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_cst_8 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_call1_v0 : Ref sig .tc := ⟨.hbm, 82, rfl⟩
abbrev main_call1_v1 : Ref sig .tc := ⟨.hbm, 83, rfl⟩
abbrev main_call1_cst : Ref sig .tc := ⟨.hbm, 84, rfl⟩
abbrev main_call1_v2 : Ref sig .tc := ⟨.hbm, 85, rfl⟩
abbrev main_call1_v3 : Ref sig .tc := ⟨.hbm, 86, rfl⟩
abbrev main_call1_cst_0 : Ref sig .tc := ⟨.hbm, 87, rfl⟩
abbrev main_call1_v4 : Ref sig .tc := ⟨.hbm, 88, rfl⟩
abbrev main_call1_v5 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩

abbrev nD : Nat := 1
abbrev τ : Topo := Topo.v7x

variable {F : FTy → Type} [FloatOps F]
-- ==== Kernel10.lean ====
abbrev S4096x1024 : Shape := ⟨2, ![4096, 1024]⟩
abbrev S4096 : Shape := ⟨1, ![4096]⟩
abbrev S1024x320 : Shape := ⟨2, ![1024, 320]⟩
abbrev S256 : Shape := ⟨1, ![256]⟩
abbrev S256x16x128 : Shape := ⟨3, ![256, 16, 128]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S4096x128 : Shape := ⟨2, ![4096, 128]⟩
abbrev S1024x384 : Shape := ⟨2, ![1024, 384]⟩
abbrev S256x16x256 : Shape := ⟨3, ![256, 16, 256]⟩
abbrev S256x4096 : Shape := ⟨2, ![256, 4096]⟩
abbrev S1x256 : Shape := ⟨2, ![1, 256]⟩
abbrev S4096x384 : Shape := ⟨2, ![4096, 384]⟩
abbrev S4096x256 : Shape := ⟨2, ![4096, 256]⟩
abbrev S4096x4096 : Shape := ⟨2, ![4096, 4096]⟩
abbrev S512x1024 : Shape := ⟨2, ![512, 1024]⟩
abbrev S512x128 : Shape := ⟨2, ![512, 128]⟩
abbrev S512x384 : Shape := ⟨2, ![512, 384]⟩
abbrev S512x256 : Shape := ⟨2, ![512, 256]⟩
abbrev S512x4096 : Shape := ⟨2, ![512, 4096]⟩
abbrev S512 : Shape := ⟨1, ![512]⟩
abbrev S512x1 : Shape := ⟨2, ![512, 1]⟩

abbrev nBuf : Space → Nat
  | .hbm => 51
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S4096, .i32⟩
  | .hbm, ⟨2, _⟩ => ⟨S1024x320, .f32⟩
  | .hbm, ⟨3, _⟩ => ⟨S256, .f32⟩
  | .hbm, ⟨4, _⟩ => ⟨S256x16x128, .f32⟩
  | .hbm, ⟨5, _⟩ => ⟨S256x16x128, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S4096, .f32⟩
  | .hbm, ⟨21, _⟩ => ⟨S4096x1, .f32⟩
  | .hbm, ⟨22, _⟩ => ⟨S1x32, .f32⟩
  | .hbm, ⟨23, _⟩ => ⟨S4096x32, .f32⟩
  | .hbm, ⟨24, _⟩ => ⟨S4096x32, .f32⟩
  | .hbm, ⟨25, _⟩ => ⟨S4096x32, .f32⟩
  | .hbm, ⟨26, _⟩ => ⟨S4096x32, .f32⟩
  | .hbm, ⟨27, _⟩ => ⟨S4096x32, .f32⟩
  | .hbm, ⟨28, _⟩ => ⟨S4096x64, .f32⟩
  | .hbm, ⟨29, _⟩ => ⟨S_, .i32⟩
  | .hbm, ⟨30, _⟩ => ⟨S_, .f32⟩
  | .hbm, ⟨31, _⟩ => ⟨S4096x128, .f32⟩
  | .hbm, ⟨32, _⟩ => ⟨S4096x32, .f32⟩
  | .hbm, ⟨33, _⟩ => ⟨S4096x64, .f32⟩
  | .hbm, ⟨34, _⟩ => ⟨S_, .i32⟩
  | .hbm, ⟨35, _⟩ => ⟨S_, .f32⟩
  | .hbm, ⟨36, _⟩ => ⟨S4096x128, .f32⟩
  | .hbm, ⟨37, _⟩ => ⟨S1024x320, .bf16⟩
  | .hbm, ⟨38, _⟩ => ⟨S_, .i32⟩
  | .hbm, ⟨39, _⟩ => ⟨S_, .bf16⟩
  | .hbm, ⟨40, _⟩ => ⟨S1024x384, .bf16⟩
  | .hbm, ⟨41, _⟩ => ⟨S256x16x128, .bf16⟩
  | .hbm, ⟨42, _⟩ => ⟨S256x16x128, .bf16⟩
  | .hbm, ⟨43, _⟩ => ⟨S256x16x256, .bf16⟩
  | .hbm, ⟨44, _⟩ => ⟨S256x4096, .bf16⟩
  | .hbm, ⟨45, _⟩ => ⟨S4096x1024, .bf16⟩
  | .hbm, ⟨46, _⟩ => ⟨S1x256, .f32⟩
  | .hbm, ⟨47, _⟩ => ⟨S4096x384, .f32⟩
  | .hbm, ⟨48, _⟩ => ⟨S4096x256, .bf16⟩
  | .hbm, ⟨49, _⟩ => ⟨S4096x128, .bf16⟩
  | .hbm, ⟨50, _⟩ => ⟨S4096x4096, .bf16⟩
  | .local _ .vmem, ⟨0, _⟩ => ⟨S512x1024, .bf16⟩
  | .local _ .vmem, ⟨1, _⟩ => ⟨S512x1024, .bf16⟩
  | .local _ .vmem, ⟨2, _⟩ => ⟨S1024x384, .bf16⟩
  | .local _ .vmem, ⟨3, _⟩ => ⟨S256x4096, .bf16⟩
  | .local _ .vmem, ⟨4, _⟩ => ⟨S1x256, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x384, .f32⟩
  | .local _ .vmem, ⟨10, _⟩ => ⟨S512x384, .f32⟩
  | .local _ .vmem, ⟨11, _⟩ => ⟨S512x256, .bf16⟩
  | .local _ .vmem, ⟨12, _⟩ => ⟨S512x256, .bf16⟩
  | .local _ .vmem, ⟨13, _⟩ => ⟨S512x128, .bf16⟩
  | .local _ .vmem, ⟨14, _⟩ => ⟨S512x128, .bf16⟩
  | .local _ .vmem, ⟨15, _⟩ => ⟨S512x4096, .bf16⟩
  | .local _ .vmem, ⟨16, _⟩ => ⟨S512x4096, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c : Ref sig .tc := ⟨.hbm, 29, rfl⟩
abbrev main_call0_v0 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_3 : Ref sig .tc := ⟨.hbm, 34, rfl⟩
abbrev main_call1_v0 : Ref sig .tc := ⟨.hbm, 35, rfl⟩
abbrev main_v22 : Ref sig .tc := ⟨.hbm, 36, rfl⟩
abbrev main_v23 : Ref sig .tc := ⟨.hbm, 37, rfl⟩
abbrev main_c_4 : Ref sig .tc := ⟨.hbm, 38, rfl⟩
abbrev main_call2_v0 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31_0 : Ref sig .tc := ⟨.hbm, 47, rfl⟩
abbrev main_v31_1 : Ref sig .tc := ⟨.hbm, 48, rfl⟩
abbrev main_v31_2 : Ref sig .tc := ⟨.hbm, 49, rfl⟩
abbrev main_v31_3 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference10Ideal.lean ====
abbrev S4096x1024 : Shape := ⟨2, ![4096, 1024]⟩
abbrev S4096 : Shape := ⟨1, ![4096]⟩
abbrev S1024x320 : Shape := ⟨2, ![1024, 320]⟩
abbrev S256 : Shape := ⟨1, ![256]⟩
abbrev S256x16x128 : Shape := ⟨3, ![256, 16, 128]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x320 : Shape := ⟨2, ![4096, 320]⟩
abbrev S4096x256 : Shape := ⟨2, ![4096, 256]⟩
abbrev S4096x64 : Shape := ⟨2, ![4096, 64]⟩
abbrev S1x256 : Shape := ⟨2, ![1, 256]⟩
abbrev S4096x16x128 : Shape := ⟨3, ![4096, 16, 128]⟩
abbrev S4096x384 : Shape := ⟨2, ![4096, 384]⟩
abbrev S4096x128 : Shape := ⟨2, ![4096, 128]⟩
abbrev S4096x16x256 : Shape := ⟨3, ![4096, 16, 256]⟩
abbrev S4096x4096 : Shape := ⟨2, ![4096, 4096]⟩

abbrev nBuf : Space → Nat
  | .hbm => 86
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096, .i32⟩
  | .hbm, ⟨2, _⟩ => ⟨S1024x320, .f32⟩
  | .hbm, ⟨3, _⟩ => ⟨S256, .f32⟩
  | .hbm, ⟨4, _⟩ => ⟨S256x16x128, .f32⟩
  | .hbm, ⟨5, _⟩ => ⟨S256x16x128, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S4096, .f32⟩
  | .hbm, ⟨21, _⟩ => ⟨S4096x1, .f32⟩
  | .hbm, ⟨22, _⟩ => ⟨S1x32, .f32⟩
  | .hbm, ⟨23, _⟩ => ⟨S4096x32, .f32⟩
  | .hbm, ⟨24, _⟩ => ⟨S4096x32, .f32⟩
  | .hbm, ⟨25, _⟩ => ⟨S4096x32, .f32⟩
  | .hbm, ⟨26, _⟩ => ⟨S4096x32, .f32⟩
  | .hbm, ⟨27, _⟩ => ⟨S4096x32, .f32⟩
  | .hbm, ⟨28, _⟩ => ⟨S4096x320, .f32⟩
  | .hbm, ⟨29, _⟩ => ⟨S4096x256, .f32⟩
  | .hbm, ⟨30, _⟩ => ⟨S4096x64, .f32⟩
  | .hbm, ⟨31, _⟩ => ⟨S4096x256, .f32⟩
  | .hbm, ⟨32, _⟩ => ⟨S_, .f32⟩
  | .hbm, ⟨33, _⟩ => ⟨S4096, .f32⟩
  | .hbm, ⟨34, _⟩ => ⟨S4096x1, .f32⟩
  | .hbm, ⟨35, _⟩ => ⟨S_, .f32⟩
  | .hbm, ⟨36, _⟩ => ⟨S4096x1, .f32⟩
  | .hbm, ⟨37, _⟩ => ⟨S4096x1, .f32⟩
  | .hbm, ⟨38, _⟩ => ⟨S_, .f32⟩
  | .hbm, ⟨39, _⟩ => ⟨S4096x1, .f32⟩
  | .hbm, ⟨40, _⟩ => ⟨S4096x1, .f32⟩
  | .hbm, ⟨41, _⟩ => ⟨S4096x1, .f32⟩
  | .hbm, ⟨42, _⟩ => ⟨S4096x256, .f32⟩
  | .hbm, ⟨43, _⟩ => ⟨S4096x256, .f32⟩
  | .hbm, ⟨44, _⟩ => ⟨S1x256, .f32⟩
  | .hbm, ⟨45, _⟩ => ⟨S4096x256, .f32⟩
  | .hbm, ⟨46, _⟩ => ⟨S4096x256, .f32⟩
  | .hbm, ⟨47, _⟩ => ⟨S4096x16x128, .f32⟩
  | .hbm, ⟨48, _⟩ => ⟨S4096x16x128, .f32⟩
  | .hbm, ⟨49, _⟩ => ⟨S4096x32, .f32⟩
  | .hbm, ⟨50, _⟩ => ⟨S4096x32, .f32⟩
  | .hbm, ⟨51, _⟩ => ⟨S4096x32, .f32⟩
  | .hbm, ⟨52, _⟩ => ⟨S4096x32, .f32⟩
  | .hbm, ⟨53, _⟩ => ⟨S4096x32, .f32⟩
  | .hbm, ⟨54, _⟩ => ⟨S4096x32, .f32⟩
  | .hbm, ⟨55, _⟩ => ⟨S4096x32, .f32⟩
  | .hbm, ⟨56, _⟩ => ⟨S4096x32, .f32⟩
  | .hbm, ⟨57, _⟩ => ⟨S4096x64, .f32⟩
  | .hbm, ⟨58, _⟩ => ⟨S_, .i32⟩
  | .hbm, ⟨59, _⟩ => ⟨S_, .f32⟩
  | .hbm, ⟨60, _⟩ => ⟨S4096x384, .f32⟩
  | .hbm, ⟨61, _⟩ => ⟨S4096x256, .f32⟩
  | .hbm, ⟨62, _⟩ => ⟨S4096x256, .f32⟩
  | .hbm, ⟨63, _⟩ => ⟨S_, .f32⟩
  | .hbm, ⟨64, _⟩ => ⟨S4096, .f32⟩
  | .hbm, ⟨65, _⟩ => ⟨S4096x1, .f32⟩
  | .hbm, ⟨66, _⟩ => ⟨S_, .f32⟩
  | .hbm, ⟨67, _⟩ => ⟨S4096x1, .f32⟩
  | .hbm, ⟨68, _⟩ => ⟨S4096x1, .f32⟩
  | .hbm, ⟨69, _⟩ => ⟨S_, .f32⟩
  | .hbm, ⟨70, _⟩ => ⟨S4096x1, .f32⟩
  | .hbm, ⟨71, _⟩ => ⟨S4096x1, .f32⟩
  | .hbm, ⟨72, _⟩ => ⟨S4096x1, .f32⟩
  | .hbm, ⟨73, _⟩ => ⟨S4096x256, .f32⟩
  | .hbm, ⟨74, _⟩ => ⟨S4096x256, .f32⟩
  | .hbm, ⟨75, _⟩ => ⟨S1x256, .f32⟩
  | .hbm, ⟨76, _⟩ => ⟨S4096x256, .f32⟩
  | .hbm, ⟨77, _⟩ => ⟨S4096x256, .f32⟩
  | .hbm, ⟨78, _⟩ => ⟨S4096x256, .bf16⟩
  | .hbm, ⟨79, _⟩ => ⟨S_, .i32⟩
  | .hbm, ⟨80, _⟩ => ⟨S_, .f32⟩
  | .hbm, ⟨81, _⟩ => ⟨S4096x128, .f32⟩
  | .hbm, ⟨82, _⟩ => ⟨S4096x128, .bf16⟩
  | .hbm, ⟨83, _⟩ => ⟨S4096x16x256, .f32⟩
  | .hbm, ⟨84, _⟩ => ⟨S4096x4096, .f32⟩
  | .hbm, ⟨85, _⟩ => ⟨S4096x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_c : Ref sig .tc := ⟨.hbm, 58, rfl⟩
abbrev main_call0_v0 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_6 : Ref sig .tc := ⟨.hbm, 63, rfl⟩
abbrev main_v48 : Ref sig .tc := ⟨.hbm, 64, rfl⟩
abbrev main_v49 : Ref sig .tc := ⟨.hbm, 65, rfl⟩
abbrev main_cst_7 : Ref sig .tc := ⟨.hbm, 66, rfl⟩
abbrev main_v50 : Ref sig .tc := ⟨.hbm, 67, rfl⟩
abbrev main_v51 : Ref sig .tc := ⟨.hbm, 68, rfl⟩
abbrev main_cst_8 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_c_9 : Ref sig .tc := ⟨.hbm, 79, rfl⟩
abbrev main_call1_v0 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩

abbrev nD : Nat := 1
abbrev τ : Topo := Topo.v7x

variable {F : FTy → Type} [FloatOps F]
-- ==== Kernel11.lean ====
abbrev S4096x512 : Shape := ⟨2, ![4096, 512]⟩
abbrev S4096 : Shape := ⟨1, ![4096]⟩
abbrev S512x16x192 : Shape := ⟨3, ![512, 16, 192]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S4096x128 : Shape := ⟨2, ![4096, 128]⟩
abbrev S512x16x256 : Shape := ⟨3, ![512, 16, 256]⟩
abbrev S512x4096 : Shape := ⟨2, ![512, 4096]⟩
abbrev S4096x4096 : Shape := ⟨2, ![4096, 4096]⟩
abbrev S1024x512 : Shape := ⟨2, ![1024, 512]⟩
abbrev S512x1024 : Shape := ⟨2, ![512, 1024]⟩
abbrev S1024x128 : Shape := ⟨2, ![1024, 128]⟩
abbrev S1024x1024 : Shape := ⟨2, ![1024, 1024]⟩

abbrev nBuf : Space → Nat
  | .hbm => 41
  | .vmem => 10
  | .smem => 0
  | _ => 0

abbrev bufTy : (tb : Table) → Fin (tcTables nBuf tb) → BufTy
  | .hbm, ⟨0, _⟩ => ⟨S4096x512, .f32⟩
  | .hbm, ⟨1, _⟩ => ⟨S4096, .i32⟩
  | .hbm, ⟨2, _⟩ => ⟨S512x16x192, .f32⟩
  | .hbm, ⟨3, _⟩ => ⟨S32, .f32⟩
  | .hbm, ⟨4, _⟩ => ⟨S_, .f32⟩
  | .hbm, ⟨5, _⟩ => ⟨S32, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S4096, .f32⟩
  | .hbm, ⟨18, _⟩ => ⟨S4096x1, .f32⟩
  | .hbm, ⟨19, _⟩ => ⟨S1x32, .f32⟩
  | .hbm, ⟨20, _⟩ => ⟨S4096x32, .f32⟩
  | .hbm, ⟨21, _⟩ => ⟨S4096x32, .f32⟩
  | .hbm, ⟨22, _⟩ => ⟨S4096x32, .f32⟩
  | .hbm, ⟨23, _⟩ => ⟨S4096x32, .f32⟩
  | .hbm, ⟨24, _⟩ => ⟨S4096x32, .f32⟩
  | .hbm, ⟨25, _⟩ => ⟨S4096x64, .f32⟩
  | .hbm, ⟨26, _⟩ => ⟨S_, .i32⟩
  | .hbm, ⟨27, _⟩ => ⟨S_, .f32⟩
  | .hbm, ⟨28, _⟩ => ⟨S4096x128, .f32⟩
  | .hbm, ⟨29, _⟩ => ⟨S4096x32, .f32⟩
  | .hbm, ⟨30, _⟩ => ⟨S4096x64, .f32⟩
  | .hbm, ⟨31, _⟩ => ⟨S_, .i32⟩
  | .hbm, ⟨32, _⟩ => ⟨S_, .f32⟩
  | .hbm, ⟨33, _⟩ => ⟨S4096x128, .f32⟩
  | .hbm, ⟨34, _⟩ => ⟨S512x16x192, .bf16⟩
  | .hbm, ⟨35, _⟩ => ⟨S_, .i32⟩
  | .hbm, ⟨36, _⟩ => ⟨S_, .bf16⟩
  | .hbm, ⟨37, _⟩ => ⟨S512x16x256, .bf16⟩
  | .hbm, ⟨38, _⟩ => ⟨S512x4096, .bf16⟩
  | .hbm, ⟨39, _⟩ => ⟨S4096x512, .bf16⟩
  | .hbm, ⟨40, _⟩ => ⟨S4096x4096, .bf16⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S512x1024, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x1024, .bf16⟩
  | .local _ .vmem, ⟨9, _⟩ => ⟨S1024x1024, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_c : Ref sig .tc := ⟨.hbm, 26, rfl⟩
abbrev main_call0_v0 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c_3 : Ref sig .tc := ⟨.hbm, 31, rfl⟩
abbrev main_call1_v0 : Ref sig .tc := ⟨.hbm, 32, rfl⟩
abbrev main_v22 : Ref sig .tc := ⟨.hbm, 33, rfl⟩
abbrev main_v23 : Ref sig .tc := ⟨.hbm, 34, rfl⟩
abbrev main_c_4 : Ref sig .tc := ⟨.hbm, 35, rfl⟩
abbrev main_call2_v0 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference11Ideal.lean ====
abbrev S4096x512 : Shape := ⟨2, ![4096, 512]⟩
abbrev S4096 : Shape := ⟨1, ![4096]⟩
abbrev S512x16x192 : Shape := ⟨3, ![512, 16, 192]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x16x192 : Shape := ⟨3, ![4096, 16, 192]⟩
abbrev S4096x16x128 : Shape := ⟨3, ![4096, 16, 128]⟩
abbrev S4096x16x64 : Shape := ⟨3, ![4096, 16, 64]⟩
abbrev S4096x1x32 : Shape := ⟨3, ![4096, 1, 32]⟩
abbrev S4096x16x32 : Shape := ⟨3, ![4096, 16, 32]⟩
abbrev S4096x16x256 : Shape := ⟨3, ![4096, 16, 256]⟩
abbrev S4096x4096 : Shape := ⟨2, ![4096, 4096]⟩

abbrev nBuf : Space → Nat
  | .hbm => 49
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096, .i32⟩
  | .hbm, ⟨2, _⟩ => ⟨S512x16x192, .f32⟩
  | .hbm, ⟨3, _⟩ => ⟨S32, .f32⟩
  | .hbm, ⟨4, _⟩ => ⟨S_, .f32⟩
  | .hbm, ⟨5, _⟩ => ⟨S32, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S4096, .f32⟩
  | .hbm, ⟨18, _⟩ => ⟨S4096x1, .f32⟩
  | .hbm, ⟨19, _⟩ => ⟨S1x32, .f32⟩
  | .hbm, ⟨20, _⟩ => ⟨S4096x32, .f32⟩
  | .hbm, ⟨21, _⟩ => ⟨S4096x32, .f32⟩
  | .hbm, ⟨22, _⟩ => ⟨S4096x32, .f32⟩
  | .hbm, ⟨23, _⟩ => ⟨S4096x32, .f32⟩
  | .hbm, ⟨24, _⟩ => ⟨S4096x32, .f32⟩
  | .hbm, ⟨25, _⟩ => ⟨S4096x16x192, .f32⟩
  | .hbm, ⟨26, _⟩ => ⟨S4096x16x128, .f32⟩
  | .hbm, ⟨27, _⟩ => ⟨S4096x16x64, .f32⟩
  | .hbm, ⟨28, _⟩ => ⟨S4096x1x32, .f32⟩
  | .hbm, ⟨29, _⟩ => ⟨S4096x1x32, .f32⟩
  | .hbm, ⟨30, _⟩ => ⟨S4096x16x32, .f32⟩
  | .hbm, ⟨31, _⟩ => ⟨S4096x16x32, .f32⟩
  | .hbm, ⟨32, _⟩ => ⟨S4096x16x32, .f32⟩
  | .hbm, ⟨33, _⟩ => ⟨S4096x16x32, .f32⟩
  | .hbm, ⟨34, _⟩ => ⟨S4096x16x32, .f32⟩
  | .hbm, ⟨35, _⟩ => ⟨S4096x16x32, .f32⟩
  | .hbm, ⟨36, _⟩ => ⟨S4096x16x32, .f32⟩
  | .hbm, ⟨37, _⟩ => ⟨S4096x16x32, .f32⟩
  | .hbm, ⟨38, _⟩ => ⟨S4096x16x32, .f32⟩
  | .hbm, ⟨39, _⟩ => ⟨S4096x16x32, .f32⟩
  | .hbm, ⟨40, _⟩ => ⟨S4096x16x32, .f32⟩
  | .hbm, ⟨41, _⟩ => ⟨S4096x16x32, .f32⟩
  | .hbm, ⟨42, _⟩ => ⟨S4096x16x64, .f32⟩
  | .hbm, ⟨43, _⟩ => ⟨S4096x16x192, .f32⟩
  | .hbm, ⟨44, _⟩ => ⟨S_, .i32⟩
  | .hbm, ⟨45, _⟩ => ⟨S_, .f32⟩
  | .hbm, ⟨46, _⟩ => ⟨S4096x16x256, .f32⟩
  | .hbm, ⟨47, _⟩ => ⟨S4096x4096, .f32⟩
  | .hbm, ⟨48, _⟩ => ⟨S4096x4096, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_c : Ref sig .tc := ⟨.hbm, 44, rfl⟩
abbrev main_call0_v0 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩

abbrev nD : Nat := 1
abbrev τ : Topo := Topo.v7x

variable {F : FTy → Type} [FloatOps F]
-- ==== Proof.Arr.lean ====
/-
  Arrays of extended reals written by a function of their coordinates, and every operation the programs use read in that
  form: `arr s f` is the array of shape `s` whose element at `(i, j, k)` is `f i j k`; an axis that `s` does not have reads
  coordinate zero. Each lemma says that an operation on such arrays is again such an array, so a straight-line program
  over arrays becomes one formula in natural-number coordinates.
-/
module

public import Idealize.ShloMosaic.Lib.ValueIdx
public import Idealize.ShloMosaic.Lib.ValueLayout
public import Idealize.ShloMosaic.Lib.IdealHost
public import Idealize.ShloMosaic.Lib.MatmulPlain
public import Idealize.ShloMosaic.Lib.Pipeline.Value
public import Idealize.ShloMosaic.Lib.TwoAxisContraction
public import Idealize.ShloMosaic.PureOps.Ideal.Laws

@[expose] public section

noncomputable section

open Idealize.ShloMosaic Idealize.ShloMosaic.ValueIdx
open scoped BigOperators

namespace Cert.Arr

/-- Coordinate `k` of an index, zero where the shape has no such axis. -/
def co {s : Shape} (j : s.Idx) (k : ℕ) : ℕ := if h : k < s.rank then (j ⟨k, h⟩).val else 0

/-- The array of shape `s` that holds `f i j k` at `(i, j, k)`. -/
def arr (s : Shape) (f : ℕ → ℕ → ℕ → EReal) : s.Idx → EReal := fun j => f (co j 0) (co j 1) (co j 2)

theorem co1 {n : ℕ} (j : (⟨1, ![n]⟩ : Shape).Idx) : co j 0 < n := (j 0).isLt
theorem co2_0 {n m : ℕ} (j : (⟨2, ![n, m]⟩ : Shape).Idx) : co j 0 < n := (j 0).isLt
theorem co2_1 {n m : ℕ} (j : (⟨2, ![n, m]⟩ : Shape).Idx) : co j 1 < m := (j 1).isLt
theorem co3_0 {n m l : ℕ} (j : (⟨3, ![n, m, l]⟩ : Shape).Idx) : co j 0 < n := (j 0).isLt
theorem co3_1 {n m l : ℕ} (j : (⟨3, ![n, m, l]⟩ : Shape).Idx) : co j 1 < m := (j 1).isLt
theorem co3_2 {n m l : ℕ} (j : (⟨3, ![n, m, l]⟩ : Shape).Idx) : co j 2 < l := (j 2).isLt

/-- Two rank-1 arrays agree when their functions do within the bounds. -/
theorem arr1_ext {n : ℕ} {f g : ℕ → ℕ → ℕ → EReal} (h : ∀ i, i < n → f i 0 0 = g i 0 0) :
    arr ⟨1, ![n]⟩ f = arr ⟨1, ![n]⟩ g := funext fun j => h _ (co1 j)
/-- Two rank-2 arrays agree when their functions do within the bounds. -/
theorem arr2_ext {n m : ℕ} {f g : ℕ → ℕ → ℕ → EReal} (h : ∀ i j, i < n → j < m → f i j 0 = g i j 0) :
    arr ⟨2, ![n, m]⟩ f = arr ⟨2, ![n, m]⟩ g := funext fun j => h _ _ (co2_0 j) (co2_1 j)
/-- Two rank-3 arrays agree when their functions do within the bounds. -/
theorem arr3_ext {n m l : ℕ} {f g : ℕ → ℕ → ℕ → EReal} (h : ∀ i j k, i < n → j < m → k < l → f i j k = g i j k) :
    arr ⟨3, ![n, m, l]⟩ f = arr ⟨3, ![n, m, l]⟩ g := funext fun j => h _ _ _ (co3_0 j) (co3_1 j) (co3_2 j)

/-- Every array of rank at most three is a function of its coordinates. -/
theorem exists_fn {α : Type} {s : Shape} (hs : s.rank ≤ 3) [Inhabited α] (x : s.Idx → α) :
    ∃ f : ℕ → ℕ → ℕ → α, x = fun j => f (co j 0) (co j 1) (co j 2) := by
  let c : ℕ → ℕ → ℕ → ℕ → ℕ := fun i j k a => if a = 0 then i else if a = 1 then j else k
  refine ⟨fun i j k => if h : ∀ a : Fin s.rank, c i j k a.val < s.size a then x fun a => ⟨c i j k a.val, h a⟩ else default, ?_⟩
  funext j
  have hc : ∀ a : Fin s.rank, c (co j 0) (co j 1) (co j 2) a.val = (j a).val := by
    intro a
    have ha := a.isLt
    obtain ⟨a, ha⟩ := a
    rcases (by omega : a = 0 ∨ a = 1 ∨ a = 2) with rfl | rfl | rfl <;> simp [c, co, ha]
  have hd := fun a => (hc a).trans_lt (j a).isLt
  show x j = if h : _ then _ else _
  rw [dif_pos hd]
  congr 1; funext a; exact Fin.ext (hc a).symm

theorem exists_arr {s : Shape} (hs : s.rank ≤ 3) (x : s.Idx → EReal) : ∃ f, x = arr s f := exists_fn hs x

/-- An array of finite values, of rank at most three, is `arr` of real values. -/
theorem exists_real {s : Shape} (hs : s.rank ≤ 3) (x : s.Idx → EReal) (hx : ∀ i, ∃ r : ℝ, x i = r) :
    ∃ r : ℕ → ℕ → ℕ → ℝ, x = arr s fun i j k => (r i j k : EReal) := by
  choose y hy using hx
  obtain ⟨r, hr⟩ := exists_fn hs y
  exact ⟨r, funext fun i => by rw [hy, hr]; rfl⟩

/-- Equal coordinates, equal elements. -/
theorem at_congr {f : ℕ → ℕ → ℕ → EReal} {i i' j j' : ℕ} (hi : i = i') (hj : j = j') : f i j 0 = f i' j' 0 := by rw [hi, hj]

/-! ## Elementwise operations -/

section Elementwise
variable {s : Shape} {φ ψ : FTy} (f g : ℕ → ℕ → ℕ → EReal)

theorem arr_add : addf (F := Ideal) (φ := φ) (arr s f) (arr s g) = arr s fun i j k => f i j k + g i j k := rfl
theorem arr_sub : subf (F := Ideal) (φ := φ) (arr s f) (arr s g) = arr s fun i j k => f i j k - g i j k := rfl
theorem arr_mul : mulf (F := Ideal) (φ := φ) (arr s f) (arr s g) = arr s fun i j k => f i j k * g i j k := rfl
theorem arr_div : divf (F := Ideal) (φ := φ) (arr s f) (arr s g) = arr s fun i j k => Ideal.div (f i j k) (g i j k) := rfl
theorem arr_hdiv : Host.divf (F := Ideal) (φ := φ) (arr s f) (arr s g) = arr s fun i j k => Ideal.div (f i j k) (g i j k) := rfl
theorem arr_rsqrt : rsqrt (F := Ideal) (φ := φ) (arr s f) = arr s fun i j k => Ideal.rsqrt (f i j k) := rfl
theorem arr_hrsqrt : Host.rsqrt (F := Ideal) (φ := φ) (arr s f) = arr s fun i j k => Ideal.rsqrt (f i j k) := rfl
theorem arr_truncf (h) : truncf (F := Ideal) (φ := φ) ψ (arr s f) h = arr s f := rfl
theorem arr_extf (h) : extf (F := Ideal) (φ := φ) ψ (arr s f) h = arr s f := rfl
theorem arr_const (b) : constant (F := Ideal) s φ b = arr s fun _ _ _ => Ideal.ofBits φ b := rfl
theorem arr_bcast (b) : broadcast s (Scalar.ofBits (F := Ideal) φ b) = arr s fun _ _ _ => Ideal.ofBits φ b := rfl
theorem arr_sitofp_zero : sitofp (F := Ideal) φ (constantI s 32 0#32) = arr s fun _ _ _ => (0 : EReal) := by
  funext i
  show (((0#32 : BitVec 32).toInt : ℝ) : EReal) = 0
  simp

end Elementwise

/-! ## Broadcasts, reshapes, slices, pads -/

section Shapes
variable {n m l : ℕ} (f g : ℕ → ℕ → ℕ → EReal)

private theorem dite_val {p : Prop} [Decidable p] {n : ℕ} {a : p → Fin n} {b : ¬p → Fin n} :
    (dite p a b).val = if h : p then (a h).val else (b h).val := by split <;> rfl

/-- A column spread over the columns. -/
theorem arr_spread_col (h) : broadcastTo ⟨2, ![n, m]⟩ (arr ⟨2, ![n, 1]⟩ f) h = arr ⟨2, ![n, m]⟩ fun i _ _ => f i 0 0 := by
  funext j
  have h0 := co2_0 j
  show f _ _ _ = f _ _ _
  congr 1
  simp only [co, dite_val]
  rcases Nat.lt_or_ge 1 n with hn | hn
  · simp [show n ≠ 1 by omega]
  · simp [show n = 1 by simp only [co] at h0; omega]; simp [co] at h0; omega
/-- A row spread over the rows. -/
theorem arr_spread_row (h) : broadcastTo ⟨2, ![n, m]⟩ (arr ⟨2, ![1, m]⟩ f) h = arr ⟨2, ![n, m]⟩ fun _ j _ => f 0 j 0 := by
  funext j
  have h0 := co2_1 j
  show f _ _ _ = f _ _ _
  congr 1
  simp only [co, dite_val]
  rcases Nat.lt_or_ge 1 m with hn | hn
  · simp [show m ≠ 1 by omega]
  · simp [show m = 1 by simp only [co] at h0; omega]; simp [co] at h0; omega

theorem arr_bid0 {t : Shape} (d) (h) : broadcastInDim t d h (arr ⟨0, ![]⟩ f) = arr t fun _ _ _ => f 0 0 0 := rfl
private theorem ite_lt {n v : ℕ} (h : v < n) : (if n = 1 then 0 else v) = v := by split <;> omega
theorem arr_bid_1_0 (h) : broadcastInDim ⟨2, ![n, m]⟩ ![0] h (arr ⟨1, ![n]⟩ f) = arr ⟨2, ![n, m]⟩ fun i _ _ => f i 0 0 := by
  funext j
  show f _ _ _ = f _ _ _
  congr 1
  exact dite_val.trans (ite_lt (co2_0 j))
theorem arr_bid_1_1 (h) : broadcastInDim ⟨2, ![n, m]⟩ ![1] h (arr ⟨1, ![m]⟩ f) = arr ⟨2, ![n, m]⟩ fun _ j _ => f j 0 0 := by
  funext j
  show f _ _ _ = f _ _ _
  congr 1
  exact dite_val.trans (ite_lt (co2_1 j))
theorem arr_bid_col (h) : broadcastInDim ⟨2, ![n, m]⟩ ![0, 1] h (arr ⟨2, ![n, 1]⟩ f) = arr ⟨2, ![n, m]⟩ fun i _ _ => f i 0 0 := by
  funext j
  show f _ _ _ = f _ _ _
  congr 1
  exact dite_val.trans (ite_lt (co2_0 j))
theorem arr_bid_row (h) : broadcastInDim ⟨2, ![n, m]⟩ ![0, 1] h (arr ⟨2, ![1, m]⟩ f) = arr ⟨2, ![n, m]⟩ fun _ j _ => f 0 j 0 := by
  funext j
  show f _ _ _ = f _ _ _
  congr 1
  exact dite_val.trans (ite_lt (co2_1 j))
theorem arr_bid_id (h) : broadcastInDim ⟨2, ![n, m]⟩ ![0, 1] h (arr ⟨2, ![n, m]⟩ f) = arr ⟨2, ![n, m]⟩ f := by
  funext j
  show f _ _ _ = f _ _ _
  congr 1
  · exact dite_val.trans (ite_lt (co2_0 j))
  · exact dite_val.trans (ite_lt (co2_1 j))

theorem arr_cast_col (h) : shapeCast ⟨2, ![n, 1]⟩ (arr ⟨1, ![n]⟩ f) h = arr ⟨2, ![n, 1]⟩ fun i _ _ => f i 0 0 := by
  funext j
  rw [shapeCast_apply _ h j (ix1 (j 0)) (by
    rw [Shape.rowMajor_val_two, Shape.rowMajor_val_one]
    have : (j 1).val < 1 := (j 1).isLt
    show (j 0).val = (j 0).val * 1 + (j 1).val; omega)]
  rfl
theorem arr_cast_row (h) : shapeCast ⟨2, ![1, n]⟩ (arr ⟨1, ![n]⟩ f) h = arr ⟨2, ![1, n]⟩ fun _ j _ => f j 0 0 := by
  funext j
  rw [shapeCast_apply _ h j (ix1 (j 1)) (by
    rw [Shape.rowMajor_val_two, Shape.rowMajor_val_one]
    have : (j 0).val < 1 := (j 0).isLt
    show (j 1).val = (j 0).val * n + (j 1).val
    rw [show (j 0).val = 0 by omega]; omega)]
  rfl
/-- Two last axes merged. -/
theorem arr_merge {b c bc : ℕ} (hbc : b * c = bc) (h) :
    shapeCast ⟨2, ![n, bc]⟩ (arr ⟨3, ![n, b, c]⟩ f) h = arr ⟨2, ![n, bc]⟩ fun i j _ => f i (j / c) (j % c) := by
  subst hbc
  funext j
  have h1 : (j 1).val < b * c := (j 1).isLt
  have hc : 0 < c := Nat.pos_of_ne_zero fun h => by subst h; omega
  rw [shapeCast_apply _ h j (ix3 (j 0) ⟨(j 1).val / c, Nat.div_lt_of_lt_mul (h1.trans_eq (Nat.mul_comm b c))⟩ ⟨(j 1).val % c, Nat.mod_lt _ hc⟩) (by
    rw [Shape.rowMajor_val_two, Shape.rowMajor_val_three]
    show ((j 0).val * b + (j 1).val / c) * c + (j 1).val % c = (j 0).val * (b * c) + (j 1).val
    have := Nat.div_add_mod (j 1).val c
    rw [Nat.add_mul, Nat.mul_assoc, Nat.mul_comm ((j 1).val / c) c, Nat.add_assoc, this])]
  rfl
/-- The last axis cut in two. -/
theorem arr_split {b c bc : ℕ} (hbc : b * c = bc) (h) :
    shapeCast ⟨3, ![n, b, c]⟩ (arr ⟨2, ![n, bc]⟩ f) h = arr ⟨3, ![n, b, c]⟩ fun i j k => f i (j * c + k) 0 := by
  subst hbc
  funext j
  have h1 : (j 1).val < b := (j 1).isLt
  have h2 : (j 2).val < c := (j 2).isLt
  rw [shapeCast_apply _ h j (ix2 (j 0) ⟨(j 1).val * c + (j 2).val, by
      calc (j 1).val * c + (j 2).val < (j 1).val * c + c := by omega
        _ = ((j 1).val + 1) * c := by ring
        _ ≤ b * c := Nat.mul_le_mul_right _ h1⟩) (by
    rw [Shape.rowMajor_val_two, Shape.rowMajor_val_three]
    show (j 0).val * (b * c) + ((j 1).val * c + (j 2).val) = ((j 0).val * b + (j 1).val) * c + (j 2).val
    ring)]
  rfl
theorem arr_cast_self (s : Shape) (h) : shapeCast s (arr s f) h = arr s f := shapeCast_self _ _

theorem arr_slice2 {n' m' : ℕ} (o0 o1 : ℕ) (h) :
    extractStridedSlice ⟨2, ![n', m']⟩ ![o0, o1] (arr ⟨2, ![n, m]⟩ f) h = arr ⟨2, ![n', m']⟩ fun i j _ => f (o0 + i) (o1 + j) 0 := rfl
theorem arr_slice3 {n' m' l' : ℕ} (o0 o1 o2 : ℕ) (h) :
    extractStridedSlice ⟨3, ![n', m', l']⟩ ![o0, o1, o2] (arr ⟨3, ![n, m, l]⟩ f) h
      = arr ⟨3, ![n', m', l']⟩ fun i j k => f (o0 + i) (o1 + j) (o2 + k) := rfl

/-- A rank-2 array padded by `a` columns on the left and any number on the right. -/
theorem arr_pad2 {m' : ℕ} (a b : ℕ) {u : Shape} (v : EReal) (h) (hu) :
    pad ⟨2, ![n, m']⟩ ![0, a] ![0, b] ![0, 0] (arr ⟨2, ![n, m]⟩ f) (u := u) (arr u fun _ _ _ => v) h hu
      = arr ⟨2, ![n, m']⟩ fun i j _ => if a ≤ j ∧ j - a < m then f i (j - a) 0 else v := by
  funext j
  unfold pad
  have h0 := co2_0 j
  by_cases hj : a ≤ (j 1).val ∧ (j 1).val - a < m
  · rw [dif_pos (fun x => by fin_cases x <;> simp [Fin.cast, Nat.mod_one] <;> first | exact h0 | exact hj)]
    show f _ _ _ = if a ≤ (j 1).val ∧ (j 1).val - a < m then _ else _
    rw [if_pos hj]
    show f (((j 0).val - 0) / (0 + 1)) (((j 1).val - a) / (0 + 1)) 0 = f (j 0).val ((j 1).val - a) 0
    simp
  · rw [dif_neg (fun hh => hj (by have := hh 1; simp [Fin.cast, Nat.mod_one] at this; exact this))]
    show v = if a ≤ (j 1).val ∧ (j 1).val - a < m then _ else _
    rw [if_neg hj]
/-- A rank-3 array padded on the right of its last axis. -/
theorem arr_pad3 {l' : ℕ} (b : ℕ) {u : Shape} (v : EReal) (h) (hu) :
    pad ⟨3, ![n, m, l']⟩ ![0, 0, 0] ![0, 0, b] ![0, 0, 0] (arr ⟨3, ![n, m, l]⟩ f) (u := u) (arr u fun _ _ _ => v) h hu
      = arr ⟨3, ![n, m, l']⟩ fun i j k => if k < l then f i j k else v := by
  funext j
  unfold pad
  have h0 := co3_0 j
  have h1 := co3_1 j
  by_cases hj : (j 2).val < l
  · rw [dif_pos (fun x => by fin_cases x <;> simp [Fin.cast, Nat.mod_one] <;> first | exact h0 | exact h1 | exact hj)]
    show f _ _ _ = if (j 2).val < l then _ else _
    rw [if_pos hj]
    show f (((j 0).val - 0) / (0 + 1)) (((j 1).val - 0) / (0 + 1)) (((j 2).val - 0) / (0 + 1)) = f (j 0).val (j 1).val (j 2).val
    simp
  · rw [dif_neg (fun hh => hj (by have := hh 2; simp [Fin.cast, Nat.mod_one] at this; exact this))]
    show v = if (j 2).val < l then _ else _
    rw [if_neg hj]
/-- Two arrays side by side. -/
theorem arr_concat1 {m₁ m₂ : ℕ} (h) :
    concatenate ⟨2, ![n, m]⟩ 1 [⟨⟨2, ![n, m₁]⟩, arr ⟨2, ![n, m₁]⟩ f⟩, ⟨⟨2, ![n, m₂]⟩, arr ⟨2, ![n, m₂]⟩ g⟩] h
      = arr ⟨2, ![n, m]⟩ fun i j _ => if j < m₁ then f i j 0 else g i (j - m₁) 0 := by
  funext j
  show _ = if (j 1).val < m₁ then f (j 0).val (j 1).val 0 else g (j 0).val ((j 1).val - m₁) 0
  have hm : m₁ + m₂ = m := by have := h.2.2; simpa using this
  have h1 : (j 1).val < m := (j 1).isLt
  by_cases hj : (j 1).val < m₁
  · rw [if_pos hj, concatenate_pair_apply_left _ _ _ h j rfl (ix2 (j 0) ⟨_, hj⟩) (fun b => by fin_cases b <;> rfl)]
    rfl
  · rw [if_neg hj, concatenate_pair_apply_right _ _ _ h j rfl rfl (ix2 (j 0) ⟨(j 1).val - m₁, by omega⟩)
      (fun b hb => by fin_cases b <;> first | rfl | exact absurd rfl hb)
      (by show (j 1).val - m₁ + m₁ = (j 1).val; omega)]
    rfl
theorem concat1_eq {m₁ m₂ : ℕ} {x : (⟨2, ![n, m₁]⟩ : Shape).Idx → EReal} {y : (⟨2, ![n, m₂]⟩ : Shape).Idx → EReal}
    (hx : x = arr _ f) (hy : y = arr _ g) (h) :
    concatenate ⟨2, ![n, m]⟩ 1 [⟨⟨2, ![n, m₁]⟩, x⟩, ⟨⟨2, ![n, m₂]⟩, y⟩] h
      = arr ⟨2, ![n, m]⟩ fun i j _ => if j < m₁ then f i j 0 else g i (j - m₁) 0 := by
  subst hx hy; exact arr_concat1 f g h
end Shapes

/-! ## Sums and products -/

section Sums
variable {n m l : ℕ} {φ ψ : FTy} (f g h : ℕ → ℕ → ℕ → EReal)

theorem arr_rowsum (hr) (hφ : FKind.Formats .f32) (hacc : 0x00000000#32 = 0x00000000#32) : multiReduction (F := Ideal) (φ := .f32) .add [1] ⟨1, ![n]⟩ (arr ⟨2, ![n, m]⟩ f) 0x00000000#32 hr hφ hacc
    = arr ⟨1, ![n]⟩ fun i _ _ => ∑ k ∈ Finset.range m, f i k 0 := by
  funext j
  rw [Ideal.multiReduction_add_single _ _ hr hφ hacc]
  exact (Finset.sum_range fun k => f (j 0).val k 0).symm
theorem arr_colsum (hr) (hφ : FKind.Formats .f32) (hacc : 0x00000000#32 = 0x00000000#32) : multiReduction (F := Ideal) (φ := .f32) .add [0] ⟨1, ![m]⟩ (arr ⟨2, ![n, m]⟩ f) 0x00000000#32 hr hφ hacc
    = arr ⟨1, ![m]⟩ fun j _ _ => ∑ k ∈ Finset.range n, f k j 0 := by
  funext j
  rw [Ideal.multiReduction_add_single _ _ hr hφ hacc]
  exact (Finset.sum_range fun k => f k (j 0).val 0).symm
theorem arr_hrowsum (hr : Shape.ReducesTo ⟨2, ![n, m]⟩ [1] ⟨1, ![n]⟩) (hu) :
    Host.reduceAdd (F := Ideal) (φ := φ) (arr ⟨2, ![n, m]⟩ f) (arr ⟨0, ![]⟩ g) hr hu
      = arr ⟨1, ![n]⟩ fun i _ _ => g 0 0 0 + ∑ k ∈ Finset.range m, f i k 0 := by
  funext j
  rw [hostReduceAdd_apply, Ideal.hostReduceAdd_single hr ⟨hr.1, Nat.one_pos, hr.2⟩]
  exact congrArg (g 0 0 0 + ·) (Finset.sum_range fun k => f (j 0).val k 0).symm
theorem arr_hcolsum (hr : Shape.ReducesTo ⟨2, ![n, m]⟩ [0] ⟨1, ![m]⟩) (hu) :
    Host.reduceAdd (F := Ideal) (φ := φ) (arr ⟨2, ![n, m]⟩ f) (arr ⟨0, ![]⟩ g) hr hu
      = arr ⟨1, ![m]⟩ fun j _ _ => g 0 0 0 + ∑ k ∈ Finset.range n, f k j 0 := by
  funext j
  rw [hostReduceAdd_apply, Ideal.hostReduceAdd_single hr ⟨hr.1, Nat.one_pos, hr.2⟩]
  exact congrArg (g 0 0 0 + ·) (Finset.sum_range fun k => f k (j 0).val 0).symm

/-- A contraction over one axis of extent `K`, by the values of the two operands at each contraction coordinate. -/
theorem matmul_one {sl sr so : Shape} (D : DotDims sl sr so) (K : ℕ) (hr : D.contr.rank = 1) (hs : D.contr.size ⟨0, by omega⟩ = K)
    (x : sl.Idx → EReal) (y : sr.Idx → EReal) (u v : so.Idx → ℕ → EReal)
    (hx : ∀ j (q : D.contr.Idx), x (D.lhsIdx j q) = u j (q ⟨0, by omega⟩).val)
    (hy : ∀ j (q : D.contr.Idx), y (D.rhsIdx j q) = v j (q ⟨0, by omega⟩).val) (j : so.Idx) :
    ∑ q : D.contr.Idx, x (D.lhsIdx j q) * y (D.rhsIdx j q) = ∑ k ∈ Finset.range K, u j k * v j k := by
  rw [← Equiv.sum_comp (contrEquiv1 D K hr hs).symm, Finset.sum_range]
  refine Finset.sum_congr rfl fun k _ => ?_
  rw [hx, hy, contrEquiv1_symm_val D K hr hs]

theorem arr_matmul_nt {K : ℕ} (p) (wf) :
    matmul (F := Ideal) (φ₁ := φ) (φ₂ := ψ) (⟨[1], [1], [0], [0], [], [], wf⟩ : DotDims ⟨2, ![n, K]⟩ ⟨2, ![m, K]⟩ ⟨2, ![n, m]⟩) p
        (arr ⟨2, ![n, K]⟩ f) (arr ⟨2, ![m, K]⟩ g) (arr ⟨2, ![n, m]⟩ h)
      = arr ⟨2, ![n, m]⟩ fun i j _ => h i j 0 + ∑ k ∈ Finset.range K, f i k 0 * g j k 0 := by
  funext j
  exact congrArg (h (j 0).val (j 1).val 0 + ·) (matmul_one _ K rfl rfl (arr ⟨2, ![n, K]⟩ f) (arr ⟨2, ![m, K]⟩ g)
    (fun j k => f (j 0).val k 0) (fun j k => g (j 1).val k 0) (fun _ _ => rfl) (fun _ _ => rfl) j)
theorem arr_matmul_nn {K : ℕ} (p) (wf) :
    matmul (F := Ideal) (φ₁ := φ) (φ₂ := ψ) (⟨[1], [0], [0], [1], [], [], wf⟩ : DotDims ⟨2, ![n, K]⟩ ⟨2, ![K, m]⟩ ⟨2, ![n, m]⟩) p
        (arr ⟨2, ![n, K]⟩ f) (arr ⟨2, ![K, m]⟩ g) (arr ⟨2, ![n, m]⟩ h)
      = arr ⟨2, ![n, m]⟩ fun i j _ => h i j 0 + ∑ k ∈ Finset.range K, f i k 0 * g k j 0 := by
  funext j
  exact congrArg (h (j 0).val (j 1).val 0 + ·) (matmul_one _ K rfl rfl (arr ⟨2, ![n, K]⟩ f) (arr ⟨2, ![K, m]⟩ g)
    (fun j k => f (j 0).val k 0) (fun j k => g k (j 1).val 0) (fun _ _ => rfl) (fun _ _ => rfl) j)
theorem arr_matmul_tn {K : ℕ} (p) (wf) :
    matmul (F := Ideal) (φ₁ := φ) (φ₂ := ψ) (⟨[0], [0], [1], [1], [], [], wf⟩ : DotDims ⟨2, ![K, n]⟩ ⟨2, ![K, m]⟩ ⟨2, ![n, m]⟩) p
        (arr ⟨2, ![K, n]⟩ f) (arr ⟨2, ![K, m]⟩ g) (arr ⟨2, ![n, m]⟩ h)
      = arr ⟨2, ![n, m]⟩ fun i j _ => h i j 0 + ∑ k ∈ Finset.range K, f k i 0 * g k j 0 := by
  funext j
  exact congrArg (h (j 0).val (j 1).val 0 + ·) (matmul_one _ K rfl rfl (arr ⟨2, ![K, n]⟩ f) (arr ⟨2, ![K, m]⟩ g)
    (fun j k => f k (j 0).val 0) (fun j k => g k (j 1).val 0) (fun _ _ => rfl) (fun _ _ => rfl) j)
/-- The host's product over one axis of a matrix with a rank-3 array. -/
theorem arr_dot_1_0 {K : ℕ} (p) (wf) :
    Host.dotGeneral (F := Ideal) (φ₁ := φ) (φ₂ := ψ) (⟨[1], [0], [0], [1, 2], [], [], wf⟩ : DotDims ⟨2, ![n, K]⟩ ⟨3, ![K, m, l]⟩ ⟨3, ![n, m, l]⟩) p
        (arr ⟨2, ![n, K]⟩ f) (arr ⟨3, ![K, m, l]⟩ g)
      = arr ⟨3, ![n, m, l]⟩ fun i j k => ∑ q ∈ Finset.range K, f i q 0 * g q j k := by
  funext j
  unfold Host.dotGeneral
  rw [Ideal.dotGeneral_apply]
  exact matmul_one _ K rfl rfl (arr ⟨2, ![n, K]⟩ f) (arr ⟨3, ![K, m, l]⟩ g)
    (fun j k => f (j 0).val k 0) (fun j k => g k (j 1).val (j 2).val) (fun _ _ => rfl) (fun _ _ => rfl) j
/-- The host's product over two axes of two rank-3 arrays. -/
theorem arr_dot_12_12 {K L : ℕ} (p) (wf) :
    Host.dotGeneral (F := Ideal) (φ₁ := φ) (φ₂ := ψ) (⟨[1, 2], [1, 2], [0], [0], [], [], wf⟩ : DotDims ⟨3, ![n, K, L]⟩ ⟨3, ![m, K, L]⟩ ⟨2, ![n, m]⟩) p
        (arr ⟨3, ![n, K, L]⟩ f) (arr ⟨3, ![m, K, L]⟩ g)
      = arr ⟨2, ![n, m]⟩ fun i j _ => ∑ q ∈ Finset.range K, ∑ r ∈ Finset.range L, f i q r * g j q r := by
  funext j
  unfold Host.dotGeneral
  rw [Ideal.dotGeneral_apply, sum_contr2 _ K L rfl rfl rfl]
  show _ = ∑ q ∈ Finset.range K, ∑ r ∈ Finset.range L, f (j 0).val q r * g (j 1).val q r
  rw [Finset.sum_range]
  refine Finset.sum_congr rfl fun q _ => ?_
  rw [Finset.sum_range]
  rfl
end Sums

end Cert.Arr
-- ==== Proof.QNormBlocks.lean ====
/-
  The query norm's gradient, kernel side: what the kernel's two result arrays end holding, as formulas of the arguments'
  elements.
-/
module

public import proofs.«01_k».proof.Proof.Arr
public import proofs.«01_k».proof.Proof.Gen.KernelIdeal.Value
public import Idealize.ShloMosaic.Lib.Tactic
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)
open Cert.Arr

namespace Cert.KernelIdeal.QNorm

open Cert.KernelIdeal Cert.KernelIdeal.Gen

theorem hz : (![0, 0] : Fin 2 → Nat) = fun _ => 0 := funext fun a => by fin_cases a <;> rfl

section Cases
variable {F : FTy → Type} [FloatOps F]
variable (c : Dev nD) (i : grid0.Coords) (arg1 : Memref sig .tc .vmem S512x4096 .bf16) (h1 : arg1.IsWhole)
  (arg2 : Memref sig .tc .vmem S512x4096 .bf16) (h2 : arg2.IsWhole) (arg3 : Memref sig .tc .vmem S512x512 .f32) (h3 : arg3.IsWhole)
  (arg4 : Memref sig .tc .vmem S1x512 .f32) (h4 : arg4.IsWhole) (arg6 : Memref sig .tc .vmem S512x512 .bf16) (h6 : arg6.IsWhole)
  (arg7 : Memref sig .tc .vmem S1x512 .f32) (h7 : arg7.IsWhole)
  (x0 x1 : Vec F S512x4096 .bf16) (x2 : Vec F S512x512 .f32) (x3 xo : Vec F S1x512 .f32)

/-- The block of `dproj` that a point leaves. -/
abbrev outO (x0 x1 : Vec F S512x4096 .bf16) (x2 : Vec F S512x512 .f32) (x3 : Vec F S1x512 .f32) : Vec F S512x512 .bf16 :=
  k0_pay1 (k0_pay3 x2) (k0_pay4 x2) (k0_pay7 x0 x1 x3) (k0_pay8 x2 x0 x1 x3)

theorem out_A4 (hc) : out0_A_4 c i arg1 h1 arg2 h2 arg3 h3 arg4 h4 arg6 h6 arg7 h7 hc x0 x1 x2 x3 = outO x0 x1 x2 x3 := by
  unfold out0_A_4
  rw [View.read_writes_eq_canon _ _ _ (cover0_A_4 c i arg1 h1 arg2 h2 arg3 h3 arg4 h4 arg6 h6 arg7 h7 hc x0 x1 x2 x3)]
  unfold kernelRun0_A
  dsimp only
  sl_unfold_words
  rw [View.canon_unit_zero hz]
  simp only [View.readAt_eq_ld, h1.read_unread, h2.read_unread, h3.read_unread, h4.read_unread, View.ld_unit_zero (S := S512x4096) hz,
    View.ld_unit_zero (S := S512x512) hz, View.ld_unit_zero (S := S1x512) hz]

theorem out_B4 (hc) : out0_B_4 c i arg1 h1 arg2 h2 arg3 h3 arg4 h4 arg6 h6 arg7 h7 hc x0 x1 x2 x3 xo = outO x0 x1 x2 x3 := by
  unfold out0_B_4
  rw [View.read_writes_eq_canon _ _ _ (cover0_B_4 c i arg1 h1 arg2 h2 arg3 h3 arg4 h4 arg6 h6 arg7 h7 hc x0 x1 x2 x3 xo)]
  unfold kernelRun0_B
  dsimp only
  sl_unfold_words
  rw [View.canon_unit_zero hz]
  simp only [View.readAt_eq_ld, h1.read_unread, h2.read_unread, h3.read_unread, h4.read_unread, View.ld_unit_zero (S := S512x4096) hz,
    View.ld_unit_zero (S := S512x512) hz, View.ld_unit_zero (S := S1x512) hz]

theorem out_A5 (hc) : out0_A_5 c i arg1 h1 arg2 h2 arg3 h3 arg4 h4 arg6 h6 arg7 h7 hc x0 x1 x2 x3 = k0_pay6 x2 x0 x1 (k0_pay5 (F := F)) := by
  unfold out0_A_5
  rw [View.read_writes_eq_canon _ _ _ (cover0_A_5 c i arg1 h1 arg2 h2 arg3 h3 arg4 h4 arg6 h6 arg7 h7 hc x0 x1 x2 x3)]
  unfold kernelRun0_A
  dsimp only
  sl_unfold_words
  rw [View.canon_cons_unit_zero (S := S1x512) hz, View.readCov_unit_zero (S := S1x512) _ hz]
  simp only [View.readAt_eq_ld, h1.read_unread, h2.read_unread, h3.read_unread, h4.read_unread, View.ld_unit_zero (S := S512x4096) hz,
    View.ld_unit_zero (S := S512x512) hz, View.ld_unit_zero (S := S1x512) hz]

theorem out_B5 (hc) : out0_B_5 c i arg1 h1 arg2 h2 arg3 h3 arg4 h4 arg6 h6 arg7 h7 hc x0 x1 x2 x3 xo = k0_pay6 x2 x0 x1 xo := by
  unfold out0_B_5
  rw [View.read_writes_eq_canon _ _ _ (cover0_B_5 c i arg1 h1 arg2 h2 arg3 h3 arg4 h4 arg6 h6 arg7 h7 hc x0 x1 x2 x3 xo)]
  unfold kernelRun0_B
  dsimp only
  sl_unfold_words
  rw [View.canon_unit_zero hz]
  simp only [View.readAt_eq_ld, h1.read_unread, h2.read_unread, h3.read_unread, h4.read_unread, h7.read_unread, View.ld_unit_zero (S := S512x4096) hz,
    View.ld_unit_zero (S := S512x512) hz, View.ld_unit_zero (S := S1x512) hz]
end Cases

section Arrays
variable (m : (ℓ : Loc nD τ sig) → Buf (Elt Ideal) ℓ) (c : Dev nD)

/-! ## The arrays the region finds -/

theorem V_w {w : ℕ → ℕ → ℕ → EReal} (h : m ((c : Thread nD τ).loc main_arg2) = arr S512x16x192 w) :
    V m c main_v2 = arr S512x4096 fun i j _ => if j % 256 < 192 then w i (j / 256) (j % 256) else (0 : EReal) := by
  unfold V
  after_reads_simp
  rw [h]
  show shapeCast _ (pad S512x16x256 ![0, 0, 0] ![0, 0, 64] ![0, 0, 0] (truncf (F := Ideal) .bf16 (arr S512x16x192 w) bitsLt_bf16_f32)
    (sitofp (F := Ideal) .bf16 (constantI S_ 32 0#32)) pads_S512x16x192_S512x16x256_000_000_0640 h_S_) shapeCasts_S512x16x256_S512x4096 = _
  rw [arr_truncf, arr_sitofp_zero, arr_pad3, arr_merge (b := 16) (c := 256) (bc := 4096) _ rfl]

theorem V_dq {d : ℕ → ℕ → ℕ → EReal} (h : m ((c : Thread nD τ).loc main_arg3) = arr S4096x16x192 d) :
    V m c main_v5 = arr S4096x4096 fun i j _ => if j % 256 < 192 then d i (j / 256) (j % 256) else (0 : EReal) := by
  unfold V
  after_reads_simp
  rw [h]
  show shapeCast _ (pad S4096x16x256 ![0, 0, 0] ![0, 0, 64] ![0, 0, 0] (truncf (F := Ideal) .bf16 (arr S4096x16x192 d) bitsLt_bf16_f32)
    (sitofp (F := Ideal) .bf16 (constantI S_ 32 0#32)) pads_S4096x16x192_S4096x16x256_000_000_0640 h_S_) shapeCasts_S4096x16x256_S4096x4096 = _
  rw [arr_truncf, arr_sitofp_zero, arr_pad3, arr_merge (b := 16) (c := 256) (bc := 4096) _ rfl]

theorem V_dz {z : ℕ → ℕ → ℕ → EReal} (h : m ((c : Thread nD τ).loc main_arg4) = arr S4096x2048 z) :
    V m c main_v9_0 = arr S4096x2560 fun i j _ => if 512 ≤ j ∧ j - 512 < 2048 then z i (j - 512) 0 else (0 : EReal) := by
  unfold V
  after_reads_simp
  rw [h]
  show pad S4096x2560 ![0, 512] ![0, 0] ![0, 0] (truncf (F := Ideal) .bf16 (arr S4096x2048 z) bitsLt_bf16_f32)
    (sitofp (F := Ideal) .bf16 (constantI S_ 32 0#32)) pads_S4096x2048_S4096x2560_000_51200 h_S_ = _
  rw [arr_truncf, arr_sitofp_zero, arr_pad2]

theorem V_g {g : ℕ → ℕ → ℕ → EReal} (h : m ((c : Thread nD τ).loc main_arg1) = arr S512 g) :
    V m c main_v8 = arr S1x512 fun _ j _ => g j 0 0 := by
  unfold V
  after_reads_simp
  rw [h]
  exact arr_cast_row g _

/-! ## The blocks the points read -/

theorem idx0 : ∀ t : Fin cfg0.N, win0_0.index t 0 = t.val ∧ win0_0.index t 1 = 0 := by decide +kernel
theorem idx1 : ∀ t : Fin cfg0.N, win0_1.index t 0 = 0 ∧ win0_1.index t 1 = 0 := by decide +kernel
theorem idx2 : ∀ t : Fin cfg0.N, win0_2.index t 0 = t.val ∧ win0_2.index t 1 = 0 := by decide +kernel
theorem idx3 : ∀ t : Fin cfg0.N, win0_3.index t 0 = 0 ∧ win0_3.index t 1 = 0 := by decide +kernel
theorem idx4 : ∀ t : Fin cfg0.N, win0_4.index t 0 = t.val ∧ win0_4.index t 1 = 0 := by decide +kernel
theorem idx5 : ∀ t : Fin cfg0.N, win0_5.index t 0 = 0 ∧ win0_5.index t 1 = 0 := by decide +kernel

variable (t : Fin cfg0.N) {f : ℕ → ℕ → ℕ → EReal}

theorem blk0 (h : V m c main_v5 = arr S4096x4096 f) : iblk m c 0 t = arr S512x4096 fun i j _ => f (t.val * 512 + i) j 0 := by
  funext j
  unfold iblk
  rw [View.read_apply]
  show V m c main_v5 _ = _
  rw [h]
  refine at_congr (f := f) ?_ ?_
  · show win0_0.index t 0 * 512 + 1 * (j 0).val = t.val * 512 + (j 0).val
    rw [(idx0 t).1]; omega
  · show win0_0.index t 1 * 4096 + 1 * (j 1).val = (j 1).val
    rw [(idx0 t).2]; omega
theorem blk1 (h : V m c main_v2 = arr S512x4096 f) : iblk m c 1 t = arr S512x4096 fun i j _ => f i j 0 := by
  funext j
  unfold iblk
  rw [View.read_apply]
  show V m c main_v2 _ = _
  rw [h]
  refine at_congr (f := f) ?_ ?_
  · show win0_1.index t 0 * 512 + 1 * (j 0).val = (j 0).val
    rw [(idx1 t).1]; omega
  · show win0_1.index t 1 * 4096 + 1 * (j 1).val = (j 1).val
    rw [(idx1 t).2]; omega
theorem blk2 (h : m ((c : Thread nD τ).loc main_arg0) = arr S4096x2560 f) : iblk m c 2 t = arr S512x512 fun i j _ => f (t.val * 512 + i) j 0 := by
  funext j
  unfold iblk
  rw [View.read_apply]
  show V m c main_arg0 _ = _
  rw [V_main_arg0, h]
  refine at_congr (f := f) ?_ ?_
  · show win0_2.index t 0 * 512 + 1 * (j 0).val = t.val * 512 + (j 0).val
    rw [(idx2 t).1]; omega
  · show win0_2.index t 1 * 512 + 1 * (j 1).val = (j 1).val
    rw [(idx2 t).2]; omega
theorem blk3 (h : V m c main_v8 = arr S1x512 f) : iblk m c 3 t = arr S1x512 fun _ j _ => f 0 j 0 := by
  funext j
  unfold iblk
  rw [View.read_apply]
  show V m c main_v8 _ = _
  rw [h]
  refine at_congr (f := f) ?_ ?_
  · show win0_3.index t 0 * 1 + 1 * (j 0).val = 0
    have : (j 0).val < 1 := (j 0).isLt
    rw [(idx3 t).1]; omega
  · show win0_3.index t 1 * 512 + 1 * (j 1).val = (j 1).val
    rw [(idx3 t).2]; omega

/-! ## What the points leave -/

section Points
variable (d w : ℕ → ℕ → EReal) (x : ℕ → ℕ → EReal) (g : ℕ → EReal)

/-- The block's upstream gradient: the row of `d` against the row of `w`. -/
def up (i j : ℕ) : EReal := ∑ k ∈ Finset.range 4096, d i k * w j k
/-- The row's reciprocal root mean square. -/
def rr (i : ℕ) : EReal := Ideal.rsqrt (Ideal.div (∑ k ∈ Finset.range 512, x i k * x i k) (Ideal.ofBits .f32 0x44000000#32) + Ideal.ofBits .f32 0x358637BD#32)
/-- The row's normalized element. -/
def xh (i j : ℕ) : EReal := x i j * rr x i
/-- The block's result. -/
def dx (i j : ℕ) : EReal :=
  rr x i * (up d w i j * g j - xh x i j
    * Ideal.div (∑ k ∈ Finset.range 512, up d w i k * g k * xh x i k) (Ideal.ofBits .f32 0x44000000#32))

theorem pay2_eq : k0_pay2 (F := Ideal) (arr S512x4096 fun i j _ => d i j) (arr S512x4096 fun i j _ => w i j) = arr S512x512 fun i j _ => up d w i j := by
  unfold k0_pay2
  simp only [dot_S512x4096_S512x4096_S512x512_1_1_0_0_n_n, arr_cast_self, arr_const, Ideal.ofBits_zero_f32]
  rw [arr_matmul_nt (n := 512) (m := 512) (K := 4096)]
  simp only [zero_add]
  rfl
theorem pay3_eq : k0_pay3 (F := Ideal) (arr S512x512 fun i j _ => x i j) = arr S512x1 fun i _ _ => rr x i := by
  unfold k0_pay3
  simp only [arr_mul, arr_rowsum (n := 512) (m := 512), arr_cast_col, arr_bcast, arr_div, arr_add, arr_rsqrt]
  rfl
theorem pay4_eq : k0_pay4 (F := Ideal) (arr S512x512 fun i j _ => x i j) = arr S512x512 fun i j _ => xh x i j := by
  unfold k0_pay4
  simp only [pay3_eq, arr_mul, arr_spread_col]
  rfl
theorem pay6_eq (o : ℕ → ℕ → EReal) : k0_pay6 (F := Ideal) (arr S512x512 fun i j _ => x i j) (arr S512x4096 fun i j _ => d i j)
    (arr S512x4096 fun i j _ => w i j) (arr S1x512 fun i j _ => o i j)
      = arr S1x512 fun i j _ => o i j + ∑ k ∈ Finset.range 512, up d w k j * xh x k j := by
  unfold k0_pay6
  simp only [pay2_eq, pay4_eq, arr_cast_self, arr_mul, arr_colsum (n := 512) (m := 512), arr_cast_row, arr_add]
theorem pay7_eq : k0_pay7 (F := Ideal) (arr S512x4096 fun i j _ => d i j) (arr S512x4096 fun i j _ => w i j) (arr S1x512 fun _ j _ => g j)
    = arr S512x512 fun i j _ => up d w i j * g j := by
  unfold k0_pay7
  simp only [pay2_eq, arr_cast_self, arr_spread_row, arr_mul]
theorem pay8_eq : k0_pay8 (F := Ideal) (arr S512x512 fun i j _ => x i j) (arr S512x4096 fun i j _ => d i j) (arr S512x4096 fun i j _ => w i j)
    (arr S1x512 fun _ j _ => g j)
      = arr S512x512 fun i _ _ => Ideal.div (∑ k ∈ Finset.range 512, up d w i k * g k * xh x i k) (Ideal.ofBits .f32 0x44000000#32) := by
  unfold k0_pay8
  simp only [pay7_eq, pay4_eq, arr_mul, arr_rowsum (n := 512) (m := 512), arr_cast_col, arr_bcast, arr_div, arr_spread_col]

theorem outO_eq : outO (F := Ideal) (arr S512x4096 fun i j _ => d i j) (arr S512x4096 fun i j _ => w i j)
    (arr S512x512 fun i j _ => x i j) (arr S1x512 fun _ j _ => g j) = arr S512x512 fun i j _ => dx d w x g i j := by
  unfold outO k0_pay1
  simp only [pay3_eq, pay4_eq, pay7_eq, pay8_eq, arr_mul, arr_spread_col, arr_sub, arr_truncf]
  rfl
end Points
end Arrays

end Cert.KernelIdeal.QNorm
-- ==== Proof.QNormValue.lean ====
/-
  The query norm's gradient, kernel side: the two result arrays after the run. Row tile `t` of the first result is what
  point `t` leaves, its columns from 512 on keep the array the host passed in; the second result is the sum over all rows,
  512 of them added per point.
-/
module

public import proofs.«01_k».proof.Proof.QNormBlocks
public import Idealize.ShloMosaic.Lib.Pipeline.ValueKit.Geometry

@[expose] public section

set_option maxRecDepth 16384

noncomputable section

open Idealize.ShloMosaic Idealize.ShloMosaic.TcCoe Idealize.SL.Sem
open Idealize.ShloMosaic.Pipeline (Dat)
open Cert.Arr

namespace Cert.KernelIdeal.QNorm

open Cert.KernelIdeal Cert.KernelIdeal.Gen Cert.KernelIdeal.Value

variable (m : (ℓ : Loc nD τ sig) → Buf (Elt Ideal) ℓ) (c : Dev nD)
variable {p g w d z : ℕ → ℕ → ℕ → EReal}

/-- The arguments of the kernel as functions of coordinates. -/
structure Args (p g w d z : ℕ → ℕ → ℕ → EReal) : Prop where
  hp : m ((c : Thread nD τ).loc main_arg0) = arr S4096x2560 p
  hg : m ((c : Thread nD τ).loc main_arg1) = arr S512 g
  hw : m ((c : Thread nD τ).loc main_arg2) = arr S512x16x192 w
  hd : m ((c : Thread nD τ).loc main_arg3) = arr S4096x16x192 d
  hz : m ((c : Thread nD τ).loc main_arg4) = arr S4096x2048 z

/-- Heads side by side, each padded from 192 to 256 columns. -/
def heads (w : ℕ → ℕ → ℕ → EReal) (i j : ℕ) : EReal := if j % 256 < 192 then w i (j / 256) (j % 256) else 0
/-- The first result left of column 512. -/
def gO (p g w d : ℕ → ℕ → ℕ → EReal) (i j : ℕ) : EReal := dx (heads d) (heads w) (fun i j => p i j 0) (fun j => g j 0 0) i j
/-- Row `i`'s part of the second result. -/
def gG (p w d : ℕ → ℕ → ℕ → EReal) (i j : ℕ) : EReal := up (heads d) (heads w) i j * xh (fun i j => p i j 0) i j

variable (h : Args m c p g w d z)
include h

theorem rd0 (t : Fin cfg0.N) : iblk m c 0 t = arr S512x4096 fun i j _ => heads d (t.val * 512 + i) j :=
  blk0 m c t (f := fun i j _ => heads d i j) (V_dq m c (d := d) h.hd)
theorem rd1 (t : Fin cfg0.N) : iblk m c 1 t = arr S512x4096 fun i j _ => heads w i j :=
  blk1 m c t (f := fun i j _ => heads w i j) (V_w m c (w := w) h.hw)
theorem rd2 (t : Fin cfg0.N) : iblk m c 2 t = arr S512x512 fun i j _ => p (t.val * 512 + i) j 0 := blk2 m c t (f := p) h.hp
theorem rd3 (t : Fin cfg0.N) : iblk m c 3 t = arr S1x512 fun _ j _ => g j 0 0 :=
  blk3 m c t (f := fun _ j _ => g j 0 0) (V_g m c (g := g) h.hg)

/-- What a point leaves in the first result's block. -/
theorem outs1 (t : Fin cfg0.N) : (outsAt0 m c t.val t.isLt).1 = arr S512x512 fun i j _ => gO p g w d (t.val * 512 + i) j := by
  have e : outO (iblk m c 0 t) (iblk m c 1 t) (iblk m c 2 t) (iblk m c 3 t) = arr S512x512 fun i j _ => gO p g w d (t.val * 512 + i) j := by
    rw [rd0 m c h t, rd1 m c h t, rd2 m c h t, rd3 m c h t]
    exact outO_eq (fun i j => heads d (t.val * 512 + i) j) (heads w) (fun i j => p (t.val * 512 + i) j 0) (fun j => g j 0 0)
  by_cases h0 : t.val % 8 = 0
  · rw [outsAt0_A m c t h0]; dsimp only; rw [out_A4]; exact e
  · rw [outsAt0_B m c t h0]; dsimp only; rw [out_B4]; exact e

/-- What a point adds to the second result's block. -/
theorem adds (t : Fin cfg0.N) (o : ℕ → ℕ → EReal) :
    k0_pay6 (F := Ideal) (iblk m c 2 t) (iblk m c 0 t) (iblk m c 1 t) (arr S1x512 fun i j _ => o i j)
      = arr S1x512 fun i j _ => o i j + ∑ k ∈ Finset.range 512, gG p w d (t.val * 512 + k) j := by
  rw [rd0 m c h t, rd1 m c h t, rd2 m c h t]
  exact pay6_eq (fun i j => heads d (t.val * 512 + i) j) (heads w) (fun i j => p (t.val * 512 + i) j 0) o

omit h in
theorem pay5_eq : k0_pay5 (F := Ideal) = arr S1x512 fun _ _ _ => 0 := by
  unfold k0_pay5
  simp only [arr_bcast, Ideal.ofBits_zero_f32]

theorem outs2 : ∀ (n : ℕ) (hn : n < cfg0.N), (outsAt0 m c n hn).2 = arr S1x512 fun _ j _ => ∑ k ∈ Finset.range ((n + 1) * 512), gG p w d k j := by
  intro n
  induction n with
  | zero =>
    intro hn
    rw [outsAt0_A m c ⟨0, hn⟩ rfl]
    dsimp only
    rw [out_A5, pay5_eq, adds m c h ⟨0, hn⟩ fun _ _ => 0]
    simp only [zero_add, zero_mul, one_mul]
  | succ n ih =>
    intro hn
    have h0 : ¬(⟨n + 1, hn⟩ : Fin cfg0.N).val % 8 = 0 := by
      have hN : n + 1 < 8 := hn
      show ¬(n + 1) % 8 = 0; omega
    rw [outsAt0_B m c ⟨n + 1, hn⟩ h0]
    dsimp only
    rw [out_B5]
    show k0_pay6 _ _ _ (outsAt0 m c n _).2 = _
    rw [ih, adds m c h ⟨n + 1, hn⟩ fun _ j => ∑ k ∈ Finset.range ((n + 1) * 512), gG p w d k j]
    simp only [show (n + 1 + 1) * 512 = (n + 1) * 512 + 512 by ring, Finset.sum_range_add]

/-- The second result. -/
theorem final5 : (dats m 0 c).arrAt 5 cfg0.N = arr S1x512 fun _ j _ => ∑ k ∈ Finset.range 4096, gG p w d k j := by
  refine (dats m 0 c).arrAt_eq_of_covers 5 _ (by decide +kernel) fun t hf y => ?_
  blk_simp
  rw [after0_5, outs2 m c h]
  have ht := (flush0_5 t).mp hf
  have hN : t.val < 8 := t.isLt
  rw [show (t.val + 1) * 512 = 4096 by omega]
  have e1 : (((win0_5.blk t).view.emb y) 1).val = (y 1).val := by blk_simp [(idx5 t).2]
  exact congrArg (fun j => ∑ k ∈ Finset.range 4096, gG p w d k j) e1.symm

/-- The first result. -/
theorem final4 : (dats m 0 c).arrAt 4 cfg0.N = arr S4096x2560 fun i j _ =>
    if j < 512 then gO p g w d i j else z i (j - 512) 0 := by
  funext i
  have hi0 : (i 0).val < 4096 := (i 0).isLt
  have hi1 : (i 1).val < 2560 := (i 1).isLt
  by_cases hj : (i 1).val < 512
  · have ht : (i 0).val / 512 < cfg0.N := by show _ < 8; omega
    refine (dats m 0 c).arrAt_forall_of_flushed 4 (fun i v => v = arr S4096x2560 (fun i j _ =>
      if j < 512 then gO p g w d i j else z i (j - 512) 0) i) (fun t hf y => ?_) cfg0.N ⟨(i 0).val / 512, ht⟩ i ht (flush0_4 _) ?_
    · rw [Pipeline.Dat.flushed_apply]
      blk_simp
      rw [after0_4, outs1 m c h]
      have hy : (y 1).val < 512 := (y 1).isLt
      have e0 : (((win0_4.blk t).view.emb y) 0).val = t.val * 512 + (y 0).val := by blk_simp [(idx4 t).1]
      have e1 : (((win0_4.blk t).view.emb y) 1).val = (y 1).val := by blk_simp [(idx4 t).2]
      show gO p g w d (t.val * 512 + (y 0).val) (y 1).val = if (((win0_4.blk t).view.emb y) 1).val < 512 then
        gO p g w d (((win0_4.blk t).view.emb y) 0).val (((win0_4.blk t).view.emb y) 1).val else _
      rw [e0, e1, if_pos hy]
    · mem_blk [(idx4 ⟨(i 0).val / 512, ht⟩).1, (idx4 ⟨(i 0).val / 512, ht⟩).2]
      show ((i 0).val / 512 * 512 ≤ _ ∧ _ < (i 0).val / 512 * 512 + 512) ∧ _
      omega
  · rw [entry4 m c i (fun t _ => ?_)]
    · show V m c main_v9_0 i = _
      rw [V_dz m c h.hz]
      show (if 512 ≤ (i 1).val ∧ (i 1).val - 512 < 2048 then z (i 0).val ((i 1).val - 512) 0 else 0) = if (i 1).val < 512 then _ else _
      rw [if_neg hj, if_pos (by constructor <;> [exact Nat.le_of_not_lt hj; exact Nat.sub_lt_left_of_lt_add (Nat.le_of_not_lt hj) hi1])]
      rfl
    · mem_blk [(idx4 t).1, (idx4 t).2]
      omega

end Cert.KernelIdeal.QNorm
-- ==== Proof.QNormReference.lean ====
/-
  The query norm's gradient, reference side: what the two results hold, as formulas of the arguments' elements.
-/
module

public import proofs.«01_k».proof.Proof.Arr
public import proofs.«01_k».proof.Proof.Gen.ReferenceIdeal.Run

@[expose] public section

set_option maxRecDepth 16384

noncomputable section

open Idealize.ShloMosaic Idealize.ShloMosaic.TcCoe Idealize.SL.Sem
open Cert.Arr
open scoped BigOperators

namespace Cert.ReferenceIdeal.QNorm

open Cert.ReferenceIdeal Cert.ReferenceIdeal.Gen

section Formulas
variable (p g w d z : ℕ → ℕ → ℕ → EReal)

/-- The gradient of the normalized query, scaled: the product over both axes of the heads. -/
def up (i j : ℕ) : EReal := ∑ h ∈ Finset.range 16, ∑ q ∈ Finset.range 192, d i h q * w j h q
/-- The mean square, with its constant. -/
def ms (i : ℕ) : EReal :=
  Ideal.div (∑ k ∈ Finset.range 512, p i k 0 * p i k 0) (Ideal.ofBits .f32 0x44000000#32) + Ideal.ofBits .f32 0x358637BD#32
/-- The first result left of column 512. -/
def dp (i j : ℕ) : EReal :=
  up w d i j * g j 0 0 * Ideal.rsqrt (ms p i)
    + Ideal.div ((∑ k ∈ Finset.range 512, p i k 0 * (up w d i k * g k 0 0))
        * (Ideal.ofBits .f32 0xBF000000#32 * Ideal.div (Ideal.rsqrt (ms p i)) (ms p i))) (Ideal.ofBits .f32 0x44000000#32)
      * (Ideal.ofBits .f32 0x40000000#32 * p i j 0)
/-- The second result. -/
def dg (j : ℕ) : EReal := ∑ i ∈ Finset.range 4096, p i j 0 * Ideal.rsqrt (ms p i) * up w d i j
end Formulas

variable (m : (ℓ : Loc nD τ sig) → Buf (Elt Ideal) ℓ) (ρ : Dev nD → PrngReg)
variable {p g w d z : ℕ → ℕ → ℕ → EReal}

/-- The arguments of the reference as functions of coordinates. -/
structure Args (c : Dev nD) (p g w d z : ℕ → ℕ → ℕ → EReal) : Prop where
  hp : m ((c : Thread nD τ).loc main_arg0) = arr S4096x2560 p
  hg : m ((c : Thread nD τ).loc main_arg1) = arr S512 g
  hw : m ((c : Thread nD τ).loc main_arg2) = arr S512x16x192 w
  hd : m ((c : Thread nD τ).loc main_arg3) = arr S4096x16x192 d
  hz : m ((c : Thread nD τ).loc main_arg4) = arr S4096x2048 z

/-- The run, its results by their formulas. -/
theorem run_at {p g w d z : Dev nD → ℕ → ℕ → ℕ → EReal} (h : ∀ c, Args m c (p c) (g c) (w c) (d c) (z c)) :
    θ_run defs (onTc (τ := τ) (main (F := Ideal))) ⟨m, fun _ => 0, ρ⟩ fun r => ∀ c : Dev nD,
      r.2.mem ((c.tc : Thread nD τ).loc main_v41) = arr S4096x2560 (fun i j _ => if j < 512 then dp (p c) (g c) (w c) (d c) i j else z c i (j - 512) 0)
      ∧ r.2.mem ((c.tc : Thread nD τ).loc main_v42) = arr S1x512 (fun _ j _ => dg (p c) (w c) (d c) j)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r hr c => ⟨(hr c).1.trans ?_, (hr c).2.1.trans ?_, (hr c).2.2⟩) (Value.run m ρ)
  · refine Eq.trans (b := arr S4096x2560 fun i j _ => if j < 512 then dp (p c) (g c) (w c) (d c) i j else z c i (j - 512) 0)
      (concat1_eq (n := 4096) (m := 2560) (m₁ := 512) (m₂ := 2048) (fun i j _ => dp (p c) (g c) (w c) (d c) i j) (z c) ?_ (h c).hz concatenates_S4096x512_S4096x2048_S4096x2560_d1) rfl
    rw [(h c).hp, (h c).hg, (h c).hw, (h c).hd]
    simp only [dot_S4096x16x192_S512x16x192_S4096x512_12_12_0_0_n_n, arr_dot_12_12 (n := 4096) (m := 512) (K := 16) (L := 192), arr_slice2 (n := 4096) (m := 2560) (n' := 4096) (m' := 512), arr_mul, arr_const,
      arr_hrowsum (n := 4096) (m := 512), arr_hrowsum (n := 4096) (m := 1), arr_cast_col (n := 4096), arr_bid0, arr_bid_1_0 (n := 4096) (m := 1), arr_bid_1_1 (n := 1) (m := 512), arr_bid_col (n := 4096) (m := 512),
      arr_bid_row (n := 4096) (m := 512), arr_hdiv, arr_add, arr_hrsqrt, Ideal.ofBits_zero_f32, zero_add, Finset.sum_range_one]
    rfl
  · rw [(h c).hp, (h c).hw, (h c).hd]
    simp only [dot_S4096x16x192_S512x16x192_S4096x512_12_12_0_0_n_n, arr_dot_12_12 (n := 4096) (m := 512) (K := 16) (L := 192), arr_slice2 (n := 4096) (m := 2560) (n' := 4096) (m' := 512), arr_mul, arr_const,
      arr_hrowsum (n := 4096) (m := 512), arr_hcolsum (n := 4096) (m := 512), arr_hcolsum (n := 1) (m := 512), arr_cast_row (n := 512), arr_bid0, arr_bid_1_0 (n := 4096) (m := 1), arr_bid_col (n := 4096) (m := 512),
      arr_hdiv, arr_add, arr_hrsqrt, Ideal.ofBits_zero_f32, zero_add, Finset.sum_range_one]
    rfl

/-- The reference leaves its arguments, and every counter at zero. -/
theorem frame :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0 :=
  (θ_run defs _ _).mono (fun r h => ⟨fun c => (h c).2.2, sem_eq_zero_of_no_sems (by decide) r.2⟩) (Value.run m ρ)

end Cert.ReferenceIdeal.QNorm
-- ==== Proof.RealForm.lean ====
/-
  Extended reals that are finite: a formula of finite values, brought to the coercion of one real formula, and the
  finiteness that a precondition "|x| < ∞" states. Sums over a merged axis, for any values.
-/
module

public import proofs.«01_k».proof.Proof.Arr
public import Idealize.ShloMosaic.Lib.Pointwise.Select

@[expose] public section

noncomputable section

open Idealize.ShloMosaic
open scoped BigOperators

namespace Cert.Arr

/-! ## Finite values -/

theorem cadd (a b : ℝ) : (a : EReal) + (b : EReal) = ((a + b : ℝ) : EReal) := (EReal.coe_add a b).symm
theorem csub (a b : ℝ) : (a : EReal) - (b : EReal) = ((a - b : ℝ) : EReal) := (EReal.coe_sub a b).symm
theorem cmul (a b : ℝ) : (a : EReal) * (b : EReal) = ((a * b : ℝ) : EReal) := (EReal.coe_mul a b).symm
theorem cneg (a : ℝ) : -(a : EReal) = ((-a : ℝ) : EReal) := (EReal.coe_neg a).symm
theorem csum (s : Finset ℕ) (f : ℕ → ℝ) : ∑ i ∈ s, (f i : EReal) = ((∑ i ∈ s, f i : ℝ) : EReal) := by
  induction s using Finset.cons_induction with
  | empty => simp
  | cons a s ha ih => rw [Finset.sum_cons, Finset.sum_cons, ih, cadd]
theorem cdiv (a : ℝ) {b : ℝ} (h : b ≠ 0) : Ideal.div (a : EReal) (b : EReal) = ((a / b : ℝ) : EReal) := by
  rw [Ideal.div_coe h, cmul, mul_one_div]
theorem crsqrt {a : ℝ} (h : 0 < a) : Ideal.rsqrt (a : EReal) = (((Real.sqrt a)⁻¹ : ℝ) : EReal) := by
  rw [Ideal.rsqrt_coe, if_neg h.le.not_gt, if_neg h.ne']
theorem cite (p : Prop) [Decidable p] (a b : ℝ) : (if p then (a : EReal) else (b : EReal)) = ((if p then a else b : ℝ) : EReal) := by
  split <;> rfl

/-! ## Constants -/

theorem k512 : Ideal.ofBits .f32 0x44000000#32 = ((512 : ℝ) : EReal) := by
  simp [Ideal.ofBits, Ideal.ieee, -EReal.coe_mul]; norm_num
theorem k2 : Ideal.ofBits .f32 0x40000000#32 = ((2 : ℝ) : EReal) := by
  simp [Ideal.ofBits, Ideal.ieee, -EReal.coe_mul]; norm_num
theorem kmhalf : Ideal.ofBits .f32 0xBF000000#32 = ((-(1 / 2) : ℝ) : EReal) := by
  simp [Ideal.ofBits, Ideal.ieee, -EReal.coe_mul]; norm_num
/-- The constant under the root mean square is a positive real. -/
theorem keps6 : ∃ e : ℝ, 0 < e ∧ Ideal.ofBits .f32 0x358637BD#32 = (e : EReal) := by
  refine ⟨(8796093 : ℝ) * (2 : ℝ) ^ (-43 : ℤ), by positivity, ?_⟩
  simp [Ideal.ofBits, Ideal.ieee, -EReal.coe_mul]

/-! ## Finiteness -/

theorem real_of_lt_top {x : EReal} (h : max x (-x) < ⊤) : ∃ r : ℝ, x = r := by
  induction x with
  | bot => simp at h
  | coe r => exact ⟨r, rfl⟩
  | top => simp at h

theorem kinf : Ideal.ofBits .f32 0x7F800000#32 = ⊤ := by
  simp [Ideal.ofBits, Ideal.ieee]

/-- An array below infinity in absolute value holds real numbers. -/
theorem finite_of_olt {s : Shape} (x : s.Idx → EReal) (d) (hb)
    (h : cmpf (F := Ideal) (φ := .f32) .olt (Host.absf (F := Ideal) (φ := .f32) x) (broadcastInDim s d hb (constant (F := Ideal) ⟨0, ![]⟩ .f32 0x7F800000#32))
      = fun _ => 1#1) (i : s.Idx) : ∃ r : ℝ, x i = r := by
  have hi := congrFun h i
  have hi : Ideal.cmp .olt (max (x i) (-x i)) (Ideal.ofBits .f32 0x7F800000#32) = 1 := hi
  rw [Ideal.cmp_olt_eq_one, kinf] at hi
  exact real_of_lt_top hi

/-- The elements of an array of real numbers, by coordinates. -/
theorem real1 {n : ℕ} (f : ℕ → ℕ → ℕ → EReal) (h : ∀ i, ∃ r : ℝ, arr ⟨1, ![n]⟩ f i = r) :
    ∃ r : ℕ → ℝ, ∀ i, i < n → f i 0 0 = r i := by
  refine ⟨fun i => (f i 0 0).toReal, fun i hi => ?_⟩
  obtain ⟨r, hr⟩ := h (ValueIdx.ix1 ⟨i, hi⟩)
  have hr : f i 0 0 = r := hr
  simp [hr]
theorem real2 {n m : ℕ} (f : ℕ → ℕ → ℕ → EReal) (h : ∀ i, ∃ r : ℝ, arr ⟨2, ![n, m]⟩ f i = r) :
    ∃ r : ℕ → ℕ → ℝ, ∀ i j, i < n → j < m → f i j 0 = r i j := by
  refine ⟨fun i j => (f i j 0).toReal, fun i j hi hj => ?_⟩
  obtain ⟨r, hr⟩ := h (ValueIdx.ix2 ⟨i, hi⟩ ⟨j, hj⟩)
  have hr : f i j 0 = r := hr
  simp [hr]
theorem real3 {n m l : ℕ} (f : ℕ → ℕ → ℕ → EReal) (h : ∀ i, ∃ r : ℝ, arr ⟨3, ![n, m, l]⟩ f i = r) :
    ∃ r : ℕ → ℕ → ℕ → ℝ, ∀ i j k, i < n → j < m → k < l → f i j k = r i j k := by
  refine ⟨fun i j k => (f i j k).toReal, fun i j k hi hj hk => ?_⟩
  obtain ⟨r, hr⟩ := h (ValueIdx.ix3 ⟨i, hi⟩ ⟨j, hj⟩ ⟨k, hk⟩)
  have hr : f i j k = r := hr
  simp [hr]
/-- A sum of real numbers is real. -/
theorem rsum {n : ℕ} {f : ℕ → EReal} {r : ℕ → ℝ} (h : ∀ k, k < n → f k = r k) :
    ∑ k ∈ Finset.range n, f k = ((∑ k ∈ Finset.range n, r k : ℝ) : EReal) := by
  rw [← csum]; exact Finset.sum_congr rfl fun k hk => h k (Finset.mem_range.mp hk)

/-! ## The gradient of a root mean square norm -/

/-- With `r` the reciprocal root of the positive mean square `a`, the gradient through the norm in two forms: by the
    normalized row, and by the derivative of the reciprocal root. -/
theorem rms_grad {n : ℕ} (x t : ℕ → ℝ) (a N : ℝ) (ha : 0 < a) (j : ℕ) :
    (√a)⁻¹ * (t j - x j * (√a)⁻¹ * ((∑ k ∈ Finset.range n, t k * (x k * (√a)⁻¹)) / N))
      = t j * (√a)⁻¹ + (∑ k ∈ Finset.range n, x k * t k) * (-(1 / 2) * ((√a)⁻¹ / a)) / N * (2 * x j) := by
  have hs : (∑ k ∈ Finset.range n, t k * (x k * (√a)⁻¹)) = (∑ k ∈ Finset.range n, x k * t k) * (√a)⁻¹ := by
    rw [Finset.sum_mul]; exact Finset.sum_congr rfl fun k _ => by ring
  have hr : (√a)⁻¹ / a = (√a)⁻¹ * (√a)⁻¹ * (√a)⁻¹ := by
    have h0 : √a ≠ 0 := (Real.sqrt_pos.mpr ha).ne'
    field_simp
    exact Real.sq_sqrt ha.le
  rw [hs, hr]; ring

/-! ## Sums over merged axes -/

variable {M : Type} [AddCommMonoid M]

/-- A sum over an axis of length `a * b` is the sum over its two parts. -/
theorem sum_merge (a b : ℕ) (hb : 0 < b) (F : ℕ → ℕ → M) :
    ∑ k ∈ Finset.range (a * b), F (k / b) (k % b) = ∑ i ∈ Finset.range a, ∑ j ∈ Finset.range b, F i j := by
  induction a with
  | zero => simp
  | succ a ih =>
    rw [Nat.succ_mul, Finset.sum_range_add, ih, Finset.sum_range_succ]
    congr 1
    refine Finset.sum_congr rfl fun j hj => ?_
    have hj := Finset.mem_range.mp hj
    rw [show (a * b + j) / b = a by rw [Nat.mul_comm, Nat.mul_add_div hb, Nat.div_eq_of_lt hj]; rfl,
      show (a * b + j) % b = j by rw [Nat.mul_comm, Nat.mul_add_mod, Nat.mod_eq_of_lt hj]]

/-- A sum whose terms from `n` on are zero. -/
theorem sum_pad {n l : ℕ} (h : n ≤ l) (F : ℕ → M) :
    (∑ k ∈ Finset.range l, if k < n then F k else 0) = ∑ k ∈ Finset.range n, F k := by
  rw [← Finset.sum_filter]
  congr 1
  ext k; simp; omega

end Cert.Arr
-- ==== Proof.QNormEquation.lean ====
/-
  The query norm's gradient: the kernel's formulas equal the reference's. The product over the padded heads is the product
  over the two axes of the heads, for any values; the rest is one identity of real numbers, used where the arguments are
  finite.
-/
module

public import proofs.«01_k».proof.Proof.QNormValue
public import proofs.«01_k».proof.Proof.QNormReference
public import proofs.«01_k».proof.Proof.RealForm

@[expose] public section

noncomputable section

open Idealize.ShloMosaic
open Cert.Arr
open Cert.KernelIdeal.QNorm (heads gO gG)

namespace Cert.QNorm

variable (p g w d z : ℕ → ℕ → ℕ → EReal)

/-- The product over the padded heads. -/
theorem up_eq (i j : ℕ) : KernelIdeal.QNorm.up (heads d) (heads w) i j = ReferenceIdeal.QNorm.up w d i j := by
  unfold KernelIdeal.QNorm.up ReferenceIdeal.QNorm.up heads
  rw [show (4096 : ℕ) = 16 * 256 from rfl, sum_merge 16 256 (by omega) fun h q => (if q < 192 then d i h q else 0) * (if q < 192 then w j h q else 0)]
  refine Finset.sum_congr rfl fun h _ => ?_
  rw [← sum_pad (show 192 ≤ 256 by omega)]
  refine Finset.sum_congr rfl fun q _ => ?_
  split <;> simp

/-- The second result's summand. -/
theorem gG_eq (i j : ℕ) : gG p w d i j = p i j 0 * Ideal.rsqrt (ReferenceIdeal.QNorm.ms p i) * ReferenceIdeal.QNorm.up w d i j := by
  unfold gG; rw [up_eq, mul_comm]; rfl

/-- The first result, where the arguments are finite. -/
theorem gO_eq {P : ℕ → ℕ → ℝ} {G : ℕ → ℝ} {W D : ℕ → ℕ → ℕ → ℝ}
    (hp : ∀ i j, i < 4096 → j < 512 → p i j 0 = P i j) (hg : ∀ j, j < 512 → g j 0 0 = G j)
    (hw : ∀ i j k, i < 512 → j < 16 → k < 192 → w i j k = W i j k)
    (hd : ∀ i j k, i < 4096 → j < 16 → k < 192 → d i j k = D i j k) (i j : ℕ) (hi : i < 4096) (hj : j < 512) :
    gO p g w d i j = ReferenceIdeal.QNorm.dp p g w d i j := by
  obtain ⟨e, he, hk⟩ := keps6
  let U : ℕ → ℝ := fun j => ∑ h ∈ Finset.range 16, ∑ q ∈ Finset.range 192, D i h q * W j h q
  have hU : ∀ j, j < 512 → ReferenceIdeal.QNorm.up w d i j = (U j : EReal) := fun j hj =>
    rsum fun h hh => rsum fun q hq => by rw [hd i h q hi hh hq, hw j h q hj hh hq, cmul]
  let a : ℝ := (∑ k ∈ Finset.range 512, P i k * P i k) / 512 + e
  have ha : 0 < a := by
    have : 0 ≤ ∑ k ∈ Finset.range 512, P i k * P i k := Finset.sum_nonneg fun k _ => mul_self_nonneg _
    positivity
  have hm : ReferenceIdeal.QNorm.ms p i = (a : EReal) := by
    unfold ReferenceIdeal.QNorm.ms
    rw [rsum (r := fun k => P i k * P i k) fun k hk => by rw [hp i k hi hk, cmul], k512, hk, cdiv _ (by norm_num), cadd]
  have hr : KernelIdeal.QNorm.rr (fun i j => p i j 0) i = (((√a)⁻¹ : ℝ) : EReal) := by
    show Ideal.rsqrt (ReferenceIdeal.QNorm.ms p i) = _
    rw [hm, crsqrt ha]
  unfold gO KernelIdeal.QNorm.dx KernelIdeal.QNorm.xh ReferenceIdeal.QNorm.dp
  simp only [up_eq]
  rw [hr, hm, crsqrt ha, hU j hj, hg j hj, hp i j hi hj,
    rsum (f := fun k => ReferenceIdeal.QNorm.up w d i k * g k 0 0 * (p i k 0 * (((√a)⁻¹ : ℝ) : EReal))) (r := fun k => U k * G k * (P i k * (√a)⁻¹))
      fun k hk => by rw [hU k hk, hg k hk, hp i k hi hk]; simp only [cmul],
    rsum (f := fun k => p i k 0 * (ReferenceIdeal.QNorm.up w d i k * g k 0 0)) (r := fun k => P i k * (U k * G k))
      fun k hk => by rw [hU k hk, hg k hk, hp i k hi hk]; simp only [cmul],
    k512, k2, kmhalf]
  simp only [cmul, cdiv _ (show (512 : ℝ) ≠ 0 by norm_num), cdiv _ ha.ne', csub, cadd]
  exact congrArg _ (rms_grad (P i) (fun k => U k * G k) a 512 ha j)

end Cert.QNorm
-- ==== Proof.QNorm.lean ====
/-
  The query norm's gradient: the claims about this call.
-/
module

public import proofs.«01_k».proof.Defs
public import proofs.«01_k».proof.Proof.QNormEquation
public import proofs.«01_k».proof.Proof.Gen.Kernel.Frame

@[expose] public section

noncomputable section

open Idealize.ShloMosaic Idealize.ShloMosaic.TcCoe Idealize.SL.Sem
open Cert.Arr

namespace Cert.QNorm

/-- The facts the precondition's text states. -/
instance preFacts : Cert.Pre_q_norm_finite.Facts where
  slices_S4096x2560_S4096x512_0_0 := by decide +kernel
  bcast_S_S4096x512 := by decide +kernel
  bcast_S_S512 := by decide +kernel
  bcast_S_S512x16x192 := by decide +kernel
  bcast_S_S4096x16x192 := by decide +kernel

/-- The two programs' results are equal where the arguments are finite. -/
theorem value : Cert.algebraic_KernelIdeal_ReferenceIdeal_pre_q_norm_finite := by
  intro m ρ m' ρ' hpre hargs
  have key : ∀ c : Dev Cert.KernelIdeal.nD, ∃ p g w d z, Cert.KernelIdeal.QNorm.Args m c p g w d z ∧ Cert.ReferenceIdeal.QNorm.Args m' c p g w d z
      ∧ (∀ i j, i < 4096 → j < 512 → Cert.KernelIdeal.QNorm.gO p g w d i j = Cert.ReferenceIdeal.QNorm.dp p g w d i j) := by
    intro c
    obtain ⟨a0, a1, a2, a3, a4⟩ := hargs c
    obtain ⟨f0, f1, f2, f3⟩ := hpre c
    obtain ⟨p, hp⟩ := exists_arr (s := ⟨2, ![4096, 2560]⟩) (by decide) (m ((c.tc : Thread Cert.KernelIdeal.nD Cert.KernelIdeal.τ).loc Cert.KernelIdeal.main_arg0))
    obtain ⟨g, hg⟩ := exists_arr (s := ⟨1, ![512]⟩) (by decide) (m ((c.tc : Thread Cert.KernelIdeal.nD Cert.KernelIdeal.τ).loc Cert.KernelIdeal.main_arg1))
    obtain ⟨w, hw⟩ := exists_arr (s := ⟨3, ![512, 16, 192]⟩) (by decide) (m ((c.tc : Thread Cert.KernelIdeal.nD Cert.KernelIdeal.τ).loc Cert.KernelIdeal.main_arg2))
    obtain ⟨d, hd⟩ := exists_arr (s := ⟨3, ![4096, 16, 192]⟩) (by decide) (m ((c.tc : Thread Cert.KernelIdeal.nD Cert.KernelIdeal.τ).loc Cert.KernelIdeal.main_arg3))
    obtain ⟨z, hz⟩ := exists_arr (s := ⟨2, ![4096, 2048]⟩) (by decide) (m ((c.tc : Thread Cert.KernelIdeal.nD Cert.KernelIdeal.τ).loc Cert.KernelIdeal.main_arg4))
    rw [hp, hg, hw, hd, hz] at f0 f1 f2 f3
    obtain ⟨P, hP⟩ := real2 (n := 4096) (m := 512) (fun i j _ => p (0 + i) (0 + j) 0) (finite_of_olt _ _ _ f0)
    obtain ⟨G, hG⟩ := real1 g (finite_of_olt _ _ _ f1)
    obtain ⟨W, hW⟩ := real3 w (finite_of_olt _ _ _ f2)
    obtain ⟨D, hD⟩ := real3 d (finite_of_olt _ _ _ f3)
    exact ⟨p, g, w, d, z, ⟨hp, hg, hw, hd, hz⟩, ⟨a0.trans hp, a1.trans hg, a2.trans hw, a3.trans hd, a4.trans hz⟩,
      gO_eq p g w d (P := P) (fun i j hi hj => by simpa using hP i j hi hj) hG hW hD⟩
  choose p g w d z hk hr he using key
  refine ⟨_, _, (θ_run Cert.KernelIdeal.defs _ _).mono (fun r h c => ⟨(h c).1.trans (Cert.KernelIdeal.QNorm.final4 m c (hk c)),
    (h c).2.1.trans (Cert.KernelIdeal.QNorm.final5 m c (hk c)), (h c).2.2⟩) (Cert.KernelIdeal.Value.run_blocks m ρ), ?_⟩
  refine (θ_run Cert.ReferenceIdeal.defs _ _).mono (fun r h c => ⟨(h c).1.trans ?_, (h c).2.1.trans ?_, (h c).2.2⟩)
    (Cert.ReferenceIdeal.QNorm.run_at m' ρ' hr)
  · refine arr2_ext fun i j hi hj => ?_
    by_cases hj : j < 512
    · simp only [if_pos hj]; exact (he c i j hi hj).symm
    · simp only [if_neg hj]
  · refine arr2_ext fun i j hi hj => ?_
    exact (Finset.sum_congr rfl fun k _ => (gG_eq (p c) (w c) (d c) k j)).symm

end Cert.QNorm
-- ==== Proof.Angle.lean ====
/-
  The rotation's angles, and their cosines and sines, as every program here computes them from the positions.
-/
module

public import proofs.«01_k».proof.Proof.Arr

@[expose] public section

noncomputable section

open Idealize.ShloMosaic

namespace Cert.Arr

/-- The rotation's angles: the position times the frequency of the column. -/
abbrev angle (p : Vec Ideal ⟨1, ![4096]⟩ .i32) : Vec Ideal ⟨2, ![4096, 32]⟩ .f32 :=
  mulf (F := Ideal) (φ := .f32) (broadcastInDim ⟨2, ![4096, 32]⟩ ![0, 1] (by decide) (broadcastInDim ⟨2, ![4096, 1]⟩ ![0] (by decide) (sitofp (F := Ideal) .f32 p)))
    (broadcastInDim ⟨2, ![4096, 32]⟩ ![0, 1] (by decide) (broadcastInDim ⟨2, ![1, 32]⟩ ![1] (by decide)
      (Host.powf (F := Ideal) (φ := .f32) (broadcastInDim ⟨1, ![32]⟩ ![] (by decide) (constant (F := Ideal) ⟨0, ![]⟩ .f32 0x461C4000#32))
        (Host.divf (F := Ideal) (φ := .f32) (Host.negf (F := Ideal) (φ := .f32) (addf (F := Ideal) (φ := .f32) (broadcastInDim ⟨1, ![32]⟩ ![] (by decide) (constant (F := Ideal) ⟨0, ![]⟩ .f32 0x00000000#32))
          (mulf (F := Ideal) (φ := .f32) (broadcastInDim ⟨1, ![32]⟩ ![] (by decide) (constant (F := Ideal) ⟨0, ![]⟩ .f32 0x40000000#32)) (sitofp (F := Ideal) .f32 (iotaInDim ⟨1, ![32]⟩ 32 0)))))
          (broadcastInDim ⟨1, ![32]⟩ ![] (by decide) (constant (F := Ideal) ⟨0, ![]⟩ .f32 0x42800000#32))))))
/-- The angles' cosines. -/
abbrev cosines (p : Vec Ideal ⟨1, ![4096]⟩ .i32) : Vec Ideal ⟨2, ![4096, 32]⟩ .f32 := Host.cos (F := Ideal) (φ := .f32) (angle p)
/-- The angles' sines. -/
abbrev sines (p : Vec Ideal ⟨1, ![4096]⟩ .i32) : Vec Ideal ⟨2, ![4096, 32]⟩ .f32 := Host.sin (F := Ideal) (φ := .f32) (angle p)

end Cert.Arr
-- ==== Proof.Boxes.lean ====
/-
  Loads and stores of boxes of rank-2 arrays, arrays joined along their last axis, and the exchange of a row's two halves.
-/
module

public import proofs.«01_k».proof.Proof.Arr
public import Idealize.ShloMosaic.Lib.Pipeline.Value

@[expose] public section

set_option maxRecDepth 16384

noncomputable section

open Idealize.ShloMosaic Idealize.SL.Sem Idealize.ShloMosaic.ValueIdx

namespace Cert.Arr

section Boxes
variable {n m : ℕ} {o0 o1 n' m' : ℕ}

/-- An array of any elements as a function of its coordinates. -/
def gar {α : Type} (s : Shape) (f : ℕ → ℕ → ℕ → α) : s.Idx → α := fun j => f (co j 0) (co j 1) (co j 2)

section General
variable {Val : EltTy → Type} {e : EltTy}

private theorem ld_gen (f : ℕ → ℕ → ℕ → Val e) (inb) :
    View.ld (Val := Val) (e' := e) (S := ⟨2, ![n, m]⟩) (gar ⟨2, ![n, m]⟩ f) (Rect.unit (s := ⟨2, ![n, m]⟩) ![o0, o1] ![n', m'] inb)
      = gar ⟨2, ![n', m']⟩ fun i j _ => f (o0 + i) (o1 + j) 0 := by
  funext y
  show f (o0 + 1 * (y 0).val) (o1 + 1 * (y 1).val) 0 = f (o0 + (y 0).val) (o1 + (y 1).val) 0
  rw [one_mul, one_mul]

private theorem canon_gen [∀ e, Nonempty (Val e)] (L : List (View.Piece Val ⟨2, ![n, m]⟩ e)) (g w : ℕ → ℕ → ℕ → Val e) (hL : View.canon L = gar ⟨2, ![n, m]⟩ g) (inb) :
    View.canon ((⟨Rect.unit (s := ⟨2, ![n, m]⟩) ![o0, o1] ![n', m'] inb, gar ⟨2, ![n', m']⟩ w⟩ : View.Piece Val ⟨2, ![n, m]⟩ e) :: L)
      = gar ⟨2, ![n, m]⟩ fun i j _ => if (o0 ≤ i ∧ i < o0 + n') ∧ o1 ≤ j ∧ j < o1 + m' then w (i - o0) (j - o1) 0 else g i j 0 := by
  funext y
  show _ = if (o0 ≤ (y 0).val ∧ (y 0).val < o0 + n') ∧ o1 ≤ (y 1).val ∧ (y 1).val < o1 + m' then w ((y 0).val - o0) ((y 1).val - o1) 0 else g (y 0).val (y 1).val 0
  by_cases h : (o0 ≤ (y 0).val ∧ (y 0).val < o0 + n') ∧ o1 ≤ (y 1).val ∧ (y 1).val < o1 + m'
  · rw [if_pos h]
    have hy : y = (Rect.unit (s := ⟨2, ![n, m]⟩) ![o0, o1] ![n', m'] inb).emb (ix2 ⟨(y 0).val - o0, by omega⟩ ⟨(y 1).val - o1, by omega⟩) := by
      funext a
      fin_cases a
      · exact Fin.ext (show (y 0).val = o0 + 1 * ((y 0).val - o0) by omega)
      · exact Fin.ext (show (y 1).val = o1 + 1 * ((y 1).val - o1) by omega)
    exact (congrArg _ hy).trans (View.canon_cons_emb _ _ _ _)
  · rw [if_neg h, View.canon_cons_of_not_mem]
    · rw [hL]; rfl
    · intro hm
      refine h ?_
      obtain ⟨x, rfl⟩ := (Rect.unit (s := ⟨2, ![n, m]⟩) ![o0, o1] ![n', m'] inb).exists_idx_of_mem hm
      have h0 : (x 0).val < n' := (x 0).isLt
      have h1 : (x 1).val < m' := (x 1).isLt
      show (o0 ≤ o0 + 1 * (x 0).val ∧ o0 + 1 * (x 0).val < o0 + n') ∧ o1 ≤ o1 + 1 * (x 1).val ∧ o1 + 1 * (x 1).val < o1 + m'
      omega

private theorem readCov_gen [∀ e, Nonempty (Val e)] {sig : RefSig} {κ : Kind} {sp : Space} (v : View sig κ sp ⟨2, ![n, m]⟩ e)
    (L : List (View.Piece Val ⟨2, ![n, m]⟩ e)) (g : ℕ → ℕ → ℕ → Val e) (hL : View.canon L = gar ⟨2, ![n, m]⟩ g) (inb) :
    v.readCov L (Rect.unit (s := ⟨2, ![n, m]⟩) ![o0, o1] ![n', m'] inb).toLoadRect = gar ⟨2, ![n', m']⟩ fun i j _ => g (o0 + i) (o1 + j) 0 := by
  rw [View.readCov_eq_canon', hL]
  funext y
  show g (o0 + 1 * (y 0).val) (o1 + 1 * (y 1).val) 0 = g (o0 + (y 0).val) (o1 + (y 1).val) 0
  rw [one_mul, one_mul]
end General

/-- A load of a box. -/
theorem ld_box_f32 (f : ℕ → ℕ → ℕ → EReal) (inb) :
    View.ld (Val := Elt Ideal) (e' := .f32) (S := ⟨2, ![n, m]⟩) (arr ⟨2, ![n, m]⟩ f) (Rect.unit (s := ⟨2, ![n, m]⟩) ![o0, o1] ![n', m'] inb)
      = arr ⟨2, ![n', m']⟩ fun i j _ => f (o0 + i) (o1 + j) 0 := ld_gen (Val := Elt Ideal) (e := .f32) f inb
/-- What a list of stores leaves, the last one a box. -/
theorem canon_box_f32 {L : List (View.Piece (Elt Ideal) ⟨2, ![n, m]⟩ .f32)} {g : ℕ → ℕ → ℕ → EReal} (w : ℕ → ℕ → ℕ → EReal) (hL : View.canon L = arr ⟨2, ![n, m]⟩ g) (inb) :
    View.canon ((⟨Rect.unit (s := ⟨2, ![n, m]⟩) ![o0, o1] ![n', m'] inb, arr ⟨2, ![n', m']⟩ w⟩ : View.Piece (Elt Ideal) ⟨2, ![n, m]⟩ .f32) :: L)
      = arr ⟨2, ![n, m]⟩ fun i j _ => if (o0 ≤ i ∧ i < o0 + n') ∧ o1 ≤ j ∧ j < o1 + m' then w (i - o0) (j - o1) 0 else g i j 0 :=
  canon_gen (Val := Elt Ideal) (e := .f32) L g w hL inb
/-- Any list of stores leaves some array. -/
theorem canon_some_f32 (L : List (View.Piece (Elt Ideal) ⟨2, ![n, m]⟩ .f32)) : ∃ g, View.canon L = arr ⟨2, ![n, m]⟩ g :=
  exists_arr (s := ⟨2, ![n, m]⟩) (Nat.le_succ 2) _
/-- A load of a box of what stores left. -/
theorem readCov_box_f32 {sig : RefSig} {κ : Kind} {sp : Space} (v : View sig κ sp ⟨2, ![n, m]⟩ .f32)
    {L : List (View.Piece (Elt Ideal) ⟨2, ![n, m]⟩ .f32)} {g : ℕ → ℕ → ℕ → EReal} (hL : View.canon L = arr ⟨2, ![n, m]⟩ g) (inb) :
    v.readCov L (Rect.unit (s := ⟨2, ![n, m]⟩) ![o0, o1] ![n', m'] inb).toLoadRect = arr ⟨2, ![n', m']⟩ fun i j _ => g (o0 + i) (o1 + j) 0 :=
  readCov_gen (Val := Elt Ideal) (e := .f32) v L g hL inb

/-- A load of a box. -/
theorem ld_box_bf16 (f : ℕ → ℕ → ℕ → EReal) (inb) :
    View.ld (Val := Elt Ideal) (e' := .bf16) (S := ⟨2, ![n, m]⟩) (arr ⟨2, ![n, m]⟩ f) (Rect.unit (s := ⟨2, ![n, m]⟩) ![o0, o1] ![n', m'] inb)
      = arr ⟨2, ![n', m']⟩ fun i j _ => f (o0 + i) (o1 + j) 0 := ld_gen (Val := Elt Ideal) (e := .bf16) f inb
/-- What a list of stores leaves, the last one a box. -/
theorem canon_box_bf16 {L : List (View.Piece (Elt Ideal) ⟨2, ![n, m]⟩ .bf16)} {g : ℕ → ℕ → ℕ → EReal} (w : ℕ → ℕ → ℕ → EReal) (hL : View.canon L = arr ⟨2, ![n, m]⟩ g) (inb) :
    View.canon ((⟨Rect.unit (s := ⟨2, ![n, m]⟩) ![o0, o1] ![n', m'] inb, arr ⟨2, ![n', m']⟩ w⟩ : View.Piece (Elt Ideal) ⟨2, ![n, m]⟩ .bf16) :: L)
      = arr ⟨2, ![n, m]⟩ fun i j _ => if (o0 ≤ i ∧ i < o0 + n') ∧ o1 ≤ j ∧ j < o1 + m' then w (i - o0) (j - o1) 0 else g i j 0 :=
  canon_gen (Val := Elt Ideal) (e := .bf16) L g w hL inb
/-- Any list of stores leaves some array. -/
theorem canon_some_bf16 (L : List (View.Piece (Elt Ideal) ⟨2, ![n, m]⟩ .bf16)) : ∃ g, View.canon L = arr ⟨2, ![n, m]⟩ g :=
  exists_arr (s := ⟨2, ![n, m]⟩) (Nat.le_succ 2) _
/-- A load of a box of what stores left. -/
theorem readCov_box_bf16 {sig : RefSig} {κ : Kind} {sp : Space} (v : View sig κ sp ⟨2, ![n, m]⟩ .bf16)
    {L : List (View.Piece (Elt Ideal) ⟨2, ![n, m]⟩ .bf16)} {g : ℕ → ℕ → ℕ → EReal} (hL : View.canon L = arr ⟨2, ![n, m]⟩ g) (inb) :
    v.readCov L (Rect.unit (s := ⟨2, ![n, m]⟩) ![o0, o1] ![n', m'] inb).toLoadRect = arr ⟨2, ![n', m']⟩ fun i j _ => g (o0 + i) (o1 + j) 0 :=
  readCov_gen (Val := Elt Ideal) (e := .bf16) v L g hL inb
end Boxes

section Joined
variable {n m l l₁ l₂ : ℕ} {f g : ℕ → ℕ → ℕ → EReal}

/-- Two rank-3 arrays joined along the last axis. -/
theorem concat2_eq {x : (⟨3, ![n, m, l₁]⟩ : Shape).Idx → EReal} {y : (⟨3, ![n, m, l₂]⟩ : Shape).Idx → EReal}
    (hx : x = arr _ f) (hy : y = arr _ g) (h) :
    concatenate ⟨3, ![n, m, l]⟩ 2 [⟨⟨3, ![n, m, l₁]⟩, x⟩, ⟨⟨3, ![n, m, l₂]⟩, y⟩] h
      = arr ⟨3, ![n, m, l]⟩ fun i j k => if k < l₁ then f i j k else g i j (k - l₁) := by
  subst hx hy
  funext j
  show _ = if (j 2).val < l₁ then f (j 0).val (j 1).val (j 2).val else g (j 0).val (j 1).val ((j 2).val - l₁)
  have hm : l₁ + l₂ = l := by have := h.2.2; simpa using this
  have h1 : (j 2).val < l := (j 2).isLt
  by_cases hj : (j 2).val < l₁
  · rw [if_pos hj, concatenate_pair_apply_left _ _ _ h j rfl (ix3 (j 0) (j 1) ⟨_, hj⟩) (fun b => by fin_cases b <;> rfl)]
    rfl
  · rw [if_neg hj, concatenate_pair_apply_right _ _ _ h j rfl rfl (ix3 (j 0) (j 1) ⟨(j 2).val - l₁, by omega⟩)
      (fun b hb => by fin_cases b <;> first | rfl | exact absurd rfl hb)
      (by show (j 2).val - l₁ + l₁ = (j 2).val; omega)]
    rfl
end Joined

section Swap
variable {n : ℕ} {f : ℕ → ℕ → ℕ → EReal} {φ : FTy}

theorem arr_neg {s : Shape} : Host.negf (F := Ideal) (φ := φ) (arr s f) = arr s fun i j k => -f i j k := rfl

/-- The row's elements 0 to 31 exchanged with 32 to 63: two rotations of the row, chosen by the column. -/
theorem arr_swap (hi h1 h2) :
    select (cmpi .slt (iota .tc ⟨2, ![n, 128]⟩ 32 [1] hi) (broadcast ⟨2, ![n, 128]⟩ 32#32))
      (dynamicRotate 1 96#32 none (arr ⟨2, ![n, 128]⟩ f) h1) (dynamicRotate 1 32#32 none (arr ⟨2, ![n, 128]⟩ f) h2)
      = arr ⟨2, ![n, 128]⟩ fun i j _ => if j < 32 then f i ((j + 32) % 128) 0 else f i ((j + 96) % 128) 0 := by
  funext y
  have hy : (y 1).val < 128 := (y 1).isLt
  show Scalar.select (IntOp.cmpi .slt (BitVec.ofNat 32 (0 * 128 + (y 1).val)) 32#32)
      (f (y 0).val (((y 1).val + 128 - (96 + 0) % 128) % 128) 0) (f (y 0).val (((y 1).val + 128 - (32 + 0) % 128) % 128) 0)
    = if (y 1).val < 32 then f (y 0).val (((y 1).val + 32) % 128) 0 else f (y 0).val (((y 1).val + 96) % 128) 0
  have hc : ∀ j : Fin 128, IntOp.cmpi .slt (BitVec.ofNat 32 (0 * 128 + j.val)) 32#32 = if j.val < 32 then 1#1 else 0#1 := by decide
  rw [hc ⟨(y 1).val, hy⟩]
  show Scalar.select (if (y 1).val < 32 then 1#1 else 0#1) _ _ = _
  by_cases h : (y 1).val < 32
  · rw [if_pos h, if_pos h, Scalar.select, if_pos (show (1#1 : BitVec 1) = 1 from rfl), show (y 1).val + 128 - (96 + 0) % 128 = (y 1).val + 32 by omega]
  · rw [if_neg h, if_neg h, Scalar.select, if_neg (by decide), show (y 1).val + 128 - (32 + 0) % 128 = (y 1).val + 96 by omega]
end Swap

end Cert.Arr
-- ==== Proof.KvForwardForm.lean ====
/-
  The latent projection: what its four results hold, as formulas of the arguments' elements, and the equations between the
  form the kernel computes (padded columns, heads of keys and values side by side) and the plain one.
-/
module

public import proofs.«01_k».proof.Proof.Boxes

@[expose] public section

noncomputable section

open Idealize.ShloMosaic
open scoped BigOperators

namespace Cert.KvForward

/-- The projection: the row of `x` against the column of `w`. -/
def pr (x w : ℕ → ℕ → EReal) (i j : ℕ) : EReal := ∑ k ∈ Finset.range 1024, x i k * w k j
/-- The row's reciprocal root mean square, over its 256 latent columns. -/
def rr (p : ℕ → ℕ → EReal) (i : ℕ) : EReal :=
  Ideal.rsqrt (Ideal.div (∑ k ∈ Finset.range 256, p i k * p i k) (Ideal.ofBits .f32 0x43800000#32) + Ideal.ofBits .f32 0x358637BD#32)
/-- The normalized latent, scaled. -/
def nm (p : ℕ → ℕ → EReal) (g : ℕ → EReal) (i j : ℕ) : EReal := p i j * rr p i * g j
/-- The normalized latent against a matrix of up-projections. -/
def upd (n u : ℕ → ℕ → EReal) (i j : ℕ) : EReal := ∑ k ∈ Finset.range 256, n i k * u k j
/-- The key's columns, from column 256 on, rotated: the columns against `rc`, their halves exchanged against `rs`. -/
def rot (p rc rs : ℕ → ℕ → EReal) (i j : ℕ) : EReal :=
  p i (256 + j) * rc i j + (if j < 32 then p i (256 + (j + 32) % 128) else p i (256 + (j + 96) % 128)) * rs i j

/-- An array padded with zeros from column `b` on. -/
def padded (b : ℕ) (f : ℕ → ℕ → EReal) (i j : ℕ) : EReal := if 0 ≤ j ∧ j - 0 < b then f i (j - 0) else 0
/-- The cosines twice. -/
def cos2 (cs : ℕ → ℕ → ℕ → EReal) (i j : ℕ) : EReal := if j < 32 then cs i j 0 else cs i (j - 32) 0
/-- The sines negated, and the sines. -/
def sin2 (sn : ℕ → ℕ → ℕ → EReal) (i j : ℕ) : EReal := if j < 32 then -sn i j 0 else sn i (j - 32) 0
/-- Two arrays' heads side by side: the first's 128 columns of a head, then the second's. -/
def heads (a b : ℕ → ℕ → ℕ → EReal) (i j : ℕ) : EReal :=
  if j % 256 < 128 then a i (j / 256) (j % 256) else b i (j / 256) (j % 256 - 128)
/-- The rotated key, plainly: the two halves of its 64 columns. -/
def rope (p : ℕ → ℕ → EReal) (cs sn : ℕ → ℕ → ℕ → EReal) (i j : ℕ) : EReal :=
  if j < 32 then p i (256 + j) * cs i j 0 - p i (256 + (32 + j)) * sn i j 0
  else p i (256 + (32 + (j - 32))) * cs i (j - 32) 0 + p i (256 + (j - 32)) * sn i (j - 32) 0

variable (x w : ℕ → ℕ → EReal)

theorem padded_lt {b : ℕ} (f : ℕ → ℕ → EReal) (i : ℕ) {j : ℕ} (h : j < b) : padded b f i j = f i j := if_pos ⟨Nat.zero_le _, h⟩
theorem padded_ge {b : ℕ} (f : ℕ → ℕ → EReal) (i : ℕ) {j : ℕ} (h : ¬j < b) : padded b f i j = 0 := if_neg fun e => h e.2

/-- The padded projection is the projection, padded. -/
theorem pr_padded : pr x (padded 320 w) = padded 320 (pr x w) := by
  funext i j
  unfold pr
  by_cases h : j < 320
  · rw [padded_lt _ _ h]
    exact Finset.sum_congr rfl fun k _ => by rw [padded_lt _ _ h]
  · rw [padded_ge _ _ h]
    exact Finset.sum_eq_zero fun k _ => by rw [padded_ge _ _ h, mul_zero]

variable (p : ℕ → ℕ → EReal)

theorem rr_padded (i : ℕ) : rr (padded 320 p) i = rr p i := by
  unfold rr
  rw [Finset.sum_congr rfl fun k hk => by
    rw [padded_lt p i (show k < 320 by have := Finset.mem_range.mp hk; omega)]]

/-- The normalized latent reads no padding. -/
theorem nm_padded (g : ℕ → EReal) (i : ℕ) {j : ℕ} (h : j < 256) : nm (padded 320 p) g i j = nm p g i j := by
  unfold nm
  rw [rr_padded, padded_lt p i (show j < 320 by omega)]

theorem upd_padded (g : ℕ → EReal) (u : ℕ → ℕ → EReal) (i j : ℕ) : upd (nm (padded 320 p) g) u i j = upd (nm p g) u i j := by
  unfold upd
  exact Finset.sum_congr rfl fun k hk => by rw [nm_padded p g i (Finset.mem_range.mp hk)]

/-- The product with the heads of two arrays side by side, element by element of the heads. -/
theorem upd_heads (n : ℕ → ℕ → EReal) (a b : ℕ → ℕ → ℕ → EReal) (i j : ℕ) :
    upd n (heads a b) i j = heads (fun i h q => ∑ k ∈ Finset.range 256, n i k * a k h q) (fun i h q => ∑ k ∈ Finset.range 256, n i k * b k h q) i j := by
  unfold upd heads
  by_cases h : j % 256 < 128
  · simp only [if_pos h]
  · simp only [if_neg h]

/-- The rotation with padded cosines and sines is the plain rotation, padded. -/
theorem rot_padded (cs sn : ℕ → ℕ → ℕ → EReal) (i j : ℕ) :
    rot (padded 320 p) (padded 64 (cos2 cs)) (padded 64 (sin2 sn)) i j = padded 64 (rope p cs sn) i j := by
  by_cases h : j < 64
  · rw [padded_lt _ _ h]
    unfold rot
    rw [padded_lt _ _ h, padded_lt _ _ h, padded_lt _ _ (show 256 + j < 320 by omega)]
    unfold cos2 sin2 rope
    by_cases h0 : j < 32
    · simp only [if_pos h0]
      rw [padded_lt _ _ (show 256 + (j + 32) % 128 < 320 by omega), show (j + 32) % 128 = 32 + j by omega, mul_neg, sub_eq_add_neg]
    · simp only [if_neg h0]
      rw [padded_lt _ _ (show 256 + (j + 96) % 128 < 320 by omega), show (j + 96) % 128 = j - 32 by omega, show 32 + (j - 32) = j by omega]
  · rw [padded_ge _ _ h]
    unfold rot
    rw [padded_ge _ _ h, padded_ge _ _ h, mul_zero, mul_zero, add_zero]

end Cert.KvForward
-- ==== Proof.KvNormBlocks.lean ====
/-
  The latent norm's gradient and the key rotation's, kernel side: what the points leave, as formulas of the arguments'
  elements.
-/
module

public import proofs.«01_k».proof.Proof.Angle
public import proofs.«01_k».proof.Proof.KvForwardForm
public import proofs.«01_k».proof.Proof.Gen.Kernel2Ideal.Value
public import Idealize.ShloMosaic.Lib.Tactic
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)
open Cert.Arr
open Cert.KvForward (heads)

namespace Cert.Kernel2Ideal.KvNorm

open Cert.Kernel2Ideal Cert.Kernel2Ideal.Gen

theorem hz : (![0, 0] : Fin 2 → Nat) = fun _ => 0 := funext fun a => by fin_cases a <;> rfl

section Cases
variable {F : FTy → Type} [FloatOps F]
variable (c : Dev nD) (i : grid0.Coords)
  (arg1 : Memref sig .tc .vmem S512x4096 .bf16) (h1 : arg1.IsWhole)
  (arg2 : Memref sig .tc .vmem S256x4096 .bf16) (h2 : arg2.IsWhole)
  (arg3 : Memref sig .tc .vmem S512x384 .f32) (h3 : arg3.IsWhole)
  (arg4 : Memref sig .tc .vmem S512x128 .f32) (h4 : arg4.IsWhole)
  (arg5 : Memref sig .tc .vmem S1x256 .f32) (h5 : arg5.IsWhole)
  (arg6 : Memref sig .tc .vmem S512x128 .f32) (h6 : arg6.IsWhole)
  (arg7 : Memref sig .tc .vmem S512x128 .f32) (h7 : arg7.IsWhole)
  (arg8 : Memref sig .tc .vmem S512x384 .bf16) (h8 : arg8.IsWhole)
  (arg9 : Memref sig .tc .vmem S1x256 .f32) (h9 : arg9.IsWhole)
  (x0 : Vec F S512x4096 .bf16)
  (x1 : Vec F S256x4096 .bf16)
  (x2 : Vec F S512x384 .f32)
  (x3 : Vec F S512x128 .f32)
  (x4 : Vec F S1x256 .f32)
  (x5 : Vec F S512x128 .f32)
  (x6 : Vec F S512x128 .f32)
  (xo : Vec F S1x256 .f32)

/-- The latent columns of the block. -/
abbrev lat (x2 : Vec F S512x384 .f32) : Vec F S512x256 .f32 :=
  View.ld x2 (Rect.unit (s := S512x384) ![0, 0] S512x256.size inb_S512x384_S512x256_0_0)
/-- The block of the first result that a point leaves: its latent columns and its rotated columns. -/
abbrev outO (x0 : Vec F S512x4096 .bf16) (x1 : Vec F S256x4096 .bf16) (x2 : Vec F S512x384 .f32) (x3 : Vec F S512x128 .f32) (x4 : Vec F S1x256 .f32)
    (x5 x6 : Vec F S512x128 .f32) : Vec F S512x384 .bf16 :=
  View.canon (Val := Elt F) (s := S512x384) (e := .bf16) [⟨Rect.unit (s := S512x384) ![0, 256] S512x128.size inb_S512x384_S512x128_0_256, k0_pay2 x3 x5 x6⟩,
    ⟨Rect.unit (s := S512x384) ![0, 0] S512x256.size inb_S512x384_S512x256_0_0, k0_pay1 (k0_pay5 (lat x2)) (k0_pay6 (lat x2)) (k0_pay9 x0 x1 x4) (k0_pay10 (lat x2) x0 x1 x4)⟩]

theorem out_A7 (hc) : out0_A_7 c i arg1 h1 arg2 h2 arg3 h3 arg4 h4 arg5 h5 arg6 h6 arg7 h7 arg8 h8 arg9 h9 hc x0 x1 x2 x3 x4 x5 x6 = outO x0 x1 x2 x3 x4 x5 x6 := by
  unfold out0_A_7
  rw [View.read_writes_eq_canon _ _ _ (cover0_A_7 c i arg1 h1 arg2 h2 arg3 h3 arg4 h4 arg5 h5 arg6 h6 arg7 h7 arg8 h8 arg9 h9 hc x0 x1 x2 x3 x4 x5 x6)]
  unfold kernelRun0_A
  dsimp only
  sl_unfold_words
  simp only [View.readAt_eq_ld, h1.read_unread, h2.read_unread, h3.read_unread, h4.read_unread, h5.read_unread, h6.read_unread, h7.read_unread, h9.read_unread,
    View.ld_unit_zero (S := S512x4096) hz, View.ld_unit_zero (S := S256x4096) hz, View.ld_unit_zero (S := S512x128) hz, View.ld_unit_zero (S := S1x256) hz]

theorem out_B7 (hc) : out0_B_7 c i arg1 h1 arg2 h2 arg3 h3 arg4 h4 arg5 h5 arg6 h6 arg7 h7 arg8 h8 arg9 h9 hc x0 x1 x2 x3 x4 x5 x6 xo = outO x0 x1 x2 x3 x4 x5 x6 := by
  unfold out0_B_7
  rw [View.read_writes_eq_canon _ _ _ (cover0_B_7 c i arg1 h1 arg2 h2 arg3 h3 arg4 h4 arg5 h5 arg6 h6 arg7 h7 arg8 h8 arg9 h9 hc x0 x1 x2 x3 x4 x5 x6 xo)]
  unfold kernelRun0_B
  dsimp only
  sl_unfold_words
  simp only [View.readAt_eq_ld, h1.read_unread, h2.read_unread, h3.read_unread, h4.read_unread, h5.read_unread, h6.read_unread, h7.read_unread, h9.read_unread,
    View.ld_unit_zero (S := S512x4096) hz, View.ld_unit_zero (S := S256x4096) hz, View.ld_unit_zero (S := S512x128) hz, View.ld_unit_zero (S := S1x256) hz]

theorem out_A8 (hc) : out0_A_8 c i arg1 h1 arg2 h2 arg3 h3 arg4 h4 arg5 h5 arg6 h6 arg7 h7 arg8 h8 arg9 h9 hc x0 x1 x2 x3 x4 x5 x6 = k0_pay8 (lat x2) x0 x1 (k0_pay7 (F := F)) := by
  unfold out0_A_8
  rw [View.read_writes_eq_canon _ _ _ (cover0_A_8 c i arg1 h1 arg2 h2 arg3 h3 arg4 h4 arg5 h5 arg6 h6 arg7 h7 arg8 h8 arg9 h9 hc x0 x1 x2 x3 x4 x5 x6)]
  unfold kernelRun0_A
  dsimp only
  sl_unfold_words
  rw [View.canon_cons_unit_zero (S := S1x256) hz, View.readCov_unit_zero (S := S1x256) _ hz]
  simp only [View.readAt_eq_ld, h1.read_unread, h2.read_unread, h3.read_unread, h4.read_unread, h5.read_unread, h6.read_unread, h7.read_unread, h9.read_unread,
    View.ld_unit_zero (S := S512x4096) hz, View.ld_unit_zero (S := S256x4096) hz, View.ld_unit_zero (S := S512x128) hz, View.ld_unit_zero (S := S1x256) hz]

theorem out_B8 (hc) : out0_B_8 c i arg1 h1 arg2 h2 arg3 h3 arg4 h4 arg5 h5 arg6 h6 arg7 h7 arg8 h8 arg9 h9 hc x0 x1 x2 x3 x4 x5 x6 xo = k0_pay8 (lat x2) x0 x1 xo := by
  unfold out0_B_8
  rw [View.read_writes_eq_canon _ _ _ (cover0_B_8 c i arg1 h1 arg2 h2 arg3 h3 arg4 h4 arg5 h5 arg6 h6 arg7 h7 arg8 h8 arg9 h9 hc x0 x1 x2 x3 x4 x5 x6 xo)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h9.read_unread,
    View.ld_unit_zero (S := S512x4096) hz, View.ld_unit_zero (S := S256x4096) hz, View.ld_unit_zero (S := S512x128) hz, View.ld_unit_zero (S := S1x256) hz]

end Cases

section Arrays
variable (m : (ℓ : Loc nD τ sig) → Buf (Elt Ideal) ℓ) (c : Dev nD)

/-! ## The arrays the region finds -/

theorem V_d {a b : ℕ → ℕ → ℕ → EReal} (ha : m ((c : Thread nD τ).loc main_arg5) = arr S4096x16x128 a) (hb : m ((c : Thread nD τ).loc main_arg7) = arr S4096x16x128 b) :
    V m c main_v30 = arr S4096x4096 fun i j _ => heads a b i j := by
  unfold V
  after_reads_simp
  show shapeCast _ (concatenate S4096x16x256 2 [⟨S4096x16x128, _⟩, ⟨S4096x16x128, _⟩] concatenates_S4096x16x128_S4096x16x128_S4096x16x256_d2) shapeCasts_S4096x16x256_S4096x4096 = _
  rw [concat2_eq (n := 4096) (m := 16) (l₁ := 128) (l₂ := 128) (f := a) (g := b) ?hx ?hy, arr_merge (b := 16) (c := 256) (bc := 4096) _ rfl]
  · rfl
  · after_reads_simp; rw [ha]; rfl
  · after_reads_simp; rw [hb]; rfl

theorem V_w {a b : ℕ → ℕ → ℕ → EReal} (ha : m ((c : Thread nD τ).loc main_arg3) = arr S256x16x128 a) (hb : m ((c : Thread nD τ).loc main_arg4) = arr S256x16x128 b) :
    V m c main_v26 = arr S256x4096 fun i j _ => heads a b i j := by
  unfold V
  after_reads_simp
  show shapeCast _ (concatenate S256x16x256 2 [⟨S256x16x128, _⟩, ⟨S256x16x128, _⟩] concatenates_S256x16x128_S256x16x128_S256x16x256_d2) shapeCasts_S256x16x256_S256x4096 = _
  rw [concat2_eq (n := 256) (m := 16) (l₁ := 128) (l₂ := 128) (f := a) (g := b) ?hx ?hy, arr_merge (b := 16) (c := 256) (bc := 4096) _ rfl]
  · rfl
  · after_reads_simp; rw [ha]; rfl
  · after_reads_simp; rw [hb]; rfl

theorem V_p {p : ℕ → ℕ → ℕ → EReal} (h : m ((c : Thread nD τ).loc main_arg0) = arr S4096x320 p) :
    V m c main_v31 = arr S4096x384 fun i j _ => if 0 ≤ j ∧ j - 0 < 320 then p i (j - 0) 0 else (0 : EReal) := by
  unfold V
  after_reads_simp
  rw [h]
  show pad S4096x384 ![0, 0] ![0, 64] ![0, 0] (arr S4096x320 p) (sitofp (F := Ideal) .f32 (constantI S_ 32 0#32)) pads_S4096x320_S4096x384_000_0640 h_S_ = _
  rw [arr_sitofp_zero, arr_pad2]

theorem V_dk {d : ℕ → ℕ → ℕ → EReal} (h : m ((c : Thread nD τ).loc main_arg6) = arr S4096x64 d) :
    V m c main_v32 = arr S4096x128 fun i j _ => if 0 ≤ j ∧ j - 0 < 64 then d i (j - 0) 0 else (0 : EReal) := by
  unfold V
  after_reads_simp
  rw [h]
  show pad S4096x128 ![0, 0] ![0, 64] ![0, 0] (arr S4096x64 d) (sitofp (F := Ideal) .f32 (constantI S_ 32 0#32)) pads_S4096x64_S4096x128_000_0640 h_S_ = _
  rw [arr_sitofp_zero, arr_pad2]

theorem V_g {g : ℕ → ℕ → ℕ → EReal} (h : m ((c : Thread nD τ).loc main_arg2) = arr S256 g) :
    V m c main_v33 = arr S1x256 fun _ j _ => g j 0 0 := by
  unfold V
  after_reads_simp
  rw [h]
  exact arr_cast_row g _

/-- The cosines twice, padded with zeros. -/
theorem V_cos {cs : ℕ → ℕ → ℕ → EReal} (h : cosines (m ((c : Thread nD τ).loc main_arg1)) = arr S4096x32 cs) :
    V m c main_v19 = arr S4096x128 fun i j _ => if 0 ≤ j ∧ j - 0 < 64 then (if j - 0 < 32 then cs i (j - 0) 0 else cs i (j - 0 - 32) 0) else (0 : EReal) := by
  unfold V
  after_reads_simp
  show pad S4096x128 ![0, 0] ![0, 64] ![0, 0] (concatenate S4096x64 1 [⟨S4096x32, _⟩, ⟨S4096x32, _⟩] concatenates_S4096x32_S4096x32_S4096x64_d1)
    (sitofp (F := Ideal) .f32 (constantI S_ 32 0#32)) pads_S4096x64_S4096x128_000_0640 h_S_ = _
  rw [concat1_eq (n := 4096) (m₁ := 32) (m₂ := 32) cs cs ?hx ?hy, arr_sitofp_zero, arr_pad2]
  · after_reads_simp; exact h
  · after_reads_simp; exact h

/-- The sines negated and the sines, padded with zeros. -/
theorem V_sin {sn : ℕ → ℕ → ℕ → EReal} (h : sines (m ((c : Thread nD τ).loc main_arg1)) = arr S4096x32 sn) :
    V m c main_v22 = arr S4096x128 fun i j _ => if 0 ≤ j ∧ j - 0 < 64 then (if j - 0 < 32 then -sn i (j - 0) 0 else sn i (j - 0 - 32) 0) else (0 : EReal) := by
  unfold V
  after_reads_simp
  show pad S4096x128 ![0, 0] ![0, 64] ![0, 0] (concatenate S4096x64 1 [⟨S4096x32, _⟩, ⟨S4096x32, _⟩] concatenates_S4096x32_S4096x32_S4096x64_d1)
    (sitofp (F := Ideal) .f32 (constantI S_ 32 0#32)) pads_S4096x64_S4096x128_000_0640 h_S_ = _
  rw [concat1_eq (n := 4096) (m₁ := 32) (m₂ := 32) (fun i j _ => -sn i j 0) sn ?hx ?hy, arr_sitofp_zero, arr_pad2]
  · after_reads_simp; exact (congrArg (Host.negf (F := Ideal) (φ := .f32)) h).trans rfl
  · after_reads_simp; exact h

/-! ## The blocks the points read -/

theorem idx0 : ∀ t : Fin cfg0.N, win0_0.index t 0 = t.val ∧ win0_0.index t 1 = 0 := by decide +kernel
theorem idx1 : ∀ t : Fin cfg0.N, win0_1.index t 0 = 0 ∧ win0_1.index t 1 = 0 := by decide +kernel
theorem idx2 : ∀ t : Fin cfg0.N, win0_2.index t 0 = t.val ∧ win0_2.index t 1 = 0 := by decide +kernel
theorem idx3 : ∀ t : Fin cfg0.N, win0_3.index t 0 = t.val ∧ win0_3.index t 1 = 0 := by decide +kernel
theorem idx4 : ∀ t : Fin cfg0.N, win0_4.index t 0 = 0 ∧ win0_4.index t 1 = 0 := by decide +kernel
theorem idx5 : ∀ t : Fin cfg0.N, win0_5.index t 0 = t.val ∧ win0_5.index t 1 = 0 := by decide +kernel
theorem idx6 : ∀ t : Fin cfg0.N, win0_6.index t 0 = t.val ∧ win0_6.index t 1 = 0 := by decide +kernel
theorem idx7 : ∀ t : Fin cfg0.N, win0_7.index t 0 = t.val ∧ win0_7.index t 1 = 0 := by decide +kernel
theorem idx8 : ∀ t : Fin cfg0.N, win0_8.index t 0 = 0 ∧ win0_8.index t 1 = 0 := by decide +kernel

variable (t : Fin cfg0.N) {f : ℕ → ℕ → ℕ → EReal}

theorem blk0 (h : V m c main_v30 = arr S4096x4096 f) : iblk m c 0 t = arr S512x4096 fun i j _ => f (t.val * 512 + i) j 0 := by
  funext j
  unfold iblk
  rw [View.read_apply]
  show V m c main_v30 _ = _
  rw [h]
  refine at_congr (f := f) ?_ ?_
  · show win0_0.index t 0 * 512 + 1 * (j 0).val = t.val * 512 + (j 0).val
    rw [(idx0 t).1]; omega
  · show win0_0.index t 1 * 4096 + 1 * (j 1).val = (j 1).val
    rw [(idx0 t).2]; omega
theorem blk1 (h : V m c main_v26 = arr S256x4096 f) : iblk m c 1 t = arr S256x4096 fun i j _ => f (i) j 0 := by
  funext j
  unfold iblk
  rw [View.read_apply]
  show V m c main_v26 _ = _
  rw [h]
  refine at_congr (f := f) ?_ ?_
  · show win0_1.index t 0 * 256 + 1 * (j 0).val = (j 0).val
    rw [(idx1 t).1]; omega
  · show win0_1.index t 1 * 4096 + 1 * (j 1).val = (j 1).val
    rw [(idx1 t).2]; omega
theorem blk2 (h : V m c main_v31 = arr S4096x384 f) : iblk m c 2 t = arr S512x384 fun i j _ => f (t.val * 512 + i) j 0 := by
  funext j
  unfold iblk
  rw [View.read_apply]
  show V m c main_v31 _ = _
  rw [h]
  refine at_congr (f := f) ?_ ?_
  · show win0_2.index t 0 * 512 + 1 * (j 0).val = t.val * 512 + (j 0).val
    rw [(idx2 t).1]; omega
  · show win0_2.index t 1 * 384 + 1 * (j 1).val = (j 1).val
    rw [(idx2 t).2]; omega
theorem blk3 (h : V m c main_v32 = arr S4096x128 f) : iblk m c 3 t = arr S512x128 fun i j _ => f (t.val * 512 + i) j 0 := by
  funext j
  unfold iblk
  rw [View.read_apply]
  show V m c main_v32 _ = _
  rw [h]
  refine at_congr (f := f) ?_ ?_
  · show win0_3.index t 0 * 512 + 1 * (j 0).val = t.val * 512 + (j 0).val
    rw [(idx3 t).1]; omega
  · show win0_3.index t 1 * 128 + 1 * (j 1).val = (j 1).val
    rw [(idx3 t).2]; omega
theorem blk4 (h : V m c main_v33 = arr S1x256 f) : iblk m c 4 t = arr S1x256 fun i j _ => f (i) j 0 := by
  funext j
  unfold iblk
  rw [View.read_apply]
  show V m c main_v33 _ = _
  rw [h]
  refine at_congr (f := f) ?_ ?_
  · show win0_4.index t 0 * 1 + 1 * (j 0).val = (j 0).val
    rw [(idx4 t).1]; omega
  · show win0_4.index t 1 * 256 + 1 * (j 1).val = (j 1).val
    rw [(idx4 t).2]; omega
theorem blk5 (h : V m c main_v19 = arr S4096x128 f) : iblk m c 5 t = arr S512x128 fun i j _ => f (t.val * 512 + i) j 0 := by
  funext j
  unfold iblk
  rw [View.read_apply]
  show V m c main_v19 _ = _
  rw [h]
  refine at_congr (f := f) ?_ ?_
  · show win0_5.index t 0 * 512 + 1 * (j 0).val = t.val * 512 + (j 0).val
    rw [(idx5 t).1]; omega
  · show win0_5.index t 1 * 128 + 1 * (j 1).val = (j 1).val
    rw [(idx5 t).2]; omega
theorem blk6 (h : V m c main_v22 = arr S4096x128 f) : iblk m c 6 t = arr S512x128 fun i j _ => f (t.val * 512 + i) j 0 := by
  funext j
  unfold iblk
  rw [View.read_apply]
  show V m c main_v22 _ = _
  rw [h]
  refine at_congr (f := f) ?_ ?_
  · show win0_6.index t 0 * 512 + 1 * (j 0).val = t.val * 512 + (j 0).val
    rw [(idx6 t).1]; omega
  · show win0_6.index t 1 * 128 + 1 * (j 1).val = (j 1).val
    rw [(idx6 t).2]; omega

/-! ## What the points leave -/

section Points
variable (d w : ℕ → ℕ → EReal) (x : ℕ → ℕ → EReal) (g : ℕ → EReal)

/-- The block's upstream gradient: the row of `d` against the row of `w`. -/
def up (i j : ℕ) : EReal := ∑ k ∈ Finset.range 4096, d i k * w j k
/-- The row's reciprocal root mean square. -/
def rr (i : ℕ) : EReal := Ideal.rsqrt (Ideal.div (∑ k ∈ Finset.range 256, x i k * x i k) (Ideal.ofBits .f32 0x43800000#32) + Ideal.ofBits .f32 0x358637BD#32)
/-- The row's normalized element. -/
def xh (i j : ℕ) : EReal := x i j * rr x i
/-- The latent columns' result. -/
def dx (i j : ℕ) : EReal :=
  rr x i * (up d w i j * g j - xh x i j
    * Ideal.div (∑ k ∈ Finset.range 256, up d w i k * g k * xh x i k) (Ideal.ofBits .f32 0x43800000#32))
/-- The rotated columns' result: `y` against the cosines, its halves exchanged against the sines. -/
def rot (y rc rs : ℕ → ℕ → EReal) (i j : ℕ) : EReal :=
  y i j * rc i j - (if j < 32 then y i ((j + 32) % 128) else y i ((j + 96) % 128)) * rs i j

theorem lat_eq (x : ℕ → ℕ → ℕ → EReal) : lat (F := Ideal) (arr S512x384 x) = arr S512x256 fun i j _ => x i j 0 := by
  refine (ld_box_f32 (n := 512) (m := 384) (o0 := 0) (o1 := 0) (n' := 512) (m' := 256) x inb_S512x384_S512x256_0_0).trans ?_
  simp only [zero_add]

theorem pay4_eq : k0_pay4 (F := Ideal) (arr S512x4096 fun i j _ => d i j) (arr S256x4096 fun i j _ => w i j) = arr S512x256 fun i j _ => up d w i j := by
  unfold k0_pay4
  simp only [dot_S512x4096_S256x4096_S512x256_1_1_0_0_n_n, arr_cast_self, arr_const, Ideal.ofBits_zero_f32]
  rw [arr_matmul_nt (n := 512) (m := 256) (K := 4096)]
  simp only [zero_add]
  rfl
theorem pay5_eq : k0_pay5 (F := Ideal) (arr S512x256 fun i j _ => x i j) = arr S512x1 fun i _ _ => rr x i := by
  unfold k0_pay5 k0_pay3
  simp only [arr_cast_self, arr_mul, arr_rowsum (n := 512) (m := 256), arr_cast_col, arr_bcast, arr_div, arr_add, arr_rsqrt]
  rfl
theorem pay6_eq : k0_pay6 (F := Ideal) (arr S512x256 fun i j _ => x i j) = arr S512x256 fun i j _ => xh x i j := by
  unfold k0_pay6 k0_pay3
  simp only [arr_cast_self, pay5_eq, arr_mul, arr_spread_col]
  rfl
theorem pay8_eq (o : ℕ → ℕ → EReal) : k0_pay8 (F := Ideal) (arr S512x256 fun i j _ => x i j) (arr S512x4096 fun i j _ => d i j)
    (arr S256x4096 fun i j _ => w i j) (arr S1x256 fun i j _ => o i j)
      = arr S1x256 fun i j _ => o i j + ∑ k ∈ Finset.range 512, up d w k j * xh x k j := by
  unfold k0_pay8
  simp only [pay4_eq, pay6_eq, arr_cast_self, arr_mul, arr_colsum (n := 512) (m := 256), arr_cast_row, arr_add]
theorem pay9_eq : k0_pay9 (F := Ideal) (arr S512x4096 fun i j _ => d i j) (arr S256x4096 fun i j _ => w i j) (arr S1x256 fun _ j _ => g j)
    = arr S512x256 fun i j _ => up d w i j * g j := by
  unfold k0_pay9
  simp only [pay4_eq, arr_cast_self, arr_spread_row, arr_mul]
theorem pay10_eq : k0_pay10 (F := Ideal) (arr S512x256 fun i j _ => x i j) (arr S512x4096 fun i j _ => d i j) (arr S256x4096 fun i j _ => w i j)
    (arr S1x256 fun _ j _ => g j)
      = arr S512x1 fun i _ _ => Ideal.div (∑ k ∈ Finset.range 256, up d w i k * g k * xh x i k) (Ideal.ofBits .f32 0x43800000#32) := by
  unfold k0_pay10
  simp only [pay9_eq, pay6_eq, arr_mul, arr_rowsum (n := 512) (m := 256), arr_cast_col, arr_bcast, arr_div]
theorem pay1_eq : k0_pay1 (F := Ideal) (arr S512x1 fun i _ _ => rr x i) (arr S512x256 fun i j _ => xh x i j) (arr S512x256 fun i j _ => up d w i j * g j)
    (arr S512x1 fun i _ _ => Ideal.div (∑ k ∈ Finset.range 256, up d w i k * g k * xh x i k) (Ideal.ofBits .f32 0x43800000#32))
      = arr S512x256 fun i j _ => dx d w x g i j := by
  unfold k0_pay1
  simp only [arr_mul, arr_spread_col (n := 512) (m := 256), arr_sub, arr_truncf]
  rfl
theorem pay2_eq (y rc rs : ℕ → ℕ → EReal) : k0_pay2 (F := Ideal) (arr S512x128 fun i j _ => y i j) (arr S512x128 fun i j _ => rc i j) (arr S512x128 fun i j _ => rs i j)
    = arr S512x128 fun i j _ => rot y rc rs i j := by
  unfold k0_pay2
  simp only [arr_cast_self]
  rw [arr_swap (n := 512)]
  rfl

theorem outO_eq (x : ℕ → ℕ → ℕ → EReal) (y rc rs : ℕ → ℕ → EReal) : outO (F := Ideal) (arr S512x4096 fun i j _ => d i j) (arr S256x4096 fun i j _ => w i j)
    (arr S512x384 x) (arr S512x128 fun i j _ => y i j) (arr S1x256 fun _ j _ => g j) (arr S512x128 fun i j _ => rc i j) (arr S512x128 fun i j _ => rs i j)
      = arr S512x384 fun i j _ => if j < 256 then dx d w (fun i j => x i j 0) g i j else rot y rc rs i (j - 256) := by
  unfold outO
  rw [lat_eq x]
  have e5 := pay5_eq fun i j => x i j 0
  have e6 := pay6_eq fun i j => x i j 0
  have e10 := pay10_eq d w (fun i j => x i j 0) g
  rw [e5, e6, pay9_eq d w g, e10, pay1_eq, pay2_eq]
  obtain ⟨j, hj⟩ := canon_some_bf16 (n := 512) (m := 384) []
  refine (canon_box_bf16 (n := 512) (m := 384) (o0 := 0) (o1 := 256) (n' := 512) (m' := 128) _
    (canon_box_bf16 (n := 512) (m := 384) (o0 := 0) (o1 := 0) (n' := 512) (m' := 256) _ hj _) _).trans (arr2_ext fun i j hi hj => ?_)
  by_cases h : j < 256
  · rw [if_neg (by omega), if_pos (by omega), if_pos h]; rfl
  · rw [if_pos (by omega), if_neg h]; rfl
end Points
end Arrays

end Cert.Kernel2Ideal.KvNorm
-- ==== Proof.KvNormValue.lean ====
/-
  The latent norm's gradient and the key rotation's, kernel side: the two result arrays after the run. Row tile `t` of the
  first result is what point `t` leaves; the second result is the sum over all rows, 512 of them added per point.
-/
module

public import proofs.«01_k».proof.Proof.KvNormBlocks
public import Idealize.ShloMosaic.Lib.Pipeline.ValueKit.Geometry

@[expose] public section

set_option maxRecDepth 16384

noncomputable section

open Idealize.ShloMosaic Idealize.ShloMosaic.TcCoe Idealize.SL.Sem
open Idealize.ShloMosaic.Pipeline (Dat)
open Cert.Arr
open Cert.KvForward (heads padded cos2 sin2)

namespace Cert.Kernel2Ideal.KvNorm

open Cert.Kernel2Ideal Cert.Kernel2Ideal.Gen Cert.Kernel2Ideal.Value

variable (m : (ℓ : Loc nD τ sig) → Buf (Elt Ideal) ℓ) (c : Dev nD)
variable {p g wk wv dk dr dv cs sn : ℕ → ℕ → ℕ → EReal}

/-- The arguments of the kernel as functions of coordinates, and the cosines and sines of the rotation's angles. -/
structure Args (p g wk wv dk dr dv cs sn : ℕ → ℕ → ℕ → EReal) : Prop where
  hp : m ((c : Thread nD τ).loc main_arg0) = arr S4096x320 p
  hg : m ((c : Thread nD τ).loc main_arg2) = arr S256 g
  hwk : m ((c : Thread nD τ).loc main_arg3) = arr S256x16x128 wk
  hwv : m ((c : Thread nD τ).loc main_arg4) = arr S256x16x128 wv
  hdk : m ((c : Thread nD τ).loc main_arg5) = arr S4096x16x128 dk
  hdr : m ((c : Thread nD τ).loc main_arg6) = arr S4096x64 dr
  hdv : m ((c : Thread nD τ).loc main_arg7) = arr S4096x16x128 dv
  hcs : cosines (m ((c : Thread nD τ).loc main_arg1)) = arr S4096x32 cs
  hsn : sines (m ((c : Thread nD τ).loc main_arg1)) = arr S4096x32 sn

/-- The padded latent array, its elements. -/
def lat0 (p : ℕ → ℕ → ℕ → EReal) (i j : ℕ) : EReal := padded 320 (fun i j => p i j 0) i j
/-- The first result's latent columns. -/
def gO (p g wk wv dk dv : ℕ → ℕ → ℕ → EReal) (i j : ℕ) : EReal := dx (heads dk dv) (heads wk wv) (lat0 p) (fun j => g j 0 0) i j
/-- The first result's rotated columns. -/
def gR (dr cs sn : ℕ → ℕ → ℕ → EReal) (i j : ℕ) : EReal :=
  rot (padded 64 fun i j => dr i j 0) (padded 64 (cos2 cs)) (padded 64 (sin2 sn)) i j
/-- Row `i`'s part of the second result. -/
def gG (p wk wv dk dv : ℕ → ℕ → ℕ → EReal) (i j : ℕ) : EReal := up (heads dk dv) (heads wk wv) i j * xh (lat0 p) i j

variable (h : Args m c p g wk wv dk dr dv cs sn)
include h

theorem rd0 (t : Fin cfg0.N) : iblk m c 0 t = arr S512x4096 fun i j _ => heads dk dv (t.val * 512 + i) j :=
  blk0 m c t (f := fun i j _ => heads dk dv i j) (V_d m c h.hdk h.hdv)
theorem rd1 (t : Fin cfg0.N) : iblk m c 1 t = arr S256x4096 fun i j _ => heads wk wv i j :=
  blk1 m c t (f := fun i j _ => heads wk wv i j) (V_w m c h.hwk h.hwv)
theorem rd2 (t : Fin cfg0.N) : iblk m c 2 t = arr S512x384 fun i j _ => lat0 p (t.val * 512 + i) j :=
  blk2 m c t (f := fun i j _ => lat0 p i j) (V_p m c (p := p) h.hp)
theorem rd3 (t : Fin cfg0.N) : iblk m c 3 t = arr S512x128 fun i j _ => padded 64 (fun i j => dr i j 0) (t.val * 512 + i) j :=
  blk3 m c t (f := fun i j _ => padded 64 (fun i j => dr i j 0) i j) (V_dk m c (d := dr) h.hdr)
theorem rd4 (t : Fin cfg0.N) : iblk m c 4 t = arr S1x256 fun _ j _ => g j 0 0 :=
  (blk4 m c t (f := fun _ j _ => g j 0 0) (V_g m c (g := g) h.hg))
theorem rd5 (t : Fin cfg0.N) : iblk m c 5 t = arr S512x128 fun i j _ => padded 64 (cos2 cs) (t.val * 512 + i) j :=
  blk5 m c t (f := fun i j _ => padded 64 (cos2 cs) i j) (V_cos m c (cs := cs) h.hcs)
theorem rd6 (t : Fin cfg0.N) : iblk m c 6 t = arr S512x128 fun i j _ => padded 64 (sin2 sn) (t.val * 512 + i) j :=
  blk6 m c t (f := fun i j _ => padded 64 (sin2 sn) i j) (V_sin m c (sn := sn) h.hsn)

/-- What a point leaves in the first result's block. -/
theorem outs1 (t : Fin cfg0.N) : (outsAt0 m c t.val t.isLt).1 = arr S512x384 fun i j _ =>
    if j < 256 then gO p g wk wv dk dv (t.val * 512 + i) j else gR dr cs sn (t.val * 512 + i) (j - 256) := by
  have e : outO (iblk m c 0 t) (iblk m c 1 t) (iblk m c 2 t) (iblk m c 3 t) (iblk m c 4 t) (iblk m c 5 t) (iblk m c 6 t)
      = arr S512x384 fun i j _ => if j < 256 then gO p g wk wv dk dv (t.val * 512 + i) j else gR dr cs sn (t.val * 512 + i) (j - 256) := by
    rw [rd0 m c h t, rd1 m c h t, rd2 m c h t, rd3 m c h t, rd4 m c h t, rd5 m c h t, rd6 m c h t]
    exact outO_eq (fun i j => heads dk dv (t.val * 512 + i) j) (heads wk wv) (fun j => g j 0 0) (fun i j _ => lat0 p (t.val * 512 + i) j)
      (fun i j => padded 64 (fun i j => dr i j 0) (t.val * 512 + i) j) (fun i j => padded 64 (cos2 cs) (t.val * 512 + i) j)
      (fun i j => padded 64 (sin2 sn) (t.val * 512 + i) j)
  by_cases h0 : t.val % 8 = 0
  · rw [outsAt0_A m c t h0]; dsimp only; rw [out_A7]; exact e
  · rw [outsAt0_B m c t h0]; dsimp only; rw [out_B7]; exact e

/-- What a point adds to the second result's block. -/
theorem adds (t : Fin cfg0.N) (o : ℕ → ℕ → EReal) :
    k0_pay8 (F := Ideal) (lat (iblk m c 2 t)) (iblk m c 0 t) (iblk m c 1 t) (arr S1x256 fun i j _ => o i j)
      = arr S1x256 fun i j _ => o i j + ∑ k ∈ Finset.range 512, gG p wk wv dk dv (t.val * 512 + k) j := by
  rw [rd0 m c h t, rd1 m c h t, rd2 m c h t, lat_eq]
  exact pay8_eq (fun i j => heads dk dv (t.val * 512 + i) j) (heads wk wv) (fun i j => lat0 p (t.val * 512 + i) j) o

omit h in
theorem pay7_eq : k0_pay7 (F := Ideal) = arr S1x256 fun _ _ _ => 0 := by
  unfold k0_pay7
  simp only [arr_bcast, Ideal.ofBits_zero_f32]

theorem outs2 : ∀ (n : ℕ) (hn : n < cfg0.N), (outsAt0 m c n hn).2 = arr S1x256 fun _ j _ => ∑ k ∈ Finset.range ((n + 1) * 512), gG p wk wv dk dv k j := by
  intro n
  induction n with
  | zero =>
    intro hn
    rw [outsAt0_A m c ⟨0, hn⟩ rfl]
    dsimp only
    rw [out_A8, pay7_eq, adds m c h ⟨0, hn⟩ fun _ _ => 0]
    simp only [zero_add, zero_mul, one_mul]
  | succ n ih =>
    intro hn
    have h0 : ¬(⟨n + 1, hn⟩ : Fin cfg0.N).val % 8 = 0 := by
      have hN : n + 1 < 8 := hn
      show ¬(n + 1) % 8 = 0; omega
    rw [outsAt0_B m c ⟨n + 1, hn⟩ h0]
    dsimp only
    rw [out_B8]
    show k0_pay8 _ _ _ (outsAt0 m c n _).2 = _
    rw [ih, adds m c h ⟨n + 1, hn⟩ fun _ j => ∑ k ∈ Finset.range ((n + 1) * 512), gG p wk wv dk dv k j]
    simp only [show (n + 1 + 1) * 512 = (n + 1) * 512 + 512 by ring, Finset.sum_range_add]

/-- The second result. -/
theorem final8 : (dats m 0 c).arrAt 8 cfg0.N = arr S1x256 fun _ j _ => ∑ k ∈ Finset.range 4096, gG p wk wv dk dv k j := by
  refine (dats m 0 c).arrAt_eq_of_covers 8 _ (by decide +kernel) fun t hf y => ?_
  blk_simp
  rw [after0_8, outs2 m c h]
  have ht := (flush0_8 t).mp hf
  have hN : t.val < 8 := t.isLt
  rw [show (t.val + 1) * 512 = 4096 by omega]
  have e1 : (((win0_8.blk t).view.emb y) 1).val = (y 1).val := by blk_simp [(idx8 t).2]
  exact congrArg (fun j => ∑ k ∈ Finset.range 4096, gG p wk wv dk dv k j) e1.symm

/-- The first result. -/
theorem final7 : (dats m 0 c).arrAt 7 cfg0.N = arr S4096x384 fun i j _ =>
    if j < 256 then gO p g wk wv dk dv i j else gR dr cs sn i (j - 256) := by
  refine (dats m 0 c).arrAt_eq_of_covers 7 _ (by decide +kernel) fun t hf y => ?_
  blk_simp
  rw [after0_7, outs1 m c h]
  have e0 : (((win0_7.blk t).view.emb y) 0).val = t.val * 512 + (y 0).val := by blk_simp [(idx7 t).1]
  have e1 : (((win0_7.blk t).view.emb y) 1).val = (y 1).val := by blk_simp [(idx7 t).2]
  show (if (y 1).val < 256 then gO p g wk wv dk dv (t.val * 512 + (y 0).val) (y 1).val else gR dr cs sn (t.val * 512 + (y 0).val) ((y 1).val - 256))
    = if (((win0_7.blk t).view.emb y) 1).val < 256 then gO p g wk wv dk dv (((win0_7.blk t).view.emb y) 0).val (((win0_7.blk t).view.emb y) 1).val
      else gR dr cs sn (((win0_7.blk t).view.emb y) 0).val ((((win0_7.blk t).view.emb y) 1).val - 256)
  rw [e0, e1]

end Cert.Kernel2Ideal.KvNorm
-- ==== Proof.KvNormReference.lean ====
/-
  The latent norm's gradient and the key rotation's, reference side: what the two results hold, as formulas of the
  arguments' elements.
-/
module

public import proofs.«01_k».proof.Proof.Angle
public import proofs.«01_k».proof.Proof.Boxes
public import proofs.«01_k».proof.Proof.Gen.Reference2Ideal.Run

@[expose] public section

set_option maxRecDepth 16384

noncomputable section

open Idealize.ShloMosaic Idealize.ShloMosaic.TcCoe Idealize.SL.Sem
open Cert.Arr
open scoped BigOperators

namespace Cert.Reference2Ideal.KvNorm

open Cert.Reference2Ideal Cert.Reference2Ideal.Gen Cert.Reference2Ideal.Value

section Formulas
variable (p g wk wv dk dr dv cs sn : ℕ → ℕ → ℕ → EReal)

/-- The gradient of the normalized latent, scaled: the products over both axes of the heads, of the values and of the keys. -/
def up (i j : ℕ) : EReal :=
  (∑ h ∈ Finset.range 16, ∑ q ∈ Finset.range 128, dv i h q * wv j h q) + ∑ h ∈ Finset.range 16, ∑ q ∈ Finset.range 128, dk i h q * wk j h q
/-- The mean square, with its constant. -/
def ms (i : ℕ) : EReal :=
  Ideal.div (∑ k ∈ Finset.range 256, p i k 0 * p i k 0) (Ideal.ofBits .f32 0x43800000#32) + Ideal.ofBits .f32 0x358637BD#32
/-- The first result's latent columns. -/
def dp (i j : ℕ) : EReal :=
  up wk wv dk dv i j * g j 0 0 * Ideal.rsqrt (ms p i)
    + Ideal.div ((∑ k ∈ Finset.range 256, p i k 0 * (up wk wv dk dv i k * g k 0 0))
        * (Ideal.ofBits .f32 0xBF000000#32 * Ideal.div (Ideal.rsqrt (ms p i)) (ms p i))) (Ideal.ofBits .f32 0x43800000#32)
      * (Ideal.ofBits .f32 0x40000000#32 * p i j 0)
/-- The first result's rotated columns. -/
def rope (i j : ℕ) : EReal :=
  if j < 32 then dr i (32 + j) 0 * sn i j 0 + dr i j 0 * cs i j 0
  else dr i (32 + (j - 32)) 0 * cs i (j - 32) 0 + -dr i (j - 32) 0 * sn i (j - 32) 0
/-- The first result: the latent columns, the rotated columns, zeros. -/
def out (i j : ℕ) : EReal :=
  if 0 ≤ j ∧ j - 0 < 320 then (if j - 0 < 256 then dp p g wk wv dk dv i (j - 0) else rope dr cs sn i (j - 0 - 256)) else 0
/-- The second result. -/
def dg (j : ℕ) : EReal := ∑ i ∈ Finset.range 4096, p i j 0 * Ideal.rsqrt (ms p i) * up wk wv dk dv i j
end Formulas

variable (m : (ℓ : Loc nD τ sig) → Buf (Elt Ideal) ℓ) (ρ : Dev nD → PrngReg)

/-- The arguments of the reference as functions of coordinates, and the cosines and sines of the rotation's angles. -/
structure Args (c : Dev nD) (p g wk wv dk dr dv cs sn : ℕ → ℕ → ℕ → EReal) : Prop where
  hp : m ((c : Thread nD τ).loc main_arg0) = arr S4096x320 p
  hg : m ((c : Thread nD τ).loc main_arg2) = arr S256 g
  hwk : m ((c : Thread nD τ).loc main_arg3) = arr S256x16x128 wk
  hwv : m ((c : Thread nD τ).loc main_arg4) = arr S256x16x128 wv
  hdk : m ((c : Thread nD τ).loc main_arg5) = arr S4096x16x128 dk
  hdr : m ((c : Thread nD τ).loc main_arg6) = arr S4096x64 dr
  hdv : m ((c : Thread nD τ).loc main_arg7) = arr S4096x16x128 dv
  hcs : Host.cos (F := Ideal) (φ := .f32) (angle (m ((c : Thread nD τ).loc main_arg1))) = arr S4096x32 cs
  hsn : Host.sin (F := Ideal) (φ := .f32) (angle (m ((c : Thread nD τ).loc main_arg1))) = arr S4096x32 sn

section Results
variable {c : Dev nD} {p g wk wv dk dr dv cs sn : ℕ → ℕ → ℕ → EReal} (h : Args m c p g wk wv dk dr dv cs sn)
include h

theorem res0 : res_main_v82 m c = arr S4096x384 fun i j _ => out p g wk wv dk dr dv cs sn i j := by
  unfold res_main_v82
  show pad S4096x384 ![0, 0] ![0, 64] ![0, 0] (concatenate S4096x320 1 [⟨S4096x256, _⟩, ⟨S4096x64, concatenate S4096x64 1 [⟨S4096x32, _⟩, ⟨S4096x32, _⟩] concatenates_S4096x32_S4096x32_S4096x64_d1⟩]
    concatenates_S4096x256_S4096x64_S4096x320_d1) (sitofp (F := Ideal) .f32 (constantI S_ 32 0#32)) pads_S4096x320_S4096x384_000_0640 h_S_ = _
  rw [concat1_eq (n := 4096) (m := 64) (m₁ := 32) (m₂ := 32) (fun i j _ => dr i (32 + j) 0 * sn i j 0 + dr i j 0 * cs i j 0)
      (fun i j _ => dr i (32 + j) 0 * cs i j 0 + -dr i j 0 * sn i j 0) ?hx ?hy,
    concat1_eq (n := 4096) (m := 320) (m₁ := 256) (m₂ := 64) (fun i j _ => dp p g wk wv dk dv i j) (fun i j _ => rope dr cs sn i j) ?hz ?hw, arr_sitofp_zero, arr_pad2]
  · rfl
  case hw => rfl
  case hx =>
    rw [h.hdr, h.hcs, h.hsn]
    simp only [arr_slice2 (n := 4096) (m := 64) (n' := 4096) (m' := 32), arr_mul, arr_add, zero_add]
    exact arr2_ext fun _ _ _ _ => rfl
  case hy =>
    rw [h.hdr, h.hcs, h.hsn]
    simp only [arr_slice2 (n := 4096) (m := 64) (n' := 4096) (m' := 32), arr_neg, arr_mul, arr_add, zero_add]
    exact arr2_ext fun _ _ _ _ => rfl
  case hz =>
    rw [h.hp, h.hg, h.hwk, h.hwv, h.hdk, h.hdv]
    simp only [dot_S4096x16x128_S256x16x128_S4096x256_12_12_0_0_n_n, arr_dot_12_12 (n := 4096) (m := 256) (K := 16) (L := 128), arr_slice2 (n := 4096) (m := 320) (n' := 4096) (m' := 256), arr_mul, arr_const,
      arr_hrowsum (n := 4096) (m := 256), arr_hrowsum (n := 4096) (m := 1), arr_cast_col (n := 4096), arr_bid0, arr_bid_1_0 (n := 4096) (m := 1), arr_bid_1_0 (n := 4096) (m := 256), arr_bid_1_1 (n := 1) (m := 256), arr_bid_col (n := 4096) (m := 256),
      arr_bid_row (n := 4096) (m := 256), arr_hcolsum (n := 4096) (m := 256), arr_hcolsum (n := 1) (m := 256), arr_cast_row (n := 256), arr_hdiv, arr_add, arr_hrsqrt, Ideal.ofBits_zero_f32, zero_add, Finset.sum_range_one]
    rfl

end Results

/-- The run, its results by their formulas. -/
theorem run_at {p g wk wv dk dr dv cs sn : Dev nD → ℕ → ℕ → ℕ → EReal} (h : ∀ c, Args m c (p c) (g c) (wk c) (wv c) (dk c) (dr c) (dv c) (cs c) (sn c)) :
    θ_run defs (onTc (τ := τ) (main (F := Ideal))) ⟨m, fun _ => 0, ρ⟩ fun r => ∀ c : Dev nD,
      r.2.mem ((c.tc : Thread nD τ).loc main_v82) = arr S4096x384 (fun i j _ => out (p c) (g c) (wk c) (wv c) (dk c) (dr c) (dv c) (cs c) (sn c) i j)
      ∧ r.2.mem ((c.tc : Thread nD τ).loc main_v83) = arr S1x256 (fun _ j _ => dg (p c) (wk c) (wv c) (dk c) (dv c) j)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  refine (θ_run defs _ _).mono (fun r hr c => ⟨(hr c).1.trans (res0 m (h c)), (hr c).2.1.trans ?_, (hr c).2.2⟩) (Value.run m ρ)
  rw [(h c).hp, (h c).hwk, (h c).hwv, (h c).hdk, (h c).hdv]
  simp only [dot_S4096x16x128_S256x16x128_S4096x256_12_12_0_0_n_n, arr_dot_12_12 (n := 4096) (m := 256) (K := 16) (L := 128), arr_slice2 (n := 4096) (m := 320) (n' := 4096) (m' := 256), arr_mul, arr_const,
      arr_hrowsum (n := 4096) (m := 256), arr_hrowsum (n := 4096) (m := 1), arr_cast_col (n := 4096), arr_bid0, arr_bid_1_0 (n := 4096) (m := 1), arr_bid_1_0 (n := 4096) (m := 256), arr_bid_1_1 (n := 1) (m := 256), arr_bid_col (n := 4096) (m := 256),
      arr_bid_row (n := 4096) (m := 256), arr_hcolsum (n := 4096) (m := 256), arr_hcolsum (n := 1) (m := 256), arr_cast_row (n := 256), arr_hdiv, arr_add, arr_hrsqrt, Ideal.ofBits_zero_f32, zero_add, Finset.sum_range_one]
  rfl

/-- The reference leaves its arguments, and every counter at zero. -/
theorem frame :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) ∧ r.2.sem = fun _ => 0 :=
  (θ_run defs _ _).mono (fun r h => ⟨fun c => (h c).2.2, sem_eq_zero_of_no_sems (by decide) r.2⟩) (Value.run m ρ)

end Cert.Reference2Ideal.KvNorm
-- ==== Proof.KvNormEquation.lean ====
/-
  The latent norm's gradient and the key rotation's: the kernel's formulas equal the reference's. The product over the
  joined heads is the sum of the two products, and the rotation's two forms agree, for any values; the norm's gradient is
  one identity of real numbers, used where the arguments are finite.
-/
module

public import proofs.«01_k».proof.Proof.KvNormValue
public import proofs.«01_k».proof.Proof.KvNormReference
public import proofs.«01_k».proof.Proof.RealForm

@[expose] public section

noncomputable section

open Idealize.ShloMosaic
open Cert.Arr
open Cert.KvForward (heads padded cos2 sin2)
open Cert.Kernel2Ideal.KvNorm (lat0 gO gR gG rot)

namespace Cert.KvNorm

variable (p g wk wv dk dr dv cs sn : ℕ → ℕ → ℕ → EReal)

theorem k256 : Ideal.ofBits .f32 0x43800000#32 = ((256 : ℝ) : EReal) := by
  simp [Ideal.ofBits, Ideal.ieee, -EReal.coe_mul]; norm_num

theorem lat0_eq (i j : ℕ) (hj : j < 256) : lat0 p i j = p i j 0 := by
  unfold lat0 padded
  rw [if_pos (by omega)]; rfl

/-- The product over the joined heads. -/
theorem up_eq (i j : ℕ) : Kernel2Ideal.KvNorm.up (heads dk dv) (heads wk wv) i j = Reference2Ideal.KvNorm.up wk wv dk dv i j := by
  unfold Kernel2Ideal.KvNorm.up Reference2Ideal.KvNorm.up heads
  rw [show (4096 : ℕ) = 16 * 256 from rfl,
    sum_merge 16 256 (by omega) fun h q => (if q < 128 then dk i h q else dv i h (q - 128)) * (if q < 128 then wk j h q else wv j h (q - 128)),
    ← Finset.sum_add_distrib]
  refine Finset.sum_congr rfl fun h _ => ?_
  rw [show (256 : ℕ) = 128 + 128 from rfl, Finset.sum_range_add, add_comm]
  refine congrArg₂ (· + ·) (Finset.sum_congr rfl fun q _ => ?_) (Finset.sum_congr rfl fun q hq => ?_)
  · rw [if_neg (by omega), if_neg (by omega), show 128 + q - 128 = q by omega]
  · have := Finset.mem_range.mp hq
    rw [if_pos this, if_pos this]

theorem rr_eq (i : ℕ) : Kernel2Ideal.KvNorm.rr (lat0 p) i = Ideal.rsqrt (Reference2Ideal.KvNorm.ms p i) := by
  unfold Kernel2Ideal.KvNorm.rr Reference2Ideal.KvNorm.ms
  rw [Finset.sum_congr rfl fun k hk => by rw [lat0_eq p i k (Finset.mem_range.mp hk)]]

/-- The second result's summand. -/
theorem gG_eq (i j : ℕ) (hj : j < 256) :
    gG p wk wv dk dv i j = p i j 0 * Ideal.rsqrt (Reference2Ideal.KvNorm.ms p i) * Reference2Ideal.KvNorm.up wk wv dk dv i j := by
  unfold gG Kernel2Ideal.KvNorm.xh
  rw [up_eq, rr_eq, lat0_eq p i j hj, mul_comm]

/-- The rotated columns, and the zeros after them. -/
theorem gR_eq (i j : ℕ) (hj : j < 128) : gR dr cs sn i j = if j < 64 then Reference2Ideal.KvNorm.rope dr cs sn i j else 0 := by
  unfold gR rot
  by_cases h0 : j < 32
  · rw [if_pos h0, if_pos (by omega : j < 64)]
    unfold padded cos2 sin2 Reference2Ideal.KvNorm.rope
    rw [if_pos (by omega), if_pos (by omega), if_pos (by omega), if_pos (by omega), if_pos h0, if_pos (by omega), if_pos (by omega)]
    rw [show (j + 32) % 128 - 0 = 32 + j by omega]
    simp only [Nat.sub_zero]
    rw [mul_neg, sub_eq_add_neg, neg_neg, add_comm]
  · rw [if_neg h0]
    by_cases h1 : j < 64
    · rw [if_pos h1]
      unfold padded cos2 sin2 Reference2Ideal.KvNorm.rope
      rw [if_pos (by omega), if_pos (by omega), if_neg (by omega), if_pos (by omega), if_pos (by omega), if_neg (by omega), if_neg h0]
      rw [show (j + 96) % 128 - 0 = j - 32 by omega, show 32 + (j - 32) = j by omega]
      simp only [Nat.sub_zero]
      rw [neg_mul, sub_eq_add_neg]
    · rw [if_neg h1]
      have e : ∀ f : ℕ → ℕ → EReal, padded 64 f i j = 0 := fun f => by unfold padded; rw [if_neg (by omega)]
      rw [e, e, e, mul_zero, mul_zero, sub_zero]

/-- The first result's latent columns, where the arguments are finite. -/
theorem gO_eq {P : ℕ → ℕ → ℝ} {G : ℕ → ℝ} {WK WV DK DV : ℕ → ℕ → ℕ → ℝ}
    (hp : ∀ i j, i < 4096 → j < 256 → p i j 0 = P i j) (hg : ∀ j, j < 256 → g j 0 0 = G j)
    (hwk : ∀ i j k, i < 256 → j < 16 → k < 128 → wk i j k = WK i j k)
    (hwv : ∀ i j k, i < 256 → j < 16 → k < 128 → wv i j k = WV i j k)
    (hdk : ∀ i j k, i < 4096 → j < 16 → k < 128 → dk i j k = DK i j k)
    (hdv : ∀ i j k, i < 4096 → j < 16 → k < 128 → dv i j k = DV i j k) (i j : ℕ) (hi : i < 4096) (hj : j < 256) :
    gO p g wk wv dk dv i j = Reference2Ideal.KvNorm.dp p g wk wv dk dv i j := by
  obtain ⟨e, he, hk⟩ := keps6
  let U : ℕ → ℝ := fun j => (∑ h ∈ Finset.range 16, ∑ q ∈ Finset.range 128, DV i h q * WV j h q)
    + ∑ h ∈ Finset.range 16, ∑ q ∈ Finset.range 128, DK i h q * WK j h q
  have hU : ∀ j, j < 256 → Reference2Ideal.KvNorm.up wk wv dk dv i j = (U j : EReal) := fun j hj => by
    unfold Reference2Ideal.KvNorm.up
    rw [rsum (r := fun h => ∑ q ∈ Finset.range 128, DV i h q * WV j h q) fun h hh => rsum fun q hq => by rw [hdv i h q hi hh hq, hwv j h q hj hh hq, cmul],
      rsum (r := fun h => ∑ q ∈ Finset.range 128, DK i h q * WK j h q) fun h hh => rsum fun q hq => by rw [hdk i h q hi hh hq, hwk j h q hj hh hq, cmul], cadd]
  let a : ℝ := (∑ k ∈ Finset.range 256, P i k * P i k) / 256 + e
  have ha : 0 < a := by
    have : 0 ≤ ∑ k ∈ Finset.range 256, P i k * P i k := Finset.sum_nonneg fun k _ => mul_self_nonneg _
    positivity
  have hm : Reference2Ideal.KvNorm.ms p i = (a : EReal) := by
    unfold Reference2Ideal.KvNorm.ms
    rw [rsum (r := fun k => P i k * P i k) fun k hk => by rw [hp i k hi hk, cmul], k256, hk, cdiv _ (by norm_num), cadd]
  have hr : Kernel2Ideal.KvNorm.rr (lat0 p) i = (((√a)⁻¹ : ℝ) : EReal) := by rw [rr_eq, hm, crsqrt ha]
  unfold gO Kernel2Ideal.KvNorm.dx Kernel2Ideal.KvNorm.xh Reference2Ideal.KvNorm.dp
  simp only [up_eq]
  rw [hr, hm, crsqrt ha, hU j hj, hg j hj, lat0_eq p i j hj, hp i j hi hj,
    rsum (f := fun k => Reference2Ideal.KvNorm.up wk wv dk dv i k * g k 0 0 * (lat0 p i k * (((√a)⁻¹ : ℝ) : EReal))) (r := fun k => U k * G k * (P i k * (√a)⁻¹))
      fun k hk => by rw [hU k hk, hg k hk, lat0_eq p i k hk, hp i k hi hk]; simp only [cmul],
    rsum (f := fun k => p i k 0 * (Reference2Ideal.KvNorm.up wk wv dk dv i k * g k 0 0)) (r := fun k => P i k * (U k * G k))
      fun k hk => by rw [hU k hk, hg k hk, hp i k hi hk]; simp only [cmul],
    k256, k2, kmhalf]
  simp only [cmul, cdiv _ (show (256 : ℝ) ≠ 0 by norm_num), cdiv _ ha.ne', csub, cadd]
  exact congrArg _ (rms_grad (P i) (fun k => U k * G k) a 256 ha j)

end Cert.KvNorm
-- ==== Proof.KvNorm.lean ====
/-
  The latent norm's gradient and the key rotation's: the claims about this call.
-/
module

public import proofs.«01_k».proof.Defs
public import proofs.«01_k».proof.Proof.KvNormEquation
public import proofs.«01_k».proof.Proof.Gen.Kernel2.Frame

@[expose] public section

noncomputable section

open Idealize.ShloMosaic Idealize.ShloMosaic.TcCoe Idealize.SL.Sem
open Cert.Arr

namespace Cert.KvNorm

/-- The facts the precondition's text states. -/
instance preFacts : Cert.Pre_kv_norm_finite.Facts where
  slices_S4096x320_S4096x256_0_0 := by decide +kernel
  bcast_S_S4096x256 := by decide +kernel
  bcast_S_S256 := by decide +kernel
  bcast_S_S256x16x128 := by decide +kernel
  bcast_S_S4096x16x128 := by decide +kernel

/-- The two programs' results are equal where the arguments are finite. -/
theorem value : Cert.algebraic_Kernel2Ideal_Reference2Ideal_pre_kv_norm_finite := by
  intro m ρ m' ρ' hpre hargs
  have key : ∀ c : Dev Cert.Kernel2Ideal.nD, ∃ p g wk wv dk dr dv cs sn, Cert.Kernel2Ideal.KvNorm.Args m c p g wk wv dk dr dv cs sn
      ∧ Cert.Reference2Ideal.KvNorm.Args m' c p g wk wv dk dr dv cs sn
      ∧ (∀ i j, i < 4096 → j < 256 → Cert.Kernel2Ideal.KvNorm.gO p g wk wv dk dv i j = Cert.Reference2Ideal.KvNorm.dp p g wk wv dk dv i j) := by
    intro c
    obtain ⟨a0, a1, a2, a3, a4, a5, a6, a7⟩ := hargs c
    obtain ⟨f0, f1, f2, f3, f4, f5⟩ := hpre c
    obtain ⟨p, hp⟩ := exists_arr (s := ⟨2, ![4096, 320]⟩) (by decide) (m ((c.tc : Thread Cert.Kernel2Ideal.nD Cert.Kernel2Ideal.τ).loc Cert.Kernel2Ideal.main_arg0))
    obtain ⟨g, hg⟩ := exists_arr (s := ⟨1, ![256]⟩) (by decide) (m ((c.tc : Thread Cert.Kernel2Ideal.nD Cert.Kernel2Ideal.τ).loc Cert.Kernel2Ideal.main_arg2))
    obtain ⟨wk, hwk⟩ := exists_arr (s := ⟨3, ![256, 16, 128]⟩) (by decide) (m ((c.tc : Thread Cert.Kernel2Ideal.nD Cert.Kernel2Ideal.τ).loc Cert.Kernel2Ideal.main_arg3))
    obtain ⟨wv, hwv⟩ := exists_arr (s := ⟨3, ![256, 16, 128]⟩) (by decide) (m ((c.tc : Thread Cert.Kernel2Ideal.nD Cert.Kernel2Ideal.τ).loc Cert.Kernel2Ideal.main_arg4))
    obtain ⟨dk, hdk⟩ := exists_arr (s := ⟨3, ![4096, 16, 128]⟩) (by decide) (m ((c.tc : Thread Cert.Kernel2Ideal.nD Cert.Kernel2Ideal.τ).loc Cert.Kernel2Ideal.main_arg5))
    obtain ⟨dr, hdr⟩ := exists_arr (s := ⟨2, ![4096, 64]⟩) (by decide) (m ((c.tc : Thread Cert.Kernel2Ideal.nD Cert.Kernel2Ideal.τ).loc Cert.Kernel2Ideal.main_arg6))
    obtain ⟨dv, hdv⟩ := exists_arr (s := ⟨3, ![4096, 16, 128]⟩) (by decide) (m ((c.tc : Thread Cert.Kernel2Ideal.nD Cert.Kernel2Ideal.τ).loc Cert.Kernel2Ideal.main_arg7))
    obtain ⟨cs, hcs⟩ := exists_arr (s := ⟨2, ![4096, 32]⟩) (by decide) (cosines (m ((c.tc : Thread Cert.Kernel2Ideal.nD Cert.Kernel2Ideal.τ).loc Cert.Kernel2Ideal.main_arg1)))
    obtain ⟨sn, hsn⟩ := exists_arr (s := ⟨2, ![4096, 32]⟩) (by decide) (sines (m ((c.tc : Thread Cert.Kernel2Ideal.nD Cert.Kernel2Ideal.τ).loc Cert.Kernel2Ideal.main_arg1)))
    rw [hp, hg, hwk, hwv, hdk, hdv] at f0 f1 f2 f3 f4 f5
    obtain ⟨P, hP⟩ := real2 (n := 4096) (m := 256) (fun i j _ => p (0 + i) (0 + j) 0) (finite_of_olt _ _ _ f0)
    obtain ⟨G, hG⟩ := real1 g (finite_of_olt _ _ _ f1)
    obtain ⟨WK, hWK⟩ := real3 wk (finite_of_olt _ _ _ f2)
    obtain ⟨WV, hWV⟩ := real3 wv (finite_of_olt _ _ _ f3)
    obtain ⟨DK, hDK⟩ := real3 dk (finite_of_olt _ _ _ f4)
    obtain ⟨DV, hDV⟩ := real3 dv (finite_of_olt _ _ _ f5)
    exact ⟨p, g, wk, wv, dk, dr, dv, cs, sn, ⟨hp, hg, hwk, hwv, hdk, hdr, hdv, hcs, hsn⟩,
      ⟨a0.trans hp, a2.trans hg, a3.trans hwk, a4.trans hwv, a5.trans hdk, a6.trans hdr, a7.trans hdv,
        (congrArg cosines a1).trans hcs,
        (congrArg sines a1).trans hsn⟩,
      gO_eq p g wk wv dk dv (P := P) (fun i j hi hj => by simpa using hP i j hi hj) hG hWK hWV hDK hDV⟩
  choose p g wk wv dk dr dv cs sn hk hr he using key
  refine ⟨_, _, (θ_run Cert.Kernel2Ideal.defs _ _).mono (fun r h c => ⟨(h c).1.trans (Cert.Kernel2Ideal.KvNorm.final7 m c (hk c)),
    (h c).2.1.trans (Cert.Kernel2Ideal.KvNorm.final8 m c (hk c)), (h c).2.2⟩) (Cert.Kernel2Ideal.Value.run_blocks m ρ), ?_⟩
  refine (θ_run Cert.Reference2Ideal.defs _ _).mono (fun r h c => ⟨(h c).1.trans ?_, (h c).2.1.trans ?_, (h c).2.2⟩)
    (Cert.Reference2Ideal.KvNorm.run_at m' ρ' hr)
  · refine arr2_ext fun i j hi hj => ?_
    unfold Cert.Reference2Ideal.KvNorm.out
    by_cases h : j < 256
    · rw [if_pos (by omega), if_pos (by omega), if_pos h]; exact (he c i j hi h).symm
    · rw [if_neg h, gR_eq _ _ _ i (j - 256) (by omega)]
      by_cases h1 : j < 320
      · rw [if_pos (by omega), if_neg (by omega), if_pos (by omega)]; rfl
      · rw [if_neg (by omega), if_neg (by omega)]
  · refine arr2_ext fun i j hi hj => ?_
    exact (Finset.sum_congr rfl fun k _ => (gG_eq (p c) (wk c) (wv c) (dk c) (dv c) k j hj).symm)

end Cert.KvNorm
-- ==== Proof.LnForm.lean ====
/-
  The gradient through a layer norm's row, in two forms: the kernels', by the normalized row, and the derivative's, term
  by term through the mean and the variance. They are equal for a row of real numbers.
-/
module

public import proofs.«01_k».proof.Proof.Boxes
public import proofs.«01_k».proof.Proof.RealForm

@[expose] public section

noncomputable section

open Idealize.ShloMosaic Idealize.ShloMosaic.ValueIdx
open Cert.Arr

namespace Cert.Ln

variable (N : ℕ) (K e : EReal) (r G : ℕ → EReal)

/-- The row's mean. -/
def mean : EReal := Ideal.div (∑ k ∈ Finset.range N, r k) K
/-- The row less its mean. -/
def xc (j : ℕ) : EReal := r j - mean N K r
/-- The row's variance, with its constant. -/
def vr : EReal := Ideal.div (∑ k ∈ Finset.range N, xc N K r k * xc N K r k) K + e
/-- The normalized row. -/
def xh (j : ℕ) : EReal := xc N K r j * Ideal.rsqrt (vr N K e r)
/-- The kernels' form, by the row's reciprocal deviation and the normalized row. -/
def kdx (s : EReal) (x : ℕ → EReal) (j : ℕ) : EReal :=
  s * (G j - mean N K G - x j * mean N K fun k => G k * x k)
/-- The derivative's term through the scaled row. -/
def termA (j : ℕ) : EReal := G j * Ideal.rsqrt (vr N K e r)
/-- The derivative's term through the variance. -/
def termB (j : ℕ) : EReal :=
  Ideal.div ((∑ k ∈ Finset.range N, xc N K r k * G k)
    * (Ideal.ofBits .f32 0xBF000000#32 * Ideal.div (Ideal.rsqrt (vr N K e r)) (vr N K e r))) K * (Ideal.ofBits .f32 0x40000000#32 * xc N K r j)
/-- The derivative's form. -/
def rdx (j : ℕ) : EReal := termA N K e r G j + termB N K e r G j
  + Ideal.div ((∑ k ∈ Finset.range N, -termA N K e r G k) + ∑ k ∈ Finset.range N, -termB N K e r G k) K

/-! ## Real rows -/

section Real
variable {N K e r G} {R H : ℕ → ℝ} {ε : ℝ}

/-- The real row's mean. -/
def mu (N : ℕ) (R : ℕ → ℝ) : ℝ := (∑ k ∈ Finset.range N, R k) / N
/-- The real row's variance, with its constant. -/
def va (N : ℕ) (ε : ℝ) (R : ℕ → ℝ) : ℝ := (∑ k ∈ Finset.range N, (R k - mu N R) * (R k - mu N R)) / N + ε

theorem va_pos (hε : 0 < ε) : 0 < va N ε R := by
  have : 0 ≤ ∑ k ∈ Finset.range N, (R k - mu N R) * (R k - mu N R) := Finset.sum_nonneg fun k _ => mul_self_nonneg _
  unfold va; positivity
theorem mean_real (hN : N ≠ 0) (hK : K = ((N : ℝ) : EReal)) (hr : ∀ k, k < N → r k = R k) : mean N K r = (mu N R : EReal) := by
  unfold mean mu
  rw [rsum hr, hK, cdiv _ (by exact_mod_cast hN)]
theorem xc_real (hN : N ≠ 0) (hK : K = ((N : ℝ) : EReal)) (hr : ∀ k, k < N → r k = R k) {j : ℕ} (hj : j < N) :
    xc N K r j = ((R j - mu N R : ℝ) : EReal) := by
  unfold xc
  rw [mean_real hN hK hr, hr j hj, csub]
theorem vr_real (hN : N ≠ 0) (hK : K = ((N : ℝ) : EReal)) (he : e = (ε : EReal)) (hr : ∀ k, k < N → r k = R k) :
    vr N K e r = (va N ε R : EReal) := by
  unfold vr va
  rw [rsum (r := fun k => (R k - mu N R) * (R k - mu N R)) fun k hk => by rw [xc_real hN hK hr hk, cmul], hK, cdiv _ (by exact_mod_cast hN), he, cadd]
theorem rs_real (hN : N ≠ 0) (hK : K = ((N : ℝ) : EReal)) (hε : 0 < ε) (he : e = (ε : EReal)) (hr : ∀ k, k < N → r k = R k) :
    Ideal.rsqrt (vr N K e r) = (((√(va N ε R))⁻¹ : ℝ) : EReal) := by
  rw [vr_real hN hK he hr, crsqrt (va_pos hε)]
theorem xh_real (hN : N ≠ 0) (hK : K = ((N : ℝ) : EReal)) (hε : 0 < ε) (he : e = (ε : EReal)) (hr : ∀ k, k < N → r k = R k) {j : ℕ} (hj : j < N) :
    xh N K e r j = (((R j - mu N R) * (√(va N ε R))⁻¹ : ℝ) : EReal) := by
  unfold xh
  rw [rs_real hN hK hε he hr, xc_real hN hK hr hj, cmul]

/-- With a row of sum zero and `a` positive, the two forms over the reals. -/
theorem real_grad {n : ℕ} (x t : ℕ → ℝ) (a M : ℝ) (ha : 0 < a) (h0 : ∑ k ∈ Finset.range n, x k = 0) (j : ℕ) :
    (√a)⁻¹ * (t j - (∑ k ∈ Finset.range n, t k) / M - x j * (√a)⁻¹ * ((∑ k ∈ Finset.range n, t k * (x k * (√a)⁻¹)) / M))
      = t j * (√a)⁻¹ + (∑ k ∈ Finset.range n, x k * t k) * (-(1 / 2) * ((√a)⁻¹ / a)) / M * (2 * x j)
        + ((∑ k ∈ Finset.range n, -(t k * (√a)⁻¹))
          + ∑ k ∈ Finset.range n, -((∑ k ∈ Finset.range n, x k * t k) * (-(1 / 2) * ((√a)⁻¹ / a)) / M * (2 * x k))) / M := by
  rw [← rms_grad x t a M ha j]
  have e1 : ∑ k ∈ Finset.range n, -(t k * (√a)⁻¹) = -((∑ k ∈ Finset.range n, t k) * (√a)⁻¹) := by
    rw [Finset.sum_neg_distrib, Finset.sum_mul]
  have e2 : ∀ q : ℝ, ∑ k ∈ Finset.range n, -(q * (2 * x k)) = 0 := fun q => by
    rw [Finset.sum_neg_distrib, ← Finset.mul_sum, ← Finset.mul_sum, h0]; ring
  rw [e1, e2]; ring

theorem sum_xc (hN : N ≠ 0) : ∑ k ∈ Finset.range N, (R k - mu N R) = 0 := by
  have : (N : ℝ) ≠ 0 := by exact_mod_cast hN
  rw [Finset.sum_sub_distrib, Finset.sum_const, Finset.card_range, nsmul_eq_mul]
  unfold mu; field_simp; ring

/-- The two forms are equal. -/
theorem grad_eq (hN : N ≠ 0) (hK : K = ((N : ℝ) : EReal)) (hε : 0 < ε) (he : e = (ε : EReal)) (hr : ∀ k, k < N → r k = R k)
    (hG : ∀ k, k < N → G k = H k) {j : ℕ} (hj : j < N) :
    kdx N K G (Ideal.rsqrt (vr N K e r)) (xh N K e r) j = rdx N K e r G j := by
  have hN' : (N : ℝ) ≠ 0 := by exact_mod_cast hN
  have ha := va_pos (N := N) (R := R) hε
  have hs := rs_real hN hK hε he hr
  let q : ℝ := (∑ k ∈ Finset.range N, (R k - mu N R) * H k) * (-(1 / 2) * ((√(va N ε R))⁻¹ / va N ε R)) / N
  have hA : ∀ k, k < N → termA N K e r G k = ((H k * (√(va N ε R))⁻¹ : ℝ) : EReal) := fun k hk => by
    unfold termA; rw [hG k hk, hs, cmul]
  have hB : ∀ k, k < N → termB N K e r G k = ((q * (2 * (R k - mu N R)) : ℝ) : EReal) := fun k hk => by
    unfold termB
    rw [rsum (r := fun k => (R k - mu N R) * H k) fun k hk => by rw [xc_real hN hK hr hk, hG k hk, cmul], hs, vr_real hN hK he hr,
      xc_real hN hK hr hk, k2, kmhalf, hK]
    simp only [cmul, cdiv _ ha.ne', cdiv _ hN']
    rfl
  unfold kdx rdx
  rw [hA j hj, hB j hj, rsum (f := fun k => -termA N K e r G k) (r := fun k => -(H k * (√(va N ε R))⁻¹)) fun k hk => by rw [hA k hk, cneg],
    rsum (f := fun k => -termB N K e r G k) (r := fun k => -(q * (2 * (R k - mu N R)))) fun k hk => by rw [hB k hk, cneg],
    hs, xh_real hN hK hε he hr hj, hG j hj, mean_real hN hK hG,
    mean_real (R := fun k => H k * ((R k - mu N R) * (√(va N ε R))⁻¹)) hN hK fun k hk => by rw [hG k hk, xh_real hN hK hε he hr hk, cmul], hK]
  simp only [cadd, cmul, csub, cdiv _ hN']
  exact congrArg _ (real_grad (fun k => R k - mu N R) H (va N ε R) N ha (sum_xc hN) j)
end Real

/-! ## Constants -/

theorem k1024 : Ideal.ofBits .f32 0x44800000#32 = (((1024 : ℕ) : ℝ) : EReal) := by
  simp [Ideal.ofBits, Ideal.ieee, -EReal.coe_mul]; norm_num
theorem k2048 : Ideal.ofBits .f32 0x45000000#32 = (((2048 : ℕ) : ℝ) : EReal) := by
  simp [Ideal.ofBits, Ideal.ieee, -EReal.coe_mul]; norm_num
/-- The constant under the deviation is a positive real. -/
theorem keps5 : ∃ e : ℝ, 0 < e ∧ Ideal.ofBits .f32 0x3727C5AC#32 = (e : EReal) := by
  refine ⟨(10995116 : ℝ) * (2 : ℝ) ^ (-40 : ℤ), by positivity, ?_⟩
  simp [Ideal.ofBits, Ideal.ieee, -EReal.coe_mul]
/-- The residual's factor is a real. -/
theorem kalpha : ∃ a : ℝ, Ideal.ofBits .f32 0x3FB504F3#32 = (a : EReal) := by
  refine ⟨(11863283 : ℝ) * (2 : ℝ) ^ (-23 : ℤ), ?_⟩
  simp [Ideal.ofBits, Ideal.ieee, -EReal.coe_mul]

/-! ## The host's products of matrices -/

section Host
variable {n m k : ℕ} {φ ψ : FTy} (f g : ℕ → ℕ → ℕ → EReal)

theorem arr_hdot_nt (p) (wf) :
    Host.dotGeneral (F := Ideal) (φ₁ := φ) (φ₂ := ψ) (⟨[1], [1], [0], [0], [], [], wf⟩ : DotDims ⟨2, ![n, k]⟩ ⟨2, ![m, k]⟩ ⟨2, ![n, m]⟩) p
        (arr ⟨2, ![n, k]⟩ f) (arr ⟨2, ![m, k]⟩ g)
      = arr ⟨2, ![n, m]⟩ fun i j _ => ∑ q ∈ Finset.range k, f i q 0 * g j q 0 := by
  funext j
  unfold Host.dotGeneral
  rw [Ideal.dotGeneral_apply]
  exact matmul_one _ k rfl rfl (arr ⟨2, ![n, k]⟩ f) (arr ⟨2, ![m, k]⟩ g)
    (fun j k => f (j 0).val k 0) (fun j k => g (j 1).val k 0) (fun _ _ => rfl) (fun _ _ => rfl) j
theorem arr_hdot_nn (p) (wf) :
    Host.dotGeneral (F := Ideal) (φ₁ := φ) (φ₂ := ψ) (⟨[1], [0], [0], [1], [], [], wf⟩ : DotDims ⟨2, ![n, k]⟩ ⟨2, ![k, m]⟩ ⟨2, ![n, m]⟩) p
        (arr ⟨2, ![n, k]⟩ f) (arr ⟨2, ![k, m]⟩ g)
      = arr ⟨2, ![n, m]⟩ fun i j _ => ∑ q ∈ Finset.range k, f i q 0 * g q j 0 := by
  funext j
  unfold Host.dotGeneral
  rw [Ideal.dotGeneral_apply]
  exact matmul_one _ k rfl rfl (arr ⟨2, ![n, k]⟩ f) (arr ⟨2, ![k, m]⟩ g)
    (fun j k => f (j 0).val k 0) (fun j k => g k (j 1).val 0) (fun _ _ => rfl) (fun _ _ => rfl) j
end Host

end Cert.Ln
-- ==== Proof.FirstNormBlocks.lean ====
/-
  The first layer norm's gradient, kernel side: what the points leave, as formulas of the arguments' elements.
-/
module

public import proofs.«01_k».proof.Proof.LnForm
public import proofs.«01_k».proof.Proof.Gen.Kernel3Ideal.Value
public import Idealize.ShloMosaic.Lib.Tactic
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)
open Cert.Arr

namespace Cert.Kernel3Ideal.FirstNorm

open Cert.Kernel3Ideal Cert.Kernel3Ideal.Gen

theorem hz : (![0, 0] : Fin 2 → Nat) = fun _ => 0 := funext fun a => by fin_cases a <;> rfl

section Cases
variable {F : FTy → Type} [FloatOps F]
variable (c : Dev nD) (i : grid0.Coords)
  (arg1 : Memref sig .tc .vmem S256x1024 .f32) (h1 : arg1.IsWhole)
  (arg2 : Memref sig .tc .vmem S256x2560 .bf16) (h2 : arg2.IsWhole)
  (arg3 : Memref sig .tc .vmem S1024x2560 .bf16) (h3 : arg3.IsWhole)
  (arg4 : Memref sig .tc .vmem S256x384 .bf16) (h4 : arg4.IsWhole)
  (arg5 : Memref sig .tc .vmem S1024x384 .bf16) (h5 : arg5.IsWhole)
  (arg6 : Memref sig .tc .vmem S256x1024 .f32) (h6 : arg6.IsWhole)
  (arg7 : Memref sig .tc .vmem S256x1 .f32) (h7 : arg7.IsWhole)
  (arg8 : Memref sig .tc .vmem S1x1024 .f32) (h8 : arg8.IsWhole)
  (arg9 : Memref sig .tc .vmem S256x1024 .f32) (h9 : arg9.IsWhole)
  (arg10 : Memref sig .tc .vmem S256x1024 .bf16) (h10 : arg10.IsWhole)
  (arg11 : Memref sig .tc .vmem S1x1024 .f32) (h11 : arg11.IsWhole)
  (arg12 : Memref sig .tc .vmem S1x1024 .f32) (h12 : arg12.IsWhole)
  (arg13 : Memref sig .tc .vmem S1x1024 .f32) (h13 : arg13.IsWhole)
  (x0 : Vec F S256x1024 .f32)
  (x1 : Vec F S256x2560 .bf16)
  (x2 : Vec F S1024x2560 .bf16)
  (x3 : Vec F S256x384 .bf16)
  (x4 : Vec F S1024x384 .bf16)
  (x5 : Vec F S256x1024 .f32)
  (x6 : Vec F S256x1 .f32)
  (x7 : Vec F S1x1024 .f32)
  (xo10 xo11 xo12 : Vec F S1x1024 .f32)

theorem out_A8 (hc) : out0_A_8 c i arg1 h1 arg2 h2 arg3 h3 arg4 h4 arg5 h5 arg6 h6 arg7 h7 arg8 h8 arg9 h9 arg10 h10 arg11 h11 arg12 h12 arg13 h13 hc x0 x1 x2 x3 x4 x5 x6 x7
    = k0_pay1 (k0_pay4 x0 x1 x2 x3 x4) (k0_pay5 x5) x7 x6 := by
  unfold out0_A_8
  rw [View.read_writes_eq_canon _ _ _ (cover0_A_8 c i arg1 h1 arg2 h2 arg3 h3 arg4 h4 arg5 h5 arg6 h6 arg7 h7 arg8 h8 arg9 h9 arg10 h10 arg11 h11 arg12 h12 arg13 h13 hc x0 x1 x2 x3 x4 x5 x6 x7)]
  unfold kernelRun0_A
  dsimp only
  sl_unfold_words
  rw [View.canon_unit_zero hz]
  simp only [View.readAt_eq_ld, h1.read_unread, h2.read_unread, h3.read_unread, h4.read_unread, h5.read_unread, h6.read_unread, h7.read_unread, h8.read_unread, h11.read_unread, h12.read_unread, h13.read_unread,
    View.ld_unit_zero (S := S256x1024) hz, View.ld_unit_zero (S := S256x2560) hz, View.ld_unit_zero (S := S1024x2560) hz, View.ld_unit_zero (S := S256x384) hz,
    View.ld_unit_zero (S := S1024x384) hz, View.ld_unit_zero (S := S256x1) hz, View.ld_unit_zero (S := S1x1024) hz]

theorem out_A9 (hc) : out0_A_9 c i arg1 h1 arg2 h2 arg3 h3 arg4 h4 arg5 h5 arg6 h6 arg7 h7 arg8 h8 arg9 h9 arg10 h10 arg11 h11 arg12 h12 arg13 h13 hc x0 x1 x2 x3 x4 x5 x6 x7
    = k0_pay2 (k0_pay4 x0 x1 x2 x3 x4) (k0_pay5 x5) x7 x6 := by
  unfold out0_A_9
  rw [View.read_writes_eq_canon _ _ _ (cover0_A_9 c i arg1 h1 arg2 h2 arg3 h3 arg4 h4 arg5 h5 arg6 h6 arg7 h7 arg8 h8 arg9 h9 arg10 h10 arg11 h11 arg12 h12 arg13 h13 hc x0 x1 x2 x3 x4 x5 x6 x7)]
  unfold kernelRun0_A
  dsimp only
  sl_unfold_words
  rw [View.canon_unit_zero hz]
  simp only [View.readAt_eq_ld, h1.read_unread, h2.read_unread, h3.read_unread, h4.read_unread, h5.read_unread, h6.read_unread, h7.read_unread, h8.read_unread, h11.read_unread, h12.read_unread, h13.read_unread,
    View.ld_unit_zero (S := S256x1024) hz, View.ld_unit_zero (S := S256x2560) hz, View.ld_unit_zero (S := S1024x2560) hz, View.ld_unit_zero (S := S256x384) hz,
    View.ld_unit_zero (S := S1024x384) hz, View.ld_unit_zero (S := S256x1) hz, View.ld_unit_zero (S := S1x1024) hz]

theorem out_A10 (hc) : out0_A_10 c i arg1 h1 arg2 h2 arg3 h3 arg4 h4 arg5 h5 arg6 h6 arg7 h7 arg8 h8 arg9 h9 arg10 h10 arg11 h11 arg12 h12 arg13 h13 hc x0 x1 x2 x3 x4 x5 x6 x7
    = k0_pay9 x0 x1 x2 x3 x4 x5 (k0_pay6 (F := F)) := by
  unfold out0_A_10
  rw [View.read_writes_eq_canon _ _ _ (cover0_A_10 c i arg1 h1 arg2 h2 arg3 h3 arg4 h4 arg5 h5 arg6 h6 arg7 h7 arg8 h8 arg9 h9 arg10 h10 arg11 h11 arg12 h12 arg13 h13 hc x0 x1 x2 x3 x4 x5 x6 x7)]
  unfold kernelRun0_A
  dsimp only
  sl_unfold_words
  rw [View.canon_cons_unit_zero (S := S1x1024) hz, View.readCov_unit_zero (S := S1x1024) _ hz]
  simp only [View.readAt_eq_ld, h1.read_unread, h2.read_unread, h3.read_unread, h4.read_unread, h5.read_unread, h6.read_unread, h7.read_unread, h8.read_unread, h11.read_unread, h12.read_unread, h13.read_unread,
    View.ld_unit_zero (S := S256x1024) hz, View.ld_unit_zero (S := S256x2560) hz, View.ld_unit_zero (S := S1024x2560) hz, View.ld_unit_zero (S := S256x384) hz,
    View.ld_unit_zero (S := S1024x384) hz, View.ld_unit_zero (S := S256x1) hz, View.ld_unit_zero (S := S1x1024) hz]

theorem out_A11 (hc) : out0_A_11 c i arg1 h1 arg2 h2 arg3 h3 arg4 h4 arg5 h5 arg6 h6 arg7 h7 arg8 h8 arg9 h9 arg10 h10 arg11 h11 arg12 h12 arg13 h13 hc x0 x1 x2 x3 x4 x5 x6 x7
    = k0_pay10 x0 x1 x2 x3 x4 (k0_pay7 (F := F)) := by
  unfold out0_A_11
  rw [View.read_writes_eq_canon _ _ _ (cover0_A_11 c i arg1 h1 arg2 h2 arg3 h3 arg4 h4 arg5 h5 arg6 h6 arg7 h7 arg8 h8 arg9 h9 arg10 h10 arg11 h11 arg12 h12 arg13 h13 hc x0 x1 x2 x3 x4 x5 x6 x7)]
  unfold kernelRun0_A
  dsimp only
  sl_unfold_words
  rw [View.canon_cons_unit_zero (S := S1x1024) hz, View.readCov_unit_zero (S := S1x1024) _ hz]
  simp only [View.readAt_eq_ld, h1.read_unread, h2.read_unread, h3.read_unread, h4.read_unread, h5.read_unread, h6.read_unread, h7.read_unread, h8.read_unread, h11.read_unread, h12.read_unread, h13.read_unread,
    View.ld_unit_zero (S := S256x1024) hz, View.ld_unit_zero (S := S256x2560) hz, View.ld_unit_zero (S := S1024x2560) hz, View.ld_unit_zero (S := S256x384) hz,
    View.ld_unit_zero (S := S1024x384) hz, View.ld_unit_zero (S := S256x1) hz, View.ld_unit_zero (S := S1x1024) hz]

theorem out_A12 (hc) : out0_A_12 c i arg1 h1 arg2 h2 arg3 h3 arg4 h4 arg5 h5 arg6 h6 arg7 h7 arg8 h8 arg9 h9 arg10 h10 arg11 h11 arg12 h12 arg13 h13 hc x0 x1 x2 x3 x4 x5 x6 x7
    = k0_pay3 (k0_pay4 x0 x1 x2 x3 x4) (k0_pay5 x5) x7 x6 (k0_pay8 (F := F)) := by
  unfold out0_A_12
  rw [View.read_writes_eq_canon _ _ _ (cover0_A_12 c i arg1 h1 arg2 h2 arg3 h3 arg4 h4 arg5 h5 arg6 h6 arg7 h7 arg8 h8 arg9 h9 arg10 h10 arg11 h11 arg12 h12 arg13 h13 hc x0 x1 x2 x3 x4 x5 x6 x7)]
  unfold kernelRun0_A
  dsimp only
  sl_unfold_words
  rw [View.canon_cons_unit_zero (S := S1x1024) hz, View.readCov_unit_zero (S := S1x1024) _ hz]
  simp only [View.readAt_eq_ld, h1.read_unread, h2.read_unread, h3.read_unread, h4.read_unread, h5.read_unread, h6.read_unread, h7.read_unread, h8.read_unread, h11.read_unread, h12.read_unread, h13.read_unread,
    View.ld_unit_zero (S := S256x1024) hz, View.ld_unit_zero (S := S256x2560) hz, View.ld_unit_zero (S := S1024x2560) hz, View.ld_unit_zero (S := S256x384) hz,
    View.ld_unit_zero (S := S1024x384) hz, View.ld_unit_zero (S := S256x1) hz, View.ld_unit_zero (S := S1x1024) hz]

theorem out_B8 (hc) : out0_B_8 c i arg1 h1 arg2 h2 arg3 h3 arg4 h4 arg5 h5 arg6 h6 arg7 h7 arg8 h8 arg9 h9 arg10 h10 arg11 h11 arg12 h12 arg13 h13 hc x0 x1 x2 x3 x4 x5 x6 x7 xo10 xo11 xo12
    = k0_pay1 (k0_pay4 x0 x1 x2 x3 x4) (k0_pay5 x5) x7 x6 := by
  unfold out0_B_8
  rw [View.read_writes_eq_canon _ _ _ (cover0_B_8 c i arg1 h1 arg2 h2 arg3 h3 arg4 h4 arg5 h5 arg6 h6 arg7 h7 arg8 h8 arg9 h9 arg10 h10 arg11 h11 arg12 h12 arg13 h13 hc x0 x1 x2 x3 x4 x5 x6 x7 xo10 xo11 xo12)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h11.read_unread, h12.read_unread, h13.read_unread,
    View.ld_unit_zero (S := S256x1024) hz, View.ld_unit_zero (S := S256x2560) hz, View.ld_unit_zero (S := S1024x2560) hz, View.ld_unit_zero (S := S256x384) hz,
    View.ld_unit_zero (S := S1024x384) hz, View.ld_unit_zero (S := S256x1) hz, View.ld_unit_zero (S := S1x1024) hz]

theorem out_B9 (hc) : out0_B_9 c i arg1 h1 arg2 h2 arg3 h3 arg4 h4 arg5 h5 arg6 h6 arg7 h7 arg8 h8 arg9 h9 arg10 h10 arg11 h11 arg12 h12 arg13 h13 hc x0 x1 x2 x3 x4 x5 x6 x7 xo10 xo11 xo12
    = k0_pay2 (k0_pay4 x0 x1 x2 x3 x4) (k0_pay5 x5) x7 x6 := by
  unfold out0_B_9
  rw [View.read_writes_eq_canon _ _ _ (cover0_B_9 c i arg1 h1 arg2 h2 arg3 h3 arg4 h4 arg5 h5 arg6 h6 arg7 h7 arg8 h8 arg9 h9 arg10 h10 arg11 h11 arg12 h12 arg13 h13 hc x0 x1 x2 x3 x4 x5 x6 x7 xo10 xo11 xo12)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h11.read_unread, h12.read_unread, h13.read_unread,
    View.ld_unit_zero (S := S256x1024) hz, View.ld_unit_zero (S := S256x2560) hz, View.ld_unit_zero (S := S1024x2560) hz, View.ld_unit_zero (S := S256x384) hz,
    View.ld_unit_zero (S := S1024x384) hz, View.ld_unit_zero (S := S256x1) hz, View.ld_unit_zero (S := S1x1024) hz]

theorem out_B10 (hc) : out0_B_10 c i arg1 h1 arg2 h2 arg3 h3 arg4 h4 arg5 h5 arg6 h6 arg7 h7 arg8 h8 arg9 h9 arg10 h10 arg11 h11 arg12 h12 arg13 h13 hc x0 x1 x2 x3 x4 x5 x6 x7 xo10 xo11 xo12
    = k0_pay9 x0 x1 x2 x3 x4 x5 xo10 := by
  unfold out0_B_10
  rw [View.read_writes_eq_canon _ _ _ (cover0_B_10 c i arg1 h1 arg2 h2 arg3 h3 arg4 h4 arg5 h5 arg6 h6 arg7 h7 arg8 h8 arg9 h9 arg10 h10 arg11 h11 arg12 h12 arg13 h13 hc x0 x1 x2 x3 x4 x5 x6 x7 xo10 xo11 xo12)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h11.read_unread, h12.read_unread, h13.read_unread,
    View.ld_unit_zero (S := S256x1024) hz, View.ld_unit_zero (S := S256x2560) hz, View.ld_unit_zero (S := S1024x2560) hz, View.ld_unit_zero (S := S256x384) hz,
    View.ld_unit_zero (S := S1024x384) hz, View.ld_unit_zero (S := S256x1) hz, View.ld_unit_zero (S := S1x1024) hz]

theorem out_B11 (hc) : out0_B_11 c i arg1 h1 arg2 h2 arg3 h3 arg4 h4 arg5 h5 arg6 h6 arg7 h7 arg8 h8 arg9 h9 arg10 h10 arg11 h11 arg12 h12 arg13 h13 hc x0 x1 x2 x3 x4 x5 x6 x7 xo10 xo11 xo12
    = k0_pay10 x0 x1 x2 x3 x4 xo11 := by
  unfold out0_B_11
  rw [View.read_writes_eq_canon _ _ _ (cover0_B_11 c i arg1 h1 arg2 h2 arg3 h3 arg4 h4 arg5 h5 arg6 h6 arg7 h7 arg8 h8 arg9 h9 arg10 h10 arg11 h11 arg12 h12 arg13 h13 hc x0 x1 x2 x3 x4 x5 x6 x7 xo10 xo11 xo12)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h11.read_unread, h12.read_unread, h13.read_unread,
    View.ld_unit_zero (S := S256x1024) hz, View.ld_unit_zero (S := S256x2560) hz, View.ld_unit_zero (S := S1024x2560) hz, View.ld_unit_zero (S := S256x384) hz,
    View.ld_unit_zero (S := S1024x384) hz, View.ld_unit_zero (S := S256x1) hz, View.ld_unit_zero (S := S1x1024) hz]

theorem out_B12 (hc) : out0_B_12 c i arg1 h1 arg2 h2 arg3 h3 arg4 h4 arg5 h5 arg6 h6 arg7 h7 arg8 h8 arg9 h9 arg10 h10 arg11 h11 arg12 h12 arg13 h13 hc x0 x1 x2 x3 x4 x5 x6 x7 xo10 xo11 xo12
    = k0_pay3 (k0_pay4 x0 x1 x2 x3 x4) (k0_pay5 x5) x7 x6 xo12 := by
  unfold out0_B_12
  rw [View.read_writes_eq_canon _ _ _ (cover0_B_12 c i arg1 h1 arg2 h2 arg3 h3 arg4 h4 arg5 h5 arg6 h6 arg7 h7 arg8 h8 arg9 h9 arg10 h10 arg11 h11 arg12 h12 arg13 h13 hc x0 x1 x2 x3 x4 x5 x6 x7 xo10 xo11 xo12)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h11.read_unread, h12.read_unread, h13.read_unread,
    View.ld_unit_zero (S := S256x1024) hz, View.ld_unit_zero (S := S256x2560) hz, View.ld_unit_zero (S := S1024x2560) hz, View.ld_unit_zero (S := S256x384) hz,
    View.ld_unit_zero (S := S1024x384) hz, View.ld_unit_zero (S := S256x1) hz, View.ld_unit_zero (S := S1x1024) hz]

end Cases

section Arrays
variable (m : (ℓ : Loc nD τ sig) → Buf (Elt Ideal) ℓ) (c : Dev nD)

/-- The residual's row `i`. -/
def res (x y bo : ℕ → ℕ → ℕ → EReal) (i j : ℕ) : EReal := Ideal.ofBits .f32 0x3FB504F3#32 * x i j 0 + (y i j 0 + bo j 0 0)
/-- The number of columns, as the divisor. -/
abbrev K : EReal := Ideal.ofBits .f32 0x44800000#32
/-- The constant under the deviation. -/
abbrev eps : EReal := Ideal.ofBits .f32 0x3727C5AC#32

/-! ## The arrays the region finds -/

theorem V_dp {d : ℕ → ℕ → ℕ → EReal} (h : m ((c : Thread nD τ).loc main_arg8) = arr S4096x2560 d) : V m c main_v20 = arr S4096x2560 d := by
  unfold V
  after_reads_simp
  rw [h]
  rfl
theorem V_wi {w : ℕ → ℕ → ℕ → EReal} (h : m ((c : Thread nD τ).loc main_arg5) = arr S1024x2560 w) : V m c main_v21 = arr S1024x2560 w := by
  unfold V
  after_reads_simp
  rw [h]
  rfl
theorem V_dc {d : ℕ → ℕ → ℕ → EReal} (h : m ((c : Thread nD τ).loc main_arg9) = arr S4096x320 d) :
    V m c main_v23 = arr S4096x384 fun i j _ => if 0 ≤ j ∧ j - 0 < 320 then d i (j - 0) 0 else (0 : EReal) := by
  unfold V
  after_reads_simp
  rw [h]
  show pad S4096x384 ![0, 0] ![0, 64] ![0, 0] (truncf (F := Ideal) .bf16 (arr S4096x320 d) bitsLt_bf16_f32)
    (sitofp (F := Ideal) .bf16 (constantI S_ 32 0#32)) pads_S4096x320_S4096x384_000_0640 h_S_ = _
  rw [arr_truncf, arr_sitofp_zero, arr_pad2]
theorem V_wd {w : ℕ → ℕ → ℕ → EReal} (h : m ((c : Thread nD τ).loc main_arg6) = arr S1024x320 w) :
    V m c main_v25 = arr S1024x384 fun i j _ => if 0 ≤ j ∧ j - 0 < 320 then w i (j - 0) 0 else (0 : EReal) := by
  unfold V
  after_reads_simp
  rw [h]
  show pad S1024x384 ![0, 0] ![0, 64] ![0, 0] (truncf (F := Ideal) .bf16 (arr S1024x320 w) bitsLt_bf16_f32)
    (sitofp (F := Ideal) .bf16 (constantI S_ 32 0#32)) pads_S1024x320_S1024x384_000_0640 h_S_ = _
  rw [arr_truncf, arr_sitofp_zero, arr_pad2]
theorem V_g {g : ℕ → ℕ → ℕ → EReal} (h : m ((c : Thread nD τ).loc main_arg3) = arr S1024 g) : V m c main_v28 = arr S1x1024 fun _ j _ => g j 0 0 := by
  unfold V
  after_reads_simp
  rw [h]
  exact arr_cast_row g _
section Saved
variable {x y bo : ℕ → ℕ → ℕ → EReal} (hx : m ((c : Thread nD τ).loc main_arg0) = arr S4096x1024 x)
  (hy : m ((c : Thread nD τ).loc main_arg1) = arr S4096x1024 y) (hb : m ((c : Thread nD τ).loc main_arg2) = arr S1024 bo)
include hx hy hb
theorem V_rs : V m c main_v19 = arr S4096x1 fun i _ _ => Ideal.rsqrt (Ln.vr 1024 K eps (res x y bo i)) := by
  unfold V
  after_reads_simp
  rw [hx, hy, hb]
  simp only [arr_mul, arr_add, arr_sub, arr_bid0, arr_const, arr_bid_1_1 (n := 1) (m := 1024), arr_bid_row (n := 4096) (m := 1024),
    arr_bid_1_0 (n := 4096) (m := 1), arr_bid_col (n := 4096) (m := 1024), arr_hrowsum (n := 4096) (m := 1024), arr_hdiv, arr_hrsqrt, Ideal.ofBits_zero_f32, zero_add]
  rfl
theorem V_xh : V m c main_v27 = arr S4096x1024 fun i j _ => Ln.xh 1024 K eps (res x y bo i) j := by
  unfold V
  after_reads_simp
  rw [hx, hy, hb]
  simp only [arr_mul, arr_add, arr_sub, arr_bid0, arr_const, arr_bid_1_1 (n := 1) (m := 1024), arr_bid_row (n := 4096) (m := 1024),
    arr_bid_1_0 (n := 4096) (m := 1), arr_bid_col (n := 4096) (m := 1024), arr_hrowsum (n := 4096) (m := 1024), arr_hdiv, arr_hrsqrt, Ideal.ofBits_zero_f32, zero_add]
  rfl
end Saved

/-! ## The blocks the points read -/

theorem idx0 : ∀ t : Fin cfg0.N, win0_0.index t 0 = t.val ∧ win0_0.index t 1 = 0 := by decide +kernel
theorem idx1 : ∀ t : Fin cfg0.N, win0_1.index t 0 = t.val ∧ win0_1.index t 1 = 0 := by decide +kernel
theorem idx2 : ∀ t : Fin cfg0.N, win0_2.index t 0 = 0 ∧ win0_2.index t 1 = 0 := by decide +kernel
theorem idx3 : ∀ t : Fin cfg0.N, win0_3.index t 0 = t.val ∧ win0_3.index t 1 = 0 := by decide +kernel
theorem idx4 : ∀ t : Fin cfg0.N, win0_4.index t 0 = 0 ∧ win0_4.index t 1 = 0 := by decide +kernel
theorem idx5 : ∀ t : Fin cfg0.N, win0_5.index t 0 = t.val ∧ win0_5.index t 1 = 0 := by decide +kernel
theorem idx6 : ∀ t : Fin cfg0.N, win0_6.index t 0 = t.val ∧ win0_6.index t 1 = 0 := by decide +kernel
theorem idx7 : ∀ t : Fin cfg0.N, win0_7.index t 0 = 0 ∧ win0_7.index t 1 = 0 := by decide +kernel
theorem idx8 : ∀ t : Fin cfg0.N, win0_8.index t 0 = t.val ∧ win0_8.index t 1 = 0 := by decide +kernel
theorem idx9 : ∀ t : Fin cfg0.N, win0_9.index t 0 = t.val ∧ win0_9.index t 1 = 0 := by decide +kernel
theorem idx10 : ∀ t : Fin cfg0.N, win0_10.index t 0 = 0 ∧ win0_10.index t 1 = 0 := by decide +kernel
theorem idx11 : ∀ t : Fin cfg0.N, win0_11.index t 0 = 0 ∧ win0_11.index t 1 = 0 := by decide +kernel
theorem idx12 : ∀ t : Fin cfg0.N, win0_12.index t 0 = 0 ∧ win0_12.index t 1 = 0 := by decide +kernel

variable (t : Fin cfg0.N) {f : ℕ → ℕ → ℕ → EReal}

theorem blk0 (h : m ((c : Thread nD τ).loc main_arg7) = arr S4096x1024 f) : iblk m c 0 t = arr S256x1024 fun i j _ => f (t.val * 256 + i) j 0 := by
  funext j
  unfold iblk
  rw [View.read_apply]
  show V m c main_arg7 _ = _
  rw [V_main_arg7, h]
  refine at_congr (f := f) ?_ ?_
  · show win0_0.index t 0 * 256 + 1 * (j 0).val = t.val * 256 + (j 0).val
    rw [(idx0 t).1]; omega
  · show win0_0.index t 1 * 1024 + 1 * (j 1).val = (j 1).val
    rw [(idx0 t).2]; omega
theorem blk1 (h : V m c main_v20 = arr S4096x2560 f) : iblk m c 1 t = arr S256x2560 fun i j _ => f (t.val * 256 + i) j 0 := by
  funext j
  unfold iblk
  rw [View.read_apply]
  show V m c main_v20 _ = _
  rw [h]
  refine at_congr (f := f) ?_ ?_
  · show win0_1.index t 0 * 256 + 1 * (j 0).val = t.val * 256 + (j 0).val
    rw [(idx1 t).1]; omega
  · show win0_1.index t 1 * 2560 + 1 * (j 1).val = (j 1).val
    rw [(idx1 t).2]; omega
theorem blk2 (h : V m c main_v21 = arr S1024x2560 f) : iblk m c 2 t = arr S1024x2560 fun i j _ => f i j 0 := by
  funext j
  unfold iblk
  rw [View.read_apply]
  show V m c main_v21 _ = _
  rw [h]
  refine at_congr (f := f) ?_ ?_
  · show win0_2.index t 0 * 1024 + 1 * (j 0).val = (j 0).val
    rw [(idx2 t).1]; omega
  · show win0_2.index t 1 * 2560 + 1 * (j 1).val = (j 1).val
    rw [(idx2 t).2]; omega
theorem blk3 (h : V m c main_v23 = arr S4096x384 f) : iblk m c 3 t = arr S256x384 fun i j _ => f (t.val * 256 + i) j 0 := by
  funext j
  unfold iblk
  rw [View.read_apply]
  show V m c main_v23 _ = _
  rw [h]
  refine at_congr (f := f) ?_ ?_
  · show win0_3.index t 0 * 256 + 1 * (j 0).val = t.val * 256 + (j 0).val
    rw [(idx3 t).1]; omega
  · show win0_3.index t 1 * 384 + 1 * (j 1).val = (j 1).val
    rw [(idx3 t).2]; omega
theorem blk4 (h : V m c main_v25 = arr S1024x384 f) : iblk m c 4 t = arr S1024x384 fun i j _ => f i j 0 := by
  funext j
  unfold iblk
  rw [View.read_apply]
  show V m c main_v25 _ = _
  rw [h]
  refine at_congr (f := f) ?_ ?_
  · show win0_4.index t 0 * 1024 + 1 * (j 0).val = (j 0).val
    rw [(idx4 t).1]; omega
  · show win0_4.index t 1 * 384 + 1 * (j 1).val = (j 1).val
    rw [(idx4 t).2]; omega
theorem blk5 (h : V m c main_v27 = arr S4096x1024 f) : iblk m c 5 t = arr S256x1024 fun i j _ => f (t.val * 256 + i) j 0 := by
  funext j
  unfold iblk
  rw [View.read_apply]
  show V m c main_v27 _ = _
  rw [h]
  refine at_congr (f := f) ?_ ?_
  · show win0_5.index t 0 * 256 + 1 * (j 0).val = t.val * 256 + (j 0).val
    rw [(idx5 t).1]; omega
  · show win0_5.index t 1 * 1024 + 1 * (j 1).val = (j 1).val
    rw [(idx5 t).2]; omega
theorem blk6 (h : V m c main_v19 = arr S4096x1 f) : iblk m c 6 t = arr S256x1 fun i j _ => f (t.val * 256 + i) j 0 := by
  funext j
  unfold iblk
  rw [View.read_apply]
  show V m c main_v19 _ = _
  rw [h]
  refine at_congr (f := f) ?_ ?_
  · show win0_6.index t 0 * 256 + 1 * (j 0).val = t.val * 256 + (j 0).val
    rw [(idx6 t).1]; omega
  · show win0_6.index t 1 * 1 + 1 * (j 1).val = (j 1).val
    rw [(idx6 t).2]; omega
theorem blk7 (h : V m c main_v28 = arr S1x1024 f) : iblk m c 7 t = arr S1x1024 fun i j _ => f i j 0 := by
  funext j
  unfold iblk
  rw [View.read_apply]
  show V m c main_v28 _ = _
  rw [h]
  refine at_congr (f := f) ?_ ?_
  · show win0_7.index t 0 * 1 + 1 * (j 0).val = (j 0).val
    rw [(idx7 t).1]; omega
  · show win0_7.index t 1 * 1024 + 1 * (j 1).val = (j 1).val
    rw [(idx7 t).2]; omega

/-! ## What the points leave -/

section Points
variable (a : ℕ → ℕ → EReal) (p w q u x : ℕ → ℕ → EReal) (s g : ℕ → EReal)

/-- The block's upstream gradient. -/
def dh (i j : ℕ) : EReal := Ideal.ofBits .f32 0x3FB504F3#32 * a i j + ∑ k ∈ Finset.range 2560, p i k * w j k + ∑ k ∈ Finset.range 384, q i k * u j k
/-- The block's gradient. -/
def dx (i j : ℕ) : EReal := Ln.kdx 1024 K (fun j => dh a p w q u i j * g j) (s i) (x i) j

theorem pay4_eq : k0_pay4 (F := Ideal) (arr S256x1024 fun i j _ => a i j) (arr S256x2560 fun i j _ => p i j) (arr S1024x2560 fun i j _ => w i j)
    (arr S256x384 fun i j _ => q i j) (arr S1024x384 fun i j _ => u i j) = arr S256x1024 fun i j _ => dh a p w q u i j := by
  unfold k0_pay4
  simp only [dot_S256x2560_S1024x2560_S256x1024_1_1_0_0_n_n, dot_S256x384_S1024x384_S256x1024_1_1_0_0_n_n, arr_cast_self, arr_const, Ideal.ofBits_zero_f32, arr_bcast]
  rw [arr_matmul_nt (n := 256) (m := 1024) (K := 2560), arr_matmul_nt (n := 256) (m := 1024) (K := 384)]
  simp only [zero_add, arr_mul, arr_add]
  rfl
theorem pay5_eq : k0_pay5 (F := Ideal) (arr S256x1024 fun i j _ => x i j) = arr S256x1024 fun i j _ => x i j := by
  unfold k0_pay5
  simp only [arr_cast_self]
theorem pay9_eq (o : ℕ → ℕ → EReal) : k0_pay9 (F := Ideal) (arr S256x1024 fun i j _ => a i j) (arr S256x2560 fun i j _ => p i j) (arr S1024x2560 fun i j _ => w i j)
    (arr S256x384 fun i j _ => q i j) (arr S1024x384 fun i j _ => u i j) (arr S256x1024 fun i j _ => x i j) (arr S1x1024 fun i j _ => o i j)
      = arr S1x1024 fun i j _ => o i j + ∑ k ∈ Finset.range 256, dh a p w q u k j * x k j := by
  unfold k0_pay9
  simp only [pay4_eq, pay5_eq, arr_cast_self, arr_mul, arr_colsum (n := 256) (m := 1024), arr_cast_row, arr_add]
theorem pay10_eq (o : ℕ → ℕ → EReal) : k0_pay10 (F := Ideal) (arr S256x1024 fun i j _ => a i j) (arr S256x2560 fun i j _ => p i j) (arr S1024x2560 fun i j _ => w i j)
    (arr S256x384 fun i j _ => q i j) (arr S1024x384 fun i j _ => u i j) (arr S1x1024 fun i j _ => o i j)
      = arr S1x1024 fun i j _ => o i j + ∑ k ∈ Finset.range 256, dh a p w q u k j := by
  unfold k0_pay10
  simp only [pay4_eq, arr_cast_self, arr_colsum (n := 256) (m := 1024), arr_cast_row, arr_add]
theorem pay1_eq : k0_pay1 (F := Ideal) (arr S256x1024 fun i j _ => dh a p w q u i j) (arr S256x1024 fun i j _ => x i j) (arr S1x1024 fun _ j _ => g j)
    (arr S256x1 fun i _ _ => s i) = arr S256x1024 fun i j _ => dx a p w q u x s g i j := by
  unfold k0_pay1
  simp only [arr_cast_self, arr_spread_row (n := 256) (m := 1024), arr_mul, arr_rowsum (n := 256) (m := 1024), arr_cast_col (n := 256), arr_bcast, arr_div,
    arr_spread_col (n := 256) (m := 1024), arr_sub]
  rfl
theorem pay2_eq : k0_pay2 (F := Ideal) (arr S256x1024 fun i j _ => dh a p w q u i j) (arr S256x1024 fun i j _ => x i j) (arr S1x1024 fun _ j _ => g j)
    (arr S256x1 fun i _ _ => s i) = arr S256x1024 fun i j _ => dx a p w q u x s g i j := by
  unfold k0_pay2
  simp only [pay1_eq, arr_truncf]
theorem pay3_eq (o : ℕ → ℕ → EReal) : k0_pay3 (F := Ideal) (arr S256x1024 fun i j _ => dh a p w q u i j) (arr S256x1024 fun i j _ => x i j) (arr S1x1024 fun _ j _ => g j)
    (arr S256x1 fun i _ _ => s i) (arr S1x1024 fun i j _ => o i j) = arr S1x1024 fun i j _ => o i j + ∑ k ∈ Finset.range 256, dx a p w q u x s g k j := by
  unfold k0_pay3
  simp only [pay1_eq, arr_cast_self, arr_colsum (n := 256) (m := 1024), arr_cast_row, arr_add]
theorem pay6_eq : k0_pay6 (F := Ideal) = arr S1x1024 fun _ _ _ => 0 := by
  unfold k0_pay6
  simp only [arr_bcast, Ideal.ofBits_zero_f32]
theorem pay7_eq : k0_pay7 (F := Ideal) = arr S1x1024 fun _ _ _ => 0 := by
  unfold k0_pay7
  simp only [arr_bcast, Ideal.ofBits_zero_f32]
theorem pay8_eq : k0_pay8 (F := Ideal) = arr S1x1024 fun _ _ _ => 0 := by
  unfold k0_pay8
  simp only [arr_bcast, Ideal.ofBits_zero_f32]
end Points
end Arrays

end Cert.Kernel3Ideal.FirstNorm
-- ==== Proof.FirstNormValue.lean ====
/-
  The first layer norm's gradient, kernel side: the five result arrays after the run. Row tile `t` of the first two is what
  point `t` leaves; the other three are sums over all rows, 256 of them added per point.
-/
module

public import proofs.«01_k».proof.Proof.FirstNormBlocks
public import Idealize.ShloMosaic.Lib.Pipeline.ValueKit.Geometry

@[expose] public section

set_option maxRecDepth 16384

noncomputable section

open Idealize.ShloMosaic Idealize.ShloMosaic.TcCoe Idealize.SL.Sem
open Idealize.ShloMosaic.Pipeline (Dat)
open Cert.Arr

namespace Cert.Kernel3Ideal.FirstNorm

open Cert.Kernel3Ideal Cert.Kernel3Ideal.Gen Cert.Kernel3Ideal.Value

variable (m : (ℓ : Loc nD τ sig) → Buf (Elt Ideal) ℓ) (c : Dev nD)
variable {x y bo g wi wd a p q : ℕ → ℕ → ℕ → EReal}

/-- The arguments of the kernel as functions of coordinates. -/
structure Args (x y bo g wi wd a p q : ℕ → ℕ → ℕ → EReal) : Prop where
  hx : m ((c : Thread nD τ).loc main_arg0) = arr S4096x1024 x
  hy : m ((c : Thread nD τ).loc main_arg1) = arr S4096x1024 y
  hbo : m ((c : Thread nD τ).loc main_arg2) = arr S1024 bo
  hg : m ((c : Thread nD τ).loc main_arg3) = arr S1024 g
  hwi : m ((c : Thread nD τ).loc main_arg5) = arr S1024x2560 wi
  hwd : m ((c : Thread nD τ).loc main_arg6) = arr S1024x320 wd
  ha : m ((c : Thread nD τ).loc main_arg7) = arr S4096x1024 a
  hp : m ((c : Thread nD τ).loc main_arg8) = arr S4096x2560 p
  hq : m ((c : Thread nD τ).loc main_arg9) = arr S4096x320 q

/-- An array padded with zeros from column 320 on. -/
def padded (f : ℕ → ℕ → ℕ → EReal) (i j : ℕ) : EReal := if 0 ≤ j ∧ j - 0 < 320 then f i (j - 0) 0 else 0
/-- The gradient above the norm. -/
def gH (wi wd a p q : ℕ → ℕ → ℕ → EReal) (i j : ℕ) : EReal :=
  dh (fun i j => a i j 0) (fun i j => p i j 0) (fun i j => wi i j 0) (padded q) (padded wd) i j
/-- The normalized residual. -/
def gX (x y bo : ℕ → ℕ → ℕ → EReal) (i j : ℕ) : EReal := Ln.xh 1024 K eps (res x y bo i) j
/-- The gradient below the norm. -/
def gD (x y bo g wi wd a p q : ℕ → ℕ → ℕ → EReal) (i j : ℕ) : EReal :=
  Ln.kdx 1024 K (fun j => gH wi wd a p q i j * g j 0 0) (Ideal.rsqrt (Ln.vr 1024 K eps (res x y bo i))) (gX x y bo i) j

variable (h : Args m c x y bo g wi wd a p q)
include h

theorem rd0 (t : Fin cfg0.N) : iblk m c 0 t = arr S256x1024 fun i j _ => a (t.val * 256 + i) j 0 := blk0 m c t (f := a) h.ha
theorem rd1 (t : Fin cfg0.N) : iblk m c 1 t = arr S256x2560 fun i j _ => p (t.val * 256 + i) j 0 := blk1 m c t (f := p) (V_dp m c h.hp)
theorem rd2 (t : Fin cfg0.N) : iblk m c 2 t = arr S1024x2560 fun i j _ => wi i j 0 := blk2 m c t (f := wi) (V_wi m c h.hwi)
theorem rd3 (t : Fin cfg0.N) : iblk m c 3 t = arr S256x384 fun i j _ => padded q (t.val * 256 + i) j :=
  blk3 m c t (f := fun i j _ => padded q i j) (V_dc m c (d := q) h.hq)
theorem rd4 (t : Fin cfg0.N) : iblk m c 4 t = arr S1024x384 fun i j _ => padded wd i j :=
  blk4 m c t (f := fun i j _ => padded wd i j) (V_wd m c (w := wd) h.hwd)
theorem rd5 (t : Fin cfg0.N) : iblk m c 5 t = arr S256x1024 fun i j _ => gX x y bo (t.val * 256 + i) j :=
  blk5 m c t (f := fun i j _ => gX x y bo i j) (V_xh m c h.hx h.hy h.hbo)
theorem rd6 (t : Fin cfg0.N) : iblk m c 6 t = arr S256x1 fun i _ _ => Ideal.rsqrt (Ln.vr 1024 K eps (res x y bo (t.val * 256 + i))) :=
  blk6 m c t (f := fun i _ _ => Ideal.rsqrt (Ln.vr 1024 K eps (res x y bo i))) (V_rs m c h.hx h.hy h.hbo)
theorem rd7 (t : Fin cfg0.N) : iblk m c 7 t = arr S1x1024 fun _ j _ => g j 0 0 := blk7 m c t (f := fun _ j _ => g j 0 0) (V_g m c h.hg)

/-- The gradient above the norm, at a point's rows. -/
theorem up_t (t : Fin cfg0.N) : k0_pay4 (F := Ideal) (iblk m c 0 t) (iblk m c 1 t) (iblk m c 2 t) (iblk m c 3 t) (iblk m c 4 t)
    = arr S256x1024 fun i j _ => gH wi wd a p q (t.val * 256 + i) j := by
  rw [rd0 m c h t, rd1 m c h t, rd2 m c h t, rd3 m c h t, rd4 m c h t]
  exact pay4_eq (fun i j => a (t.val * 256 + i) j 0) (fun i j => p (t.val * 256 + i) j 0) (fun i j => wi i j 0)
    (fun i j => padded q (t.val * 256 + i) j) (padded wd)
theorem xh_t (t : Fin cfg0.N) : k0_pay5 (F := Ideal) (iblk m c 5 t) = arr S256x1024 fun i j _ => gX x y bo (t.val * 256 + i) j := by
  rw [rd5 m c h t]
  exact pay5_eq fun i j => gX x y bo (t.val * 256 + i) j
theorem dx_t (t : Fin cfg0.N) : k0_pay1 (F := Ideal) (k0_pay4 (iblk m c 0 t) (iblk m c 1 t) (iblk m c 2 t) (iblk m c 3 t) (iblk m c 4 t)) (k0_pay5 (iblk m c 5 t)) (iblk m c 7 t) (iblk m c 6 t)
    = arr S256x1024 fun i j _ => gD x y bo g wi wd a p q (t.val * 256 + i) j := by
  rw [up_t m c h t, xh_t m c h t, rd7 m c h t, rd6 m c h t]
  exact pay1_eq (fun i j => a (t.val * 256 + i) j 0) (fun i j => p (t.val * 256 + i) j 0) (fun i j => wi i j 0)
    (fun i j => padded q (t.val * 256 + i) j) (padded wd) (fun i j => gX x y bo (t.val * 256 + i) j)
    (fun i => Ideal.rsqrt (Ln.vr 1024 K eps (res x y bo (t.val * 256 + i)))) fun j => g j 0 0

/-- What a point leaves in the first two results' blocks. -/
theorem outs8 (t : Fin cfg0.N) : (outsAt0 m c t.val t.isLt).1 = arr S256x1024 fun i j _ => gD x y bo g wi wd a p q (t.val * 256 + i) j := by
  by_cases h0 : t.val % 16 = 0
  · rw [outsAt0_A m c t h0]; dsimp only; rw [out_A8]; exact dx_t m c h t
  · rw [outsAt0_B m c t h0]; dsimp only; rw [out_B8]; exact dx_t m c h t
theorem outs9 (t : Fin cfg0.N) : (outsAt0 m c t.val t.isLt).2.1 = arr S256x1024 fun i j _ => gD x y bo g wi wd a p q (t.val * 256 + i) j := by
  by_cases h0 : t.val % 16 = 0
  · rw [outsAt0_A m c t h0]; dsimp only; rw [out_A9]; exact dx_t m c h t
  · rw [outsAt0_B m c t h0]; dsimp only; rw [out_B9]; exact dx_t m c h t

/-! ## The three sums -/

theorem adds10 (t : Fin cfg0.N) (o : ℕ → ℕ → EReal) :
    k0_pay9 (F := Ideal) (iblk m c 0 t) (iblk m c 1 t) (iblk m c 2 t) (iblk m c 3 t) (iblk m c 4 t) (iblk m c 5 t) (arr S1x1024 fun i j _ => o i j)
      = arr S1x1024 fun i j _ => o i j + ∑ k ∈ Finset.range 256, gH wi wd a p q (t.val * 256 + k) j * gX x y bo (t.val * 256 + k) j := by
  rw [rd0 m c h t, rd1 m c h t, rd2 m c h t, rd3 m c h t, rd4 m c h t, rd5 m c h t]
  exact pay9_eq (fun i j => a (t.val * 256 + i) j 0) (fun i j => p (t.val * 256 + i) j 0) (fun i j => wi i j 0)
    (fun i j => padded q (t.val * 256 + i) j) (padded wd) (fun i j => gX x y bo (t.val * 256 + i) j) o
theorem outs10 : ∀ (n : ℕ) (hn : n < cfg0.N), (outsAt0 m c n hn).2.2.1 = arr S1x1024 fun _ j _ => ∑ k ∈ Finset.range ((n + 1) * 256), gH wi wd a p q k j * gX x y bo k j := by
  intro n
  induction n with
  | zero =>
    intro hn
    rw [outsAt0_A m c ⟨0, hn⟩ rfl]
    dsimp only
    rw [out_A10, pay6_eq, adds10 m c h ⟨0, hn⟩ fun _ _ => 0]
    simp only [zero_add, zero_mul, one_mul]
  | succ n ih =>
    intro hn
    have h0 : ¬(⟨n + 1, hn⟩ : Fin cfg0.N).val % 16 = 0 := by
      have hN : n + 1 < 16 := hn
      show ¬(n + 1) % 16 = 0; omega
    rw [outsAt0_B m c ⟨n + 1, hn⟩ h0]
    dsimp only
    rw [out_B10]
    show k0_pay9 _ _ _ _ _ _ (outsAt0 m c n _).2.2.1 = _
    rw [ih, adds10 m c h ⟨n + 1, hn⟩ fun _ j => ∑ k ∈ Finset.range ((n + 1) * 256), gH wi wd a p q k j * gX x y bo k j]
    simp only [show (n + 1 + 1) * 256 = (n + 1) * 256 + 256 by ring, Finset.sum_range_add]
theorem final10 : (dats m 0 c).arrAt 10 cfg0.N = arr S1x1024 fun _ j _ => ∑ k ∈ Finset.range 4096, gH wi wd a p q k j * gX x y bo k j := by
  refine (dats m 0 c).arrAt_eq_of_covers 10 _ (by decide +kernel) fun t hf z => ?_
  blk_simp
  rw [after0_10, outs10 m c h]
  have ht := (flush0_10 t).mp hf
  have hN : t.val < 16 := t.isLt
  rw [show (t.val + 1) * 256 = 4096 by omega]
  have e1 : (((win0_10.blk t).view.emb z) 1).val = (z 1).val := by blk_simp [(idx10 t).2]
  exact congrArg (fun j => ∑ k ∈ Finset.range 4096, gH wi wd a p q k j * gX x y bo k j) e1.symm

theorem adds11 (t : Fin cfg0.N) (o : ℕ → ℕ → EReal) :
    k0_pay10 (F := Ideal) (iblk m c 0 t) (iblk m c 1 t) (iblk m c 2 t) (iblk m c 3 t) (iblk m c 4 t) (arr S1x1024 fun i j _ => o i j)
      = arr S1x1024 fun i j _ => o i j + ∑ k ∈ Finset.range 256, gH wi wd a p q (t.val * 256 + k) j := by
  rw [rd0 m c h t, rd1 m c h t, rd2 m c h t, rd3 m c h t, rd4 m c h t]
  exact pay10_eq (fun i j => a (t.val * 256 + i) j 0) (fun i j => p (t.val * 256 + i) j 0) (fun i j => wi i j 0)
    (fun i j => padded q (t.val * 256 + i) j) (padded wd) o
theorem outs11 : ∀ (n : ℕ) (hn : n < cfg0.N), (outsAt0 m c n hn).2.2.2.1 = arr S1x1024 fun _ j _ => ∑ k ∈ Finset.range ((n + 1) * 256), gH wi wd a p q k j := by
  intro n
  induction n with
  | zero =>
    intro hn
    rw [outsAt0_A m c ⟨0, hn⟩ rfl]
    dsimp only
    rw [out_A11, pay7_eq, adds11 m c h ⟨0, hn⟩ fun _ _ => 0]
    simp only [zero_add, zero_mul, one_mul]
  | succ n ih =>
    intro hn
    have h0 : ¬(⟨n + 1, hn⟩ : Fin cfg0.N).val % 16 = 0 := by
      have hN : n + 1 < 16 := hn
      show ¬(n + 1) % 16 = 0; omega
    rw [outsAt0_B m c ⟨n + 1, hn⟩ h0]
    dsimp only
    rw [out_B11]
    show k0_pay10 _ _ _ _ _ (outsAt0 m c n _).2.2.2.1 = _
    rw [ih, adds11 m c h ⟨n + 1, hn⟩ fun _ j => ∑ k ∈ Finset.range ((n + 1) * 256), gH wi wd a p q k j]
    simp only [show (n + 1 + 1) * 256 = (n + 1) * 256 + 256 by ring, Finset.sum_range_add]
theorem final11 : (dats m 0 c).arrAt 11 cfg0.N = arr S1x1024 fun _ j _ => ∑ k ∈ Finset.range 4096, gH wi wd a p q k j := by
  refine (dats m 0 c).arrAt_eq_of_covers 11 _ (by decide +kernel) fun t hf z => ?_
  blk_simp
  rw [after0_11, outs11 m c h]
  have ht := (flush0_11 t).mp hf
  have hN : t.val < 16 := t.isLt
  rw [show (t.val + 1) * 256 = 4096 by omega]
  have e1 : (((win0_11.blk t).view.emb z) 1).val = (z 1).val := by blk_simp [(idx11 t).2]
  exact congrArg (fun j => ∑ k ∈ Finset.range 4096, gH wi wd a p q k j) e1.symm

theorem adds12 (t : Fin cfg0.N) (o : ℕ → ℕ → EReal) :
    k0_pay3 (F := Ideal) (k0_pay4 (iblk m c 0 t) (iblk m c 1 t) (iblk m c 2 t) (iblk m c 3 t) (iblk m c 4 t)) (k0_pay5 (iblk m c 5 t)) (iblk m c 7 t) (iblk m c 6 t) (arr S1x1024 fun i j _ => o i j)
      = arr S1x1024 fun i j _ => o i j + ∑ k ∈ Finset.range 256, gD x y bo g wi wd a p q (t.val * 256 + k) j := by
  rw [up_t m c h t, xh_t m c h t, rd7 m c h t, rd6 m c h t]
  exact pay3_eq (fun i j => a (t.val * 256 + i) j 0) (fun i j => p (t.val * 256 + i) j 0) (fun i j => wi i j 0)
    (fun i j => padded q (t.val * 256 + i) j) (padded wd) (fun i j => gX x y bo (t.val * 256 + i) j)
    (fun i => Ideal.rsqrt (Ln.vr 1024 K eps (res x y bo (t.val * 256 + i)))) (fun j => g j 0 0) o
theorem outs12 : ∀ (n : ℕ) (hn : n < cfg0.N), (outsAt0 m c n hn).2.2.2.2 = arr S1x1024 fun _ j _ => ∑ k ∈ Finset.range ((n + 1) * 256), gD x y bo g wi wd a p q k j := by
  intro n
  induction n with
  | zero =>
    intro hn
    rw [outsAt0_A m c ⟨0, hn⟩ rfl]
    dsimp only
    rw [out_A12, pay8_eq, adds12 m c h ⟨0, hn⟩ fun _ _ => 0]
    simp only [zero_add, zero_mul, one_mul]
  | succ n ih =>
    intro hn
    have h0 : ¬(⟨n + 1, hn⟩ : Fin cfg0.N).val % 16 = 0 := by
      have hN : n + 1 < 16 := hn
      show ¬(n + 1) % 16 = 0; omega
    rw [outsAt0_B m c ⟨n + 1, hn⟩ h0]
    dsimp only
    rw [out_B12]
    show k0_pay3 _ _ _ _ (outsAt0 m c n _).2.2.2.2 = _
    rw [ih, adds12 m c h ⟨n + 1, hn⟩ fun _ j => ∑ k ∈ Finset.range ((n + 1) * 256), gD x y bo g wi wd a p q k j]
    simp only [show (n + 1 + 1) * 256 = (n + 1) * 256 + 256 by ring, Finset.sum_range_add]
theorem final12 : (dats m 0 c).arrAt 12 cfg0.N = arr S1x1024 fun _ j _ => ∑ k ∈ Finset.range 4096, gD x y bo g wi wd a p q k j := by
  refine (dats m 0 c).arrAt_eq_of_covers 12 _ (by decide +kernel) fun t hf z => ?_
  blk_simp
  rw [after0_12, outs12 m c h]
  have ht := (flush0_12 t).mp hf
  have hN : t.val < 16 := t.isLt
  rw [show (t.val + 1) * 256 = 4096 by omega]
  have e1 : (((win0_12.blk t).view.emb z) 1).val = (z 1).val := by blk_simp [(idx12 t).2]
  exact congrArg (fun j => ∑ k ∈ Finset.range 4096, gD x y bo g wi wd a p q k j) e1.symm

/-! ## The first two results -/

theorem final8 : (dats m 0 c).arrAt 8 cfg0.N = arr S4096x1024 fun i j _ => gD x y bo g wi wd a p q i j := by
  refine (dats m 0 c).arrAt_eq_of_covers 8 _ (by decide +kernel) fun t hf z => ?_
  blk_simp
  rw [after0_8, outs8 m c h]
  have e0 : (((win0_8.blk t).view.emb z) 0).val = t.val * 256 + (z 0).val := by blk_simp [(idx8 t).1]
  have e1 : (((win0_8.blk t).view.emb z) 1).val = (z 1).val := by blk_simp [(idx8 t).2]
  show gD x y bo g wi wd a p q (t.val * 256 + (z 0).val) (z 1).val
    = gD x y bo g wi wd a p q (((win0_8.blk t).view.emb z) 0).val (((win0_8.blk t).view.emb z) 1).val
  rw [e0, e1]
theorem final9 : (dats m 0 c).arrAt 9 cfg0.N = arr S4096x1024 fun i j _ => gD x y bo g wi wd a p q i j := by
  refine (dats m 0 c).arrAt_eq_of_covers 9 _ (by decide +kernel) fun t hf z => ?_
  blk_simp
  rw [after0_9, outs9 m c h]
  have e0 : (((win0_9.blk t).view.emb z) 0).val = t.val * 256 + (z 0).val := by blk_simp [(idx9 t).1]
  have e1 : (((win0_9.blk t).view.emb z) 1).val = (z 1).val := by blk_simp [(idx9 t).2]
  show gD x y bo g wi wd a p q (t.val * 256 + (z 0).val) (z 1).val
    = gD x y bo g wi wd a p q (((win0_9.blk t).view.emb z) 0).val (((win0_9.blk t).view.emb z) 1).val
  rw [e0, e1]

end Cert.Kernel3Ideal.FirstNorm
-- ==== Proof.FirstNormReference.lean ====
/-
  The first layer norm's gradient, reference side: what the five results hold, as formulas of the arguments' elements.
-/
module

public import proofs.«01_k».proof.Proof.LnForm
public import proofs.«01_k».proof.Proof.Gen.Reference3Ideal.Run

@[expose] public section

set_option maxRecDepth 16384

noncomputable section

open Idealize.ShloMosaic Idealize.ShloMosaic.TcCoe Idealize.SL.Sem
open Cert.Arr

namespace Cert.Reference3Ideal.FirstNorm

open Cert.Reference3Ideal Cert.Reference3Ideal.Gen Cert.Reference3Ideal.Value

section Formulas
variable (x y bo g wi wd a p q : ℕ → ℕ → ℕ → EReal)

/-- The number of columns, as the divisor. -/
abbrev K : EReal := Ideal.ofBits .f32 0x44800000#32
/-- The constant under the deviation. -/
abbrev eps : EReal := Ideal.ofBits .f32 0x3727C5AC#32
/-- The residual's row `i`. -/
def res (i j : ℕ) : EReal := Ideal.ofBits .f32 0x3FB504F3#32 * x i j 0 + (y i j 0 + bo j 0 0)
/-- The gradient above the norm. -/
def up (i j : ℕ) : EReal :=
  ∑ k ∈ Finset.range 320, q i k 0 * wd j k 0 + ∑ k ∈ Finset.range 2560, p i k 0 * wi j k 0 + Ideal.ofBits .f32 0x3FB504F3#32 * a i j 0
/-- The gradient below the norm. -/
def dr (i j : ℕ) : EReal := Ln.rdx 1024 K eps (res x y bo i) (fun j => up wi wd a p q i j * g j 0 0) j
/-- The gradient of the norm's scale. -/
def dg (j : ℕ) : EReal := ∑ i ∈ Finset.range 4096, Ln.xh 1024 K eps (res x y bo i) j * up wi wd a p q i j
/-- The gradient of the norm's offset. -/
def db (j : ℕ) : EReal := ∑ i ∈ Finset.range 4096, up wi wd a p q i j
/-- The gradient of the bias below the norm. -/
def dbo (j : ℕ) : EReal := ∑ i ∈ Finset.range 4096, dr x y bo g wi wd a p q i j
end Formulas

variable (m : (ℓ : Loc nD τ sig) → Buf (Elt Ideal) ℓ) (ρ : Dev nD → PrngReg)

/-- The arguments of the reference as functions of coordinates. -/
structure Args (c : Dev nD) (x y bo g wi wd a p q : ℕ → ℕ → ℕ → EReal) : Prop where
  hx : m ((c : Thread nD τ).loc main_arg0) = arr S4096x1024 x
  hy : m ((c : Thread nD τ).loc main_arg1) = arr S4096x1024 y
  hbo : m ((c : Thread nD τ).loc main_arg2) = arr S1024 bo
  hg : m ((c : Thread nD τ).loc main_arg3) = arr S1024 g
  hwi : m ((c : Thread nD τ).loc main_arg5) = arr S1024x2560 wi
  hwd : m ((c : Thread nD τ).loc main_arg6) = arr S1024x320 wd
  ha : m ((c : Thread nD τ).loc main_arg7) = arr S4096x1024 a
  hp : m ((c : Thread nD τ).loc main_arg8) = arr S4096x2560 p
  hq : m ((c : Thread nD τ).loc main_arg9) = arr S4096x320 q

section Results
variable {m} {c : Dev nD} {x y bo g wi wd a p q : ℕ → ℕ → ℕ → EReal} (h : Args m c x y bo g wi wd a p q)
include h

theorem res0_eq : res_main_v77 m c = arr S4096x1024 fun i j _ => dr x y bo g wi wd a p q i j := by
  unfold res_main_v77
  rw [h.hx, h.hy, h.hbo, h.hg, h.hwi, h.hwd, h.ha, h.hp, h.hq]
  simp only [dot_S4096x320_S1024x320_S4096x1024_1_1_0_0_n_n, dot_S4096x2560_S1024x2560_S4096x1024_1_1_0_0_n_n, Ln.arr_hdot_nt (n := 4096) (m := 1024) (k := 320),
    Ln.arr_hdot_nt (n := 4096) (m := 1024) (k := 2560), arr_mul, arr_add, arr_sub, arr_neg, arr_bid0, arr_const, arr_bid_1_1 (n := 1) (m := 1024), arr_bid_row (n := 4096) (m := 1024),
    arr_bid_1_0 (n := 4096) (m := 1), arr_bid_1_0 (n := 4096) (m := 1024), arr_bid_col (n := 4096) (m := 1024), arr_hrowsum (n := 4096) (m := 1024), arr_hrowsum (n := 4096) (m := 1),
    arr_hcolsum (n := 4096) (m := 1024), arr_hcolsum (n := 1) (m := 1024), arr_cast_col (n := 4096), arr_cast_row (n := 1024), arr_hdiv, arr_hrsqrt, arr_truncf,
    Ideal.ofBits_zero_f32, zero_add, Finset.sum_range_one]
  rfl
theorem res1_eq : res_main_v81 m c = arr S4096x1024 fun i j _ => dr x y bo g wi wd a p q i j := by
  refine Eq.trans (b := truncf (F := Ideal) (φ := .f32) .bf16 (res_main_v77 m c) bitsLt_bf16_f32) rfl ?_
  rw [res0_eq h]
  rfl
theorem res2_eq : res_main_v82 m c = arr S1x1024 fun _ j _ => dg x y bo wi wd a p q j := by
  unfold res_main_v82
  rw [h.hx, h.hy, h.hbo, h.hwi, h.hwd, h.ha, h.hp, h.hq]
  simp only [dot_S4096x320_S1024x320_S4096x1024_1_1_0_0_n_n, dot_S4096x2560_S1024x2560_S4096x1024_1_1_0_0_n_n, Ln.arr_hdot_nt (n := 4096) (m := 1024) (k := 320),
    Ln.arr_hdot_nt (n := 4096) (m := 1024) (k := 2560), arr_mul, arr_add, arr_sub, arr_neg, arr_bid0, arr_const, arr_bid_1_1 (n := 1) (m := 1024), arr_bid_row (n := 4096) (m := 1024),
    arr_bid_1_0 (n := 4096) (m := 1), arr_bid_1_0 (n := 4096) (m := 1024), arr_bid_col (n := 4096) (m := 1024), arr_hrowsum (n := 4096) (m := 1024), arr_hrowsum (n := 4096) (m := 1),
    arr_hcolsum (n := 4096) (m := 1024), arr_hcolsum (n := 1) (m := 1024), arr_cast_col (n := 4096), arr_cast_row (n := 1024), arr_hdiv, arr_hrsqrt, arr_truncf,
    Ideal.ofBits_zero_f32, zero_add, Finset.sum_range_one]
  exact (arr_cast_row (n := 1024) _ _).trans rfl
theorem res4_eq : res_main_v84 m c = arr S1x1024 fun _ j _ => dbo x y bo g wi wd a p q j := by
  refine Eq.trans (b := shapeCast _ (Host.reduceAdd (F := Ideal) (φ := .f32) (shapeCast _ (Host.reduceAdd (F := Ideal) (φ := .f32) (res_main_v77 m c)
    (constant (F := Ideal) S_ .f32 0x00000000#32) reducesTo_S4096x1024_S1024_d0 h_S_) shapeCasts_S1024_S1x1024)
    (constant (F := Ideal) S_ .f32 0x00000000#32) reducesTo_S1x1024_S1024_d0 h_S_) shapeCasts_S1024_S1x1024) rfl ?_
  rw [res0_eq h]
  simp only [dot_S4096x320_S1024x320_S4096x1024_1_1_0_0_n_n, dot_S4096x2560_S1024x2560_S4096x1024_1_1_0_0_n_n, Ln.arr_hdot_nt (n := 4096) (m := 1024) (k := 320),
    Ln.arr_hdot_nt (n := 4096) (m := 1024) (k := 2560), arr_mul, arr_add, arr_sub, arr_neg, arr_bid0, arr_const, arr_bid_1_1 (n := 1) (m := 1024), arr_bid_row (n := 4096) (m := 1024),
    arr_bid_1_0 (n := 4096) (m := 1), arr_bid_1_0 (n := 4096) (m := 1024), arr_bid_col (n := 4096) (m := 1024), arr_hrowsum (n := 4096) (m := 1024), arr_hrowsum (n := 4096) (m := 1),
    arr_hcolsum (n := 4096) (m := 1024), arr_hcolsum (n := 1) (m := 1024), arr_cast_col (n := 4096), arr_cast_row (n := 1024), arr_hdiv, arr_hrsqrt, arr_truncf,
    Ideal.ofBits_zero_f32, zero_add, Finset.sum_range_one]
  rfl
end Results

/-- The run, its results by their formulas. -/
theorem run_at {x y bo g wi wd a p q : Dev nD → ℕ → ℕ → ℕ → EReal} (h : ∀ c, Args m c (x c) (y c) (bo c) (g c) (wi c) (wd c) (a c) (p c) (q c)) :
    θ_run defs (onTc (τ := τ) (main (F := Ideal))) ⟨m, fun _ => 0, ρ⟩ fun r => ∀ c : Dev nD,
      r.2.mem ((c.tc : Thread nD τ).loc main_v77) = arr S4096x1024 (fun i j _ => dr (x c) (y c) (bo c) (g c) (wi c) (wd c) (a c) (p c) (q c) i j)
      ∧ r.2.mem ((c.tc : Thread nD τ).loc main_v81) = arr S4096x1024 (fun i j _ => dr (x c) (y c) (bo c) (g c) (wi c) (wd c) (a c) (p c) (q c) i j)
      ∧ r.2.mem ((c.tc : Thread nD τ).loc main_v82) = arr S1x1024 (fun _ j _ => dg (x c) (y c) (bo c) (wi c) (wd c) (a c) (p c) (q c) j)
      ∧ r.2.mem ((c.tc : Thread nD τ).loc main_v83) = arr S1x1024 (fun _ j _ => db (wi c) (wd c) (a c) (p c) (q c) j)
      ∧ r.2.mem ((c.tc : Thread nD τ).loc main_v84) = arr S1x1024 (fun _ j _ => dbo (x c) (y c) (bo c) (g c) (wi c) (wd c) (a c) (p c) (q c) j)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) := by
  refine (θ_run defs _ _).mono (fun r hr c => ⟨(hr c).1.trans (res0_eq (h c)), (hr c).2.1.trans (res1_eq (h c)), (hr c).2.2.1.trans (res2_eq (h c)),
    (hr c).2.2.2.1.trans ?_, (hr c).2.2.2.2.1.trans (res4_eq (h c)), (hr c).2.2.2.2.2⟩) (Value.run m ρ)
  rw [(h c).hwi, (h c).hwd, (h c).ha, (h c).hp, (h c).hq]
  simp only [dot_S4096x320_S1024x320_S4096x1024_1_1_0_0_n_n, dot_S4096x2560_S1024x2560_S4096x1024_1_1_0_0_n_n, Ln.arr_hdot_nt (n := 4096) (m := 1024) (k := 320),
    Ln.arr_hdot_nt (n := 4096) (m := 1024) (k := 2560), arr_mul, arr_add, arr_sub, arr_neg, arr_bid0, arr_const, arr_bid_1_1 (n := 1) (m := 1024), arr_bid_row (n := 4096) (m := 1024),
    arr_bid_1_0 (n := 4096) (m := 1), arr_bid_1_0 (n := 4096) (m := 1024), arr_bid_col (n := 4096) (m := 1024), arr_hrowsum (n := 4096) (m := 1024), arr_hrowsum (n := 4096) (m := 1),
    arr_hcolsum (n := 4096) (m := 1024), arr_hcolsum (n := 1) (m := 1024), arr_cast_col (n := 4096), arr_cast_row (n := 1024), arr_hdiv, arr_hrsqrt, arr_truncf,
    Ideal.ofBits_zero_f32, zero_add, Finset.sum_range_one]
  rfl

/-- The reference leaves its arguments, and every counter at zero. -/
theorem frame :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) ∧ r.2.sem = fun _ => 0 :=
  (θ_run defs _ _).mono (fun r h => ⟨fun c => (h c).2.2.2.2.2, sem_eq_zero_of_no_sems (by decide) r.2⟩) (Value.run m ρ)

end Cert.Reference3Ideal.FirstNorm
-- ==== Proof.FirstNormEquation.lean ====
/-
  The first layer norm's gradient: the kernel's formulas equal the reference's. The gradient above the norm adds its three
  parts in another order, and its padded product adds zeros; the norm's gradient is one identity of real numbers, used
  where the arguments are finite.
-/
module

public import proofs.«01_k».proof.Proof.FirstNormValue
public import proofs.«01_k».proof.Proof.FirstNormReference
public import proofs.«01_k».proof.Proof.RealForm

@[expose] public section

noncomputable section

open Idealize.ShloMosaic
open Cert.Arr
open Cert.Kernel3Ideal.FirstNorm (gH gX gD padded dh)

namespace Cert.FirstNorm

variable (x y bo g wi wd a p q : ℕ → ℕ → ℕ → EReal)

/-- The gradient above the norm. -/
theorem up_eq (i j : ℕ) : gH wi wd a p q i j = Reference3Ideal.FirstNorm.up wi wd a p q i j := by
  unfold gH dh Reference3Ideal.FirstNorm.up
  have e : ∑ k ∈ Finset.range 384, padded q i k * padded wd j k = ∑ k ∈ Finset.range 320, q i k 0 * wd j k 0 := by
    rw [← sum_pad (show 320 ≤ 384 by omega)]
    refine Finset.sum_congr rfl fun k _ => ?_
    unfold padded
    by_cases h : k < 320
    · rw [if_pos (by omega), if_pos (by omega), if_pos h]; rfl
    · rw [if_neg (by omega), if_neg h, zero_mul]
  rw [e, add_comm, add_comm (Ideal.ofBits .f32 0x3FB504F3#32 * a i j 0), ← add_assoc]

/-- The third result's summand. -/
theorem scale_eq (i j : ℕ) : gH wi wd a p q i j * gX x y bo i j
    = Ln.xh 1024 Reference3Ideal.FirstNorm.K Reference3Ideal.FirstNorm.eps (Reference3Ideal.FirstNorm.res x y bo i) j
      * Reference3Ideal.FirstNorm.up wi wd a p q i j := by
  rw [up_eq, mul_comm]; rfl

/-- The gradient below the norm, where the arguments are finite. -/
theorem gD_eq {X Y A P Q WI WD : ℕ → ℕ → ℝ} {BO G : ℕ → ℝ}
    (hx : ∀ i j, i < 4096 → j < 1024 → x i j 0 = X i j) (hy : ∀ i j, i < 4096 → j < 1024 → y i j 0 = Y i j)
    (hbo : ∀ j, j < 1024 → bo j 0 0 = BO j) (hg : ∀ j, j < 1024 → g j 0 0 = G j)
    (hwi : ∀ i j, i < 1024 → j < 2560 → wi i j 0 = WI i j) (hwd : ∀ i j, i < 1024 → j < 320 → wd i j 0 = WD i j)
    (ha : ∀ i j, i < 4096 → j < 1024 → a i j 0 = A i j) (hp : ∀ i j, i < 4096 → j < 2560 → p i j 0 = P i j)
    (hq : ∀ i j, i < 4096 → j < 320 → q i j 0 = Q i j) (i j : ℕ) (hi : i < 4096) (hj : j < 1024) :
    gD x y bo g wi wd a p q i j = Reference3Ideal.FirstNorm.dr x y bo g wi wd a p q i j := by
  obtain ⟨e, he, hk⟩ := Ln.keps5
  obtain ⟨al, hal⟩ := Ln.kalpha
  have hU : ∀ j, j < 1024 → Reference3Ideal.FirstNorm.up wi wd a p q i j
      = (((∑ k ∈ Finset.range 320, Q i k * WD j k) + (∑ k ∈ Finset.range 2560, P i k * WI j k) + al * A i j : ℝ) : EReal) := fun j hj => by
    unfold Reference3Ideal.FirstNorm.up
    rw [rsum (r := fun k => Q i k * WD j k) fun k hk => by rw [hq i k hi hk, hwd j k hj hk, cmul],
      rsum (r := fun k => P i k * WI j k) fun k hk => by rw [hp i k hi hk, hwi j k hj hk, cmul], hal, ha i j hi hj, cmul, cadd, cadd]
  unfold gD gX Reference3Ideal.FirstNorm.dr
  simp only [up_eq]
  exact Ln.grad_eq (R := fun j => al * X i j + (Y i j + BO j))
    (H := fun j => ((∑ k ∈ Finset.range 320, Q i k * WD j k) + (∑ k ∈ Finset.range 2560, P i k * WI j k) + al * A i j) * G j)
    (by decide) Ln.k1024 he hk
    (fun k hk => by
      unfold Cert.Kernel3Ideal.FirstNorm.res
      rw [hal, hx i k hi hk, hy i k hi hk, hbo k hk, cmul, cadd, cadd])
    (fun k hk => by rw [hU k hk, hg k hk, cmul]) hj

end Cert.FirstNorm
-- ==== Proof.FirstNorm.lean ====
/-
  The first layer norm's gradient: the claims about this call.
-/
module

public import proofs.«01_k».proof.Defs
public import proofs.«01_k».proof.Proof.FirstNormEquation
public import proofs.«01_k».proof.Proof.Gen.Kernel3.Frame

@[expose] public section

noncomputable section

open Idealize.ShloMosaic Idealize.ShloMosaic.TcCoe Idealize.SL.Sem
open Cert.Arr

namespace Cert.FirstNorm

/-- The facts the precondition's text states. -/
instance preFacts : Cert.Pre_first_norm_finite.Facts where
  bcast_S_S4096x1024 := by decide +kernel
  bcast_S_S1024 := by decide +kernel
  bcast_S_S1024x2560 := by decide +kernel
  bcast_S_S1024x320 := by decide +kernel
  bcast_S_S4096x2560 := by decide +kernel
  bcast_S_S4096x320 := by decide +kernel

/-- The two programs' results are equal where the arguments are finite. -/
theorem value : Cert.algebraic_Kernel3Ideal_Reference3Ideal_pre_first_norm_finite := by
  intro m ρ m' ρ' hpre hargs
  have key : ∀ c : Dev Cert.Kernel3Ideal.nD, ∃ x y bo g wi wd a p q, Cert.Kernel3Ideal.FirstNorm.Args m c x y bo g wi wd a p q
      ∧ Cert.Reference3Ideal.FirstNorm.Args m' c x y bo g wi wd a p q
      ∧ (∀ i j, i < 4096 → j < 1024 → Cert.Kernel3Ideal.FirstNorm.gD x y bo g wi wd a p q i j = Cert.Reference3Ideal.FirstNorm.dr x y bo g wi wd a p q i j) := by
    intro c
    obtain ⟨a0, a1, a2, a3, a4, a5, a6, a7, a8, a9⟩ := hargs c
    obtain ⟨f0, f1, f2, f3, f4, f5, f6, f7, f8⟩ := hpre c
    obtain ⟨x, hx⟩ := exists_arr (s := ⟨2, ![4096, 1024]⟩) (by decide) (m ((c.tc : Thread Cert.Kernel3Ideal.nD Cert.Kernel3Ideal.τ).loc Cert.Kernel3Ideal.main_arg0))
    obtain ⟨y, hy⟩ := exists_arr (s := ⟨2, ![4096, 1024]⟩) (by decide) (m ((c.tc : Thread Cert.Kernel3Ideal.nD Cert.Kernel3Ideal.τ).loc Cert.Kernel3Ideal.main_arg1))
    obtain ⟨bo, hbo⟩ := exists_arr (s := ⟨1, ![1024]⟩) (by decide) (m ((c.tc : Thread Cert.Kernel3Ideal.nD Cert.Kernel3Ideal.τ).loc Cert.Kernel3Ideal.main_arg2))
    obtain ⟨g, hg⟩ := exists_arr (s := ⟨1, ![1024]⟩) (by decide) (m ((c.tc : Thread Cert.Kernel3Ideal.nD Cert.Kernel3Ideal.τ).loc Cert.Kernel3Ideal.main_arg3))
    obtain ⟨wi, hwi⟩ := exists_arr (s := ⟨2, ![1024, 2560]⟩) (by decide) (m ((c.tc : Thread Cert.Kernel3Ideal.nD Cert.Kernel3Ideal.τ).loc Cert.Kernel3Ideal.main_arg5))
    obtain ⟨wd, hwd⟩ := exists_arr (s := ⟨2, ![1024, 320]⟩) (by decide) (m ((c.tc : Thread Cert.Kernel3Ideal.nD Cert.Kernel3Ideal.τ).loc Cert.Kernel3Ideal.main_arg6))
    obtain ⟨a, ha⟩ := exists_arr (s := ⟨2, ![4096, 1024]⟩) (by decide) (m ((c.tc : Thread Cert.Kernel3Ideal.nD Cert.Kernel3Ideal.τ).loc Cert.Kernel3Ideal.main_arg7))
    obtain ⟨p, hp⟩ := exists_arr (s := ⟨2, ![4096, 2560]⟩) (by decide) (m ((c.tc : Thread Cert.Kernel3Ideal.nD Cert.Kernel3Ideal.τ).loc Cert.Kernel3Ideal.main_arg8))
    obtain ⟨q, hq⟩ := exists_arr (s := ⟨2, ![4096, 320]⟩) (by decide) (m ((c.tc : Thread Cert.Kernel3Ideal.nD Cert.Kernel3Ideal.τ).loc Cert.Kernel3Ideal.main_arg9))
    rw [hx, hy, hbo, hg, hwi, hwd, ha, hp, hq] at f0 f1 f2 f3 f4 f5 f6 f7 f8
    obtain ⟨X, rx⟩ := real2 x (finite_of_olt _ _ _ f0)
    obtain ⟨Y, ry⟩ := real2 y (finite_of_olt _ _ _ f1)
    obtain ⟨BO, rbo⟩ := real1 bo (finite_of_olt _ _ _ f2)
    obtain ⟨G, rg⟩ := real1 g (finite_of_olt _ _ _ f3)
    obtain ⟨WI, rwi⟩ := real2 wi (finite_of_olt _ _ _ f4)
    obtain ⟨WD, rwd⟩ := real2 wd (finite_of_olt _ _ _ f5)
    obtain ⟨A, ra⟩ := real2 a (finite_of_olt _ _ _ f6)
    obtain ⟨P, rp⟩ := real2 p (finite_of_olt _ _ _ f7)
    obtain ⟨Q, rq⟩ := real2 q (finite_of_olt _ _ _ f8)
    exact ⟨x, y, bo, g, wi, wd, a, p, q, ⟨hx, hy, hbo, hg, hwi, hwd, ha, hp, hq⟩,
      ⟨a0.trans hx, a1.trans hy, a2.trans hbo, a3.trans hg, a5.trans hwi, a6.trans hwd, a7.trans ha, a8.trans hp, a9.trans hq⟩,
      gD_eq x y bo g wi wd a p q rx ry rbo rg rwi rwd ra rp rq⟩
  choose x y bo g wi wd a p q hk hr he using key
  refine ⟨_, _, _, _, _, (θ_run Cert.Kernel3Ideal.defs _ _).mono (fun r h c => ⟨(h c).1.trans (Cert.Kernel3Ideal.FirstNorm.final8 m c (hk c)),
    (h c).2.1.trans (Cert.Kernel3Ideal.FirstNorm.final9 m c (hk c)), (h c).2.2.1.trans (Cert.Kernel3Ideal.FirstNorm.final10 m c (hk c)),
    (h c).2.2.2.1.trans (Cert.Kernel3Ideal.FirstNorm.final11 m c (hk c)), (h c).2.2.2.2.1.trans (Cert.Kernel3Ideal.FirstNorm.final12 m c (hk c)),
    (h c).2.2.2.2.2⟩) (Cert.Kernel3Ideal.Value.run_blocks m ρ), ?_⟩
  refine (θ_run Cert.Reference3Ideal.defs _ _).mono (fun r h c => ⟨(h c).1.trans ?_, (h c).2.1.trans ?_, (h c).2.2.1.trans ?_, (h c).2.2.2.1.trans ?_,
    (h c).2.2.2.2.1.trans ?_, (h c).2.2.2.2.2⟩) (Cert.Reference3Ideal.FirstNorm.run_at m' ρ' hr)
  · exact arr2_ext fun i j hi hj => (he c i j hi hj).symm
  · exact arr2_ext fun i j hi hj => (he c i j hi hj).symm
  · exact arr2_ext fun i j hi hj => Finset.sum_congr rfl fun k _ => (scale_eq (x c) (y c) (bo c) (wi c) (wd c) (a c) (p c) (q c) k j).symm
  · exact arr2_ext fun i j hi hj => Finset.sum_congr rfl fun k _ => (up_eq (wi c) (wd c) (a c) (p c) (q c) k j).symm
  · exact arr2_ext fun i j hi hj => Finset.sum_congr rfl fun k hk => (he c k j (Finset.mem_range.mp hk) hj).symm

end Cert.FirstNorm
-- ==== Proof.Totals.lean ====
/-
  Sums over a whole array of one column, and the reshapes around them.
-/
module

public import proofs.«01_k».proof.Proof.LnForm

@[expose] public section

noncomputable section

open Idealize.ShloMosaic hiding ix1 ix2 ix3
open Idealize.ShloMosaic.ValueIdx

namespace Cert.Arr

variable {n : ℕ} {φ ψ : FTy} (f g : ℕ → ℕ → ℕ → EReal)

/-- A row of numbers, summed over all its indices. -/
theorem sum_row (F : (⟨1, ![n]⟩ : Shape).Idx → EReal) : ∑ i, F i = ∑ k : Fin n, F (ix1 k) := by
  refine Fintype.sum_equiv ⟨fun i => i 0, fun k => ix1 k, fun i => ?_, fun k => rfl⟩ _ _ fun i => congrArg F ?_
  all_goals funext a; fin_cases a; rfl
/-- A column with a unit axis in front, summed over all its indices. -/
theorem sum_col (F : (⟨3, ![1, n, 1]⟩ : Shape).Idx → EReal) : ∑ i, F i = ∑ k : Fin n, F (ix3 0 k 0) := by
  refine Fintype.sum_equiv ⟨fun i => i 1, fun k => ix3 0 k 0, fun i => ?_, fun k => rfl⟩ _ _ fun i => congrArg F ?_
  all_goals
    funext a
    fin_cases a
    · exact Subsingleton.elim (α := Fin 1) _ _
    · rfl
    · exact Subsingleton.elim (α := Fin 1) _ _

theorem arr_cast_front (h) : shapeCast ⟨3, ![1, n, 1]⟩ (arr ⟨2, ![n, 1]⟩ f) h = arr ⟨3, ![1, n, 1]⟩ fun _ j _ => f j 0 0 := by
  funext j
  rw [shapeCast_apply _ h j (ix2 (j 1) 0) (by
    rw [Shape.rowMajor_val_two, Shape.rowMajor_val_three]
    have h0 : (j 0).val < 1 := (j 0).isLt
    have h2 : (j 2).val < 1 := (j 2).isLt
    show (j 1).val * 1 + 0 = ((j 0).val * n + (j 1).val) * 1 + (j 2).val
    rw [show (j 0).val = 0 by omega]; omega)]
  rfl
/-- The sum over the two last axes of such a column. -/
theorem arr_total_col (hr) (hφ : FKind.Formats .f32) (hacc : 0x00000000#32 = 0x00000000#32) :
    multiReduction (F := Ideal) (φ := .f32) .add [1, 2] ⟨1, ![1]⟩ (arr ⟨3, ![1, n, 1]⟩ f) 0x00000000#32 hr hφ hacc
      = arr ⟨1, ![1]⟩ fun _ _ _ => ∑ k ∈ Finset.range n, f 0 k 0 := by
  funext j
  rw [Ideal.multiReduction_add_total _ _ hr (fun b => by fin_cases b; rfl) hφ hacc, sum_col]
  exact (Finset.sum_range fun k => f 0 k 0).symm
theorem arr_cast_unit (h) : shapeCast ⟨3, ![1, 1, 1]⟩ (arr ⟨1, ![1]⟩ f) h = arr ⟨3, ![1, 1, 1]⟩ fun _ _ _ => f 0 0 0 := by
  funext j
  rw [shapeCast_apply _ h j (ix1 0) (by
    rw [Shape.rowMajor_val_one, Shape.rowMajor_val_three]
    have h0 : (j 0).val < 1 := (j 0).isLt
    have h1 : (j 1).val < 1 := (j 1).isLt
    have h2 : (j 2).val < 1 := (j 2).isLt
    show 0 = ((j 0).val * 1 + (j 1).val) * 1 + (j 2).val
    omega)]
  rfl
theorem arr_extract_unit (h) : extractAt ![0, 0, 0] (arr ⟨3, ![1, 1, 1]⟩ f) h = f 0 0 0 := rfl
theorem arr_splat (s : Shape) (x : EReal) : broadcast s x = arr s fun _ _ _ => x := rfl
/-- The host's sum over a whole row. -/
theorem arr_htotal (hr : Shape.ReducesTo ⟨1, ![n]⟩ [0] ⟨0, ![]⟩) (hu) :
    Host.reduceAdd (F := Ideal) (φ := φ) (arr ⟨1, ![n]⟩ f) (arr ⟨0, ![]⟩ g) hr hu
      = arr ⟨0, ![]⟩ fun _ _ _ => g 0 0 0 + ∑ k ∈ Finset.range n, f k 0 0 := by
  funext j
  rw [hostReduceAdd_apply, Ideal.hostReduceAdd_total hr (fun b => b.elim0), sum_row]
  exact congrArg (g 0 0 0 + ·) (Finset.sum_range fun k => f k 0 0).symm

end Cert.Arr
-- ==== Proof.LossHeadBlocks.lean ====
/-
  The last layer norm with the loss, kernel side: what the points leave, as formulas of the arguments' elements.
-/
module

public import proofs.«01_k».proof.Proof.Totals
public import proofs.«01_k».proof.Proof.Gen.Kernel4Ideal.Value
public import Idealize.ShloMosaic.Lib.Tactic
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)
open Cert.Arr

namespace Cert.Kernel4Ideal.LossHead

open Cert.Kernel4Ideal Cert.Kernel4Ideal.Gen

theorem hz : (![0, 0] : Fin 2 → Nat) = fun _ => 0 := funext fun a => by fin_cases a <;> rfl

section Cases
variable {F : FTy → Type} [FloatOps F]
variable (c : Dev nD) (i : grid0.Coords)
  (arg1 : Memref sig .tc .vmem S512x1024 .f32) (h1 : arg1.IsWhole)
  (arg2 : Memref sig .tc .vmem S512x2048 .bf16) (h2 : arg2.IsWhole)
  (arg3 : Memref sig .tc .vmem S2048x1024 .bf16) (h3 : arg3.IsWhole)
  (arg4 : Memref sig .tc .vmem S1x1024 .f32) (h4 : arg4.IsWhole)
  (arg5 : Memref sig .tc .vmem S1x1024 .f32) (h5 : arg5.IsWhole)
  (arg6 : Memref sig .tc .vmem S512x1024 .f32) (h6 : arg6.IsWhole)
  (arg7 : Memref sig .tc .vmem S1x128 .f32) (h7 : arg7.IsWhole)
  (arg8 : Memref sig .tc .vmem S512x1024 .f32) (h8 : arg8.IsWhole)
  (arg9 : Memref sig .tc .vmem S512x1024 .bf16) (h9 : arg9.IsWhole)
  (arg10 : Memref sig .tc .vmem S1x1024 .f32) (h10 : arg10.IsWhole)
  (arg11 : Memref sig .tc .vmem S1x1024 .f32) (h11 : arg11.IsWhole)
  (x0 : Vec F S512x1024 .f32)
  (x1 : Vec F S512x2048 .bf16)
  (x2 : Vec F S2048x1024 .bf16)
  (x3 : Vec F S1x1024 .f32)
  (x4 : Vec F S1x1024 .f32)
  (x5 : Vec F S512x1024 .f32)
  (xo6 : Vec F S1x128 .f32) (xo9 xo10 : Vec F S1x1024 .f32)

theorem out_A6 (hc) : out0_A_6 c i arg1 h1 arg2 h2 arg3 h3 arg4 h4 arg5 h5 arg6 h6 arg7 h7 arg8 h8 arg9 h9 arg10 h10 arg11 h11 hc x0 x1 x2 x3 x4 x5
    = k0_pay13 (k0_pay8 x0 x1 x2 x3 x4 x5) (Scalar.ofBits .f32 0x44800000#32) (k0_pay10 (F := F)) := by
  unfold out0_A_6
  rw [View.read_writes_eq_canon _ _ _ (cover0_A_6 c i arg1 h1 arg2 h2 arg3 h3 arg4 h4 arg5 h5 arg6 h6 arg7 h7 arg8 h8 arg9 h9 arg10 h10 arg11 h11 hc x0 x1 x2 x3 x4 x5)]
  unfold kernelRun0_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread, h6.read_unread, h7.read_unread, h10.read_unread, h11.read_unread,
    View.ld_unit_zero (S := S512x1024) hz, View.ld_unit_zero (S := S512x2048) hz, View.ld_unit_zero (S := S2048x1024) hz, View.ld_unit_zero (S := S1x128) hz, View.ld_unit_zero (S := S1x1024) hz]

theorem out_A7 (hc) : out0_A_7 c i arg1 h1 arg2 h2 arg3 h3 arg4 h4 arg5 h5 arg6 h6 arg7 h7 arg8 h8 arg9 h9 arg10 h10 arg11 h11 hc x0 x1 x2 x3 x4 x5
    = k0_pay1 (k0_pay4 x0 x1 x2) (k0_pay5 x0 x1 x2) (k0_pay16 (k0_pay6 x3) (k0_pay7 x0 x1 x2 x3 x4 x5)) (k0_pay17 (k0_pay6 x3) (k0_pay7 x0 x1 x2 x3 x4 x5)) (k0_pay18 (F := F)) := by
  unfold out0_A_7
  rw [View.read_writes_eq_canon _ _ _ (cover0_A_7 c i arg1 h1 arg2 h2 arg3 h3 arg4 h4 arg5 h5 arg6 h6 arg7 h7 arg8 h8 arg9 h9 arg10 h10 arg11 h11 hc x0 x1 x2 x3 x4 x5)]
  unfold kernelRun0_A
  dsimp only
  sl_unfold_words
  rw [View.canon_unit_zero hz]
  simp only [View.readAt_eq_ld, h1.read_unread, h2.read_unread, h3.read_unread, h4.read_unread, h5.read_unread, h6.read_unread, h7.read_unread, h10.read_unread, h11.read_unread,
    View.ld_unit_zero (S := S512x1024) hz, View.ld_unit_zero (S := S512x2048) hz, View.ld_unit_zero (S := S2048x1024) hz, View.ld_unit_zero (S := S1x128) hz, View.ld_unit_zero (S := S1x1024) hz]

theorem out_A8 (hc) : out0_A_8 c i arg1 h1 arg2 h2 arg3 h3 arg4 h4 arg5 h5 arg6 h6 arg7 h7 arg8 h8 arg9 h9 arg10 h10 arg11 h11 hc x0 x1 x2 x3 x4 x5
    = k0_pay2 (k0_pay4 x0 x1 x2) (k0_pay5 x0 x1 x2) (k0_pay16 (k0_pay6 x3) (k0_pay7 x0 x1 x2 x3 x4 x5)) (k0_pay17 (k0_pay6 x3) (k0_pay7 x0 x1 x2 x3 x4 x5)) (k0_pay18 (F := F)) := by
  unfold out0_A_8
  rw [View.read_writes_eq_canon _ _ _ (cover0_A_8 c i arg1 h1 arg2 h2 arg3 h3 arg4 h4 arg5 h5 arg6 h6 arg7 h7 arg8 h8 arg9 h9 arg10 h10 arg11 h11 hc x0 x1 x2 x3 x4 x5)]
  unfold kernelRun0_A
  dsimp only
  sl_unfold_words
  rw [View.canon_unit_zero hz]
  simp only [View.readAt_eq_ld, h1.read_unread, h2.read_unread, h3.read_unread, h4.read_unread, h5.read_unread, h6.read_unread, h7.read_unread, h10.read_unread, h11.read_unread,
    View.ld_unit_zero (S := S512x1024) hz, View.ld_unit_zero (S := S512x2048) hz, View.ld_unit_zero (S := S2048x1024) hz, View.ld_unit_zero (S := S1x128) hz, View.ld_unit_zero (S := S1x1024) hz]

theorem out_A9 (hc) : out0_A_9 c i arg1 h1 arg2 h2 arg3 h3 arg4 h4 arg5 h5 arg6 h6 arg7 h7 arg8 h8 arg9 h9 arg10 h10 arg11 h11 hc x0 x1 x2 x3 x4 x5
    = k0_pay14 (k0_pay5 x0 x1 x2) (k0_pay7 x0 x1 x2 x3 x4 x5) (k0_pay11 (F := F)) := by
  unfold out0_A_9
  rw [View.read_writes_eq_canon _ _ _ (cover0_A_9 c i arg1 h1 arg2 h2 arg3 h3 arg4 h4 arg5 h5 arg6 h6 arg7 h7 arg8 h8 arg9 h9 arg10 h10 arg11 h11 hc x0 x1 x2 x3 x4 x5)]
  unfold kernelRun0_A
  dsimp only
  sl_unfold_words
  rw [View.canon_cons_unit_zero (S := S1x1024) hz, View.readCov_unit_zero (S := S1x1024) _ hz]
  simp only [View.readAt_eq_ld, h1.read_unread, h2.read_unread, h3.read_unread, h4.read_unread, h5.read_unread, h6.read_unread, h7.read_unread, h10.read_unread, h11.read_unread,
    View.ld_unit_zero (S := S512x1024) hz, View.ld_unit_zero (S := S512x2048) hz, View.ld_unit_zero (S := S2048x1024) hz, View.ld_unit_zero (S := S1x128) hz, View.ld_unit_zero (S := S1x1024) hz]

theorem out_A10 (hc) : out0_A_10 c i arg1 h1 arg2 h2 arg3 h3 arg4 h4 arg5 h5 arg6 h6 arg7 h7 arg8 h8 arg9 h9 arg10 h10 arg11 h11 hc x0 x1 x2 x3 x4 x5
    = k0_pay15 (k0_pay7 x0 x1 x2 x3 x4 x5) (k0_pay12 (F := F)) := by
  unfold out0_A_10
  rw [View.read_writes_eq_canon _ _ _ (cover0_A_10 c i arg1 h1 arg2 h2 arg3 h3 arg4 h4 arg5 h5 arg6 h6 arg7 h7 arg8 h8 arg9 h9 arg10 h10 arg11 h11 hc x0 x1 x2 x3 x4 x5)]
  unfold kernelRun0_A
  dsimp only
  sl_unfold_words
  rw [View.canon_cons_unit_zero (S := S1x1024) hz, View.readCov_unit_zero (S := S1x1024) _ hz]
  simp only [View.readAt_eq_ld, h1.read_unread, h2.read_unread, h3.read_unread, h4.read_unread, h5.read_unread, h6.read_unread, h7.read_unread, h10.read_unread, h11.read_unread,
    View.ld_unit_zero (S := S512x1024) hz, View.ld_unit_zero (S := S512x2048) hz, View.ld_unit_zero (S := S2048x1024) hz, View.ld_unit_zero (S := S1x128) hz, View.ld_unit_zero (S := S1x1024) hz]

theorem out_B6 (hc) : out0_B_6 c i arg1 h1 arg2 h2 arg3 h3 arg4 h4 arg5 h5 arg6 h6 arg7 h7 arg8 h8 arg9 h9 arg10 h10 arg11 h11 hc x0 x1 x2 x3 x4 x5 xo6 xo9 xo10
    = k0_pay13 (k0_pay8 x0 x1 x2 x3 x4 x5) (Scalar.ofBits .f32 0x44800000#32) xo6 := by
  unfold out0_B_6
  rw [View.read_writes_eq_canon _ _ _ (cover0_B_6 c i arg1 h1 arg2 h2 arg3 h3 arg4 h4 arg5 h5 arg6 h6 arg7 h7 arg8 h8 arg9 h9 arg10 h10 arg11 h11 hc x0 x1 x2 x3 x4 x5 xo6 xo9 xo10)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h10.read_unread, h11.read_unread,
    View.ld_unit_zero (S := S512x1024) hz, View.ld_unit_zero (S := S512x2048) hz, View.ld_unit_zero (S := S2048x1024) hz, View.ld_unit_zero (S := S1x128) hz, View.ld_unit_zero (S := S1x1024) hz]

theorem out_B7 (hc) : out0_B_7 c i arg1 h1 arg2 h2 arg3 h3 arg4 h4 arg5 h5 arg6 h6 arg7 h7 arg8 h8 arg9 h9 arg10 h10 arg11 h11 hc x0 x1 x2 x3 x4 x5 xo6 xo9 xo10
    = k0_pay1 (k0_pay4 x0 x1 x2) (k0_pay5 x0 x1 x2) (k0_pay16 (k0_pay6 x3) (k0_pay7 x0 x1 x2 x3 x4 x5)) (k0_pay17 (k0_pay6 x3) (k0_pay7 x0 x1 x2 x3 x4 x5)) (k0_pay18 (F := F)) := by
  unfold out0_B_7
  rw [View.read_writes_eq_canon _ _ _ (cover0_B_7 c i arg1 h1 arg2 h2 arg3 h3 arg4 h4 arg5 h5 arg6 h6 arg7 h7 arg8 h8 arg9 h9 arg10 h10 arg11 h11 hc x0 x1 x2 x3 x4 x5 xo6 xo9 xo10)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h10.read_unread, h11.read_unread,
    View.ld_unit_zero (S := S512x1024) hz, View.ld_unit_zero (S := S512x2048) hz, View.ld_unit_zero (S := S2048x1024) hz, View.ld_unit_zero (S := S1x128) hz, View.ld_unit_zero (S := S1x1024) hz]

theorem out_B8 (hc) : out0_B_8 c i arg1 h1 arg2 h2 arg3 h3 arg4 h4 arg5 h5 arg6 h6 arg7 h7 arg8 h8 arg9 h9 arg10 h10 arg11 h11 hc x0 x1 x2 x3 x4 x5 xo6 xo9 xo10
    = k0_pay2 (k0_pay4 x0 x1 x2) (k0_pay5 x0 x1 x2) (k0_pay16 (k0_pay6 x3) (k0_pay7 x0 x1 x2 x3 x4 x5)) (k0_pay17 (k0_pay6 x3) (k0_pay7 x0 x1 x2 x3 x4 x5)) (k0_pay18 (F := F)) := by
  unfold out0_B_8
  rw [View.read_writes_eq_canon _ _ _ (cover0_B_8 c i arg1 h1 arg2 h2 arg3 h3 arg4 h4 arg5 h5 arg6 h6 arg7 h7 arg8 h8 arg9 h9 arg10 h10 arg11 h11 hc x0 x1 x2 x3 x4 x5 xo6 xo9 xo10)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h10.read_unread, h11.read_unread,
    View.ld_unit_zero (S := S512x1024) hz, View.ld_unit_zero (S := S512x2048) hz, View.ld_unit_zero (S := S2048x1024) hz, View.ld_unit_zero (S := S1x128) hz, View.ld_unit_zero (S := S1x1024) hz]

theorem out_B9 (hc) : out0_B_9 c i arg1 h1 arg2 h2 arg3 h3 arg4 h4 arg5 h5 arg6 h6 arg7 h7 arg8 h8 arg9 h9 arg10 h10 arg11 h11 hc x0 x1 x2 x3 x4 x5 xo6 xo9 xo10
    = k0_pay14 (k0_pay5 x0 x1 x2) (k0_pay7 x0 x1 x2 x3 x4 x5) xo9 := by
  unfold out0_B_9
  rw [View.read_writes_eq_canon _ _ _ (cover0_B_9 c i arg1 h1 arg2 h2 arg3 h3 arg4 h4 arg5 h5 arg6 h6 arg7 h7 arg8 h8 arg9 h9 arg10 h10 arg11 h11 hc x0 x1 x2 x3 x4 x5 xo6 xo9 xo10)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h10.read_unread, h11.read_unread,
    View.ld_unit_zero (S := S512x1024) hz, View.ld_unit_zero (S := S512x2048) hz, View.ld_unit_zero (S := S2048x1024) hz, View.ld_unit_zero (S := S1x128) hz, View.ld_unit_zero (S := S1x1024) hz]

theorem out_B10 (hc) : out0_B_10 c i arg1 h1 arg2 h2 arg3 h3 arg4 h4 arg5 h5 arg6 h6 arg7 h7 arg8 h8 arg9 h9 arg10 h10 arg11 h11 hc x0 x1 x2 x3 x4 x5 xo6 xo9 xo10
    = k0_pay15 (k0_pay7 x0 x1 x2 x3 x4 x5) xo10 := by
  unfold out0_B_10
  rw [View.read_writes_eq_canon _ _ _ (cover0_B_10 c i arg1 h1 arg2 h2 arg3 h3 arg4 h4 arg5 h5 arg6 h6 arg7 h7 arg8 h8 arg9 h9 arg10 h10 arg11 h11 hc x0 x1 x2 x3 x4 x5 xo6 xo9 xo10)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h10.read_unread, h11.read_unread,
    View.ld_unit_zero (S := S512x1024) hz, View.ld_unit_zero (S := S512x2048) hz, View.ld_unit_zero (S := S2048x1024) hz, View.ld_unit_zero (S := S1x128) hz, View.ld_unit_zero (S := S1x1024) hz]

end Cases

section Arrays
variable (m : (ℓ : Loc nD τ sig) → Buf (Elt Ideal) ℓ) (c : Dev nD)

/-- The number of columns, as the divisor. -/
abbrev K : EReal := Ideal.ofBits .f32 0x44800000#32
/-- The constant under the deviation. -/
abbrev eps : EReal := Ideal.ofBits .f32 0x3727C5AC#32

/-! ## The arrays the region finds -/

theorem V_u {d : ℕ → ℕ → ℕ → EReal} (h : m ((c : Thread nD τ).loc main_arg1) = arr S4096x2048 d) : V m c main_v0 = arr S4096x2048 d := by
  unfold V
  after_reads_simp
  rw [h]
  rfl
theorem V_w {w : ℕ → ℕ → ℕ → EReal} (h : m ((c : Thread nD τ).loc main_arg2) = arr S2048x1024 w) : V m c main_v1 = arr S2048x1024 w := by
  unfold V
  after_reads_simp
  rw [h]
  rfl
theorem V_g {g : ℕ → ℕ → ℕ → EReal} (h : m ((c : Thread nD τ).loc main_arg3) = arr S1024 g) : V m c main_v2 = arr S1x1024 fun _ j _ => g j 0 0 := by
  unfold V
  after_reads_simp
  rw [h]
  exact arr_cast_row g _
theorem V_b {b : ℕ → ℕ → ℕ → EReal} (h : m ((c : Thread nD τ).loc main_arg4) = arr S1024 b) : V m c main_v3 = arr S1x1024 fun _ j _ => b j 0 0 := by
  unfold V
  after_reads_simp
  rw [h]
  exact arr_cast_row b _

/-! ## The blocks the points read -/

theorem idx0 : ∀ t : Fin cfg0.N, win0_0.index t 0 = t.val ∧ win0_0.index t 1 = 0 := by decide +kernel
theorem idx1 : ∀ t : Fin cfg0.N, win0_1.index t 0 = t.val ∧ win0_1.index t 1 = 0 := by decide +kernel
theorem idx2 : ∀ t : Fin cfg0.N, win0_2.index t 0 = 0 ∧ win0_2.index t 1 = 0 := by decide +kernel
theorem idx3 : ∀ t : Fin cfg0.N, win0_3.index t 0 = 0 ∧ win0_3.index t 1 = 0 := by decide +kernel
theorem idx4 : ∀ t : Fin cfg0.N, win0_4.index t 0 = 0 ∧ win0_4.index t 1 = 0 := by decide +kernel
theorem idx5 : ∀ t : Fin cfg0.N, win0_5.index t 0 = t.val ∧ win0_5.index t 1 = 0 := by decide +kernel
theorem idx6 : ∀ t : Fin cfg0.N, win0_6.index t 0 = 0 ∧ win0_6.index t 1 = 0 := by decide +kernel
theorem idx7 : ∀ t : Fin cfg0.N, win0_7.index t 0 = t.val ∧ win0_7.index t 1 = 0 := by decide +kernel
theorem idx8 : ∀ t : Fin cfg0.N, win0_8.index t 0 = t.val ∧ win0_8.index t 1 = 0 := by decide +kernel
theorem idx9 : ∀ t : Fin cfg0.N, win0_9.index t 0 = 0 ∧ win0_9.index t 1 = 0 := by decide +kernel
theorem idx10 : ∀ t : Fin cfg0.N, win0_10.index t 0 = 0 ∧ win0_10.index t 1 = 0 := by decide +kernel

variable (t : Fin cfg0.N) {f : ℕ → ℕ → ℕ → EReal}

theorem blk0 (h : m ((c : Thread nD τ).loc main_arg0) = arr S4096x1024 f) : iblk m c 0 t = arr S512x1024 fun i j _ => f (t.val * 512 + i) j 0 := by
  funext j
  unfold iblk
  rw [View.read_apply]
  show V m c main_arg0 _ = _
  rw [V_main_arg0, h]
  refine at_congr (f := f) ?_ ?_
  · show win0_0.index t 0 * 512 + 1 * (j 0).val = t.val * 512 + (j 0).val
    rw [(idx0 t).1]; omega
  · show win0_0.index t 1 * 1024 + 1 * (j 1).val = (j 1).val
    rw [(idx0 t).2]; omega
theorem blk1 (h : V m c main_v0 = arr S4096x2048 f) : iblk m c 1 t = arr S512x2048 fun i j _ => f (t.val * 512 + i) j 0 := by
  funext j
  unfold iblk
  rw [View.read_apply]
  show V m c main_v0 _ = _
  rw [h]
  refine at_congr (f := f) ?_ ?_
  · show win0_1.index t 0 * 512 + 1 * (j 0).val = t.val * 512 + (j 0).val
    rw [(idx1 t).1]; omega
  · show win0_1.index t 1 * 2048 + 1 * (j 1).val = (j 1).val
    rw [(idx1 t).2]; omega
theorem blk2 (h : V m c main_v1 = arr S2048x1024 f) : iblk m c 2 t = arr S2048x1024 fun i j _ => f i j 0 := by
  funext j
  unfold iblk
  rw [View.read_apply]
  show V m c main_v1 _ = _
  rw [h]
  refine at_congr (f := f) ?_ ?_
  · show win0_2.index t 0 * 2048 + 1 * (j 0).val = (j 0).val
    rw [(idx2 t).1]; omega
  · show win0_2.index t 1 * 1024 + 1 * (j 1).val = (j 1).val
    rw [(idx2 t).2]; omega
theorem blk3 (h : V m c main_v2 = arr S1x1024 f) : iblk m c 3 t = arr S1x1024 fun i j _ => f i j 0 := by
  funext j
  unfold iblk
  rw [View.read_apply]
  show V m c main_v2 _ = _
  rw [h]
  refine at_congr (f := f) ?_ ?_
  · show win0_3.index t 0 * 1 + 1 * (j 0).val = (j 0).val
    rw [(idx3 t).1]; omega
  · show win0_3.index t 1 * 1024 + 1 * (j 1).val = (j 1).val
    rw [(idx3 t).2]; omega
theorem blk4 (h : V m c main_v3 = arr S1x1024 f) : iblk m c 4 t = arr S1x1024 fun i j _ => f i j 0 := by
  funext j
  unfold iblk
  rw [View.read_apply]
  show V m c main_v3 _ = _
  rw [h]
  refine at_congr (f := f) ?_ ?_
  · show win0_4.index t 0 * 1 + 1 * (j 0).val = (j 0).val
    rw [(idx4 t).1]; omega
  · show win0_4.index t 1 * 1024 + 1 * (j 1).val = (j 1).val
    rw [(idx4 t).2]; omega
theorem blk5 (h : m ((c : Thread nD τ).loc main_arg5) = arr S4096x1024 f) : iblk m c 5 t = arr S512x1024 fun i j _ => f (t.val * 512 + i) j 0 := by
  funext j
  unfold iblk
  rw [View.read_apply]
  show V m c main_arg5 _ = _
  rw [V_main_arg5, h]
  refine at_congr (f := f) ?_ ?_
  · show win0_5.index t 0 * 512 + 1 * (j 0).val = t.val * 512 + (j 0).val
    rw [(idx5 t).1]; omega
  · show win0_5.index t 1 * 1024 + 1 * (j 1).val = (j 1).val
    rw [(idx5 t).2]; omega

/-! ## What the points leave -/

section Points
variable (x u w y : ℕ → ℕ → EReal) (g b : ℕ → EReal)

/-- The residual's row `i`. -/
def res (i j : ℕ) : EReal := Ideal.ofBits .f32 0x3FB504F3#32 * x i j + ∑ k ∈ Finset.range 2048, u i k * w k j
/-- The normalized residual. -/
def xh (i j : ℕ) : EReal := Ln.xh 1024 K eps (res x u w i) j
/-- The norm less the target. -/
def diff (i j : ℕ) : EReal := xh x u w i j * g j + b j - y i j
/-- The gradient above the norm. -/
def dh (i j : ℕ) : EReal := diff x u w y g b i j * Ideal.ofBits .f32 0x3A800000#32
/-- A row's mean square. -/
def ms (i : ℕ) : EReal := Ideal.div (∑ j ∈ Finset.range 1024, diff x u w y g b i j * diff x u w y g b i j) K
/-- The gradient below the norm. -/
def dx (i j : ℕ) : EReal := Ln.kdx 1024 K (fun j => dh x u w y g b i j * g j) (Ideal.rsqrt (Ln.vr 1024 K eps (res x u w i))) (xh x u w i) j

theorem pay3_eq : k0_pay3 (F := Ideal) (arr S512x1024 fun i j _ => x i j) (arr S512x2048 fun i j _ => u i j) (arr S2048x1024 fun i j _ => w i j)
    = arr S512x1024 fun i j _ => Ln.xc 1024 K (res x u w i) j := by
  unfold k0_pay3
  simp only [dot_S512x2048_S2048x1024_S512x1024_1_0_0_1_n_n, arr_cast_self, arr_const, Ideal.ofBits_zero_f32, arr_bcast]
  rw [arr_matmul_nn (n := 512) (m := 1024) (K := 2048)]
  simp only [zero_add, arr_mul, arr_add, arr_rowsum (n := 512) (m := 1024), arr_cast_col (n := 512), arr_div, arr_spread_col (n := 512) (m := 1024), arr_sub]
  rfl
theorem pay4_eq : k0_pay4 (F := Ideal) (arr S512x1024 fun i j _ => x i j) (arr S512x2048 fun i j _ => u i j) (arr S2048x1024 fun i j _ => w i j)
    = arr S512x1 fun i _ _ => Ideal.rsqrt (Ln.vr 1024 K eps (res x u w i)) := by
  unfold k0_pay4
  simp only [pay3_eq, arr_mul, arr_rowsum (n := 512) (m := 1024), arr_cast_col (n := 512), arr_bcast, arr_div, arr_add, arr_rsqrt]
  rfl
theorem pay5_eq : k0_pay5 (F := Ideal) (arr S512x1024 fun i j _ => x i j) (arr S512x2048 fun i j _ => u i j) (arr S2048x1024 fun i j _ => w i j)
    = arr S512x1024 fun i j _ => xh x u w i j := by
  unfold k0_pay5
  simp only [pay3_eq, pay4_eq, arr_mul, arr_spread_col (n := 512) (m := 1024)]
  rfl
theorem pay6_eq : k0_pay6 (F := Ideal) (arr S1x1024 fun _ j _ => g j) = arr S1x1024 fun _ j _ => g j := by
  unfold k0_pay6
  simp only [arr_cast_self]
theorem pay7_eq : k0_pay7 (F := Ideal) (arr S512x1024 fun i j _ => x i j) (arr S512x2048 fun i j _ => u i j) (arr S2048x1024 fun i j _ => w i j)
    (arr S1x1024 fun _ j _ => g j) (arr S1x1024 fun _ j _ => b j) (arr S512x1024 fun i j _ => y i j) = arr S512x1024 fun i j _ => diff x u w y g b i j := by
  unfold k0_pay7
  simp only [pay5_eq, pay6_eq, arr_cast_self, arr_spread_row (n := 512) (m := 1024), arr_mul, arr_add, arr_sub]
  rfl
theorem pay8_eq : k0_pay8 (F := Ideal) (arr S512x1024 fun i j _ => x i j) (arr S512x2048 fun i j _ => u i j) (arr S2048x1024 fun i j _ => w i j)
    (arr S1x1024 fun _ j _ => g j) (arr S1x1024 fun _ j _ => b j) (arr S512x1024 fun i j _ => y i j)
      = arr S512x1 fun i _ _ => ∑ j ∈ Finset.range 1024, diff x u w y g b i j * diff x u w y g b i j := by
  unfold k0_pay8
  simp only [pay7_eq, arr_mul, arr_rowsum (n := 512) (m := 1024), arr_cast_col (n := 512)]
theorem pay9_eq : k0_pay9 (F := Ideal) (arr S512x1024 fun i j _ => diff x u w y g b i j) = arr S512x1024 fun i j _ => dh x u w y g b i j := by
  unfold k0_pay9
  simp only [arr_bcast, arr_mul]
  rfl
theorem pay13_eq (q : ℕ → EReal) (o : ℕ → ℕ → EReal) : k0_pay13 (F := Ideal) (arr S512x1 fun i _ _ => q i) (Scalar.ofBits .f32 0x44800000#32) (arr S1x128 fun i j _ => o i j)
    = arr S1x128 fun i j _ => o i j + Ideal.ofBits .f32 0x3F000000#32 * ∑ k ∈ Finset.range 512, Ideal.div (q k) K := by
  unfold k0_pay13
  simp only [arr_bcast, arr_div, arr_cast_front (n := 512), arr_total_col (n := 512), arr_cast_unit, arr_extract_unit, arr_cast_self]
  rfl
theorem pay14_eq (o : ℕ → ℕ → EReal) : k0_pay14 (F := Ideal) (arr S512x1024 fun i j _ => xh x u w i j) (arr S512x1024 fun i j _ => diff x u w y g b i j) (arr S1x1024 fun i j _ => o i j)
    = arr S1x1024 fun i j _ => o i j + ∑ k ∈ Finset.range 512, dh x u w y g b k j * xh x u w k j := by
  unfold k0_pay14
  simp only [pay9_eq, arr_mul, arr_cast_self, arr_colsum (n := 512) (m := 1024), arr_cast_row, arr_add]
theorem pay15_eq (o : ℕ → ℕ → EReal) : k0_pay15 (F := Ideal) (arr S512x1024 fun i j _ => diff x u w y g b i j) (arr S1x1024 fun i j _ => o i j)
    = arr S1x1024 fun i j _ => o i j + ∑ k ∈ Finset.range 512, dh x u w y g b k j := by
  unfold k0_pay15
  simp only [pay9_eq, arr_cast_self, arr_colsum (n := 512) (m := 1024), arr_cast_row, arr_add]
theorem pay16_eq : k0_pay16 (F := Ideal) (arr S1x1024 fun _ j _ => g j) (arr S512x1024 fun i j _ => diff x u w y g b i j)
    = arr S512x1024 fun i j _ => dh x u w y g b i j * g j := by
  unfold k0_pay16
  simp only [pay9_eq, arr_spread_row (n := 512) (m := 1024), arr_mul]
theorem pay17_eq : k0_pay17 (F := Ideal) (arr S1x1024 fun _ j _ => g j) (arr S512x1024 fun i j _ => diff x u w y g b i j)
    = arr S512x1 fun i _ _ => ∑ j ∈ Finset.range 1024, dh x u w y g b i j * g j := by
  unfold k0_pay17
  simp only [pay16_eq, arr_rowsum (n := 512) (m := 1024), arr_cast_col (n := 512)]
theorem pay18_eq : k0_pay18 (F := Ideal) = arr S512x1 fun _ _ _ => K := by
  unfold k0_pay18
  simp only [arr_bcast]
theorem pay1_eq : k0_pay1 (F := Ideal) (arr S512x1 fun i _ _ => Ideal.rsqrt (Ln.vr 1024 K eps (res x u w i))) (arr S512x1024 fun i j _ => xh x u w i j)
    (arr S512x1024 fun i j _ => dh x u w y g b i j * g j) (arr S512x1 fun i _ _ => ∑ j ∈ Finset.range 1024, dh x u w y g b i j * g j) (arr S512x1 fun _ _ _ => K)
      = arr S512x1024 fun i j _ => dx x u w y g b i j := by
  unfold k0_pay1
  simp only [arr_mul, arr_rowsum (n := 512) (m := 1024), arr_cast_col (n := 512), arr_bcast, arr_div, arr_spread_col (n := 512) (m := 1024), arr_sub]
  rfl
theorem pay10_eq : k0_pay10 (F := Ideal) = arr S1x128 fun _ _ _ => 0 := by
  unfold k0_pay10
  simp only [arr_bcast, Ideal.ofBits_zero_f32]
theorem pay11_eq : k0_pay11 (F := Ideal) = arr S1x1024 fun _ _ _ => 0 := by
  unfold k0_pay11
  simp only [arr_bcast, Ideal.ofBits_zero_f32]
theorem pay12_eq : k0_pay12 (F := Ideal) = arr S1x1024 fun _ _ _ => 0 := by
  unfold k0_pay12
  simp only [arr_bcast, Ideal.ofBits_zero_f32]

/-- The gradient below the norm, as a point leaves it. -/
theorem back_eq : k0_pay1 (F := Ideal) (k0_pay4 (arr S512x1024 fun i j _ => x i j) (arr S512x2048 fun i j _ => u i j) (arr S2048x1024 fun i j _ => w i j)) (k0_pay5 (arr S512x1024 fun i j _ => x i j) (arr S512x2048 fun i j _ => u i j) (arr S2048x1024 fun i j _ => w i j))
    (k0_pay16 (k0_pay6 (arr S1x1024 fun _ j _ => g j)) (k0_pay7 (arr S512x1024 fun i j _ => x i j) (arr S512x2048 fun i j _ => u i j) (arr S2048x1024 fun i j _ => w i j) (arr S1x1024 fun _ j _ => g j) (arr S1x1024 fun _ j _ => b j) (arr S512x1024 fun i j _ => y i j)))
    (k0_pay17 (k0_pay6 (arr S1x1024 fun _ j _ => g j)) (k0_pay7 (arr S512x1024 fun i j _ => x i j) (arr S512x2048 fun i j _ => u i j) (arr S2048x1024 fun i j _ => w i j) (arr S1x1024 fun _ j _ => g j) (arr S1x1024 fun _ j _ => b j) (arr S512x1024 fun i j _ => y i j))) k0_pay18
      = arr S512x1024 fun i j _ => dx x u w y g b i j := by
  rw [pay4_eq, pay5_eq, pay6_eq, pay7_eq, pay16_eq, pay17_eq, pay18_eq, pay1_eq]
/-- One point's part of the loss. -/
theorem loss_eq (o : ℕ → ℕ → EReal) : k0_pay13 (F := Ideal) (k0_pay8 (arr S512x1024 fun i j _ => x i j) (arr S512x2048 fun i j _ => u i j) (arr S2048x1024 fun i j _ => w i j) (arr S1x1024 fun _ j _ => g j) (arr S1x1024 fun _ j _ => b j) (arr S512x1024 fun i j _ => y i j)) (Scalar.ofBits .f32 0x44800000#32) (arr S1x128 fun i j _ => o i j)
    = arr S1x128 fun i j _ => o i j + Ideal.ofBits .f32 0x3F000000#32 * ∑ k ∈ Finset.range 512, ms x u w y g b k := by
  rw [pay8_eq, pay13_eq]; rfl
theorem scale_eq (o : ℕ → ℕ → EReal) : k0_pay14 (F := Ideal) (k0_pay5 (arr S512x1024 fun i j _ => x i j) (arr S512x2048 fun i j _ => u i j) (arr S2048x1024 fun i j _ => w i j)) (k0_pay7 (arr S512x1024 fun i j _ => x i j) (arr S512x2048 fun i j _ => u i j) (arr S2048x1024 fun i j _ => w i j) (arr S1x1024 fun _ j _ => g j) (arr S1x1024 fun _ j _ => b j) (arr S512x1024 fun i j _ => y i j)) (arr S1x1024 fun i j _ => o i j)
    = arr S1x1024 fun i j _ => o i j + ∑ k ∈ Finset.range 512, dh x u w y g b k j * xh x u w k j := by
  rw [pay5_eq, pay7_eq, pay14_eq]
theorem offset_eq (o : ℕ → ℕ → EReal) : k0_pay15 (F := Ideal) (k0_pay7 (arr S512x1024 fun i j _ => x i j) (arr S512x2048 fun i j _ => u i j) (arr S2048x1024 fun i j _ => w i j) (arr S1x1024 fun _ j _ => g j) (arr S1x1024 fun _ j _ => b j) (arr S512x1024 fun i j _ => y i j)) (arr S1x1024 fun i j _ => o i j)
    = arr S1x1024 fun i j _ => o i j + ∑ k ∈ Finset.range 512, dh x u w y g b k j := by
  rw [pay7_eq, pay15_eq]
end Points
end Arrays

end Cert.Kernel4Ideal.LossHead
-- ==== Proof.LossHeadValue.lean ====
/-
  The last layer norm with the loss, kernel side: the five result arrays after the run. Row tile `t` of the two gradients is
  what point `t` leaves; the loss and the other two are sums over all rows, 512 of them added per point.
-/
module

public import proofs.«01_k».proof.Proof.LossHeadBlocks
public import Idealize.ShloMosaic.Lib.Pipeline.ValueKit.Geometry

@[expose] public section

set_option maxRecDepth 16384

noncomputable section

open Idealize.ShloMosaic Idealize.ShloMosaic.TcCoe Idealize.SL.Sem
open Idealize.ShloMosaic.Pipeline (Dat)
open Cert.Arr

namespace Cert.Kernel4Ideal.LossHead

open Cert.Kernel4Ideal Cert.Kernel4Ideal.Gen Cert.Kernel4Ideal.Value

variable (m : (ℓ : Loc nD τ sig) → Buf (Elt Ideal) ℓ) (c : Dev nD)
variable {x u w y g b : ℕ → ℕ → ℕ → EReal}

/-- The arguments of the kernel as functions of coordinates. -/
structure Args (x u w g b y : ℕ → ℕ → ℕ → EReal) : Prop where
  hx : m ((c : Thread nD τ).loc main_arg0) = arr S4096x1024 x
  hu : m ((c : Thread nD τ).loc main_arg1) = arr S4096x2048 u
  hw : m ((c : Thread nD τ).loc main_arg2) = arr S2048x1024 w
  hg : m ((c : Thread nD τ).loc main_arg3) = arr S1024 g
  hb : m ((c : Thread nD τ).loc main_arg4) = arr S1024 b
  hy : m ((c : Thread nD τ).loc main_arg5) = arr S4096x1024 y

/-- The normalized residual. -/
def gX (x u w : ℕ → ℕ → ℕ → EReal) (i j : ℕ) : EReal := xh (fun i j => x i j 0) (fun i j => u i j 0) (fun i j => w i j 0) i j
/-- The gradient above the norm. -/
def gH (x u w g b y : ℕ → ℕ → ℕ → EReal) (i j : ℕ) : EReal :=
  dh (fun i j => x i j 0) (fun i j => u i j 0) (fun i j => w i j 0) (fun i j => y i j 0) (fun j => g j 0 0) (fun j => b j 0 0) i j
/-- A row's mean square. -/
def gM (x u w g b y : ℕ → ℕ → ℕ → EReal) (i : ℕ) : EReal :=
  ms (fun i j => x i j 0) (fun i j => u i j 0) (fun i j => w i j 0) (fun i j => y i j 0) (fun j => g j 0 0) (fun j => b j 0 0) i
/-- The gradient below the norm. -/
def gD (x u w g b y : ℕ → ℕ → ℕ → EReal) (i j : ℕ) : EReal :=
  dx (fun i j => x i j 0) (fun i j => u i j 0) (fun i j => w i j 0) (fun i j => y i j 0) (fun j => g j 0 0) (fun j => b j 0 0) i j

variable (h : Args m c x u w g b y)
include h

theorem rd0 (t : Fin cfg0.N) : iblk m c 0 t = arr S512x1024 fun i j _ => x (t.val * 512 + i) j 0 := blk0 m c t (f := x) h.hx
theorem rd1 (t : Fin cfg0.N) : iblk m c 1 t = arr S512x2048 fun i j _ => u (t.val * 512 + i) j 0 := blk1 m c t (f := u) (V_u m c h.hu)
theorem rd2 (t : Fin cfg0.N) : iblk m c 2 t = arr S2048x1024 fun i j _ => w i j 0 := blk2 m c t (f := w) (V_w m c h.hw)
theorem rd3 (t : Fin cfg0.N) : iblk m c 3 t = arr S1x1024 fun _ j _ => g j 0 0 := blk3 m c t (f := fun _ j _ => g j 0 0) (V_g m c h.hg)
theorem rd4 (t : Fin cfg0.N) : iblk m c 4 t = arr S1x1024 fun _ j _ => b j 0 0 := blk4 m c t (f := fun _ j _ => b j 0 0) (V_b m c h.hb)
theorem rd5 (t : Fin cfg0.N) : iblk m c 5 t = arr S512x1024 fun i j _ => y (t.val * 512 + i) j 0 := blk5 m c t (f := y) h.hy

theorem back_t (t : Fin cfg0.N) : k0_pay1 (F := Ideal) (k0_pay4 (iblk m c 0 t) (iblk m c 1 t) (iblk m c 2 t)) (k0_pay5 (iblk m c 0 t) (iblk m c 1 t) (iblk m c 2 t)) (k0_pay16 (k0_pay6 (iblk m c 3 t)) (k0_pay7 (iblk m c 0 t) (iblk m c 1 t) (iblk m c 2 t) (iblk m c 3 t) (iblk m c 4 t) (iblk m c 5 t))) (k0_pay17 (k0_pay6 (iblk m c 3 t)) (k0_pay7 (iblk m c 0 t) (iblk m c 1 t) (iblk m c 2 t) (iblk m c 3 t) (iblk m c 4 t) (iblk m c 5 t))) k0_pay18
    = arr S512x1024 fun i j _ => gD x u w g b y (t.val * 512 + i) j := by
  rw [rd0 m c h t, rd1 m c h t, rd2 m c h t, rd3 m c h t, rd4 m c h t, rd5 m c h t]
  exact back_eq (fun i j => x (t.val * 512 + i) j 0) (fun i j => u (t.val * 512 + i) j 0) (fun i j => w i j 0) (fun i j => y (t.val * 512 + i) j 0) (fun j => g j 0 0) (fun j => b j 0 0)

/-- What a point leaves in the two gradients' blocks. -/
theorem outs7 (t : Fin cfg0.N) : (outsAt0 m c t.val t.isLt).2.1 = arr S512x1024 fun i j _ => gD x u w g b y (t.val * 512 + i) j := by
  by_cases h0 : t.val % 8 = 0
  · rw [outsAt0_A m c t h0]; dsimp only; rw [out_A7]; exact back_t m c h t
  · rw [outsAt0_B m c t h0]; dsimp only; rw [out_B7]; exact back_t m c h t
theorem outs8 (t : Fin cfg0.N) : (outsAt0 m c t.val t.isLt).2.2.1 = arr S512x1024 fun i j _ => gD x u w g b y (t.val * 512 + i) j := by
  by_cases h0 : t.val % 8 = 0
  · rw [outsAt0_A m c t h0]; dsimp only; rw [out_A8]; exact back_t m c h t
  · rw [outsAt0_B m c t h0]; dsimp only; rw [out_B8]; exact back_t m c h t
theorem final7 : (dats m 0 c).arrAt 7 cfg0.N = arr S4096x1024 fun i j _ => gD x u w g b y i j := by
  refine (dats m 0 c).arrAt_eq_of_covers 7 _ (by decide +kernel) fun t hf z => ?_
  blk_simp
  rw [after0_7, outs7 m c h]
  have e0 : (((win0_7.blk t).view.emb z) 0).val = t.val * 512 + (z 0).val := by
    show win0_7.index t 0 * 512 + 1 * (z 0).val = _
    rw [(idx7 t).1]; omega
  have e1 : (((win0_7.blk t).view.emb z) 1).val = (z 1).val := by
    show win0_7.index t 1 * 1024 + 1 * (z 1).val = _
    rw [(idx7 t).2]; omega
  show gD x u w g b y (t.val * 512 + (z 0).val) (z 1).val
    = gD x u w g b y (((win0_7.blk t).view.emb z) 0).val (((win0_7.blk t).view.emb z) 1).val
  rw [e0, e1]
theorem final8 : (dats m 0 c).arrAt 8 cfg0.N = arr S4096x1024 fun i j _ => gD x u w g b y i j := by
  refine (dats m 0 c).arrAt_eq_of_covers 8 _ (by decide +kernel) fun t hf z => ?_
  blk_simp
  rw [after0_8, outs8 m c h]
  have e0 : (((win0_8.blk t).view.emb z) 0).val = t.val * 512 + (z 0).val := by
    show win0_8.index t 0 * 512 + 1 * (z 0).val = _
    rw [(idx8 t).1]; omega
  have e1 : (((win0_8.blk t).view.emb z) 1).val = (z 1).val := by
    show win0_8.index t 1 * 1024 + 1 * (z 1).val = _
    rw [(idx8 t).2]; omega
  show gD x u w g b y (t.val * 512 + (z 0).val) (z 1).val
    = gD x u w g b y (((win0_8.blk t).view.emb z) 0).val (((win0_8.blk t).view.emb z) 1).val
  rw [e0, e1]

/-! ## The three sums -/

theorem adds6 (t : Fin cfg0.N) (o : ℕ → ℕ → EReal) :
    k0_pay13 (F := Ideal) (k0_pay8 (iblk m c 0 t) (iblk m c 1 t) (iblk m c 2 t) (iblk m c 3 t) (iblk m c 4 t) (iblk m c 5 t)) (Scalar.ofBits .f32 0x44800000#32) (arr S1x128 fun i j _ => o i j)
      = arr S1x128 fun i j _ => o i j + Ideal.ofBits .f32 0x3F000000#32 * ∑ k ∈ Finset.range 512, gM x u w g b y (t.val * 512 + k) := by
  rw [rd0 m c h t, rd1 m c h t, rd2 m c h t, rd3 m c h t, rd4 m c h t, rd5 m c h t]
  exact loss_eq (fun i j => x (t.val * 512 + i) j 0) (fun i j => u (t.val * 512 + i) j 0) (fun i j => w i j 0) (fun i j => y (t.val * 512 + i) j 0) (fun j => g j 0 0) (fun j => b j 0 0) o
theorem outs6 : ∀ (n : ℕ) (hn : n < cfg0.N), (outsAt0 m c n hn).1 = arr S1x128 fun _ j _ => ∑ t ∈ Finset.range (n + 1), Ideal.ofBits .f32 0x3F000000#32 * ∑ k ∈ Finset.range 512, gM x u w g b y (t * 512 + k) := by
  intro n
  induction n with
  | zero =>
    intro hn
    rw [outsAt0_A m c ⟨0, hn⟩ rfl]
    dsimp only
    rw [out_A6, pay10_eq, adds6 m c h ⟨0, hn⟩ fun _ _ => 0]
    simp only [zero_add, Finset.sum_range_one]
  | succ n ih =>
    intro hn
    have h0 : ¬(⟨n + 1, hn⟩ : Fin cfg0.N).val % 8 = 0 := by
      have hN : n + 1 < 8 := hn
      show ¬(n + 1) % 8 = 0; omega
    rw [outsAt0_B m c ⟨n + 1, hn⟩ h0]
    dsimp only
    rw [out_B6]
    show k0_pay13 (k0_pay8 _ _ _ _ _ _) _ (outsAt0 m c n _).1 = _
    rw [ih, adds6 m c h ⟨n + 1, hn⟩ fun _ j => ∑ t ∈ Finset.range (n + 1), Ideal.ofBits .f32 0x3F000000#32 * ∑ k ∈ Finset.range 512, gM x u w g b y (t * 512 + k)]
    simp only [Finset.sum_range_succ (n := n + 1)]
theorem final6 : (dats m 0 c).arrAt 6 cfg0.N = arr S1x128 fun _ j _ => ∑ t ∈ Finset.range 8, Ideal.ofBits .f32 0x3F000000#32 * ∑ k ∈ Finset.range 512, gM x u w g b y (t * 512 + k) := by
  refine (dats m 0 c).arrAt_eq_of_covers 6 _ (by decide +kernel) fun t hf z => ?_
  blk_simp
  rw [after0_6, outs6 m c h]
  have ht := (flush0_6 t).mp hf
  have hN : t.val < 8 := t.isLt
  rw [show t.val + 1 = 8 by omega]
  rfl

theorem adds9 (t : Fin cfg0.N) (o : ℕ → ℕ → EReal) :
    k0_pay14 (F := Ideal) (k0_pay5 (iblk m c 0 t) (iblk m c 1 t) (iblk m c 2 t)) (k0_pay7 (iblk m c 0 t) (iblk m c 1 t) (iblk m c 2 t) (iblk m c 3 t) (iblk m c 4 t) (iblk m c 5 t)) (arr S1x1024 fun i j _ => o i j)
      = arr S1x1024 fun i j _ => o i j + ∑ k ∈ Finset.range 512, gH x u w g b y (t.val * 512 + k) j * gX x u w (t.val * 512 + k) j := by
  rw [rd0 m c h t, rd1 m c h t, rd2 m c h t, rd3 m c h t, rd4 m c h t, rd5 m c h t]
  exact scale_eq (fun i j => x (t.val * 512 + i) j 0) (fun i j => u (t.val * 512 + i) j 0) (fun i j => w i j 0) (fun i j => y (t.val * 512 + i) j 0) (fun j => g j 0 0) (fun j => b j 0 0) o
theorem outs9 : ∀ (n : ℕ) (hn : n < cfg0.N), (outsAt0 m c n hn).2.2.2.1 = arr S1x1024 fun _ j _ => ∑ k ∈ Finset.range ((n + 1) * 512), gH x u w g b y k j * gX x u w k j := by
  intro n
  induction n with
  | zero =>
    intro hn
    rw [outsAt0_A m c ⟨0, hn⟩ rfl]
    dsimp only
    rw [out_A9, pay11_eq, adds9 m c h ⟨0, hn⟩ fun _ _ => 0]
    simp only [zero_add, zero_mul, one_mul]
  | succ n ih =>
    intro hn
    have h0 : ¬(⟨n + 1, hn⟩ : Fin cfg0.N).val % 8 = 0 := by
      have hN : n + 1 < 8 := hn
      show ¬(n + 1) % 8 = 0; omega
    rw [outsAt0_B m c ⟨n + 1, hn⟩ h0]
    dsimp only
    rw [out_B9]
    show k0_pay14 (k0_pay5 _ _ _) (k0_pay7 _ _ _ _ _ _) (outsAt0 m c n _).2.2.2.1 = _
    rw [ih, adds9 m c h ⟨n + 1, hn⟩ fun _ j => ∑ k ∈ Finset.range ((n + 1) * 512), gH x u w g b y k j * gX x u w k j]
    simp only [show (n + 1 + 1) * 512 = (n + 1) * 512 + 512 by ring, Finset.sum_range_add]
theorem final9 : (dats m 0 c).arrAt 9 cfg0.N = arr S1x1024 fun _ j _ => ∑ k ∈ Finset.range 4096, gH x u w g b y k j * gX x u w k j := by
  refine (dats m 0 c).arrAt_eq_of_covers 9 _ (by decide +kernel) fun t hf z => ?_
  blk_simp
  rw [after0_9, outs9 m c h]
  have ht := (flush0_9 t).mp hf
  have hN : t.val < 8 := t.isLt
  rw [show (t.val + 1) * 512 = 4096 by omega]
  have e1 : (((win0_9.blk t).view.emb z) 1).val = (z 1).val := by blk_simp [(idx9 t).2]
  exact congrArg (fun j => ∑ k ∈ Finset.range 4096, gH x u w g b y k j * gX x u w k j) e1.symm

theorem adds10 (t : Fin cfg0.N) (o : ℕ → ℕ → EReal) :
    k0_pay15 (F := Ideal) (k0_pay7 (iblk m c 0 t) (iblk m c 1 t) (iblk m c 2 t) (iblk m c 3 t) (iblk m c 4 t) (iblk m c 5 t)) (arr S1x1024 fun i j _ => o i j)
      = arr S1x1024 fun i j _ => o i j + ∑ k ∈ Finset.range 512, gH x u w g b y (t.val * 512 + k) j := by
  rw [rd0 m c h t, rd1 m c h t, rd2 m c h t, rd3 m c h t, rd4 m c h t, rd5 m c h t]
  exact offset_eq (fun i j => x (t.val * 512 + i) j 0) (fun i j => u (t.val * 512 + i) j 0) (fun i j => w i j 0) (fun i j => y (t.val * 512 + i) j 0) (fun j => g j 0 0) (fun j => b j 0 0) o
theorem outs10 : ∀ (n : ℕ) (hn : n < cfg0.N), (outsAt0 m c n hn).2.2.2.2 = arr S1x1024 fun _ j _ => ∑ k ∈ Finset.range ((n + 1) * 512), gH x u w g b y k j := by
  intro n
  induction n with
  | zero =>
    intro hn
    rw [outsAt0_A m c ⟨0, hn⟩ rfl]
    dsimp only
    rw [out_A10, pay12_eq, adds10 m c h ⟨0, hn⟩ fun _ _ => 0]
    simp only [zero_add, zero_mul, one_mul]
  | succ n ih =>
    intro hn
    have h0 : ¬(⟨n + 1, hn⟩ : Fin cfg0.N).val % 8 = 0 := by
      have hN : n + 1 < 8 := hn
      show ¬(n + 1) % 8 = 0; omega
    rw [outsAt0_B m c ⟨n + 1, hn⟩ h0]
    dsimp only
    rw [out_B10]
    show k0_pay15 (k0_pay7 _ _ _ _ _ _) (outsAt0 m c n _).2.2.2.2 = _
    rw [ih, adds10 m c h ⟨n + 1, hn⟩ fun _ j => ∑ k ∈ Finset.range ((n + 1) * 512), gH x u w g b y k j]
    simp only [show (n + 1 + 1) * 512 = (n + 1) * 512 + 512 by ring, Finset.sum_range_add]
theorem final10 : (dats m 0 c).arrAt 10 cfg0.N = arr S1x1024 fun _ j _ => ∑ k ∈ Finset.range 4096, gH x u w g b y k j := by
  refine (dats m 0 c).arrAt_eq_of_covers 10 _ (by decide +kernel) fun t hf z => ?_
  blk_simp
  rw [after0_10, outs10 m c h]
  have ht := (flush0_10 t).mp hf
  have hN : t.val < 8 := t.isLt
  rw [show (t.val + 1) * 512 = 4096 by omega]
  have e1 : (((win0_10.blk t).view.emb z) 1).val = (z 1).val := by blk_simp [(idx10 t).2]
  exact congrArg (fun j => ∑ k ∈ Finset.range 4096, gH x u w g b y k j) e1.symm

end Cert.Kernel4Ideal.LossHead
-- ==== Proof.LossHeadReference.lean ====
/-
  The last layer norm with the loss, reference side: what the five results hold, as formulas of the arguments' elements.
-/
module

public import proofs.«01_k».proof.Proof.Totals
public import proofs.«01_k».proof.Proof.Boxes
public import proofs.«01_k».proof.Proof.Gen.Reference4Ideal.Run

@[expose] public section

set_option maxRecDepth 16384

noncomputable section

open Idealize.ShloMosaic Idealize.ShloMosaic.TcCoe Idealize.SL.Sem
open Cert.Arr

namespace Cert.Reference4Ideal.LossHead

open Cert.Reference4Ideal Cert.Reference4Ideal.Gen Cert.Reference4Ideal.Value

section Formulas
variable (x u w g b y : ℕ → ℕ → ℕ → EReal)

/-- The number of columns, as the divisor. -/
abbrev K : EReal := Ideal.ofBits .f32 0x44800000#32
/-- The constant under the deviation. -/
abbrev eps : EReal := Ideal.ofBits .f32 0x3727C5AC#32
/-- The residual's row `i`. -/
def res (i j : ℕ) : EReal := Ideal.ofBits .f32 0x3FB504F3#32 * x i j 0 + ∑ k ∈ Finset.range 2048, u i k 0 * w k j 0
/-- The normalized residual. -/
def xh (i j : ℕ) : EReal := Ln.xh 1024 K eps (res x u w i) j
/-- The norm less the target. -/
def diff (i j : ℕ) : EReal := xh x u w i j * g j 0 0 + b j 0 0 - y i j 0
/-- A row's mean square. -/
def ms (i : ℕ) : EReal := Ideal.div (∑ j ∈ Finset.range 1024, diff x u w g b y i j * diff x u w g b y i j) K
/-- The loss. -/
def loss : EReal := Ideal.ofBits .f32 0x3F000000#32 * ∑ i ∈ Finset.range 4096, ms x u w g b y i
/-- The gradient above the norm. -/
def up (i j : ℕ) : EReal := Ideal.div (Ideal.ofBits .f32 0x3F000000#32 * Ideal.ofBits .f32 0x3F800000#32) K
  * (Ideal.ofBits .f32 0x40000000#32 * diff x u w g b y i j)
/-- The gradient below the norm. -/
def dr (i j : ℕ) : EReal := Ln.rdx 1024 K eps (res x u w i) (fun j => up x u w g b y i j * g j 0 0) j
/-- The gradient of the norm's scale. -/
def dg (j : ℕ) : EReal := ∑ i ∈ Finset.range 4096, xh x u w i j * up x u w g b y i j
/-- The gradient of the norm's offset. -/
def db (j : ℕ) : EReal := ∑ i ∈ Finset.range 4096, up x u w g b y i j
end Formulas

variable (m : (ℓ : Loc nD τ sig) → Buf (Elt Ideal) ℓ) (ρ : Dev nD → PrngReg)

/-- The arguments of the reference as functions of coordinates. -/
structure Args (c : Dev nD) (x u w g b y : ℕ → ℕ → ℕ → EReal) : Prop where
  hx : m ((c : Thread nD τ).loc main_arg0) = arr S4096x1024 x
  hu : m ((c : Thread nD τ).loc main_arg1) = arr S4096x2048 u
  hw : m ((c : Thread nD τ).loc main_arg2) = arr S2048x1024 w
  hg : m ((c : Thread nD τ).loc main_arg3) = arr S1024 g
  hb : m ((c : Thread nD τ).loc main_arg4) = arr S1024 b
  hy : m ((c : Thread nD τ).loc main_arg5) = arr S4096x1024 y

section Results
variable {m} {c : Dev nD} {x u w g b y : ℕ → ℕ → ℕ → EReal} (h : Args m c x u w g b y)
include h

theorem res0_eq : res_main_v81 m c = arr S1x128 fun _ _ _ => loss x u w g b y := by
  unfold res_main_v81
  rw [h.hx, h.hu, h.hw, h.hg, h.hb, h.hy]
  simp only [dot_S4096x2048_S2048x1024_S4096x1024_1_0_0_1_n_n, Ln.arr_hdot_nn (n := 4096) (m := 1024) (k := 2048),
    arr_mul, arr_add, arr_sub, arr_neg, arr_bid0, arr_const, arr_bid_1_1 (n := 1) (m := 1024), arr_bid_row (n := 4096) (m := 1024),
    arr_bid_1_0 (n := 4096) (m := 1), arr_bid_1_0 (n := 4096) (m := 1024), arr_bid_col (n := 4096) (m := 1024), arr_hrowsum (n := 4096) (m := 1024), arr_hrowsum (n := 4096) (m := 1),
    arr_hcolsum (n := 4096) (m := 1024), arr_hcolsum (n := 1) (m := 1024), arr_htotal (n := 4096), arr_cast_col (n := 4096), arr_cast_row (n := 1024), arr_hdiv, arr_hrsqrt, arr_truncf,
    Ideal.ofBits_zero_f32, zero_add, Finset.sum_range_one]
  rfl
theorem res1_eq : res_main_v80 m c = arr S4096x1024 fun i j _ => dr x u w g b y i j := by
  unfold res_main_v80
  rw [h.hx, h.hu, h.hw, h.hg, h.hb, h.hy]
  simp only [dot_S4096x2048_S2048x1024_S4096x1024_1_0_0_1_n_n, Ln.arr_hdot_nn (n := 4096) (m := 1024) (k := 2048),
    arr_mul, arr_add, arr_sub, arr_neg, arr_bid0, arr_const, arr_bid_1_1 (n := 1) (m := 1024), arr_bid_row (n := 4096) (m := 1024),
    arr_bid_1_0 (n := 4096) (m := 1), arr_bid_1_0 (n := 4096) (m := 1024), arr_bid_col (n := 4096) (m := 1024), arr_hrowsum (n := 4096) (m := 1024), arr_hrowsum (n := 4096) (m := 1),
    arr_hcolsum (n := 4096) (m := 1024), arr_hcolsum (n := 1) (m := 1024), arr_htotal (n := 4096), arr_cast_col (n := 4096), arr_cast_row (n := 1024), arr_hdiv, arr_hrsqrt, arr_truncf,
    Ideal.ofBits_zero_f32, zero_add, Finset.sum_range_one]
  rfl
theorem res2_eq : res_main_v82 m c = arr S4096x1024 fun i j _ => dr x u w g b y i j := by
  refine Eq.trans (b := truncf (F := Ideal) (φ := .f32) .bf16 (res_main_v80 m c) bitsLt_bf16_f32) rfl ?_
  rw [res1_eq h]
  rfl
theorem res3_eq : res_main_v83 m c = arr S1x1024 fun _ j _ => dg x u w g b y j := by
  unfold res_main_v83
  rw [h.hx, h.hu, h.hw, h.hg, h.hb, h.hy]
  simp only [dot_S4096x2048_S2048x1024_S4096x1024_1_0_0_1_n_n, Ln.arr_hdot_nn (n := 4096) (m := 1024) (k := 2048),
    arr_mul, arr_add, arr_sub, arr_neg, arr_bid0, arr_const, arr_bid_1_1 (n := 1) (m := 1024), arr_bid_row (n := 4096) (m := 1024),
    arr_bid_1_0 (n := 4096) (m := 1), arr_bid_1_0 (n := 4096) (m := 1024), arr_bid_col (n := 4096) (m := 1024), arr_hrowsum (n := 4096) (m := 1024), arr_hrowsum (n := 4096) (m := 1),
    arr_hcolsum (n := 4096) (m := 1024), arr_hcolsum (n := 1) (m := 1024), arr_htotal (n := 4096), arr_cast_col (n := 4096), arr_cast_row (n := 1024), arr_hdiv, arr_hrsqrt, arr_truncf,
    Ideal.ofBits_zero_f32, zero_add, Finset.sum_range_one]
  exact (arr_cast_row (n := 1024) _ _).trans rfl
theorem res4_eq : res_main_v84 m c = arr S1x1024 fun _ j _ => db x u w g b y j := by
  unfold res_main_v84
  rw [h.hx, h.hu, h.hw, h.hg, h.hb, h.hy]
  simp only [dot_S4096x2048_S2048x1024_S4096x1024_1_0_0_1_n_n, Ln.arr_hdot_nn (n := 4096) (m := 1024) (k := 2048),
    arr_mul, arr_add, arr_sub, arr_neg, arr_bid0, arr_const, arr_bid_1_1 (n := 1) (m := 1024), arr_bid_row (n := 4096) (m := 1024),
    arr_bid_1_0 (n := 4096) (m := 1), arr_bid_1_0 (n := 4096) (m := 1024), arr_bid_col (n := 4096) (m := 1024), arr_hrowsum (n := 4096) (m := 1024), arr_hrowsum (n := 4096) (m := 1),
    arr_hcolsum (n := 4096) (m := 1024), arr_hcolsum (n := 1) (m := 1024), arr_htotal (n := 4096), arr_cast_col (n := 4096), arr_cast_row (n := 1024), arr_hdiv, arr_hrsqrt, arr_truncf,
    Ideal.ofBits_zero_f32, zero_add, Finset.sum_range_one]
  exact (arr_cast_row (n := 1024) _ _).trans rfl
end Results

/-- The run, its results by their formulas. -/
theorem run_at {x u w g b y : Dev nD → ℕ → ℕ → ℕ → EReal} (h : ∀ c, Args m c (x c) (u c) (w c) (g c) (b c) (y c)) :
    θ_run defs (onTc (τ := τ) (main (F := Ideal))) ⟨m, fun _ => 0, ρ⟩ fun r => ∀ c : Dev nD,
      r.2.mem ((c.tc : Thread nD τ).loc main_v81) = arr S1x128 (fun _ _ _ => loss (x c) (u c) (w c) (g c) (b c) (y c))
      ∧ r.2.mem ((c.tc : Thread nD τ).loc main_v80) = arr S4096x1024 (fun i j _ => dr (x c) (u c) (w c) (g c) (b c) (y c) i j)
      ∧ r.2.mem ((c.tc : Thread nD τ).loc main_v82) = arr S4096x1024 (fun i j _ => dr (x c) (u c) (w c) (g c) (b c) (y c) i j)
      ∧ r.2.mem ((c.tc : Thread nD τ).loc main_v83) = arr S1x1024 (fun _ j _ => dg (x c) (u c) (w c) (g c) (b c) (y c) j)
      ∧ r.2.mem ((c.tc : Thread nD τ).loc main_v84) = arr S1x1024 (fun _ j _ => db (x c) (u c) (w c) (g c) (b c) (y c) j)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r hr c => ⟨(hr c).1.trans (res0_eq (h c)), (hr c).2.1.trans (res1_eq (h c)), (hr c).2.2.1.trans (res2_eq (h c)),
    (hr c).2.2.2.1.trans (res3_eq (h c)), (hr c).2.2.2.2.1.trans (res4_eq (h c)), (hr c).2.2.2.2.2⟩) (Value.run m ρ)

/-- The reference leaves its arguments, and every counter at zero. -/
theorem frame :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0 :=
  (θ_run defs _ _).mono (fun r h => ⟨fun c => (h c).2.2.2.2.2, sem_eq_zero_of_no_sems (by decide) r.2⟩) (Value.run m ρ)

end Cert.Reference4Ideal.LossHead
-- ==== Proof.LossHeadEquation.lean ====
/-
  The last layer norm with the loss: the kernel's formulas equal the reference's. The factor of the gradient above the norm
  is one constant on one side and a quotient of two on the other; the loss is halved per tile of rows or once; the norm's
  gradient is one identity of real numbers, used where the arguments are finite.
-/
module

public import proofs.«01_k».proof.Proof.LossHeadValue
public import proofs.«01_k».proof.Proof.LossHeadReference
public import proofs.«01_k».proof.Proof.RealForm

@[expose] public section

noncomputable section

open Idealize.ShloMosaic
open Cert.Arr
open Cert.Kernel4Ideal.LossHead (gH gX gD gM)

namespace Cert.LossHead

variable (x u w g b y : ℕ → ℕ → ℕ → EReal)

theorem khalf : Ideal.ofBits .f32 0x3F000000#32 = ((1 / 2 : ℝ) : EReal) := by
  simp [Ideal.ofBits, Ideal.ieee, -EReal.coe_mul]; norm_num
theorem kone : Ideal.ofBits .f32 0x3F800000#32 = ((1 : ℝ) : EReal) := by
  simp [Ideal.ofBits, Ideal.ieee, -EReal.coe_mul]; norm_num
theorem kinv : Ideal.ofBits .f32 0x3A800000#32 = ((1 / 1024 : ℝ) : EReal) := by
  simp [Ideal.ofBits, Ideal.ieee, -EReal.coe_mul]; norm_num

theorem xh_eq (i j : ℕ) : gX x u w i j = Reference4Ideal.LossHead.xh x u w i j := rfl

/-- The gradient above the norm. -/
theorem up_eq (i j : ℕ) : gH x u w g b y i j = Reference4Ideal.LossHead.up x u w g b y i j := by
  unfold Reference4Ideal.LossHead.up
  rw [khalf, kone, k2, show Reference4Ideal.LossHead.K = _ from Ln.k1024, cmul, cdiv _ (by norm_num), ← mul_assoc, cmul, mul_comm]
  show Reference4Ideal.LossHead.diff x u w g b y i j * Ideal.ofBits .f32 0x3A800000#32 = _
  rw [kinv]
  congr 2
  norm_num

/-- The fourth result's summand. -/
theorem scale_eq (i j : ℕ) : gH x u w g b y i j * gX x u w i j
    = Reference4Ideal.LossHead.xh x u w i j * Reference4Ideal.LossHead.up x u w g b y i j := by
  rw [up_eq, xh_eq, mul_comm]

section Finite
variable {X U W Y : ℕ → ℕ → ℝ} {G B : ℕ → ℝ}
    (hx : ∀ i j, i < 4096 → j < 1024 → x i j 0 = X i j) (hu : ∀ i j, i < 4096 → j < 2048 → u i j 0 = U i j)
    (hw : ∀ i j, i < 2048 → j < 1024 → w i j 0 = W i j) (hg : ∀ j, j < 1024 → g j 0 0 = G j) (hb : ∀ j, j < 1024 → b j 0 0 = B j)
    (hy : ∀ i j, i < 4096 → j < 1024 → y i j 0 = Y i j)
include hx hu hw hg hb hy

/-- The norm less the target is real. -/
theorem diff_real : ∃ D : ℕ → ℕ → ℝ, ∀ i j, i < 4096 → j < 1024 → Reference4Ideal.LossHead.diff x u w g b y i j = D i j := by
  obtain ⟨e, he, hk⟩ := Ln.keps5
  obtain ⟨al, hal⟩ := Ln.kalpha
  have hr : ∀ i, i < 4096 → ∀ k, k < 1024 → Reference4Ideal.LossHead.res x u w i k = ((al * X i k + ∑ q ∈ Finset.range 2048, U i q * W q k : ℝ) : EReal) :=
    fun i hi k hk => by
      unfold Reference4Ideal.LossHead.res
      rw [rsum (r := fun q => U i q * W q k) fun q hq => by rw [hu i q hi hq, hw q k hq hk, cmul], hal, hx i k hi hk, cmul, cadd]
  let R : ℕ → ℕ → ℝ := fun i k => al * X i k + ∑ q ∈ Finset.range 2048, U i q * W q k
  refine ⟨fun i j => (R i j - Ln.mu 1024 (R i)) * (√(Ln.va 1024 e (R i)))⁻¹ * G j + B j - Y i j, fun i j hi hj => ?_⟩
  unfold Reference4Ideal.LossHead.diff Reference4Ideal.LossHead.xh
  rw [Ln.xh_real (R := R i) (by decide) Ln.k1024 he hk (hr i hi) hj, hg j hj, hb j hj, hy i j hi hj, cmul, cadd, csub]

/-- The gradient below the norm. -/
theorem gD_eq (i j : ℕ) (hi : i < 4096) (hj : j < 1024) : gD x u w g b y i j = Reference4Ideal.LossHead.dr x u w g b y i j := by
  obtain ⟨D, hD⟩ := diff_real x u w g b y hx hu hw hg hb hy
  obtain ⟨e, he, hk⟩ := Ln.keps5
  obtain ⟨al, hal⟩ := Ln.kalpha
  have hU : ∀ j, j < 1024 → Reference4Ideal.LossHead.up x u w g b y i j = ((1 / 2 * 1 / (1024 : ℕ) * (2 * D i j) : ℝ) : EReal) := fun j hj => by
    unfold Reference4Ideal.LossHead.up
    rw [khalf, kone, k2, show Reference4Ideal.LossHead.K = _ from Ln.k1024, hD i j hi hj, cmul, cdiv _ (by norm_num), cmul, cmul]
  have e1 : gD x u w g b y i j = Ln.kdx 1024 Reference4Ideal.LossHead.K (fun j => gH x u w g b y i j * g j 0 0)
      (Ideal.rsqrt (Ln.vr 1024 Reference4Ideal.LossHead.K Reference4Ideal.LossHead.eps (Reference4Ideal.LossHead.res x u w i)))
      (Ln.xh 1024 Reference4Ideal.LossHead.K Reference4Ideal.LossHead.eps (Reference4Ideal.LossHead.res x u w i)) j := rfl
  rw [e1]
  simp only [up_eq]
  unfold Reference4Ideal.LossHead.dr
  exact Ln.grad_eq (R := fun j => al * X i j + ∑ q ∈ Finset.range 2048, U i q * W q j)
    (H := fun j => 1 / 2 * 1 / (1024 : ℕ) * (2 * D i j) * G j)
    (by decide) Ln.k1024 he hk
    (fun k hk => by
      unfold Reference4Ideal.LossHead.res
      rw [rsum (r := fun q => U i q * W q k) fun q hq => by rw [hu i q hi hq, hw q k hq hk, cmul], hal, hx i k hi hk, cmul, cadd])
    (fun k hk => by rw [hU k hk, hg k hk, cmul]) hj

/-- The loss. -/
theorem loss_eq : ∑ t ∈ Finset.range 8, Ideal.ofBits .f32 0x3F000000#32 * ∑ k ∈ Finset.range 512, gM x u w g b y (t * 512 + k)
    = Reference4Ideal.LossHead.loss x u w g b y := by
  obtain ⟨D, hD⟩ := diff_real x u w g b y hx hu hw hg hb hy
  let M : ℕ → ℝ := fun i => (∑ j ∈ Finset.range 1024, D i j * D i j) / (1024 : ℕ)
  have hM : ∀ i, i < 4096 → Reference4Ideal.LossHead.ms x u w g b y i = (M i : EReal) := fun i hi => by
    unfold Reference4Ideal.LossHead.ms
    rw [rsum (r := fun j => D i j * D i j) fun j hj => by rw [hD i j hi hj, cmul], show Reference4Ideal.LossHead.K = _ from Ln.k1024, cdiv _ (by norm_num)]
  unfold Reference4Ideal.LossHead.loss
  rw [khalf, rsum hM, cmul, rsum (r := fun t => 1 / 2 * ∑ k ∈ Finset.range 512, M (t * 512 + k)) fun t ht => by
    rw [rsum (f := fun k => gM x u w g b y (t * 512 + k)) (r := fun k => M (t * 512 + k)) fun k hk => hM (t * 512 + k) (by omega), cmul]]
  rw [← Finset.mul_sum, ← sum_merge 8 512 (by omega) fun t k => M (t * 512 + k)]
  refine congrArg _ (congrArg _ (Finset.sum_congr rfl fun k _ => ?_))
  rw [Nat.div_add_mod']
end Finite

end Cert.LossHead
-- ==== Proof.LossHead.lean ====
/-
  The last layer norm with the loss: the claims about this call.
-/
module

public import proofs.«01_k».proof.Defs
public import proofs.«01_k».proof.Proof.LossHeadEquation
public import proofs.«01_k».proof.Proof.Gen.Kernel4.Frame

@[expose] public section

noncomputable section

open Idealize.ShloMosaic Idealize.ShloMosaic.TcCoe Idealize.SL.Sem
open Cert.Arr

namespace Cert.LossHead

/-- The facts the precondition's text states. -/
instance preFacts : Cert.Pre_loss_finite.Facts where
  bcast_S_S4096x1024 := by decide +kernel
  bcast_S_S4096x2048 := by decide +kernel
  bcast_S_S2048x1024 := by decide +kernel
  bcast_S_S1024 := by decide +kernel

/-- The two programs' results are equal where the arguments are finite. -/
theorem value : Cert.algebraic_Kernel4Ideal_Reference4Ideal_pre_loss_finite := by
  intro m ρ m' ρ' hpre hargs
  have key : ∀ c : Dev Cert.Kernel4Ideal.nD, ∃ x u w g b y, Cert.Kernel4Ideal.LossHead.Args m c x u w g b y
      ∧ Cert.Reference4Ideal.LossHead.Args m' c x u w g b y
      ∧ (∀ i j, i < 4096 → j < 1024 → Cert.Kernel4Ideal.LossHead.gD x u w g b y i j = Cert.Reference4Ideal.LossHead.dr x u w g b y i j)
      ∧ ∑ t ∈ Finset.range 8, Ideal.ofBits .f32 0x3F000000#32 * ∑ k ∈ Finset.range 512, Cert.Kernel4Ideal.LossHead.gM x u w g b y (t * 512 + k)
        = Cert.Reference4Ideal.LossHead.loss x u w g b y := by
    intro c
    obtain ⟨a0, a1, a2, a3, a4, a5⟩ := hargs c
    obtain ⟨f0, f1, f2, f3, f4, f5⟩ := hpre c
    obtain ⟨x, hx⟩ := exists_arr (s := ⟨2, ![4096, 1024]⟩) (by decide) (m ((c.tc : Thread Cert.Kernel4Ideal.nD Cert.Kernel4Ideal.τ).loc Cert.Kernel4Ideal.main_arg0))
    obtain ⟨u, hu⟩ := exists_arr (s := ⟨2, ![4096, 2048]⟩) (by decide) (m ((c.tc : Thread Cert.Kernel4Ideal.nD Cert.Kernel4Ideal.τ).loc Cert.Kernel4Ideal.main_arg1))
    obtain ⟨w, hw⟩ := exists_arr (s := ⟨2, ![2048, 1024]⟩) (by decide) (m ((c.tc : Thread Cert.Kernel4Ideal.nD Cert.Kernel4Ideal.τ).loc Cert.Kernel4Ideal.main_arg2))
    obtain ⟨g, hg⟩ := exists_arr (s := ⟨1, ![1024]⟩) (by decide) (m ((c.tc : Thread Cert.Kernel4Ideal.nD Cert.Kernel4Ideal.τ).loc Cert.Kernel4Ideal.main_arg3))
    obtain ⟨b, hb⟩ := exists_arr (s := ⟨1, ![1024]⟩) (by decide) (m ((c.tc : Thread Cert.Kernel4Ideal.nD Cert.Kernel4Ideal.τ).loc Cert.Kernel4Ideal.main_arg4))
    obtain ⟨y, hy⟩ := exists_arr (s := ⟨2, ![4096, 1024]⟩) (by decide) (m ((c.tc : Thread Cert.Kernel4Ideal.nD Cert.Kernel4Ideal.τ).loc Cert.Kernel4Ideal.main_arg5))
    rw [hx, hu, hw, hg, hb, hy] at f0 f1 f2 f3 f4 f5
    obtain ⟨X, rx⟩ := real2 x (finite_of_olt _ _ _ f0)
    obtain ⟨U, ru⟩ := real2 u (finite_of_olt _ _ _ f1)
    obtain ⟨W, rw⟩ := real2 w (finite_of_olt _ _ _ f2)
    obtain ⟨G, rg⟩ := real1 g (finite_of_olt _ _ _ f3)
    obtain ⟨B, rb⟩ := real1 b (finite_of_olt _ _ _ f4)
    obtain ⟨Y, ry⟩ := real2 y (finite_of_olt _ _ _ f5)
    exact ⟨x, u, w, g, b, y, ⟨hx, hu, hw, hg, hb, hy⟩,
      ⟨a0.trans hx, a1.trans hu, a2.trans hw, a3.trans hg, a4.trans hb, a5.trans hy⟩,
      gD_eq x u w g b y rx ru rw rg rb ry, loss_eq x u w g b y rx ru rw rg rb ry⟩
  choose x u w g b y hk hr he hl using key
  refine ⟨_, _, _, _, _, (θ_run Cert.Kernel4Ideal.defs _ _).mono (fun r h c => ⟨(h c).1.trans (Cert.Kernel4Ideal.LossHead.final6 m c (hk c)),
    (h c).2.1.trans (Cert.Kernel4Ideal.LossHead.final7 m c (hk c)), (h c).2.2.1.trans (Cert.Kernel4Ideal.LossHead.final8 m c (hk c)),
    (h c).2.2.2.1.trans (Cert.Kernel4Ideal.LossHead.final9 m c (hk c)), (h c).2.2.2.2.1.trans (Cert.Kernel4Ideal.LossHead.final10 m c (hk c)),
    (h c).2.2.2.2.2⟩) (Cert.Kernel4Ideal.Value.run_blocks m ρ), ?_⟩
  refine (θ_run Cert.Reference4Ideal.defs _ _).mono (fun r h c => ⟨(h c).1.trans ?_, (h c).2.1.trans ?_, (h c).2.2.1.trans ?_, (h c).2.2.2.1.trans ?_,
    (h c).2.2.2.2.1.trans ?_, (h c).2.2.2.2.2⟩) (Cert.Reference4Ideal.LossHead.run_at m' ρ' hr)
  · exact arr2_ext fun i j hi hj => (hl c).symm
  · exact arr2_ext fun i j hi hj => (he c i j hi hj).symm
  · exact arr2_ext fun i j hi hj => (he c i j hi hj).symm
  · exact arr2_ext fun i j hi hj => Finset.sum_congr rfl fun k _ => (scale_eq (x c) (u c) (w c) (g c) (b c) (y c) k j).symm
  · exact arr2_ext fun i j hi hj => Finset.sum_congr rfl fun k _ => (up_eq (x c) (u c) (w c) (g c) (b c) (y c) k j).symm

end Cert.LossHead
-- ==== Proof.AttentionSteps.lean ====
/-
  The two memory steps the attention gradient takes, on buffers whose contents are written as functions of the coordinates:
  a load of a box returns the box of the contents and changes nothing; a store of a box puts the box into the contents.
-/
module

public import proofs.«01_k».proof.Proof.Boxes
public import Idealize.ShloMosaic.Rules.Step
public import Idealize.ShloMosaic.Lib.Memref
public import Idealize.ShloMosaic.Lib.Writes

@[expose] public section

noncomputable section

open Idealize.ShloMosaic Idealize.ShloMosaic.ValueIdx
open Idealize.SL Idealize.SL.RA Idealize.SL.Sem Idealize.SL.ProofMode
open Idealize.SL.BI (sProp)
open scoped Idealize.SL.BI
open Idealize.SL.BI.BIBase Idealize.SL.BI.Laws
open Cert.Arr

namespace Cert.Steps

variable {nD : Nat} {τ : Topo} {sig : RefSig} {Ix : Type} [DecidableEq Ix] {Val : EltTy → Type} {Name : Type} [DecidableEq Name]
variable {U : Type} [URA U] {Lvl : Type} {Λ : Labels} [Preorder Lvl] {defs : Defs nD τ sig Val Λ} (𝒱 : Variants) (c : Thread nD τ)
  (bd : Option 𝒱.V) {Γ : PendingWaitsCtx sig Ix} (E : Set Name)
local notation "𝕄" => MT nD τ sig Ix Val Name U Lvl
variable {α : Type} {Q : α → sProp (MT nD τ sig Ix Val Name U Lvl)}
variable {cs : CoreSpace} {n w n' w' o0 o1 : ℕ} {e : EltTy}

/-- A load of a box. -/
theorem ld_gar {m : Memref sig c.2.kind cs ⟨2, ![n, w]⟩ e} {q : PosShare TreeShare} {f : ℕ → ℕ → ℕ → Val e}
    {inb : ∀ a, (![o0, o1] : Fin 2 → ℕ) a + (![n', w'] : Fin 2 → ℕ) a ≤ (⟨2, ![n, w]⟩ : Shape).size a}
    {hl : m.view.LoadsAt (Rect.unit (s := ⟨2, ![n, w]⟩) ![o0, o1] ![n', w'] inb).toLoadRect}
    {k : ((⟨2, ![n', w']⟩ : Shape).Idx → Val e) → Prog (TpuEff nD τ sig Val Λ c.2) α} :
    iprop(owns c m q (gar ⟨2, ![n, w]⟩ f)
        ∗ (owns c m q (gar ⟨2, ![n, w]⟩ f) -∗ wp frame (wpE' defs 𝒱 c bd Γ) E (k (gar ⟨2, ![n', w']⟩ fun i j _ => f (o0 + i) (o1 + j) 0)) Q))
      ⊢ wp (M := 𝕄) frame (wpE' defs 𝒱 c bd Γ) E (.op (.load m (Rect.unit (s := ⟨2, ![n, w]⟩) ![o0, o1] ![n', w'] inb).toLoadRect hl) k) Q := by
  unfold owns
  iintro ⟨⟨%g, %hg, H⟩, Hk⟩
  iapply (wp_load 𝒱 c bd E (m := m) (S := m.view.set) (f := g) (m.view.setOn_subset_set _)) $$ H
  iintro H
  have hr : m.view.readAt Val (Rect.unit (s := ⟨2, ![n, w]⟩) ![o0, o1] ![n', w'] inb).toLoadRect g
      = gar ⟨2, ![n', w']⟩ fun i j _ => f (o0 + i) (o1 + j) 0 := by
    funext y
    refine (congrFun hg _).trans ?_
    show f (o0 + 1 * (y 0).val) (o1 + 1 * (y 1).val) 0 = f (o0 + (y 0).val) (o1 + (y 1).val) 0
    rw [one_mul, one_mul]
  rw [hr]
  iapply Hk
  iexists g
  isplitr
  · ipureintro; exact hg
  iexact H

/-- A store of a box. -/
theorem st_gar {m : Memref sig c.2.kind cs ⟨2, ![n, w]⟩ e} {f v : ℕ → ℕ → ℕ → Val e}
    {inb : ∀ a, (![o0, o1] : Fin 2 → ℕ) a + (![n', w'] : Fin 2 → ℕ) a ≤ (⟨2, ![n, w]⟩ : Shape).size a}
    {hx : (m.access (Rect.unit (s := ⟨2, ![n, w]⟩) ![o0, o1] ![n', w'] inb)).Stores Finset.univ} {hm}
    {k : PUnit → Prog (TpuEff nD τ sig Val Λ c.2) α} :
    iprop(owns c m fullShare (gar ⟨2, ![n, w]⟩ f)
        ∗ (owns c m fullShare (gar ⟨2, ![n, w]⟩ fun i j _ => if (o0 ≤ i ∧ i < o0 + n') ∧ o1 ≤ j ∧ j < o1 + w' then v (i - o0) (j - o1) 0 else f i j 0)
            -∗ wp frame (wpE' defs 𝒱 c bd Γ) E (k ⟨⟩) Q))
      ⊢ wp (M := 𝕄) frame (wpE' defs 𝒱 c bd Γ) E
          (.op (.store m (Rect.unit (s := ⟨2, ![n, w]⟩) ![o0, o1] ![n', w'] inb) (gar ⟨2, ![n', w']⟩ v) Finset.univ hx hm) k) Q := by
  unfold owns
  iintro ⟨⟨%g, %hg, H⟩, Hk⟩
  iapply (wp_store 𝒱 c bd E (m := m) (r := Rect.unit (s := ⟨2, ![n, w]⟩) ![o0, o1] ![n', w'] inb) (S := m.view.set) (f := g) ((View.setOn_subset_set _ _).trans (m.view.set_slice_subset _))) $$ H
  iintro H
  iapply Hk
  iexists _
  isplitr
  swap; · iexact H
  ipureintro
  funext y
  show _ = if (o0 ≤ (y 0).val ∧ (y 0).val < o0 + n') ∧ o1 ≤ (y 1).val ∧ (y 1).val < o1 + w' then v ((y 0).val - o0) ((y 1).val - o1) 0 else f (y 0).val (y 1).val 0
  by_cases h : (o0 ≤ (y 0).val ∧ (y 0).val < o0 + n') ∧ o1 ≤ (y 1).val ∧ (y 1).val < o1 + w'
  · rw [if_pos h]
    have hy : y = (Rect.unit (s := ⟨2, ![n, w]⟩) ![o0, o1] ![n', w'] inb).emb (ix2 ⟨(y 0).val - o0, by omega⟩ ⟨(y 1).val - o1, by omega⟩) := by
      funext a
      fin_cases a
      · exact Fin.ext (show (y 0).val = o0 + 1 * ((y 0).val - o0) by omega)
      · exact Fin.ext (show (y 1).val = o1 + 1 * ((y 1).val - o1) by omega)
    exact (congrArg _ hy).trans (View.read_writes_cons_emb (v := m.view) (Val := Val) (f := g) _ _ [] _)
  · rw [if_neg h]
    refine (View.read_writes_apply_of_forall_not_mem (v := m.view) (Val := Val) (f := g) y [⟨Rect.unit (s := ⟨2, ![n, w]⟩) ![o0, o1] ![n', w'] inb, gar ⟨2, ![n', w']⟩ v⟩] fun p hp hm => h ?_).trans (congrFun hg y)
    rw [List.mem_singleton] at hp
    subst hp
    obtain ⟨x, rfl⟩ := (Rect.unit (s := ⟨2, ![n, w]⟩) ![o0, o1] ![n', w'] inb).exists_idx_of_mem hm
    have h0 : (x 0).val < n' := (x 0).isLt
    have h1 : (x 1).val < w' := (x 1).isLt
    show (o0 ≤ o0 + 1 * (x 0).val ∧ o0 + 1 * (x 0).val < o0 + n') ∧ o1 ≤ o1 + 1 * (x 1).val ∧ o1 + 1 * (x 1).val < o1 + w'
    omega

/-- `H` holds a part `X` that can be taken out and put back changed. -/
def Take {G : Type} (X H : G → sProp (MT nD τ sig Ix Val Name U Lvl)) : Prop := ∀ f, H f ⊢ iprop(X f ∗ ∀ g, X g -∗ H g)

theorem Take.here {G : Type} {X : G → sProp (MT nD τ sig Ix Val Name U Lvl)} (R) : Take X fun g => iprop(X g ∗ R) := by
  intro f
  iintro ⟨H, R⟩
  isplitl [H]
  · iexact H
  iintro %g Hg
  isplitl [Hg]
  · iexact Hg
  iexact R

theorem Take.last {G : Type} {X : G → sProp (MT nD τ sig Ix Val Name U Lvl)} : Take X X := by
  intro f
  iintro H
  isplitl [H]
  · iexact H
  iintro %g Hg
  iexact Hg

theorem Take.next {G : Type} {X H : G → sProp (MT nD τ sig Ix Val Name U Lvl)} (A) (T : Take X H) : Take X fun g => iprop(A ∗ H g) := by
  intro f
  refine (sep_mono .rfl (T f)).trans ?_
  iintro ⟨HA, HX, HT⟩
  isplitl [HX]
  · iexact HX
  iintro %g Hg
  isplitl [HA]
  · iexact HA
  iapply HT
  iexact Hg

/-- A load of a box of a part. -/
theorem ld_of {m : Memref sig c.2.kind cs ⟨2, ![n, w]⟩ e} {q : PosShare TreeShare} {H : (ℕ → ℕ → ℕ → Val e) → sProp (MT nD τ sig Ix Val Name U Lvl)}
    (T : Take (fun g => owns c m q (gar ⟨2, ![n, w]⟩ g)) H) (f : ℕ → ℕ → ℕ → Val e)
    {inb : ∀ a, (![o0, o1] : Fin 2 → ℕ) a + (![n', w'] : Fin 2 → ℕ) a ≤ (⟨2, ![n, w]⟩ : Shape).size a}
    {hl : m.view.LoadsAt (Rect.unit (s := ⟨2, ![n, w]⟩) ![o0, o1] ![n', w'] inb).toLoadRect}
    {k : ((⟨2, ![n', w']⟩ : Shape).Idx → Val e) → Prog (TpuEff nD τ sig Val Λ c.2) α}
    (h : H f ⊢ wp (M := 𝕄) frame (wpE' defs 𝒱 c bd Γ) E (k (gar ⟨2, ![n', w']⟩ fun i j _ => f (o0 + i) (o1 + j) 0)) Q) :
    H f ⊢ wp (M := 𝕄) frame (wpE' defs 𝒱 c bd Γ) E (Prog.lift (.load m (Rect.unit (s := ⟨2, ![n, w]⟩) ![o0, o1] ![n', w'] inb).toLoadRect hl) >>= k) Q := by
  refine (T f).trans ?_
  refine .trans ?_ (ld_gar 𝒱 c bd E (m := m) (q := q) (f := f) (inb := inb) (hl := hl) (k := k) (Q := Q))
  iintro ⟨HX, HT⟩
  isplitl [HX]
  · iexact HX
  iintro HX
  iapply h
  iapply HT
  iexact HX

/-- A store of a box of a part. -/
theorem st_of {m : Memref sig c.2.kind cs ⟨2, ![n, w]⟩ e} {H : (ℕ → ℕ → ℕ → Val e) → sProp (MT nD τ sig Ix Val Name U Lvl)}
    (T : Take (fun g => owns c m fullShare (gar ⟨2, ![n, w]⟩ g)) H) (f v g : ℕ → ℕ → ℕ → Val e)
    {inb : ∀ a, (![o0, o1] : Fin 2 → ℕ) a + (![n', w'] : Fin 2 → ℕ) a ≤ (⟨2, ![n, w]⟩ : Shape).size a}
    {x : (⟨2, ![n', w']⟩ : Shape).Idx → Val e}
    {hs : (m.access (Rect.unit (s := ⟨2, ![n, w]⟩) ![o0, o1] ![n', w'] inb)).Stores Finset.univ} {hm}
    {k : PUnit → Prog (TpuEff nD τ sig Val Λ c.2) α} (hx : x = gar ⟨2, ![n', w']⟩ v)
    (hg : ∀ i j, i < n → j < w → (if (o0 ≤ i ∧ i < o0 + n') ∧ o1 ≤ j ∧ j < o1 + w' then v (i - o0) (j - o1) 0 else f i j 0) = g i j 0)
    (h : H g ⊢ wp (M := 𝕄) frame (wpE' defs 𝒱 c bd Γ) E (k ⟨⟩) Q) :
    H f ⊢ wp (M := 𝕄) frame (wpE' defs 𝒱 c bd Γ) E (Prog.lift (.store m (Rect.unit (s := ⟨2, ![n, w]⟩) ![o0, o1] ![n', w'] inb) x Finset.univ hs hm) >>= k) Q := by
  subst hx
  have hgar : (gar ⟨2, ![n, w]⟩ fun i j _ => if (o0 ≤ i ∧ i < o0 + n') ∧ o1 ≤ j ∧ j < o1 + w' then v (i - o0) (j - o1) 0 else f i j 0) = gar ⟨2, ![n, w]⟩ g :=
    funext fun y => hg _ _ (co2_0 y) (co2_1 y)
  refine (T f).trans ?_
  refine .trans ?_ (st_gar 𝒱 c bd E (m := m) (f := f) (v := v) (inb := inb) (hx := hs) (hm := hm) (k := k) (Q := Q))
  rw [hgar]
  iintro ⟨HX, HT⟩
  isplitl [HX]
  · iexact HX
  iintro HX
  iapply h
  iapply HT
  iexact HX

end Cert.Steps
end
-- ==== Proof.AttentionProgram.lean ====
/-
  The attention gradient's kernel body as a short program over repeated pieces: a prologue, then for each of the eight blocks
  of 512 keys the accumulators cleared, the blocks of queries that see these keys (the first one masked), and the block's
  results stored; then an epilogue. The printed body is this program (`body_eq`).
-/
module

public import proofs.«01_k».proof.Proof.Gen.Kernel6Ideal.Frame.Runs
public import proofs.«01_k».proof.Proof.AttentionSteps

@[expose] public section

noncomputable section

open Idealize.ShloMosaic Idealize.SL.Sem

namespace Cert.Attention

open Cert.Kernel6Ideal
open Cert.Kernel6Ideal.Facts₀ Cert.Kernel6Ideal.Facts

/-- Programs of the body. -/
abbrev Pr := Prog (TpuEff nD τ sig (Elt Ideal) Λ₀ .tc) PUnit

/-- The shape of `n` rows and `m` columns. -/
abbrev Sh (n m : ℕ) : Shape := ⟨2, ![n, m]⟩

/-- A box of `n` rows from `a` on and `m` columns from `b` on lies inside `N` rows and `M` columns. -/
theorem box {N M n m a b : ℕ} (ha : a + n ≤ N) (hb : b + m ≤ M) : ∀ x, (![a, b] : Fin 2 → ℕ) x + (![n, m] : Fin 2 → ℕ) x ≤ (Sh N M).size x := by
  intro x; fin_cases x <;> assumption

/-- What the operations on a block of `n` queries need of its shapes. -/
structure Rows (n : ℕ) : Prop where
  h256 : 0 < (Sh n 256).numel
  h128 : 0 < (Sh n 128).numel
  h1 : 0 < (Sh n 1).numel
  c256 : (Sh n 256).ShapeCasts (Sh n 256)
  c128 : (Sh n 128).ShapeCasts (Sh n 128)
  c1 : (Sh n 1).ShapeCasts (Sh n 1)
  bc : (Sh n 1).Broadcasts (Sh n 512)
  qk : DotDims.WF (Sh n 256) (Sh 512 256) (Sh n 512) [1] [1] [0] [0] [] []
  dv : DotDims.WF (Sh n 128) (Sh 512 128) (Sh n 512) [1] [1] [0] [0] [] []
  pd : DotDims.WF (Sh n 512) (Sh n 128) (Sh 512 128) [0] [0] [1] [1] [] []
  dq : DotDims.WF (Sh n 512) (Sh n 256) (Sh 512 256) [0] [0] [1] [1] [] []
  dk : DotDims.WF (Sh n 512) (Sh 512 256) (Sh n 256) [1] [0] [0] [1] [] []

theorem rows512 : Rows 512 :=
  ⟨h_S512x256, h_S512x128, h_S512x1, shapeCasts_S512x256_S512x256, shapeCasts_S512x128_S512x128, shapeCasts_S512x1_S512x1, broadcasts_S512x1_S512x512,
    dot_S512x256_S512x256_S512x512_1_1_0_0_n_n_wf, dot_S512x128_S512x128_S512x512_1_1_0_0_n_n_wf, dot_S512x512_S512x128_S512x128_0_0_1_1_n_n_wf,
    dot_S512x512_S512x256_S512x256_0_0_1_1_n_n_wf, dot_S512x512_S512x256_S512x256_1_0_0_1_n_n_wf⟩
theorem rows1024 : Rows 1024 :=
  ⟨h_S1024x256, h_S1024x128, h_S1024x1, shapeCasts_S1024x256_S1024x256, shapeCasts_S1024x128_S1024x128, shapeCasts_S1024x1_S1024x1, broadcasts_S1024x1_S1024x512,
    dot_S1024x256_S512x256_S1024x512_1_1_0_0_n_n_wf, dot_S1024x128_S512x128_S1024x512_1_1_0_0_n_n_wf, dot_S1024x512_S1024x128_S512x128_0_0_1_1_n_n_wf,
    dot_S1024x512_S1024x256_S512x256_0_0_1_1_n_n_wf, dot_S1024x512_S512x256_S1024x256_1_0_0_1_n_n_wf⟩

/-- The four named constants as the program reads them. -/
abbrev cMask : EReal := Named.named (F := Ideal) κ "mask" (φ := .f32) 0xF149F2CA#32
abbrev cScaleLog2e : EReal := Named.named (F := Ideal) κ "scale_log2e" (φ := .f32) 0x3DD53B95#32
abbrev cLog2e : EReal := Named.named (F := Ideal) κ "log2e" (φ := .f32) 0x3FB8AA3B#32
abbrev cScale : EReal := Named.named (F := Ideal) κ "scale" (φ := .f32) 0x3D93CD3A#32

/-- A block's weights, from its queries, keys and log-sum-exps. -/
def weights {n : ℕ} (R : Rows n) (sel : FVec Ideal (Sh n 512) .f32 → FVec Ideal (Sh n 512) .f32) (v38 : FVec Ideal (Sh n 256) .bf16) (v40 : FVec Ideal S512x256 .bf16)
    (v47 : FVec Ideal (Sh n 1) .f32) : FVec Ideal (Sh n 512) .f32 :=
  exp2 (subf (mulf (sel (matmul (φ₁ := .bf16) (φ₂ := .bf16) ⟨[1], [1], [0], [0], [], [], R.qk⟩ none (shapeCast (Sh n 256) v38 R.c256) v40 (constant (Sh n 512) .f32 0x00000000#32)))
      (broadcast (Sh n 512) cScaleLog2e))
    (broadcastTo (Sh n 512) (mulf (shapeCast (Sh n 1) v47 R.c1) (broadcast (Sh n 1) cLog2e)) R.bc))

/-- The gradients of a block's scores, from its weights, output gradients, values and row sums. -/
def grads {n : ℕ} (R : Rows n) (v53 : FVec Ideal (Sh n 512) .f32) (v54 : FVec Ideal (Sh n 128) .bf16) (v56 : FVec Ideal S512x128 .bf16)
    (v59 : FVec Ideal (Sh n 1) .f32) : FVec Ideal (Sh n 512) .f32 :=
  mulf v53 (subf (matmul (φ₁ := .bf16) (φ₂ := .bf16) ⟨[1], [1], [0], [0], [], [], R.dv⟩ none (shapeCast (Sh n 128) v54 R.c128)
      (shapeCast S512x128 v56 shapeCasts_S512x128_S512x128) (constant (Sh n 512) .f32 0x00000000#32))
    (broadcastTo (Sh n 512) v59 R.bc))

section
variable (arg1 : Memref sig .tc .vmem S4096x256 .bf16) (arg2 : Memref sig .tc .vmem S4096x256 .bf16) (arg3 : Memref sig .tc .vmem S4096x128 .bf16)
  (arg4 : Memref sig .tc .vmem S4096x128 .bf16) (arg5 : Memref sig .tc .vmem S4096x128 .f32) (arg6 : Memref sig .tc .vmem S4096x128 .f32)
  (arg7 : Memref sig .tc .vmem S4096x128 .f32) (arg8 : Memref sig .tc .vmem S4096x128 .f32) (arg9 : Memref sig .tc .vmem S4096x256 .bf16) (harg9 : arg9.IsWhole)
  (arg10 : Memref sig .tc .vmem S4096x256 .bf16) (harg10 : arg10.IsWhole) (arg11 : Memref sig .tc .vmem S4096x128 .f32)
  (arg12 : Memref sig .tc .vmem S4096x256 .bf16) (harg12 : arg12.IsWhole) (arg13 : Memref sig .tc .vmem S4096x256 .f32) (arg14 : Memref sig .tc .vmem S512x256 .f32)
  (arg15 : Memref sig .tc .vmem S512x128 .f32) (arg16 : Memref sig .tc .vmem S4096x1 .f32)

/-- Both block accumulators cleared. -/
def clear (k : Pr) : Pr := do
  let v31 : Vec Ideal S512x256 .f32 ← Prog.lift (.load arg14 (Rect.unit (s := S512x256) ![0, 0] S512x256.size inb_S512x256_S512x256_0_0).toLoadRect (View.loadsAt_vmem h_S512x256))
  Prog.lift (.store arg14 (Rect.unit (s := S512x256) ![0, 0] S512x256.size inb_S512x256_S512x256_0_0) (shapeCast S512x256 (broadcast S512x256 (Scalar.ofBits (F := Ideal) .f32 0x00000000#32)) shapeCasts_S512x256_S512x256) Finset.univ (View.stores_vmem_bits_univ h_S512x256 rfl) (.inl rfl))
  let v35 : Vec Ideal S512x128 .f32 ← Prog.lift (.load arg15 (Rect.unit (s := S512x128) ![0, 0] S512x128.size inb_S512x128_S512x128_0_0).toLoadRect (View.loadsAt_vmem h_S512x128))
  Prog.lift (.store arg15 (Rect.unit (s := S512x128) ![0, 0] S512x128.size inb_S512x128_S512x128_0_0) (shapeCast S512x128 (broadcast S512x128 (Scalar.ofBits (F := Ideal) .f32 0x00000000#32)) shapeCasts_S512x128_S512x128) Finset.univ (View.stores_vmem_bits_univ h_S512x128 rfl) (.inl rfl))
  k

/-- One block: `n` queries from `qs` on against the 512 keys from `ks` on; `sel` is the mask on the block's scores. -/
def block (n qs ks : ℕ) (R : Rows n) (hq : qs + n ≤ 4096) (hk : ks + 512 ≤ 4096) (sel : FVec Ideal (Sh n 512) .f32 → FVec Ideal (Sh n 512) .f32) (k : Pr) : Pr := do
  let v38 : Vec Ideal (Sh n 256) .bf16 ← Prog.lift (.load arg1 (Rect.unit (s := S4096x256) ![qs, 0] ![n, 256] (box hq (by decide))).toLoadRect (View.loadsAt_vmem R.h256))
  let v40 : Vec Ideal S512x256 .bf16 ← Prog.lift (.load arg12 (Rect.unit (s := S4096x256) ![ks, 0] S512x256.size (box hk (by decide))).toLoadRect (View.loadsAt_vmem h_S512x256))
  let v47 : Vec Ideal (Sh n 1) .f32 ← Prog.lift (.load arg5 (Rect.unit (s := S4096x128) ![qs, 0] ![n, 1] (box hq (by decide))).toLoadRect (View.loadsAt_vmem R.h1))
  have v53 : FVec Ideal (Sh n 512) .f32 := weights R sel v38 v40 v47
  let v54 : Vec Ideal (Sh n 128) .bf16 ← Prog.lift (.load arg4 (Rect.unit (s := S4096x128) ![qs, 0] ![n, 128] (box hq (by decide))).toLoadRect (View.loadsAt_vmem R.h128))
  let v56 : Vec Ideal S512x128 .bf16 ← Prog.lift (.load arg2 (Rect.unit (s := S4096x256) ![ks, 128] S512x128.size (box hk (by decide))).toLoadRect (View.loadsAt_vmem h_S512x128))
  let v59 : Vec Ideal (Sh n 1) .f32 ← Prog.lift (.load arg16 (Rect.unit (s := S4096x1) ![qs, 0] ![n, 1] (box hq (by decide))).toLoadRect (View.loadsAt_vmem R.h1))
  have v63 : FVec Ideal (Sh n 512) .bf16 := truncf .bf16 (grads R v53 v54 v56 v59) bitsLt_bf16_f32
  let v64 : Vec Ideal S512x128 .f32 ← Prog.lift (.load arg15 (Rect.unit (s := S512x128) ![0, 0] S512x128.size inb_S512x128_S512x128_0_0).toLoadRect (View.loadsAt_vmem h_S512x128))
  have v65 : FVec Ideal (Sh n 512) .bf16 := truncf .bf16 v53 bitsLt_bf16_f32
  have v66 : FVec Ideal S512x128 .f32 := matmul (φ₁ := .bf16) (φ₂ := .bf16) ⟨[0], [0], [1], [1], [], [], R.pd⟩ none v65 (shapeCast (Sh n 128) v54 R.c128) (constant S512x128 .f32 0x00000000#32)
  have v67 : FVec Ideal S512x128 .f32 := addf v64 v66
  let v68 : Vec Ideal S512x128 .f32 ← Prog.lift (.load arg15 (Rect.unit (s := S512x128) ![0, 0] S512x128.size inb_S512x128_S512x128_0_0).toLoadRect (View.loadsAt_vmem h_S512x128))
  Prog.lift (.store arg15 (Rect.unit (s := S512x128) ![0, 0] S512x128.size inb_S512x128_S512x128_0_0) (shapeCast S512x128 v67 shapeCasts_S512x128_S512x128) Finset.univ (View.stores_vmem_bits_univ h_S512x128 rfl) (.inl rfl))
  let v71 : Vec Ideal S512x256 .f32 ← Prog.lift (.load arg14 (Rect.unit (s := S512x256) ![0, 0] S512x256.size inb_S512x256_S512x256_0_0).toLoadRect (View.loadsAt_vmem h_S512x256))
  have v72 : FVec Ideal S512x256 .f32 := matmul (φ₁ := .bf16) (φ₂ := .bf16) ⟨[0], [0], [1], [1], [], [], R.dq⟩ none v63 (shapeCast (Sh n 256) v38 R.c256) (constant S512x256 .f32 0x00000000#32)
  have v73 : FVec Ideal S512x256 .f32 := addf v71 v72
  let v74 : Vec Ideal S512x256 .f32 ← Prog.lift (.load arg14 (Rect.unit (s := S512x256) ![0, 0] S512x256.size inb_S512x256_S512x256_0_0).toLoadRect (View.loadsAt_vmem h_S512x256))
  Prog.lift (.store arg14 (Rect.unit (s := S512x256) ![0, 0] S512x256.size inb_S512x256_S512x256_0_0) (shapeCast S512x256 v73 shapeCasts_S512x256_S512x256) Finset.univ (View.stores_vmem_bits_univ h_S512x256 rfl) (.inl rfl))
  let v77 : Vec Ideal (Sh n 256) .f32 ← Prog.lift (.load arg13 (Rect.unit (s := S4096x256) ![qs, 0] ![n, 256] (box hq (by decide))).toLoadRect (View.loadsAt_vmem R.h256))
  have v78 : FVec Ideal (Sh n 256) .f32 := matmul (φ₁ := .bf16) (φ₂ := .bf16) ⟨[1], [0], [0], [1], [], [], R.dk⟩ none v63 v40 (constant (Sh n 256) .f32 0x00000000#32)
  have v79 : FVec Ideal (Sh n 256) .f32 := addf v77 v78
  let v80 : Vec Ideal (Sh n 256) .f32 ← Prog.lift (.load arg13 (Rect.unit (s := S4096x256) ![qs, 0] ![n, 256] (box hq (by decide))).toLoadRect (View.loadsAt_vmem R.h256))
  Prog.lift (.store arg13 (Rect.unit (s := S4096x256) ![qs, 0] ![n, 256] (box hq (by decide))) (shapeCast (Sh n 256) v79 R.c256) Finset.univ (View.stores_vmem_bits_univ R.h256 rfl) (.inl rfl))
  k

/-- The mask of a block on the diagonal: a key not after the query. -/
def diag (x : FVec Ideal S512x512 .f32) : FVec Ideal S512x512 .f32 :=
  select (cmpi .sle (iota .tc S512x512 32 [1] iota_S512x512_d1_w32) (iota .tc S512x512 32 [0] iota_S512x512_d0_w32)) x (broadcast S512x512 cMask)

/-- Rows of a block of keys are whole packed rows of the result. -/
structure Packed (a : ℕ) (ha : a + 512 ≤ 4096) : Prop where
  lo : (Rect.unit (s := S4096x256) ![a, 0] S512x128.size (box ha (by decide))).PackedRows (EltTy.packing .bf16)
  hi : (Rect.unit (s := S4096x256) ![a, 128] S512x128.size (box ha (by decide))).PackedRows (EltTy.packing .bf16)

/-- The results of the 512 keys from `a` on. -/
def finish (a : ℕ) (ha : a + 512 ≤ 4096) (P : Packed a ha) (k : Pr) : Pr := do
  let v1 : Vec Ideal S512x256 .f32 ← Prog.lift (.load arg14 (Rect.unit (s := S512x256) ![0, 0] S512x256.size inb_S512x256_S512x256_0_0).toLoadRect (View.loadsAt_vmem h_S512x256))
  have v2 : FVec Ideal S512x256 .f32 := mulf v1 (broadcast S512x256 cScale)
  have v3 : FVec Ideal S512x128 .f32 := extractStridedSlice S512x128 ![0, 0] v2 slices_S512x256_o0_0_S512x128
  let v4 : Vec Ideal S512x128 .bf16 ← Prog.lift (.load arg10 (Rect.unit (s := S4096x256) ![a, 0] S512x128.size (box ha (by decide))).toLoadRect (View.loadsAt_vmem h_S512x128))
  Prog.lift (.store arg10 (Rect.unit (s := S4096x256) ![a, 0] S512x128.size (box ha (by decide))) (truncf .bf16 v3 bitsLt_bf16_f32) Finset.univ (View.stores_vmem h_S512x128 (harg10.storeExact_slice rfl _ P.lo) (fun _ => rfl)) (.inl rfl))
  let v5 : Vec Ideal S512x128 .f32 ← Prog.lift (.load arg15 (Rect.unit (s := S512x128) ![0, 0] S512x128.size inb_S512x128_S512x128_0_0).toLoadRect (View.loadsAt_vmem h_S512x128))
  let v6 : Vec Ideal S512x128 .bf16 ← Prog.lift (.load arg10 (Rect.unit (s := S4096x256) ![a, 128] S512x128.size (box ha (by decide))).toLoadRect (View.loadsAt_vmem h_S512x128))
  Prog.lift (.store arg10 (Rect.unit (s := S4096x256) ![a, 128] S512x128.size (box ha (by decide))) (truncf (F := Ideal) (φ := .f32) .bf16 v5 bitsLt_bf16_f32) Finset.univ (View.stores_vmem h_S512x128 (harg10.storeExact_slice rfl _ P.hi) (fun _ => rfl)) (.inl rfl))
  let v7 : Vec Ideal S512x128 .f32 ← Prog.lift (.load arg11 (Rect.unit (s := S4096x128) ![a, 0] S512x128.size (box ha (by decide))).toLoadRect (View.loadsAt_vmem h_S512x128))
  have v8 : FVec Ideal S512x128 .f32 := extractStridedSlice S512x128 ![0, 128] v2 slices_S512x256_o0_128_S512x128
  have v9 : FVec Ideal S512x128 .f32 := addf (shapeCast S512x128 v7 shapeCasts_S512x128_S512x128) v8
  let v10 : Vec Ideal S512x128 .f32 ← Prog.lift (.load arg11 (Rect.unit (s := S4096x128) ![a, 0] S512x128.size (box ha (by decide))).toLoadRect (View.loadsAt_vmem h_S512x128))
  Prog.lift (.store arg11 (Rect.unit (s := S4096x128) ![a, 0] S512x128.size (box ha (by decide))) v9 Finset.univ (View.stores_vmem_bits_univ h_S512x128 rfl) (.inl rfl))
  k

/-- The prologue: the key array put together, the query gradient cleared, the row sums of output times output gradient; on
    the first head (`first`) the shared key gradient cleared. -/
def start (first : Bool) (k : Pr) : Pr := do
  let v0 : Vec Ideal S4096x128 .bf16 ← Prog.lift (.load arg2 (Rect.unit (s := S4096x256) ![0, 0] S4096x128.size inb_S4096x256_S4096x128_0_0).toLoadRect (View.loadsAt_vmem h_S4096x128))
  have v1 : FVec Ideal S4096x128 .bf16 := shapeCast S4096x128 v0 shapeCasts_S4096x128_S4096x128
  let v2 : Vec Ideal S4096x128 .bf16 ← Prog.lift (.load arg12 (Rect.unit (s := S4096x256) ![0, 0] S4096x128.size inb_S4096x256_S4096x128_0_0).toLoadRect (View.loadsAt_vmem h_S4096x128))
  Prog.lift (.store arg12 (Rect.unit (s := S4096x256) ![0, 0] S4096x128.size inb_S4096x256_S4096x128_0_0) (shapeCast S4096x128 v1 shapeCasts_S4096x128_S4096x128) Finset.univ (View.stores_vmem h_S4096x128 (harg12.storeExact_slice rfl _ packedbf16_S4096x256_S4096x128_0_0) (fun _ => rfl)) (.inl rfl))
  let v5 : Vec Ideal S4096x128 .bf16 ← Prog.lift (.load arg3 (Rect.unit (s := S4096x128) ![0, 0] S4096x128.size inb_S4096x128_S4096x128_0_0).toLoadRect (View.loadsAt_vmem h_S4096x128))
  have v6 : FVec Ideal S4096x128 .bf16 := shapeCast S4096x128 v5 shapeCasts_S4096x128_S4096x128
  let v7 : Vec Ideal S4096x128 .bf16 ← Prog.lift (.load arg12 (Rect.unit (s := S4096x256) ![0, 128] S4096x128.size inb_S4096x256_S4096x128_0_128).toLoadRect (View.loadsAt_vmem h_S4096x128))
  Prog.lift (.store arg12 (Rect.unit (s := S4096x256) ![0, 128] S4096x128.size inb_S4096x256_S4096x128_0_128) (shapeCast S4096x128 v6 shapeCasts_S4096x128_S4096x128) Finset.univ (View.stores_vmem h_S4096x128 (harg12.storeExact_slice rfl _ packedbf16_S4096x256_S4096x128_0_128) (fun _ => rfl)) (.inl rfl))
  let v11 : Vec Ideal S4096x256 .f32 ← Prog.lift (.load arg13 (Rect.unit (s := S4096x256) ![0, 0] S4096x256.size inb_S4096x256_S4096x256_0_0).toLoadRect (View.loadsAt_vmem h_S4096x256))
  Prog.lift (.store arg13 (Rect.unit (s := S4096x256) ![0, 0] S4096x256.size inb_S4096x256_S4096x256_0_0) (shapeCast S4096x256 (broadcast S4096x256 (Scalar.ofBits (F := Ideal) .f32 0x00000000#32)) shapeCasts_S4096x256_S4096x256) Finset.univ (View.stores_vmem_bits_univ h_S4096x256 rfl) (.inl rfl))
  let v14 : Vec Ideal S4096x128 .bf16 ← Prog.lift (.load arg4 (Rect.unit (s := S4096x128) ![0, 0] S4096x128.size inb_S4096x128_S4096x128_0_0).toLoadRect (View.loadsAt_vmem h_S4096x128))
  have v15 : FVec Ideal S4096x128 .bf16 := shapeCast S4096x128 v14 shapeCasts_S4096x128_S4096x128
  have v16 : FVec Ideal S4096x128 .f32 := extf .f32 v15 bitsLt_bf16_f32
  let v17 : Vec Ideal S4096x128 .f32 ← Prog.lift (.load arg6 (Rect.unit (s := S4096x128) ![0, 0] S4096x128.size inb_S4096x128_S4096x128_0_0).toLoadRect (View.loadsAt_vmem h_S4096x128))
  have v18 : FVec Ideal S4096x128 .f32 := shapeCast S4096x128 v17 shapeCasts_S4096x128_S4096x128
  have v19 : FVec Ideal S4096x128 .f32 := mulf v16 v18
  have v20 : FVec Ideal S4096 .f32 := multiReduction .add [1] S4096 v19 0x00000000#32 reduces_S4096x128_S4096 (.inl rfl) rfl
  have v21 : FVec Ideal S4096x1 .f32 := shapeCast S4096x1 v20 shapeCasts_S4096_S4096x1
  let v22 : Vec Ideal S4096x1 .f32 ← Prog.lift (.load arg16 (Rect.unit (s := S4096x1) ![0, 0] S4096x1.size inb_S4096x1_S4096x1_0_0).toLoadRect (View.loadsAt_vmem h_S4096x1))
  Prog.lift (.store arg16 (Rect.unit (s := S4096x1) ![0, 0] S4096x1.size inb_S4096x1_S4096x1_0_0) (shapeCast S4096x1 v21 shapeCasts_S4096x1_S4096x1) Finset.univ (View.stores_vmem_bits_univ h_S4096x1 rfl) (.inl rfl))
  match first with
  | true => do
    let v1261 : Vec Ideal S4096x128 .f32 ← Prog.lift (.load arg11 (Rect.unit (s := S4096x128) ![0, 0] S4096x128.size inb_S4096x128_S4096x128_0_0).toLoadRect (View.loadsAt_vmem h_S4096x128))
    Prog.lift (.store arg11 (Rect.unit (s := S4096x128) ![0, 0] S4096x128.size inb_S4096x128_S4096x128_0_0) (broadcast S4096x128 (Scalar.ofBits (F := Ideal) .f32 0x00000000#32)) Finset.univ (View.stores_vmem_bits_univ h_S4096x128 rfl) (.inl rfl))
    k
  | false => k

/-- The epilogue: the query gradient scaled, its rotary part turned back, both stored. -/
def stop : Pr := do
  let v1238 : Vec Ideal S4096x256 .f32 ← Prog.lift (.load arg13 (Rect.unit (s := S4096x256) ![0, 0] S4096x256.size inb_S4096x256_S4096x256_0_0).toLoadRect (View.loadsAt_vmem h_S4096x256))
  have v1240 : FVec Ideal S4096x256 .f32 := mulf v1238 (broadcast S4096x256 cScale)
  have v1241 : FVec Ideal S4096x128 .f32 := extractStridedSlice S4096x128 ![0, 0] v1240 slices_S4096x256_o0_0_S4096x128
  let v1243 : Vec Ideal S4096x128 .bf16 ← Prog.lift (.load arg9 (Rect.unit (s := S4096x256) ![0, 0] S4096x128.size inb_S4096x256_S4096x128_0_0).toLoadRect (View.loadsAt_vmem h_S4096x128))
  Prog.lift (.store arg9 (Rect.unit (s := S4096x256) ![0, 0] S4096x128.size inb_S4096x256_S4096x128_0_0) (truncf .bf16 v1241 bitsLt_bf16_f32) Finset.univ (View.stores_vmem h_S4096x128 (harg9.storeExact_slice rfl _ packedbf16_S4096x256_S4096x128_0_0) (fun _ => rfl)) (.inl rfl))
  have v1244 : FVec Ideal S4096x128 .f32 := extractStridedSlice S4096x128 ![0, 128] v1240 slices_S4096x256_o0_128_S4096x128
  let v1245 : Vec Ideal S4096x128 .f32 ← Prog.lift (.load arg7 (Rect.unit (s := S4096x128) ![0, 0] S4096x128.size inb_S4096x128_S4096x128_0_0).toLoadRect (View.loadsAt_vmem h_S4096x128))
  have v1246 : FVec Ideal S4096x128 .f32 := shapeCast S4096x128 v1245 shapeCasts_S4096x128_S4096x128
  have v1247 : FVec Ideal S4096x128 .f32 := mulf v1244 v1246
  have v1250 : IVec S4096x128 1 := cmpi .slt (iota .tc S4096x128 32 [1] iota_S4096x128_d1_w32) (broadcast S4096x128 32#32)
  have v1253 : FVec Ideal S4096x128 .f32 := select v1250 (dynamicRotate 1 96#32 none v1244 rotates_S4096x128_d1) (dynamicRotate 1 32#32 none v1244 rotates_S4096x128_d1)
  let v1254 : Vec Ideal S4096x128 .f32 ← Prog.lift (.load arg8 (Rect.unit (s := S4096x128) ![0, 0] S4096x128.size inb_S4096x128_S4096x128_0_0).toLoadRect (View.loadsAt_vmem h_S4096x128))
  have v1255 : FVec Ideal S4096x128 .f32 := shapeCast S4096x128 v1254 shapeCasts_S4096x128_S4096x128
  have v1257 : FVec Ideal S4096x128 .f32 := subf v1247 (mulf v1253 v1255)
  let v1259 : Vec Ideal S4096x128 .bf16 ← Prog.lift (.load arg9 (Rect.unit (s := S4096x256) ![0, 128] S4096x128.size inb_S4096x256_S4096x128_0_128).toLoadRect (View.loadsAt_vmem h_S4096x128))
  Prog.lift (.store arg9 (Rect.unit (s := S4096x256) ![0, 128] S4096x128.size inb_S4096x256_S4096x128_0_128) (truncf .bf16 v1257 bitsLt_bf16_f32) Finset.univ (View.stores_vmem h_S4096x128 (harg9.storeExact_slice rfl _ packedbf16_S4096x256_S4096x128_0_128) (fun _ => rfl)) (.inl rfl))
  pure ⟨⟩

/-- The blocks of queries after the diagonal one: 1024 at a time, the last perhaps 512. -/
inductive Later (a : ℕ) : ℕ → Type
  | done : Later a 4096
  | big (qs : ℕ) (h : qs + 1024 ≤ 4096) (rest : Later a (qs + 1024)) : Later a qs
  | small (qs : ℕ) (h : qs + 512 ≤ 4096) (rest : Later a (qs + 512)) : Later a qs

/-- These blocks in turn. -/
def Later.run {a qs : ℕ} (ha : a + 512 ≤ 4096) (k : Pr) : Later a qs → Pr
  | .done => k
  | .big qs h rest => block arg1 arg2 arg4 arg5 arg12 arg13 arg14 arg15 arg16 1024 qs a rows1024 h ha (fun x => x) (rest.run ha k)
  | .small qs h rest => block arg1 arg2 arg4 arg5 arg12 arg13 arg14 arg15 arg16 512 qs a rows512 h ha (fun x => x) (rest.run ha k)

/-- Everything done for the 512 keys from `a` on. -/
def keys (a : ℕ) (ha : a + 512 ≤ 4096) (P : Packed a ha) (L : Later a (a + 512)) (k : Pr) : Pr :=
  clear arg14 arg15 (block arg1 arg2 arg4 arg5 arg12 arg13 arg14 arg15 arg16 512 a a rows512 ha ha diag
    (L.run arg1 arg2 arg4 arg5 arg12 arg13 arg14 arg15 arg16 ha (finish arg10 harg10 arg11 arg14 arg15 a ha P k)))

/-- The whole body. -/
def prog (first : Bool) : Pr :=
  let K := keys arg1 arg2 arg4 arg5 arg10 harg10 arg11 arg12 arg13 arg14 arg15 arg16
  start arg2 arg3 arg4 arg6 arg11 arg12 harg12 arg13 arg16 first <|
  K 0 (by decide) ⟨packedbf16_S4096x256_S512x128_0_0, packedbf16_S4096x256_S512x128_0_128⟩
    (.big 512 (by decide) (.big 1536 (by decide) (.big 2560 (by decide) (.small 3584 (by decide) .done)))) <|
  K 512 (by decide) ⟨packedbf16_S4096x256_S512x128_512_0, packedbf16_S4096x256_S512x128_512_128⟩
    (.big 1024 (by decide) (.big 2048 (by decide) (.big 3072 (by decide) .done))) <|
  K 1024 (by decide) ⟨packedbf16_S4096x256_S512x128_1024_0, packedbf16_S4096x256_S512x128_1024_128⟩
    (.big 1536 (by decide) (.big 2560 (by decide) (.small 3584 (by decide) .done))) <|
  K 1536 (by decide) ⟨packedbf16_S4096x256_S512x128_1536_0, packedbf16_S4096x256_S512x128_1536_128⟩
    (.big 2048 (by decide) (.big 3072 (by decide) .done)) <|
  K 2048 (by decide) ⟨packedbf16_S4096x256_S512x128_2048_0, packedbf16_S4096x256_S512x128_2048_128⟩
    (.big 2560 (by decide) (.small 3584 (by decide) .done)) <|
  K 2560 (by decide) ⟨packedbf16_S4096x256_S512x128_2560_0, packedbf16_S4096x256_S512x128_2560_128⟩
    (.big 3072 (by decide) .done) <|
  K 3072 (by decide) ⟨packedbf16_S4096x256_S512x128_3072_0, packedbf16_S4096x256_S512x128_3072_128⟩
    (.small 3584 (by decide) .done) <|
  K 3584 (by decide) ⟨packedbf16_S4096x256_S512x128_3584_0, packedbf16_S4096x256_S512x128_3584_128⟩ .done <|
  stop arg7 arg8 arg9 harg9 arg13

end

/-- The printed body on a head that is not the first. -/
theorem body_eq_next (i : grid0.Coords) (arg1 : Memref sig .tc .vmem S4096x256 .bf16) (harg1 : arg1.IsWhole)
    (arg2 : Memref sig .tc .vmem S4096x256 .bf16) (harg2 : arg2.IsWhole)
    (arg3 : Memref sig .tc .vmem S4096x128 .bf16) (harg3 : arg3.IsWhole)
    (arg4 : Memref sig .tc .vmem S4096x128 .bf16) (harg4 : arg4.IsWhole)
    (arg5 : Memref sig .tc .vmem S4096x128 .f32) (harg5 : arg5.IsWhole)
    (arg6 : Memref sig .tc .vmem S4096x128 .f32) (harg6 : arg6.IsWhole)
    (arg7 : Memref sig .tc .vmem S4096x128 .f32) (harg7 : arg7.IsWhole)
    (arg8 : Memref sig .tc .vmem S4096x128 .f32) (harg8 : arg8.IsWhole)
    (arg9 : Memref sig .tc .vmem S4096x256 .bf16) (harg9 : arg9.IsWhole)
    (arg10 : Memref sig .tc .vmem S4096x256 .bf16) (harg10 : arg10.IsWhole)
    (arg11 : Memref sig .tc .vmem S4096x128 .f32) (harg11 : arg11.IsWhole)
    (arg12 : Memref sig .tc .vmem S4096x256 .bf16) (harg12 : arg12.IsWhole)
    (arg13 : Memref sig .tc .vmem S4096x256 .f32) (harg13 : arg13.IsWhole)
    (arg14 : Memref sig .tc .vmem S512x256 .f32) (harg14 : arg14.IsWhole)
    (arg15 : Memref sig .tc .vmem S512x128 .f32) (harg15 : arg15.IsWhole)
    (arg16 : Memref sig .tc .vmem S4096x1 .f32) (harg16 : arg16.IsWhole)
    (h : ¬Scalar.cmpi .ne (Scalar.extui (Scalar.cmpi .eq (BitVec.ofNat 32 (i 0).val) 0#32) : BitVec 32) 0#32 = 1#1) :
    cc0_flash_bwd (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16
      = prog arg1 arg2 arg3 arg4 arg5 arg6 arg7 arg8 arg9 harg9 arg10 harg10 arg11 arg12 harg12 arg13 arg14 arg15 arg16 false := by
  unfold cc0_flash_bwd k0_part39 k0_part1
  simp only [dif_neg h]
  rfl

/-- The printed body on the first head. -/
theorem body_eq_first (i : grid0.Coords) (arg1 : Memref sig .tc .vmem S4096x256 .bf16) (harg1 : arg1.IsWhole)
    (arg2 : Memref sig .tc .vmem S4096x256 .bf16) (harg2 : arg2.IsWhole)
    (arg3 : Memref sig .tc .vmem S4096x128 .bf16) (harg3 : arg3.IsWhole)
    (arg4 : Memref sig .tc .vmem S4096x128 .bf16) (harg4 : arg4.IsWhole)
    (arg5 : Memref sig .tc .vmem S4096x128 .f32) (harg5 : arg5.IsWhole)
    (arg6 : Memref sig .tc .vmem S4096x128 .f32) (harg6 : arg6.IsWhole)
    (arg7 : Memref sig .tc .vmem S4096x128 .f32) (harg7 : arg7.IsWhole)
    (arg8 : Memref sig .tc .vmem S4096x128 .f32) (harg8 : arg8.IsWhole)
    (arg9 : Memref sig .tc .vmem S4096x256 .bf16) (harg9 : arg9.IsWhole)
    (arg10 : Memref sig .tc .vmem S4096x256 .bf16) (harg10 : arg10.IsWhole)
    (arg11 : Memref sig .tc .vmem S4096x128 .f32) (harg11 : arg11.IsWhole)
    (arg12 : Memref sig .tc .vmem S4096x256 .bf16) (harg12 : arg12.IsWhole)
    (arg13 : Memref sig .tc .vmem S4096x256 .f32) (harg13 : arg13.IsWhole)
    (arg14 : Memref sig .tc .vmem S512x256 .f32) (harg14 : arg14.IsWhole)
    (arg15 : Memref sig .tc .vmem S512x128 .f32) (harg15 : arg15.IsWhole)
    (arg16 : Memref sig .tc .vmem S4096x1 .f32) (harg16 : arg16.IsWhole)
    (h : Scalar.cmpi .ne (Scalar.extui (Scalar.cmpi .eq (BitVec.ofNat 32 (i 0).val) 0#32) : BitVec 32) 0#32 = 1#1) :
    cc0_flash_bwd (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16
      = prog arg1 arg2 arg3 arg4 arg5 arg6 arg7 arg8 arg9 harg9 arg10 harg10 arg11 arg12 harg12 arg13 arg14 arg15 arg16 true := by
  unfold cc0_flash_bwd k0_part39 k0_part1
  simp only [dif_pos h]
  rfl

end Cert.Attention
end
-- ==== Proof.AttentionBlocks.lean ====
/-
  What the pieces of the attention gradient's body leave in the buffers. The sixteen buffers are held with their contents
  written as functions of the coordinates (`St`); each piece takes such a state to another, the one its update (`blockU`, …) says.
-/
module

public import proofs.«01_k».proof.Proof.AttentionProgram

@[expose] public section

noncomputable section

open Idealize.ShloMosaic Idealize.ShloMosaic.TcCoe
open Idealize.SL Idealize.SL.RA Idealize.SL.Sem Idealize.SL.ProofMode
open Idealize.SL.BI (sProp)
open scoped Idealize.SL.BI
open Idealize.SL.BI.BIBase Idealize.SL.BI.Laws
open Cert.Arr Cert.Steps

namespace Cert.Attention

open Cert.Kernel6Ideal
open Cert.Kernel6Ideal.Facts₀ Cert.Kernel6Ideal.Facts

/-- The contents of the sixteen buffers: the inputs (queries, keys and values, shared keys, output gradient, log-sum-exp, output,
    the two rotary tables), the outputs (query gradient, key and value gradient, shared key gradient), the scratch (the keys put
    together, the three accumulators, the row sums). -/
structure St where
  (q kv kr dO lse o rc rs dq dkv dkr kc dqa dka dva dl : ℕ → ℕ → ℕ → EReal)

/-- Scores, without the mask. -/
def St.sc (s : St) (i j : ℕ) : EReal := 0 + ∑ k ∈ Finset.range 256, s.q i k 0 * s.kc j k 0
/-- Weights: the masked scores' exponentials. -/
def St.p (s : St) (i j : ℕ) : EReal := Ideal.exp2 ((if j ≤ i then s.sc i j else cMask) * cScaleLog2e - s.lse i 0 0 * cLog2e)
/-- The weights' gradients, times the weights. -/
def St.ds (s : St) (i j : ℕ) : EReal := s.p i j * (0 + (∑ k ∈ Finset.range 128, s.dO i k 0 * s.kv j (128 + k) 0) - s.dl i 0 0)

/-- The accumulators cleared. -/
def St.clearU (s : St) : St := { s with dka := fun _ _ _ => 0, dva := fun _ _ _ => 0 }
/-- One block added to the accumulators. -/
def St.blockU (n qs ks : ℕ) (s : St) : St :=
  { s with
    dva := fun r k _ => s.dva r k 0 + (0 + ∑ i ∈ Finset.range n, s.p (qs + i) (ks + r) * s.dO (qs + i) k 0)
    dka := fun r k _ => s.dka r k 0 + (0 + ∑ i ∈ Finset.range n, s.ds (qs + i) (ks + r) * s.q (qs + i) k 0)
    dqa := fun i k _ => if qs ≤ i ∧ i < qs + n then s.dqa i k 0 + (0 + ∑ r ∈ Finset.range 512, s.ds i (ks + r) * s.kc (ks + r) k 0) else s.dqa i k 0 }

/-- The results of a block of keys. -/
def St.finishU (a : ℕ) (s : St) : St :=
  { s with
    dkv := fun i k _ => if a ≤ i ∧ i < a + 512 then (if k < 128 then s.dka (i - a) k 0 * cScale else s.dva (i - a) (k - 128) 0) else s.dkv i k 0
    dkr := fun i k _ => if a ≤ i ∧ i < a + 512 then s.dkr i k 0 + s.dka (i - a) (128 + k) 0 * cScale else s.dkr i k 0 }
/-- The prologue. -/
def St.startU (first : Bool) (s : St) : St :=
  { s with
    kc := fun i k _ => if k < 128 then s.kv i k 0 else s.kr i (k - 128) 0
    dqa := fun _ _ _ => 0
    dl := fun i _ _ => ∑ k ∈ Finset.range 128, s.dO i k 0 * s.o i k 0
    dkr := fun i k _ => match first with | true => 0 | false => s.dkr i k 0 }
/-- The epilogue. -/
def St.stopU (s : St) : St :=
  { s with
    dq := fun i k _ => if k < 128 then s.dqa i k 0 * cScale
      else s.dqa i k 0 * cScale * s.rc i (k - 128) 0
        - (if k - 128 < 32 then s.dqa i (128 + (k - 128 + 32) % 128) 0 * cScale else s.dqa i (128 + (k - 128 + 96) % 128) 0 * cScale) * s.rs i (k - 128) 0 }

variable (c : Dev nD)
  (arg1 : Memref sig .tc .vmem S4096x256 .bf16)  (arg2 : Memref sig .tc .vmem S4096x256 .bf16)  (arg3 : Memref sig .tc .vmem S4096x128 .bf16)  (arg4 : Memref sig .tc .vmem S4096x128 .bf16)  (arg5 : Memref sig .tc .vmem S4096x128 .f32)  (arg6 : Memref sig .tc .vmem S4096x128 .f32)  (arg7 : Memref sig .tc .vmem S4096x128 .f32)  (arg8 : Memref sig .tc .vmem S4096x128 .f32)  (arg9 : Memref sig .tc .vmem S4096x256 .bf16)  (arg10 : Memref sig .tc .vmem S4096x256 .bf16)  (arg11 : Memref sig .tc .vmem S4096x128 .f32)  (arg12 : Memref sig .tc .vmem S4096x256 .bf16)  (arg13 : Memref sig .tc .vmem S4096x256 .f32)  (arg14 : Memref sig .tc .vmem S512x256 .f32)  (arg15 : Memref sig .tc .vmem S512x128 .f32)  (arg16 : Memref sig .tc .vmem S4096x1 .f32)

/-- The sixteen buffers with the contents `s`. -/
def held (s : St) : sProp (MT nD τ sig Unit (Elt Ideal) ℕ (UR sig nD τ) ℕ) :=
  iprop(owns (c : Thread nD τ) arg1 fullShare (arr S4096x256 s.q : Vec Ideal S4096x256 .bf16)
    ∗ owns (c : Thread nD τ) arg2 fullShare (arr S4096x256 s.kv : Vec Ideal S4096x256 .bf16)
    ∗ owns (c : Thread nD τ) arg3 fullShare (arr S4096x128 s.kr : Vec Ideal S4096x128 .bf16)
    ∗ owns (c : Thread nD τ) arg4 fullShare (arr S4096x128 s.dO : Vec Ideal S4096x128 .bf16)
    ∗ owns (c : Thread nD τ) arg5 fullShare (arr S4096x128 s.lse : Vec Ideal S4096x128 .f32)
    ∗ owns (c : Thread nD τ) arg6 fullShare (arr S4096x128 s.o : Vec Ideal S4096x128 .f32)
    ∗ owns (c : Thread nD τ) arg7 fullShare (arr S4096x128 s.rc : Vec Ideal S4096x128 .f32)
    ∗ owns (c : Thread nD τ) arg8 fullShare (arr S4096x128 s.rs : Vec Ideal S4096x128 .f32)
    ∗ owns (c : Thread nD τ) arg9 fullShare (arr S4096x256 s.dq : Vec Ideal S4096x256 .bf16)
    ∗ owns (c : Thread nD τ) arg10 fullShare (arr S4096x256 s.dkv : Vec Ideal S4096x256 .bf16)
    ∗ owns (c : Thread nD τ) arg11 fullShare (arr S4096x128 s.dkr : Vec Ideal S4096x128 .f32)
    ∗ owns (c : Thread nD τ) arg12 fullShare (arr S4096x256 s.kc : Vec Ideal S4096x256 .bf16)
    ∗ owns (c : Thread nD τ) arg13 fullShare (arr S4096x256 s.dqa : Vec Ideal S4096x256 .f32)
    ∗ owns (c : Thread nD τ) arg14 fullShare (arr S512x256 s.dka : Vec Ideal S512x256 .f32)
    ∗ owns (c : Thread nD τ) arg15 fullShare (arr S512x128 s.dva : Vec Ideal S512x128 .f32)
    ∗ owns (c : Thread nD τ) arg16 fullShare (arr S4096x1 s.dl : Vec Ideal S4096x1 .f32))

theorem take1 (s : St) : Take (fun g : ℕ → ℕ → ℕ → Elt Ideal .bf16 => owns (c : Thread nD τ) arg1 fullShare (gar S4096x256 g)) (fun g => held c arg1 arg2 arg3 arg4 arg5 arg6 arg7 arg8 arg9 arg10 arg11 arg12 arg13 arg14 arg15 arg16 { s with q := g }) :=
  by unfold held; dsimp only; exact .here _
theorem take2 (s : St) : Take (fun g : ℕ → ℕ → ℕ → Elt Ideal .bf16 => owns (c : Thread nD τ) arg2 fullShare (gar S4096x256 g)) (fun g => held c arg1 arg2 arg3 arg4 arg5 arg6 arg7 arg8 arg9 arg10 arg11 arg12 arg13 arg14 arg15 arg16 { s with kv := g }) :=
  by unfold held; dsimp only; exact .next _ (.here _)
theorem take3 (s : St) : Take (fun g : ℕ → ℕ → ℕ → Elt Ideal .bf16 => owns (c : Thread nD τ) arg3 fullShare (gar S4096x128 g)) (fun g => held c arg1 arg2 arg3 arg4 arg5 arg6 arg7 arg8 arg9 arg10 arg11 arg12 arg13 arg14 arg15 arg16 { s with kr := g }) :=
  by unfold held; dsimp only; exact .next _ (.next _ (.here _))
theorem take4 (s : St) : Take (fun g : ℕ → ℕ → ℕ → Elt Ideal .bf16 => owns (c : Thread nD τ) arg4 fullShare (gar S4096x128 g)) (fun g => held c arg1 arg2 arg3 arg4 arg5 arg6 arg7 arg8 arg9 arg10 arg11 arg12 arg13 arg14 arg15 arg16 { s with dO := g }) :=
  by unfold held; dsimp only; exact .next _ (.next _ (.next _ (.here _)))
theorem take5 (s : St) : Take (fun g : ℕ → ℕ → ℕ → Elt Ideal .f32 => owns (c : Thread nD τ) arg5 fullShare (gar S4096x128 g)) (fun g => held c arg1 arg2 arg3 arg4 arg5 arg6 arg7 arg8 arg9 arg10 arg11 arg12 arg13 arg14 arg15 arg16 { s with lse := g }) :=
  by unfold held; dsimp only; exact .next _ (.next _ (.next _ (.next _ (.here _))))
theorem take6 (s : St) : Take (fun g : ℕ → ℕ → ℕ → Elt Ideal .f32 => owns (c : Thread nD τ) arg6 fullShare (gar S4096x128 g)) (fun g => held c arg1 arg2 arg3 arg4 arg5 arg6 arg7 arg8 arg9 arg10 arg11 arg12 arg13 arg14 arg15 arg16 { s with o := g }) :=
  by unfold held; dsimp only; exact .next _ (.next _ (.next _ (.next _ (.next _ (.here _)))))
theorem take7 (s : St) : Take (fun g : ℕ → ℕ → ℕ → Elt Ideal .f32 => owns (c : Thread nD τ) arg7 fullShare (gar S4096x128 g)) (fun g => held c arg1 arg2 arg3 arg4 arg5 arg6 arg7 arg8 arg9 arg10 arg11 arg12 arg13 arg14 arg15 arg16 { s with rc := g }) :=
  by unfold held; dsimp only; exact .next _ (.next _ (.next _ (.next _ (.next _ (.next _ (.here _))))))
theorem take8 (s : St) : Take (fun g : ℕ → ℕ → ℕ → Elt Ideal .f32 => owns (c : Thread nD τ) arg8 fullShare (gar S4096x128 g)) (fun g => held c arg1 arg2 arg3 arg4 arg5 arg6 arg7 arg8 arg9 arg10 arg11 arg12 arg13 arg14 arg15 arg16 { s with rs := g }) :=
  by unfold held; dsimp only; exact .next _ (.next _ (.next _ (.next _ (.next _ (.next _ (.next _ (.here _)))))))
theorem take9 (s : St) : Take (fun g : ℕ → ℕ → ℕ → Elt Ideal .bf16 => owns (c : Thread nD τ) arg9 fullShare (gar S4096x256 g)) (fun g => held c arg1 arg2 arg3 arg4 arg5 arg6 arg7 arg8 arg9 arg10 arg11 arg12 arg13 arg14 arg15 arg16 { s with dq := g }) :=
  by unfold held; dsimp only; exact .next _ (.next _ (.next _ (.next _ (.next _ (.next _ (.next _ (.next _ (.here _))))))))
theorem take10 (s : St) : Take (fun g : ℕ → ℕ → ℕ → Elt Ideal .bf16 => owns (c : Thread nD τ) arg10 fullShare (gar S4096x256 g)) (fun g => held c arg1 arg2 arg3 arg4 arg5 arg6 arg7 arg8 arg9 arg10 arg11 arg12 arg13 arg14 arg15 arg16 { s with dkv := g }) :=
  by unfold held; dsimp only; exact .next _ (.next _ (.next _ (.next _ (.next _ (.next _ (.next _ (.next _ (.next _ (.here _)))))))))
theorem take11 (s : St) : Take (fun g : ℕ → ℕ → ℕ → Elt Ideal .f32 => owns (c : Thread nD τ) arg11 fullShare (gar S4096x128 g)) (fun g => held c arg1 arg2 arg3 arg4 arg5 arg6 arg7 arg8 arg9 arg10 arg11 arg12 arg13 arg14 arg15 arg16 { s with dkr := g }) :=
  by unfold held; dsimp only; exact .next _ (.next _ (.next _ (.next _ (.next _ (.next _ (.next _ (.next _ (.next _ (.next _ (.here _))))))))))
theorem take12 (s : St) : Take (fun g : ℕ → ℕ → ℕ → Elt Ideal .bf16 => owns (c : Thread nD τ) arg12 fullShare (gar S4096x256 g)) (fun g => held c arg1 arg2 arg3 arg4 arg5 arg6 arg7 arg8 arg9 arg10 arg11 arg12 arg13 arg14 arg15 arg16 { s with kc := g }) :=
  by unfold held; dsimp only; exact .next _ (.next _ (.next _ (.next _ (.next _ (.next _ (.next _ (.next _ (.next _ (.next _ (.next _ (.here _)))))))))))
theorem take13 (s : St) : Take (fun g : ℕ → ℕ → ℕ → Elt Ideal .f32 => owns (c : Thread nD τ) arg13 fullShare (gar S4096x256 g)) (fun g => held c arg1 arg2 arg3 arg4 arg5 arg6 arg7 arg8 arg9 arg10 arg11 arg12 arg13 arg14 arg15 arg16 { s with dqa := g }) :=
  by unfold held; dsimp only; exact .next _ (.next _ (.next _ (.next _ (.next _ (.next _ (.next _ (.next _ (.next _ (.next _ (.next _ (.next _ (.here _))))))))))))
theorem take14 (s : St) : Take (fun g : ℕ → ℕ → ℕ → Elt Ideal .f32 => owns (c : Thread nD τ) arg14 fullShare (gar S512x256 g)) (fun g => held c arg1 arg2 arg3 arg4 arg5 arg6 arg7 arg8 arg9 arg10 arg11 arg12 arg13 arg14 arg15 arg16 { s with dka := g }) :=
  by unfold held; dsimp only; exact .next _ (.next _ (.next _ (.next _ (.next _ (.next _ (.next _ (.next _ (.next _ (.next _ (.next _ (.next _ (.next _ (.here _)))))))))))))
theorem take15 (s : St) : Take (fun g : ℕ → ℕ → ℕ → Elt Ideal .f32 => owns (c : Thread nD τ) arg15 fullShare (gar S512x128 g)) (fun g => held c arg1 arg2 arg3 arg4 arg5 arg6 arg7 arg8 arg9 arg10 arg11 arg12 arg13 arg14 arg15 arg16 { s with dva := g }) :=
  by unfold held; dsimp only; exact .next _ (.next _ (.next _ (.next _ (.next _ (.next _ (.next _ (.next _ (.next _ (.next _ (.next _ (.next _ (.next _ (.next _ (.here _))))))))))))))
theorem take16 (s : St) : Take (fun g : ℕ → ℕ → ℕ → Elt Ideal .f32 => owns (c : Thread nD τ) arg16 fullShare (gar S4096x1 g)) (fun g => held c arg1 arg2 arg3 arg4 arg5 arg6 arg7 arg8 arg9 arg10 arg11 arg12 arg13 arg14 arg15 arg16 { s with dl := g }) :=
  by unfold held; dsimp only; exact .next _ (.next _ (.next _ (.next _ (.next _ (.next _ (.next _ (.next _ (.next _ (.next _ (.next _ (.next _ (.next _ (.next _ (.next _ (.last)))))))))))))))

/-- The weakest precondition the body's triple is about. -/
abbrev W (p : Pr) (Q : PUnit → sProp (MT nD τ sig Unit (Elt Ideal) ℕ (UR sig nD τ) ℕ)) : sProp (MT nD τ sig Unit (Elt Ideal) ℕ (UR sig nD τ) ℕ) :=
  wp frame (wpE (defs₀ (F := Ideal)) Variants.none (c : Thread nD τ) none) Set.univ p Q

theorem k0 : Ideal.ofBits .f32 0x00000000#32 = 0 := by simp [Ideal.ofBits, Ideal.ieee]
theorem arr_named (s : Shape) (x : EReal) : broadcast s x = arr s fun _ _ _ => x := rfl
theorem arr_exp2 {s : Shape} {φ : FTy} (f : ℕ → ℕ → ℕ → EReal) : exp2 (F := Ideal) (φ := φ) (arr s f) = arr s fun i j k => Ideal.exp2 (f i j k) := rfl

theorem clear_spec (s : St) {k : Pr} {Q} (h : held c arg1 arg2 arg3 arg4 arg5 arg6 arg7 arg8 arg9 arg10 arg11 arg12 arg13 arg14 arg15 arg16 s.clearU ⊢ W c k Q) : held c arg1 arg2 arg3 arg4 arg5 arg6 arg7 arg8 arg9 arg10 arg11 arg12 arg13 arg14 arg15 arg16 s ⊢ W c (clear arg14 arg15 k) Q := by
  unfold clear
  refine ld_of _ _ _ _ (take14 c arg1 arg2 arg3 arg4 arg5 arg6 arg7 arg8 arg9 arg10 arg11 arg12 arg13 arg14 arg15 arg16 s) s.dka ?_
  refine st_of _ _ _ _ (take14 c arg1 arg2 arg3 arg4 arg5 arg6 arg7 arg8 arg9 arg10 arg11 arg12 arg13 arg14 arg15 arg16 s) s.dka (fun _ _ _ => 0) (fun _ _ _ => 0) ?_ (by intros; split <;> first | rfl | omega) ?_
  · simp only [arr_bcast, arr_cast_self, k0]; rfl
  refine ld_of _ _ _ _ (take15 c arg1 arg2 arg3 arg4 arg5 arg6 arg7 arg8 arg9 arg10 arg11 arg12 arg13 arg14 arg15 arg16 { s with dka := fun _ _ _ => 0 }) s.dva ?_
  refine st_of _ _ _ _ (take15 c arg1 arg2 arg3 arg4 arg5 arg6 arg7 arg8 arg9 arg10 arg11 arg12 arg13 arg14 arg15 arg16 { s with dka := fun _ _ _ => 0 }) s.dva (fun _ _ _ => 0) (fun _ _ _ => 0) ?_ (by intros; split <;> first | rfl | omega) h
  simp only [arr_bcast, arr_cast_self, k0]; rfl

/-- The mask of a block: keys not after the query keep their score. -/
def Masks (n qs ks : ℕ) (sel : FVec Ideal (Sh n 512) .f32 → FVec Ideal (Sh n 512) .f32) : Prop :=
  ∀ f, sel (arr (Sh n 512) f) = arr (Sh n 512) fun i j _ => if ks + j ≤ qs + i then f i j 0 else cMask

theorem masks_later {n qs ks : ℕ} (h : ks + 512 ≤ qs) : Masks n qs ks fun x => x := by
  intro f
  refine arr2_ext fun i j hi hj => ?_
  rw [if_pos (by omega)]

theorem masks_diag (a : ℕ) : Masks 512 a a diag := by
  intro f
  funext y
  have h0 : (y 0).val < 512 := (y 0).isLt
  have h1 : (y 1).val < 512 := (y 1).isLt
  show Scalar.select (IntOp.cmpi .sle (BitVec.ofNat 32 (0 * 512 + (y 1).val)) (BitVec.ofNat 32 (0 * 512 + (y 0).val))) (f (y 0).val (y 1).val 0) cMask
    = if a + (y 1).val ≤ a + (y 0).val then f (y 0).val (y 1).val 0 else cMask
  rw [WordCmp.cmpi_sle_of_lt (by simp; omega) (by simp; omega)]
  have e : ∀ z : ℕ, z < 512 → (BitVec.ofNat 32 (0 * 512 + z)).toNat = z := by intro z hz; simp; omega
  rw [e _ h0, e _ h1]
  by_cases hh : (y 1).val ≤ (y 0).val
  · rw [if_pos (by omega), decide_eq_true hh]; rfl
  · rw [if_neg (by omega), decide_eq_false hh]; rfl

theorem weights_eq {n qs ks : ℕ} (R : Rows n) {sel} (hs : Masks n qs ks sel) (s : St) :
    weights R sel (arr (Sh n 256) fun i k _ => s.q (qs + i) (0 + k) 0) (arr S512x256 fun i k _ => s.kc (ks + i) (0 + k) 0) (arr (Sh n 1) fun i k _ => s.lse (qs + i) (0 + k) 0)
      = arr (Sh n 512) fun i j _ => s.p (qs + i) (ks + j) := by
  unfold weights
  rw [arr_cast_self, arr_cast_self, arr_const, k0, arr_matmul_nt, hs, arr_named, arr_mul, arr_named, arr_mul, arr_spread_col, arr_sub, arr_exp2]
  simp only [Nat.zero_add]
  rfl

theorem grads_eq {n qs ks : ℕ} (R : Rows n) (s : St) :
    grads R (arr (Sh n 512) fun i j _ => s.p (qs + i) (ks + j)) (arr (Sh n 128) fun i k _ => s.dO (qs + i) (0 + k) 0) (arr S512x128 fun i k _ => s.kv (ks + i) (128 + k) 0)
        (arr (Sh n 1) fun i k _ => s.dl (qs + i) (0 + k) 0)
      = arr (Sh n 512) fun i j _ => s.ds (qs + i) (ks + j) := by
  unfold grads
  rw [arr_cast_self, arr_cast_self, arr_const, k0, arr_matmul_nt, arr_spread_col, arr_sub, arr_mul]
  simp only [Nat.zero_add]
  rfl

/-- A product added to a block's accumulator. -/
theorem acc_tn {n w : ℕ} {wf c1 c2} {P : FVec Ideal (Sh n 512) .f32} {p : ℕ → ℕ → ℕ → EReal} (hP : P = arr (Sh n 512) p) (f g : ℕ → ℕ → ℕ → EReal) :
    shapeCast (Sh 512 w) (addf (F := Ideal) (φ := .f32) (arr (Sh 512 w) f) (matmul (F := Ideal) (φ₁ := .bf16) (φ₂ := .bf16) ⟨[0], [0], [1], [1], [], [], wf⟩ none
        (truncf .bf16 P bitsLt_bf16_f32) (shapeCast (Sh n w) (arr (Sh n w) g) c1) (constant (Sh 512 w) .f32 0x00000000#32))) c2
      = arr (Sh 512 w) fun r k _ => f r k 0 + (0 + ∑ i ∈ Finset.range n, p i r 0 * g i k 0) := by
  subst hP
  rw [arr_truncf, arr_cast_self, arr_const, k0, arr_matmul_tn, arr_add, arr_cast_self]
  exact arr2_ext fun _ _ _ _ => rfl

/-- A product added to rows of the query gradient. -/
theorem acc_nn {n w : ℕ} {wf c2} {P : FVec Ideal (Sh n 512) .f32} {p : ℕ → ℕ → ℕ → EReal} (hP : P = arr (Sh n 512) p) (f g : ℕ → ℕ → ℕ → EReal) :
    shapeCast (Sh n w) (addf (F := Ideal) (φ := .f32) (arr (Sh n w) f) (matmul (F := Ideal) (φ₁ := .bf16) (φ₂ := .bf16) ⟨[1], [0], [0], [1], [], [], wf⟩ none
        (truncf .bf16 P bitsLt_bf16_f32) (arr (Sh 512 w) g) (constant (Sh n w) .f32 0x00000000#32))) c2
      = arr (Sh n w) fun i k _ => f i k 0 + (0 + ∑ r ∈ Finset.range 512, p i r 0 * g r k 0) := by
  subst hP
  rw [arr_truncf, arr_const, k0, arr_matmul_nn, arr_add, arr_cast_self]
  exact arr2_ext fun _ _ _ _ => rfl

theorem block_spec {n qs ks : ℕ} (R : Rows n) (hq : qs + n ≤ 4096) (hk : ks + 512 ≤ 4096) {sel} (hs : Masks n qs ks sel) (s : St) {k : Pr} {Q}
    (h : held c arg1 arg2 arg3 arg4 arg5 arg6 arg7 arg8 arg9 arg10 arg11 arg12 arg13 arg14 arg15 arg16 (s.blockU n qs ks) ⊢ W c k Q) : held c arg1 arg2 arg3 arg4 arg5 arg6 arg7 arg8 arg9 arg10 arg11 arg12 arg13 arg14 arg15 arg16 s ⊢ W c (block arg1 arg2 arg4 arg5 arg12 arg13 arg14 arg15 arg16 n qs ks R hq hk sel k) Q := by
  have hw := weights_eq R hs s
  have hg := (congrArg (fun w => grads R w _ _ _) hw).trans (grads_eq (qs := qs) (ks := ks) R s)
  unfold block
  refine ld_of _ _ _ _ (take1 c arg1 arg2 arg3 arg4 arg5 arg6 arg7 arg8 arg9 arg10 arg11 arg12 arg13 arg14 arg15 arg16 s) s.q ?_
  refine ld_of _ _ _ _ (take12 c arg1 arg2 arg3 arg4 arg5 arg6 arg7 arg8 arg9 arg10 arg11 arg12 arg13 arg14 arg15 arg16 s) s.kc ?_
  refine ld_of _ _ _ _ (take5 c arg1 arg2 arg3 arg4 arg5 arg6 arg7 arg8 arg9 arg10 arg11 arg12 arg13 arg14 arg15 arg16 s) s.lse ?_
  refine ld_of _ _ _ _ (take4 c arg1 arg2 arg3 arg4 arg5 arg6 arg7 arg8 arg9 arg10 arg11 arg12 arg13 arg14 arg15 arg16 s) s.dO ?_
  refine ld_of _ _ _ _ (take2 c arg1 arg2 arg3 arg4 arg5 arg6 arg7 arg8 arg9 arg10 arg11 arg12 arg13 arg14 arg15 arg16 s) s.kv ?_
  refine ld_of _ _ _ _ (take16 c arg1 arg2 arg3 arg4 arg5 arg6 arg7 arg8 arg9 arg10 arg11 arg12 arg13 arg14 arg15 arg16 s) s.dl ?_
  refine ld_of _ _ _ _ (take15 c arg1 arg2 arg3 arg4 arg5 arg6 arg7 arg8 arg9 arg10 arg11 arg12 arg13 arg14 arg15 arg16 s) s.dva ?_
  refine ld_of _ _ _ _ (take15 c arg1 arg2 arg3 arg4 arg5 arg6 arg7 arg8 arg9 arg10 arg11 arg12 arg13 arg14 arg15 arg16 s) s.dva ?_
  refine st_of _ _ _ _ (take15 c arg1 arg2 arg3 arg4 arg5 arg6 arg7 arg8 arg9 arg10 arg11 arg12 arg13 arg14 arg15 arg16 s) s.dva
    (fun r k _ => s.dva (0 + r) (0 + k) 0 + (0 + ∑ i ∈ Finset.range n, s.p (qs + i) (ks + r) * s.dO (qs + i) (0 + k) 0)) (s.blockU n qs ks).dva ?_ ?_ ?_
  · exact acc_tn hw (fun r k _ => s.dva (0 + r) (0 + k) 0) (fun i k _ => s.dO (qs + i) (0 + k) 0)
  · intro i j hi hj
    rw [if_pos (by omega)]
    simp only [Nat.zero_add, Nat.sub_zero]
    rfl
  refine ld_of _ _ _ _ (take14 c arg1 arg2 arg3 arg4 arg5 arg6 arg7 arg8 arg9 arg10 arg11 arg12 arg13 arg14 arg15 arg16 { s with dva := (s.blockU n qs ks).dva }) s.dka ?_
  refine ld_of _ _ _ _ (take14 c arg1 arg2 arg3 arg4 arg5 arg6 arg7 arg8 arg9 arg10 arg11 arg12 arg13 arg14 arg15 arg16 { s with dva := (s.blockU n qs ks).dva }) s.dka ?_
  refine st_of _ _ _ _ (take14 c arg1 arg2 arg3 arg4 arg5 arg6 arg7 arg8 arg9 arg10 arg11 arg12 arg13 arg14 arg15 arg16 { s with dva := (s.blockU n qs ks).dva }) s.dka
    (fun r k _ => s.dka (0 + r) (0 + k) 0 + (0 + ∑ i ∈ Finset.range n, s.ds (qs + i) (ks + r) * s.q (qs + i) (0 + k) 0)) (s.blockU n qs ks).dka ?_ ?_ ?_
  · exact acc_tn hg (fun r k _ => s.dka (0 + r) (0 + k) 0) (fun i k _ => s.q (qs + i) (0 + k) 0)
  · intro i j hi hj
    rw [if_pos (by omega)]
    simp only [Nat.zero_add, Nat.sub_zero]
    rfl
  refine ld_of _ _ _ _ (take13 c arg1 arg2 arg3 arg4 arg5 arg6 arg7 arg8 arg9 arg10 arg11 arg12 arg13 arg14 arg15 arg16 { s with dva := (s.blockU n qs ks).dva, dka := (s.blockU n qs ks).dka }) s.dqa ?_
  refine ld_of _ _ _ _ (take13 c arg1 arg2 arg3 arg4 arg5 arg6 arg7 arg8 arg9 arg10 arg11 arg12 arg13 arg14 arg15 arg16 { s with dva := (s.blockU n qs ks).dva, dka := (s.blockU n qs ks).dka }) s.dqa ?_
  refine st_of _ _ _ _ (take13 c arg1 arg2 arg3 arg4 arg5 arg6 arg7 arg8 arg9 arg10 arg11 arg12 arg13 arg14 arg15 arg16 { s with dva := (s.blockU n qs ks).dva, dka := (s.blockU n qs ks).dka }) s.dqa
    (fun i k _ => s.dqa (qs + i) (0 + k) 0 + (0 + ∑ r ∈ Finset.range 512, s.ds (qs + i) (ks + r) * s.kc (ks + r) (0 + k) 0)) (s.blockU n qs ks).dqa ?_ ?_ h
  · exact acc_nn hg (fun i k _ => s.dqa (qs + i) (0 + k) 0) (fun r k _ => s.kc (ks + r) (0 + k) 0)
  · intro i j hi hj
    show _ = if qs ≤ i ∧ i < qs + n then _ else _
    by_cases hc : qs ≤ i ∧ i < qs + n
    · rw [if_pos (by omega), if_pos hc, show qs + (i - qs) = i by omega]
      simp only [Nat.zero_add, Nat.sub_zero]
    · rw [if_neg (by omega), if_neg hc]

/-- Columns of a scaled array. -/
theorem scaled_slice {n m m' o : ℕ} {hs} (f : ℕ → ℕ → ℕ → EReal) {g : ℕ → ℕ → ℕ → EReal} (hg : ∀ i j, f (0 + i) (o + j) 0 * cScale = g i j 0) :
    extractStridedSlice (Sh n m') ![0, o] (mulf (F := Ideal) (φ := .f32) (arr (Sh n m) f) (broadcast (Sh n m) cScale)) hs = arr (Sh n m') g :=
  funext fun y => hg (y 0).val (y 1).val

/-- The row sums of a product of two arrays, as a column. -/
theorem rowdot {c1 c2 c3 c4 hb hr} {hφ : FKind.Formats .f32} {ha : 0x00000000#32 = 0x00000000#32} (f g : ℕ → ℕ → ℕ → EReal) :
    shapeCast S4096x1 (shapeCast S4096x1 (multiReduction (F := Ideal) (φ := .f32) .add [1] S4096 (mulf (F := Ideal) (φ := .f32) (extf (F := Ideal) (φ := .bf16) .f32
        (shapeCast S4096x128 (arr S4096x128 f) c1) hb) (shapeCast S4096x128 (arr S4096x128 g) c2)) 0x00000000#32 hr hφ ha) c3) c4
      = arr S4096x1 fun i _ _ => ∑ k ∈ Finset.range 128, f i k 0 * g i k 0 := by
  rw [arr_cast_self, arr_cast_self, arr_extf, arr_mul, arr_rowsum, arr_cast_col, arr_cast_self]

/-- The rotary part turned back. -/
theorem turned {c1 c2 hb hi h1 h2} {V : FVec Ideal S4096x128 .f32} {f : ℕ → ℕ → ℕ → EReal} (hV : V = arr S4096x128 f) (g h : ℕ → ℕ → ℕ → EReal) :
    truncf (F := Ideal) (φ := .f32) .bf16 (subf (F := Ideal) (φ := .f32) (mulf (F := Ideal) (φ := .f32) V (shapeCast S4096x128 (arr S4096x128 g) c1))
        (mulf (F := Ideal) (φ := .f32) (select (cmpi .slt (iota .tc S4096x128 32 [1] hi) (broadcast S4096x128 32#32)) (dynamicRotate 1 96#32 none V h1) (dynamicRotate 1 32#32 none V h2))
          (shapeCast S4096x128 (arr S4096x128 h) c2))) hb
      = arr S4096x128 fun i k _ => f i k 0 * g i k 0 - (if k < 32 then f i ((k + 32) % 128) 0 else f i ((k + 96) % 128) 0) * h i k 0 := by
  subst hV
  rw [arr_swap, arr_cast_self, arr_cast_self, arr_mul, arr_mul, arr_sub, arr_truncf]
  exact arr2_ext fun _ _ _ _ => rfl

theorem finish_spec {a : ℕ} (ha : a + 512 ≤ 4096) (P : Packed a ha) (harg10 : arg10.IsWhole) (s : St) {k : Pr} {Q}
    (h : held c arg1 arg2 arg3 arg4 arg5 arg6 arg7 arg8 arg9 arg10 arg11 arg12 arg13 arg14 arg15 arg16 (s.finishU a) ⊢ W c k Q) : held c arg1 arg2 arg3 arg4 arg5 arg6 arg7 arg8 arg9 arg10 arg11 arg12 arg13 arg14 arg15 arg16 s ⊢ W c (finish arg10 harg10 arg11 arg14 arg15 a ha P k) Q := by
  unfold finish
  refine ld_of _ _ _ _ (take14 c arg1 arg2 arg3 arg4 arg5 arg6 arg7 arg8 arg9 arg10 arg11 arg12 arg13 arg14 arg15 arg16 s) s.dka ?_
  refine ld_of _ _ _ _ (take10 c arg1 arg2 arg3 arg4 arg5 arg6 arg7 arg8 arg9 arg10 arg11 arg12 arg13 arg14 arg15 arg16 s) s.dkv ?_
  refine st_of _ _ _ _ (take10 c arg1 arg2 arg3 arg4 arg5 arg6 arg7 arg8 arg9 arg10 arg11 arg12 arg13 arg14 arg15 arg16 s) s.dkv (fun r k _ => s.dka r k 0 * cScale)
    (fun i k _ => if (a ≤ i ∧ i < a + 512) ∧ k < 128 then s.dka (i - a) k 0 * cScale else s.dkv i k 0) ?_ ?_ ?_
  · funext y
    show s.dka (0 + (0 + (y 0).val)) (0 + (0 + (y 1).val)) 0 * cScale = s.dka (y 0).val (y 1).val 0 * cScale
    simp only [Nat.zero_add]
  · intro i j hi hj
    by_cases hc : (a ≤ i ∧ i < a + 512) ∧ j < 128
    · rw [if_pos (by omega), if_pos hc, Nat.sub_zero]
    · rw [if_neg (by omega), if_neg hc]
  refine ld_of _ _ _ _ (take15 c arg1 arg2 arg3 arg4 arg5 arg6 arg7 arg8 arg9 arg10 arg11 arg12 arg13 arg14 arg15 arg16 { s with dkv := fun i k _ => if (a ≤ i ∧ i < a + 512) ∧ k < 128 then s.dka (i - a) k 0 * cScale else s.dkv i k 0 }) s.dva ?_
  refine ld_of _ _ _ _ (take10 c arg1 arg2 arg3 arg4 arg5 arg6 arg7 arg8 arg9 arg10 arg11 arg12 arg13 arg14 arg15 arg16 s) (fun i k _ => if (a ≤ i ∧ i < a + 512) ∧ k < 128 then s.dka (i - a) k 0 * cScale else s.dkv i k 0) ?_
  refine st_of _ _ _ _ (take10 c arg1 arg2 arg3 arg4 arg5 arg6 arg7 arg8 arg9 arg10 arg11 arg12 arg13 arg14 arg15 arg16 s) (fun i k _ => if (a ≤ i ∧ i < a + 512) ∧ k < 128 then s.dka (i - a) k 0 * cScale else s.dkv i k 0)
    (fun r k _ => s.dva r k 0) (s.finishU a).dkv ?_ ?_ ?_
  · simp only [Nat.zero_add]; rfl
  · intro i j hi hj
    show _ = if a ≤ i ∧ i < a + 512 then (if j < 128 then _ else _) else _
    by_cases hc : a ≤ i ∧ i < a + 512
    · rw [if_pos hc]
      by_cases hj : j < 128
      · rw [if_neg (by omega), if_pos ⟨hc, hj⟩, if_pos hj]
      · rw [if_pos (by omega), if_neg hj]
    · rw [if_neg (by omega), if_neg (by omega), if_neg hc]
  refine ld_of _ _ _ _ (take11 c arg1 arg2 arg3 arg4 arg5 arg6 arg7 arg8 arg9 arg10 arg11 arg12 arg13 arg14 arg15 arg16 { s with dkv := (s.finishU a).dkv }) s.dkr ?_
  refine ld_of _ _ _ _ (take11 c arg1 arg2 arg3 arg4 arg5 arg6 arg7 arg8 arg9 arg10 arg11 arg12 arg13 arg14 arg15 arg16 { s with dkv := (s.finishU a).dkv }) s.dkr ?_
  refine st_of _ _ _ _ (take11 c arg1 arg2 arg3 arg4 arg5 arg6 arg7 arg8 arg9 arg10 arg11 arg12 arg13 arg14 arg15 arg16 { s with dkv := (s.finishU a).dkv }) s.dkr (fun r k _ => s.dkr (a + r) k 0 + s.dka r (128 + k) 0 * cScale) (s.finishU a).dkr ?_ ?_ h
  · simp only [shapeCast_self]
    funext y
    show s.dkr (a + (y 0).val) (0 + (y 1).val) 0 + s.dka (0 + (0 + (y 0).val)) (0 + (128 + (y 1).val)) 0 * cScale
      = s.dkr (a + (y 0).val) (y 1).val 0 + s.dka (y 0).val (128 + (y 1).val) 0 * cScale
    simp only [Nat.zero_add]
  · intro i j hi hj
    show _ = if a ≤ i ∧ i < a + 512 then _ else _
    by_cases hc : a ≤ i ∧ i < a + 512
    · rw [if_pos (by omega), if_pos hc, show a + (i - a) = i by omega, Nat.sub_zero]
    · rw [if_neg (by omega), if_neg hc]

theorem start_spec (first : Bool) (harg12 : arg12.IsWhole) (s : St) {k : Pr} {Q}
    (h : held c arg1 arg2 arg3 arg4 arg5 arg6 arg7 arg8 arg9 arg10 arg11 arg12 arg13 arg14 arg15 arg16 (s.startU first) ⊢ W c k Q) : held c arg1 arg2 arg3 arg4 arg5 arg6 arg7 arg8 arg9 arg10 arg11 arg12 arg13 arg14 arg15 arg16 s ⊢ W c (start arg2 arg3 arg4 arg6 arg11 arg12 harg12 arg13 arg16 first k) Q := by
  unfold start
  refine ld_of _ _ _ _ (take2 c arg1 arg2 arg3 arg4 arg5 arg6 arg7 arg8 arg9 arg10 arg11 arg12 arg13 arg14 arg15 arg16 s) s.kv ?_
  refine ld_of _ _ _ _ (take12 c arg1 arg2 arg3 arg4 arg5 arg6 arg7 arg8 arg9 arg10 arg11 arg12 arg13 arg14 arg15 arg16 s) s.kc ?_
  refine st_of _ _ _ _ (take12 c arg1 arg2 arg3 arg4 arg5 arg6 arg7 arg8 arg9 arg10 arg11 arg12 arg13 arg14 arg15 arg16 s) s.kc (fun i k _ => s.kv i k 0) (fun i k _ => if k < 128 then s.kv i k 0 else s.kc i k 0) ?_ ?_ ?_
  · simp only [shapeCast_self, Nat.zero_add]
  · intro i j hi hj
    by_cases hc : j < 128
    · rw [if_pos (by omega), if_pos hc, Nat.sub_zero, Nat.sub_zero]
    · rw [if_neg (by omega), if_neg hc]
  refine ld_of _ _ _ _ (take3 c arg1 arg2 arg3 arg4 arg5 arg6 arg7 arg8 arg9 arg10 arg11 arg12 arg13 arg14 arg15 arg16 { s with kc := fun i k _ => if k < 128 then s.kv i k 0 else s.kc i k 0 }) s.kr ?_
  refine ld_of _ _ _ _ (take12 c arg1 arg2 arg3 arg4 arg5 arg6 arg7 arg8 arg9 arg10 arg11 arg12 arg13 arg14 arg15 arg16 s) (fun i k _ => if k < 128 then s.kv i k 0 else s.kc i k 0) ?_
  refine st_of _ _ _ _ (take12 c arg1 arg2 arg3 arg4 arg5 arg6 arg7 arg8 arg9 arg10 arg11 arg12 arg13 arg14 arg15 arg16 s) (fun i k _ => if k < 128 then s.kv i k 0 else s.kc i k 0) (fun i k _ => s.kr i k 0) (s.startU first).kc ?_ ?_ ?_
  · simp only [shapeCast_self, Nat.zero_add]
  · intro i j hi hj
    show _ = if j < 128 then _ else _
    by_cases hc : j < 128
    · rw [if_neg (by omega), if_pos hc, if_pos hc]
    · rw [if_pos (by omega), if_neg hc, Nat.sub_zero]
  refine ld_of _ _ _ _ (take13 c arg1 arg2 arg3 arg4 arg5 arg6 arg7 arg8 arg9 arg10 arg11 arg12 arg13 arg14 arg15 arg16 { s with kc := (s.startU first).kc }) s.dqa ?_
  refine st_of _ _ _ _ (take13 c arg1 arg2 arg3 arg4 arg5 arg6 arg7 arg8 arg9 arg10 arg11 arg12 arg13 arg14 arg15 arg16 { s with kc := (s.startU first).kc }) s.dqa (fun _ _ _ => 0) (s.startU first).dqa ?_ ?_ ?_
  · simp only [arr_bcast, arr_cast_self, k0]; rfl
  · intro i j hi hj; rw [if_pos (by omega)]; rfl
  refine ld_of _ _ _ _ (take4 c arg1 arg2 arg3 arg4 arg5 arg6 arg7 arg8 arg9 arg10 arg11 arg12 arg13 arg14 arg15 arg16 { s with kc := (s.startU first).kc, dqa := (s.startU first).dqa }) s.dO ?_
  refine ld_of _ _ _ _ (take6 c arg1 arg2 arg3 arg4 arg5 arg6 arg7 arg8 arg9 arg10 arg11 arg12 arg13 arg14 arg15 arg16 { s with kc := (s.startU first).kc, dqa := (s.startU first).dqa }) s.o ?_
  refine ld_of _ _ _ _ (take16 c arg1 arg2 arg3 arg4 arg5 arg6 arg7 arg8 arg9 arg10 arg11 arg12 arg13 arg14 arg15 arg16 { s with kc := (s.startU first).kc, dqa := (s.startU first).dqa }) s.dl ?_
  refine st_of _ _ _ _ (take16 c arg1 arg2 arg3 arg4 arg5 arg6 arg7 arg8 arg9 arg10 arg11 arg12 arg13 arg14 arg15 arg16 { s with kc := (s.startU first).kc, dqa := (s.startU first).dqa }) s.dl (s.startU first).dl (s.startU first).dl ?_ ?_ ?_
  · exact (rowdot (fun i k _ => s.dO (0 + i) (0 + k) 0) (fun i k _ => s.o (0 + i) (0 + k) 0)).trans (arr2_ext fun i j _ _ => by simp only [Nat.zero_add]; rfl)
  · intro i j hi hj; rw [if_pos (by omega), Nat.sub_zero]; rfl
  cases first with
  | false => exact h
  | true =>
    refine ld_of _ _ _ _ (take11 c arg1 arg2 arg3 arg4 arg5 arg6 arg7 arg8 arg9 arg10 arg11 arg12 arg13 arg14 arg15 arg16 { s with kc := (s.startU true).kc, dqa := (s.startU true).dqa, dl := (s.startU true).dl }) s.dkr ?_
    refine st_of _ _ _ _ (take11 c arg1 arg2 arg3 arg4 arg5 arg6 arg7 arg8 arg9 arg10 arg11 arg12 arg13 arg14 arg15 arg16 { s with kc := (s.startU true).kc, dqa := (s.startU true).dqa, dl := (s.startU true).dl }) s.dkr (fun _ _ _ => 0) (s.startU true).dkr ?_ ?_ h
    · exact (arr_bcast _).trans (by rw [k0]; rfl)
    · intro i j hi hj; rw [if_pos (by omega)]; rfl

theorem stop_spec (harg9 : arg9.IsWhole) (s : St) {Q} (h : held c arg1 arg2 arg3 arg4 arg5 arg6 arg7 arg8 arg9 arg10 arg11 arg12 arg13 arg14 arg15 arg16 s.stopU ⊢ Q ⟨⟩) : held c arg1 arg2 arg3 arg4 arg5 arg6 arg7 arg8 arg9 arg10 arg11 arg12 arg13 arg14 arg15 arg16 s ⊢ W c (stop arg7 arg8 arg9 harg9 arg13) Q := by
  unfold stop
  refine ld_of _ _ _ _ (take13 c arg1 arg2 arg3 arg4 arg5 arg6 arg7 arg8 arg9 arg10 arg11 arg12 arg13 arg14 arg15 arg16 s) s.dqa ?_
  refine ld_of _ _ _ _ (take9 c arg1 arg2 arg3 arg4 arg5 arg6 arg7 arg8 arg9 arg10 arg11 arg12 arg13 arg14 arg15 arg16 s) s.dq ?_
  refine st_of _ _ _ _ (take9 c arg1 arg2 arg3 arg4 arg5 arg6 arg7 arg8 arg9 arg10 arg11 arg12 arg13 arg14 arg15 arg16 s) s.dq (fun i k _ => s.dqa i k 0 * cScale) (fun i k _ => if k < 128 then s.dqa i k 0 * cScale else s.dq i k 0) ?_ ?_ ?_
  · funext y
    show s.dqa (0 + (0 + (y 0).val)) (0 + (0 + (y 1).val)) 0 * cScale = s.dqa (y 0).val (y 1).val 0 * cScale
    simp only [Nat.zero_add]
  · intro i j hi hj
    by_cases hc : j < 128
    · rw [if_pos (by omega), if_pos hc, Nat.sub_zero, Nat.sub_zero]
    · rw [if_neg (by omega), if_neg hc]
  refine ld_of _ _ _ _ (take7 c arg1 arg2 arg3 arg4 arg5 arg6 arg7 arg8 arg9 arg10 arg11 arg12 arg13 arg14 arg15 arg16 { s with dq := fun i k _ => if k < 128 then s.dqa i k 0 * cScale else s.dq i k 0 }) s.rc ?_
  refine ld_of _ _ _ _ (take8 c arg1 arg2 arg3 arg4 arg5 arg6 arg7 arg8 arg9 arg10 arg11 arg12 arg13 arg14 arg15 arg16 { s with dq := fun i k _ => if k < 128 then s.dqa i k 0 * cScale else s.dq i k 0 }) s.rs ?_
  refine ld_of _ _ _ _ (take9 c arg1 arg2 arg3 arg4 arg5 arg6 arg7 arg8 arg9 arg10 arg11 arg12 arg13 arg14 arg15 arg16 s) (fun i k _ => if k < 128 then s.dqa i k 0 * cScale else s.dq i k 0) ?_
  refine st_of _ _ _ _ (take9 c arg1 arg2 arg3 arg4 arg5 arg6 arg7 arg8 arg9 arg10 arg11 arg12 arg13 arg14 arg15 arg16 s) (fun i k _ => if k < 128 then s.dqa i k 0 * cScale else s.dq i k 0)
    (fun i k _ => s.dqa i (128 + k) 0 * cScale * s.rc i k 0
        - (if k < 32 then s.dqa i (128 + (k + 32) % 128) 0 * cScale else s.dqa i (128 + (k + 96) % 128) 0 * cScale) * s.rs i k 0) s.stopU.dq ?_ ?_ ?_
  · refine (turned (scaled_slice (fun i j _ => s.dqa (0 + i) (0 + j) 0) (g := fun i k _ => s.dqa i (128 + k) 0 * cScale) fun _ _ => by simp only [Nat.zero_add])
      (fun i k _ => s.rc (0 + i) (0 + k) 0) (fun i k _ => s.rs (0 + i) (0 + k) 0)).trans ?_
    simp only [Nat.zero_add]
    rfl
  · intro i j hi hj
    show _ = if j < 128 then _ else _
    by_cases hc : j < 128
    · rw [if_neg (by omega), if_pos hc, if_pos hc]
    · rw [if_pos (by omega), if_neg hc, Nat.sub_zero, show 128 + (j - 128) = j by omega]
  refine h.trans ?_
  rw [wp_pure]
  iintro X
  imodintro
  iexact X

end Cert.Attention
end
-- ==== Proof.AttentionRun.lean ====
/-
  The whole body of the attention gradient: what it leaves in the three results, as plain sums over all keys or all queries.
-/
module

public import proofs.«01_k».proof.Proof.AttentionBlocks

@[expose] public section

noncomputable section

open Idealize.ShloMosaic Idealize.ShloMosaic.TcCoe
open Idealize.SL Idealize.SL.RA Idealize.SL.Sem Idealize.SL.ProofMode
open Idealize.SL.BI (sProp)
open scoped Idealize.SL.BI
open Idealize.SL.BI.BIBase Idealize.SL.BI.Laws
open Cert.Arr Cert.Steps

namespace Cert.Attention

open Cert.Kernel6Ideal
open Cert.Kernel6Ideal.Facts₀ Cert.Kernel6Ideal.Facts

/-! ## The state the body leaves -/

/-- The later blocks' updates in turn. -/
def Later.runU {a qs : ℕ} : Later a qs → St → St
  | .done, s => s
  | .big qs _ rest, s => rest.runU (s.blockU 1024 qs a)
  | .small qs _ rest, s => rest.runU (s.blockU 512 qs a)

/-- The update of one block of keys. -/
def St.keysU (a : ℕ) (L : Later a (a + 512)) (s : St) : St := (L.runU (s.clearU.blockU 512 a a)).finishU a

/-- The later blocks of each block of keys. -/
def later0 : Later 0 (0 + 512) := .big 512 (by decide) (.big 1536 (by decide) (.big 2560 (by decide) (.small 3584 (by decide) .done)))
def later512 : Later 512 (512 + 512) := .big 1024 (by decide) (.big 2048 (by decide) (.big 3072 (by decide) .done))
def later1024 : Later 1024 (1024 + 512) := .big 1536 (by decide) (.big 2560 (by decide) (.small 3584 (by decide) .done))
def later1536 : Later 1536 (1536 + 512) := .big 2048 (by decide) (.big 3072 (by decide) .done)
def later2048 : Later 2048 (2048 + 512) := .big 2560 (by decide) (.small 3584 (by decide) .done)
def later2560 : Later 2560 (2560 + 512) := .big 3072 (by decide) .done
def later3072 : Later 3072 (3072 + 512) := .small 3584 (by decide) .done
def later3584 : Later 3584 (3584 + 512) := .done

/-- All blocks of keys. -/
def St.allU (s : St) : St :=
  ((((((((s.keysU 0 later0).keysU 512 later512).keysU 1024 later1024).keysU 1536 later1536).keysU 2048 later2048).keysU 2560 later2560).keysU 3072 later3072).keysU 3584 later3584)

section
variable (c : Dev nD)
  (arg1 : Memref sig .tc .vmem S4096x256 .bf16)  (arg2 : Memref sig .tc .vmem S4096x256 .bf16)  (arg3 : Memref sig .tc .vmem S4096x128 .bf16)  (arg4 : Memref sig .tc .vmem S4096x128 .bf16)  (arg5 : Memref sig .tc .vmem S4096x128 .f32)  (arg6 : Memref sig .tc .vmem S4096x128 .f32)  (arg7 : Memref sig .tc .vmem S4096x128 .f32)  (arg8 : Memref sig .tc .vmem S4096x128 .f32)  (arg9 : Memref sig .tc .vmem S4096x256 .bf16)  (arg10 : Memref sig .tc .vmem S4096x256 .bf16)  (arg11 : Memref sig .tc .vmem S4096x128 .f32)  (arg12 : Memref sig .tc .vmem S4096x256 .bf16)  (arg13 : Memref sig .tc .vmem S4096x256 .f32)  (arg14 : Memref sig .tc .vmem S512x256 .f32)  (arg15 : Memref sig .tc .vmem S512x128 .f32)  (arg16 : Memref sig .tc .vmem S4096x1 .f32)

theorem later_spec {a qs : ℕ} (ha : a + 512 ≤ 4096) (L : Later a qs) (hq : a + 512 ≤ qs) (s : St) {k : Pr} {Q} (h : held c arg1 arg2 arg3 arg4 arg5 arg6 arg7 arg8 arg9 arg10 arg11 arg12 arg13 arg14 arg15 arg16 (L.runU s) ⊢ W c k Q) :
    held c arg1 arg2 arg3 arg4 arg5 arg6 arg7 arg8 arg9 arg10 arg11 arg12 arg13 arg14 arg15 arg16 s ⊢ W c (L.run arg1 arg2 arg4 arg5 arg12 arg13 arg14 arg15 arg16 ha k) Q := by
  induction L generalizing s with
  | done => exact h
  | big qs hn rest ih => exact block_spec c arg1 arg2 arg3 arg4 arg5 arg6 arg7 arg8 arg9 arg10 arg11 arg12 arg13 arg14 arg15 arg16 rows1024 hn ha (masks_later hq) s (ih (by omega) _ h)
  | small qs hn rest ih => exact block_spec c arg1 arg2 arg3 arg4 arg5 arg6 arg7 arg8 arg9 arg10 arg11 arg12 arg13 arg14 arg15 arg16 rows512 hn ha (masks_later hq) s (ih (by omega) _ h)

theorem keys_spec {a : ℕ} (ha : a + 512 ≤ 4096) (P : Packed a ha) (harg10 : arg10.IsWhole) (L : Later a (a + 512)) (s : St) {k : Pr} {Q} (h : held c arg1 arg2 arg3 arg4 arg5 arg6 arg7 arg8 arg9 arg10 arg11 arg12 arg13 arg14 arg15 arg16 (s.keysU a L) ⊢ W c k Q) :
    held c arg1 arg2 arg3 arg4 arg5 arg6 arg7 arg8 arg9 arg10 arg11 arg12 arg13 arg14 arg15 arg16 s ⊢ W c (keys arg1 arg2 arg4 arg5 arg10 harg10 arg11 arg12 arg13 arg14 arg15 arg16 a ha P L k) Q :=
  clear_spec c arg1 arg2 arg3 arg4 arg5 arg6 arg7 arg8 arg9 arg10 arg11 arg12 arg13 arg14 arg15 arg16 s <|
  block_spec c arg1 arg2 arg3 arg4 arg5 arg6 arg7 arg8 arg9 arg10 arg11 arg12 arg13 arg14 arg15 arg16 rows512 ha ha (masks_diag a) _ <|
  later_spec c arg1 arg2 arg3 arg4 arg5 arg6 arg7 arg8 arg9 arg10 arg11 arg12 arg13 arg14 arg15 arg16 ha L le_rfl _ <|
  finish_spec c arg1 arg2 arg3 arg4 arg5 arg6 arg7 arg8 arg9 arg10 arg11 arg12 arg13 arg14 arg15 arg16 ha P harg10 _ h

theorem prog_spec (first : Bool) (harg9 : arg9.IsWhole) (harg10 : arg10.IsWhole) (harg12 : arg12.IsWhole) (s : St) {Q} (h : held c arg1 arg2 arg3 arg4 arg5 arg6 arg7 arg8 arg9 arg10 arg11 arg12 arg13 arg14 arg15 arg16 (s.startU first).allU.stopU ⊢ Q ⟨⟩) :
    held c arg1 arg2 arg3 arg4 arg5 arg6 arg7 arg8 arg9 arg10 arg11 arg12 arg13 arg14 arg15 arg16 s ⊢ W c (prog arg1 arg2 arg3 arg4 arg5 arg6 arg7 arg8 arg9 harg9 arg10 harg10 arg11 arg12 harg12 arg13 arg14 arg15 arg16 first) Q := by
  have K := @keys_spec c arg1 arg2 arg3 arg4 arg5 arg6 arg7 arg8 arg9 arg10 arg11 arg12 arg13 arg14 arg15 arg16
  exact start_spec c arg1 arg2 arg3 arg4 arg5 arg6 arg7 arg8 arg9 arg10 arg11 arg12 arg13 arg14 arg15 arg16 first harg12 s <|
    K _ _ harg10 later0 _ <| K _ _ harg10 later512 _ <| K _ _ harg10 later1024 _ <| K _ _ harg10 later1536 _ <| K _ _ harg10 later2048 _ <|
    K _ _ harg10 later2560 _ <| K _ _ harg10 later3072 _ <| K _ _ harg10 later3584 _ <|
    stop_spec c arg1 arg2 arg3 arg4 arg5 arg6 arg7 arg8 arg9 arg10 arg11 arg12 arg13 arg14 arg15 arg16 harg9 _ h
end

/-! ## Its contents -/

theorem cMask_eq : cMask = ⊥ := rfl
theorem cScale_eq : cScale = (((√192)⁻¹ : ℝ) : EReal) := rfl
theorem cLog2e_eq : cLog2e = (((Real.log 2)⁻¹ : ℝ) : EReal) := rfl
theorem cScaleLog2e_eq : cScaleLog2e = (((√192)⁻¹ * (Real.log 2)⁻¹ : ℝ) : EReal) := rfl

end Cert.Attention
end
-- ==== Proof.AttentionSums.lean ====
/-
  The attention gradient's results as plain sums: the blocks of keys and of queries put together.
-/
module

public import proofs.«01_k».proof.Proof.AttentionRun

@[expose] public section

noncomputable section

open Idealize.ShloMosaic
open Cert.Arr
open Finset (range Ico)

namespace Cert.Attention

/-- A key after the query has weight zero. -/
theorem p_zero (s : St) {i j : ℕ} (h : i < j) : s.p i j = 0 := by
  have hpos : (0 : EReal) < cScaleLog2e := by
    rw [cScaleLog2e_eq]
    exact_mod_cast mul_pos (inv_pos.mpr (Real.sqrt_pos.mpr (by norm_num))) (inv_pos.mpr (Real.log_pos (by norm_num)))
  unfold St.p
  rw [if_neg (by omega), cMask_eq, EReal.bot_mul_of_pos hpos, EReal.bot_sub]
  rfl

theorem ds_zero (s : St) {i j : ℕ} (h : i < j) : s.ds i j = 0 := by
  unfold St.ds
  rw [p_zero s h, zero_mul]

/-- Two states with the same inputs, keys and row sums. -/
structure Same (s t : St) : Prop where
  q : t.q = s.q
  kv : t.kv = s.kv
  dO : t.dO = s.dO
  lse : t.lse = s.lse
  rc : t.rc = s.rc
  rs : t.rs = s.rs
  kc : t.kc = s.kc
  dl : t.dl = s.dl

theorem Same.trans {s t u : St} (h : Same s t) (h' : Same t u) : Same s u :=
  ⟨h'.q.trans h.q, h'.kv.trans h.kv, h'.dO.trans h.dO, h'.lse.trans h.lse, h'.rc.trans h.rc, h'.rs.trans h.rs, h'.kc.trans h.kc, h'.dl.trans h.dl⟩

theorem Same.p {s t : St} (h : Same s t) (i j : ℕ) : t.p i j = s.p i j := by
  unfold St.p St.sc
  rw [h.q, h.kc, h.lse]

theorem Same.ds {s t : St} (h : Same s t) (i j : ℕ) : t.ds i j = s.ds i j := by
  unfold St.ds
  rw [h.p, h.dO, h.kv, h.dl]

theorem same_block (n qs ks : ℕ) (s : St) : Same s (s.blockU n qs ks) := ⟨rfl, rfl, rfl, rfl, rfl, rfl, rfl, rfl⟩
theorem same_clear (s : St) : Same s s.clearU := ⟨rfl, rfl, rfl, rfl, rfl, rfl, rfl, rfl⟩
theorem same_finish (a : ℕ) (s : St) : Same s (s.finishU a) := ⟨rfl, rfl, rfl, rfl, rfl, rfl, rfl, rfl⟩

/-- A block's rows as an interval. -/
theorem rows_sum (f : ℕ → EReal) (a n : ℕ) : ∑ i ∈ range n, f (a + i) = ∑ i ∈ Ico a (a + n), f i := by
  rw [Finset.sum_Ico_eq_sum_range, Nat.add_sub_cancel_left]

/-- What the later blocks leave. -/
structure Runs (a qs : ℕ) (s t : St) : Prop where
  same : Same s t
  dva : ∀ r k, t.dva r k 0 = s.dva r k 0 + ∑ i ∈ Ico qs 4096, s.p i (a + r) * s.dO i k 0
  dka : ∀ r k, t.dka r k 0 = s.dka r k 0 + ∑ i ∈ Ico qs 4096, s.ds i (a + r) * s.q i k 0
  dqa : ∀ i k, i < 4096 → t.dqa i k 0 = s.dqa i k 0 + if qs ≤ i then ∑ r ∈ range 512, s.ds i (a + r) * s.kc (a + r) k 0 else 0
  dkv : t.dkv = s.dkv
  dkr : t.dkr = s.dkr

theorem runs_block {n qs a : ℕ} (hn : qs + n ≤ 4096) {s t : St} (h : Runs a (qs + n) (s.blockU n qs a) t) : Runs a qs s t where
  same := (same_block n qs a s).trans h.same
  dva r k := by
    rw [h.dva]
    show s.dva r k 0 + (0 + ∑ i ∈ range n, s.p (qs + i) (a + r) * s.dO (qs + i) k 0) + ∑ i ∈ Ico (qs + n) 4096, s.p i (a + r) * s.dO i k 0 = _
    rw [zero_add, rows_sum fun i => s.p i (a + r) * s.dO i k 0, add_assoc, Finset.sum_Ico_consecutive _ (by omega) (by omega)]
  dka r k := by
    rw [h.dka]
    show s.dka r k 0 + (0 + ∑ i ∈ range n, s.ds (qs + i) (a + r) * s.q (qs + i) k 0) + ∑ i ∈ Ico (qs + n) 4096, s.ds i (a + r) * s.q i k 0 = _
    rw [zero_add, rows_sum fun i => s.ds i (a + r) * s.q i k 0, add_assoc, Finset.sum_Ico_consecutive _ (by omega) (by omega)]
  dqa i k hi := by
    rw [h.dqa i k hi]
    show (if qs ≤ i ∧ i < qs + n then s.dqa i k 0 + (0 + ∑ r ∈ range 512, s.ds i (a + r) * s.kc (a + r) k 0) else s.dqa i k 0)
      + (if qs + n ≤ i then ∑ r ∈ range 512, s.ds i (a + r) * s.kc (a + r) k 0 else 0) = _
    by_cases h1 : qs ≤ i
    · by_cases h2 : i < qs + n
      · rw [if_pos ⟨h1, h2⟩, if_neg (by omega), if_pos h1, add_zero, zero_add]
      · rw [if_neg (by omega), if_pos (by omega), if_pos h1]
    · rw [if_neg (by omega), if_neg (by omega), if_neg h1]
  dkv := h.dkv
  dkr := h.dkr

theorem runs_later {a qs : ℕ} (L : Later a qs) (s : St) : Runs a qs s (L.runU s) := by
  induction L generalizing s with
  | done => exact ⟨⟨rfl, rfl, rfl, rfl, rfl, rfl, rfl, rfl⟩, fun r k => by simp [Later.runU], fun r k => by simp [Later.runU],
      fun i k hi => by rw [if_neg (by omega), add_zero]; rfl, rfl, rfl⟩
  | big qs hn rest ih => exact runs_block hn (ih _)
  | small qs hn rest ih => exact runs_block hn (ih _)

/-- What stands after the keys below `a`, from the state `s` after the prologue. -/
structure Upto (a : ℕ) (s t : St) : Prop where
  same : Same s t
  dqa : ∀ i k, i < 4096 → t.dqa i k 0 = ∑ j ∈ range a, s.ds i j * s.kc j k 0
  dk : ∀ j k, j < a → k < 128 → t.dkv j k 0 = (∑ i ∈ range 4096, s.ds i j * s.q i k 0) * cScale
  dv : ∀ j k, j < a → 128 ≤ k → t.dkv j k 0 = ∑ i ∈ range 4096, s.p i j * s.dO i (k - 128) 0
  dkr : ∀ j k, t.dkr j k 0 = if j < a then s.dkr j k 0 + (∑ i ∈ range 4096, s.ds i j * s.q i (128 + k) 0) * cScale else s.dkr j k 0

/-- The sums over all queries start at the block's first key: no query before it sees it. -/
theorem all_rows {a : ℕ} (ha : a ≤ 4096) (f : ℕ → EReal) (h : ∀ i, i < a → f i = 0) : ∑ i ∈ Ico a 4096, f i = ∑ i ∈ range 4096, f i := by
  rw [Finset.range_eq_Ico, ← Finset.sum_Ico_consecutive f (Nat.zero_le a) ha,
    Finset.sum_eq_zero (s := Ico 0 a) fun i hi => h i (Finset.mem_Ico.mp hi).2, zero_add]

theorem upto_keys {a : ℕ} (ha : a + 512 ≤ 4096) (L : Later a (a + 512)) {s t : St} (h : Upto a s t) : Upto (a + 512) s (t.keysU a L) := by
  have hr : Runs a a t.clearU (L.runU (t.clearU.blockU 512 a a)) := runs_block ha (runs_later L _)
  set u := L.runU (t.clearU.blockU 512 a a) with hu
  have hsu : Same s u := (h.same.trans (same_clear t)).trans hr.same
  have hsc : Same s t.clearU := h.same.trans (same_clear t)
  have hdva : ∀ r k, u.dva r k 0 = ∑ i ∈ range 4096, s.p i (a + r) * s.dO i k 0 := by
    intro r k
    rw [hr.dva, show t.clearU.dva r k 0 = 0 from rfl, zero_add, ← all_rows (a := a) (by omega) _ fun i hi => by rw [p_zero s (by omega), zero_mul]]
    exact Finset.sum_congr rfl fun i _ => by rw [hsc.p, hsc.dO]
  have hdka : ∀ r k, u.dka r k 0 = ∑ i ∈ range 4096, s.ds i (a + r) * s.q i k 0 := by
    intro r k
    rw [hr.dka, show t.clearU.dka r k 0 = 0 from rfl, zero_add, ← all_rows (a := a) (by omega) _ fun i hi => by rw [ds_zero s (by omega), zero_mul]]
    exact Finset.sum_congr rfl fun i _ => by rw [hsc.ds, hsc.q]
  refine ⟨hsu.trans (same_finish a u), fun i k hi => ?_, fun j k hj hk => ?_, fun j k hj hk => ?_, fun j k => ?_⟩
  · show u.dqa i k 0 = _
    rw [hr.dqa i k hi, show t.clearU.dqa i k 0 = t.dqa i k 0 from rfl, h.dqa i k hi, Finset.sum_range_add]
    congr 1
    by_cases hai : a ≤ i
    · rw [if_pos hai]
      exact Finset.sum_congr rfl fun r _ => by rw [hsc.ds, hsc.kc]
    · rw [if_neg hai]
      exact (Finset.sum_eq_zero fun r _ => by rw [ds_zero s (by omega), zero_mul]).symm
  · show (if a ≤ j ∧ j < a + 512 then (if k < 128 then u.dka (j - a) k 0 * cScale else u.dva (j - a) (k - 128) 0) else u.dkv j k 0) = _
    by_cases hc : a ≤ j
    · rw [if_pos ⟨hc, hj⟩, if_pos hk, hdka, show a + (j - a) = j by omega]
    · rw [if_neg (by omega), hr.dkv]
      exact h.dk j k (by omega) hk
  · show (if a ≤ j ∧ j < a + 512 then (if k < 128 then u.dka (j - a) k 0 * cScale else u.dva (j - a) (k - 128) 0) else u.dkv j k 0) = _
    by_cases hc : a ≤ j
    · rw [if_pos ⟨hc, hj⟩, if_neg (by omega), hdva, show a + (j - a) = j by omega]
    · rw [if_neg (by omega), hr.dkv]
      exact h.dv j k (by omega) hk
  · show (if a ≤ j ∧ j < a + 512 then u.dkr j k 0 + u.dka (j - a) (128 + k) 0 * cScale else u.dkr j k 0) = _
    rw [hr.dkr, show t.clearU.dkr j k 0 = t.dkr j k 0 from rfl, h.dkr]
    by_cases hc : a ≤ j
    · by_cases hj : j < a + 512
      · rw [if_pos ⟨hc, hj⟩, if_neg (by omega), if_pos hj, hdka, show a + (j - a) = j by omega]
      · rw [if_neg (by omega), if_neg (by omega), if_neg hj]
    · rw [if_neg (by omega), if_pos (by omega), if_pos (by omega)]

/-- After all blocks of keys. -/
theorem upto_all {s : St} (h : ∀ i k, s.dqa i k 0 = 0) : Upto 4096 s s.allU := by
  have h0 : Upto 0 s s := ⟨⟨rfl, rfl, rfl, rfl, rfl, rfl, rfl, rfl⟩, fun i k _ => by rw [h]; rfl, fun j k hj _ => by omega, fun j k hj _ => by omega, fun j k => rfl⟩
  exact upto_keys (by decide) later3584 <| upto_keys (by decide) later3072 <| upto_keys (by decide) later2560 <| upto_keys (by decide) later2048 <|
    upto_keys (by decide) later1536 <| upto_keys (by decide) later1024 <| upto_keys (by decide) later512 <| upto_keys (by decide) later0 h0

end Cert.Attention
end
-- ==== Proof.AttentionFrame.lean ====
/-
  The attention gradient's run: head `t`'s columns of the first two results, and the shared key gradient added up over the heads.
-/
module

public import proofs.«01_k».proof.Proof.AttentionSums
public import proofs.«01_k».proof.Proof.Gen.Kernel6Ideal.Value
public import Idealize.ShloMosaic.Lib.Claim

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Arr

namespace Cert.Attention

open Cert.Kernel6Ideal Cert.Kernel6Ideal.Gen
open Finset (range)

/-- The eight arrays the kernel reads. -/
structure In where
  (q kv kr dO lse o rc rs : ℕ → ℕ → ℕ → EReal)

/-- Head `h`'s part of them. -/
def In.at (x : In) (h : ℕ) : St where
  q i k _ := x.q i (h * 256 + k) 0
  kv i k _ := x.kv i (h * 256 + k) 0
  kr i k _ := x.kr i k 0
  dO i k _ := x.dO i (h * 128 + k) 0
  lse i k _ := x.lse i (h * 128 + k) 0
  o i k _ := x.o i (h * 128 + k) 0
  rc i k _ := x.rc i k 0
  rs i k _ := x.rs i k 0
  dq _ _ _ := 0
  dkv _ _ _ := 0
  dkr _ _ _ := 0
  kc _ _ _ := 0
  dqa _ _ _ := 0
  dka _ _ _ := 0
  dva _ _ _ := 0
  dl _ _ _ := 0

/-- Head `h`'s inputs with the keys put together and the row sums. -/
def In.hd (x : In) (h : ℕ) : St := (x.at h).startU true
/-- Head `h`'s query gradient before the scale and the rotation. -/
def In.acc (x : In) (h i k : ℕ) : EReal := ∑ j ∈ range 4096, (x.hd h).ds i j * (x.hd h).kc j k 0
/-- Head `h`'s query gradient. -/
def In.dq (x : In) (h i k : ℕ) : EReal :=
  if k < 128 then x.acc h i k * cScale
  else x.acc h i k * cScale * x.rc i (k - 128) 0
    - (if k - 128 < 32 then x.acc h i (128 + (k - 128 + 32) % 128) * cScale else x.acc h i (128 + (k - 128 + 96) % 128) * cScale) * x.rs i (k - 128) 0
/-- Head `h`'s key and value gradients. -/
def In.dkv (x : In) (h j k : ℕ) : EReal :=
  if k < 128 then (∑ i ∈ range 4096, (x.hd h).ds i j * (x.hd h).q i k 0) * cScale
  else ∑ i ∈ range 4096, (x.hd h).p i j * (x.hd h).dO i (k - 128) 0
/-- Head `h`'s part of the shared key's gradient. -/
def In.dkr (x : In) (h j k : ℕ) : EReal := (∑ i ∈ range 4096, (x.hd h).ds i j * (x.hd h).q i (128 + k) 0) * cScale

variable (m : (ℓ : Loc nD τ sig) → Buf (Elt Ideal) ℓ) (c : Dev nD) (x : In)

/-- The blocks a core's points read are those of the arrays `x`. -/
structure Reads : Prop where
  r0 : ∀ t, iblk m c 0 t = arr S4096x256 (x.at t.val).q
  r1 : ∀ t, iblk m c 1 t = arr S4096x256 (x.at t.val).kv
  r2 : ∀ t, iblk m c 2 t = arr S4096x128 (x.at t.val).kr
  r3 : ∀ t, iblk m c 3 t = arr S4096x128 (x.at t.val).dO
  r4 : ∀ t, iblk m c 4 t = arr S4096x128 (x.at t.val).lse
  r5 : ∀ t, iblk m c 5 t = arr S4096x128 (x.at t.val).o
  r6 : ∀ t, iblk m c 6 t = arr S4096x128 (x.at t.val).rc
  r7 : ∀ t, iblk m c 7 t = arr S4096x128 (x.at t.val).rs

/-- What a point's body leaves in the results, from any scratch. -/
theorem left (x : In) (h : ℕ) (first : Bool) (s : St) (hq : s.q = (x.at h).q) (hkv : s.kv = (x.at h).kv) (hkr : s.kr = (x.at h).kr) (hdO : s.dO = (x.at h).dO)
    (hlse : s.lse = (x.at h).lse) (ho : s.o = (x.at h).o) (hrc : s.rc = (x.at h).rc) (hrs : s.rs = (x.at h).rs)
    (d : ℕ → ℕ → EReal) (hd : ∀ j k, (s.startU first).dkr j k 0 = d j k) :
    (∀ i k, i < 4096 → (s.startU first).allU.stopU.dq i k 0 = x.dq h i k)
    ∧ (∀ j k, j < 4096 → (s.startU first).allU.stopU.dkv j k 0 = x.dkv h j k)
    ∧ (∀ j k, j < 4096 → (s.startU first).allU.stopU.dkr j k 0 = d j k + x.dkr h j k) := by
  have hsame : Same (x.hd h) (s.startU first) := by
    constructor <;> (unfold St.startU In.hd St.startU; dsimp only; simp only [hq, hkv, hkr, hdO, hlse, ho, hrc, hrs])
  have U := upto_all (s := s.startU first) fun i k => rfl
  have hA : ∀ i k, i < 4096 → (s.startU first).allU.dqa i k 0 = x.acc h i k := by
    intro i k hi
    rw [U.dqa i k hi]
    exact Finset.sum_congr rfl fun j _ => by rw [hsame.ds, hsame.kc]
  refine ⟨fun i k hi => ?_, fun j k hj => ?_, fun j k hj => ?_⟩
  · unfold St.stopU In.dq
    dsimp only
    rw [hA _ _ hi, hA _ _ hi, hA _ _ hi, U.same.rc, U.same.rs, hsame.rc, hsame.rs]
    rfl
  · show (s.startU first).allU.dkv j k 0 = _
    unfold In.dkv
    by_cases hk : k < 128
    · rw [U.dk j k hj hk, if_pos hk]
      refine congrArg (· * cScale) (Finset.sum_congr rfl fun i _ => ?_)
      rw [hsame.ds, hsame.q]
    · rw [U.dv j k hj (by omega), if_neg hk]
      refine Finset.sum_congr rfl fun i _ => ?_
      rw [hsame.p, hsame.dO]
  · show (s.startU first).allU.dkr j k 0 = _
    rw [U.dkr j k, if_pos hj, hd]
    unfold In.dkr
    refine congrArg (fun e => d j k + e * cScale) (Finset.sum_congr rfl fun i _ => ?_)
    rw [hsame.ds, hsame.q]

/-! ## The pipeline's contents, point by point -/

variable (X : Dev nD → In)

/-- What every point leaves in every window's buffer. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => arr S4096x256 fun i k _ => (X c).dq t.val i k
    | ⟨9, _⟩ => arr S4096x256 fun j k _ => (X c).dkv t.val j k
    | ⟨10, _⟩ => arr S4096x128 fun j k _ => ∑ h ∈ range (t.val + 1), (X c).dkr h j k
  Φ _ := Pipeline.ΦA spec0 c
  q _ := fullShare
  owed _ := 0

theorem A_eq (c : Dev nD) (w : Fin cfg0.W) : (dats m X 0 c).A w = V m c (Pipeline.arrRef spec0 w) := by
    dsimp only [dats]

theorem after0 (t : Fin cfg0.N) : (dats m X 0 c).after 0 t = iblk m c 0 t := by dsimp only [dats]
theorem after1 (t : Fin cfg0.N) : (dats m X 0 c).after 1 t = iblk m c 1 t := by dsimp only [dats]
theorem after2 (t : Fin cfg0.N) : (dats m X 0 c).after 2 t = iblk m c 2 t := by dsimp only [dats]
theorem after3 (t : Fin cfg0.N) : (dats m X 0 c).after 3 t = iblk m c 3 t := by dsimp only [dats]
theorem after4 (t : Fin cfg0.N) : (dats m X 0 c).after 4 t = iblk m c 4 t := by dsimp only [dats]
theorem after5 (t : Fin cfg0.N) : (dats m X 0 c).after 5 t = iblk m c 5 t := by dsimp only [dats]
theorem after6 (t : Fin cfg0.N) : (dats m X 0 c).after 6 t = iblk m c 6 t := by dsimp only [dats]
theorem after7 (t : Fin cfg0.N) : (dats m X 0 c).after 7 t = iblk m c 7 t := by dsimp only [dats]
theorem after8 (t : Fin cfg0.N) : (dats m X 0 c).after 8 t = arr S4096x256 fun i k _ => (X c).dq t.val i k := by dsimp only [dats]
theorem after9 (t : Fin cfg0.N) : (dats m X 0 c).after 9 t = arr S4096x256 fun j k _ => (X c).dkv t.val j k := by dsimp only [dats]
theorem after10 (t : Fin cfg0.N) : (dats m X 0 c).after 10 t = arr S4096x128 fun j k _ => ∑ h ∈ range (t.val + 1), (X c).dkr h j k := by dsimp only [dats]

theorem before0 (t : Fin cfg0.N) (d) : (dats m X 0 c).before 0 t d = iblk m c 0 t := before0_0_of m (dats m X 0 c) (A_eq m X c 0) (after0 m c X) t d
theorem before1 (t : Fin cfg0.N) (d) : (dats m X 0 c).before 1 t d = iblk m c 1 t := before0_1_of m (dats m X 0 c) (A_eq m X c 1) (after1 m c X) t d
theorem before2 (t : Fin cfg0.N) (d) : (dats m X 0 c).before 2 t d = iblk m c 2 t := before0_2_of m (dats m X 0 c) (A_eq m X c 2) (after2 m c X) t d
theorem before3 (t : Fin cfg0.N) (d) : (dats m X 0 c).before 3 t d = iblk m c 3 t := before0_3_of m (dats m X 0 c) (A_eq m X c 3) (after3 m c X) t d
theorem before4 (t : Fin cfg0.N) (d) : (dats m X 0 c).before 4 t d = iblk m c 4 t := before0_4_of m (dats m X 0 c) (A_eq m X c 4) (after4 m c X) t d
theorem before5 (t : Fin cfg0.N) (d) : (dats m X 0 c).before 5 t d = iblk m c 5 t := before0_5_of m (dats m X 0 c) (A_eq m X c 5) (after5 m c X) t d
theorem before6 (t : Fin cfg0.N) (d) : (dats m X 0 c).before 6 t d = iblk m c 6 t := before0_6_of m (dats m X 0 c) (A_eq m X c 6) (after6 m c X) t d
theorem before7 (t : Fin cfg0.N) (d) : (dats m X 0 c).before 7 t d = iblk m c 7 t := before0_7_of m (dats m X 0 c) (A_eq m X c 7) (after7 m c X) t d
/-- After the first head the shared key's gradient is what the heads before left. -/
theorem before10 (t : Fin cfg0.N) (h0 : ¬t.val % 16 = 0) (d) :
    (dats m X 0 c).before 10 t d = arr S4096x128 fun j k _ => ∑ h ∈ range t.val, (X c).dkr h j k := by
  have hN : t.val < 16 := lt_of_lt_of_eq t.isLt (show cfg0.N = 16 from N_0)
  rw [Dat.before_out_kept _ 10 rfl t (by omega) (Bool.eq_false_iff.mpr fun h => by have := (flush0_10 _).mp h; dsimp only at this; omega)
    (fun _ => rfl) (fun _ _ => rfl), after10]
  dsimp only
  rw [Nat.sub_add_cancel (by omega)]

/-! ## The body at a point -/

/-- The buffers of a point, with the contents `s`. -/
abbrev heldAt (c : Dev nD) (t : Fin cfg0.N) (s : St) : sProp (MT nD τ sig Unit (Elt Ideal) ℕ (UR sig nD τ) ℕ) :=
  held c (ms0_0 t) (ms0_1 t) (ms0_2 t) (ms0_3 t) (ms0_4 t) (ms0_5 t) (ms0_6 t) (ms0_7 t) (ms0_8 t) (ms0_9 t) (ms0_10 t) scM0_0 scM0_1 scM0_2 scM0_3 scM0_4 s

/-- The body at a point is the program of pieces. -/
theorem body_at (t : Fin cfg0.N) : ∃ first : Bool, (first = true ↔ t.val % 16 = 0) ∧
    bodyAt0 (F := Ideal) t = prog (ms0_0 t) (ms0_1 t) (ms0_2 t) (ms0_3 t) (ms0_4 t) (ms0_5 t) (ms0_6 t) (ms0_7 t) (ms0_8 t) (hs0_8 t) (ms0_9 t) (hs0_9 t) (ms0_10 t)
      scM0_0 (Memref.isWhole_whole _) scM0_1 scM0_2 scM0_3 scM0_4 first := by
  by_cases h0 : t.val % 16 = 0
  · exact ⟨true, by simp [h0], body_eq_first _ _ _ _ _ _ _ _ _ _ _ _ _ _ _ _ _ _ _ _ _ _ _ _ _ _ _ _ _ _ _ _ _ ((hcond0_0 t).mpr h0)⟩
  · exact ⟨false, by simp [h0], body_eq_next _ _ _ _ _ _ _ _ _ _ _ _ _ _ _ _ _ _ _ _ _ _ _ _ _ _ _ _ _ _ _ _ _ fun h => h0 ((hcond0_0 t).mp h)⟩

/-- What the body is called with at a point, -/
def bodyPre (c : Dev nD) (t : Fin cfg0.N) : sProp (MT nD τ sig Unit (Elt Ideal) ℕ (UR sig nD τ) ℕ) :=
  iprop((dats m X 0 c).Φ t.castSucc ∗ (dats m X 0 c).owesAt () t.castSucc
    ∗ (∃ d, owns (c : Thread nD τ) (ms0_0 t) fullShare ((dats m X 0 c).before 0 t d))
    ∗ (∃ d, owns (c : Thread nD τ) (ms0_1 t) fullShare ((dats m X 0 c).before 1 t d))
    ∗ (∃ d, owns (c : Thread nD τ) (ms0_2 t) fullShare ((dats m X 0 c).before 2 t d))
    ∗ (∃ d, owns (c : Thread nD τ) (ms0_3 t) fullShare ((dats m X 0 c).before 3 t d))
    ∗ (∃ d, owns (c : Thread nD τ) (ms0_4 t) fullShare ((dats m X 0 c).before 4 t d))
    ∗ (∃ d, owns (c : Thread nD τ) (ms0_5 t) fullShare ((dats m X 0 c).before 5 t d))
    ∗ (∃ d, owns (c : Thread nD τ) (ms0_6 t) fullShare ((dats m X 0 c).before 6 t d))
    ∗ (∃ d, owns (c : Thread nD τ) (ms0_7 t) fullShare ((dats m X 0 c).before 7 t d))
    ∗ (∃ d, owns (c : Thread nD τ) (ms0_8 t) fullShare ((dats m X 0 c).before 8 t d))
    ∗ (∃ d, owns (c : Thread nD τ) (ms0_9 t) fullShare ((dats m X 0 c).before 9 t d))
    ∗ (∃ d, owns (c : Thread nD τ) (ms0_10 t) fullShare ((dats m X 0 c).before 10 t d)))

/-- and what it returns. -/
def bodyPost (c : Dev nD) (t : Fin cfg0.N) : sProp (MT nD τ sig Unit (Elt Ideal) ℕ (UR sig nD τ) ℕ) :=
  iprop((dats m X 0 c).Φ t.succ ∗ (dats m X 0 c).owesAt () t.succ
    ∗ owns (c : Thread nD τ) (ms0_0 t) fullShare ((dats m X 0 c).after 0 t)
    ∗ owns (c : Thread nD τ) (ms0_1 t) fullShare ((dats m X 0 c).after 1 t)
    ∗ owns (c : Thread nD τ) (ms0_2 t) fullShare ((dats m X 0 c).after 2 t)
    ∗ owns (c : Thread nD τ) (ms0_3 t) fullShare ((dats m X 0 c).after 3 t)
    ∗ owns (c : Thread nD τ) (ms0_4 t) fullShare ((dats m X 0 c).after 4 t)
    ∗ owns (c : Thread nD τ) (ms0_5 t) fullShare ((dats m X 0 c).after 5 t)
    ∗ owns (c : Thread nD τ) (ms0_6 t) fullShare ((dats m X 0 c).after 6 t)
    ∗ owns (c : Thread nD τ) (ms0_7 t) fullShare ((dats m X 0 c).after 7 t)
    ∗ owns (c : Thread nD τ) (ms0_8 t) fullShare ((dats m X 0 c).after 8 t)
    ∗ owns (c : Thread nD τ) (ms0_9 t) fullShare ((dats m X 0 c).after 9 t)
    ∗ owns (c : Thread nD τ) (ms0_10 t) fullShare ((dats m X 0 c).after 10 t))

/-- The program at a point, framed by what it leaves alone. -/
theorem prog_at (t : Fin cfg0.N) (first : Bool) (s : St) (R : sProp (MT nD τ sig Unit (Elt Ideal) ℕ (UR sig nD τ) ℕ)) {Q : PUnit → sProp (MT nD τ sig Unit (Elt Ideal) ℕ (UR sig nD τ) ℕ)}
    (h : iprop(heldAt c t (s.startU first).allU.stopU ∗ R) ⊢ Q ⟨⟩) :
    iprop(heldAt c t s ∗ R) ⊢ W c (prog (ms0_0 t) (ms0_1 t) (ms0_2 t) (ms0_3 t) (ms0_4 t) (ms0_5 t) (ms0_6 t) (ms0_7 t) (ms0_8 t) (hs0_8 t) (ms0_9 t) (hs0_9 t) (ms0_10 t)
      scM0_0 (Memref.isWhole_whole _) scM0_1 scM0_2 scM0_3 scM0_4 first) Q := by
  refine .trans (sep_mono (prog_spec c _ _ _ _ _ _ _ _ _ _ _ _ _ _ _ _ first (hs0_8 t) (hs0_9 t) (Memref.isWhole_whole _) s
    (Q := fun _ => heldAt c t (s.startU first).allU.stopU) .rfl) .rfl) ?_
  exact .trans (wp_frame_r frame _ _) (wp_mono frame _ _ fun _ => h)

/-- The arrays with equal elements in range are equal. -/
theorem eq2 {a b : ℕ} {f g : ℕ → ℕ → ℕ → EReal} (h : ∀ i k, i < a → f i k 0 = g i k 0) : arr ⟨2, ![a, b]⟩ f = arr ⟨2, ![a, b]⟩ g :=
  arr2_ext fun i k hi _ => h i k hi

theorem some_arr {s : Shape} (hs : s.rank ≤ 3) (x : s.Idx → EReal) : ∃ f : ℕ → ℕ → ℕ → EReal, x = arr s f := exists_arr hs x

theorem keep_later {a qs : ℕ} (L : Later a qs) (s : St) : (L.runU s).kr = s.kr ∧ (L.runU s).o = s.o := by
  induction L generalizing s with
  | done => exact ⟨rfl, rfl⟩
  | big qs _ rest ih => exact ih _
  | small qs _ rest ih => exact ih _
theorem keep_keys (a : ℕ) (L : Later a (a + 512)) (s : St) : (s.keysU a L).kr = s.kr ∧ (s.keysU a L).o = s.o := keep_later L _
theorem keep_all (s : St) : s.allU.kr = s.kr ∧ s.allU.o = s.o := by
  unfold St.allU
  simp only [(keep_keys _ _ _).1, (keep_keys _ _ _).2, and_self]

/-- The body at any point. -/
theorem sound_body (hX : ∀ c, Reads m c (X c)) (t : Fin cfg0.N) :
    bodyPre m X c t ⊢ wp frame (wpE (defs₀ (F := Ideal)) Variants.none c none) Set.univ (bodyAt0 t) (fun _ => bodyPost m X c t) := by
  obtain ⟨first, hf, hb⟩ := body_at t
  have hN : t.val < 16 := lt_of_lt_of_eq t.isLt (show cfg0.N = 16 from N_0)
  have hR := hX c
  rw [hb]
  unfold bodyPre bodyPost
  simp only [before0, before1, before2, before3, before4, before5, before6, before7]
  rw [show (dats m X 0 c).Φ t.succ = (dats m X 0 c).Φ t.castSucc from rfl,
    show (dats m X 0 c).owesAt () t.succ = (dats m X 0 c).owesAt () t.castSucc from rfl,
    after0, after1, after2, after3, after4, after5, after6, after7, after8, after9, after10]
  rw [show (dats m X 0 c).Φ t.castSucc = Pipeline.ΦA spec0 c from rfl, PhiA0_eq]
  rw [hR.r0 t, hR.r1 t, hR.r2 t, hR.r3 t, hR.r4 t, hR.r5 t, hR.r6 t, hR.r7 t]
  iintro ⟨⟨⟨⟨%e0, HS0⟩, ⟨%e1, HS1⟩, ⟨%e2, HS2⟩, ⟨%e3, HS3⟩, ⟨%e4, HS4⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  obtain ⟨f8, h8⟩ : ∃ f, (dats m X 0 c).before 8 t d8 = arr S4096x256 f := some_arr (s := S4096x256) (by decide) _
  obtain ⟨f9, h9⟩ : ∃ f, (dats m X 0 c).before 9 t d9 = arr S4096x256 f := some_arr (s := S4096x256) (by decide) _
  obtain ⟨f10, h10, hd⟩ : ∃ f, (dats m X 0 c).before 10 t d10 = arr S4096x128 f ∧ (first = false → f = fun j k _ => ∑ h ∈ range t.val, (X c).dkr h j k) := by
    cases first with
    | true => exact (some_arr (s := S4096x128) (by decide) _).imp fun f h => ⟨h, fun h => nomatch h⟩
    | false => exact ⟨_, before10 m c X t (fun h => by simp at hf; omega) d10, fun _ => rfl⟩
  obtain ⟨g0, k0⟩ : ∃ f, e0 = arr S4096x256 f := some_arr (s := S4096x256) (by decide) _
  obtain ⟨g1, k1⟩ : ∃ f, e1 = arr S4096x256 f := some_arr (s := S4096x256) (by decide) _
  obtain ⟨g2, k2⟩ : ∃ f, e2 = arr S512x256 f := some_arr (s := S512x256) (by decide) _
  obtain ⟨g3, k3⟩ : ∃ f, e3 = arr S512x128 f := some_arr (s := S512x128) (by decide) _
  obtain ⟨g4, k4⟩ : ∃ f, e4 = arr S4096x1 f := some_arr (s := S4096x1) (by decide) _
  obtain ⟨s, hs⟩ : ∃ s : St, s = { (X c).at t.val with dq := f8, dkv := f9, dkr := f10, kc := g0, dqa := g1, dka := g2, dva := g3, dl := g4 } := ⟨_, rfl⟩
  obtain ⟨hL8, hL9, hL10⟩ := left (X c) t.val first s (by rw [hs]) (by rw [hs]) (by rw [hs]) (by rw [hs]) (by rw [hs]) (by rw [hs]) (by rw [hs]) (by rw [hs])
    (fun j k => ∑ h ∈ range t.val, (X c).dkr h j k) (by
      intro j k
      cases first with
      | true => rw [show t.val = 0 by have := hf.mp rfl; omega]; rfl
      | false => rw [hs, hd rfl]; rfl)
  have U := (upto_all (s := s.startU first) fun i k => rfl).same
  rw [h8, h9, h10, k0, k1, k2, k3, k4]
  iapply (prog_at c t first s iprop((∃ r, prngReg c r) ∗ (dats m X 0 c).owesAt () t.castSucc) ?h)
  case h =>
    rw [show (arr S4096x256 fun i k _ => (X c).dq t.val i k) = arr S4096x256 (s.startU first).allU.stopU.dq from eq2 fun i k hi => (hL8 i k hi).symm,
      show (arr S4096x256 fun i k _ => (X c).dkv t.val i k) = arr S4096x256 (s.startU first).allU.stopU.dkv from eq2 fun i k hi => (hL9 i k hi).symm,
      show (arr S4096x128 fun j k _ => ∑ h ∈ range (t.val + 1), (X c).dkr h j k) = arr S4096x128 (s.startU first).allU.stopU.dkr from
        eq2 fun i k hi => by rw [hL10 i k hi, Finset.sum_range_succ]]
    unfold heldAt held
    rw [show (s.startU first).allU.stopU.q = ((X c).at t.val).q by rw [← show s.q = ((X c).at t.val).q by rw [hs]]; exact U.q,
      show (s.startU first).allU.stopU.kv = ((X c).at t.val).kv by rw [← show s.kv = ((X c).at t.val).kv by rw [hs]]; exact U.kv,
      show (s.startU first).allU.stopU.dO = ((X c).at t.val).dO by rw [← show s.dO = ((X c).at t.val).dO by rw [hs]]; exact U.dO,
      show (s.startU first).allU.stopU.lse = ((X c).at t.val).lse by rw [← show s.lse = ((X c).at t.val).lse by rw [hs]]; exact U.lse,
      show (s.startU first).allU.stopU.rc = ((X c).at t.val).rc by rw [← show s.rc = ((X c).at t.val).rc by rw [hs]]; exact U.rc,
      show (s.startU first).allU.stopU.rs = ((X c).at t.val).rs by rw [← show s.rs = ((X c).at t.val).rs by rw [hs]]; exact U.rs,
      show (s.startU first).allU.stopU.kr = ((X c).at t.val).kr by rw [← show s.kr = ((X c).at t.val).kr by rw [hs]]; exact (keep_all (s.startU first)).1,
      show (s.startU first).allU.stopU.o = ((X c).at t.val).o by rw [← show s.o = ((X c).at t.val).o by rw [hs]]; exact (keep_all (s.startU first)).2]
    iintro ⟨⟨H0, H1, H2, H3, H4, H5, H6, H7, H8, H9, H10, HS0, HS1, HS2, HS3, HS4⟩, Hg, Ho⟩
    isplitl [HS0 HS1 HS2 HS3 HS4 Hg]
    · isplitl [HS0 HS1 HS2 HS3 HS4]
      · isplitl [HS0]; · iexists _; iexact HS0
        isplitl [HS1]; · iexists _; iexact HS1
        isplitl [HS2]; · iexists _; iexact HS2
        isplitl [HS3]; · iexists _; iexact HS3
        iexists _; iexact HS4
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · unfold heldAt held
    rw [hs]
    isplitl [H0 H1 H2 H3 H4 H5 H6 H7 H8 H9 H10 HS0 HS1 HS2 HS3 HS4]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [HS0]; · iexact HS0
      isplitl [HS1]; · iexact HS1
      isplitl [HS2]; · iexact HS2
      isplitl [HS3]; · iexact HS3
      iexact HS4
    isplitl [Hg]; · iexact Hg
    iexact Ho

end Cert.Attention
end
-- ==== Proof.Heads.lean ====
/-
  Arrays with an axis of heads: transposes, spreads, sums over the last axis and products of rank-3 arrays, each read as a
  function of the coordinates. The row maximum enters only through the fact that it is a real number.
-/
module

public import proofs.«01_k».proof.Proof.RealForm
public import Idealize.ShloMosaic.Lib.WordCmp

@[expose] public section

noncomputable section

open Idealize.ShloMosaic hiding ix1 ix2 ix3
open Idealize.ShloMosaic.ValueIdx
open scoped BigOperators

namespace Cert.Arr

section Elementwise
variable {s : Shape} {φ : FTy} (f g : ℕ → ℕ → ℕ → EReal)
theorem arr_hexp : Host.exp (F := Ideal) (φ := φ) (arr s f) = arr s fun i j k => Ideal.exp (f i j k) := rfl
theorem arr_hlog : Host.log (F := Ideal) (φ := φ) (arr s f) = arr s fun i j k => Ideal.log (f i j k) := rfl
theorem arr_hsqrt : Host.sqrt (F := Ideal) (φ := φ) (arr s f) = arr s fun i j k => Ideal.sqrt (f i j k) := rfl
theorem arr_hneg : Host.negf (F := Ideal) (φ := φ) (arr s f) = arr s fun i j k => -f i j k := rfl
theorem arr_max : maximumf (F := Ideal) (φ := φ) (arr s f) (arr s g) = arr s fun i j k => max (f i j k) (g i j k) := rfl
end Elementwise

section Shapes
variable {n m l : ℕ} (f g : ℕ → ℕ → ℕ → EReal)

private theorem dval {p : Prop} [Decidable p] {n : ℕ} {a : p → Fin n} {b : ¬p → Fin n} :
    (dite p a b).val = if h : p then (a h).val else (b h).val := by split <;> rfl
private theorem ilt {n v : ℕ} (h : v < n) : (if n = 1 then 0 else v) = v := by split <;> omega

/-- A matrix with a unit axis put in the middle. -/
theorem arr_bid_02 (h) : broadcastInDim ⟨3, ![n, 1, l]⟩ ![0, 2] h (arr ⟨2, ![n, l]⟩ f) = arr ⟨3, ![n, 1, l]⟩ fun i _ k => f i k 0 := by
  funext j
  show f _ _ _ = f _ _ _
  congr 1
  · exact dval.trans (ilt (co3_0 j))
  · exact dval.trans (ilt (co3_2 j))
/-- A matrix spread along a new last axis. -/
theorem arr_bid_01 (h) : broadcastInDim ⟨3, ![n, m, l]⟩ ![0, 1] h (arr ⟨2, ![n, m]⟩ f) = arr ⟨3, ![n, m, l]⟩ fun i j _ => f i j 0 := by
  funext j
  show f _ _ _ = f _ _ _
  congr 1
  · exact dval.trans (ilt (co3_0 j))
  · exact dval.trans (ilt (co3_1 j))
/-- A unit middle axis spread. -/
theorem arr_bid_mid (h) : broadcastInDim ⟨3, ![n, m, l]⟩ ![0, 1, 2] h (arr ⟨3, ![n, 1, l]⟩ f) = arr ⟨3, ![n, m, l]⟩ fun i _ k => f i 0 k := by
  funext j
  show f _ _ _ = f _ _ _
  congr 1
  · exact dval.trans (ilt (co3_0 j))
  · exact dval.trans (ilt (co3_2 j))
/-- A unit last axis spread. -/
theorem arr_bid_last (h) : broadcastInDim ⟨3, ![n, m, l]⟩ ![0, 1, 2] h (arr ⟨3, ![n, m, 1]⟩ f) = arr ⟨3, ![n, m, l]⟩ fun i j _ => f i j 0 := by
  funext j
  show f _ _ _ = f _ _ _
  congr 1
  · exact dval.trans (ilt (co3_0 j))
  · exact dval.trans (ilt (co3_1 j))

theorem arr_tr_210 (h) : transpose ⟨3, ![l, m, n]⟩ [2, 1, 0] (arr ⟨3, ![n, m, l]⟩ f) h = arr ⟨3, ![l, m, n]⟩ fun i j k => f k j i := rfl
theorem arr_tr_201 (h) : transpose ⟨3, ![l, n, m]⟩ [2, 0, 1] (arr ⟨3, ![n, m, l]⟩ f) h = arr ⟨3, ![l, n, m]⟩ fun i j k => f j k i := rfl
theorem arr_tr_120 (h) : transpose ⟨3, ![m, l, n]⟩ [1, 2, 0] (arr ⟨3, ![n, m, l]⟩ f) h = arr ⟨3, ![m, l, n]⟩ fun i j k => f k i j := rfl
theorem arr_tr_102 (h) : transpose ⟨3, ![m, n, l]⟩ [1, 0, 2] (arr ⟨3, ![n, m, l]⟩ f) h = arr ⟨3, ![m, n, l]⟩ fun i j k => f j i k := rfl

theorem arr_cast_last (h) : shapeCast ⟨3, ![n, m, 1]⟩ (arr ⟨2, ![n, m]⟩ f) h = arr ⟨3, ![n, m, 1]⟩ fun i j _ => f i j 0 := by
  funext j
  rw [shapeCast_apply _ h j (ix2 (j 0) (j 1)) (by
    rw [Shape.rowMajor_val_two, Shape.rowMajor_val_three]
    have : (j 2).val < 1 := (j 2).isLt
    show (j 0).val * m + (j 1).val = ((j 0).val * m + (j 1).val) * 1 + (j 2).val; omega)]
  rfl

/-- A choice by "the last coordinate is at most the one before". -/
theorem arr_causal {N : ℕ} (hN : N ≤ 2 ^ 31) (hb) :
    select (broadcastInDim ⟨3, ![n, N, N]⟩ ![1, 2] hb (cmpi .sle (iotaInDim ⟨2, ![N, N]⟩ 32 1) (iotaInDim ⟨2, ![N, N]⟩ 32 0)))
      (arr ⟨3, ![n, N, N]⟩ f) (arr ⟨3, ![n, N, N]⟩ g)
      = arr ⟨3, ![n, N, N]⟩ fun h i j => if j ≤ i then f h i j else g h i j := by
  funext y
  have h1 : (y 1).val < N := (y 1).isLt
  have h2 : (y 2).val < N := (y 2).isLt
  have hm : broadcastInDim ⟨3, ![n, N, N]⟩ ![1, 2] hb (cmpi .sle (iotaInDim ⟨2, ![N, N]⟩ 32 1) (iotaInDim ⟨2, ![N, N]⟩ 32 0)) y
      = IntOp.cmpi .sle (BitVec.ofNat 32 (y 2).val) (BitVec.ofNat 32 (y 1).val) := by
    show IntOp.cmpi .sle (BitVec.ofNat 32 _) (BitVec.ofNat 32 _) = _
    congr 2
    · exact dval.trans (ilt h2)
    · exact dval.trans (ilt h1)
  show Scalar.select (broadcastInDim ⟨3, ![n, N, N]⟩ ![1, 2] hb (cmpi .sle (iotaInDim ⟨2, ![N, N]⟩ 32 1) (iotaInDim ⟨2, ![N, N]⟩ 32 0)) y)
      (f (y 0).val (y 1).val (y 2).val) (g (y 0).val (y 1).val (y 2).val)
    = if (y 2).val ≤ (y 1).val then f (y 0).val (y 1).val (y 2).val else g (y 0).val (y 1).val (y 2).val
  rw [hm, WordCmp.cmpi_sle_of_lt (by simp; omega) (by simp; omega)]
  rw [BitVec.toNat_ofNat, BitVec.toNat_ofNat, Nat.mod_eq_of_lt (by omega), Nat.mod_eq_of_lt (by omega)]
  by_cases h : (y 2).val ≤ (y 1).val
  · rw [if_pos h, decide_eq_true h]; rfl
  · rw [if_neg h, decide_eq_false h]; rfl

theorem arr_hlastsum {φ : FTy} (hr : Shape.ReducesTo ⟨3, ![n, m, l]⟩ [2] ⟨2, ![n, m]⟩) (hu) :
    Host.reduceAdd (F := Ideal) (φ := φ) (arr ⟨3, ![n, m, l]⟩ f) (arr ⟨0, ![]⟩ g) hr hu
      = arr ⟨2, ![n, m]⟩ fun i j _ => g 0 0 0 + ∑ k ∈ Finset.range l, f i j k := by
  funext j
  rw [hostReduceAdd_apply, Ideal.hostReduceAdd_single hr ⟨hr.1, Nat.two_pos, hr.2⟩]
  exact congrArg (g 0 0 0 + ·) (Finset.sum_range fun k => f (j 0).val (j 1).val k).symm

private theorem real_of_ne {x : EReal} (h1 : x ≠ ⊤) (h2 : x ≠ ⊥) : ∃ r : ℝ, x = r := ⟨x.toReal, (EReal.coe_toReal h1 h2).symm⟩
private theorem fold_top {α : Type} (F : α → EReal) (L : List α) (a : EReal) (ha : a ≠ ⊤) (hL : ∀ q ∈ L, F q ≠ ⊤) :
    L.foldl (fun r q => max r (F q)) a ≠ ⊤ := by
  induction L generalizing a with
  | nil => exact ha
  | cons q L ih =>
    refine ih _ (fun h => ?_) fun q' hq => hL q' (List.mem_cons_of_mem _ hq)
    have h : max a (F q) = ⊤ := h
    rcases max_choice a (F q) with h' | h' <;> rw [h'] at h
    · exact ha h
    · exact hL q List.mem_cons_self h
private theorem le_fold {α : Type} (F : α → EReal) (L : List α) (a : EReal) : a ≤ L.foldl (fun r q => max r (F q)) a := by
  induction L generalizing a with
  | nil => exact le_rfl
  | cons q L ih => exact (le_max_left _ _).trans (ih _)
private theorem mem_fold {α : Type} (F : α → EReal) (L : List α) (a : EReal) (q : α) (hq : q ∈ L) : F q ≤ L.foldl (fun r q => max r (F q)) a := by
  induction L generalizing a with
  | nil => simp at hq
  | cons q' L ih =>
    rcases List.mem_cons.mp hq with rfl | h
    · exact (le_max_right _ _).trans (le_fold F L _)
    · exact ih _ h

/-- The maximum over the last axis, from negative infinity, of entries that are real or negative infinity, the first of them
    real, is real. -/
theorem hmax_real {φ : FTy} (hr : Shape.ReducesTo ⟨3, ![n, m, l]⟩ [2] ⟨2, ![n, m]⟩) (hu) (hg : g 0 0 0 = ⊥) (hl : 0 < l)
    (h0 : ∀ i j, i < n → j < m → ∃ r : ℝ, f i j 0 = r) (hk : ∀ i j k, i < n → j < m → k < l → f i j k ≠ ⊤) (i) :
    ∃ r : ℝ, Host.reduce (FloatOps.maximumf (F := Ideal) (φ := φ)) (arr ⟨3, ![n, m, l]⟩ f) (arr ⟨0, ![]⟩ g) hr hu i = r := by
  obtain ⟨r, h0⟩ := h0 _ _ (co2_0 i) (co2_1 i)
  refine real_of_ne (fold_top _ _ _ (by show g 0 0 0 ≠ ⊤; simp [hg]) fun q _ => hk _ _ _ (co3_0 _) (co3_1 _) (co3_2 _)) fun hbot => ?_
  have hle := mem_fold (fun q => arr ⟨3, ![n, m, l]⟩ f ((Shape.rowMajor ⟨3, ![n, m, l]⟩).symm q)) ((List.finRange _).filter fun q => hr.drop ((Shape.rowMajor ⟨3, ![n, m, l]⟩).symm q) = i) (g 0 0 0)
    (Shape.rowMajor ⟨3, ![n, m, l]⟩ (ix3 (i 0) (i 1) ⟨0, hl⟩)) (List.mem_filter.mpr ⟨List.mem_finRange _, by
      rw [Equiv.symm_apply_apply, decide_eq_true_eq]; funext a; fin_cases a <;> rfl⟩)
  rw [Equiv.symm_apply_apply] at hle
  have hr : arr ⟨3, ![n, m, l]⟩ f (ix3 (i 0) (i 1) ⟨0, hl⟩) = (r : EReal) := h0
  rw [hr] at hle
  exact absurd (le_bot_iff.mp (hle.trans_eq hbot)) (EReal.coe_ne_bot r)
end Shapes

section Dots
variable {n m b K : ℕ} {φ ψ : FTy} (f g : ℕ → ℕ → ℕ → EReal) (p : Option _)

theorem arr_dot_220011 (wf) :
    Host.dotGeneral (F := Ideal) (φ₁ := φ) (φ₂ := ψ) (⟨[2], [2], [0], [0], [1], [1], wf⟩ : DotDims ⟨3, ![n, b, K]⟩ ⟨3, ![m, b, K]⟩ ⟨3, ![b, n, m]⟩) p
        (arr ⟨3, ![n, b, K]⟩ f) (arr ⟨3, ![m, b, K]⟩ g)
      = arr ⟨3, ![b, n, m]⟩ fun h i j => ∑ k ∈ Finset.range K, f i h k * g j h k := by
  funext j
  unfold Host.dotGeneral
  rw [Ideal.dotGeneral_apply]
  exact matmul_one _ K rfl rfl (arr ⟨3, ![n, b, K]⟩ f) (arr ⟨3, ![m, b, K]⟩ g)
    (fun j k => f (j 1).val (j 0).val k) (fun j k => g (j 2).val (j 0).val k) (fun _ _ => rfl) (fun _ _ => rfl) j
theorem arr_dot_12001 (wf) :
    Host.dotGeneral (F := Ideal) (φ₁ := φ) (φ₂ := ψ) (⟨[1], [2], [0], [0, 1], [], [], wf⟩ : DotDims ⟨2, ![n, K]⟩ ⟨3, ![m, b, K]⟩ ⟨3, ![n, m, b]⟩) p
        (arr ⟨2, ![n, K]⟩ f) (arr ⟨3, ![m, b, K]⟩ g)
      = arr ⟨3, ![n, m, b]⟩ fun j i h => ∑ k ∈ Finset.range K, f j k 0 * g i h k := by
  funext j
  unfold Host.dotGeneral
  rw [Ideal.dotGeneral_apply]
  exact matmul_one _ K rfl rfl (arr ⟨2, ![n, K]⟩ f) (arr ⟨3, ![m, b, K]⟩ g)
    (fun j k => f (j 0).val k 0) (fun j k => g (j 1).val (j 2).val k) (fun _ _ => rfl) (fun _ _ => rfl) j
theorem arr_dot_022110 (wf) :
    Host.dotGeneral (F := Ideal) (φ₁ := φ) (φ₂ := ψ) (⟨[0], [2], [2], [1], [1], [0], wf⟩ : DotDims ⟨3, ![K, b, n]⟩ ⟨3, ![b, m, K]⟩ ⟨3, ![b, n, m]⟩) p
        (arr ⟨3, ![K, b, n]⟩ f) (arr ⟨3, ![b, m, K]⟩ g)
      = arr ⟨3, ![b, n, m]⟩ fun h d i => ∑ k ∈ Finset.range K, f k h d * g h i k := by
  funext j
  unfold Host.dotGeneral
  rw [Ideal.dotGeneral_apply]
  exact matmul_one _ K rfl rfl (arr ⟨3, ![K, b, n]⟩ f) (arr ⟨3, ![b, m, K]⟩ g)
    (fun j k => f k (j 0).val (j 1).val) (fun j k => g (j 0).val (j 2).val k) (fun _ _ => rfl) (fun _ _ => rfl) j
theorem arr_dot_122001 (wf) :
    Host.dotGeneral (F := Ideal) (φ₁ := φ) (φ₂ := ψ) (⟨[1], [2], [2], [0], [0], [1], wf⟩ : DotDims ⟨3, ![b, K, n]⟩ ⟨3, ![m, b, K]⟩ ⟨3, ![b, n, m]⟩) p
        (arr ⟨3, ![b, K, n]⟩ f) (arr ⟨3, ![m, b, K]⟩ g)
      = arr ⟨3, ![b, n, m]⟩ fun h i j => ∑ k ∈ Finset.range K, f h k i * g j h k := by
  funext j
  unfold Host.dotGeneral
  rw [Ideal.dotGeneral_apply]
  exact matmul_one _ K rfl rfl (arr ⟨3, ![b, K, n]⟩ f) (arr ⟨3, ![m, b, K]⟩ g)
    (fun j k => f (j 0).val k (j 1).val) (fun j k => g (j 2).val (j 0).val k) (fun _ _ => rfl) (fun _ _ => rfl) j
theorem arr_dot_211200 (wf) :
    Host.dotGeneral (F := Ideal) (φ₁ := φ) (φ₂ := ψ) (⟨[2], [1], [1], [2], [0], [0], wf⟩ : DotDims ⟨3, ![b, n, K]⟩ ⟨3, ![b, K, m]⟩ ⟨3, ![b, n, m]⟩) p
        (arr ⟨3, ![b, n, K]⟩ f) (arr ⟨3, ![b, K, m]⟩ g)
      = arr ⟨3, ![b, n, m]⟩ fun h d j => ∑ k ∈ Finset.range K, f h d k * g h k j := by
  funext j
  unfold Host.dotGeneral
  rw [Ideal.dotGeneral_apply]
  exact matmul_one _ K rfl rfl (arr ⟨3, ![b, n, K]⟩ f) (arr ⟨3, ![b, K, m]⟩ g)
    (fun j k => f (j 0).val (j 1).val k) (fun j k => g (j 0).val k (j 2).val) (fun _ _ => rfl) (fun _ _ => rfl) j
theorem arr_dot_00121 (wf) :
    Host.dotGeneral (F := Ideal) (φ₁ := φ) (φ₂ := ψ) (⟨[0], [0], [1, 2], [1], [], [], wf⟩ : DotDims ⟨3, ![K, n, b]⟩ ⟨2, ![K, m]⟩ ⟨3, ![n, b, m]⟩) p
        (arr ⟨3, ![K, n, b]⟩ f) (arr ⟨2, ![K, m]⟩ g)
      = arr ⟨3, ![n, b, m]⟩ fun i h d => ∑ k ∈ Finset.range K, f k i h * g k d 0 := by
  funext j
  unfold Host.dotGeneral
  rw [Ideal.dotGeneral_apply]
  exact matmul_one _ K rfl rfl (arr ⟨3, ![K, n, b]⟩ f) (arr ⟨2, ![K, m]⟩ g)
    (fun j k => f k (j 0).val (j 1).val) (fun j k => g k (j 2).val 0) (fun _ _ => rfl) (fun _ _ => rfl) j
theorem arr_dot_102201 (wf) :
    Host.dotGeneral (F := Ideal) (φ₁ := φ) (φ₂ := ψ) (⟨[1], [0], [2], [2], [0], [1], wf⟩ : DotDims ⟨3, ![b, K, n]⟩ ⟨3, ![K, b, m]⟩ ⟨3, ![b, n, m]⟩) p
        (arr ⟨3, ![b, K, n]⟩ f) (arr ⟨3, ![K, b, m]⟩ g)
      = arr ⟨3, ![b, n, m]⟩ fun h j d => ∑ k ∈ Finset.range K, f h k j * g k h d := by
  funext j
  unfold Host.dotGeneral
  rw [Ideal.dotGeneral_apply]
  exact matmul_one _ K rfl rfl (arr ⟨3, ![b, K, n]⟩ f) (arr ⟨3, ![K, b, m]⟩ g)
    (fun j k => f (j 0).val k (j 1).val) (fun j k => g k (j 0).val (j 2).val) (fun _ _ => rfl) (fun _ _ => rfl) j
theorem arr_dot_201201 (wf) :
    Host.dotGeneral (F := Ideal) (φ₁ := φ) (φ₂ := ψ) (⟨[2], [0], [1], [2], [0], [1], wf⟩ : DotDims ⟨3, ![b, n, K]⟩ ⟨3, ![K, b, m]⟩ ⟨3, ![b, n, m]⟩) p
        (arr ⟨3, ![b, n, K]⟩ f) (arr ⟨3, ![K, b, m]⟩ g)
      = arr ⟨3, ![b, n, m]⟩ fun h i d => ∑ k ∈ Finset.range K, f h i k * g k h d := by
  funext j
  unfold Host.dotGeneral
  rw [Ideal.dotGeneral_apply]
  exact matmul_one _ K rfl rfl (arr ⟨3, ![b, n, K]⟩ f) (arr ⟨3, ![K, b, m]⟩ g)
    (fun j k => f (j 0).val (j 1).val k) (fun j k => g k (j 0).val (j 2).val) (fun _ _ => rfl) (fun _ _ => rfl) j
theorem arr_dot_120102 {L : ℕ} (wf) :
    Host.dotGeneral (F := Ideal) (φ₁ := φ) (φ₂ := ψ) (⟨[1, 2], [0, 1], [0], [2], [], [], wf⟩ : DotDims ⟨3, ![n, K, L]⟩ ⟨3, ![K, L, m]⟩ ⟨2, ![n, m]⟩) p
        (arr ⟨3, ![n, K, L]⟩ f) (arr ⟨3, ![K, L, m]⟩ g)
      = arr ⟨2, ![n, m]⟩ fun i j _ => ∑ q ∈ Finset.range K, ∑ r ∈ Finset.range L, f i q r * g q r j := by
  funext j
  unfold Host.dotGeneral
  rw [Ideal.dotGeneral_apply, sum_contr2 _ K L rfl rfl rfl]
  show _ = ∑ q ∈ Finset.range K, ∑ r ∈ Finset.range L, f (j 0).val q r * g q r (j 1).val
  rw [Finset.sum_range]
  refine Finset.sum_congr rfl fun q _ => ?_
  rw [Finset.sum_range]
  rfl
end Dots

end Cert.Arr
-- ==== Proof.AttentionForm.lean ====
/-
  Attention and its gradient in real numbers: the rotated query, the masked scores, the weights, and the gradient of the
  scores in the two forms the programs use.
-/
module

public import proofs.«01_k».proof.Proof.Heads

@[expose] public section

noncomputable section

open Idealize.ShloMosaic
open Cert.Arr
open Finset (range)
open scoped BigOperators

namespace Cert.Attention

/-- The arguments: the query's two parts, the keys, the shared key, the values, the result's gradient, and the cosines and
    sines of the rotation. -/
structure Src where
  (q r k kr v dO cs sn : ℕ → ℕ → ℕ → ℝ)

namespace Src
variable (s : Src) (M : ℕ → ℕ → ℕ → ℝ)

/-- The rotated part of the query. -/
def qr (i h k : ℕ) : ℝ :=
  if k < 32 then s.r i h k * s.cs i k 0 - s.r i h (32 + k) * s.sn i k 0
  else s.r i h (32 + (k - 32)) * s.cs i (k - 32) 0 + s.r i h (k - 32) * s.sn i (k - 32) 0
/-- The product of query and key. -/
def dot (h i j : ℕ) : ℝ := ∑ k ∈ range 128, s.q i h k * s.k j h k + ∑ k ∈ range 64, s.kr j k 0 * s.qr i h k
/-- The score. -/
def S (h i j : ℕ) : ℝ := s.dot h i j / √192
/-- The masked score. -/
def sc (h i j : ℕ) : EReal := if j ≤ i then (s.S h i j : EReal) else ⊥
/-- The masked score's exponential, from any reference value `M` of the row. -/
def E (h i j : ℕ) : ℝ := if j ≤ i then Real.exp (s.S h i j - M h i 0) else 0
/-- The row's sum. -/
def L (h i : ℕ) : ℝ := ∑ j ∈ range 4096, s.E M h i j
/-- The weight. -/
def P (h i j : ℕ) : ℝ := s.E M h i j / s.L M h i
/-- The weight's gradient. -/
def D (h i j : ℕ) : ℝ := ∑ k ∈ range 128, s.dO i h k * s.v j h k
/-- The score's gradient. -/
def T (h i j : ℕ) : ℝ := s.P M h i j * (s.D h i j - ∑ t ∈ range 4096, s.P M h i t * s.D h i t)
/-- The score's gradient, through the quotient, and divided by the scale. -/
def G (h i j : ℕ) : ℝ :=
  (if j ≤ i then (s.D h i j / s.L M h i + -∑ t ∈ range 4096, s.D h i t * (1 / (s.L M h i * s.L M h i)) * s.E M h i t) * s.E M h i j else 0) / √192

/-- The gradient of the query's rotated part. -/
def back (h i k : ℕ) : ℝ := ∑ j ∈ range 4096, s.G M h i j * s.kr j k 0
/-- The same, rotated back. -/
def rope (h i k : ℕ) : ℝ :=
  if k < 32 then s.back M h i (32 + k) * s.sn i k 0 + s.back M h i k * s.cs i k 0
  else s.back M h i (32 + (k - 32)) * s.cs i (k - 32) 0 + -s.back M h i (k - 32) * s.sn i (k - 32) 0
/-- Head `h`'s query gradient, with zeros up to column 256. -/
def dq (h i k : ℕ) : ℝ :=
  if k < 192 then (if k < 128 then ∑ j ∈ range 4096, s.G M h i j * s.k j h k else s.rope M h i (k - 128)) else 0
/-- Head `h`'s key and value gradients. -/
def dkv (h j k : ℕ) : ℝ :=
  if k < 128 then ∑ i ∈ range 4096, s.G M h i j * s.q i h k else ∑ i ∈ range 4096, s.dO i h (k - 128) * s.P M h i j
/-- The shared key's gradient, with zeros up to column 128. -/
def dkr (j k : ℕ) : ℝ := if k < 64 then ∑ i ∈ range 4096, ∑ h ∈ range 16, s.G M h i j * s.qr i h k else 0

theorem root_pos : 0 < √(192 : ℝ) := Real.sqrt_pos.mpr (by norm_num)

theorem exp_sc (h i j : ℕ) : Ideal.exp (s.sc h i j - (M h i 0 : EReal)) = (s.E M h i j : EReal) := by
  unfold sc E
  split
  · rw [csub]; rfl
  · rw [EReal.bot_sub]; rfl

theorem E_nonneg (h i j : ℕ) : 0 ≤ s.E M h i j := by unfold E; split <;> positivity

theorem L_pos (h i : ℕ) : 0 < s.L M h i := by
  refine Finset.sum_pos' (fun j _ => s.E_nonneg M h i j) ⟨0, Finset.mem_range.mpr (by norm_num), ?_⟩
  unfold E
  rw [if_pos (Nat.zero_le i)]
  exact Real.exp_pos _

/-- The weight does not depend on the row's reference value. -/
theorem P_indep (M' : ℕ → ℕ → ℕ → ℝ) (h i j : ℕ) : s.P M h i j = s.P M' h i j := by
  have e : ∀ t, s.E M h i t = s.E M' h i t * Real.exp (M' h i 0 - M h i 0) := by
    intro t
    unfold E
    split
    · rw [← Real.exp_add]; congr 1; ring
    · simp
  have l : s.L M h i = s.L M' h i * Real.exp (M' h i 0 - M h i 0) := by
    unfold L
    rw [Finset.sum_mul]
    exact Finset.sum_congr rfl fun t _ => e t
  unfold P
  rw [e, l, mul_div_mul_right _ _ (Real.exp_pos _).ne']

theorem T_indep (M' : ℕ → ℕ → ℕ → ℝ) (h i j : ℕ) : s.T M h i j = s.T M' h i j := by
  unfold T
  rw [s.P_indep M M' h i j]
  exact congrArg (fun e => s.P M' h i j * (s.D h i j - e)) (Finset.sum_congr rfl fun t _ => by rw [s.P_indep M M' h i t])

/-- The two forms of the score's gradient. -/
theorem G_eq (h i j : ℕ) : s.G M h i j = s.T M h i j * (√192)⁻¹ := by
  have hL := (s.L_pos M h i).ne'
  unfold G T
  rw [div_eq_mul_inv]
  congr 1
  have hs : ∑ t ∈ range 4096, s.D h i t * (1 / (s.L M h i * s.L M h i)) * s.E M h i t
      = (∑ t ∈ range 4096, s.P M h i t * s.D h i t) / s.L M h i := by
    rw [Finset.sum_div]
    refine Finset.sum_congr rfl fun t _ => ?_
    unfold P
    field_simp
  rw [hs]
  by_cases hj : j ≤ i
  · rw [if_pos hj]
    unfold P
    field_simp
    ring
  · rw [if_neg hj]
    unfold P E
    rw [if_neg hj, zero_div, zero_mul]

/-- The weight as one exponential, the row's reference value and the logarithm of its sum subtracted. -/
theorem P_exp (h i j : ℕ) (hj : j ≤ i) :
    s.P M h i j = Real.rpow 2 (s.dot h i j * ((√192)⁻¹ * (Real.log 2)⁻¹) - (M h i 0 + Real.log (s.L M h i)) * (Real.log 2)⁻¹) := by
  have h2 : Real.log 2 ≠ 0 := (Real.log_pos (by norm_num)).ne'
  show _ = (2 : ℝ) ^ (_ : ℝ)
  rw [Real.rpow_def_of_pos (by norm_num)]
  unfold P E S
  rw [if_pos hj]
  conv_lhs => rw [← Real.exp_log (s.L_pos M h i)]
  rw [← Real.exp_sub]
  congr 1
  field_simp
  ring
end Src

end Cert.Attention
-- ==== Proof.AttentionEquation.lean ====
/-
  The attention gradient's equation: on the arrays the host prepares from real arguments, the kernel's three results are the
  reference's.
-/
module

public import proofs.«01_k».proof.Proof.AttentionFrame
public import proofs.«01_k».proof.Proof.AttentionForm

@[expose] public section

noncomputable section

open Idealize.ShloMosaic
open Cert.Arr
open Finset (range)
open scoped BigOperators

namespace Cert.Attention

variable (s : Src) (M : ℕ → ℕ → ℕ → ℝ)

/-- The query with its rotated part, and zeros up to column 256. -/
def Src.qf (i h k : ℕ) : ℝ := if k < 192 then (if k < 128 then s.q i h k else s.qr i h (k - 128)) else 0
/-- Keys and values side by side. -/
def Src.kvf (j h k : ℕ) : ℝ := if k < 128 then s.k j h k else s.v j h (k - 128)
/-- The shared key, and zeros up to column 128. -/
def Src.krf (j k : ℕ) : ℝ := if k < 64 then s.kr j k 0 else 0
/-- The logarithm of the row's sum of exponentials. -/
def Src.lse (h i : ℕ) : ℝ := M h i 0 + Real.log (s.L M h i)
/-- The forward result. -/
def Src.o (i h k : ℕ) : ℝ := ∑ j ∈ range 4096, s.v j h k * s.P M h i j
/-- The cosines, twice, and zeros. -/
def Src.rc (i k : ℕ) : ℝ := if k < 64 then (if k < 32 then s.cs i k 0 else s.cs i (k - 32) 0) else 0
/-- The sines, negated and not, and zeros. -/
def Src.rs (i k : ℕ) : ℝ := if k < 64 then (if k < 32 then -s.sn i k 0 else s.sn i (k - 32) 0) else 0

/-- The arrays the host prepares. -/
def Src.inp : In where
  q i c _ := (s.qf i (c / 256) (c % 256) : EReal)
  kv i c _ := (s.kvf i (c / 256) (c % 256) : EReal)
  kr i k _ := (s.krf i k : EReal)
  dO i c _ := (s.dO i (c / 128) (c % 128) : EReal)
  lse i c _ := (s.lse M (c / 128) i : EReal)
  o i c _ := (s.o M i (c / 128) (c % 128) : EReal)
  rc i k _ := (s.rc i k : EReal)
  rs i k _ := (s.rs i k : EReal)

section Head
variable (h : ℕ)

theorem hd_q {k : ℕ} (hk : k < 256) (i : ℕ) : ((s.inp M).hd h).q i k 0 = (s.qf i h k : EReal) := by
  show (s.qf i ((h * 256 + k) / 256) ((h * 256 + k) % 256) : EReal) = _
  rw [show (h * 256 + k) / 256 = h by omega, show (h * 256 + k) % 256 = k by omega]
theorem hd_kv {k : ℕ} (hk : k < 256) (i : ℕ) : ((s.inp M).hd h).kv i k 0 = (s.kvf i h k : EReal) := by
  show (s.kvf i ((h * 256 + k) / 256) ((h * 256 + k) % 256) : EReal) = _
  rw [show (h * 256 + k) / 256 = h by omega, show (h * 256 + k) % 256 = k by omega]
theorem hd_dO {k : ℕ} (hk : k < 128) (i : ℕ) : ((s.inp M).hd h).dO i k 0 = (s.dO i h k : EReal) := by
  show (s.dO i ((h * 128 + k) / 128) ((h * 128 + k) % 128) : EReal) = _
  rw [show (h * 128 + k) / 128 = h by omega, show (h * 128 + k) % 128 = k by omega]
theorem hd_o {k : ℕ} (hk : k < 128) (i : ℕ) : ((s.inp M).hd h).o i k 0 = (s.o M i h k : EReal) := by
  show (s.o M i ((h * 128 + k) / 128) ((h * 128 + k) % 128) : EReal) = _
  rw [show (h * 128 + k) / 128 = h by omega, show (h * 128 + k) % 128 = k by omega]
theorem hd_lse (i : ℕ) : ((s.inp M).hd h).lse i 0 0 = (s.lse M h i : EReal) := by
  show (s.lse M ((h * 128 + 0) / 128) i : EReal) = _
  rw [show (h * 128 + 0) / 128 = h by omega]
/-- The key with the shared key beside it. -/
theorem hd_kc {k : ℕ} (j : ℕ) : ((s.inp M).hd h).kc j k 0 = ((if k < 128 then s.k j h k else s.krf j (k - 128) : ℝ) : EReal) := by
  show (if k < 128 then ((s.inp M).hd h).kv j k 0 else (s.krf j (k - 128) : EReal)) = _
  by_cases hk : k < 128
  · rw [if_pos hk, if_pos hk, hd_kv s M h (by omega), Src.kvf, if_pos hk]
  · rw [if_neg hk, if_neg hk]

/-- A sum over 256 columns of which the last 64 vanish. -/
theorem sum_256 (f : ℕ → ℝ) (h0 : ∀ k, 192 ≤ k → f k = 0) :
    ∑ k ∈ range 256, f k = ∑ k ∈ range 128, f k + ∑ k ∈ range 64, f (128 + k) := by
  rw [show 256 = 128 + (64 + 64) from rfl, Finset.sum_range_add, Finset.sum_range_add (fun k => f (128 + k))]
  rw [Finset.sum_eq_zero (f := fun k => f (128 + (64 + k))) fun k _ => h0 _ (by omega), add_zero]

theorem hd_sc (i j : ℕ) : ((s.inp M).hd h).sc i j = (s.dot h i j : EReal) := by
  unfold St.sc
  rw [zero_add, Finset.sum_congr rfl fun k hk => by rw [hd_q s M h (Finset.mem_range.mp hk), hd_kc s M h, cmul], csum]
  congr 1
  rw [sum_256 _ fun k hk => by rw [Src.qf, if_neg (by omega), zero_mul]]
  unfold Src.dot
  refine congrArg₂ (· + ·) ?_ ?_
  · exact Finset.sum_congr rfl fun k hk => by
      have := Finset.mem_range.mp hk
      rw [Src.qf, if_pos (by omega), if_pos this, if_pos this]
  · exact Finset.sum_congr rfl fun k hk => by
      have := Finset.mem_range.mp hk
      rw [Src.qf, if_pos (by omega), if_neg (by omega), if_neg (by omega), Nat.add_sub_cancel_left, Src.krf, if_pos this, mul_comm]

theorem hd_p (i j : ℕ) : ((s.inp M).hd h).p i j = (s.P M h i j : EReal) := by
  by_cases hj : j ≤ i
  · unfold St.p
    rw [if_pos hj, hd_sc, hd_lse, cScaleLog2e_eq, cLog2e_eq, cmul, cmul, csub, s.P_exp M h i j hj]
    rfl
  · rw [p_zero _ (by omega)]
    unfold Src.P Src.E
    rw [if_neg hj, zero_div, EReal.coe_zero]

theorem hd_dl (i : ℕ) : ((s.inp M).hd h).dl i 0 0 = ((∑ t ∈ range 4096, s.P M h i t * s.D h i t : ℝ) : EReal) := by
  show ∑ k ∈ range 128, ((s.inp M).hd h).dO i k 0 * ((s.inp M).hd h).o i k 0 = _
  rw [Finset.sum_congr rfl fun k hk => by rw [hd_dO s M h (Finset.mem_range.mp hk), hd_o s M h (Finset.mem_range.mp hk), cmul], csum]
  congr 1
  unfold Src.o Src.D
  simp only [Finset.mul_sum]
  rw [Finset.sum_comm]
  exact Finset.sum_congr rfl fun t _ => Finset.sum_congr rfl fun k _ => by ring

theorem hd_ds (i j : ℕ) : ((s.inp M).hd h).ds i j = (s.T M h i j : EReal) := by
  unfold St.ds
  rw [hd_p, hd_dl, zero_add, Finset.sum_congr rfl fun k hk => by
    rw [hd_dO s M h (Finset.mem_range.mp hk), hd_kv s M h (by have := Finset.mem_range.mp hk; omega), cmul], csum, csub, cmul]
  refine congrArg (fun e : ℝ => ((s.P M h i j * (e - ∑ t ∈ range 4096, s.P M h i t * s.D h i t) : ℝ) : EReal)) ?_
  unfold Src.D
  exact Finset.sum_congr rfl fun k hk => by rw [Src.kvf, if_neg (by omega), Nat.add_sub_cancel_left]

theorem hd_acc (i k : ℕ) : (s.inp M).acc h i k * cScale
    = ((∑ j ∈ range 4096, s.G M h i j * (if k < 128 then s.k j h k else s.krf j (k - 128)) : ℝ) : EReal) := by
  unfold In.acc
  simp only [hd_ds, hd_kc, cmul, csum, cScale_eq]
  congr 1
  rw [Finset.sum_mul]
  exact Finset.sum_congr rfl fun j _ => by rw [s.G_eq]; ring

theorem hd_back {k : ℕ} (hk : k < 64) (i : ℕ) : (s.inp M).acc h i (128 + k) * cScale = (s.back M h i k : EReal) := by
  rw [hd_acc]
  congr 1
  exact Finset.sum_congr rfl fun j _ => by rw [if_neg (by omega), Nat.add_sub_cancel_left, Src.krf, if_pos hk]

/-- The query's gradient. -/
theorem dq_eq {k : ℕ} (hk : k < 256) (i : ℕ) : (s.inp M).dq h i k = (s.dq M h i k : EReal) := by
  unfold In.dq
  by_cases h1 : k < 128
  · rw [if_pos h1, hd_acc]
    unfold Src.dq
    rw [if_pos (by omega), if_pos h1]
    congr 1
    exact Finset.sum_congr rfl fun j _ => by rw [if_pos h1]
  rw [if_neg h1]
  obtain ⟨r, rfl⟩ : ∃ r, k = 128 + r := ⟨k - 128, by omega⟩
  rw [Nat.add_sub_cancel_left]
  show _ * (s.rc i r : EReal) - _ * (s.rs i r : EReal) = _
  have hd : s.dq M h i (128 + r) = if r < 64 then s.rope M h i r else 0 := by
    unfold Src.dq
    rw [if_neg h1, Nat.add_sub_cancel_left]
    by_cases h2 : r < 64
    · rw [if_pos h2, if_pos (by omega)]
    · rw [if_neg h2, if_neg (by omega)]
  rw [hd]
  by_cases h2 : r < 64
  · rw [if_pos h2, hd_back s M h h2]
    unfold Src.rope Src.rc Src.rs
    rw [if_pos h2, if_pos h2]
    by_cases h3 : r < 32
    · rw [if_pos h3, if_pos h3, if_pos h3, if_pos h3, show (r + 32) % 128 = 32 + r by omega, hd_back s M h (by omega), cmul, cmul, csub]
      congr 1
      ring
    · rw [if_neg h3, if_neg h3, if_neg h3, if_neg h3, show (r + 96) % 128 = r - 32 by omega, hd_back s M h (by omega), cmul, cmul, csub,
        show 32 + (r - 32) = r by omega]
      congr 1
      ring
  · rw [if_neg h2]
    unfold Src.rc Src.rs
    rw [if_neg h2, if_neg h2, EReal.coe_zero, mul_zero, mul_zero, sub_zero]

/-- The keys' and values' gradients. -/
theorem dkv_eq {k : ℕ} (hk : k < 256) (j : ℕ) : (s.inp M).dkv h j k = (s.dkv M h j k : EReal) := by
  unfold In.dkv Src.dkv
  by_cases h1 : k < 128
  · rw [if_pos h1, if_pos h1]
    simp only [hd_ds, hd_q s M h hk, cmul, csum, cScale_eq]
    congr 1
    rw [Finset.sum_mul]
    exact Finset.sum_congr rfl fun i _ => by rw [s.G_eq, Src.qf, if_pos (by omega), if_pos h1]; ring
  · rw [if_neg h1, if_neg h1]
    simp only [hd_p, hd_dO s M h (show k - 128 < 128 by omega), cmul, csum]
    congr 1
    exact Finset.sum_congr rfl fun i _ => by ring

/-- The shared key's gradient, over all heads. -/
theorem dkr_eq {k : ℕ} (hk : k < 128) (j : ℕ) : ∑ h ∈ range 16, (s.inp M).dkr h j k = (s.dkr M j k : EReal) := by
  unfold In.dkr Src.dkr
  simp only [hd_ds, hd_q s M _ (show 128 + k < 256 by omega), cmul, csum, cScale_eq]
  congr 1
  by_cases h1 : k < 64
  · rw [if_pos h1, Finset.sum_comm]
    refine Finset.sum_congr rfl fun h _ => ?_
    rw [Finset.sum_mul]
    exact Finset.sum_congr rfl fun i _ => by rw [s.G_eq, Src.qf, if_pos (by omega), if_neg (by omega), Nat.add_sub_cancel_left]; ring
  · rw [if_neg h1]
    refine Finset.sum_eq_zero fun h _ => ?_
    rw [Finset.sum_eq_zero, zero_mul]
    exact fun i _ => by rw [Src.qf, if_neg (by omega), mul_zero]
end Head

/-- Neither does the query's gradient depend on the row's reference value, … -/
theorem G_indep (M' : ℕ → ℕ → ℕ → ℝ) (h i j : ℕ) : s.G M h i j = s.G M' h i j := by rw [s.G_eq, s.G_eq, s.T_indep M M']
theorem dq_indep (M' : ℕ → ℕ → ℕ → ℝ) (h i k : ℕ) : s.dq M h i k = s.dq M' h i k := by
  have e : s.G M = s.G M' := by funext h i j; exact G_indep s M M' h i j
  unfold Src.dq Src.rope Src.back
  rw [e]
/-- … nor those of keys and values, … -/
theorem dkv_indep (M' : ℕ → ℕ → ℕ → ℝ) (h i k : ℕ) : s.dkv M h i k = s.dkv M' h i k := by
  have e : s.G M = s.G M' := by funext h i j; exact G_indep s M M' h i j
  have p : s.P M = s.P M' := by funext h i j; exact s.P_indep M M' h i j
  unfold Src.dkv
  rw [e, p]
/-- … nor the shared key's. -/
theorem dkr_indep (M' : ℕ → ℕ → ℕ → ℝ) (i k : ℕ) : s.dkr M i k = s.dkr M' i k := by
  have e : s.G M = s.G M' := by funext h i j; exact G_indep s M M' h i j
  unfold Src.dkr
  rw [e]

end Cert.Attention
-- ==== Proof.Rotation.lean ====
/-
  The rotation's angles are real numbers whatever the positions are, and so are their cosines and sines.
-/
module

public import proofs.«01_k».proof.Proof.Heads

@[expose] public section

noncomputable section

open Idealize.ShloMosaic hiding ix1 ix2 ix3

namespace Cert.Arr

/-- An array of real numbers. -/
def Reals {s : Shape} (x : s.Idx → EReal) : Prop := ∀ i, ∃ r : ℝ, x i = r

section
variable {s t : Shape} {φ : FTy} {x y : s.Idx → EReal}

theorem Reals.mul (hx : Reals x) (hy : Reals y) : Reals (mulf (F := Ideal) (φ := φ) x y) := fun i => by
  obtain ⟨a, ha⟩ := hx i
  obtain ⟨b, hb⟩ := hy i
  exact ⟨a * b, by show x i * y i = _; rw [ha, hb, cmul]⟩
theorem Reals.add (hx : Reals x) (hy : Reals y) : Reals (addf (F := Ideal) (φ := φ) x y) := fun i => by
  obtain ⟨a, ha⟩ := hx i
  obtain ⟨b, hb⟩ := hy i
  exact ⟨a + b, by show x i + y i = _; rw [ha, hb, cadd]⟩
theorem Reals.neg (hx : Reals x) : Reals (Host.negf (F := Ideal) (φ := φ) x) := fun i => by
  obtain ⟨a, ha⟩ := hx i
  exact ⟨-a, by show -x i = _; rw [ha, cneg]⟩
theorem Reals.pow (hx : Reals x) (hy : Reals y) : Reals (Host.powf (F := Ideal) (φ := φ) x y) := fun i => by
  obtain ⟨a, ha⟩ := hx i
  obtain ⟨b, hb⟩ := hy i
  exact ⟨Real.rpow a b, by show Ideal.pow (x i) (y i) = _; rw [ha, hb]; rfl⟩
theorem Reals.cos (hx : Reals x) : Reals (Host.cos (F := Ideal) (φ := φ) x) := fun i => by
  obtain ⟨a, ha⟩ := hx i
  exact ⟨Real.cos a, by show Ideal.cos (x i) = _; rw [ha]; rfl⟩
theorem Reals.sin (hx : Reals x) : Reals (Host.sin (F := Ideal) (φ := φ) x) := fun i => by
  obtain ⟨a, ha⟩ := hx i
  exact ⟨Real.sin a, by show Ideal.sin (x i) = _; rw [ha]; rfl⟩
theorem Reals.bid (hx : Reals x) (d h) : Reals (broadcastInDim t d h x) := fun i => hx _
theorem Reals.div (hx : Reals x) {c : ℝ} (hc : c ≠ 0) (hy : ∀ i, y i = c) : Reals (Host.divf (F := Ideal) (φ := φ) x y) := fun i => by
  obtain ⟨a, ha⟩ := hx i
  exact ⟨a / c, by show Ideal.div (x i) (y i) = _; rw [ha, hy, cdiv _ hc]⟩
theorem Reals.int {w : ℕ} (p : IVec s w) : Reals (sitofp (F := Ideal) φ p) := fun i => ⟨_, rfl⟩
theorem Reals.const {b : BitVec φ.bits} {c : ℝ} (h : Ideal.ofBits φ b = c) : Reals (constant (F := Ideal) s φ b) := fun i => ⟨c, h⟩
end

theorem k0f : Ideal.ofBits .f32 0x00000000#32 = ((0 : ℝ) : EReal) := by
  simp [Ideal.ofBits, Ideal.ieee]
theorem k64 : Ideal.ofBits .f32 0x42800000#32 = ((64 : ℝ) : EReal) := by
  simp [Ideal.ofBits, Ideal.ieee, -EReal.coe_mul]; norm_num
theorem k10000 : Ideal.ofBits .f32 0x461C4000#32 = ((10000 : ℝ) : EReal) := by
  simp [Ideal.ofBits, Ideal.ieee, -EReal.coe_mul]; norm_num
theorem k192 : Ideal.ofBits .f32 0x43400000#32 = ((192 : ℝ) : EReal) := by
  simp [Ideal.ofBits, Ideal.ieee, -EReal.coe_mul]; norm_num
theorem kone : Ideal.ofBits .f32 0x3F800000#32 = ((1 : ℝ) : EReal) := by
  simp [Ideal.ofBits, Ideal.ieee, -EReal.coe_mul]; norm_num
theorem kbot : Ideal.ofBits .f32 0xFF800000#32 = ⊥ := by
  simp [Ideal.ofBits, Ideal.ieee]
theorem csqrt {a : ℝ} (h : 0 ≤ a) : Ideal.sqrt (a : EReal) = ((√a : ℝ) : EReal) := by
  rw [Ideal.sqrt_coe, if_neg h.not_gt]

/-- The angles: the position times a power of ten thousand. -/
theorem angle_real {n m : ℕ} (p : IVec ⟨1, ![n]⟩ 32) (h1 h2 h3 h4 h5 h6 h7 h8) :
    Reals (mulf (F := Ideal) (φ := .f32) (broadcastInDim ⟨2, ![n, m]⟩ ![0, 1] h1 (broadcastInDim ⟨2, ![n, 1]⟩ ![0] h2 (sitofp (F := Ideal) .f32 p)))
      (broadcastInDim ⟨2, ![n, m]⟩ ![0, 1] h3 (broadcastInDim ⟨2, ![1, m]⟩ ![1] h4
        (Host.powf (F := Ideal) (φ := .f32) (broadcastInDim ⟨1, ![m]⟩ ![] h5 (constant (F := Ideal) ⟨0, ![]⟩ .f32 0x461C4000#32))
          (Host.divf (F := Ideal) (φ := .f32) (Host.negf (F := Ideal) (φ := .f32) (addf (F := Ideal) (φ := .f32) (broadcastInDim ⟨1, ![m]⟩ ![] h6 (constant (F := Ideal) ⟨0, ![]⟩ .f32 0x00000000#32))
            (mulf (F := Ideal) (φ := .f32) (broadcastInDim ⟨1, ![m]⟩ ![] h7 (constant (F := Ideal) ⟨0, ![]⟩ .f32 0x40000000#32)) (sitofp (F := Ideal) .f32 (iotaInDim ⟨1, ![m]⟩ 32 0)))))
            (broadcastInDim ⟨1, ![m]⟩ ![] h8 (constant (F := Ideal) ⟨0, ![]⟩ .f32 0x42800000#32))))))) :=
  .mul (.bid (.bid (.int p) _ _) _ _) (.bid (.bid (.pow (.bid (.const k10000) _ _)
    (.div (.neg (.add (.bid (.const k0f) _ _) (.mul (.bid (.const k2) _ _) (.int _)))) (c := 64) (by norm_num) fun _ => k64)) _ _) _ _)

end Cert.Arr
-- ==== Proof.AttentionHost.lean ====
/-
  The attention gradient, kernel side: the arrays the host prepares for the region, in real numbers.
-/
module

public import proofs.«01_k».proof.Proof.Angle
public import proofs.«01_k».proof.Proof.AttentionEquation
public import proofs.«01_k».proof.Proof.Boxes
public import proofs.«01_k».proof.Proof.Rotation
public import Idealize.ShloMosaic.Lib.Tactic
public import Idealize.ShloMosaic.Lib.StableHlo.RunRead

@[expose] public section

set_option maxRecDepth 16384

noncomputable section

open Idealize.ShloMosaic hiding ix1 ix2 ix3
open Idealize.ShloMosaic.TcCoe Idealize.SL.Sem
open Cert.Arr
open Finset (range)
open scoped BigOperators

namespace Cert.Attention

open Cert.Kernel6Ideal Cert.Kernel6Ideal.Gen

variable (m : (ℓ : Loc nD τ sig) → Buf (Elt Ideal) ℓ) (c : Dev nD)

/-- The arguments as real numbers, and the cosines and sines of the rotation's angles. -/
structure Args (s : Src) : Prop where
  hq : m ((c : Thread nD τ).loc main_arg0) = arr S4096x16x128 fun i j k => (s.q i j k : EReal)
  hr : m ((c : Thread nD τ).loc main_arg1) = arr S4096x16x64 fun i j k => (s.r i j k : EReal)
  hk : m ((c : Thread nD τ).loc main_arg2) = arr S4096x16x128 fun i j k => (s.k i j k : EReal)
  hkr : m ((c : Thread nD τ).loc main_arg3) = arr S4096x64 fun i j k => (s.kr i j k : EReal)
  hv : m ((c : Thread nD τ).loc main_arg4) = arr S4096x16x128 fun i j k => (s.v i j k : EReal)
  hdO : m ((c : Thread nD τ).loc main_arg6) = arr S4096x16x128 fun i j k => (s.dO i j k : EReal)
  hcs : cosines (m ((c : Thread nD τ).loc main_arg5)) = arr S4096x32 fun i j k => (s.cs i j k : EReal)
  hsn : sines (m ((c : Thread nD τ).loc main_arg5)) = arr S4096x32 fun i j k => (s.sn i j k : EReal)

/-! ## The steps of the host's program -/

theorem V16 : V m c main_v16 = cosines (m ((c : Thread nD τ).loc main_arg5)) := by
  unfold V; after_reads_simp
theorem V17 : V m c main_v17 = sines (m ((c : Thread nD τ).loc main_arg5)) := by
  unfold V; after_reads_simp
theorem V31 : V m c main_v31 = subf (F := Ideal) (φ := .f32)
    (mulf (F := Ideal) (φ := .f32) (extractStridedSlice S4096x16x32 ![0, 0, 0] (m ((c : Thread nD τ).loc main_arg1)) slices_S4096x16x64_S4096x16x32_0_0_0)
      (broadcastInDim S4096x16x32 ![0, 1, 2] bcast_S4096x1x32_S4096x16x32_0_1_2 (broadcastInDim S4096x1x32 ![0, 2] bcast_S4096x32_S4096x1x32_0_2 (V m c main_v16))))
    (mulf (F := Ideal) (φ := .f32) (extractStridedSlice S4096x16x32 ![0, 0, 32] (m ((c : Thread nD τ).loc main_arg1)) slices_S4096x16x64_S4096x16x32_0_0_32)
      (broadcastInDim S4096x16x32 ![0, 1, 2] bcast_S4096x1x32_S4096x16x32_0_1_2 (broadcastInDim S4096x1x32 ![0, 2] bcast_S4096x32_S4096x1x32_0_2 (V m c main_v17)))) := by
  unfold V; after_reads_simp
theorem V36 : V m c main_v36 = addf (F := Ideal) (φ := .f32)
    (mulf (F := Ideal) (φ := .f32) (extractStridedSlice S4096x16x32 ![0, 0, 32] (m ((c : Thread nD τ).loc main_arg1)) slices_S4096x16x64_S4096x16x32_0_0_32)
      (broadcastInDim S4096x16x32 ![0, 1, 2] bcast_S4096x1x32_S4096x16x32_0_1_2 (broadcastInDim S4096x1x32 ![0, 2] bcast_S4096x32_S4096x1x32_0_2 (V m c main_v16))))
    (mulf (F := Ideal) (φ := .f32) (extractStridedSlice S4096x16x32 ![0, 0, 0] (m ((c : Thread nD τ).loc main_arg1)) slices_S4096x16x64_S4096x16x32_0_0_0)
      (broadcastInDim S4096x16x32 ![0, 1, 2] bcast_S4096x1x32_S4096x16x32_0_1_2 (broadcastInDim S4096x1x32 ![0, 2] bcast_S4096x32_S4096x1x32_0_2 (V m c main_v17)))) := by
  unfold V; after_reads_simp
theorem V37 : V m c main_v37 = concatenate S4096x16x64 2 [⟨S4096x16x32, V m c main_v31⟩, ⟨S4096x16x32, V m c main_v36⟩] concatenates_S4096x16x32_S4096x16x32_S4096x16x64_d2 := by
  unfold V; after_reads_simp
  refine congrArg₂ (fun a b => concatenate S4096x16x64 2 [⟨S4096x16x32, a⟩, ⟨S4096x16x32, b⟩] concatenates_S4096x16x32_S4096x16x32_S4096x16x64_d2) ?_ ?_ <;> after_reads_simp
theorem V48 : V m c main_v48 = select (broadcastInDim S16x4096x4096 ![1, 2] bcast_S4096x4096_S16x4096x4096_1_2 (cmpi .sle (iotaInDim S4096x4096 32 1) (iotaInDim S4096x4096 32 0)))
    (Host.divf (F := Ideal) (φ := .f32)
      (addf (F := Ideal) (φ := .f32)
        (Host.dotGeneral (F := Ideal) (φ₁ := .f32) (φ₂ := .f32) dot_S4096x16x128_S4096x16x128_S16x4096x4096_2_2_0_0_1_1 none (m ((c : Thread nD τ).loc main_arg0)) (m ((c : Thread nD τ).loc main_arg2)))
        (transpose S16x4096x4096 [2, 1, 0] (Host.dotGeneral (F := Ideal) (φ₁ := .f32) (φ₂ := .f32) dot_S4096x64_S4096x16x64_S4096x4096x16_1_2_0_01_n_n none
          (m ((c : Thread nD τ).loc main_arg3)) (V m c main_v37)) transposes_S4096x4096x16_S16x4096x4096_2_1_0))
      (broadcastInDim S16x4096x4096 ![] bcast_S_S16x4096x4096 (Host.sqrt (F := Ideal) (φ := .f32) (constant (F := Ideal) S_ .f32 0x43400000#32))))
    (broadcastInDim S16x4096x4096 ![] bcast_S_S16x4096x4096 (constant (F := Ideal) S_ .f32 0xFF800000#32)) := by
  unfold V; after_reads_simp; rfl
theorem V49 : V m c main_v49 = Host.reduce (FloatOps.maximumf (F := Ideal) (φ := .f32)) (V m c main_v48 : Vec Ideal S16x4096x4096 .f32) (constant (F := Ideal) S_ .f32 0xFF800000#32)
    reducesTo_S16x4096x4096_S16x4096_d2 h_S_ := by
  unfold V; after_reads_simp
theorem V53 : V m c main_v53 = Host.exp (F := Ideal) (φ := .f32) (subf (F := Ideal) (φ := .f32) (V m c main_v48 : Vec Ideal S16x4096x4096 .f32)
    (broadcastInDim S16x4096x4096 ![0, 1, 2] bcast_S16x4096x1_S16x4096x4096_0_1_2
      (broadcastInDim S16x4096x1 ![0, 1] bcast_S16x4096_S16x4096x1_0_1 (V m c main_v49 : Vec Ideal S16x4096 .f32)))) := by
  unfold V; after_reads_simp
theorem V55 : V m c main_v55 = broadcastInDim S16x4096x1 ![0, 1] bcast_S16x4096_S16x4096x1_0_1
    (Host.reduceAdd (F := Ideal) (φ := .f32) (V m c main_v53 : Vec Ideal S16x4096x4096 .f32) (constant (F := Ideal) S_ .f32 0x00000000#32) reducesTo_S16x4096x4096_S16x4096_d2 h_S_) := by
  unfold V; after_reads_simp
set_option maxHeartbeats 1000000 in
theorem V77 : V m c main_v77 = shapeCast S4096x2048 (transpose S4096x16x128 [2, 0, 1]
    (Host.dotGeneral (F := Ideal) (φ₁ := .f32) (φ₂ := .f32) dot_S4096x16x128_S16x4096x4096_S16x128x4096_0_2_2_1_1_0 none (m ((c : Thread nD τ).loc main_arg4))
      (Host.divf (F := Ideal) (φ := .f32) (V m c main_v53 : Vec Ideal S16x4096x4096 .f32)
        (broadcastInDim S16x4096x4096 ![0, 1, 2] bcast_S16x4096x1_S16x4096x4096_0_1_2 (V m c main_v55 : Vec Ideal S16x4096x1 .f32))))
    transposes_S16x128x4096_S4096x16x128_2_0_1) shapeCasts_S4096x16x128_S4096x2048 := by
  unfold V; after_reads_simp; rfl
set_option maxHeartbeats 1000000 in
theorem V76 : V m c main_v76 = shapeCast S4096x2048 (broadcastInDim S4096x16x128 ![0, 1, 2] bcast_S4096x16x1_S4096x16x128_0_1_2
    (transpose S4096x16x1 [1, 0, 2] (addf (F := Ideal) (φ := .f32)
      (broadcastInDim S16x4096x1 ![0, 1] bcast_S16x4096_S16x4096x1_0_1 (V m c main_v49 : Vec Ideal S16x4096 .f32))
      (Host.log (F := Ideal) (φ := .f32) (V m c main_v55 : Vec Ideal S16x4096x1 .f32))) transposes_S16x4096x1_S4096x16x1_1_0_2)) shapeCasts_S4096x16x128_S4096x2048 := by
  unfold V; after_reads_simp; rfl
theorem V64 : V m c main_v64 = concatenate S4096x16x192 2 [⟨S4096x16x128, m ((c : Thread nD τ).loc main_arg0)⟩, ⟨S4096x16x64, V m c main_v37⟩]
    concatenates_S4096x16x128_S4096x16x64_S4096x16x192_d2 := by
  unfold V; after_reads_simp
  refine congrArg₂ (fun a b => concatenate S4096x16x192 2 [⟨S4096x16x128, a⟩, ⟨S4096x16x64, b⟩] concatenates_S4096x16x128_S4096x16x64_S4096x16x192_d2) ?_ ?_ <;> after_reads_simp
theorem V72 : V m c main_v72 = shapeCast S4096x4096 (pad S4096x16x256 ![0, 0, 0] ![0, 0, 64] ![0, 0, 0]
    (truncf (F := Ideal) (s := S4096x16x192) (φ := .f32) .bf16 (V m c main_v64 : Vec Ideal S4096x16x192 .f32) bitsLt_bf16_f32) (sitofp (F := Ideal) .bf16 (constantI S_ 32 0#32))
    pads_S4096x16x192_S4096x16x256_000_000_0640 h_S_) shapeCasts_S4096x16x256_S4096x4096 := by
  unfold V; after_reads_simp; rfl
theorem V69 : V m c main_v69 = concatenate S4096x16x256 2 [⟨S4096x16x128, truncf (F := Ideal) (s := S4096x16x128) (φ := .f32) .bf16 (m ((c : Thread nD τ).loc main_arg2)) bitsLt_bf16_f32⟩,
      ⟨S4096x16x128, truncf (F := Ideal) (s := S4096x16x128) (φ := .f32) .bf16 (m ((c : Thread nD τ).loc main_arg4)) bitsLt_bf16_f32⟩]
    concatenates_S4096x16x128_S4096x16x128_S4096x16x256_d2 := by
  unfold V; after_reads_simp
  refine congrArg₂ (fun a b => concatenate S4096x16x256 2 [⟨S4096x16x128, a⟩, ⟨S4096x16x128, b⟩] concatenates_S4096x16x128_S4096x16x128_S4096x16x256_d2) ?_ ?_ <;> after_reads_simp
theorem V73 : V m c main_v73 = shapeCast S4096x4096 (V m c main_v69 : Vec Ideal S4096x16x256 .bf16) shapeCasts_S4096x16x256_S4096x4096 := by
  unfold V; after_reads_simp; rfl
theorem V71 : V m c main_v71 = pad S4096x128 ![0, 0] ![0, 64] ![0, 0] (truncf (F := Ideal) (s := S4096x64) (φ := .f32) .bf16 (m ((c : Thread nD τ).loc main_arg3)) bitsLt_bf16_f32)
    (sitofp (F := Ideal) .bf16 (constantI S_ 32 0#32)) pads_S4096x64_S4096x128_000_0640 h_S_ := by
  unfold V; after_reads_simp; rfl
theorem V75 : V m c main_v75 = shapeCast S4096x2048 (truncf (F := Ideal) (s := S4096x16x128) (φ := .f32) .bf16 (m ((c : Thread nD τ).loc main_arg6)) bitsLt_bf16_f32) shapeCasts_S4096x16x128_S4096x2048 := by
  unfold V; after_reads_simp; rfl
theorem V18 : V m c main_v18 = concatenate S4096x64 1 [⟨S4096x32, V m c main_v16⟩, ⟨S4096x32, V m c main_v16⟩] concatenates_S4096x32_S4096x32_S4096x64_d1 := by
  unfold V; after_reads_simp
  refine congrArg₂ (fun a b => concatenate S4096x64 1 [⟨S4096x32, a⟩, ⟨S4096x32, b⟩] concatenates_S4096x32_S4096x32_S4096x64_d1) ?_ ?_ <;> after_reads_simp
theorem V19 : V m c main_v19 = pad S4096x128 ![0, 0] ![0, 64] ![0, 0] (V m c main_v18 : Vec Ideal S4096x64 .f32)
    (sitofp (F := Ideal) .f32 (constantI S_ 32 0#32)) pads_S4096x64_S4096x128_000_0640 h_S_ := by
  unfold V; after_reads_simp; rfl
theorem V21 : V m c main_v21 = concatenate S4096x64 1
    [⟨S4096x32, Host.negf (F := Ideal) (φ := .f32) (V m c main_v17 : Vec Ideal S4096x32 .f32)⟩, ⟨S4096x32, V m c main_v17⟩] concatenates_S4096x32_S4096x32_S4096x64_d1 := by
  unfold V; after_reads_simp
  refine congrArg₂ (fun a b => concatenate S4096x64 1 [⟨S4096x32, a⟩, ⟨S4096x32, b⟩] concatenates_S4096x32_S4096x32_S4096x64_d1) ?_ ?_ <;> after_reads_simp
theorem V22 : V m c main_v22 = pad S4096x128 ![0, 0] ![0, 64] ![0, 0] (V m c main_v21 : Vec Ideal S4096x64 .f32)
    (sitofp (F := Ideal) .f32 (constantI S_ 32 0#32)) pads_S4096x64_S4096x128_000_0640 h_S_ := by
  unfold V; after_reads_simp; rfl

/-! ## The same in real numbers -/

section Values
variable {s : Src} (a : Args m c s)
include a

theorem v16 : V m c main_v16 = arr S4096x32 fun i j k => (s.cs i j k : EReal) := (V16 m c).trans a.hcs
theorem v17 : V m c main_v17 = arr S4096x32 fun i j k => (s.sn i j k : EReal) := (V17 m c).trans a.hsn
/-- The rotated query. -/
theorem v37 : V m c main_v37 = arr S4096x16x64 fun i h k => (s.qr i h k : EReal) := by
  rw [V37, V31, V36, v16 m c a, v17 m c a, a.hr]
  rw [concat2_eq (n := 4096) (m := 16) (l₁ := 32) (l₂ := 32) (l := 64)
    (f := fun i h k => ((s.r i h k * s.cs i k 0 - s.r i h (32 + k) * s.sn i k 0 : ℝ) : EReal))
    (g := fun i h k => ((s.r i h (32 + k) * s.cs i k 0 + s.r i h k * s.sn i k 0 : ℝ) : EReal)) ?hx ?hy]
  case hx => simp only [arr_slice3 (n := 4096) (m := 16) (l := 64) (n' := 4096) (m' := 16) (l' := 32), zero_add, arr_bid_02 (n := 4096) (l := 32), arr_bid_mid (n := 4096) (m := 16) (l := 32), arr_mul, arr_sub, cmul, csub]
  case hy => simp only [arr_slice3 (n := 4096) (m := 16) (l := 64) (n' := 4096) (m' := 16) (l' := 32), zero_add, arr_bid_02 (n := 4096) (l := 32), arr_bid_mid (n := 4096) (m := 16) (l := 32), arr_mul, arr_add, cmul, cadd]
  simp only [cite, Src.qr]
/-- The masked scores. -/
theorem v48 : V m c main_v48 = arr S16x4096x4096 fun h i j => s.sc h i j := by
  rw [V48, v37 m c a, a.hq, a.hk, a.hkr]
  simp only [dot_S4096x16x128_S4096x16x128_S16x4096x4096_2_2_0_0_1_1, dot_S4096x64_S4096x16x64_S4096x4096x16_1_2_0_01_n_n, arr_const, arr_hsqrt,
    arr_dot_220011 (n := 4096) (m := 4096) (b := 16) (K := 128), arr_dot_12001 (n := 4096) (m := 4096) (b := 16) (K := 64),
    arr_tr_210 (n := 4096) (m := 4096) (l := 16), arr_add, arr_bid0, arr_hdiv, kbot, k192, csqrt (show (0 : ℝ) ≤ 192 by norm_num), cmul, csum, cadd, cdiv _ Src.root_pos.ne']
  rw [arr_causal (n := 16) (N := 4096) _ _ (by norm_num)]
  simp only [Src.sc, Src.S, Src.dot]
/-- The row's reference value is a real number. -/
theorem exists_M : ∃ M : ℕ → ℕ → ℕ → ℝ, V m c main_v49 = arr S16x4096 fun h i k => (M h i k : EReal) := by
  refine exists_real (s := S16x4096) (Nat.le_succ 2) _ fun i => ?_
  rw [V49, v48 m c a, arr_const, kbot]
  exact hmax_real (n := 16) (m := 4096) (l := 4096) (φ := .f32) (fun h i j => s.sc h i j) (fun _ _ _ => ⊥)
    reducesTo_S16x4096x4096_S16x4096_d2 h_S_ rfl (by norm_num)
    (fun h i _ _ => ⟨s.S h i 0, by unfold Src.sc; rw [if_pos (Nat.zero_le i)]⟩)
    (fun h i j _ _ _ => by unfold Src.sc; split <;> simp) i

variable {M : ℕ → ℕ → ℕ → ℝ} (hM : V m c main_v49 = arr S16x4096 fun h i k => (M h i k : EReal))
include hM

theorem v53 : V m c main_v53 = arr S16x4096x4096 fun h i j => (s.E M h i j : EReal) := by
  rw [V53, v48 m c a, hM]
  show (Host.exp (subf _ _) : FVec Ideal S16x4096x4096 .f32) = _
  simp only [arr_bid_01 (n := 16) (m := 4096) (l := 1), arr_bid_last (n := 16) (m := 4096) (l := 4096), arr_sub, arr_hexp, Src.exp_sc]
theorem v55 : V m c main_v55 = arr S16x4096x1 fun h i _ => (s.L M h i : EReal) := by
  rw [V55, v53 m c a hM]
  simp only [arr_const, arr_hlastsum (n := 16) (m := 4096) (l := 4096), arr_bid_01 (n := 16) (m := 4096) (l := 1), Ideal.ofBits_zero_f32, zero_add, csum]
  rfl
theorem v77 : V m c main_v77 = arr S4096x2048 (s.inp M).o := by
  rw [V77, v53 m c a hM, v55 m c a hM, a.hv]
  simp only [arr_bid_last (n := 16) (m := 4096) (l := 4096), arr_hdiv, cdiv _ (s.L_pos M _ _).ne', dot_S4096x16x128_S16x4096x4096_S16x128x4096_0_2_2_1_1_0,
    arr_dot_022110 (n := 128) (m := 4096) (b := 16) (K := 4096), cmul, csum, arr_tr_201 (n := 16) (m := 128) (l := 4096), arr_merge (n := 4096) (b := 16) (c := 128) (bc := 2048) (hbc := rfl)]
  rfl
theorem v76 : V m c main_v76 = arr S4096x2048 (s.inp M).lse := by
  rw [V76, v55 m c a hM, hM]
  simp only [arr_hlog, arr_bid_01 (n := 16) (m := 4096) (l := 1), arr_add, arr_tr_102 (n := 16) (m := 4096) (l := 1), arr_bid_last (n := 4096) (m := 16) (l := 128),
    arr_merge (n := 4096) (b := 16) (c := 128) (bc := 2048) (hbc := rfl)]
  refine arr2_ext fun i j _ _ => ?_
  show ((M (j / 128) i 0 : ℝ) : EReal) + Ideal.log ((s.L M (j / 128) i : ℝ) : EReal) = (s.lse M (j / 128) i : EReal)
  rw [show Ideal.log ((s.L M (j / 128) i : ℝ) : EReal) = (Real.log (s.L M (j / 128) i) : EReal) from ?_, cadd]
  · rfl
  · rw [Ideal.log_coe, if_neg (s.L_pos M _ _).not_ge]
omit hM
variable (M)
theorem v72 : V m c main_v72 = arr S4096x4096 (s.inp M).q := by
  rw [V72, V64, v37 m c a, a.hq, concat2_eq (n := 4096) (m := 16) (l₁ := 128) (l₂ := 64) (l := 192) (hx := rfl) (hy := rfl), arr_truncf, arr_sitofp_zero,
    arr_pad3 (n := 4096) (m := 16) (l := 192), arr_merge (n := 4096) (b := 16) (c := 256) (hbc := rfl), ← EReal.coe_zero]
  simp only [cite]
  rfl
theorem v73 : V m c main_v73 = arr S4096x4096 (s.inp M).kv := by
  rw [V73, V69, a.hk, a.hv, arr_truncf, arr_truncf, concat2_eq (n := 4096) (m := 16) (l₁ := 128) (l₂ := 128) (l := 256) (hx := rfl) (hy := rfl), arr_merge (n := 4096) (b := 16) (c := 256) (hbc := rfl)]
  simp only [cite]
  rfl
theorem v71 : V m c main_v71 = arr S4096x128 (s.inp M).kr := by
  rw [V71, a.hkr, arr_truncf, arr_sitofp_zero, arr_pad2 (n := 4096) (m := 64), ← EReal.coe_zero]
  simp only [cite, Nat.zero_le, true_and, Nat.sub_zero]
  rfl
theorem v75 : V m c main_v75 = arr S4096x2048 (s.inp M).dO := by
  rw [V75, a.hdO, arr_truncf, arr_merge (n := 4096) (b := 16) (c := 128) (bc := 2048) (hbc := rfl)]
  rfl
theorem v19 : V m c main_v19 = arr S4096x128 (s.inp M).rc := by
  rw [V19, V18, v16 m c a, concat1_eq (n := 4096) (m := 64) (m₁ := 32) (m₂ := 32) (hx := rfl) (hy := rfl), arr_sitofp_zero, arr_pad2 (n := 4096) (m := 64), ← EReal.coe_zero]
  simp only [cite, Nat.zero_le, true_and, Nat.sub_zero]
  rfl
theorem v22 : V m c main_v22 = arr S4096x128 (s.inp M).rs := by
  rw [V22, V21, v17 m c a, arr_hneg, concat1_eq (n := 4096) (m := 64) (m₁ := 32) (m₂ := 32) (hx := rfl) (hy := rfl), arr_sitofp_zero, arr_pad2 (n := 4096) (m := 64), ← EReal.coe_zero]
  simp only [cneg, cite, Nat.zero_le, true_and, Nat.sub_zero]
  rfl
end Values

end Cert.Attention
-- ==== Proof.AttentionFinal.lean ====
/-
  The attention gradient's result arrays after the run: head `h`'s columns are what its point leaves, the shared key's gradient
  the sum over the heads.
-/
module

public import proofs.«01_k».proof.Proof.AttentionFrame
public import Idealize.ShloMosaic.Lib.Pipeline.ValueKit.Geometry

@[expose] public section

set_option maxRecDepth 16384

noncomputable section

open Idealize.ShloMosaic Idealize.ShloMosaic.TcCoe Idealize.SL.Sem
open Idealize.ShloMosaic.Rounds Idealize.SL.BI.BIBase
open Idealize.ShloMosaic.Pipeline (Dat BodyObligation)
open Cert.Arr

namespace Cert.Attention

open Cert.Kernel6Ideal Cert.Kernel6Ideal.Gen
open Finset (range)

variable (m : (ℓ : Loc nD τ sig) → Buf (Elt Ideal) ℓ) (X : Dev nD → In)

theorem body_obligation (hX : ∀ c, Reads m c (X c)) (c : Dev nD) : BodyObligation (dats m X 0 c) (defs₀ (F := Ideal)) Variants.none () Set.univ := fun t => by
  rw [bigSep_W0, bigSep_W0, defs₀_row]
  exact triple_restated (sound_body m c X hX t) rfl .rfl fun _ => .rfl

set_option backward.isDefEq.respectTransparency.types false in
/-- The run of the kernel's program, with these contents. -/
theorem run_main (ρ : Dev nD → PrngReg) (hX : ∀ c, Reads m c (X c)) :
    θ_run defs (onTc (τ := τ) (main (F := Ideal))) (s₀ m ρ) (fun r => (Pipeline.FramePost cfgs (dats m X) 0 (V m)) r ∧ r.2.sem = fun _ => 0) :=
  Pipeline.θ_run_frame (Q' := _) cfgs (dats m X) (0 : Fin 1) launch0 defs₀ Variants.none m ρ main
    (hbody := fun c => (body_obligation m X hX c).loose) (hshare := fun c => (dats m X 0 c).share_full fun _ => rfl)
    (howed := fun _ _ => rfl) (V := V m) (hmain := hmain m Variants.none) (hA := A_eq m X) (hΦ := fun _ _ => rfl)

theorem idx8 : ∀ t : Fin cfg0.N, win0_8.index t 0 = 0 ∧ win0_8.index t 1 = t.val := by decide +kernel
theorem idx9 : ∀ t : Fin cfg0.N, win0_9.index t 0 = 0 ∧ win0_9.index t 1 = t.val := by decide +kernel
theorem idx10 : ∀ t : Fin cfg0.N, win0_10.index t 0 = 0 ∧ win0_10.index t 1 = 0 := by decide +kernel

variable (c : Dev nD)

theorem final8 : (dats m X 0 c).arrAt 8 cfg0.N = arr S4096x4096 fun i k _ => (X c).dq (k / 256) i (k % 256) := by
  refine (dats m X 0 c).arrAt_eq_of_covers 8 _ (by decide +kernel) fun t hf z => ?_
  blk_simp
  rw [after8]
  have e0 : (((win0_8.blk t).view.emb z) 0).val = (z 0).val := by blk_simp [(idx8 t).1]
  have e1 : (((win0_8.blk t).view.emb z) 1).val = t.val * 256 + (z 1).val := by blk_simp [(idx8 t).2]
  have hz : (z 1).val < 256 := (z 1).isLt
  show (X c).dq t.val (z 0).val (z 1).val = (X c).dq ((((win0_8.blk t).view.emb z) 1).val / 256) (((win0_8.blk t).view.emb z) 0).val ((((win0_8.blk t).view.emb z) 1).val % 256)
  rw [e0, e1, show (t.val * 256 + (z 1).val) / 256 = t.val by omega, show (t.val * 256 + (z 1).val) % 256 = (z 1).val by omega]

theorem final9 : (dats m X 0 c).arrAt 9 cfg0.N = arr S4096x4096 fun i k _ => (X c).dkv (k / 256) i (k % 256) := by
  refine (dats m X 0 c).arrAt_eq_of_covers 9 _ (by decide +kernel) fun t hf z => ?_
  blk_simp
  rw [after9]
  have e0 : (((win0_9.blk t).view.emb z) 0).val = (z 0).val := by blk_simp [(idx9 t).1]
  have e1 : (((win0_9.blk t).view.emb z) 1).val = t.val * 256 + (z 1).val := by blk_simp [(idx9 t).2]
  have hz : (z 1).val < 256 := (z 1).isLt
  show (X c).dkv t.val (z 0).val (z 1).val = (X c).dkv ((((win0_9.blk t).view.emb z) 1).val / 256) (((win0_9.blk t).view.emb z) 0).val ((((win0_9.blk t).view.emb z) 1).val % 256)
  rw [e0, e1, show (t.val * 256 + (z 1).val) / 256 = t.val by omega, show (t.val * 256 + (z 1).val) % 256 = (z 1).val by omega]

theorem final10 : (dats m X 0 c).arrAt 10 cfg0.N = arr S4096x128 fun j k _ => ∑ h ∈ range 16, (X c).dkr h j k := by
  refine (dats m X 0 c).arrAt_eq_of_covers 10 _ (by decide +kernel) fun t hf z => ?_
  have ht := (flush0_10 t).mp hf
  have hN : t.val < 16 := lt_of_lt_of_eq t.isLt (show cfg0.N = 16 from N_0)
  blk_simp
  rw [after10, show t.val + 1 = 16 by omega]
  have e0 : (((win0_10.blk t).view.emb z) 0).val = (z 0).val := by blk_simp [(idx10 t).1]
  have e1 : (((win0_10.blk t).view.emb z) 1).val = (z 1).val := by blk_simp [(idx10 t).2]
  show ∑ h ∈ range 16, (X c).dkr h (z 0).val (z 1).val = ∑ h ∈ range 16, (X c).dkr h (((win0_10.blk t).view.emb z) 0).val (((win0_10.blk t).view.emb z) 1).val
  rw [e0, e1]

/-- The kernel's program ends with its arguments kept, its counters at zero and the three results at these sums. -/
theorem run_values (ρ : Dev nD → PrngReg) (hX : ∀ c, Reads m c (X c)) :
    θ_run defs (onTc (τ := τ) (main (F := Ideal))) ⟨m, fun _ => 0, ρ⟩ (fun r => (∀ c : Dev nD,
      r.2.mem ((c : Thread nD τ).loc main_v78_0) = (arr S4096x4096 fun i k _ => (X c).dq (k / 256) i (k % 256) : Vec Ideal S4096x4096 .bf16)
      ∧ r.2.mem ((c : Thread nD τ).loc main_v78_1) = (arr S4096x4096 fun i k _ => (X c).dkv (k / 256) i (k % 256) : Vec Ideal S4096x4096 .bf16)
      ∧ r.2.mem ((c : Thread nD τ).loc main_v78_2) = (arr S4096x128 fun j k _ => ∑ h ∈ range 16, (X c).dkr h j k : Vec Ideal S4096x128 .f32)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6))
      ∧ r.2.sem = fun _ => 0) :=
  (θ_run defs _ _).mono (fun r h => ⟨fun c => ⟨((h.1 c).1 8).trans (final8 m X c), ((h.1 c).1 9).trans (final9 m X c), ((h.1 c).1 10).trans (final10 m X c),
    ((h.1 c).2 main_arg0 (Pipeline.mem_restRefs_of main_arg0 (by decide) (by decide))).trans (V_main_arg0 m c),
    ((h.1 c).2 main_arg1 (Pipeline.mem_restRefs_of main_arg1 (by decide) (by decide))).trans (V_main_arg1 m c),
    ((h.1 c).2 main_arg2 (Pipeline.mem_restRefs_of main_arg2 (by decide) (by decide))).trans (V_main_arg2 m c),
    ((h.1 c).2 main_arg3 (Pipeline.mem_restRefs_of main_arg3 (by decide) (by decide))).trans (V_main_arg3 m c),
    ((h.1 c).2 main_arg4 (Pipeline.mem_restRefs_of main_arg4 (by decide) (by decide))).trans (V_main_arg4 m c),
    ((h.1 c).2 main_arg5 (Pipeline.mem_restRefs_of main_arg5 (by decide) (by decide))).trans (V_main_arg5 m c),
    ((h.1 c).2 main_arg6 (Pipeline.mem_restRefs_of main_arg6 (by decide) (by decide))).trans (V_main_arg6 m c)⟩, h.2⟩) (run_main m X ρ hX)

end Cert.Attention
end
-- ==== Proof.AttentionReads.lean ====
/-
  The attention gradient, kernel side: the blocks a point reads are one head's columns of the host's arrays.
-/
module

public import proofs.«01_k».proof.Proof.AttentionHost
public import proofs.«01_k».proof.Proof.AttentionFinal

@[expose] public section

set_option maxRecDepth 16384

noncomputable section

open Idealize.ShloMosaic hiding ix1 ix2 ix3
open Idealize.ShloMosaic.TcCoe Idealize.SL.Sem
open Cert.Arr

namespace Cert.Attention

open Cert.Kernel6Ideal Cert.Kernel6Ideal.Gen

variable (m : (ℓ : Loc nD τ sig) → Buf (Elt Ideal) ℓ) (c : Dev nD)

section
variable {m c} {f : ℕ → ℕ → ℕ → EReal}

theorem idx0 : ∀ t : Fin cfg0.N, win0_0.index t 0 = 0 ∧ win0_0.index t 1 = t.val := by decide +kernel
theorem idx1 : ∀ t : Fin cfg0.N, win0_1.index t 0 = 0 ∧ win0_1.index t 1 = t.val := by decide +kernel
theorem idx2 : ∀ t : Fin cfg0.N, win0_2.index t 0 = 0 ∧ win0_2.index t 1 = 0 := by decide +kernel
theorem idx3 : ∀ t : Fin cfg0.N, win0_3.index t 0 = 0 ∧ win0_3.index t 1 = t.val := by decide +kernel
theorem idx4 : ∀ t : Fin cfg0.N, win0_4.index t 0 = 0 ∧ win0_4.index t 1 = t.val := by decide +kernel
theorem idx5 : ∀ t : Fin cfg0.N, win0_5.index t 0 = 0 ∧ win0_5.index t 1 = t.val := by decide +kernel
theorem idx6 : ∀ t : Fin cfg0.N, win0_6.index t 0 = 0 ∧ win0_6.index t 1 = 0 := by decide +kernel
theorem idx7 : ∀ t : Fin cfg0.N, win0_7.index t 0 = 0 ∧ win0_7.index t 1 = 0 := by decide +kernel

theorem blk0 (A : (b : Ref sig .tc) → Buf (Elt Ideal) ((c : Thread nD τ).loc b)) (h : A main_v72 = arr S4096x4096 f) (t : Fin cfg0.N) :
    ((cfg0.win 0).blk t).view.read (Elt Ideal) (A (Pipeline.arrRef spec0 0)) = arr S4096x256 fun i j _ => f i (t.val * 256 + j) 0 := by
  funext j
  rw [View.read_apply]
  show A main_v72 _ = _
  rw [h]
  refine at_congr (f := f) ?_ ?_
  · show win0_0.index t 0 * 4096 + 1 * (j 0).val = (j 0).val; rw [(idx0 t).1]; omega
  · show win0_0.index t 1 * 256 + 1 * (j 1).val = t.val * 256 + (j 1).val; rw [(idx0 t).2]; omega
theorem blk1 (A : (b : Ref sig .tc) → Buf (Elt Ideal) ((c : Thread nD τ).loc b)) (h : A main_v73 = arr S4096x4096 f) (t : Fin cfg0.N) :
    ((cfg0.win 1).blk t).view.read (Elt Ideal) (A (Pipeline.arrRef spec0 1)) = arr S4096x256 fun i j _ => f i (t.val * 256 + j) 0 := by
  funext j
  rw [View.read_apply]
  show A main_v73 _ = _
  rw [h]
  refine at_congr (f := f) ?_ ?_
  · show win0_1.index t 0 * 4096 + 1 * (j 0).val = (j 0).val; rw [(idx1 t).1]; omega
  · show win0_1.index t 1 * 256 + 1 * (j 1).val = t.val * 256 + (j 1).val; rw [(idx1 t).2]; omega
theorem blk2 (A : (b : Ref sig .tc) → Buf (Elt Ideal) ((c : Thread nD τ).loc b)) (h : A main_v71 = arr S4096x128 f) (t : Fin cfg0.N) :
    ((cfg0.win 2).blk t).view.read (Elt Ideal) (A (Pipeline.arrRef spec0 2)) = arr S4096x128 fun i j _ => f i j 0 := by
  funext j
  rw [View.read_apply]
  show A main_v71 _ = _
  rw [h]
  refine at_congr (f := f) ?_ ?_
  · show win0_2.index t 0 * 4096 + 1 * (j 0).val = (j 0).val; rw [(idx2 t).1]; omega
  · show win0_2.index t 1 * 128 + 1 * (j 1).val = (j 1).val; rw [(idx2 t).2]; omega
theorem blk3 (A : (b : Ref sig .tc) → Buf (Elt Ideal) ((c : Thread nD τ).loc b)) (h : A main_v75 = arr S4096x2048 f) (t : Fin cfg0.N) :
    ((cfg0.win 3).blk t).view.read (Elt Ideal) (A (Pipeline.arrRef spec0 3)) = arr S4096x128 fun i j _ => f i (t.val * 128 + j) 0 := by
  funext j
  rw [View.read_apply]
  show A main_v75 _ = _
  rw [h]
  refine at_congr (f := f) ?_ ?_
  · show win0_3.index t 0 * 4096 + 1 * (j 0).val = (j 0).val; rw [(idx3 t).1]; omega
  · show win0_3.index t 1 * 128 + 1 * (j 1).val = t.val * 128 + (j 1).val; rw [(idx3 t).2]; omega
theorem blk4 (A : (b : Ref sig .tc) → Buf (Elt Ideal) ((c : Thread nD τ).loc b)) (h : A main_v76 = arr S4096x2048 f) (t : Fin cfg0.N) :
    ((cfg0.win 4).blk t).view.read (Elt Ideal) (A (Pipeline.arrRef spec0 4)) = arr S4096x128 fun i j _ => f i (t.val * 128 + j) 0 := by
  funext j
  rw [View.read_apply]
  show A main_v76 _ = _
  rw [h]
  refine at_congr (f := f) ?_ ?_
  · show win0_4.index t 0 * 4096 + 1 * (j 0).val = (j 0).val; rw [(idx4 t).1]; omega
  · show win0_4.index t 1 * 128 + 1 * (j 1).val = t.val * 128 + (j 1).val; rw [(idx4 t).2]; omega
theorem blk5 (A : (b : Ref sig .tc) → Buf (Elt Ideal) ((c : Thread nD τ).loc b)) (h : A main_v77 = arr S4096x2048 f) (t : Fin cfg0.N) :
    ((cfg0.win 5).blk t).view.read (Elt Ideal) (A (Pipeline.arrRef spec0 5)) = arr S4096x128 fun i j _ => f i (t.val * 128 + j) 0 := by
  funext j
  rw [View.read_apply]
  show A main_v77 _ = _
  rw [h]
  refine at_congr (f := f) ?_ ?_
  · show win0_5.index t 0 * 4096 + 1 * (j 0).val = (j 0).val; rw [(idx5 t).1]; omega
  · show win0_5.index t 1 * 128 + 1 * (j 1).val = t.val * 128 + (j 1).val; rw [(idx5 t).2]; omega
theorem blk6 (A : (b : Ref sig .tc) → Buf (Elt Ideal) ((c : Thread nD τ).loc b)) (h : A main_v19 = arr S4096x128 f) (t : Fin cfg0.N) :
    ((cfg0.win 6).blk t).view.read (Elt Ideal) (A (Pipeline.arrRef spec0 6)) = arr S4096x128 fun i j _ => f i j 0 := by
  funext j
  rw [View.read_apply]
  show A main_v19 _ = _
  rw [h]
  refine at_congr (f := f) ?_ ?_
  · show win0_6.index t 0 * 4096 + 1 * (j 0).val = (j 0).val; rw [(idx6 t).1]; omega
  · show win0_6.index t 1 * 128 + 1 * (j 1).val = (j 1).val; rw [(idx6 t).2]; omega
theorem blk7 (A : (b : Ref sig .tc) → Buf (Elt Ideal) ((c : Thread nD τ).loc b)) (h : A main_v22 = arr S4096x128 f) (t : Fin cfg0.N) :
    ((cfg0.win 7).blk t).view.read (Elt Ideal) (A (Pipeline.arrRef spec0 7)) = arr S4096x128 fun i j _ => f i j 0 := by
  funext j
  rw [View.read_apply]
  show A main_v22 _ = _
  rw [h]
  refine at_congr (f := f) ?_ ?_
  · show win0_7.index t 0 * 4096 + 1 * (j 0).val = (j 0).val; rw [(idx7 t).1]; omega
  · show win0_7.index t 1 * 128 + 1 * (j 1).val = (j 1).val; rw [(idx7 t).2]; omega
end

/-- With real arguments the region reads the arrays of `Src.inp`. -/
theorem reads {s : Src} (a : Args m c s) {M : ℕ → ℕ → ℕ → ℝ} (hM : V m c main_v49 = arr S16x4096 fun h i k => (M h i k : EReal)) :
    Reads m c (s.inp M) where
  r0 := fun t => blk0 (V m c) (v72 m c a M) t
  r1 := fun t => blk1 (V m c) (v73 m c a M) t
  r2 := fun t => blk2 (V m c) (v71 m c a M) t
  r3 := fun t => blk3 (V m c) (v75 m c a M) t
  r4 := fun t => blk4 (V m c) (v76 m c a hM) t
  r5 := fun t => blk5 (V m c) (v77 m c a hM) t
  r6 := fun t => blk6 (V m c) (v19 m c a M) t
  r7 := fun t => blk7 (V m c) (v22 m c a M) t

end Cert.Attention
end
-- ==== Proof.AttentionReference.lean ====
/-
  The attention gradient, reference side: what the three results hold, in real numbers.
-/
module

public import proofs.«01_k».proof.Proof.AttentionForm
public import proofs.«01_k».proof.Proof.Boxes
public import proofs.«01_k».proof.Proof.Rotation
public import proofs.«01_k».proof.Proof.Gen.Reference6Ideal.Run

@[expose] public section

set_option maxRecDepth 16384

noncomputable section

open Idealize.ShloMosaic hiding ix1 ix2 ix3
open Idealize.ShloMosaic.TcCoe Idealize.SL.Sem
open Cert.Arr
open Cert.Attention (Src)
open Finset (range)
open scoped BigOperators

namespace Cert.Reference6Ideal.Attention

open Cert.Reference6Ideal Cert.Reference6Ideal.Gen Cert.Reference6Ideal.Value

/-- The arguments of the reference as real numbers, and the cosines and sines of the rotation's angles. -/
structure Args (V : Valuation τ sig (Elt Ideal)) (s : Src) : Prop where
  hq : V (Proc.devRef .tc main_arg0) = arr S4096x16x128 fun i j k => (s.q i j k : EReal)
  hr : V (Proc.devRef .tc main_arg1) = arr S4096x16x64 fun i j k => (s.r i j k : EReal)
  hk : V (Proc.devRef .tc main_arg2) = arr S4096x16x128 fun i j k => (s.k i j k : EReal)
  hkr : V (Proc.devRef .tc main_arg3) = arr S4096x64 fun i j k => (s.kr i j k : EReal)
  hv : V (Proc.devRef .tc main_arg4) = arr S4096x16x128 fun i j k => (s.v i j k : EReal)
  hdO : V (Proc.devRef .tc main_arg6) = arr S4096x16x128 fun i j k => (s.dO i j k : EReal)
  hcs : Host.cos (F := Ideal) (φ := .f32) (res_main_v15 V) = arr S4096x32 fun i j k => (s.cs i j k : EReal)
  hsn : Host.sin (F := Ideal) (φ := .f32) (res_main_v15 V) = arr S4096x32 fun i j k => (s.sn i j k : EReal)

section
variable {V : Valuation τ sig (Elt Ideal)} {s : Src} (a : Args V s)
include a

theorem v18 : res_main_v18 V = arr S4096x1x32 fun i _ k => (s.cs i k 0 : EReal) := by
  unfold res_main_v18
  rw [a.hcs, arr_bid_02 (n := 4096) (l := 32)]
theorem v19 : res_main_v19 V = arr S4096x1x32 fun i _ k => (s.sn i k 0 : EReal) := by
  unfold res_main_v19
  rw [a.hsn, arr_bid_02 (n := 4096) (l := 32)]
theorem v20 : res_main_v20 V = arr S4096x16x32 fun i j k => (s.r i j k : EReal) := by
  unfold res_main_v20
  rw [a.hr, arr_slice3 (n := 4096) (m := 16) (l := 64) (n' := 4096) (m' := 16) (l' := 32)]
  simp only [zero_add]
theorem v21 : res_main_v21 V = arr S4096x16x32 fun i j k => (s.r i j (32 + k) : EReal) := by
  unfold res_main_v21
  rw [a.hr, arr_slice3 (n := 4096) (m := 16) (l := 64) (n' := 4096) (m' := 16) (l' := 32)]
  simp only [zero_add]
/-- The rotated query. -/
theorem v32 : res_main_v32 V = arr S4096x16x64 fun i h k => (s.qr i h k : EReal) := by
  unfold res_main_v32
  rw [v18 a, v19 a, v20 a, v21 a]
  rw [concat2_eq (n := 4096) (m := 16) (l₁ := 32) (l₂ := 32) (l := 64)
    (f := fun i h k => ((s.r i h k * s.cs i k 0 - s.r i h (32 + k) * s.sn i k 0 : ℝ) : EReal))
    (g := fun i h k => ((s.r i h (32 + k) * s.cs i k 0 + s.r i h k * s.sn i k 0 : ℝ) : EReal)) ?hx ?hy]
  case hx => simp only [arr_bid_mid (n := 4096) (m := 16) (l := 32), arr_mul, arr_sub, cmul, csub]
  case hy => simp only [arr_bid_mid (n := 4096) (m := 16) (l := 32), arr_mul, arr_add, cmul, cadd]
  simp only [cite, Src.qr]
omit a in
theorem v37 : res_main_v37 V = arr S_ fun _ _ _ => ((√192 : ℝ) : EReal) := by
  unfold res_main_v37
  show (Host.sqrt _ : FVec Ideal S_ .f32) = _
  rw [arr_const, arr_hsqrt, k192, csqrt (by norm_num)]
/-- The masked scores. -/
theorem v43 : res_main_v43_0 V = arr S16x4096x4096 fun h i j => s.sc h i j := by
  unfold res_main_v43_0 res_main_v43_1
  rw [v32 a, v37, a.hq, a.hk, a.hkr]
  show (select _ (Host.divf (addf _ _) _) (broadcastInDim S16x4096x4096 ![] bcast_S_S16x4096x4096 (constant (F := Ideal) S_ .f32 0xFF800000#32)) : FVec Ideal S16x4096x4096 .f32) = _
  simp only [id, dot_S4096x16x128_S4096x16x128_S16x4096x4096_2_2_0_0_1_1, dot_S4096x64_S4096x16x64_S4096x4096x16_1_2_0_01_n_n, arr_const,
    arr_dot_220011 (n := 4096) (m := 4096) (b := 16) (K := 128), arr_dot_12001 (n := 4096) (m := 4096) (b := 16) (K := 64),
    arr_tr_210 (n := 4096) (m := 4096) (l := 16), arr_add, arr_bid0, arr_hdiv, kbot, cmul, csum, cadd, cdiv _ Src.root_pos.ne']
  rw [arr_causal (n := 16) (N := 4096) _ _ (by norm_num)]
  simp only [Src.sc, Src.S, Src.dot]
/-- The row's reference value is a real number. -/
theorem exists_M : ∃ M : ℕ → ℕ → ℕ → ℝ,
    maximumf (F := Ideal) (φ := .f32) (broadcastInDim S16x4096 ![] bcast_S_S16x4096 (constant (F := Ideal) S_ .f32 0xFF800000#32)) (res_main_v44 V)
      = arr S16x4096 fun h i k => (M h i k : EReal) := by
  have h44 : ∃ M : ℕ → ℕ → ℕ → ℝ, res_main_v44 V = arr S16x4096 fun h i k => (M h i k : EReal) := by
    refine exists_real (s := S16x4096) (Nat.le_succ 2) _ fun i => ?_
    unfold res_main_v44
    rw [v43 a, arr_const, kbot]
    exact hmax_real (n := 16) (m := 4096) (l := 4096) (φ := .f32) (fun h i j => s.sc h i j) (fun _ _ _ => ⊥)
      reducesTo_S16x4096x4096_S16x4096_d2 h_S_ rfl (by norm_num)
      (fun h i _ _ => ⟨s.S h i 0, by unfold Src.sc; rw [if_pos (Nat.zero_le i)]⟩)
      (fun h i j _ _ _ => by unfold Src.sc; split <;> simp) i
  obtain ⟨M, hM⟩ := h44
  refine ⟨M, ?_⟩
  rw [hM, arr_const, kbot, arr_bid0, arr_max]
  exact arr2_ext fun _ _ _ _ => max_eq_right bot_le

variable {M : ℕ → ℕ → ℕ → ℝ}
  (hM : maximumf (F := Ideal) (φ := .f32) (broadcastInDim S16x4096 ![] bcast_S_S16x4096 (constant (F := Ideal) S_ .f32 0xFF800000#32)) (res_main_v44 V)
      = arr S16x4096 fun h i k => (M h i k : EReal))
include hM

theorem v64 : res_main_v64 V = arr S16x4096x4096 fun h i j => (s.E M h i j : EReal) := by
  unfold res_main_v64
  rw [hM, v43 a]
  show (Host.exp (subf _ _) : FVec Ideal S16x4096x4096 .f32) = _
  simp only [arr_bid_01 (n := 16) (m := 4096) (l := 1), arr_bid_last (n := 16) (m := 4096) (l := 4096), arr_sub, arr_hexp, Src.exp_sc]
theorem v66 : res_main_v66 V = arr S16x4096x1 fun h i _ => (s.L M h i : EReal) := by
  unfold res_main_v66
  rw [v64 a hM]
  simp only [arr_const, arr_hlastsum (n := 16) (m := 4096) (l := 4096), arr_bid_01 (n := 16) (m := 4096) (l := 1), Ideal.ofBits_zero_f32, zero_add, csum]
  rfl
theorem v68 : res_main_v68 V = arr S16x4096x4096 fun h i j => (s.P M h i j : EReal) := by
  unfold res_main_v68
  rw [v64 a hM, v66 a hM]
  show (Host.divf _ _ : FVec Ideal S16x4096x4096 .f32) = _
  simp only [arr_bid_last (n := 16) (m := 4096) (l := 4096), arr_hdiv, cdiv _ (s.L_pos M _ _).ne']
  rfl
omit hM in
theorem v74 : res_main_v74 V = arr S16x128x4096 fun h k i => (s.dO i h k : EReal) := by
  unfold res_main_v74
  rw [a.hdO, arr_tr_120 (n := 4096) (m := 16) (l := 128)]
omit hM in
theorem v75 : res_main_v75 V = arr S16x4096x4096 fun h i j => (s.D h i j : EReal) := by
  unfold res_main_v75
  rw [v74 a, a.hv]
  simp only [dot_S16x128x4096_S4096x16x128_S16x4096x4096_1_2_2_0_0_1, arr_dot_122001 (n := 4096) (m := 4096) (b := 16) (K := 128), cmul, csum]
  rfl
/-- The gradient of the scores. -/
theorem v92 : res_main_v92 V = arr S16x4096x4096 fun h i j => (s.G M h i j : EReal) := by
  unfold res_main_v92 res_main_v43_1
  rw [v64 a hM, v66 a hM, v75 a, v37]
  show (Host.divf (select _ (mulf (addf (Host.divf _ _) (broadcastInDim S16x4096x4096 ![0, 1] _ (Host.reduceAdd (Host.negf (shapeCast S16x4096x1
    (Host.reduceAdd (s := S16x4096x4096) (φ := .f32) (mulf (mulf _ _) _) _ reducesTo_S16x4096x4096_S16x4096_d2 h_S_) _)) _ reducesTo_S16x4096x1_S16x4096_d2 h_S_))) _) _) _ : FVec Ideal S16x4096x4096 .f32) = _
  simp only [arr_const, arr_bid0, arr_mul, arr_hdiv, arr_add, arr_hneg, arr_bid_last (n := 16) (m := 4096) (l := 4096), arr_bid_01 (n := 16) (m := 4096) (l := 4096),
    arr_hlastsum (n := 16) (m := 4096) (l := 4096), arr_hlastsum (n := 16) (m := 4096) (l := 1), arr_cast_last (n := 16) (m := 4096), Ideal.ofBits_zero_f32, zero_add,
    Finset.sum_range_one, kone, cmul, cdiv _ (s.L_pos M _ _).ne', cdiv _ (mul_pos (s.L_pos M _ _) (s.L_pos M _ _)).ne', csum, cneg, cadd]
  rw [arr_causal (n := 16) (N := 4096) _ _ (by norm_num), arr_hdiv]
  refine arr3_ext fun h i j _ _ _ => ?_
  show Ideal.div (if j ≤ i then ((_ : ℝ) : EReal) else ((0 : ℝ) : EReal)) _ = _
  rw [cite, cdiv _ Src.root_pos.ne']
  rfl
theorem v93 : res_main_v93 V = arr S4096x4096x16 fun j i h => (s.G M h i j : EReal) := by
  unfold res_main_v93
  rw [v92 a hM, arr_tr_210 (n := 16) (m := 4096) (l := 4096)]
theorem v94 : res_main_v94 V = arr S4096x16x64 fun i h k => (s.back M h i k : EReal) := by
  unfold res_main_v94
  rw [v93 a hM, a.hkr]
  simp only [dot_S4096x4096x16_S4096x64_S4096x16x64_0_0_12_1_n_n, arr_dot_00121 (n := 4096) (m := 64) (b := 16) (K := 4096), cmul, csum]
  rfl
theorem v100 : res_main_v100 V = arr S4096x16x32 fun i h k => (s.back M h i k : EReal) := by
  unfold res_main_v100
  rw [v94 a hM, arr_slice3 (n := 4096) (m := 16) (l := 64) (n' := 4096) (m' := 16) (l' := 32)]
  simp only [zero_add]
theorem v101 : res_main_v101 V = arr S4096x16x32 fun i h k => (s.back M h i (32 + k) : EReal) := by
  unfold res_main_v101
  rw [v94 a hM, arr_slice3 (n := 4096) (m := 16) (l := 64) (n' := 4096) (m' := 16) (l' := 32)]
  simp only [zero_add]
end

variable (m : (ℓ : Loc nD τ sig) → Buf (Elt Ideal) ℓ) (ρ : Dev nD → PrngReg)

/-- The run, its results by their formulas. -/
theorem run_at {s : Dev nD → Src} (h : ∀ c, Args (StableHlo.launchContents m c) (s c)) : ∃ M : Dev nD → ℕ → ℕ → ℕ → ℝ,
    θ_run defs (onTc (τ := τ) (main (F := Ideal))) ⟨m, fun _ => 0, ρ⟩ fun r => ∀ c : Dev nD,
      r.2.mem ((c.tc : Thread nD τ).loc main_v117) = arr S4096x4096 (fun i k _ => ((s c).dq (M c) (k / 256) i (k % 256) : EReal))
      ∧ r.2.mem ((c.tc : Thread nD τ).loc main_v120) = arr S4096x4096 (fun i k _ => ((s c).dkv (M c) (k / 256) i (k % 256) : EReal))
      ∧ r.2.mem ((c.tc : Thread nD τ).loc main_v121) = arr S4096x128 (fun i k _ => ((s c).dkr (M c) i k : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  choose M hM using fun c => exists_M (h c)
  refine ⟨M, (θ_run defs _ _).mono (fun r hr c => ⟨(hr c).1.trans ?_, (hr c).2.1.trans ?_, (hr c).2.2.1.trans ?_, (hr c).2.2.2⟩) (Value.run m ρ)⟩
  · have a := h c
    have e := hM c
    rw [v92 a e, v101 a e, v100 a e, v19 a, v18 a, a.hk]
    rw [concat2_eq (n := 4096) (m := 16) (l₁ := 128) (l₂ := 64) (l := 192) (f := fun i h k => ((∑ j ∈ range 4096, (s c).G (M c) h i j * (s c).k j h k : ℝ) : EReal))
      (g := fun i h k => ((s c).rope (M c) h i k : EReal)) ?hx ?hy, arr_sitofp_zero, arr_pad3 (n := 4096) (m := 16) (l := 192), arr_merge (n := 4096) (b := 16) (c := 256) (hbc := rfl), arr_truncf]
    case hx =>
      simp only [dot_S16x4096x4096_S4096x16x128_S16x4096x128_2_0_1_2_0_1, arr_dot_201201 (n := 4096) (m := 128) (b := 16) (K := 4096), cmul, csum,
        arr_tr_102 (n := 16) (m := 4096) (l := 128)]
    case hy =>
      rw [concat2_eq (n := 4096) (m := 16) (l₁ := 32) (l₂ := 32) (l := 64)
        (f := fun i h k => (((s c).back (M c) h i (32 + k) * (s c).sn i k 0 + (s c).back (M c) h i k * (s c).cs i k 0 : ℝ) : EReal))
        (g := fun i h k => (((s c).back (M c) h i (32 + k) * (s c).cs i k 0 + -(s c).back (M c) h i k * (s c).sn i k 0 : ℝ) : EReal)) ?hz ?hw]
      case hz => simp only [arr_bid_mid (n := 4096) (m := 16) (l := 32), arr_mul, arr_add, cmul, cadd]
      case hw => simp only [arr_bid_mid (n := 4096) (m := 16) (l := 32), arr_neg, arr_mul, arr_add, cmul, cadd, cneg]
      simp only [cite, Src.rope]
    rw [← EReal.coe_zero]
    simp only [cite, Src.dq]
  · have a := h c
    have e := hM c
    rw [v92 a e, v68 a e, v74 a, a.hq]
    rw [concat2_eq (n := 4096) (m := 16) (l₁ := 128) (l₂ := 128) (l := 256) (f := fun i h k => ((∑ j ∈ range 4096, (s c).G (M c) h j i * (s c).q j h k : ℝ) : EReal))
      (g := fun i h k => ((∑ j ∈ range 4096, (s c).dO j h k * (s c).P (M c) h j i : ℝ) : EReal)) ?hx' ?hy', arr_merge (n := 4096) (b := 16) (c := 256) (hbc := rfl), arr_truncf]
    case hx' =>
      simp only [dot_S16x4096x4096_S4096x16x128_S16x4096x128_1_0_2_2_0_1, arr_dot_102201 (n := 4096) (m := 128) (b := 16) (K := 4096), cmul, csum,
        arr_tr_102 (n := 16) (m := 4096) (l := 128)]
    case hy' =>
      simp only [dot_S16x128x4096_S16x4096x4096_S16x128x4096_2_1_1_2_0_0, arr_dot_211200 (n := 128) (m := 4096) (b := 16) (K := 4096), cmul, csum,
        arr_tr_201 (n := 16) (m := 128) (l := 4096)]
    simp only [cite, Src.dkv]
  · have a := h c
    have e := hM c
    rw [v93 a e, v32 a]
    simp only [dot_S4096x4096x16_S4096x16x64_S4096x64_12_01_0_2_n_n, arr_dot_120102 (n := 4096) (m := 64) (K := 4096) (L := 16), cmul, csum]
    rw [arr_sitofp_zero, arr_pad2 (n := 4096) (m := 64), ← EReal.coe_zero]
    refine arr2_ext fun i k _ _ => ?_
    show (if 0 ≤ k ∧ k - 0 < 64 then _ else _) = _
    unfold Src.dkr
    by_cases hk : k < 64
    · rw [if_pos ⟨Nat.zero_le k, hk⟩, if_pos hk]; rfl
    · rw [if_neg (fun h => hk h.2), if_neg hk]

/-- The reference's frame claim. -/
theorem frame : θ_run defs (onTc (τ := τ) (main (F := Ideal))) ⟨m, fun _ => 0, ρ⟩ fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0 :=
  (θ_run defs _ _).mono (fun r h => ⟨fun c => (h c).2.2.2, sem_eq_zero_of_no_sems (by decide) r.2⟩) (Value.run m ρ)

end Cert.Reference6Ideal.Attention
-- ==== Proof.Attention.lean ====
/-
  The attention gradient: the claims about this call.
-/
module

public import proofs.«01_k».proof.Defs
public import proofs.«01_k».proof.Proof.AttentionReads
public import proofs.«01_k».proof.Proof.AttentionReference
public import proofs.«01_k».proof.Proof.Gen.Kernel6.Frame

@[expose] public section

noncomputable section

open Idealize.ShloMosaic hiding ix1 ix2 ix3
open Idealize.ShloMosaic.TcCoe Idealize.SL.Sem
open Cert.Arr

namespace Cert.Attention

/-- The facts the precondition's text states. -/
instance preFacts : Cert.Pre_attention_finite.Facts where
  bcast_S_S4096x16x128 := by decide +kernel
  bcast_S_S4096x16x64 := by decide +kernel
  bcast_S_S4096x64 := by decide +kernel

/-- The two programs' results are equal where the arguments are finite. -/
theorem value : Cert.algebraic_Kernel6Ideal_Reference6Ideal_pre_attention_finite := by
  intro m ρ m' ρ' hpre hargs
  have key : ∀ c : Dev Cert.Kernel6Ideal.nD, ∃ s : Src, ∃ M : ℕ → ℕ → ℕ → ℝ, Reads m c (s.inp M)
      ∧ Cert.Reference6Ideal.Attention.Args (StableHlo.launchContents m' c) s := by
    intro c
    obtain ⟨a0, a1, a2, a3, a4, a5, a6⟩ := hargs c
    obtain ⟨f0, f1, f2, f3, f4, f6⟩ := hpre c
    obtain ⟨q, hq⟩ := exists_real (s := ⟨3, ![4096, 16, 128]⟩) le_rfl (m ((c.tc : Thread Cert.Kernel6Ideal.nD Cert.Kernel6Ideal.τ).loc Cert.Kernel6Ideal.main_arg0)) (finite_of_olt _ _ _ f0)
    obtain ⟨r, hr⟩ := exists_real (s := ⟨3, ![4096, 16, 64]⟩) le_rfl (m ((c.tc : Thread Cert.Kernel6Ideal.nD Cert.Kernel6Ideal.τ).loc Cert.Kernel6Ideal.main_arg1)) (finite_of_olt _ _ _ f1)
    obtain ⟨k, hk⟩ := exists_real (s := ⟨3, ![4096, 16, 128]⟩) le_rfl (m ((c.tc : Thread Cert.Kernel6Ideal.nD Cert.Kernel6Ideal.τ).loc Cert.Kernel6Ideal.main_arg2)) (finite_of_olt _ _ _ f2)
    obtain ⟨kr, hkr⟩ := exists_real (s := ⟨2, ![4096, 64]⟩) (Nat.le_succ 2) (m ((c.tc : Thread Cert.Kernel6Ideal.nD Cert.Kernel6Ideal.τ).loc Cert.Kernel6Ideal.main_arg3)) (finite_of_olt _ _ _ f3)
    obtain ⟨v, hv⟩ := exists_real (s := ⟨3, ![4096, 16, 128]⟩) le_rfl (m ((c.tc : Thread Cert.Kernel6Ideal.nD Cert.Kernel6Ideal.τ).loc Cert.Kernel6Ideal.main_arg4)) (finite_of_olt _ _ _ f4)
    obtain ⟨dO, hdO⟩ := exists_real (s := ⟨3, ![4096, 16, 128]⟩) le_rfl (m ((c.tc : Thread Cert.Kernel6Ideal.nD Cert.Kernel6Ideal.τ).loc Cert.Kernel6Ideal.main_arg6)) (finite_of_olt _ _ _ f6)
    have hang : Reals (angle (m ((c.tc : Thread Cert.Kernel6Ideal.nD Cert.Kernel6Ideal.τ).loc Cert.Kernel6Ideal.main_arg5))) := angle_real (n := 4096) (m := 32) _ _ _ _ _ _ _ _ _
    obtain ⟨cs, hcs⟩ := exists_real (s := ⟨2, ![4096, 32]⟩) (Nat.le_succ 2) _ hang.cos
    obtain ⟨sn, hsn⟩ := exists_real (s := ⟨2, ![4096, 32]⟩) (Nat.le_succ 2) _ hang.sin
    let s : Src := ⟨q, r, k, kr, v, dO, cs, sn⟩
    have a : Args m c s := ⟨hq, hr, hk, hkr, hv, hdO, hcs, hsn⟩
    obtain ⟨M, hM⟩ := exists_M m c a
    exact ⟨s, M, reads m c a hM, ⟨a0.trans hq, a1.trans hr, a2.trans hk, a3.trans hkr, a4.trans hv, a6.trans hdO,
      (congrArg cosines a5).trans hcs,
      (congrArg sines a5).trans hsn⟩⟩
  choose s M hX hr using key
  obtain ⟨M', hrun⟩ := Cert.Reference6Ideal.Attention.run_at m' ρ' hr
  refine ⟨_, _, _, (θ_run Cert.Kernel6Ideal.defs _ _).mono (fun r h c => h.1 c) (run_values m (fun c => (s c).inp (M c)) ρ hX), ?_⟩
  refine (θ_run Cert.Reference6Ideal.defs _ _).mono (fun r h c => ⟨(h c).1.trans ?_, (h c).2.1.trans ?_, (h c).2.2.1.trans ?_, (h c).2.2.2⟩) hrun
  · refine arr2_ext fun i j hi hj => ?_
    show _ = ((s c).inp (M c)).dq (j / 256) i (j % 256)
    rw [dq_eq _ _ _ (Nat.mod_lt _ (by decide)), dq_indep _ (M' c) (M c)]
  · refine arr2_ext fun i j hi hj => ?_
    show _ = ((s c).inp (M c)).dkv (j / 256) i (j % 256)
    rw [dkv_eq _ _ _ (Nat.mod_lt _ (by decide)), dkv_indep _ (M' c) (M c)]
  · refine arr2_ext fun i j hi hj => ?_
    show _ = ∑ h ∈ Finset.range 16, ((s c).inp (M c)).dkr h i j
    rw [dkr_eq _ _ hj, dkr_indep _ (M' c) (M c)]

end Cert.Attention
end
-- ==== Proof.AttentionForwardProgram.lean ====
/-
  The forward attention kernel's body as a short program over repeated pieces: the keys put together, then for each of the eight
  blocks of 512 queries its scores against its own keys (masked) and against all earlier keys, the softmax, and the block's three
  results stored. The printed body is this program (`body_eq`).
-/
module

public import proofs.«01_k».proof.Proof.Gen.Kernel9Ideal.Frame.Runs
public import proofs.«01_k».proof.Proof.AttentionSteps

@[expose] public section

noncomputable section

open Idealize.ShloMosaic Idealize.SL.Sem

namespace Cert.AttentionForward

open Cert.Kernel9Ideal
open Cert.Kernel9Ideal.Facts₀ Cert.Kernel9Ideal.Facts

/-- Programs of the body. -/
abbrev Pr := Prog (TpuEff nD τ sig (Elt Ideal) Λ₀ .tc) PUnit

/-- The shape of `n` rows and `m` columns. -/
abbrev Sh (n m : ℕ) : Shape := ⟨2, ![n, m]⟩

/-- A box of `n` rows from `a` on and `m` columns from `b` on lies inside `N` rows and `M` columns. -/
theorem box {N M n m a b : ℕ} (ha : a + n ≤ N) (hb : b + m ≤ M) : ∀ x, (![a, b] : Fin 2 → ℕ) x + (![n, m] : Fin 2 → ℕ) x ≤ (Sh N M).size x := by
  intro x; fin_cases x <;> assumption

/-- The body's eight buffers: queries, keys and values, shared keys, gate; the three results; the keys put together. -/
structure Bufs where
  q : Memref sig .tc .vmem S4096x256 .bf16
  kv : Memref sig .tc .vmem S4096x256 .bf16
  kr : Memref sig .tc .vmem S4096x128 .bf16
  z : Memref sig .tc .vmem S4096x128 .f32
  o : Memref sig .tc .vmem S4096x128 .f32
  o2 : Memref sig .tc .vmem S4096x128 .bf16
  lse : Memref sig .tc .vmem S4096x128 .f32
  kc : Memref sig .tc .vmem S4096x256 .bf16
  ho2 : o2.IsWhole
  hkc : kc.IsWhole

/-- What the operations on the `a` keys before a block need of their shapes. -/
structure Past (a : ℕ) : Prop where
  h256 : 0 < (Sh a 256).numel
  h128 : 0 < (Sh a 128).numel
  c128 : (Sh a 128).ShapeCasts (Sh a 128)
  bc : (Sh 512 1).Broadcasts (Sh 512 a)
  red : (Sh 512 a).Reduces [1] S512
  qk : DotDims.WF (Sh 512 256) (Sh a 256) (Sh 512 a) [1] [1] [0] [0] [] []
  pv : DotDims.WF (Sh 512 a) (Sh a 128) (Sh 512 128) [1] [0] [0] [1] [] []

theorem past512 : Past 512 := ⟨h_S512x256, h_S512x128, shapeCasts_S512x128_S512x128, broadcasts_S512x1_S512x512, reduces_S512x512_S512,
  dot_S512x256_S512x256_S512x512_1_1_0_0_n_n_wf, dot_S512x512_S512x128_S512x128_1_0_0_1_n_n_wf⟩
theorem past1024 : Past 1024 := ⟨h_S1024x256, h_S1024x128, shapeCasts_S1024x128_S1024x128, broadcasts_S512x1_S512x1024, reduces_S512x1024_S512,
  dot_S512x256_S1024x256_S512x1024_1_1_0_0_n_n_wf, dot_S512x1024_S1024x128_S512x128_1_0_0_1_n_n_wf⟩
theorem past1536 : Past 1536 := ⟨h_S1536x256, h_S1536x128, shapeCasts_S1536x128_S1536x128, broadcasts_S512x1_S512x1536, reduces_S512x1536_S512,
  dot_S512x256_S1536x256_S512x1536_1_1_0_0_n_n_wf, dot_S512x1536_S1536x128_S512x128_1_0_0_1_n_n_wf⟩
theorem past2048 : Past 2048 := ⟨h_S2048x256, h_S2048x128, shapeCasts_S2048x128_S2048x128, broadcasts_S512x1_S512x2048, reduces_S512x2048_S512,
  dot_S512x256_S2048x256_S512x2048_1_1_0_0_n_n_wf, dot_S512x2048_S2048x128_S512x128_1_0_0_1_n_n_wf⟩
theorem past2560 : Past 2560 := ⟨h_S2560x256, h_S2560x128, shapeCasts_S2560x128_S2560x128, broadcasts_S512x1_S512x2560, reduces_S512x2560_S512,
  dot_S512x256_S2560x256_S512x2560_1_1_0_0_n_n_wf, dot_S512x2560_S2560x128_S512x128_1_0_0_1_n_n_wf⟩
theorem past3072 : Past 3072 := ⟨h_S3072x256, h_S3072x128, shapeCasts_S3072x128_S3072x128, broadcasts_S512x1_S512x3072, reduces_S512x3072_S512,
  dot_S512x256_S3072x256_S512x3072_1_1_0_0_n_n_wf, dot_S512x3072_S3072x128_S512x128_1_0_0_1_n_n_wf⟩
theorem past3584 : Past 3584 := ⟨h_S3584x256, h_S3584x128, shapeCasts_S3584x128_S3584x128, broadcasts_S512x1_S512x3584, reduces_S512x3584_S512,
  dot_S512x256_S3584x256_S512x3584_1_1_0_0_n_n_wf, dot_S512x3584_S3584x128_S512x128_1_0_0_1_n_n_wf⟩

/-- The three named constants as the program reads them, and one half. -/
abbrev cMask : EReal := Named.named (F := Ideal) κ "mask" (φ := .f32) 0xF149F2CA#32
abbrev cScaleLog2e : EReal := Named.named (F := Ideal) κ "scale_log2e" (φ := .f32) 0x3DD53B95#32
abbrev cScale : EReal := Named.named (F := Ideal) κ "scale" (φ := .f32) 0x3D93CD3A#32
abbrev cHalf : EReal := Scalar.ofBits (F := Ideal) .f32 0x3F000000#32

/-- A block's scores against its own keys, masked: a key not after the query. -/
def own (q k : FVec Ideal S512x256 .bf16) : FVec Ideal S512x512 .f32 :=
  select (cmpi .sle (iota .tc S512x512 32 [1] iota_S512x512_d1_w32) (iota .tc S512x512 32 [0] iota_S512x512_d0_w32))
    (matmul (φ₁ := .bf16) (φ₂ := .bf16) dot_S512x256_S512x256_S512x512_1_1_0_0_n_n none (shapeCast S512x256 q shapeCasts_S512x256_S512x256) k (constant S512x512 .f32 0x00000000#32))
    (broadcast S512x512 cMask)
/-- A block's scores against the `a` earlier keys. -/
def earlier {a : ℕ} (P : Past a) (q : FVec Ideal S512x256 .bf16) (k : FVec Ideal (Sh a 256) .bf16) : FVec Ideal (Sh 512 a) .f32 :=
  matmul (φ₁ := .bf16) (φ₂ := .bf16) ⟨[1], [1], [0], [0], [], [], P.qk⟩ none (shapeCast S512x256 q shapeCasts_S512x256_S512x256) k (constant (Sh 512 a) .f32 0x00000000#32)
/-- Each row's greatest entry. -/
def rowMax {n : ℕ} (hr : (Sh 512 n).Reduces [1] S512) (s : FVec Ideal (Sh 512 n) .f32) : FVec Ideal S512x1 .f32 :=
  shapeCast S512x1 (multiReduction .maximumf [1] S512 s 0xFF800000#32 hr (.inl rfl) rfl) shapeCasts_S512_S512x1
/-- Each row's sum. -/
def rowSum {n : ℕ} (hr : (Sh 512 n).Reduces [1] S512) (s : FVec Ideal (Sh 512 n) .f32) : FVec Ideal S512x1 .f32 :=
  shapeCast S512x1 (multiReduction .add [1] S512 s 0x00000000#32 hr (.inl rfl) rfl) shapeCasts_S512_S512x1
/-- The exponentials of scores, less each row's number `m`. -/
def expo {n : ℕ} (hb : (Sh 512 1).Broadcasts (Sh 512 n)) (s : FVec Ideal (Sh 512 n) .f32) (m : FVec Ideal S512x1 .f32) : FVec Ideal (Sh 512 n) .f32 :=
  exp2 (mulf (subf s (broadcastTo (Sh 512 n) m hb)) (broadcast (Sh 512 n) cScaleLog2e))
/-- Weights against values. -/
def mix {n : ℕ} (wf : DotDims.WF (Sh 512 n) (Sh n 128) (Sh 512 128) [1] [0] [0] [1] [] []) (hc : (Sh n 128).ShapeCasts (Sh n 128))
    (p : FVec Ideal (Sh 512 n) .f32) (v : FVec Ideal (Sh n 128) .bf16) : FVec Ideal S512x128 .f32 :=
  matmul (φ₁ := .bf16) (φ₂ := .bf16) ⟨[1], [0], [0], [1], [], [], wf⟩ none (truncf .bf16 p bitsLt_bf16_f32) (shapeCast (Sh n 128) v hc) (constant S512x128 .f32 0x00000000#32)
/-- The gated results. -/
def gated (o z : FVec Ideal S512x128 .f32) : FVec Ideal S512x128 .f32 :=
  mulf o (mulf z (addf (mulf (broadcast S512x128 cHalf) (tanh (mulf (broadcast S512x128 cHalf) z))) (broadcast S512x128 cHalf)))
/-- The log-sum-exps, in every column. -/
def logs (m l : FVec Ideal S512x1 .f32) : FVec Ideal S512x128 .f32 :=
  broadcastTo S512x128 (shapeCast S512x1 (addf (mulf m (broadcast S512x1 cScale)) (log l)) shapeCasts_S512x1_S512x1) broadcasts_S512x1_S512x128

variable (B : Bufs)

/-- A block's three results stored. -/
def put (a : ℕ) (ha : a + 512 ≤ 4096) (P : (Rect.unit (s := S4096x128) ![a, 0] S512x128.size (box ha (by decide))).PackedRows (EltTy.packing .bf16))
    (m l : FVec Ideal S512x1 .f32) (acc : FVec Ideal S512x128 .f32) (k : Pr) : Pr := do
  have v33 : FVec Ideal S512x128 .f32 := divf acc (broadcastTo S512x128 l broadcasts_S512x1_S512x128)
  let v34 : Vec Ideal S512x128 .f32 ← Prog.lift (.load B.z (Rect.unit (s := S4096x128) ![a, 0] S512x128.size (box ha (by decide))).toLoadRect (View.loadsAt_vmem h_S512x128))
  let v35 : Vec Ideal S512x128 .f32 ← Prog.lift (.load B.o (Rect.unit (s := S4096x128) ![a, 0] S512x128.size (box ha (by decide))).toLoadRect (View.loadsAt_vmem h_S512x128))
  Prog.lift (.store B.o (Rect.unit (s := S4096x128) ![a, 0] S512x128.size (box ha (by decide))) v33 Finset.univ (View.stores_vmem_bits_univ h_S512x128 rfl) (.inl rfl))
  let v46 : Vec Ideal S512x128 .bf16 ← Prog.lift (.load B.o2 (Rect.unit (s := S4096x128) ![a, 0] S512x128.size (box ha (by decide))).toLoadRect (View.loadsAt_vmem h_S512x128))
  Prog.lift (.store B.o2 (Rect.unit (s := S4096x128) ![a, 0] S512x128.size (box ha (by decide))) (truncf .bf16 (gated v33 v34) bitsLt_bf16_f32) Finset.univ (View.stores_vmem h_S512x128 (B.ho2.storeExact_slice rfl _ P) (fun _ => rfl)) (.inl rfl))
  let v53 : Vec Ideal S512x128 .f32 ← Prog.lift (.load B.lse (Rect.unit (s := S4096x128) ![a, 0] S512x128.size (box ha (by decide))).toLoadRect (View.loadsAt_vmem h_S512x128))
  Prog.lift (.store B.lse (Rect.unit (s := S4096x128) ![a, 0] S512x128.size (box ha (by decide))) (logs m l) Finset.univ (View.stores_vmem_bits_univ h_S512x128 rfl) (.inl rfl))
  k

/-- The first block: no earlier keys. -/
def firstRows (k : Pr) : Pr := do
  let v12 : Vec Ideal S512x256 .bf16 ← Prog.lift (.load B.q (Rect.unit (s := S4096x256) ![0, 0] S512x256.size (box (by decide) (by decide))).toLoadRect (View.loadsAt_vmem h_S512x256))
  let v14 : Vec Ideal S512x256 .bf16 ← Prog.lift (.load B.kc (Rect.unit (s := S4096x256) ![0, 0] S512x256.size (box (by decide) (by decide))).toLoadRect (View.loadsAt_vmem h_S512x256))
  have v20 : FVec Ideal S512x1 .f32 := rowMax reduces_S512x512_S512 (own v12 v14)
  have v25 : FVec Ideal S512x512 .f32 := expo broadcasts_S512x1_S512x512 (own v12 v14) v20
  let v29 : Vec Ideal S512x128 .bf16 ← Prog.lift (.load B.kv (Rect.unit (s := S4096x256) ![0, 128] S512x128.size (box (by decide) (by decide))).toLoadRect (View.loadsAt_vmem h_S512x128))
  put B 0 (by decide) packedbf16_S4096x128_S512x128_0_0 v20 (rowSum reduces_S512x512_S512 v25)
    (mix dot_S512x512_S512x128_S512x128_1_0_0_1_n_n_wf shapeCasts_S512x128_S512x128 v25 v29) k

/-- A later block, `a` keys before it. -/
def rows (a : ℕ) (ha : a + 512 ≤ 4096) (R : Past a) (P : (Rect.unit (s := S4096x128) ![a, 0] S512x128.size (box ha (by decide))).PackedRows (EltTy.packing .bf16))
    (k : Pr) : Pr := do
  let v54 : Vec Ideal S512x256 .bf16 ← Prog.lift (.load B.q (Rect.unit (s := S4096x256) ![a, 0] S512x256.size (box ha (by decide))).toLoadRect (View.loadsAt_vmem h_S512x256))
  let v56 : Vec Ideal S512x256 .bf16 ← Prog.lift (.load B.kc (Rect.unit (s := S4096x256) ![a, 0] S512x256.size (box ha (by decide))).toLoadRect (View.loadsAt_vmem h_S512x256))
  let v63 : Vec Ideal (Sh a 256) .bf16 ← Prog.lift (.load B.kc (Rect.unit (s := S4096x256) ![0, 0] ![a, 256] (box (by omega) (by decide))).toLoadRect (View.loadsAt_vmem R.h256))
  have v67 : FVec Ideal S512x1 .f32 := maximumf (rowMax reduces_S512x512_S512 (own v54 v56)) (rowMax R.red (earlier R v54 v63))
  have v72 : FVec Ideal S512x512 .f32 := expo broadcasts_S512x1_S512x512 (own v54 v56) v67
  let v76 : Vec Ideal S512x128 .bf16 ← Prog.lift (.load B.kv (Rect.unit (s := S4096x256) ![a, 128] S512x128.size (box ha (by decide))).toLoadRect (View.loadsAt_vmem h_S512x128))
  have v83 : FVec Ideal (Sh 512 a) .f32 := expo R.bc (earlier R v54 v63) v67
  let v88 : Vec Ideal (Sh a 128) .bf16 ← Prog.lift (.load B.kv (Rect.unit (s := S4096x256) ![0, 128] ![a, 128] (box (by omega) (by decide))).toLoadRect (View.loadsAt_vmem R.h128))
  put B a ha P v67 (addf (rowSum reduces_S512x512_S512 v72) (rowSum R.red v83))
    (addf (mix dot_S512x512_S512x128_S512x128_1_0_0_1_n_n_wf shapeCasts_S512x128_S512x128 v72 v76) (mix R.pv R.c128 v83 v88)) k

/-- The keys put together: each head's own, then the shared ones. -/
def join (k : Pr) : Pr := do
  let v0 : Vec Ideal S4096x128 .bf16 ← Prog.lift (.load B.kv (Rect.unit (s := S4096x256) ![0, 0] S4096x128.size inb_S4096x256_S4096x128_0_0).toLoadRect (View.loadsAt_vmem h_S4096x128))
  let v2 : Vec Ideal S4096x128 .bf16 ← Prog.lift (.load B.kc (Rect.unit (s := S4096x256) ![0, 0] S4096x128.size inb_S4096x256_S4096x128_0_0).toLoadRect (View.loadsAt_vmem h_S4096x128))
  Prog.lift (.store B.kc (Rect.unit (s := S4096x256) ![0, 0] S4096x128.size inb_S4096x256_S4096x128_0_0) (shapeCast S4096x128 (shapeCast S4096x128 v0 shapeCasts_S4096x128_S4096x128) shapeCasts_S4096x128_S4096x128) Finset.univ (View.stores_vmem h_S4096x128 (B.hkc.storeExact_slice rfl _ packedbf16_S4096x256_S4096x128_0_0) (fun _ => rfl)) (.inl rfl))
  let v5 : Vec Ideal S4096x128 .bf16 ← Prog.lift (.load B.kr (Rect.unit (s := S4096x128) ![0, 0] S4096x128.size inb_S4096x128_S4096x128_0_0).toLoadRect (View.loadsAt_vmem h_S4096x128))
  let v7 : Vec Ideal S4096x128 .bf16 ← Prog.lift (.load B.kc (Rect.unit (s := S4096x256) ![0, 128] S4096x128.size inb_S4096x256_S4096x128_0_128).toLoadRect (View.loadsAt_vmem h_S4096x128))
  Prog.lift (.store B.kc (Rect.unit (s := S4096x256) ![0, 128] S4096x128.size inb_S4096x256_S4096x128_0_128) (shapeCast S4096x128 (shapeCast S4096x128 v5 shapeCasts_S4096x128_S4096x128) shapeCasts_S4096x128_S4096x128) Finset.univ (View.stores_vmem h_S4096x128 (B.hkc.storeExact_slice rfl _ packedbf16_S4096x256_S4096x128_0_128) (fun _ => rfl)) (.inl rfl))
  k

/-- The eight blocks of queries. -/
def allRows (k : Pr) : Pr :=
  firstRows B (rows B 512 (by decide) past512 packedbf16_S4096x128_S512x128_512_0
    (rows B 1024 (by decide) past1024 packedbf16_S4096x128_S512x128_1024_0
    (rows B 1536 (by decide) past1536 packedbf16_S4096x128_S512x128_1536_0
    (rows B 2048 (by decide) past2048 packedbf16_S4096x128_S512x128_2048_0
    (rows B 2560 (by decide) past2560 packedbf16_S4096x128_S512x128_2560_0
    (rows B 3072 (by decide) past3072 packedbf16_S4096x128_S512x128_3072_0
    (rows B 3584 (by decide) past3584 packedbf16_S4096x128_S512x128_3584_0 k)))))))

/-- The whole body. -/
def prog : Pr := join B (allRows B (pure ⟨⟩))

theorem body_eq (i : grid0.Coords) {h1 h2 h3 h4 h5 h7} :
    cc0_flash_fwd (F := Ideal) i B.q h1 B.kv h2 B.kr h3 B.z h4 B.o h5 B.o2 B.ho2 B.lse h7 B.kc B.hkc = prog B := by
  unfold cc0_flash_fwd k0_part12 k0_part1
  rfl

end Cert.AttentionForward
-- ==== Proof.AttentionForwardBlocks.lean ====
/-
  What the pieces of the forward attention's body leave in the buffers. The eight buffers are held with their contents written as
  functions of the coordinates (`St`); each piece takes such a state to another, the one its update (`joinU`, `rowsU`) says.
-/
module

public import proofs.«01_k».proof.Proof.AttentionForwardProgram
public import proofs.«01_k».proof.Proof.Heads

@[expose] public section

noncomputable section

open Idealize.ShloMosaic Idealize.ShloMosaic.TcCoe
open Idealize.SL Idealize.SL.RA Idealize.SL.Sem Idealize.SL.ProofMode
open Idealize.SL.BI (sProp)
open scoped Idealize.SL.BI
open Idealize.SL.BI.BIBase Idealize.SL.BI.Laws
open Cert.Arr Cert.Steps

namespace Cert.AttentionForward

open Cert.Kernel9Ideal
open Cert.Kernel9Ideal.Facts₀ Cert.Kernel9Ideal.Facts

/-- The contents of the eight buffers. -/
structure St where
  (q kv kr z o o2 lse kc : ℕ → ℕ → ℕ → EReal)

/-- The greatest of the first `n` entries. -/
def top (n : ℕ) (f : ℕ → EReal) : EReal := (Finset.univ : Finset (Fin n)).fold max ⊥ fun k => f k.val

/-- Scores, without the mask. -/
def St.sc (s : St) (i j : ℕ) : EReal := 0 + ∑ k ∈ Finset.range 256, s.q i k 0 * s.kc j k 0
/-- Scores of the block of queries from `a` on against its own keys, masked. -/
def St.dg (s : St) (a i j : ℕ) : EReal := if j ≤ i then s.sc (a + i) (a + j) else cMask
/-- The greatest score of a row of that block. -/
def St.mx (s : St) (a i : ℕ) : EReal := max (top 512 (s.dg a i)) (top a (s.sc (a + i)))
/-- The row's weights, against its own keys and against the earlier ones. -/
def St.pd (s : St) (a i j : ℕ) : EReal := Ideal.exp2 ((s.dg a i j - s.mx a i) * cScaleLog2e)
def St.pp (s : St) (a i j : ℕ) : EReal := Ideal.exp2 ((s.sc (a + i) j - s.mx a i) * cScaleLog2e)
/-- The weights' sum, and the weights against the values. -/
def St.l (s : St) (a i : ℕ) : EReal := ∑ j ∈ Finset.range 512, s.pd a i j + ∑ j ∈ Finset.range a, s.pp a i j
def St.acc (s : St) (a i k : ℕ) : EReal :=
  0 + (∑ j ∈ Finset.range 512, s.pd a i j * s.kv (a + j) (128 + k) 0) + (0 + ∑ j ∈ Finset.range a, s.pp a i j * s.kv j (128 + k) 0)

/-- The results of a row: the output, the gated output, the log-sum-exp. -/
def St.oF (s : St) (a i k : ℕ) : EReal := Ideal.div (s.acc a i k) (s.l a i)
def St.o2F (s : St) (a i k : ℕ) : EReal := s.oF a i k * (s.z (a + i) k 0 * (cHalf * Ideal.tanh (cHalf * s.z (a + i) k 0) + cHalf))
def St.lseF (s : St) (a i : ℕ) : EReal := s.mx a i * cScale + Ideal.log (s.l a i)

/-- The results of the block of queries from `a` on. -/
def St.rowsU (a : ℕ) (s : St) : St :=
  { s with
    o := fun i k _ => if a ≤ i ∧ i < a + 512 then s.oF a (i - a) k else s.o i k 0
    o2 := fun i k _ => if a ≤ i ∧ i < a + 512 then s.o2F a (i - a) k else s.o2 i k 0
    lse := fun i k _ => if a ≤ i ∧ i < a + 512 then s.lseF a (i - a) else s.lse i k 0 }
/-- The keys put together. -/
def St.joinU (s : St) : St := { s with kc := fun i k _ => if k < 128 then s.kv i k 0 else s.kr i (k - 128) 0 }

variable (c : Dev nD) (B : Bufs)

/-- The eight buffers with the contents `s`. -/
def held (s : St) : sProp (MT nD τ sig Unit (Elt Ideal) ℕ (UR sig nD τ) ℕ) :=
  iprop(owns (c : Thread nD τ) B.q fullShare (arr S4096x256 s.q : Vec Ideal S4096x256 .bf16)
    ∗ owns (c : Thread nD τ) B.kv fullShare (arr S4096x256 s.kv : Vec Ideal S4096x256 .bf16)
    ∗ owns (c : Thread nD τ) B.kr fullShare (arr S4096x128 s.kr : Vec Ideal S4096x128 .bf16)
    ∗ owns (c : Thread nD τ) B.z fullShare (arr S4096x128 s.z : Vec Ideal S4096x128 .f32)
    ∗ owns (c : Thread nD τ) B.o fullShare (arr S4096x128 s.o : Vec Ideal S4096x128 .f32)
    ∗ owns (c : Thread nD τ) B.o2 fullShare (arr S4096x128 s.o2 : Vec Ideal S4096x128 .bf16)
    ∗ owns (c : Thread nD τ) B.lse fullShare (arr S4096x128 s.lse : Vec Ideal S4096x128 .f32)
    ∗ owns (c : Thread nD τ) B.kc fullShare (arr S4096x256 s.kc : Vec Ideal S4096x256 .bf16))

theorem takeQ (s : St) : Take (fun g : ℕ → ℕ → ℕ → Elt Ideal .bf16 => owns (c : Thread nD τ) B.q fullShare (gar S4096x256 g)) (fun g => held c B { s with q := g }) := by
  unfold held; dsimp only; exact .here _
theorem takeKv (s : St) : Take (fun g : ℕ → ℕ → ℕ → Elt Ideal .bf16 => owns (c : Thread nD τ) B.kv fullShare (gar S4096x256 g)) (fun g => held c B { s with kv := g }) := by
  unfold held; dsimp only; exact .next _ (.here _)
theorem takeKr (s : St) : Take (fun g : ℕ → ℕ → ℕ → Elt Ideal .bf16 => owns (c : Thread nD τ) B.kr fullShare (gar S4096x128 g)) (fun g => held c B { s with kr := g }) := by
  unfold held; dsimp only; exact .next _ (.next _ (.here _))
theorem takeZ (s : St) : Take (fun g : ℕ → ℕ → ℕ → Elt Ideal .f32 => owns (c : Thread nD τ) B.z fullShare (gar S4096x128 g)) (fun g => held c B { s with z := g }) := by
  unfold held; dsimp only; exact .next _ (.next _ (.next _ (.here _)))
theorem takeO (s : St) : Take (fun g : ℕ → ℕ → ℕ → Elt Ideal .f32 => owns (c : Thread nD τ) B.o fullShare (gar S4096x128 g)) (fun g => held c B { s with o := g }) := by
  unfold held; dsimp only; exact .next _ (.next _ (.next _ (.next _ (.here _))))
theorem takeO2 (s : St) : Take (fun g : ℕ → ℕ → ℕ → Elt Ideal .bf16 => owns (c : Thread nD τ) B.o2 fullShare (gar S4096x128 g)) (fun g => held c B { s with o2 := g }) := by
  unfold held; dsimp only; exact .next _ (.next _ (.next _ (.next _ (.next _ (.here _)))))
theorem takeLse (s : St) : Take (fun g : ℕ → ℕ → ℕ → Elt Ideal .f32 => owns (c : Thread nD τ) B.lse fullShare (gar S4096x128 g)) (fun g => held c B { s with lse := g }) := by
  unfold held; dsimp only; exact .next _ (.next _ (.next _ (.next _ (.next _ (.next _ (.here _))))))
theorem takeKc (s : St) : Take (fun g : ℕ → ℕ → ℕ → Elt Ideal .bf16 => owns (c : Thread nD τ) B.kc fullShare (gar S4096x256 g)) (fun g => held c B { s with kc := g }) := by
  unfold held; dsimp only; exact .next _ (.next _ (.next _ (.next _ (.next _ (.next _ (.next _ .last))))))

/-- The weakest precondition the body's triple is about. -/
abbrev W (p : Pr) (Q : PUnit → sProp (MT nD τ sig Unit (Elt Ideal) ℕ (UR sig nD τ) ℕ)) : sProp (MT nD τ sig Unit (Elt Ideal) ℕ (UR sig nD τ) ℕ) :=
  wp frame (wpE (defs₀ (F := Ideal)) Variants.none (c : Thread nD τ) none) Set.univ p Q

/-! ## The operations -/

theorem k0 : Ideal.ofBits .f32 0x00000000#32 = 0 := by simp [Ideal.ofBits, Ideal.ieee]
theorem kBot : Ideal.ofBits .f32 0xFF800000#32 = ⊥ := by simp [Ideal.ofBits, Ideal.ieee]
theorem arr_named (s : Shape) (x : EReal) : broadcast s x = arr s fun _ _ _ => x := rfl
theorem arr_exp2 {s : Shape} {φ : FTy} (f : ℕ → ℕ → ℕ → EReal) : exp2 (F := Ideal) (φ := φ) (arr s f) = arr s fun i j k => Ideal.exp2 (f i j k) := rfl

theorem own_eq (a : ℕ) (s : St) : own (arr S512x256 fun i k _ => s.q (a + i) (0 + k) 0) (arr S512x256 fun i k _ => s.kc (a + i) (0 + k) 0)
    = arr (Sh 512 512) fun i j _ => s.dg a i j := by
  unfold own
  rw [arr_cast_self, arr_const, k0]
  rw [show dot_S512x256_S512x256_S512x512_1_1_0_0_n_n = (⟨[1], [1], [0], [0], [], [], dot_S512x256_S512x256_S512x512_1_1_0_0_n_n_wf⟩ : DotDims _ _ _) from rfl, arr_matmul_nt]
  funext y
  have h0 : (y 0).val < 512 := (y 0).isLt
  have h1 : (y 1).val < 512 := (y 1).isLt
  show Scalar.select (IntOp.cmpi .sle (BitVec.ofNat 32 (0 * 512 + (y 1).val)) (BitVec.ofNat 32 (0 * 512 + (y 0).val)))
      (0 + ∑ k ∈ Finset.range 256, s.q (a + (y 0).val) (0 + k) 0 * s.kc (a + (y 1).val) (0 + k) 0) cMask
    = if (y 1).val ≤ (y 0).val then s.sc (a + (y 0).val) (a + (y 1).val) else cMask
  rw [WordCmp.cmpi_sle_of_lt (by simp; omega) (by simp; omega)]
  have e : ∀ z : ℕ, z < 512 → (BitVec.ofNat 32 (0 * 512 + z)).toNat = z := by intro z hz; simp; omega
  rw [e _ h0, e _ h1]
  simp only [Nat.zero_add]
  by_cases hh : (y 1).val ≤ (y 0).val
  · rw [if_pos hh, decide_eq_true hh]; rfl
  · rw [if_neg hh, decide_eq_false hh]; rfl

theorem earlier_eq {a : ℕ} (R : Past a) (s : St) : earlier R (arr S512x256 fun i k _ => s.q (a + i) (0 + k) 0) (arr (Sh a 256) fun i k _ => s.kc (0 + i) (0 + k) 0)
    = arr (Sh 512 a) fun i j _ => s.sc (a + i) j := by
  unfold earlier
  rw [arr_cast_self, arr_const, k0, arr_matmul_nt]
  simp only [Nat.zero_add]
  rfl

theorem rowMax_eq {n : ℕ} (hr : (Sh 512 n).Reduces [1] S512) (f : ℕ → ℕ → ℕ → EReal) :
    rowMax hr (arr (Sh 512 n) f) = arr S512x1 fun i _ _ => top n fun j => f i j 0 := by
  unfold rowMax
  have h : multiReduction (F := Ideal) (φ := .f32) .maximumf [1] S512 (arr (Sh 512 n) f) 0xFF800000#32 hr (.inl rfl) rfl = arr S512 fun i _ _ => top n fun j => f i j 0 := by
    funext j
    refine (Ideal.multiReduction_maximumf_single _ _ hr _ _ j).trans ?_
    show (Finset.univ : Finset (Fin n)).fold max (Ideal.ofBits .f32 0xFF800000#32) (fun k => f (j 0).val k.val 0) = _
    rw [kBot]
    rfl
  rw [h, arr_cast_col]

theorem rowSum_eq {n : ℕ} (hr : (Sh 512 n).Reduces [1] S512) (f : ℕ → ℕ → ℕ → EReal) :
    rowSum hr (arr (Sh 512 n) f) = arr S512x1 fun i _ _ => ∑ j ∈ Finset.range n, f i j 0 := by
  unfold rowSum
  rw [arr_rowsum, arr_cast_col]

theorem expo_eq {n : ℕ} (hb : (Sh 512 1).Broadcasts (Sh 512 n)) (f g : ℕ → ℕ → ℕ → EReal) :
    expo hb (arr (Sh 512 n) f) (arr S512x1 g) = arr (Sh 512 n) fun i j _ => Ideal.exp2 ((f i j 0 - g i 0 0) * cScaleLog2e) := by
  unfold expo
  rw [arr_spread_col, arr_sub, arr_named, arr_mul, arr_exp2]
  exact arr2_ext fun _ _ _ _ => rfl

theorem mix_eq {n : ℕ} {wf hc} (f g : ℕ → ℕ → ℕ → EReal) :
    mix (n := n) wf hc (arr (Sh 512 n) f) (arr (Sh n 128) g) = arr S512x128 fun i k _ => 0 + ∑ j ∈ Finset.range n, f i j 0 * g j k 0 := by
  unfold mix
  rw [arr_truncf, arr_cast_self, arr_const, k0, arr_matmul_nn]

theorem gated_eq (f g : ℕ → ℕ → ℕ → EReal) : gated (arr S512x128 f) (arr S512x128 g)
    = arr S512x128 fun i k _ => f i k 0 * (g i k 0 * (cHalf * Ideal.tanh (cHalf * g i k 0) + cHalf)) := funext fun _ => rfl

theorem logs_eq (f g : ℕ → ℕ → ℕ → EReal) : logs (arr S512x1 f) (arr S512x1 g) = arr S512x128 fun i _ _ => f i 0 0 * cScale + Ideal.log (g i 0 0) := by
  unfold logs
  rw [arr_named, arr_mul]
  show broadcastTo S512x128 (shapeCast S512x1 (addf (F := Ideal) (φ := .f32) (arr S512x1 _) (arr S512x1 fun i j k => Ideal.log (g i j k))) _) _ = _
  rw [arr_add, arr_cast_self, arr_spread_col]

/-! ## The pieces -/

theorem put_spec {a : ℕ} (ha : a + 512 ≤ 4096) (P) (s : St) {m l : FVec Ideal S512x1 .f32} {acc : FVec Ideal S512x128 .f32}
    (hm : m = arr S512x1 fun i _ _ => s.mx a i) (hl : l = arr S512x1 fun i _ _ => s.l a i) (hacc : acc = arr S512x128 fun i k _ => s.acc a i k)
    {k : Pr} {Q} (h : held c B (s.rowsU a) ⊢ W c k Q) : held c B s ⊢ W c (put B a ha P m l acc k) Q := by
  have ho : divf acc (broadcastTo S512x128 l broadcasts_S512x1_S512x128) = arr S512x128 fun i k _ => s.oF a i k := by
    rw [hl, hacc, arr_spread_col, arr_div]; rfl
  unfold put
  refine ld_of _ _ _ _ (takeZ c B s) s.z ?_
  refine ld_of _ _ _ _ (takeO c B s) s.o ?_
  refine st_of _ _ _ _ (takeO c B s) s.o (fun i k _ => s.oF a i k) (s.rowsU a).o ho ?_ ?_
  · intro i j hi hj
    show _ = if a ≤ i ∧ i < a + 512 then s.oF a (i - a) j else s.o i j 0
    by_cases hc : a ≤ i ∧ i < a + 512
    · rw [if_pos (by omega), if_pos hc, Nat.sub_zero]
    · rw [if_neg (by omega), if_neg hc]
  refine ld_of _ _ _ _ (takeO2 c B { s with o := (s.rowsU a).o }) s.o2 ?_
  refine st_of _ _ _ _ (takeO2 c B { s with o := (s.rowsU a).o }) s.o2 (fun i k _ => s.o2F a i k) (s.rowsU a).o2 ?_ ?_ ?_
  · refine (congrArg (fun v => truncf (F := Ideal) (φ := .f32) .bf16 (gated v (arr S512x128 fun i k _ => s.z (a + i) (0 + k) 0)) bitsLt_bf16_f32) ho).trans ?_
    rw [gated_eq, arr_truncf]
    simp only [Nat.zero_add]
    rfl
  · intro i j hi hj
    show _ = if a ≤ i ∧ i < a + 512 then s.o2F a (i - a) j else s.o2 i j 0
    by_cases hc : a ≤ i ∧ i < a + 512
    · rw [if_pos (by omega), if_pos hc, Nat.sub_zero]
    · rw [if_neg (by omega), if_neg hc]
  refine ld_of _ _ _ _ (takeLse c B { s with o := (s.rowsU a).o, o2 := (s.rowsU a).o2 }) s.lse ?_
  refine st_of _ _ _ _ (takeLse c B { s with o := (s.rowsU a).o, o2 := (s.rowsU a).o2 }) s.lse (fun i _ _ => s.lseF a i) (s.rowsU a).lse ?_ ?_ h
  · rw [hm, hl, logs_eq]; rfl
  · intro i j hi hj
    show _ = if a ≤ i ∧ i < a + 512 then s.lseF a (i - a) else s.lse i j 0
    by_cases hc : a ≤ i ∧ i < a + 512
    · rw [if_pos (by omega), if_pos hc]
    · rw [if_neg (by omega), if_neg hc]

theorem rows_spec {a : ℕ} (ha : a + 512 ≤ 4096) (R : Past a) (P) (s : St) {k : Pr} {Q} (h : held c B (s.rowsU a) ⊢ W c k Q) : held c B s ⊢ W c (rows B a ha R P k) Q := by
  have ho := own_eq a s
  have he := earlier_eq R s
  have hm : maximumf (rowMax reduces_S512x512_S512 (own (arr S512x256 fun i k _ => s.q (a + i) (0 + k) 0) (arr S512x256 fun i k _ => s.kc (a + i) (0 + k) 0)))
      (rowMax R.red (earlier R (arr S512x256 fun i k _ => s.q (a + i) (0 + k) 0) (arr (Sh a 256) fun i k _ => s.kc (0 + i) (0 + k) 0)))
      = arr S512x1 fun i _ _ => s.mx a i := by
    rw [ho, he, rowMax_eq, rowMax_eq, arr_max]; rfl
  have hd : expo broadcasts_S512x1_S512x512 (own (arr S512x256 fun i k _ => s.q (a + i) (0 + k) 0) (arr S512x256 fun i k _ => s.kc (a + i) (0 + k) 0))
      (arr S512x1 fun i _ _ => s.mx a i) = arr (Sh 512 512) fun i j _ => s.pd a i j := by
    rw [ho]; exact expo_eq _ _ _
  have hp : expo R.bc (earlier R (arr S512x256 fun i k _ => s.q (a + i) (0 + k) 0) (arr (Sh a 256) fun i k _ => s.kc (0 + i) (0 + k) 0))
      (arr S512x1 fun i _ _ => s.mx a i) = arr (Sh 512 a) fun i j _ => s.pp a i j := by
    rw [he]; exact expo_eq _ _ _
  rw [← hm] at hd hp
  unfold rows
  refine ld_of _ _ _ _ (takeQ c B s) s.q ?_
  refine ld_of _ _ _ _ (takeKc c B s) s.kc ?_
  refine ld_of _ _ _ _ (takeKc c B s) s.kc ?_
  refine ld_of _ _ _ _ (takeKv c B s) s.kv ?_
  refine ld_of _ _ _ _ (takeKv c B s) s.kv ?_
  refine put_spec c B ha P s hm ?_ ?_ h
  · refine (congrArg₂ (fun x y => addf (F := Ideal) (φ := .f32) (rowSum reduces_S512x512_S512 x) (rowSum R.red y)) hd hp).trans ?_
    rw [rowSum_eq, rowSum_eq, arr_add]; rfl
  · refine (congrArg₂ (fun x y => addf (F := Ideal) (φ := .f32)
      (mix dot_S512x512_S512x128_S512x128_1_0_0_1_n_n_wf shapeCasts_S512x128_S512x128 x (arr S512x128 fun i k _ => s.kv (a + i) (128 + k) 0))
      (mix R.pv R.c128 y (arr (Sh a 128) fun i k _ => s.kv (0 + i) (128 + k) 0))) hd hp).trans ?_
    rw [mix_eq, mix_eq, arr_add]
    simp only [Nat.zero_add]
    rfl

theorem first_spec (s : St) {k : Pr} {Q} (h : held c B (s.rowsU 0) ⊢ W c k Q) : held c B s ⊢ W c (firstRows B k) Q := by
  have ho := own_eq 0 s
  have hm : rowMax reduces_S512x512_S512 (own (arr S512x256 fun i k _ => s.q (0 + i) (0 + k) 0) (arr S512x256 fun i k _ => s.kc (0 + i) (0 + k) 0))
      = arr S512x1 fun i _ _ => s.mx 0 i := by
    rw [ho, rowMax_eq]
    exact arr2_ext fun i j _ _ => (max_eq_left (show top 0 (s.sc (0 + i)) ≤ top 512 (s.dg 0 i) from bot_le)).symm
  have hd : expo broadcasts_S512x1_S512x512 (own (arr S512x256 fun i k _ => s.q (0 + i) (0 + k) 0) (arr S512x256 fun i k _ => s.kc (0 + i) (0 + k) 0))
      (arr S512x1 fun i _ _ => s.mx 0 i) = arr (Sh 512 512) fun i j _ => s.pd 0 i j := by
    rw [ho]; exact expo_eq _ _ _
  rw [← hm] at hd
  unfold firstRows
  refine ld_of _ _ _ _ (takeQ c B s) s.q ?_
  refine ld_of _ _ _ _ (takeKc c B s) s.kc ?_
  refine ld_of _ _ _ _ (takeKv c B s) s.kv ?_
  refine put_spec c B _ _ s hm ?_ ?_ h
  · refine (congrArg (rowSum reduces_S512x512_S512) hd).trans ?_
    rw [rowSum_eq]
    refine arr2_ext fun i j _ _ => ?_
    show _ = ∑ j ∈ Finset.range 512, s.pd 0 i j + ∑ j ∈ Finset.range 0, s.pp 0 i j
    rw [Finset.sum_range_zero, add_zero]
  · refine (congrArg (fun x => mix dot_S512x512_S512x128_S512x128_1_0_0_1_n_n_wf shapeCasts_S512x128_S512x128 x (arr S512x128 fun i k _ => s.kv (0 + i) (128 + k) 0)) hd).trans ?_
    rw [mix_eq]
    refine arr2_ext fun i j _ _ => ?_
    show _ = 0 + (∑ t ∈ Finset.range 512, s.pd 0 i t * s.kv (0 + t) (128 + j) 0) + (0 + ∑ t ∈ Finset.range 0, s.pp 0 i t * s.kv t (128 + j) 0)
    rw [Finset.sum_range_zero, add_zero, add_zero]

theorem join_spec (s : St) {k : Pr} {Q} (h : held c B s.joinU ⊢ W c k Q) : held c B s ⊢ W c (join B k) Q := by
  unfold join
  refine ld_of _ _ _ _ (takeKv c B s) s.kv ?_
  refine ld_of _ _ _ _ (takeKc c B s) s.kc ?_
  refine st_of _ _ _ _ (takeKc c B s) s.kc (fun i k _ => s.kv i k 0) (fun i k _ => if k < 128 then s.kv i k 0 else s.kc i k 0) ?_ ?_ ?_
  · simp only [shapeCast_self, Nat.zero_add]
  · intro i j hi hj
    by_cases hc : j < 128
    · rw [if_pos (by omega), if_pos hc, Nat.sub_zero, Nat.sub_zero]
    · rw [if_neg (by omega), if_neg hc]
  refine ld_of _ _ _ _ (takeKr c B { s with kc := fun i k _ => if k < 128 then s.kv i k 0 else s.kc i k 0 }) s.kr ?_
  refine ld_of _ _ _ _ (takeKc c B s) (fun i k _ => if k < 128 then s.kv i k 0 else s.kc i k 0) ?_
  refine st_of _ _ _ _ (takeKc c B s) (fun i k _ => if k < 128 then s.kv i k 0 else s.kc i k 0) (fun i k _ => s.kr i k 0) s.joinU.kc ?_ ?_ h
  · simp only [shapeCast_self, Nat.zero_add]
  · intro i j hi hj
    show _ = if j < 128 then _ else _
    by_cases hc : j < 128
    · rw [if_neg (by omega), if_pos hc, if_pos hc]
    · rw [if_pos (by omega), if_neg hc, Nat.sub_zero]

/-- All blocks of queries. -/
def St.allU (s : St) : St :=
  (((((((s.rowsU 0).rowsU 512).rowsU 1024).rowsU 1536).rowsU 2048).rowsU 2560).rowsU 3072).rowsU 3584

theorem prog_spec (s : St) {Q} (h : held c B s.joinU.allU ⊢ Q ⟨⟩) : held c B s ⊢ W c (prog B) Q := by
  refine join_spec c B s <| first_spec c B _ <| rows_spec c B _ _ _ _ <| rows_spec c B _ _ _ _ <| rows_spec c B _ _ _ _ <| rows_spec c B _ _ _ _ <|
    rows_spec c B _ _ _ _ <| rows_spec c B _ _ _ _ <| rows_spec c B _ _ _ _ <| h.trans ?_
  show Q ⟨⟩ ⊢ wp frame (wpE (defs₀ (F := Ideal)) Variants.none (c : Thread nD τ) none) Set.univ (Pure.pure ⟨⟩) Q
  rw [wp_pure]
  iintro X
  imodintro
  iexact X

/-! ## What the body leaves, row by row -/

/-- The block of 512 rows that row `i` lies in. -/
def blockOf (i : ℕ) : ℕ := i / 512 * 512

theorem rowsU_oF (s : St) (a : ℕ) : (s.rowsU a).oF = s.oF := rfl
theorem rowsU_o2F (s : St) (a : ℕ) : (s.rowsU a).o2F = s.o2F := rfl
theorem rowsU_lseF (s : St) (a : ℕ) : (s.rowsU a).lseF = s.lseF := rfl
theorem rowsU_o (s : St) (a i k : ℕ) : (s.rowsU a).o i k 0 = if a ≤ i ∧ i < a + 512 then s.oF a (i - a) k else s.o i k 0 := rfl
theorem rowsU_o2 (s : St) (a i k : ℕ) : (s.rowsU a).o2 i k 0 = if a ≤ i ∧ i < a + 512 then s.o2F a (i - a) k else s.o2 i k 0 := rfl
theorem rowsU_lse (s : St) (a i k : ℕ) : (s.rowsU a).lse i k 0 = if a ≤ i ∧ i < a + 512 then s.lseF a (i - a) else s.lse i k 0 := rfl

/-- Of the eight cases the row's own block is the one that holds. -/
theorem pick (f : ℕ → EReal) (x : EReal) (i : ℕ) (hi : i < 4096) :
    (if 3584 ≤ i ∧ i < 3584 + 512 then f 3584 else if 3072 ≤ i ∧ i < 3072 + 512 then f 3072 else
    if 2560 ≤ i ∧ i < 2560 + 512 then f 2560 else if 2048 ≤ i ∧ i < 2048 + 512 then f 2048 else
    if 1536 ≤ i ∧ i < 1536 + 512 then f 1536 else if 1024 ≤ i ∧ i < 1024 + 512 then f 1024 else
    if 512 ≤ i ∧ i < 512 + 512 then f 512 else if 0 ≤ i ∧ i < 0 + 512 then f 0 else x) = f (blockOf i) := by
  have hb : ∀ a, a ≤ i ∧ i < a + 512 → a % 512 = 0 → blockOf i = a := fun a h h' => by unfold blockOf; omega
  split_ifs with h1 h2 h3 h4 h5 h6 h7 h8
  · rw [hb _ h1 rfl]
  · rw [hb _ h2 rfl]
  · rw [hb _ h3 rfl]
  · rw [hb _ h4 rfl]
  · rw [hb _ h5 rfl]
  · rw [hb _ h6 rfl]
  · rw [hb _ h7 rfl]
  · rw [hb _ h8 rfl]
  · omega

theorem allU_o (s : St) (i k : ℕ) (hi : i < 4096) : s.allU.o i k 0 = s.oF (blockOf i) (i - blockOf i) k := by
  unfold St.allU
  simp only [rowsU_o, rowsU_oF]
  exact pick (fun a => s.oF a (i - a) k) _ i hi
theorem allU_o2 (s : St) (i k : ℕ) (hi : i < 4096) : s.allU.o2 i k 0 = s.o2F (blockOf i) (i - blockOf i) k := by
  unfold St.allU
  simp only [rowsU_o2, rowsU_o2F]
  exact pick (fun a => s.o2F a (i - a) k) _ i hi
theorem allU_lse (s : St) (i k : ℕ) (hi : i < 4096) : s.allU.lse i k 0 = s.lseF (blockOf i) (i - blockOf i) := by
  unfold St.allU
  simp only [rowsU_lse, rowsU_lseF]
  exact pick (fun a => s.lseF a (i - a)) _ i hi

end Cert.AttentionForward
end
-- ==== Proof.AttentionForwardFrame.lean ====
/-
  The forward attention's body at a grid point: with its head's columns in the staging buffers it leaves the head's results.
-/
module

public import proofs.«01_k».proof.Proof.AttentionForwardBlocks
public import Idealize.ShloMosaic.Lib.Claim

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Arr

namespace Cert.AttentionForward

open Cert.Kernel9Ideal Cert.Kernel9Ideal.Gen

/-- The four arrays the kernel reads; of the last it reads the columns from 512 on. -/
structure In where
  (q kv kr z : ℕ → ℕ → ℕ → EReal)

/-- Head `h`'s part of them. -/
def In.at (x : In) (h : ℕ) : St where
  q i k _ := x.q i (h * 256 + k) 0
  kv i k _ := x.kv i (h * 256 + k) 0
  kr i k _ := x.kr i k 0
  z i k _ := x.z i ((4 + h) * 128 + k) 0
  o _ _ _ := 0
  o2 _ _ _ := 0
  lse _ _ _ := 0
  kc _ _ _ := 0

/-- Head `h`'s inputs with the keys put together. -/
def In.hd (x : In) (h : ℕ) : St := (x.at h).joinU
/-- Head `h`'s output, gated output and log-sum-exps. -/
def In.o (x : In) (h i k : ℕ) : EReal := (x.hd h).oF (blockOf i) (i - blockOf i) k
def In.o2 (x : In) (h i k : ℕ) : EReal := (x.hd h).o2F (blockOf i) (i - blockOf i) k
def In.lse (x : In) (h i : ℕ) : EReal := (x.hd h).lseF (blockOf i) (i - blockOf i)

variable (m : (ℓ : Loc nD τ sig) → Buf (Elt Ideal) ℓ) (c : Dev nD)

/-- The blocks the points read are the parts of `x`. -/
structure Reads (x : In) : Prop where
  r0 : ∀ t, iblk m c 0 t = arr S4096x256 (x.at t.val).q
  r1 : ∀ t, iblk m c 1 t = arr S4096x256 (x.at t.val).kv
  r2 : ∀ t, iblk m c 2 t = arr S4096x128 (x.at t.val).kr
  r3 : ∀ t, iblk m c 3 t = arr S4096x128 (x.at t.val).z

/-! ## The pipeline's contents, point by point -/

variable (X : Dev nD → In)

/-- What every point leaves in every window's buffer. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => arr S4096x128 fun i k _ => (X c).o t.val i k
    | ⟨5, _⟩ => arr S4096x128 fun i k _ => (X c).o2 t.val i k
    | ⟨6, _⟩ => arr S4096x128 fun i _ _ => (X c).lse t.val i
  Φ _ := Pipeline.ΦA spec0 c
  q _ := fullShare
  owed _ := 0

theorem A_eq (c : Dev nD) (w : Fin cfg0.W) : (dats m X 0 c).A w = V m c (Pipeline.arrRef spec0 w) := by
    dsimp only [dats]

theorem after0 (t : Fin cfg0.N) : (dats m X 0 c).after 0 t = iblk m c 0 t := by dsimp only [dats]
theorem after1 (t : Fin cfg0.N) : (dats m X 0 c).after 1 t = iblk m c 1 t := by dsimp only [dats]
theorem after2 (t : Fin cfg0.N) : (dats m X 0 c).after 2 t = iblk m c 2 t := by dsimp only [dats]
theorem after3 (t : Fin cfg0.N) : (dats m X 0 c).after 3 t = iblk m c 3 t := by dsimp only [dats]
theorem after4 (t : Fin cfg0.N) : (dats m X 0 c).after 4 t = arr S4096x128 fun i k _ => (X c).o t.val i k := by dsimp only [dats]
theorem after5 (t : Fin cfg0.N) : (dats m X 0 c).after 5 t = arr S4096x128 fun i k _ => (X c).o2 t.val i k := by dsimp only [dats]
theorem after6 (t : Fin cfg0.N) : (dats m X 0 c).after 6 t = arr S4096x128 fun i _ _ => (X c).lse t.val i := by dsimp only [dats]

theorem before0 (t : Fin cfg0.N) (d) : (dats m X 0 c).before 0 t d = iblk m c 0 t := before0_0_of m (dats m X 0 c) (A_eq m X c 0) (after0 m c X) t d
theorem before1 (t : Fin cfg0.N) (d) : (dats m X 0 c).before 1 t d = iblk m c 1 t := before0_1_of m (dats m X 0 c) (A_eq m X c 1) (after1 m c X) t d
theorem before2 (t : Fin cfg0.N) (d) : (dats m X 0 c).before 2 t d = iblk m c 2 t := before0_2_of m (dats m X 0 c) (A_eq m X c 2) (after2 m c X) t d
theorem before3 (t : Fin cfg0.N) (d) : (dats m X 0 c).before 3 t d = iblk m c 3 t := before0_3_of m (dats m X 0 c) (A_eq m X c 3) (after3 m c X) t d

/-! ## The body at a point -/

/-- The buffers of a point. -/
abbrev bufs (t : Fin cfg0.N) : Bufs where
  q := ms0_0 t
  kv := ms0_1 t
  kr := ms0_2 t
  z := ms0_3 t
  o := ms0_4 t
  o2 := ms0_5 t
  lse := ms0_6 t
  kc := scM0_0
  ho2 := hs0_5 t
  hkc := Memref.isWhole_whole _

/-- The body at a point is the program of pieces. -/
theorem body_at (t : Fin cfg0.N) : bodyAt0 (F := Ideal) t = prog (bufs t) := body_eq (bufs t) (grid0.coords t)

/-- What the body is called with at a point, -/
def bodyPre (c : Dev nD) (t : Fin cfg0.N) : sProp (MT nD τ sig Unit (Elt Ideal) ℕ (UR sig nD τ) ℕ) :=
  iprop((dats m X 0 c).Φ t.castSucc ∗ (dats m X 0 c).owesAt () t.castSucc
    ∗ (∃ d, owns (c : Thread nD τ) (ms0_0 t) fullShare ((dats m X 0 c).before 0 t d))
    ∗ (∃ d, owns (c : Thread nD τ) (ms0_1 t) fullShare ((dats m X 0 c).before 1 t d))
    ∗ (∃ d, owns (c : Thread nD τ) (ms0_2 t) fullShare ((dats m X 0 c).before 2 t d))
    ∗ (∃ d, owns (c : Thread nD τ) (ms0_3 t) fullShare ((dats m X 0 c).before 3 t d))
    ∗ (∃ d, owns (c : Thread nD τ) (ms0_4 t) fullShare ((dats m X 0 c).before 4 t d))
    ∗ (∃ d, owns (c : Thread nD τ) (ms0_5 t) fullShare ((dats m X 0 c).before 5 t d))
    ∗ (∃ d, owns (c : Thread nD τ) (ms0_6 t) fullShare ((dats m X 0 c).before 6 t d)))

/-- and what it returns. -/
def bodyPost (c : Dev nD) (t : Fin cfg0.N) : sProp (MT nD τ sig Unit (Elt Ideal) ℕ (UR sig nD τ) ℕ) :=
  iprop((dats m X 0 c).Φ t.succ ∗ (dats m X 0 c).owesAt () t.succ
    ∗ owns (c : Thread nD τ) (ms0_0 t) fullShare ((dats m X 0 c).after 0 t)
    ∗ owns (c : Thread nD τ) (ms0_1 t) fullShare ((dats m X 0 c).after 1 t)
    ∗ owns (c : Thread nD τ) (ms0_2 t) fullShare ((dats m X 0 c).after 2 t)
    ∗ owns (c : Thread nD τ) (ms0_3 t) fullShare ((dats m X 0 c).after 3 t)
    ∗ owns (c : Thread nD τ) (ms0_4 t) fullShare ((dats m X 0 c).after 4 t)
    ∗ owns (c : Thread nD τ) (ms0_5 t) fullShare ((dats m X 0 c).after 5 t)
    ∗ owns (c : Thread nD τ) (ms0_6 t) fullShare ((dats m X 0 c).after 6 t))

/-- The program at a point, framed by what it leaves alone. -/
theorem prog_at (t : Fin cfg0.N) (s : St) (R : sProp (MT nD τ sig Unit (Elt Ideal) ℕ (UR sig nD τ) ℕ)) {Q : PUnit → sProp (MT nD τ sig Unit (Elt Ideal) ℕ (UR sig nD τ) ℕ)}
    (h : iprop(held c (bufs t) s.joinU.allU ∗ R) ⊢ Q ⟨⟩) : iprop(held c (bufs t) s ∗ R) ⊢ W c (prog (bufs t)) Q := by
  refine .trans (sep_mono (prog_spec c (bufs t) s (Q := fun _ => held c (bufs t) s.joinU.allU) .rfl) .rfl) ?_
  exact .trans (wp_frame_r frame _ _) (wp_mono frame _ _ fun _ => h)

/-- The arrays with equal elements in range are equal. -/
theorem eq2 {a b : ℕ} {f g : ℕ → ℕ → ℕ → EReal} (h : ∀ i k, i < a → f i k 0 = g i k 0) : arr ⟨2, ![a, b]⟩ f = arr ⟨2, ![a, b]⟩ g :=
  arr2_ext fun i k hi _ => h i k hi

theorem some_arr {s : Shape} (hs : s.rank ≤ 3) (x : s.Idx → EReal) : ∃ f : ℕ → ℕ → ℕ → EReal, x = arr s f := exists_arr hs x

/-- The body leaves what it only reads. -/
theorem keep_rows (s : St) (a : ℕ) : (s.rowsU a).q = s.q ∧ (s.rowsU a).kv = s.kv ∧ (s.rowsU a).kr = s.kr ∧ (s.rowsU a).z = s.z := ⟨rfl, rfl, rfl, rfl⟩
theorem keep_all (s : St) : s.allU.q = s.q ∧ s.allU.kv = s.kv ∧ s.allU.kr = s.kr ∧ s.allU.z = s.z := by
  unfold St.allU
  simp only [(keep_rows _ _).1, (keep_rows _ _).2.1, (keep_rows _ _).2.2.1, (keep_rows _ _).2.2.2, and_self]

/-- The body at any point. -/
theorem sound_body (hX : ∀ c, Reads m c (X c)) (t : Fin cfg0.N) :
    bodyPre m X c t ⊢ wp frame (wpE (defs₀ (F := Ideal)) Variants.none c none) Set.univ (bodyAt0 t) (fun _ => bodyPost m X c t) := by
  have hR := hX c
  rw [body_at]
  unfold bodyPre bodyPost
  simp only [before0, before1, before2, before3]
  rw [show (dats m X 0 c).Φ t.succ = (dats m X 0 c).Φ t.castSucc from rfl,
    show (dats m X 0 c).owesAt () t.succ = (dats m X 0 c).owesAt () t.castSucc from rfl,
    after0, after1, after2, after3, after4, after5, after6]
  rw [show (dats m X 0 c).Φ t.castSucc = Pipeline.ΦA spec0 c from rfl, PhiA0_eq]
  rw [hR.r0 t, hR.r1 t, hR.r2 t, hR.r3 t]
  iintro ⟨⟨⟨%e0, HS0⟩, Hg⟩, Ho, ⟨%d0, H0⟩, ⟨%d1, H1⟩, ⟨%d2, H2⟩, ⟨%d3, H3⟩, ⟨%d4, H4⟩, ⟨%d5, H5⟩, ⟨%d6, H6⟩⟩
  obtain ⟨f4, h4⟩ : ∃ f, (dats m X 0 c).before 4 t d4 = arr S4096x128 f := some_arr (s := S4096x128) (by decide) _
  obtain ⟨f5, h5⟩ : ∃ f, (dats m X 0 c).before 5 t d5 = arr S4096x128 f := some_arr (s := S4096x128) (by decide) _
  obtain ⟨f6, h6⟩ : ∃ f, (dats m X 0 c).before 6 t d6 = arr S4096x128 f := some_arr (s := S4096x128) (by decide) _
  obtain ⟨g0, k0⟩ : ∃ f, e0 = arr S4096x256 f := some_arr (s := S4096x256) (by decide) _
  obtain ⟨s, hs⟩ : ∃ s : St, s = { (X c).at t.val with o := f4, o2 := f5, lse := f6, kc := g0 } := ⟨_, rfl⟩
  have hK := keep_all s.joinU
  have e4 : (arr S4096x128 fun i k _ => (X c).o t.val i k) = arr S4096x128 s.joinU.allU.o := eq2 fun i k hi => by rw [allU_o _ _ _ hi, hs]; rfl
  have e5 : (arr S4096x128 fun i k _ => (X c).o2 t.val i k) = arr S4096x128 s.joinU.allU.o2 := eq2 fun i k hi => by rw [allU_o2 _ _ _ hi, hs]; rfl
  have e6 : (arr S4096x128 fun i _ _ => (X c).lse t.val i) = arr S4096x128 s.joinU.allU.lse := eq2 fun i k hi => by rw [allU_lse _ _ _ hi, hs]; rfl
  have eq' : s.joinU.allU.q = ((X c).at t.val).q := hK.1.trans (by rw [hs]; rfl)
  have ekv : s.joinU.allU.kv = ((X c).at t.val).kv := hK.2.1.trans (by rw [hs]; rfl)
  have ekr : s.joinU.allU.kr = ((X c).at t.val).kr := hK.2.2.1.trans (by rw [hs]; rfl)
  have ez : s.joinU.allU.z = ((X c).at t.val).z := hK.2.2.2.trans (by rw [hs]; rfl)
  rw [h4, h5, h6, k0]
  iapply (prog_at c t s iprop((∃ r, prngReg c r) ∗ (dats m X 0 c).owesAt () t.castSucc) ?h)
  case h =>
    rw [e4, e5, e6]
    unfold held
    rw [eq', ekv, ekr, ez]
    iintro ⟨⟨H0, H1, H2, H3, H4, H5, H6, HS0⟩, Hg, Ho⟩
    isplitl [HS0 Hg]
    · isplitl [HS0]
      · iexists _; iexact HS0
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · unfold held
    rw [hs]
    isplitl [H0 H1 H2 H3 H4 H5 H6 HS0]
    · isplitl [H0]; · iexact H0
      isplitl [H1]; · iexact H1
      isplitl [H2]; · iexact H2
      isplitl [H3]; · iexact H3
      isplitl [H4]; · iexact H4
      isplitl [H5]; · iexact H5
      isplitl [H6]; · iexact H6
      iexact HS0
    isplitl [Hg]; · iexact Hg
    iexact Ho

end Cert.AttentionForward
end
-- ==== Proof.AttentionForwardEquation.lean ====
/-
  The forward attention's equation: on the arrays the host prepares from real arguments, a head's results are the attention's
  output, gated output and log-sum-exps in real numbers.
-/
module

public import proofs.«01_k».proof.Proof.AttentionForwardFrame
public import proofs.«01_k».proof.Proof.AttentionEquation

@[expose] public section

noncomputable section

open Idealize.ShloMosaic
open Cert.Arr
open Cert.Attention (Src)
open Finset (range)
open scoped BigOperators

namespace Cert.AttentionForward

/-! ## The gate -/

theorem cHalf_eq : cHalf = ((1 / 2 : ℝ) : EReal) := by
  show Ideal.ofBits .f32 0x3F000000#32 = _
  simp [Ideal.ofBits, Ideal.ieee, -EReal.coe_mul]; norm_num

/-- The logistic function through the hyperbolic tangent, -/
theorem half_tanh (r : ℝ) : 1 / 2 * Real.tanh (1 / 2 * r) + 1 / 2 = 1 / (1 + Real.exp (-r)) := by
  have hx : Real.exp (-r) = Real.exp (-(1 / 2 * r)) * Real.exp (-(1 / 2 * r)) := by rw [← Real.exp_add]; congr 1; ring
  have hy : Real.exp (1 / 2 * r) * Real.exp (-(1 / 2 * r)) = 1 := by rw [← Real.exp_add, add_neg_cancel, Real.exp_zero]
  have p1 := Real.exp_pos (1 / 2 * r)
  have p2 := Real.exp_pos (-(1 / 2 * r))
  rw [Real.tanh_eq_sinh_div_cosh, Real.sinh_eq, Real.cosh_eq, hx]
  generalize Real.exp (1 / 2 * r) = x at hy p1
  generalize Real.exp (-(1 / 2 * r)) = y at hy p2
  have n1 : x + y ≠ 0 := (add_pos p1 p2).ne'
  have n2 : 1 + y * y ≠ 0 := (add_pos one_pos (mul_pos p2 p2)).ne'
  rw [div_div_div_cancel_right₀ two_ne_zero, eq_div_iff n2]
  have e : (x - y) / (x + y) = 2 * x / (x + y) - 1 := by rw [eq_sub_iff_add_eq, div_add_one n1]; ring
  have f : x / (x + y) * (1 + y * y) = 1 := by rw [div_mul_eq_mul_div, div_eq_iff n1]; linear_combination y * hy
  rw [e]
  linear_combination f

/-- at the infinities too. -/
theorem gate_eq (z : EReal) : cHalf * Ideal.tanh (cHalf * z) + cHalf = Ideal.div ((1 : ℝ) : EReal) (((1 : ℝ) : EReal) + Ideal.exp (-z)) := by
  rw [cHalf_eq]
  induction z with
  | bot =>
    rw [EReal.coe_mul_bot_of_pos (by norm_num), EReal.neg_bot, Ideal.exp_top, EReal.coe_add_top,
      show Ideal.tanh ⊥ = ((-1 : ℝ) : EReal) from by rw [EReal.coe_neg, EReal.coe_one]; rfl, cmul, cadd]
    unfold Ideal.div
    rw [if_neg EReal.top_ne_zero, EReal.inv_top, mul_zero]
    norm_num
  | top =>
    rw [EReal.coe_mul_top_of_pos (by norm_num), EReal.neg_top, Ideal.exp_bot, add_zero, Ideal.tanh_top, ← EReal.coe_one, cmul, cadd, cdiv _ one_ne_zero]
    norm_num
  | coe r =>
    rw [cmul, Ideal.tanh_coe, cmul, cadd, cneg, Ideal.exp_coe, cadd, cdiv _ (add_pos one_pos (Real.exp_pos _)).ne', half_tanh]

/-! ## The greatest entry -/

/-- It is real when no entry is infinite above and one is real. -/
theorem top_ne_top {n : ℕ} {f : ℕ → EReal} (h : ∀ j, j < n → f j ≠ ⊤) : top n f ≠ ⊤ :=
  ((Finset.fold_max_lt _).mpr ⟨bot_lt_top, fun j _ => lt_top_iff_ne_top.mpr (h j.val j.isLt)⟩).ne
theorem le_top {n : ℕ} (f : ℕ → EReal) {j : ℕ} (hj : j < n) : f j ≤ top n f :=
  (Finset.le_fold_max _).mpr (.inr ⟨⟨j, hj⟩, Finset.mem_univ _, le_rfl⟩)

/-! ## The arrays the host prepares -/

/-- They are those of the gradient, and the gate's input. -/
def inp (s : Src) (z : ℕ → ℕ → ℕ → EReal) : In where
  q i c _ := (s.qf i (c / 256) (c % 256) : EReal)
  kv i c _ := (s.kvf i (c / 256) (c % 256) : EReal)
  kr i k _ := (s.krf i k : EReal)
  z := z

variable (s : Src) (z : ℕ → ℕ → ℕ → EReal) (h : ℕ)

theorem hd_q {k : ℕ} (hk : k < 256) (i : ℕ) : ((inp s z).hd h).q i k 0 = (s.qf i h k : EReal) := by
  show (s.qf i ((h * 256 + k) / 256) ((h * 256 + k) % 256) : EReal) = _
  rw [show (h * 256 + k) / 256 = h by omega, show (h * 256 + k) % 256 = k by omega]
theorem hd_kv {k : ℕ} (hk : k < 256) (i : ℕ) : ((inp s z).hd h).kv i k 0 = (s.kvf i h k : EReal) := by
  show (s.kvf i ((h * 256 + k) / 256) ((h * 256 + k) % 256) : EReal) = _
  rw [show (h * 256 + k) / 256 = h by omega, show (h * 256 + k) % 256 = k by omega]
theorem hd_v {k : ℕ} (hk : k < 128) (j : ℕ) : ((inp s z).hd h).kv j (128 + k) 0 = (s.v j h k : EReal) := by
  rw [hd_kv s z h (by omega), Src.kvf, if_neg (by omega), Nat.add_sub_cancel_left]
theorem hd_kc {k : ℕ} (j : ℕ) : ((inp s z).hd h).kc j k 0 = ((if k < 128 then s.k j h k else s.krf j (k - 128) : ℝ) : EReal) := by
  show (if k < 128 then ((inp s z).hd h).kv j k 0 else (s.krf j (k - 128) : EReal)) = _
  by_cases hk : k < 128
  · rw [if_pos hk, if_pos hk, hd_kv s z h (by omega), Src.kvf, if_pos hk]
  · rw [if_neg hk, if_neg hk]

theorem hd_sc (i j : ℕ) : ((inp s z).hd h).sc i j = (s.dot h i j : EReal) := by
  unfold St.sc
  rw [zero_add, Finset.sum_congr rfl fun k hk => by rw [hd_q s z h (Finset.mem_range.mp hk), hd_kc s z h, cmul], csum]
  congr 1
  rw [Cert.Attention.sum_256 _ fun k hk => by rw [Src.qf, if_neg (by omega), zero_mul]]
  unfold Src.dot
  refine congrArg₂ (· + ·) ?_ ?_
  · exact Finset.sum_congr rfl fun k hk => by
      have := Finset.mem_range.mp hk
      rw [Src.qf, if_pos (by omega), if_pos this, if_pos this]
  · exact Finset.sum_congr rfl fun k hk => by
      have := Finset.mem_range.mp hk
      rw [Src.qf, if_pos (by omega), if_neg (by omega), if_neg (by omega), Nat.add_sub_cancel_left, Src.krf, if_pos this, mul_comm]

theorem hd_dg (a i j : ℕ) : ((inp s z).hd h).dg a i j = if j ≤ i then (s.dot h (a + i) (a + j) : EReal) else ⊥ := by
  unfold St.dg
  rw [hd_sc]
  rfl

/-! ## One row -/

/-- The greatest score of a row is a real number. -/
theorem exists_mx (a i : ℕ) : ∃ r : ℝ, ((inp s z).hd h).mx a i = (r : EReal) := by
  have h0 : (s.dot h (a + i) (a + 0) : EReal) ≤ ((inp s z).hd h).mx a i := by
    refine le_trans ?_ (le_max_left _ _)
    refine le_trans (le_of_eq ?_) (le_top _ (show 0 < 512 by norm_num))
    rw [hd_dg, if_pos (Nat.zero_le i)]
  have h1 : ((inp s z).hd h).mx a i ≠ ⊤ := by
    refine (max_lt (lt_top_iff_ne_top.mpr (top_ne_top fun j _ => ?_)) (lt_top_iff_ne_top.mpr (top_ne_top fun j _ => ?_))).ne
    · rw [hd_dg]; split <;> simp
    · rw [hd_sc]; exact EReal.coe_ne_top _
  have h2 : ((inp s z).hd h).mx a i ≠ ⊥ := fun e => absurd (le_bot_iff.mp (h0.trans_eq e)) (EReal.coe_ne_bot _)
  exact ⟨_, (EReal.coe_toReal h1 h2).symm⟩

/-- The reference value a greatest score `r` stands for. -/
abbrev ref (r : ℝ) : ℕ → ℕ → ℕ → ℝ := fun _ _ _ => r * (√192)⁻¹

section Row
variable {a i : ℕ} {r : ℝ} (hr : ((inp s z).hd h).mx a i = (r : EReal))
include hr

theorem weight (x j : ℕ) (hj : j ≤ x) : Ideal.exp2 (((s.dot h x j : EReal) - (r : EReal)) * cScaleLog2e) = (s.E (ref r) h x j : EReal) := by
  have h2 : Real.log 2 ≠ 0 := (Real.log_pos (by norm_num)).ne'
  rw [show cScaleLog2e = (((√192)⁻¹ * (Real.log 2)⁻¹ : ℝ) : EReal) from rfl, csub, cmul, Ideal.exp2_coe]
  congr 1
  show (2 : ℝ) ^ (_ : ℝ) = _
  rw [Real.rpow_def_of_pos (by norm_num)]
  unfold Src.E Src.S
  rw [if_pos hj]
  congr 1
  field_simp

theorem hd_pd (j : ℕ) : ((inp s z).hd h).pd a i j = (s.E (ref r) h (a + i) (a + j) : EReal) := by
  unfold St.pd
  rw [hd_dg, hr]
  by_cases hj : j ≤ i
  · rw [if_pos hj, weight s z h hr _ _ (by omega)]
  · have pos : 0 < (√192)⁻¹ * (Real.log 2)⁻¹ := mul_pos (inv_pos.mpr Src.root_pos) (inv_pos.mpr (Real.log_pos (by norm_num)))
    rw [if_neg hj, EReal.bot_sub, show cScaleLog2e = (((√192)⁻¹ * (Real.log 2)⁻¹ : ℝ) : EReal) from rfl, EReal.bot_mul_coe_of_pos pos, Ideal.exp2_bot]
    unfold Src.E
    rw [if_neg (by omega), EReal.coe_zero]

theorem hd_pp {j : ℕ} (hj : j < a) : ((inp s z).hd h).pp a i j = (s.E (ref r) h (a + i) j : EReal) := by
  unfold St.pp
  rw [hd_sc, hr, weight s z h hr _ _ (by omega)]

omit hr in
/-- A sum over the keys of a block and those before it is one over all, those after contributing nothing. -/
theorem sum_keys (f : ℕ → ℝ) (ha : a + 512 ≤ 4096) (h0 : ∀ j, a + 512 ≤ j → f j = 0) :
    ∑ j ∈ range 512, f (a + j) + ∑ j ∈ range a, f j = ∑ j ∈ range 4096, f j := by
  obtain ⟨b, hb⟩ : ∃ b, 4096 = a + (512 + b) := ⟨4096 - (a + 512), by omega⟩
  rw [hb, Finset.sum_range_add, Finset.sum_range_add (fun j => f (a + j))]
  rw [Finset.sum_eq_zero (f := fun j => f (a + (512 + j))) fun j _ => h0 _ (by omega), add_zero, add_comm]

variable (ha : a + 512 ≤ 4096) (hi : i < 512)
include ha hi

theorem hd_l : ((inp s z).hd h).l a i = (s.L (ref r) h (a + i) : EReal) := by
  unfold St.l
  rw [Finset.sum_congr rfl fun j _ => hd_pd s z h hr j, Finset.sum_congr rfl fun j hj => hd_pp s z h hr (Finset.mem_range.mp hj), csum, csum, cadd]
  congr 1
  exact sum_keys (fun j => s.E (ref r) h (a + i) j) ha fun j hj => by unfold Src.E; rw [if_neg (by omega)]

theorem hd_acc {k : ℕ} (hk : k < 128) : ((inp s z).hd h).acc a i k = ((∑ j ∈ range 4096, s.E (ref r) h (a + i) j * s.v j h k : ℝ) : EReal) := by
  unfold St.acc
  have e1 : ∀ j ∈ range 512, ((inp s z).hd h).pd a i j * ((inp s z).hd h).kv (a + j) (128 + k) 0 = ((s.E (ref r) h (a + i) (a + j) * s.v (a + j) h k : ℝ) : EReal) :=
    fun j _ => by rw [hd_pd s z h hr j, hd_v s z h hk, cmul]
  have e2 : ∀ j ∈ range a, ((inp s z).hd h).pp a i j * ((inp s z).hd h).kv j (128 + k) 0 = ((s.E (ref r) h (a + i) j * s.v j h k : ℝ) : EReal) :=
    fun j hj => by rw [hd_pp s z h hr (Finset.mem_range.mp hj), hd_v s z h hk, cmul]
  rw [Finset.sum_congr rfl e1, Finset.sum_congr rfl e2, csum, csum, zero_add, zero_add, cadd]
  congr 1
  exact sum_keys (fun j => s.E (ref r) h (a + i) j * s.v j h k) ha fun j hj => by unfold Src.E; rw [if_neg (by omega), zero_mul]

theorem row_o (M : ℕ → ℕ → ℕ → ℝ) {k : ℕ} (hk : k < 128) : ((inp s z).hd h).oF a i k = (s.o M (a + i) h k : EReal) := by
  unfold St.oF
  rw [hd_acc s z h hr ha hi hk, hd_l s z h hr ha hi, cdiv _ (s.L_pos _ _ _).ne']
  congr 1
  rw [Finset.sum_div]
  unfold Src.o
  refine Finset.sum_congr rfl fun j _ => ?_
  rw [s.P_indep M (ref r), Src.P]
  ring

/-- The sum with no reference value. -/
theorem row_lse : ((inp s z).hd h).lseF a i = (Real.log (s.L (fun _ _ _ => 0) h (a + i)) : EReal) := by
  unfold St.lseF
  rw [hr, hd_l s z h hr ha hi, Ideal.log_coe, if_neg (s.L_pos _ _ _).not_ge, show cScale = (((√192)⁻¹ : ℝ) : EReal) from rfl, cmul, cadd]
  congr 1
  have e : s.L (fun _ _ _ => 0) h (a + i) = Real.exp (r * (√192)⁻¹) * s.L (ref r) h (a + i) := by
    unfold Src.L
    rw [Finset.mul_sum]
    refine Finset.sum_congr rfl fun j _ => ?_
    unfold Src.E
    split
    · rw [← Real.exp_add]; congr 1; ring
    · rw [mul_zero]
  rw [e, Real.log_mul (Real.exp_pos _).ne' (s.L_pos _ _ _).ne', Real.log_exp]
end Row

/-! ## All rows -/

section All
variable {i : ℕ} (hi : i < 4096)
include hi

theorem o_eq (M : ℕ → ℕ → ℕ → ℝ) {k : ℕ} (hk : k < 128) : (inp s z).o h i k = (s.o M i h k : EReal) := by
  obtain ⟨r, hr⟩ := exists_mx s z h (blockOf i) (i - blockOf i)
  have e := row_o s z h hr (by unfold blockOf; omega) (by unfold blockOf; omega) M hk
  rwa [show blockOf i + (i - blockOf i) = i by unfold blockOf; omega] at e

theorem o2_eq (M : ℕ → ℕ → ℕ → ℝ) {k : ℕ} (hk : k < 128) : (inp s z).o2 h i k
    = (s.o M i h k : EReal) * (z i ((4 + h) * 128 + k) 0 * Ideal.div ((1 : ℝ) : EReal) (((1 : ℝ) : EReal) + Ideal.exp (-z i ((4 + h) * 128 + k) 0))) := by
  show (inp s z).o h i k * (z (blockOf i + (i - blockOf i)) ((4 + h) * 128 + k) 0
    * (cHalf * Ideal.tanh (cHalf * z (blockOf i + (i - blockOf i)) ((4 + h) * 128 + k) 0) + cHalf)) = _
  rw [show blockOf i + (i - blockOf i) = i by unfold blockOf; omega, gate_eq, o_eq s z h hi M hk]

theorem lse_eq : (inp s z).lse h i = (Real.log (s.L (fun _ _ _ => 0) h i) : EReal) := by
  obtain ⟨r, hr⟩ := exists_mx s z h (blockOf i) (i - blockOf i)
  have e := row_lse s z h hr (by unfold blockOf; omega) (by unfold blockOf; omega)
  rwa [show blockOf i + (i - blockOf i) = i by unfold blockOf; omega] at e
end All

end Cert.AttentionForward
end
-- ==== Proof.AttentionForwardHost.lean ====
/-
  The forward attention, kernel side: the arrays the host prepares for the region, in real numbers, and the heads' columns of them
  that the points read.
-/
module

public import proofs.«01_k».proof.Proof.Angle
public import proofs.«01_k».proof.Proof.AttentionForwardEquation
public import proofs.«01_k».proof.Proof.Boxes
public import proofs.«01_k».proof.Proof.Rotation
public import Idealize.ShloMosaic.Lib.Tactic
public import Idealize.ShloMosaic.Lib.StableHlo.RunRead

@[expose] public section

set_option maxRecDepth 16384

noncomputable section

open Idealize.ShloMosaic hiding ix1 ix2 ix3
open Idealize.ShloMosaic.TcCoe Idealize.SL.Sem
open Cert.Arr
open Cert.Attention (Src)
open scoped BigOperators

namespace Cert.AttentionForward

open Cert.Kernel9Ideal Cert.Kernel9Ideal.Gen

variable (m : (ℓ : Loc nD τ sig) → Buf (Elt Ideal) ℓ) (c : Dev nD)

/-- The arguments as numbers, and the cosines and sines of the rotation's angles. -/
structure Args (s : Src) (z : ℕ → ℕ → ℕ → EReal) : Prop where
  hq : m ((c : Thread nD τ).loc main_arg0) = arr S4096x16x128 fun i j k => (s.q i j k : EReal)
  hr : m ((c : Thread nD τ).loc main_arg1) = arr S4096x16x64 fun i j k => (s.r i j k : EReal)
  hk : m ((c : Thread nD τ).loc main_arg2) = arr S4096x16x128 fun i j k => (s.k i j k : EReal)
  hkr : m ((c : Thread nD τ).loc main_arg3) = arr S4096x64 fun i j k => (s.kr i j k : EReal)
  hv : m ((c : Thread nD τ).loc main_arg4) = arr S4096x16x128 fun i j k => (s.v i j k : EReal)
  hz : m ((c : Thread nD τ).loc main_arg5) = arr S4096x2560 z
  hcs : cosines (m ((c : Thread nD τ).loc main_arg6)) = arr S4096x32 fun i j k => (s.cs i j k : EReal)
  hsn : sines (m ((c : Thread nD τ).loc main_arg6)) = arr S4096x32 fun i j k => (s.sn i j k : EReal)

/-! ## The steps of the host's program -/

theorem V16 : V m c main_v16 = cosines (m ((c : Thread nD τ).loc main_arg6)) := by
  unfold V; after_reads_simp
theorem V17 : V m c main_v17 = sines (m ((c : Thread nD τ).loc main_arg6)) := by
  unfold V; after_reads_simp
theorem V26 : V m c main_v26 = subf (F := Ideal) (φ := .f32)
    (mulf (F := Ideal) (φ := .f32) (extractStridedSlice S4096x16x32 ![0, 0, 0] (m ((c : Thread nD τ).loc main_arg1)) slices_S4096x16x64_S4096x16x32_0_0_0)
      (broadcastInDim S4096x16x32 ![0, 1, 2] bcast_S4096x1x32_S4096x16x32_0_1_2 (broadcastInDim S4096x1x32 ![0, 2] bcast_S4096x32_S4096x1x32_0_2 (V m c main_v16))))
    (mulf (F := Ideal) (φ := .f32) (extractStridedSlice S4096x16x32 ![0, 0, 32] (m ((c : Thread nD τ).loc main_arg1)) slices_S4096x16x64_S4096x16x32_0_0_32)
      (broadcastInDim S4096x16x32 ![0, 1, 2] bcast_S4096x1x32_S4096x16x32_0_1_2 (broadcastInDim S4096x1x32 ![0, 2] bcast_S4096x32_S4096x1x32_0_2 (V m c main_v17)))) := by
  unfold V; after_reads_simp
theorem V31 : V m c main_v31 = addf (F := Ideal) (φ := .f32)
    (mulf (F := Ideal) (φ := .f32) (extractStridedSlice S4096x16x32 ![0, 0, 32] (m ((c : Thread nD τ).loc main_arg1)) slices_S4096x16x64_S4096x16x32_0_0_32)
      (broadcastInDim S4096x16x32 ![0, 1, 2] bcast_S4096x1x32_S4096x16x32_0_1_2 (broadcastInDim S4096x1x32 ![0, 2] bcast_S4096x32_S4096x1x32_0_2 (V m c main_v16))))
    (mulf (F := Ideal) (φ := .f32) (extractStridedSlice S4096x16x32 ![0, 0, 0] (m ((c : Thread nD τ).loc main_arg1)) slices_S4096x16x64_S4096x16x32_0_0_0)
      (broadcastInDim S4096x16x32 ![0, 1, 2] bcast_S4096x1x32_S4096x16x32_0_1_2 (broadcastInDim S4096x1x32 ![0, 2] bcast_S4096x32_S4096x1x32_0_2 (V m c main_v17)))) := by
  unfold V; after_reads_simp
theorem V32 : V m c main_v32 = concatenate S4096x16x64 2 [⟨S4096x16x32, V m c main_v26⟩, ⟨S4096x16x32, V m c main_v31⟩] concatenates_S4096x16x32_S4096x16x32_S4096x16x64_d2 := by
  unfold V; after_reads_simp
  refine congrArg₂ (fun a b => concatenate S4096x16x64 2 [⟨S4096x16x32, a⟩, ⟨S4096x16x32, b⟩] concatenates_S4096x16x32_S4096x16x32_S4096x16x64_d2) ?_ ?_ <;> after_reads_simp
theorem V33 : V m c main_v33 = concatenate S4096x16x192 2 [⟨S4096x16x128, m ((c : Thread nD τ).loc main_arg0)⟩, ⟨S4096x16x64, V m c main_v32⟩]
    concatenates_S4096x16x128_S4096x16x64_S4096x16x192_d2 := by
  unfold V; after_reads_simp
  refine congrArg₂ (fun a b => concatenate S4096x16x192 2 [⟨S4096x16x128, a⟩, ⟨S4096x16x64, b⟩] concatenates_S4096x16x128_S4096x16x64_S4096x16x192_d2) ?_ ?_ <;> after_reads_simp
theorem V41 : V m c main_v41 = shapeCast S4096x4096 (pad S4096x16x256 ![0, 0, 0] ![0, 0, 64] ![0, 0, 0]
    (truncf (F := Ideal) (s := S4096x16x192) (φ := .f32) .bf16 (V m c main_v33 : Vec Ideal S4096x16x192 .f32) bitsLt_bf16_f32) (sitofp (F := Ideal) .bf16 (constantI S_ 32 0#32))
    pads_S4096x16x192_S4096x16x256_000_000_0640 h_S_) shapeCasts_S4096x16x256_S4096x4096 := by
  unfold V; after_reads_simp; rfl
theorem V38 : V m c main_v38 = concatenate S4096x16x256 2 [⟨S4096x16x128, truncf (F := Ideal) (s := S4096x16x128) (φ := .f32) .bf16 (m ((c : Thread nD τ).loc main_arg2)) bitsLt_bf16_f32⟩,
      ⟨S4096x16x128, truncf (F := Ideal) (s := S4096x16x128) (φ := .f32) .bf16 (m ((c : Thread nD τ).loc main_arg4)) bitsLt_bf16_f32⟩]
    concatenates_S4096x16x128_S4096x16x128_S4096x16x256_d2 := by
  unfold V; after_reads_simp
  refine congrArg₂ (fun a b => concatenate S4096x16x256 2 [⟨S4096x16x128, a⟩, ⟨S4096x16x128, b⟩] concatenates_S4096x16x128_S4096x16x128_S4096x16x256_d2) ?_ ?_ <;> after_reads_simp
theorem V42 : V m c main_v42 = shapeCast S4096x4096 (V m c main_v38 : Vec Ideal S4096x16x256 .bf16) shapeCasts_S4096x16x256_S4096x4096 := by
  unfold V; after_reads_simp; rfl
theorem V40 : V m c main_v40 = pad S4096x128 ![0, 0] ![0, 64] ![0, 0] (truncf (F := Ideal) (s := S4096x64) (φ := .f32) .bf16 (m ((c : Thread nD τ).loc main_arg3)) bitsLt_bf16_f32)
    (sitofp (F := Ideal) .bf16 (constantI S_ 32 0#32)) pads_S4096x64_S4096x128_000_0640 h_S_ := by
  unfold V; after_reads_simp; rfl

/-! ## The same in real numbers -/

section Values
variable {m c} {s : Src} {z : ℕ → ℕ → ℕ → EReal} (a : Args m c s z)
include a

theorem v16 : V m c main_v16 = arr S4096x32 fun i j k => (s.cs i j k : EReal) := (V16 m c).trans a.hcs
theorem v17 : V m c main_v17 = arr S4096x32 fun i j k => (s.sn i j k : EReal) := (V17 m c).trans a.hsn
/-- The rotated query. -/
theorem v32 : V m c main_v32 = arr S4096x16x64 fun i h k => (s.qr i h k : EReal) := by
  rw [V32, V26, V31, v16 a, v17 a, a.hr]
  rw [concat2_eq (n := 4096) (m := 16) (l₁ := 32) (l₂ := 32) (l := 64)
    (f := fun i h k => ((s.r i h k * s.cs i k 0 - s.r i h (32 + k) * s.sn i k 0 : ℝ) : EReal))
    (g := fun i h k => ((s.r i h (32 + k) * s.cs i k 0 + s.r i h k * s.sn i k 0 : ℝ) : EReal)) ?hx ?hy]
  case hx => simp only [arr_slice3 (n := 4096) (m := 16) (l := 64) (n' := 4096) (m' := 16) (l' := 32), zero_add, arr_bid_02 (n := 4096) (l := 32), arr_bid_mid (n := 4096) (m := 16) (l := 32), arr_mul, arr_sub, cmul, csub]
  case hy => simp only [arr_slice3 (n := 4096) (m := 16) (l := 64) (n' := 4096) (m' := 16) (l' := 32), zero_add, arr_bid_02 (n := 4096) (l := 32), arr_bid_mid (n := 4096) (m := 16) (l := 32), arr_mul, arr_add, cmul, cadd]
  simp only [cite, Src.qr]
theorem v41 : V m c main_v41 = arr S4096x4096 (inp s z).q := by
  rw [V41, V33, v32 a, a.hq, concat2_eq (n := 4096) (m := 16) (l₁ := 128) (l₂ := 64) (l := 192) (hx := rfl) (hy := rfl), arr_truncf, arr_sitofp_zero,
    arr_pad3 (n := 4096) (m := 16) (l := 192), arr_merge (n := 4096) (b := 16) (c := 256) (hbc := rfl), ← EReal.coe_zero]
  simp only [cite]
  rfl
theorem v42 : V m c main_v42 = arr S4096x4096 (inp s z).kv := by
  rw [V42, V38, a.hk, a.hv, arr_truncf, arr_truncf, concat2_eq (n := 4096) (m := 16) (l₁ := 128) (l₂ := 128) (l := 256) (hx := rfl) (hy := rfl), arr_merge (n := 4096) (b := 16) (c := 256) (hbc := rfl)]
  simp only [cite]
  rfl
theorem v40 : V m c main_v40 = arr S4096x128 (inp s z).kr := by
  rw [V40, a.hkr, arr_truncf, arr_sitofp_zero, arr_pad2 (n := 4096) (m := 64), ← EReal.coe_zero]
  simp only [cite, Nat.zero_le, true_and, Nat.sub_zero]
  rfl
theorem v5 : V m c main_arg5 = arr S4096x2560 (inp s z).z := (V_main_arg5 m c).trans a.hz
end Values

/-! ## The blocks the points read -/

section Blocks
variable {m c} {f : ℕ → ℕ → ℕ → EReal}

theorem idx0 : ∀ t : Fin cfg0.N, win0_0.index t 0 = 0 ∧ win0_0.index t 1 = t.val := by decide +kernel
theorem idx1 : ∀ t : Fin cfg0.N, win0_1.index t 0 = 0 ∧ win0_1.index t 1 = t.val := by decide +kernel
theorem idx2 : ∀ t : Fin cfg0.N, win0_2.index t 0 = 0 ∧ win0_2.index t 1 = 0 := by decide +kernel
theorem idx3 : ∀ t : Fin cfg0.N, win0_3.index t 0 = 0 ∧ win0_3.index t 1 = 4 + t.val := by decide +kernel

theorem blk0 (A : (b : Ref sig .tc) → Buf (Elt Ideal) ((c : Thread nD τ).loc b)) (h : A main_v41 = arr S4096x4096 f) (t : Fin cfg0.N) :
    ((cfg0.win 0).blk t).view.read (Elt Ideal) (A (Pipeline.arrRef spec0 0)) = arr S4096x256 fun i j _ => f i (t.val * 256 + j) 0 := by
  funext j
  rw [View.read_apply]
  show A main_v41 _ = _
  rw [h]
  refine at_congr (f := f) ?_ ?_
  · show win0_0.index t 0 * 4096 + 1 * (j 0).val = (j 0).val; rw [(idx0 t).1]; omega
  · show win0_0.index t 1 * 256 + 1 * (j 1).val = t.val * 256 + (j 1).val; rw [(idx0 t).2]; omega
theorem blk1 (A : (b : Ref sig .tc) → Buf (Elt Ideal) ((c : Thread nD τ).loc b)) (h : A main_v42 = arr S4096x4096 f) (t : Fin cfg0.N) :
    ((cfg0.win 1).blk t).view.read (Elt Ideal) (A (Pipeline.arrRef spec0 1)) = arr S4096x256 fun i j _ => f i (t.val * 256 + j) 0 := by
  funext j
  rw [View.read_apply]
  show A main_v42 _ = _
  rw [h]
  refine at_congr (f := f) ?_ ?_
  · show win0_1.index t 0 * 4096 + 1 * (j 0).val = (j 0).val; rw [(idx1 t).1]; omega
  · show win0_1.index t 1 * 256 + 1 * (j 1).val = t.val * 256 + (j 1).val; rw [(idx1 t).2]; omega
theorem blk2 (A : (b : Ref sig .tc) → Buf (Elt Ideal) ((c : Thread nD τ).loc b)) (h : A main_v40 = arr S4096x128 f) (t : Fin cfg0.N) :
    ((cfg0.win 2).blk t).view.read (Elt Ideal) (A (Pipeline.arrRef spec0 2)) = arr S4096x128 fun i j _ => f i j 0 := by
  funext j
  rw [View.read_apply]
  show A main_v40 _ = _
  rw [h]
  refine at_congr (f := f) ?_ ?_
  · show win0_2.index t 0 * 4096 + 1 * (j 0).val = (j 0).val; rw [(idx2 t).1]; omega
  · show win0_2.index t 1 * 128 + 1 * (j 1).val = (j 1).val; rw [(idx2 t).2]; omega
theorem blk3 (A : (b : Ref sig .tc) → Buf (Elt Ideal) ((c : Thread nD τ).loc b)) (h : A main_arg5 = arr S4096x2560 f) (t : Fin cfg0.N) :
    ((cfg0.win 3).blk t).view.read (Elt Ideal) (A (Pipeline.arrRef spec0 3)) = arr S4096x128 fun i j _ => f i ((4 + t.val) * 128 + j) 0 := by
  funext j
  rw [View.read_apply]
  show A main_arg5 _ = _
  rw [h]
  refine at_congr (f := f) ?_ ?_
  · show win0_3.index t 0 * 4096 + 1 * (j 0).val = (j 0).val; rw [(idx3 t).1]; omega
  · show win0_3.index t 1 * 128 + 1 * (j 1).val = (4 + t.val) * 128 + (j 1).val; rw [(idx3 t).2]; omega
end Blocks

/-- With these arguments the region reads the arrays of `inp`. -/
theorem reads {s : Src} {z : ℕ → ℕ → ℕ → EReal} (a : Args m c s z) : Reads m c (inp s z) where
  r0 := fun t => blk0 (V m c) (v41 a) t
  r1 := fun t => blk1 (V m c) (v42 a) t
  r2 := fun t => blk2 (V m c) (v40 a) t
  r3 := fun t => blk3 (V m c) (v5 a) t

end Cert.AttentionForward
end
-- ==== Proof.AttentionForwardFinal.lean ====
/-
  The forward attention's result arrays after the run: head `h`'s columns are what its point leaves.
-/
module

public import proofs.«01_k».proof.Proof.AttentionForwardFrame
public import proofs.«01_k».proof.Proof.Gen.Kernel9Ideal.Frame
public import Idealize.ShloMosaic.Lib.Pipeline.ValueKit.Geometry

@[expose] public section

set_option maxRecDepth 16384

noncomputable section

open Idealize.ShloMosaic Idealize.ShloMosaic.TcCoe Idealize.SL.Sem
open Idealize.ShloMosaic.Rounds Idealize.SL.BI.BIBase
open Idealize.ShloMosaic.Pipeline (Dat BodyObligation)
open Cert.Arr

namespace Cert.AttentionForward

open Cert.Kernel9Ideal Cert.Kernel9Ideal.Gen

variable (m : (ℓ : Loc nD τ sig) → Buf (Elt Ideal) ℓ) (X : Dev nD → In)

theorem body_obligation (hX : ∀ c, Reads m c (X c)) (c : Dev nD) : BodyObligation (dats m X 0 c) (defs₀ (F := Ideal)) Variants.none () Set.univ := fun t => by
  rw [bigSep_W0, bigSep_W0, defs₀_row]
  exact triple_restated (sound_body m c X hX t) rfl .rfl fun _ => .rfl

set_option backward.isDefEq.respectTransparency.types false in
/-- The run of the kernel's program, with these contents. -/
theorem run_main (ρ : Dev nD → PrngReg) (hX : ∀ c, Reads m c (X c)) :
    θ_run defs (onTc (τ := τ) (main (F := Ideal))) (s₀ m ρ) (fun r => (Pipeline.FramePost cfgs (dats m X) 0 (V m)) r ∧ r.2.sem = fun _ => 0) :=
  Pipeline.θ_run_frame (Q' := _) cfgs (dats m X) (0 : Fin 1) launch0 defs₀ Variants.none m ρ main
    (hbody := fun c => (body_obligation m X hX c).loose) (hshare := fun c => (dats m X 0 c).share_full fun _ => rfl)
    (howed := fun _ _ => rfl) (V := V m) (hmain := hmain m Variants.none) (hA := A_eq m X) (hΦ := fun _ _ => rfl)

variable (c : Dev nD)

theorem idx4 : ∀ t : Fin cfg0.N, win0_4.index t 0 = 0 ∧ win0_4.index t 1 = t.val := by decide +kernel
theorem idx5 : ∀ t : Fin cfg0.N, win0_5.index t 0 = 0 ∧ win0_5.index t 1 = t.val := by decide +kernel
theorem idx6 : ∀ t : Fin cfg0.N, win0_6.index t 0 = 0 ∧ win0_6.index t 1 = t.val := by decide +kernel

theorem final4 : (dats m X 0 c).arrAt 4 cfg0.N = arr S4096x2048 fun i k _ => (X c).o (k / 128) i (k % 128) := by
  refine (dats m X 0 c).arrAt_eq_of_covers 4 _ (by decide +kernel) fun t hf z => ?_
  blk_simp
  rw [after4]
  have e0 : (((win0_4.blk t).view.emb z) 0).val = (z 0).val := by blk_simp [(idx4 t).1]
  have e1 : (((win0_4.blk t).view.emb z) 1).val = t.val * 128 + (z 1).val := by blk_simp [(idx4 t).2]
  have hz : (z 1).val < 128 := (z 1).isLt
  show (X c).o t.val (z 0).val (z 1).val = (X c).o ((((win0_4.blk t).view.emb z) 1).val / 128) (((win0_4.blk t).view.emb z) 0).val ((((win0_4.blk t).view.emb z) 1).val % 128)
  rw [e0, e1, show (t.val * 128 + (z 1).val) / 128 = t.val by omega, show (t.val * 128 + (z 1).val) % 128 = (z 1).val by omega]

theorem final5 : (dats m X 0 c).arrAt 5 cfg0.N = arr S4096x2048 fun i k _ => (X c).o2 (k / 128) i (k % 128) := by
  refine (dats m X 0 c).arrAt_eq_of_covers 5 _ (by decide +kernel) fun t hf z => ?_
  blk_simp
  rw [after5]
  have e0 : (((win0_5.blk t).view.emb z) 0).val = (z 0).val := by blk_simp [(idx5 t).1]
  have e1 : (((win0_5.blk t).view.emb z) 1).val = t.val * 128 + (z 1).val := by blk_simp [(idx5 t).2]
  have hz : (z 1).val < 128 := (z 1).isLt
  show (X c).o2 t.val (z 0).val (z 1).val = (X c).o2 ((((win0_5.blk t).view.emb z) 1).val / 128) (((win0_5.blk t).view.emb z) 0).val ((((win0_5.blk t).view.emb z) 1).val % 128)
  rw [e0, e1, show (t.val * 128 + (z 1).val) / 128 = t.val by omega, show (t.val * 128 + (z 1).val) % 128 = (z 1).val by omega]

theorem final6 : (dats m X 0 c).arrAt 6 cfg0.N = arr S4096x2048 fun i k _ => (X c).lse (k / 128) i := by
  refine (dats m X 0 c).arrAt_eq_of_covers 6 _ (by decide +kernel) fun t hf z => ?_
  blk_simp
  rw [after6]
  have e0 : (((win0_6.blk t).view.emb z) 0).val = (z 0).val := by blk_simp [(idx6 t).1]
  have e1 : (((win0_6.blk t).view.emb z) 1).val = t.val * 128 + (z 1).val := by blk_simp [(idx6 t).2]
  have hz : (z 1).val < 128 := (z 1).isLt
  show (X c).lse t.val (z 0).val = (X c).lse ((((win0_6.blk t).view.emb z) 1).val / 128) (((win0_6.blk t).view.emb z) 0).val
  rw [e0, e1, show (t.val * 128 + (z 1).val) / 128 = t.val by omega]

/-- The kernel's program ends with its arguments kept, its counters at zero and the three results at these values. -/
theorem run_values (ρ : Dev nD → PrngReg) (hX : ∀ c, Reads m c (X c)) :
    θ_run defs (onTc (τ := τ) (main (F := Ideal))) ⟨m, fun _ => 0, ρ⟩ (fun r => (∀ c : Dev nD,
      r.2.mem ((c : Thread nD τ).loc main_v43_0) = (arr S4096x2048 fun i k _ => (X c).o (k / 128) i (k % 128) : Vec Ideal S4096x2048 .f32)
      ∧ r.2.mem ((c : Thread nD τ).loc main_v43_1) = (arr S4096x2048 fun i k _ => (X c).o2 (k / 128) i (k % 128) : Vec Ideal S4096x2048 .bf16)
      ∧ r.2.mem ((c : Thread nD τ).loc main_v43_2) = (arr S4096x2048 fun i k _ => (X c).lse (k / 128) i : Vec Ideal S4096x2048 .f32)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6))
      ∧ r.2.sem = fun _ => 0) :=
  (θ_run defs _ _).mono (fun r h => ⟨fun c => ⟨((h.1 c).1 4).trans (final4 m X c), ((h.1 c).1 5).trans (final5 m X c), ((h.1 c).1 6).trans (final6 m X c),
    ((h.1 c).2 main_arg0 (Pipeline.mem_restRefs_of main_arg0 (by decide) (by decide))).trans (V_main_arg0 m c),
    ((h.1 c).2 main_arg1 (Pipeline.mem_restRefs_of main_arg1 (by decide) (by decide))).trans (V_main_arg1 m c),
    ((h.1 c).2 main_arg2 (Pipeline.mem_restRefs_of main_arg2 (by decide) (by decide))).trans (V_main_arg2 m c),
    ((h.1 c).2 main_arg3 (Pipeline.mem_restRefs_of main_arg3 (by decide) (by decide))).trans (V_main_arg3 m c),
    ((h.1 c).2 main_arg4 (Pipeline.mem_restRefs_of main_arg4 (by decide) (by decide))).trans (V_main_arg4 m c),
    ((h.1 c).1 3).trans (((dats m X 0 c).arrAt_in 3 rfl _).trans ((A_eq m X c 3).trans (V_main_arg5 m c))),
    ((h.1 c).2 main_arg6 (Pipeline.mem_restRefs_of main_arg6 (by decide) (by decide))).trans (V_main_arg6 m c)⟩, h.2⟩) (run_main m X ρ hX)

end Cert.AttentionForward
end
-- ==== Proof.AttentionForwardReference.lean ====
/-
  The forward attention, reference side: what the three results hold, in real numbers.
-/
module

public import proofs.«01_k».proof.Proof.Angle
public import proofs.«01_k».proof.Proof.AttentionEquation
public import proofs.«01_k».proof.Proof.Boxes
public import proofs.«01_k».proof.Proof.Rotation
public import proofs.«01_k».proof.Proof.Gen.Reference9Ideal.Run

@[expose] public section

set_option maxRecDepth 16384

noncomputable section

open Idealize.ShloMosaic hiding ix1 ix2 ix3
open Idealize.ShloMosaic.TcCoe Idealize.SL.Sem
open Cert.Arr
open Cert.Attention (Src)
open Finset (range)
open scoped BigOperators

namespace Cert.Reference9Ideal.Attention

open Cert.Reference9Ideal Cert.Reference9Ideal.Gen Cert.Reference9Ideal.Value

/-! ## The program's formulas, piece by piece -/

/-- The rotated query, from the cosines and sines. -/
abbrev turned (r : FVec Ideal S4096x16x64 .f32) (cs sn : FVec Ideal S4096x32 .f32) : FVec Ideal S4096x16x64 .f32 :=
  concatenate S4096x16x64 2
    [⟨S4096x16x32, (subf (mulf (extractStridedSlice S4096x16x32 ![0, 0, 0] r slices_S4096x16x64_S4096x16x32_0_0_0)
        (broadcastInDim S4096x16x32 ![0, 1, 2] bcast_S4096x1x32_S4096x16x32_0_1_2 (broadcastInDim S4096x1x32 ![0, 2] bcast_S4096x32_S4096x1x32_0_2 cs)))
      (mulf (extractStridedSlice S4096x16x32 ![0, 0, 32] r slices_S4096x16x64_S4096x16x32_0_0_32)
        (broadcastInDim S4096x16x32 ![0, 1, 2] bcast_S4096x1x32_S4096x16x32_0_1_2 (broadcastInDim S4096x1x32 ![0, 2] bcast_S4096x32_S4096x1x32_0_2 sn))))⟩,
     ⟨S4096x16x32, (addf (mulf (extractStridedSlice S4096x16x32 ![0, 0, 32] r slices_S4096x16x64_S4096x16x32_0_0_32)
        (broadcastInDim S4096x16x32 ![0, 1, 2] bcast_S4096x1x32_S4096x16x32_0_1_2 (broadcastInDim S4096x1x32 ![0, 2] bcast_S4096x32_S4096x1x32_0_2 cs)))
      (mulf (extractStridedSlice S4096x16x32 ![0, 0, 0] r slices_S4096x16x64_S4096x16x32_0_0_0)
        (broadcastInDim S4096x16x32 ![0, 1, 2] bcast_S4096x1x32_S4096x16x32_0_1_2 (broadcastInDim S4096x1x32 ![0, 2] bcast_S4096x32_S4096x1x32_0_2 sn))))⟩]
    concatenates_S4096x16x32_S4096x16x32_S4096x16x64_d2
/-- The masked scores. -/
abbrev masked (q k : FVec Ideal S4096x16x128 .f32) (kr : FVec Ideal S4096x64 .f32) (t : FVec Ideal S4096x16x64 .f32) : FVec Ideal S16x4096x4096 .f32 :=
  select (broadcastInDim S16x4096x4096 ![1, 2] bcast_S4096x4096_S16x4096x4096_1_2 (cmpi .sle (iotaInDim S4096x4096 32 1) (iotaInDim S4096x4096 32 0)))
    (Host.divf (addf (Host.dotGeneral dot_S4096x16x128_S4096x16x128_S16x4096x4096_2_2_0_0_1_1 none q k)
        (transpose S16x4096x4096 [2, 1, 0] (Host.dotGeneral dot_S4096x64_S4096x16x64_S4096x4096x16_1_2_0_01_n_n none kr t) transposes_S4096x4096x16_S16x4096x4096_2_1_0))
      (broadcastInDim S16x4096x4096 ![] bcast_S_S16x4096x4096 (Host.sqrt (constant S_ .f32 0x43400000#32))))
    (broadcastInDim S16x4096x4096 ![] bcast_S_S16x4096x4096 (id (constant S_ .f32 0xFF800000#32)))
/-- The rows' greatest scores. -/
abbrev peak (S : FVec Ideal S16x4096x4096 .f32) : FVec Ideal S16x4096 .f32 :=
  maximumf (broadcastInDim S16x4096 ![] bcast_S_S16x4096 (constant S_ .f32 0xFF800000#32))
    (Host.reduce FloatOps.maximumf S (constant S_ .f32 0xFF800000#32) reducesTo_S16x4096x4096_S16x4096_d2 h_S_)
/-- The exponentials, a reference value of each row subtracted. -/
abbrev expo (S : FVec Ideal S16x4096x4096 .f32) (M : FVec Ideal S16x4096 .f32) : FVec Ideal S16x4096x4096 .f32 :=
  Host.exp (subf S (broadcastInDim S16x4096x4096 ![0, 1, 2] bcast_S16x4096x1_S16x4096x4096_0_1_2 (broadcastInDim S16x4096x1 ![0, 1] bcast_S16x4096_S16x4096x1_0_1 M)))
/-- The output. -/
abbrev mixed (v : FVec Ideal S4096x16x128 .f32) (e : FVec Ideal S16x4096x4096 .f32) : FVec Ideal S4096x2048 .f32 :=
  shapeCast S4096x2048 (transpose S4096x16x128 [2, 0, 1] (Host.dotGeneral dot_S4096x16x128_S16x4096x4096_S16x128x4096_0_2_2_1_1_0 none v
    (Host.divf e (broadcastInDim S16x4096x4096 ![0, 1, 2] bcast_S16x4096x1_S16x4096x4096_0_1_2 (broadcastInDim S16x4096x1 ![0, 1] bcast_S16x4096_S16x4096x1_0_1
      (Host.reduceAdd e (constant S_ .f32 0x00000000#32) reducesTo_S16x4096x4096_S16x4096_d2 h_S_)))))
    transposes_S16x128x4096_S4096x16x128_2_0_1) shapeCasts_S4096x16x128_S4096x2048
/-- The gated output. -/
abbrev gatedOut (o : FVec Ideal S4096x2048 .f32) (p : FVec Ideal S4096x2560 .f32) : FVec Ideal S4096x2048 .bf16 :=
  truncf .bf16 (mulf o (mulf (extractStridedSlice S4096x2048 ![0, 512] p slices_S4096x2560_S4096x2048_0_512)
    (Host.divf (broadcastInDim S4096x2048 ![] bcast_S_S4096x2048 (constant S_ .f32 0x3F800000#32))
      (addf (broadcastInDim S4096x2048 ![] bcast_S_S4096x2048 (constant S_ .f32 0x3F800000#32))
        (Host.exp (Host.negf (extractStridedSlice S4096x2048 ![0, 512] p slices_S4096x2560_S4096x2048_0_512))))))) bitsLt_bf16_f32
/-- The logarithms of the rows' sums of exponentials, a head's over its columns. -/
abbrev logsOut (S : FVec Ideal S16x4096x4096 .f32) : FVec Ideal S4096x2048 .f32 :=
  shapeCast S4096x2048 (broadcastInDim S4096x16x128 ![0, 1, 2] bcast_S4096x16x1_S4096x16x128_0_1_2 (broadcastInDim S4096x16x1 ![0, 1] bcast_S4096x16_S4096x16x1_0_1
    (transpose S4096x16 [1, 0] (Host.log (Host.reduceAdd (Host.exp S) (constant S_ .f32 0x00000000#32) reducesTo_S16x4096x4096_S16x4096_d2 h_S_))
      transposes_S16x4096_S4096x16_1_0))) shapeCasts_S4096x16x128_S4096x2048

/-! ## The same in real numbers -/

section Values
variable (s : Src) (z : ℕ → ℕ → ℕ → EReal)

theorem turned_eq : turned (arr S4096x16x64 fun i j k => (s.r i j k : EReal)) (arr S4096x32 fun i j k => (s.cs i j k : EReal)) (arr S4096x32 fun i j k => (s.sn i j k : EReal))
    = arr S4096x16x64 fun i h k => (s.qr i h k : EReal) := by
  unfold turned
  rw [concat2_eq (n := 4096) (m := 16) (l₁ := 32) (l₂ := 32) (l := 64)
    (f := fun i h k => ((s.r i h k * s.cs i k 0 - s.r i h (32 + k) * s.sn i k 0 : ℝ) : EReal))
    (g := fun i h k => ((s.r i h (32 + k) * s.cs i k 0 + s.r i h k * s.sn i k 0 : ℝ) : EReal)) ?hx ?hy]
  case hx => simp only [arr_slice3 (n := 4096) (m := 16) (l := 64) (n' := 4096) (m' := 16) (l' := 32), zero_add, arr_bid_02 (n := 4096) (l := 32), arr_bid_mid (n := 4096) (m := 16) (l := 32), arr_mul, arr_sub, cmul, csub]
  case hy => simp only [arr_slice3 (n := 4096) (m := 16) (l := 64) (n' := 4096) (m' := 16) (l' := 32), zero_add, arr_bid_02 (n := 4096) (l := 32), arr_bid_mid (n := 4096) (m := 16) (l := 32), arr_mul, arr_add, cmul, cadd]
  simp only [cite, Src.qr]

theorem masked_eq : masked (arr S4096x16x128 fun i j k => (s.q i j k : EReal)) (arr S4096x16x128 fun i j k => (s.k i j k : EReal))
      (arr S4096x64 fun i j k => (s.kr i j k : EReal)) (arr S4096x16x64 fun i h k => (s.qr i h k : EReal))
    = arr S16x4096x4096 fun h i j => s.sc h i j := by
  unfold masked
  simp only [id, dot_S4096x16x128_S4096x16x128_S16x4096x4096_2_2_0_0_1_1, dot_S4096x64_S4096x16x64_S4096x4096x16_1_2_0_01_n_n, arr_const, arr_hsqrt,
    arr_dot_220011 (n := 4096) (m := 4096) (b := 16) (K := 128), arr_dot_12001 (n := 4096) (m := 4096) (b := 16) (K := 64),
    arr_tr_210 (n := 4096) (m := 4096) (l := 16), arr_add, arr_bid0, arr_hdiv, kbot, k192, csqrt (show (0 : ℝ) ≤ 192 by norm_num), cmul, csum, cadd, cdiv _ Src.root_pos.ne']
  rw [arr_causal (n := 16) (N := 4096) _ _ (by norm_num)]
  simp only [Src.sc, Src.S, Src.dot]

theorem peak_real : ∃ M : ℕ → ℕ → ℕ → ℝ, peak (arr S16x4096x4096 fun h i j => s.sc h i j) = arr S16x4096 fun h i k => (M h i k : EReal) := by
  have h44 : ∃ M : ℕ → ℕ → ℕ → ℝ, Host.reduce (FloatOps.maximumf (F := Ideal) (φ := .f32)) (arr S16x4096x4096 fun h i j => s.sc h i j : Vec Ideal S16x4096x4096 .f32)
      (constant (F := Ideal) S_ .f32 0xFF800000#32) reducesTo_S16x4096x4096_S16x4096_d2 h_S_ = arr S16x4096 fun h i k => (M h i k : EReal) := by
    refine exists_real (s := S16x4096) (Nat.le_succ 2) _ fun i => ?_
    rw [arr_const, kbot]
    exact hmax_real (n := 16) (m := 4096) (l := 4096) (φ := .f32) (fun h i j => s.sc h i j) (fun _ _ _ => ⊥)
      reducesTo_S16x4096x4096_S16x4096_d2 h_S_ rfl (by norm_num)
      (fun h i _ _ => ⟨s.S h i 0, by unfold Src.sc; rw [if_pos (Nat.zero_le i)]⟩)
      (fun h i j _ _ _ => by unfold Src.sc; split <;> simp) i
  obtain ⟨M, hM⟩ := h44
  refine ⟨M, ?_⟩
  unfold peak
  rw [hM, arr_const, kbot, arr_bid0, arr_max]
  exact arr2_ext fun _ _ _ _ => max_eq_right bot_le

theorem expo_eq (M : ℕ → ℕ → ℕ → ℝ) : expo (arr S16x4096x4096 fun h i j => s.sc h i j) (arr S16x4096 fun h i k => (M h i k : EReal))
    = arr S16x4096x4096 fun h i j => (s.E M h i j : EReal) := by
  unfold expo
  simp only [arr_bid_01 (n := 16) (m := 4096) (l := 1), arr_bid_last (n := 16) (m := 4096) (l := 4096), arr_sub, arr_hexp, Src.exp_sc]

theorem mixed_eq (M : ℕ → ℕ → ℕ → ℝ) : mixed (arr S4096x16x128 fun i j k => (s.v i j k : EReal)) (arr S16x4096x4096 fun h i j => (s.E M h i j : EReal))
    = arr S4096x2048 fun i k _ => (s.o M i (k / 128) (k % 128) : EReal) := by
  have hs : (arr S16x4096x4096 fun h i j => ((s.E M h i j / ∑ t ∈ range 4096, s.E M h i t : ℝ) : EReal)) = arr S16x4096x4096 fun h i j => (s.P M h i j : EReal) := rfl
  have hL : ∀ h i, ∑ t ∈ range 4096, s.E M h i t ≠ 0 := fun h i => (s.L_pos M h i).ne'
  unfold mixed
  simp only [arr_const, arr_hlastsum (n := 16) (m := 4096) (l := 4096), arr_bid_01 (n := 16) (m := 4096) (l := 1), Ideal.ofBits_zero_f32, zero_add, csum,
    arr_bid_last (n := 16) (m := 4096) (l := 4096), arr_hdiv, cdiv _ (hL _ _)]
  rw [hs]
  simp only [dot_S4096x16x128_S16x4096x4096_S16x128x4096_0_2_2_1_1_0,
    arr_dot_022110 (n := 128) (m := 4096) (b := 16) (K := 4096), cmul, csum, arr_tr_201 (n := 16) (m := 128) (l := 4096), arr_merge (n := 4096) (b := 16) (c := 128) (bc := 2048) (hbc := rfl)]
  rfl

theorem gated_eq (o : ℕ → ℕ → ℕ → EReal) : gatedOut (arr S4096x2048 o) (arr S4096x2560 z)
    = arr S4096x2048 fun i k l => o i k l * (z i (512 + k) 0 * Ideal.div ((1 : ℝ) : EReal) (((1 : ℝ) : EReal) + Ideal.exp (-z i (512 + k) 0))) := by
  unfold gatedOut
  simp only [arr_const, arr_slice2 (n := 4096) (m := 2560) (n' := 4096) (m' := 2048), zero_add, arr_hneg, arr_hexp, arr_bid0, arr_add, arr_hdiv, arr_mul, arr_truncf, kone]

theorem logs_eq : logsOut (arr S16x4096x4096 fun h i j => s.sc h i j)
    = arr S4096x2048 fun i k _ => (Real.log (s.L (fun _ _ _ => 0) (k / 128) i) : EReal) := by
  have he : Host.exp (F := Ideal) (φ := .f32) (arr S16x4096x4096 fun h i j => s.sc h i j) = arr S16x4096x4096 fun h i j => (s.E (fun _ _ _ => 0) h i j : EReal) := by
    rw [arr_hexp]
    refine arr3_ext fun h i j _ _ _ => ?_
    rw [← Src.exp_sc, EReal.coe_zero, sub_zero]
  have hL : ∀ h i, Ideal.log ((∑ t ∈ range 4096, s.E (fun _ _ _ => 0) h i t : ℝ) : EReal) = (Real.log (s.L (fun _ _ _ => 0) h i) : EReal) := fun h i => by
    show Ideal.log ((s.L (fun _ _ _ => 0) h i : ℝ) : EReal) = _
    rw [Ideal.log_coe, if_neg (s.L_pos _ h i).not_ge]
  unfold logsOut
  rw [he]
  simp only [arr_const, arr_hlastsum (n := 16) (m := 4096) (l := 4096), Ideal.ofBits_zero_f32, zero_add, csum, arr_hlog, hL]
  rw [show transpose S4096x16 [1, 0] (arr S16x4096 fun h i _ => (Real.log (s.L (fun _ _ _ => 0) h i) : EReal)) transposes_S16x4096_S4096x16_1_0
    = arr S4096x16 fun i h _ => (Real.log (s.L (fun _ _ _ => 0) h i) : EReal) from rfl,
    arr_bid_01 (n := 4096) (m := 16) (l := 1), arr_bid_last (n := 4096) (m := 16) (l := 128), arr_merge (n := 4096) (b := 16) (c := 128) (bc := 2048) (hbc := rfl)]
end Values

/-! ## The run -/

variable (m : (ℓ : Loc nD τ sig) → Buf (Elt Ideal) ℓ) (ρ : Dev nD → PrngReg)

/-- The arguments of the reference as numbers, and the cosines and sines of the rotation's angles. -/
structure Args (c : Dev nD) (s : Src) (z : ℕ → ℕ → ℕ → EReal) : Prop where
  hq : m ((c : Thread nD τ).loc main_arg0) = arr S4096x16x128 fun i j k => (s.q i j k : EReal)
  hr : m ((c : Thread nD τ).loc main_arg1) = arr S4096x16x64 fun i j k => (s.r i j k : EReal)
  hk : m ((c : Thread nD τ).loc main_arg2) = arr S4096x16x128 fun i j k => (s.k i j k : EReal)
  hkr : m ((c : Thread nD τ).loc main_arg3) = arr S4096x64 fun i j k => (s.kr i j k : EReal)
  hv : m ((c : Thread nD τ).loc main_arg4) = arr S4096x16x128 fun i j k => (s.v i j k : EReal)
  hz : m ((c : Thread nD τ).loc main_arg5) = arr S4096x2560 z
  hcs : cosines (m ((c : Thread nD τ).loc main_arg6)) = arr S4096x32 fun i j k => (s.cs i j k : EReal)
  hsn : sines (m ((c : Thread nD τ).loc main_arg6)) = arr S4096x32 fun i j k => (s.sn i j k : EReal)

/-- The masked scores of the arguments. -/
abbrev scores (c : Dev nD) : FVec Ideal S16x4096x4096 .f32 :=
  masked (m ((c : Thread nD τ).loc main_arg0)) (m ((c : Thread nD τ).loc main_arg2)) (m ((c : Thread nD τ).loc main_arg3))
    (turned (m ((c : Thread nD τ).loc main_arg1)) (cosines (m ((c : Thread nD τ).loc main_arg6))) (sines (m ((c : Thread nD τ).loc main_arg6))))

theorem v57 (c : Dev nD) : res_main_v57 m c = mixed (m ((c : Thread nD τ).loc main_arg4)) (expo (scores m c) (peak (scores m c))) := by
  unfold res_main_v57; rfl
theorem v64 (c : Dev nD) : res_main_v64 m c = gatedOut (mixed (m ((c : Thread nD τ).loc main_arg4)) (expo (scores m c) (peak (scores m c)))) (m ((c : Thread nD τ).loc main_arg5)) := by
  unfold res_main_v64; rfl
theorem v68 (c : Dev nD) : res_main_v68 m c = logsOut (scores m c) := by
  unfold res_main_v68; rfl

section
variable {m} {c : Dev nD} {s : Src} {z : ℕ → ℕ → ℕ → EReal} (a : Args m c s z)
include a

theorem scores_eq : scores m c = arr S16x4096x4096 fun h i j => s.sc h i j := by
  unfold scores
  rw [a.hcs, a.hsn, a.hr, turned_eq s, a.hq, a.hk, a.hkr, masked_eq s]
theorem out_eq : ∃ M : ℕ → ℕ → ℕ → ℝ, mixed (m ((c : Thread nD τ).loc main_arg4)) (expo (scores m c) (peak (scores m c)))
    = arr S4096x2048 fun i k _ => (s.o M i (k / 128) (k % 128) : EReal) := by
  obtain ⟨M, hM⟩ := peak_real s
  exact ⟨M, by rw [scores_eq a, hM, expo_eq, a.hv, mixed_eq]⟩
end

/-- The run, its results by their formulas. -/
theorem run_at {s : Dev nD → Src} {z : Dev nD → ℕ → ℕ → ℕ → EReal} (h : ∀ c, Args m c (s c) (z c)) : ∃ M : Dev nD → ℕ → ℕ → ℕ → ℝ,
    θ_run defs (onTc (τ := τ) (main (F := Ideal))) ⟨m, fun _ => 0, ρ⟩ fun r => ∀ c : Dev nD,
      r.2.mem ((c.tc : Thread nD τ).loc main_v57) = arr S4096x2048 (fun i k _ => ((s c).o (M c) i (k / 128) (k % 128) : EReal))
      ∧ r.2.mem ((c.tc : Thread nD τ).loc main_v64) = arr S4096x2048 (fun i k _ => ((s c).o (M c) i (k / 128) (k % 128) : EReal)
        * (z c i (512 + k) 0 * Ideal.div ((1 : ℝ) : EReal) (((1 : ℝ) : EReal) + Ideal.exp (-z c i (512 + k) 0))))
      ∧ r.2.mem ((c.tc : Thread nD τ).loc main_v68) = arr S4096x2048 (fun i k _ => (Real.log ((s c).L (fun _ _ _ => 0) (k / 128) i) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  choose M hM using fun c => out_eq (h c)
  refine ⟨M, (θ_run defs _ _).mono (fun r hr c => ⟨(hr c).1.trans ?_, (hr c).2.1.trans ?_, (hr c).2.2.1.trans ?_, (hr c).2.2.2⟩) (Value.run m ρ)⟩
  · exact (v57 m c).trans (hM c)
  · rw [v64, hM, (h c).hz, gated_eq]
  · rw [v68, scores_eq (h c), logs_eq]

/-- The reference's frame claim. -/
theorem frame : θ_run defs (onTc (τ := τ) (main (F := Ideal))) ⟨m, fun _ => 0, ρ⟩ fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0 :=
  (θ_run defs _ _).mono (fun r h => ⟨fun c => (h c).2.2.2, sem_eq_zero_of_no_sems (by decide) r.2⟩) (Value.run m ρ)

end Cert.Reference9Ideal.Attention
end
-- ==== Proof.AttentionForward.lean ====
/-
  The forward attention: the claims about this call.
-/
module

public import proofs.«01_k».proof.Defs
public import proofs.«01_k».proof.Proof.AttentionForwardHost
public import proofs.«01_k».proof.Proof.AttentionForwardFinal
public import proofs.«01_k».proof.Proof.AttentionForwardReference
public import proofs.«01_k».proof.Proof.Gen.Kernel9.Frame

@[expose] public section

noncomputable section

open Idealize.ShloMosaic hiding ix1 ix2 ix3
open Idealize.ShloMosaic.TcCoe Idealize.SL.Sem
open Cert.Arr
open Cert.Attention (Src)

namespace Cert.AttentionForward

/-- The facts the precondition's text states. -/
instance preFacts : Cert.Pre_attention_forward_finite.Facts where
  bcast_S_S4096x16x128 := by decide +kernel
  bcast_S_S4096x16x64 := by decide +kernel
  bcast_S_S4096x64 := by decide +kernel

/-- The two programs' results are equal where queries, keys and values are finite. -/
theorem value : Cert.algebraic_Kernel9Ideal_Reference9Ideal_pre_attention_forward_finite := by
  intro m ρ m' ρ' hpre hargs
  have key : ∀ c : Dev Cert.Kernel9Ideal.nD, ∃ s : Src, ∃ z : ℕ → ℕ → ℕ → EReal, Reads m c (inp s z)
      ∧ Cert.Reference9Ideal.Attention.Args m' c s z := by
    intro c
    obtain ⟨a0, a1, a2, a3, a4, a5, a6⟩ := hargs c
    obtain ⟨f0, f1, f2, f3, f4⟩ := hpre c
    obtain ⟨q, hq⟩ := exists_real (s := ⟨3, ![4096, 16, 128]⟩) le_rfl (m ((c.tc : Thread Cert.Kernel9Ideal.nD Cert.Kernel9Ideal.τ).loc Cert.Kernel9Ideal.main_arg0)) (finite_of_olt _ _ _ f0)
    obtain ⟨r, hr⟩ := exists_real (s := ⟨3, ![4096, 16, 64]⟩) le_rfl (m ((c.tc : Thread Cert.Kernel9Ideal.nD Cert.Kernel9Ideal.τ).loc Cert.Kernel9Ideal.main_arg1)) (finite_of_olt _ _ _ f1)
    obtain ⟨k, hk⟩ := exists_real (s := ⟨3, ![4096, 16, 128]⟩) le_rfl (m ((c.tc : Thread Cert.Kernel9Ideal.nD Cert.Kernel9Ideal.τ).loc Cert.Kernel9Ideal.main_arg2)) (finite_of_olt _ _ _ f2)
    obtain ⟨kr, hkr⟩ := exists_real (s := ⟨2, ![4096, 64]⟩) (Nat.le_succ 2) (m ((c.tc : Thread Cert.Kernel9Ideal.nD Cert.Kernel9Ideal.τ).loc Cert.Kernel9Ideal.main_arg3)) (finite_of_olt _ _ _ f3)
    obtain ⟨v, hv⟩ := exists_real (s := ⟨3, ![4096, 16, 128]⟩) le_rfl (m ((c.tc : Thread Cert.Kernel9Ideal.nD Cert.Kernel9Ideal.τ).loc Cert.Kernel9Ideal.main_arg4)) (finite_of_olt _ _ _ f4)
    obtain ⟨z, hz⟩ := exists_arr (s := ⟨2, ![4096, 2560]⟩) (Nat.le_succ 2) (m ((c.tc : Thread Cert.Kernel9Ideal.nD Cert.Kernel9Ideal.τ).loc Cert.Kernel9Ideal.main_arg5))
    have hang : Reals (angle (m ((c.tc : Thread Cert.Kernel9Ideal.nD Cert.Kernel9Ideal.τ).loc Cert.Kernel9Ideal.main_arg6))) := angle_real (n := 4096) (m := 32) _ _ _ _ _ _ _ _ _
    obtain ⟨cs, hcs⟩ := exists_real (s := ⟨2, ![4096, 32]⟩) (Nat.le_succ 2) _ hang.cos
    obtain ⟨sn, hsn⟩ := exists_real (s := ⟨2, ![4096, 32]⟩) (Nat.le_succ 2) _ hang.sin
    let s : Src := ⟨q, r, k, kr, v, 0, cs, sn⟩
    have a : Args m c s z := ⟨hq, hr, hk, hkr, hv, hz, hcs, hsn⟩
    exact ⟨s, z, reads m c a, ⟨a0.trans hq, a1.trans hr, a2.trans hk, a3.trans hkr, a4.trans hv, a5.trans hz,
      (congrArg cosines a6).trans hcs,
      (congrArg sines a6).trans hsn⟩⟩
  choose s z hX hr using key
  obtain ⟨M', hrun⟩ := Cert.Reference9Ideal.Attention.run_at m' ρ' hr
  refine ⟨_, _, _, (θ_run Cert.Kernel9Ideal.defs _ _).mono (fun r h c => h.1 c) (run_values m (fun c => inp (s c) (z c)) ρ hX), ?_⟩
  refine (θ_run Cert.Reference9Ideal.defs _ _).mono (fun r h c => ⟨(h c).1.trans ?_, (h c).2.1.trans ?_, (h c).2.2.1.trans ?_, (h c).2.2.2⟩) hrun
  · refine arr2_ext fun i j hi hj => ?_
    show _ = (inp (s c) (z c)).o (j / 128) i (j % 128)
    rw [o_eq _ _ _ hi (M' c) (Nat.mod_lt _ (by decide))]
  · refine arr2_ext fun i j hi hj => ?_
    show _ = (inp (s c) (z c)).o2 (j / 128) i (j % 128)
    rw [o2_eq _ _ _ hi (M' c) (Nat.mod_lt _ (by decide)), show (4 + j / 128) * 128 + j % 128 = 512 + j by omega]
  · refine arr2_ext fun i j hi hj => ?_
    show _ = (inp (s c) (z c)).lse (j / 128) i
    rw [lse_eq _ _ _ hi]

end Cert.AttentionForward
end
-- ==== Proof.KvForwardBlocks.lean ====
/-
  The latent projection, kernel side: the arrays the region finds, the blocks the points read, and what a point leaves in
  its four result blocks.
-/
module

public import proofs.«01_k».proof.Proof.Angle
public import proofs.«01_k».proof.Proof.KvForwardForm
public import proofs.«01_k».proof.Proof.Gen.Kernel10Ideal.Value
public import Idealize.ShloMosaic.Lib.Tactic
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)
open Cert.Arr

namespace Cert.Kernel10Ideal.KvForward

open Cert.Kernel10Ideal Cert.Kernel10Ideal.Gen Cert.KvForward

theorem hz : (![0, 0] : Fin 2 → Nat) = fun _ => 0 := funext fun a => by fin_cases a <;> rfl

section Arrays
variable (m : (ℓ : Loc nD τ sig) → Buf (Elt Ideal) ℓ) (c : Dev nD)

/-! ## The arrays the region finds -/

theorem V_x {x : ℕ → ℕ → ℕ → EReal} (h : m ((c : Thread nD τ).loc main_arg0) = arr S4096x1024 x) :
    V m c main_v29 = arr S4096x1024 fun i j _ => x i j 0 := by
  unfold V
  after_reads_simp
  rw [h]
  exact arr2_ext fun _ _ _ _ => rfl

theorem V_w {w : ℕ → ℕ → ℕ → EReal} (h : m ((c : Thread nD τ).loc main_arg2) = arr S1024x320 w) :
    V m c main_v24 = arr S1024x384 fun i j _ => padded 320 (fun i j => w i j 0) i j := by
  unfold V
  after_reads_simp
  rw [h]
  show pad S1024x384 ![0, 0] ![0, 64] ![0, 0] (arr S1024x320 w) (sitofp (F := Ideal) .bf16 (constantI S_ 32 0#32)) pads_S1024x320_S1024x384_000_0640 h_S_ = _
  rw [arr_sitofp_zero, arr_pad2]
  rfl

theorem V_u {a b : ℕ → ℕ → ℕ → EReal} (ha : m ((c : Thread nD τ).loc main_arg4) = arr S256x16x128 a) (hb : m ((c : Thread nD τ).loc main_arg5) = arr S256x16x128 b) :
    V m c main_v28 = arr S256x4096 fun i j _ => heads a b i j := by
  unfold V
  after_reads_simp
  show shapeCast _ (concatenate S256x16x256 2 [⟨S256x16x128, _⟩, ⟨S256x16x128, _⟩] concatenates_S256x16x128_S256x16x128_S256x16x256_d2) shapeCasts_S256x16x256_S256x4096 = _
  rw [concat2_eq (n := 256) (m := 16) (l₁ := 128) (l₂ := 128) (f := a) (g := b) ?hx ?hy, arr_merge (b := 16) (c := 256) (bc := 4096) _ rfl]
  · rfl
  · after_reads_simp; rw [ha]; rfl
  · after_reads_simp; rw [hb]; rfl

theorem V_g {g : ℕ → ℕ → ℕ → EReal} (h : m ((c : Thread nD τ).loc main_arg3) = arr S256 g) :
    V m c main_v30 = arr S1x256 fun _ j _ => g j 0 0 := by
  unfold V
  after_reads_simp
  rw [h]
  exact arr_cast_row g _

/-- The cosines twice, padded with zeros. -/
theorem V_cos {cs : ℕ → ℕ → ℕ → EReal} (h : cosines (m ((c : Thread nD τ).loc main_arg1)) = arr S4096x32 cs) :
    V m c main_v19 = arr S4096x128 fun i j _ => padded 64 (cos2 cs) i j := by
  unfold V
  after_reads_simp
  show pad S4096x128 ![0, 0] ![0, 64] ![0, 0] (concatenate S4096x64 1 [⟨S4096x32, _⟩, ⟨S4096x32, _⟩] concatenates_S4096x32_S4096x32_S4096x64_d1)
    (sitofp (F := Ideal) .f32 (constantI S_ 32 0#32)) pads_S4096x64_S4096x128_000_0640 h_S_ = _
  rw [concat1_eq (n := 4096) (m₁ := 32) (m₂ := 32) cs cs ?hx ?hy, arr_sitofp_zero, arr_pad2]
  · rfl
  · after_reads_simp; exact h
  · after_reads_simp; exact h

/-- The sines negated and the sines, padded with zeros. -/
theorem V_sin {sn : ℕ → ℕ → ℕ → EReal} (h : sines (m ((c : Thread nD τ).loc main_arg1)) = arr S4096x32 sn) :
    V m c main_v22 = arr S4096x128 fun i j _ => padded 64 (sin2 sn) i j := by
  unfold V
  after_reads_simp
  show pad S4096x128 ![0, 0] ![0, 64] ![0, 0] (concatenate S4096x64 1 [⟨S4096x32, _⟩, ⟨S4096x32, _⟩] concatenates_S4096x32_S4096x32_S4096x64_d1)
    (sitofp (F := Ideal) .f32 (constantI S_ 32 0#32)) pads_S4096x64_S4096x128_000_0640 h_S_ = _
  rw [concat1_eq (n := 4096) (m₁ := 32) (m₂ := 32) (fun i j _ => -sn i j 0) sn ?hx ?hy, arr_sitofp_zero, arr_pad2]
  · rfl
  · after_reads_simp; exact (congrArg (Host.negf (F := Ideal) (φ := .f32)) h).trans rfl
  · after_reads_simp; exact h

/-! ## The blocks the points read and write -/

theorem idx0 : ∀ t : Fin cfg0.N, win0_0.index t 0 = t.val ∧ win0_0.index t 1 = 0 := by decide +kernel
theorem idx1 : ∀ t : Fin cfg0.N, win0_1.index t 0 = 0 ∧ win0_1.index t 1 = 0 := by decide +kernel
theorem idx2 : ∀ t : Fin cfg0.N, win0_2.index t 0 = 0 ∧ win0_2.index t 1 = 0 := by decide +kernel
theorem idx3 : ∀ t : Fin cfg0.N, win0_3.index t 0 = 0 ∧ win0_3.index t 1 = 0 := by decide +kernel
theorem idx4 : ∀ t : Fin cfg0.N, win0_4.index t 0 = t.val ∧ win0_4.index t 1 = 0 := by decide +kernel
theorem idx5 : ∀ t : Fin cfg0.N, win0_5.index t 0 = t.val ∧ win0_5.index t 1 = 0 := by decide +kernel
theorem idx6 : ∀ t : Fin cfg0.N, win0_6.index t 0 = t.val ∧ win0_6.index t 1 = 0 := by decide +kernel
theorem idx7 : ∀ t : Fin cfg0.N, win0_7.index t 0 = t.val ∧ win0_7.index t 1 = 0 := by decide +kernel
theorem idx8 : ∀ t : Fin cfg0.N, win0_8.index t 0 = t.val ∧ win0_8.index t 1 = 0 := by decide +kernel
theorem idx9 : ∀ t : Fin cfg0.N, win0_9.index t 0 = t.val ∧ win0_9.index t 1 = 0 := by decide +kernel

variable (t : Fin cfg0.N) {f : ℕ → ℕ → ℕ → EReal}

theorem blk0 (h : V m c main_v29 = arr S4096x1024 f) : iblk m c 0 t = arr S512x1024 fun i j _ => f (t.val * 512 + i) j 0 := by
  funext j
  unfold iblk
  rw [View.read_apply]
  show V m c main_v29 _ = _
  rw [h]
  refine at_congr (f := f) ?_ ?_
  · show win0_0.index t 0 * 512 + 1 * (j 0).val = t.val * 512 + (j 0).val
    rw [(idx0 t).1]; omega
  · show win0_0.index t 1 * 1024 + 1 * (j 1).val = (j 1).val
    rw [(idx0 t).2]; omega
theorem blk1 (h : V m c main_v24 = arr S1024x384 f) : iblk m c 1 t = arr S1024x384 fun i j _ => f i j 0 := by
  funext j
  unfold iblk
  rw [View.read_apply]
  show V m c main_v24 _ = _
  rw [h]
  refine at_congr (f := f) ?_ ?_
  · show win0_1.index t 0 * 1024 + 1 * (j 0).val = (j 0).val
    rw [(idx1 t).1]; omega
  · show win0_1.index t 1 * 384 + 1 * (j 1).val = (j 1).val
    rw [(idx1 t).2]; omega
theorem blk2 (h : V m c main_v28 = arr S256x4096 f) : iblk m c 2 t = arr S256x4096 fun i j _ => f i j 0 := by
  funext j
  unfold iblk
  rw [View.read_apply]
  show V m c main_v28 _ = _
  rw [h]
  refine at_congr (f := f) ?_ ?_
  · show win0_2.index t 0 * 256 + 1 * (j 0).val = (j 0).val
    rw [(idx2 t).1]; omega
  · show win0_2.index t 1 * 4096 + 1 * (j 1).val = (j 1).val
    rw [(idx2 t).2]; omega
theorem blk3 (h : V m c main_v30 = arr S1x256 f) : iblk m c 3 t = arr S1x256 fun i j _ => f i j 0 := by
  funext j
  unfold iblk
  rw [View.read_apply]
  show V m c main_v30 _ = _
  rw [h]
  refine at_congr (f := f) ?_ ?_
  · show win0_3.index t 0 * 1 + 1 * (j 0).val = (j 0).val
    rw [(idx3 t).1]; omega
  · show win0_3.index t 1 * 256 + 1 * (j 1).val = (j 1).val
    rw [(idx3 t).2]; omega
theorem blk4 (h : V m c main_v19 = arr S4096x128 f) : iblk m c 4 t = arr S512x128 fun i j _ => f (t.val * 512 + i) j 0 := by
  funext j
  unfold iblk
  rw [View.read_apply]
  show V m c main_v19 _ = _
  rw [h]
  refine at_congr (f := f) ?_ ?_
  · show win0_4.index t 0 * 512 + 1 * (j 0).val = t.val * 512 + (j 0).val
    rw [(idx4 t).1]; omega
  · show win0_4.index t 1 * 128 + 1 * (j 1).val = (j 1).val
    rw [(idx4 t).2]; omega
theorem blk5 (h : V m c main_v22 = arr S4096x128 f) : iblk m c 5 t = arr S512x128 fun i j _ => f (t.val * 512 + i) j 0 := by
  funext j
  unfold iblk
  rw [View.read_apply]
  show V m c main_v22 _ = _
  rw [h]
  refine at_congr (f := f) ?_ ?_
  · show win0_5.index t 0 * 512 + 1 * (j 0).val = t.val * 512 + (j 0).val
    rw [(idx5 t).1]; omega
  · show win0_5.index t 1 * 128 + 1 * (j 1).val = (j 1).val
    rw [(idx5 t).2]; omega

/-! ## What a point leaves -/

section Points
variable (x w u rc rs : ℕ → ℕ → EReal) (g : ℕ → EReal)

theorem pay3_eq : k0_pay3 (F := Ideal) (arr S512x1024 fun i j _ => x i j) (arr S1024x384 fun i j _ => w i j) = arr S512x384 fun i j _ => pr x w i j := by
  unfold k0_pay3
  simp only [dot_S512x1024_S1024x384_S512x384_1_0_0_1_n_n, arr_cast_self, arr_const, Ideal.ofBits_zero_f32]
  rw [arr_matmul_nn (n := 512) (m := 384) (K := 1024)]
  simp only [zero_add]
  rfl
theorem pay4_eq : k0_pay4 (F := Ideal) (arr S512x1024 fun i j _ => x i j) (arr S1024x384 fun i j _ => w i j) (arr S1x256 fun _ j _ => g j)
    = arr S512x256 fun i j _ => nm (pr x w) g i j := by
  unfold k0_pay4
  simp only [pay3_eq, arr_slice2 (n := 512) (m := 384) (n' := 512) (m' := 256), arr_cast_self, arr_mul, arr_rowsum (n := 512) (m := 256), arr_cast_col, arr_bcast, arr_div, arr_add,
    arr_rsqrt, arr_spread_col (n := 512) (m := 256), arr_spread_row, arr_truncf, zero_add]
  rfl
theorem pay5_eq : k0_pay5 (F := Ideal) (arr S512x1024 fun i j _ => x i j) (arr S1024x384 fun i j _ => w i j) = arr S512x128 fun i j _ => pr x w i (256 + j) := by
  unfold k0_pay5
  simp only [pay3_eq, arr_slice2 (n := 512) (m := 384) (n' := 512) (m' := 128), zero_add]
theorem pay6_eq : k0_pay6 (F := Ideal) (arr S512x1024 fun i j _ => x i j) (arr S1024x384 fun i j _ => w i j) (arr S512x128 fun i j _ => rc i j)
    = arr S512x128 fun i j _ => pr x w i (256 + j) * rc i j := by
  unfold k0_pay6
  simp only [pay5_eq, arr_cast_self, arr_mul]
theorem pay7_eq : k0_pay7 (F := Ideal) (arr S512x1024 fun i j _ => x i j) (arr S1024x384 fun i j _ => w i j) (arr S512x128 fun i j _ => rs i j)
    = arr S512x128 fun i j _ => (if j < 32 then pr x w i (256 + (j + 32) % 128) else pr x w i (256 + (j + 96) % 128)) * rs i j := by
  unfold k0_pay7
  simp only [pay5_eq, arr_cast_self]
  rw [arr_swap (n := 512)]
  rfl
theorem pay1_eq : k0_pay1 (F := Ideal) (k0_pay6 (F := Ideal) (arr S512x1024 fun i j _ => x i j) (arr S1024x384 fun i j _ => w i j) (arr S512x128 fun i j _ => rc i j))
    (k0_pay7 (F := Ideal) (arr S512x1024 fun i j _ => x i j) (arr S1024x384 fun i j _ => w i j) (arr S512x128 fun i j _ => rs i j))
      = arr S512x128 fun i j _ => rot (pr x w) rc rs i j := by
  rw [pay6_eq, pay7_eq]
  rfl
theorem pay2_eq (n : ℕ → ℕ → EReal) : k0_pay2 (F := Ideal) (arr S512x256 fun i j _ => n i j) (arr S256x4096 fun i j _ => u i j)
    = arr S512x4096 fun i j _ => upd n u i j := by
  unfold k0_pay2
  simp only [dot_S512x256_S256x4096_S512x4096_1_0_0_1_n_n, arr_cast_self, arr_const, Ideal.ofBits_zero_f32]
  rw [arr_matmul_nn (n := 512) (m := 4096) (K := 256)]
  simp only [zero_add, arr_truncf]
  rfl
end Points

section Outs
variable {F : FTy → Type} [FloatOps F]
variable (x0 : Vec F S512x1024 .bf16) (x1 : Vec F S1024x384 .bf16) (x2 : Vec F S256x4096 .bf16) (x3 : Vec F S1x256 .f32)
  (x4 x5 : Vec F S512x128 .f32)

theorem out6_eq : out0_6 x0 x1 x2 x3 x4 x5 = k0_pay3 x0 x1 := by
  unfold out0_6 r0_2 r0_0 r0_1
  rw [View.canon_unit_zero hz, View.ld_unit_zero (S := S512x1024) hz, View.ld_unit_zero (S := S1024x384) hz]
theorem out7_eq : out0_7 x0 x1 x2 x3 x4 x5 = k0_pay4 x0 x1 x3 := by
  unfold out0_7 r0_4 r0_3 r0_0 r0_1
  rw [View.canon_unit_zero hz, View.ld_unit_zero (S := S512x1024) hz, View.ld_unit_zero (S := S1024x384) hz, View.ld_unit_zero (S := S1x256) hz]
theorem out8_eq : out0_8 x0 x1 x2 x3 x4 x5 = k0_pay1 (k0_pay6 x0 x1 x4) (k0_pay7 x0 x1 x5) := by
  unfold out0_8 r0_5 r0_0 r0_1
  rw [View.canon_unit_zero hz, View.ld_unit_zero (S := S512x1024) hz, View.ld_unit_zero (S := S1024x384) hz, View.ld_unit_zero (S := S512x128) hz, View.ld_unit_zero (S := S512x128) hz]
theorem out9_eq : out0_9 x0 x1 x2 x3 x4 x5 = k0_pay2 (k0_pay4 x0 x1 x3) x2 := by
  unfold out0_9 r0_7 r0_6 r0_3 r0_0 r0_1
  rw [View.canon_unit_zero hz, View.ld_unit_zero (S := S512x1024) hz, View.ld_unit_zero (S := S1024x384) hz, View.ld_unit_zero (S := S1x256) hz, View.ld_unit_zero (S := S256x4096) hz]
end Outs
end Arrays

end Cert.Kernel10Ideal.KvForward
-- ==== Proof.KvForwardValue.lean ====
/-
  The latent projection, kernel side: the four result arrays after the run. Row tile `t` of each is what point `t` leaves.
-/
module

public import proofs.«01_k».proof.Proof.KvForwardBlocks
public import Idealize.ShloMosaic.Lib.Pipeline.ValueKit.Geometry

@[expose] public section

set_option maxRecDepth 16384

noncomputable section

open Idealize.ShloMosaic Idealize.ShloMosaic.TcCoe Idealize.SL.Sem
open Idealize.ShloMosaic.Pipeline (Dat)
open Cert.Arr

namespace Cert.Kernel10Ideal.KvForward

open Cert.Kernel10Ideal Cert.Kernel10Ideal.Gen Cert.Kernel10Ideal.Value Cert.KvForward

variable (m : (ℓ : Loc nD τ sig) → Buf (Elt Ideal) ℓ) (c : Dev nD)
variable {x w g a b cs sn : ℕ → ℕ → ℕ → EReal}

/-- The arguments of the kernel as functions of coordinates, and the cosines and sines of the rotation's angles. -/
structure Args (x w g a b cs sn : ℕ → ℕ → ℕ → EReal) : Prop where
  hx : m ((c : Thread nD τ).loc main_arg0) = arr S4096x1024 x
  hw : m ((c : Thread nD τ).loc main_arg2) = arr S1024x320 w
  hg : m ((c : Thread nD τ).loc main_arg3) = arr S256 g
  ha : m ((c : Thread nD τ).loc main_arg4) = arr S256x16x128 a
  hb : m ((c : Thread nD τ).loc main_arg5) = arr S256x16x128 b
  hcs : cosines (m ((c : Thread nD τ).loc main_arg1)) = arr S4096x32 cs
  hsn : sines (m ((c : Thread nD τ).loc main_arg1)) = arr S4096x32 sn

/-- The padded projection of the arguments. -/
def pj (x w : ℕ → ℕ → ℕ → EReal) : ℕ → ℕ → EReal := pr (fun i k => x i k 0) (padded 320 fun i j => w i j 0)
/-- Rows from `512·t` on. -/
def rows (t : ℕ) (f : ℕ → ℕ → EReal) (i j : ℕ) : EReal := f (t * 512 + i) j

variable (h : Args m c x w g a b cs sn)
include h

theorem rd0 (t : Fin cfg0.N) : iblk m c 0 t = arr S512x1024 fun i j _ => rows t.val (fun i k => x i k 0) i j :=
  blk0 m c t (f := fun i j _ => x i j 0) (V_x m c (x := x) h.hx)
theorem rd1 (t : Fin cfg0.N) : iblk m c 1 t = arr S1024x384 fun i j _ => padded 320 (fun i j => w i j 0) i j :=
  blk1 m c t (f := fun i j _ => padded 320 (fun i j => w i j 0) i j) (V_w m c (w := w) h.hw)
theorem rd2 (t : Fin cfg0.N) : iblk m c 2 t = arr S256x4096 fun i j _ => heads a b i j :=
  blk2 m c t (f := fun i j _ => heads a b i j) (V_u m c h.ha h.hb)
theorem rd3 (t : Fin cfg0.N) : iblk m c 3 t = arr S1x256 fun _ j _ => g j 0 0 :=
  blk3 m c t (f := fun _ j _ => g j 0 0) (V_g m c (g := g) h.hg)
theorem rd4 (t : Fin cfg0.N) : iblk m c 4 t = arr S512x128 fun i j _ => rows t.val (padded 64 (cos2 cs)) i j :=
  blk4 m c t (f := fun i j _ => padded 64 (cos2 cs) i j) (V_cos m c (cs := cs) h.hcs)
theorem rd5 (t : Fin cfg0.N) : iblk m c 5 t = arr S512x128 fun i j _ => rows t.val (padded 64 (sin2 sn)) i j :=
  blk5 m c t (f := fun i j _ => padded 64 (sin2 sn) i j) (V_sin m c (sn := sn) h.hsn)

/-- The first result: the padded projection. -/
theorem final6 : (dats m 0 c).arrAt 6 cfg0.N = arr S4096x384 fun i j _ => pj x w i j := by
  refine (dats m 0 c).arrAt_eq_of_covers 6 _ (by decide +kernel) fun t hf y => ?_
  blk_simp
  rw [after0_6, out6_eq, rd0 m c h, rd1 m c h, pay3_eq]
  have e0 : (((win0_6.blk t).view.emb y) 0).val = t.val * 512 + (y 0).val := by blk_simp [(idx6 t).1]
  have e1 : (((win0_6.blk t).view.emb y) 1).val = (y 1).val := by blk_simp [(idx6 t).2]
  show pj x w (t.val * 512 + (y 0).val) (y 1).val = pj x w (((win0_6.blk t).view.emb y) 0).val (((win0_6.blk t).view.emb y) 1).val
  rw [e0, e1]

/-- The second result: the normalized latent, scaled. -/
theorem final7 : (dats m 0 c).arrAt 7 cfg0.N = arr S4096x256 fun i j _ => nm (pj x w) (fun j => g j 0 0) i j := by
  refine (dats m 0 c).arrAt_eq_of_covers 7 _ (by decide +kernel) fun t hf y => ?_
  blk_simp
  rw [after0_7, out7_eq, rd0 m c h, rd1 m c h, rd3 m c h, pay4_eq _ _ fun j => g j 0 0]
  have e0 : (((win0_7.blk t).view.emb y) 0).val = t.val * 512 + (y 0).val := by blk_simp [(idx7 t).1]
  have e1 : (((win0_7.blk t).view.emb y) 1).val = (y 1).val := by blk_simp [(idx7 t).2]
  show nm (pj x w) (fun j => g j 0 0) (t.val * 512 + (y 0).val) (y 1).val
    = nm (pj x w) (fun j => g j 0 0) (((win0_7.blk t).view.emb y) 0).val (((win0_7.blk t).view.emb y) 1).val
  rw [e0, e1]

/-- The third result: the rotated key. -/
theorem final8 : (dats m 0 c).arrAt 8 cfg0.N = arr S4096x128 fun i j _ => rot (pj x w) (padded 64 (cos2 cs)) (padded 64 (sin2 sn)) i j := by
  refine (dats m 0 c).arrAt_eq_of_covers 8 _ (by decide +kernel) fun t hf y => ?_
  blk_simp
  rw [after0_8, out8_eq, rd0 m c h, rd1 m c h, rd4 m c h, rd5 m c h, pay1_eq]
  have e0 : (((win0_8.blk t).view.emb y) 0).val = t.val * 512 + (y 0).val := by blk_simp [(idx8 t).1]
  have e1 : (((win0_8.blk t).view.emb y) 1).val = (y 1).val := by blk_simp [(idx8 t).2]
  show rot (pj x w) (padded 64 (cos2 cs)) (padded 64 (sin2 sn)) (t.val * 512 + (y 0).val) (y 1).val
    = rot (pj x w) (padded 64 (cos2 cs)) (padded 64 (sin2 sn)) (((win0_8.blk t).view.emb y) 0).val (((win0_8.blk t).view.emb y) 1).val
  rw [e0, e1]

/-- The fourth result: the heads of keys and values. -/
theorem final9 : (dats m 0 c).arrAt 9 cfg0.N = arr S4096x4096 fun i j _ => upd (nm (pj x w) fun j => g j 0 0) (heads a b) i j := by
  refine (dats m 0 c).arrAt_eq_of_covers 9 _ (by decide +kernel) fun t hf y => ?_
  blk_simp
  rw [after0_9, out9_eq, rd0 m c h, rd1 m c h, rd2 m c h, rd3 m c h, pay4_eq _ _ fun j => g j 0 0, pay2_eq]
  have e0 : (((win0_9.blk t).view.emb y) 0).val = t.val * 512 + (y 0).val := by blk_simp [(idx9 t).1]
  have e1 : (((win0_9.blk t).view.emb y) 1).val = (y 1).val := by blk_simp [(idx9 t).2]
  show upd (nm (pj x w) fun j => g j 0 0) (heads a b) (t.val * 512 + (y 0).val) (y 1).val
    = upd (nm (pj x w) fun j => g j 0 0) (heads a b) (((win0_9.blk t).view.emb y) 0).val (((win0_9.blk t).view.emb y) 1).val
  rw [e0, e1]

end Cert.Kernel10Ideal.KvForward
-- ==== Proof.KvForwardReference.lean ====
/-
  The latent projection, reference side: what the four results hold, as formulas of the arguments' elements.
-/
module

public import proofs.«01_k».proof.Proof.Angle
public import proofs.«01_k».proof.Proof.KvForwardForm
public import proofs.«01_k».proof.Proof.LnForm
public import proofs.«01_k».proof.Proof.Gen.Reference10Ideal.Run

@[expose] public section

set_option maxRecDepth 16384

noncomputable section

open Idealize.ShloMosaic Idealize.ShloMosaic.TcCoe Idealize.SL.Sem
open Cert.Arr
open scoped BigOperators

namespace Cert.Reference10Ideal.KvForward

open Cert.Reference10Ideal Cert.Reference10Ideal.Gen Cert.Reference10Ideal.Value Cert.KvForward

variable (m : (ℓ : Loc nD τ sig) → Buf (Elt Ideal) ℓ) (ρ : Dev nD → PrngReg)

/-- The arguments of the reference as functions of coordinates, and the cosines and sines of the rotation's angles. -/
structure Args (c : Dev nD) (x w g a b cs sn : ℕ → ℕ → ℕ → EReal) : Prop where
  hx : m ((c : Thread nD τ).loc main_arg0) = arr S4096x1024 x
  hw : m ((c : Thread nD τ).loc main_arg2) = arr S1024x320 w
  hg : m ((c : Thread nD τ).loc main_arg3) = arr S256 g
  ha : m ((c : Thread nD τ).loc main_arg4) = arr S256x16x128 a
  hb : m ((c : Thread nD τ).loc main_arg5) = arr S256x16x128 b
  hcs : Host.cos (F := Ideal) (φ := .f32) (angle (m ((c : Thread nD τ).loc main_arg1))) = arr S4096x32 cs
  hsn : Host.sin (F := Ideal) (φ := .f32) (angle (m ((c : Thread nD τ).loc main_arg1))) = arr S4096x32 sn

/-- The projection of the arguments. -/
def pj (x w : ℕ → ℕ → ℕ → EReal) : ℕ → ℕ → EReal := pr (fun i k => x i k 0) fun i j => w i j 0

section Terms
variable (x w g : ℕ → ℕ → ℕ → EReal)

/-- The projection. -/
abbrev tP (X : Vec Ideal S4096x1024 .f32) (W : Vec Ideal S1024x320 .f32) : Vec Ideal S4096x320 .f32 :=
  Host.dotGeneral (F := Ideal) (φ₁ := .f32) (φ₂ := .f32) dot_S4096x1024_S1024x320_S4096x320_1_0_0_1_n_n none X W

theorem tP_eq : Host.dotGeneral (F := Ideal) (φ₁ := .f32) (φ₂ := .f32) dot_S4096x1024_S1024x320_S4096x320_1_0_0_1_n_n none (arr S4096x1024 x) (arr S1024x320 w)
    = arr S4096x320 fun i j _ => pj x w i j := by
  simp only [dot_S4096x1024_S1024x320_S4096x320_1_0_0_1_n_n]
  rw [Cert.Ln.arr_hdot_nn (n := 4096) (k := 1024) (m := 320)]
  rfl

/-- The normalized latent, scaled, of a projection. -/
abbrev tN (P : Vec Ideal S4096x320 .f32) (G : Vec Ideal S256 .f32) : Vec Ideal S4096x256 .f32 :=
  mulf (F := Ideal) (φ := .f32) (mulf (F := Ideal) (φ := .f32) (extractStridedSlice S4096x256 ![0, 0] P slices_S4096x320_S4096x256_0_0)
    (broadcastInDim S4096x256 ![0, 1] bcast_S4096x1_S4096x256_0_1 (Host.rsqrt (F := Ideal) (φ := .f32) (addf (F := Ideal) (φ := .f32) (Host.divf (F := Ideal) (φ := .f32)
      (broadcastInDim S4096x1 ![0] bcast_S4096_S4096x1_0 (Host.reduceAdd (F := Ideal) (φ := .f32) (mulf (F := Ideal) (φ := .f32) (extractStridedSlice S4096x256 ![0, 0] P slices_S4096x320_S4096x256_0_0)
        (extractStridedSlice S4096x256 ![0, 0] P slices_S4096x320_S4096x256_0_0)) (constant (F := Ideal) S_ .f32 0x00000000#32) reducesTo_S4096x256_S4096_d1 h_S_))
      (broadcastInDim S4096x1 ![] bcast_S_S4096x1 (constant (F := Ideal) S_ .f32 0x43800000#32))) (broadcastInDim S4096x1 ![] bcast_S_S4096x1 (constant (F := Ideal) S_ .f32 0x358637BD#32))))))
    (broadcastInDim S4096x256 ![0, 1] bcast_S1x256_S4096x256_0_1 (broadcastInDim S1x256 ![1] bcast_S256_S1x256_1 G))

theorem tN_eq (p : ℕ → ℕ → EReal) : tN (arr S4096x320 fun i j _ => p i j) (arr S256 g) = arr S4096x256 fun i j _ => nm p (fun j => g j 0 0) i j := by
  unfold tN
  simp only [arr_slice2 (n := 4096) (m := 320) (n' := 4096) (m' := 256), arr_mul, arr_const,
    arr_hrowsum (n := 4096) (m := 256), arr_cast_col (n := 4096), arr_bid0, arr_bid_1_0 (n := 4096) (m := 1), arr_bid_1_1 (n := 1) (m := 256), arr_bid_col (n := 4096) (m := 256),
    arr_bid_row (n := 4096) (m := 256), arr_hdiv, arr_add, arr_hrsqrt, Ideal.ofBits_zero_f32, zero_add]
  rfl
end Terms

section Results
variable {c : Dev nD} {x w g a b cs sn : ℕ → ℕ → ℕ → EReal} (h : Args m c x w g a b cs sn)
include h

theorem res0 : pad S4096x384 ![0, 0] ![0, 64] ![0, 0] (tP (m ((c.tc : Thread nD τ).loc main_arg0)) (m ((c.tc : Thread nD τ).loc main_arg2)))
    (sitofp (F := Ideal) .f32 (constantI S_ 32 0#32)) pads_S4096x320_S4096x384_000_0640 h_S_ = arr S4096x384 fun i j _ => padded 320 (pj x w) i j := by
  unfold tP
  rw [h.hx, h.hw, tP_eq, arr_sitofp_zero, arr_pad2]
  rfl

theorem res1 : tN (tP (m ((c.tc : Thread nD τ).loc main_arg0)) (m ((c.tc : Thread nD τ).loc main_arg2))) (m ((c.tc : Thread nD τ).loc main_arg3))
    = arr S4096x256 fun i j _ => nm (pj x w) (fun j => g j 0 0) i j := by
  unfold tP
  rw [h.hx, h.hw, h.hg, tP_eq, tN_eq]

theorem res2 : res_main_v62 m c = arr S4096x128 fun i j _ => padded 64 (rope (pj x w) cs sn) i j := by
  unfold res_main_v62
  show pad S4096x128 ![0, 0] ![0, 64] ![0, 0] (concatenate S4096x64 1 [⟨S4096x32, _⟩, ⟨S4096x32, _⟩] concatenates_S4096x32_S4096x32_S4096x64_d1)
    (sitofp (F := Ideal) .f32 (constantI S_ 32 0#32)) pads_S4096x64_S4096x128_000_0640 h_S_ = _
  rw [concat1_eq (n := 4096) (m := 64) (m₁ := 32) (m₂ := 32) (fun i j _ => pj x w i (256 + j) * cs i j 0 - pj x w i (256 + (32 + j)) * sn i j 0)
      (fun i j _ => pj x w i (256 + (32 + j)) * cs i j 0 + pj x w i (256 + j) * sn i j 0) ?hx ?hy, arr_sitofp_zero, arr_pad2]
  · rfl
  case hx =>
    rw [h.hx, h.hw, h.hcs, h.hsn, tP_eq]
    simp only [arr_slice2 (n := 4096) (m := 320) (n' := 4096) (m' := 64), arr_slice2 (n := 4096) (m := 64) (n' := 4096) (m' := 32), arr_mul, arr_sub, zero_add]
    exact arr2_ext fun _ _ _ _ => rfl
  case hy =>
    rw [h.hx, h.hw, h.hcs, h.hsn, tP_eq]
    simp only [arr_slice2 (n := 4096) (m := 320) (n' := 4096) (m' := 64), arr_slice2 (n := 4096) (m := 64) (n' := 4096) (m' := 32), arr_mul, arr_add, zero_add]
    exact arr2_ext fun _ _ _ _ => rfl

/-- The products with the key's and the value's heads, side by side. -/
theorem res3 : shapeCast S4096x4096 (concatenate S4096x16x256 2
      [⟨S4096x16x128, Host.dotGeneral (F := Ideal) (φ₁ := .f32) (φ₂ := .f32) dot_S4096x256_S256x16x128_S4096x16x128_1_0_0_12_n_n none
        (tN (tP (m ((c.tc : Thread nD τ).loc main_arg0)) (m ((c.tc : Thread nD τ).loc main_arg2))) (m ((c.tc : Thread nD τ).loc main_arg3))) (m ((c.tc : Thread nD τ).loc main_arg4))⟩,
       ⟨S4096x16x128, Host.dotGeneral (F := Ideal) (φ₁ := .f32) (φ₂ := .f32) dot_S4096x256_S256x16x128_S4096x16x128_1_0_0_12_n_n none
        (tN (tP (m ((c.tc : Thread nD τ).loc main_arg0)) (m ((c.tc : Thread nD τ).loc main_arg2))) (m ((c.tc : Thread nD τ).loc main_arg3))) (m ((c.tc : Thread nD τ).loc main_arg5))⟩]
      concatenates_S4096x16x128_S4096x16x128_S4096x16x256_d2) shapeCasts_S4096x16x256_S4096x4096
    = arr S4096x4096 fun i j _ => heads (fun i h q => ∑ k ∈ Finset.range 256, nm (pj x w) (fun j => g j 0 0) i k * a k h q)
        (fun i h q => ∑ k ∈ Finset.range 256, nm (pj x w) (fun j => g j 0 0) i k * b k h q) i j := by
  rw [res1 m h, h.ha, h.hb]
  simp only [dot_S4096x256_S256x16x128_S4096x16x128_1_0_0_12_n_n]
  rw [concat2_eq (n := 4096) (m := 16) (l₁ := 128) (l₂ := 128) (arr_dot_1_0 (n := 4096) (K := 256) (m := 16) (l := 128) _ _ _ _)
    (arr_dot_1_0 (n := 4096) (K := 256) (m := 16) (l := 128) _ _ _ _), arr_merge (b := 16) (c := 256) (bc := 4096) _ rfl]
  rfl

end Results

/-- The run, its results by their formulas. -/
theorem run_at {x w g a b cs sn : Dev nD → ℕ → ℕ → ℕ → EReal} (h : ∀ c, Args m c (x c) (w c) (g c) (a c) (b c) (cs c) (sn c)) :
    θ_run defs (onTc (τ := τ) (main (F := Ideal))) ⟨m, fun _ => 0, ρ⟩ fun r => ∀ c : Dev nD,
      r.2.mem ((c.tc : Thread nD τ).loc main_v45) = arr S4096x384 (fun i j _ => padded 320 (pj (x c) (w c)) i j)
      ∧ r.2.mem ((c.tc : Thread nD τ).loc main_v60) = arr S4096x256 (fun i j _ => nm (pj (x c) (w c)) (fun j => g c j 0 0) i j)
      ∧ r.2.mem ((c.tc : Thread nD τ).loc main_v62) = arr S4096x128 (fun i j _ => padded 64 (rope (pj (x c) (w c)) (cs c) (sn c)) i j)
      ∧ r.2.mem ((c.tc : Thread nD τ).loc main_v65) = arr S4096x4096 (fun i j _ => heads (fun i h q => ∑ k ∈ Finset.range 256, nm (pj (x c) (w c)) (fun j => g c j 0 0) i k * a c k h q)
        (fun i h q => ∑ k ∈ Finset.range 256, nm (pj (x c) (w c)) (fun j => g c j 0 0) i k * b c k h q) i j)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r hr c => ⟨(hr c).1.trans (res0 m (h c)), (hr c).2.1.trans (res1 m (h c)), (hr c).2.2.1.trans (res2 m (h c)),
    (hr c).2.2.2.1.trans (res3 m (h c)), (hr c).2.2.2.2⟩) (Value.run m ρ)

/-- The reference leaves its arguments, and every counter at zero. -/
theorem frame :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0 :=
  (θ_run defs _ _).mono (fun r h => ⟨fun c => (h c).2.2.2.2, sem_eq_zero_of_no_sems (by decide) r.2⟩) (Value.run m ρ)

end Cert.Reference10Ideal.KvForward
-- ==== Proof.KvForward.lean ====
/-
  The latent projection: the claim about this call. It needs no precondition.
-/
module

public import proofs.«01_k».proof.Defs
public import proofs.«01_k».proof.Proof.KvForwardValue
public import proofs.«01_k».proof.Proof.KvForwardReference
public import proofs.«01_k».proof.Proof.Gen.Kernel10.Frame

@[expose] public section

noncomputable section

open Idealize.ShloMosaic Idealize.ShloMosaic.TcCoe Idealize.SL.Sem
open Cert.Arr
open Cert.Kernel10Ideal (nD τ main_arg0 main_arg1 main_arg2 main_arg3 main_arg4 main_arg5)

namespace Cert.KvForward

/-- The padded projection of the kernel is the reference's, padded. -/
theorem pj_eq (x w : ℕ → ℕ → ℕ → EReal) : Cert.Kernel10Ideal.KvForward.pj x w = padded 320 (Cert.Reference10Ideal.KvForward.pj x w) :=
  pr_padded _ _

/-- The two programs' results are equal. -/
theorem value : Cert.algebraic_Kernel10Ideal_Reference10Ideal := by
  intro m ρ m' ρ' hpre hargs
  have key : ∀ c : Dev nD, ∃ x w g a b cs sn, Cert.Kernel10Ideal.KvForward.Args m c x w g a b cs sn
      ∧ Cert.Reference10Ideal.KvForward.Args m' c x w g a b cs sn := by
    intro c
    obtain ⟨a0, a1, a2, a3, a4, a5⟩ := hargs c
    obtain ⟨x, hx⟩ := exists_arr (s := ⟨2, ![4096, 1024]⟩) (by decide) (m ((c.tc : Thread nD τ).loc main_arg0))
    obtain ⟨w, hw⟩ := exists_arr (s := ⟨2, ![1024, 320]⟩) (by decide) (m ((c.tc : Thread nD τ).loc main_arg2))
    obtain ⟨g, hg⟩ := exists_arr (s := ⟨1, ![256]⟩) (by decide) (m ((c.tc : Thread nD τ).loc main_arg3))
    obtain ⟨a, ha⟩ := exists_arr (s := ⟨3, ![256, 16, 128]⟩) (by decide) (m ((c.tc : Thread nD τ).loc main_arg4))
    obtain ⟨b, hb⟩ := exists_arr (s := ⟨3, ![256, 16, 128]⟩) (by decide) (m ((c.tc : Thread nD τ).loc main_arg5))
    obtain ⟨cs, hcs⟩ := exists_arr (s := ⟨2, ![4096, 32]⟩) (by decide) (cosines (m ((c.tc : Thread nD τ).loc main_arg1)))
    obtain ⟨sn, hsn⟩ := exists_arr (s := ⟨2, ![4096, 32]⟩) (by decide) (sines (m ((c.tc : Thread nD τ).loc main_arg1)))
    exact ⟨x, w, g, a, b, cs, sn, ⟨hx, hw, hg, ha, hb, hcs, hsn⟩,
      ⟨a0.trans hx, a2.trans hw, a3.trans hg, a4.trans ha, a5.trans hb,
        (congrArg cosines a1).trans hcs,
        (congrArg sines a1).trans hsn⟩⟩
  choose x w g a b cs sn hk hr using key
  refine ⟨_, _, _, _, (θ_run Cert.Kernel10Ideal.defs _ _).mono (fun r h c => ⟨(h c).1.trans (Cert.Kernel10Ideal.KvForward.final6 m c (hk c)),
    (h c).2.1.trans (Cert.Kernel10Ideal.KvForward.final7 m c (hk c)), (h c).2.2.1.trans (Cert.Kernel10Ideal.KvForward.final8 m c (hk c)),
    (h c).2.2.2.1.trans (Cert.Kernel10Ideal.KvForward.final9 m c (hk c)), (h c).2.2.2.2⟩) (Cert.Kernel10Ideal.Value.run_blocks m ρ), ?_⟩
  refine (θ_run Cert.Reference10Ideal.defs _ _).mono (fun r h c => ⟨(h c).1.trans ?_, (h c).2.1.trans ?_, (h c).2.2.1.trans ?_, (h c).2.2.2.1.trans ?_, (h c).2.2.2.2⟩)
    (Cert.Reference10Ideal.KvForward.run_at m' ρ' hr)
  · rw [pj_eq]
  · refine arr2_ext fun i j hi hj => ?_
    rw [pj_eq]
    exact (nm_padded _ _ i hj).symm
  · refine arr2_ext fun i j hi hj => ?_
    rw [pj_eq]
    exact (rot_padded _ _ _ i j).symm
  · refine arr2_ext fun i j hi hj => ?_
    rw [pj_eq, upd_padded, upd_heads]

end Cert.KvForward
-- ==== Proof.QForwardForm.lean ====
/-
  The queries' up-projection with the rotation of each head's last columns: what the result holds, as a formula of the
  arguments' elements, in the form the kernel computes (heads padded to 256 columns) and in the plain one.
-/
module

public import proofs.«01_k».proof.Proof.KvForwardForm

@[expose] public section

noncomputable section

open Idealize.ShloMosaic
open Cert.Arr Cert.KvForward
open scoped BigOperators

namespace Cert.QForward

/-- The projection: the row of `x` against the column of `w`. -/
def qp (x w : ℕ → ℕ → EReal) (i j : ℕ) : EReal := ∑ k ∈ Finset.range 512, x i k * w k j
/-- Columns rotated: the columns against `rc`, their halves exchanged against `rs`. -/
def turn (y rc rs : ℕ → ℕ → EReal) (i j : ℕ) : EReal :=
  y i j * rc i j + (if j < 32 then y i ((j + 32) % 128) else y i ((j + 96) % 128)) * rs i j
/-- Heads of 256 columns: the first 128 as they are, the others rotated. -/
def turned (q rc rs : ℕ → ℕ → EReal) (i j : ℕ) : EReal :=
  if j % 256 < 128 then q i j else turn (fun i l => q i (j / 256 * 256 + 128 + l)) rc rs i (j % 256 - 128)
/-- Heads of 192 columns padded with zeros to 256. -/
def wide (w : ℕ → ℕ → ℕ → EReal) (i j : ℕ) : EReal := if j % 256 < 192 then w i (j / 256) (j % 256) else 0
/-- The plain rotation of 64 columns. -/
def rope (y : ℕ → ℕ → EReal) (cs sn : ℕ → ℕ → ℕ → EReal) (i j : ℕ) : EReal :=
  if j < 32 then y i j * cs i j 0 - y i (32 + j) * sn i j 0
  else y i (32 + (j - 32)) * cs i (j - 32) 0 + y i (j - 32) * sn i (j - 32) 0
/-- The plain projection, element by element of the heads. -/
def qh (x : ℕ → ℕ → EReal) (w : ℕ → ℕ → ℕ → EReal) (i h d : ℕ) : EReal := ∑ k ∈ Finset.range 512, x i k * w k h d
/-- The plain queries: a head's first 128 columns, and its last 64 rotated. -/
def head (x : ℕ → ℕ → EReal) (w cs sn : ℕ → ℕ → ℕ → EReal) (i h d : ℕ) : EReal :=
  if d < 128 then qh x w i h d else rope (fun i l => qh x w i h (128 + l)) cs sn i (d - 128)

theorem turn_padded (y : ℕ → ℕ → EReal) (cs sn : ℕ → ℕ → ℕ → EReal) (i j : ℕ) :
    turn (padded 64 y) (padded 64 (cos2 cs)) (padded 64 (sin2 sn)) i j = padded 64 (rope y cs sn) i j := by
  by_cases h : j < 64
  · rw [padded_lt _ _ h]
    unfold turn
    rw [padded_lt _ _ h, padded_lt _ _ h, padded_lt _ _ h]
    unfold cos2 sin2 rope
    by_cases h0 : j < 32
    · simp only [if_pos h0]
      rw [padded_lt _ _ (show (j + 32) % 128 < 64 by omega), show (j + 32) % 128 = 32 + j by omega, mul_neg, sub_eq_add_neg]
    · simp only [if_neg h0]
      rw [padded_lt _ _ (show (j + 96) % 128 < 64 by omega), show (j + 96) % 128 = j - 32 by omega, show 32 + (j - 32) = j by omega]
  · rw [padded_ge _ _ h]
    unfold turn
    rw [padded_ge _ _ h, padded_ge (cos2 cs) _ h, padded_ge (sin2 sn) _ h, mul_zero, mul_zero, add_zero]

variable (x : ℕ → ℕ → EReal) (w : ℕ → ℕ → ℕ → EReal)

theorem qp_wide (i j : ℕ) : qp x (wide w) i j = if j % 256 < 192 then qh x w i (j / 256) (j % 256) else 0 := by
  unfold qp wide qh
  by_cases h : j % 256 < 192
  · simp only [if_pos h]
  · simp only [if_neg h, mul_zero, Finset.sum_const_zero]

/-- The kernel's form of the result is the plain heads, padded. -/
theorem turned_wide (cs sn : ℕ → ℕ → ℕ → EReal) (i j : ℕ) :
    turned (qp x (wide w)) (padded 64 (cos2 cs)) (padded 64 (sin2 sn)) i j = wide (head x w cs sn) i j := by
  unfold turned
  show _ = if j % 256 < 192 then head x w cs sn i (j / 256) (j % 256) else 0
  unfold head
  by_cases h : j % 256 < 128
  · rw [if_pos h, if_pos (by omega), if_pos h]
    exact (qp_wide x w i j).trans (if_pos (by omega))
  · rw [if_neg h, if_neg h]
    have hy : turn (fun i l => qp x (wide w) i (j / 256 * 256 + 128 + l)) (padded 64 (cos2 cs)) (padded 64 (sin2 sn)) i (j % 256 - 128)
        = turn (padded 64 fun i l => qh x w i (j / 256) (128 + l)) (padded 64 (cos2 cs)) (padded 64 (sin2 sn)) i (j % 256 - 128) := by
      have e : ∀ l, l < 128 → qp x (wide w) i (j / 256 * 256 + 128 + l) = padded 64 (fun i l => qh x w i (j / 256) (128 + l)) i l := fun l hl => by
        rw [qp_wide, show (j / 256 * 256 + 128 + l) % 256 = 128 + l by omega, show (j / 256 * 256 + 128 + l) / 256 = j / 256 by omega]
        by_cases hl : l < 64
        · rw [if_pos (by omega), padded_lt _ _ hl]
        · rw [if_neg (by omega), padded_ge _ _ hl]
      unfold turn
      simp only [e _ (show j % 256 - 128 < 128 by omega), e _ (show (j % 256 - 128 + 32) % 128 < 128 by omega), e _ (show (j % 256 - 128 + 96) % 128 < 128 by omega)]
    rw [hy, turn_padded]
    by_cases h1 : j % 256 < 192
    · rw [if_pos h1, padded_lt _ _ (by omega)]
    · rw [if_neg h1, padded_ge _ _ (by omega)]

section Stores
variable {q rc rs : ℕ → ℕ → EReal} {g : ℕ → ℕ → ℕ → EReal} {L : List (View.Piece (Elt Ideal) ⟨2, ![1024, 1024]⟩ .bf16)}

/-- The two stores of one head, after those of the heads before it. -/
theorem stores (h : ℕ) {o1 o2 : ℕ} (h1 : o1 = 256 * h) (h2 : o2 = 256 * h + 128)
    (hL : View.canon L = arr ⟨2, ![1024, 1024]⟩ fun i j _ => if j < 256 * h then turned q rc rs i j else g i j 0)
    {a b : Vec Ideal ⟨2, ![1024, 128]⟩ .bf16} (ha : a = arr ⟨2, ![1024, 128]⟩ fun i j _ => q i (o1 + j))
    (hb : b = arr ⟨2, ![1024, 128]⟩ fun i j _ => turn (fun i l => q i (o2 + l)) rc rs i j) (inb1 inb2) :
    View.canon ((⟨Rect.unit (s := ⟨2, ![1024, 1024]⟩) ![0, o2] ![1024, 128] inb2, b⟩ : View.Piece (Elt Ideal) ⟨2, ![1024, 1024]⟩ .bf16)
      :: (⟨Rect.unit (s := ⟨2, ![1024, 1024]⟩) ![0, o1] ![1024, 128] inb1, a⟩ : View.Piece (Elt Ideal) ⟨2, ![1024, 1024]⟩ .bf16) :: L)
      = arr ⟨2, ![1024, 1024]⟩ fun i j _ => if j < 256 * (h + 1) then turned q rc rs i j else g i j 0 := by
  subst h1 h2 ha hb
  refine (canon_box_bf16 (n := 1024) (m := 1024) (n' := 1024) (m' := 128) _ (canon_box_bf16 (n := 1024) (m := 1024) (n' := 1024) (m' := 128) _ hL inb1) inb2).trans (arr2_ext fun i j hi hj => ?_)
  by_cases a : j < 256 * h
  · rw [if_neg (by omega), if_neg (by omega), if_pos a, if_pos (by omega)]
  by_cases b : j < 256 * h + 128
  · rw [if_neg (by omega), if_pos (by omega), if_pos (by omega)]
    unfold turned
    rw [if_pos (by omega), Nat.sub_zero, show 256 * h + (j - 256 * h) = j by omega]
  by_cases c : j < 256 * (h + 1)
  · rw [if_pos (by omega), if_pos c]
    unfold turned
    rw [if_neg (by omega), Nat.sub_zero, show j / 256 * 256 = 256 * h by omega, show j % 256 - 128 = j - (256 * h + 128) by omega]
  · rw [if_neg (by omega), if_neg (by omega), if_neg a, if_neg c]

/-- The columns of a slice as they are. -/
theorem plain_slice (o : ℕ) (h1 h2) : truncf (F := Ideal) (φ := .f32) .bf16 (extractStridedSlice ⟨2, ![1024, 128]⟩ ![0, o] (arr ⟨2, ![1024, 1024]⟩ fun i j _ => q i j) h1) h2
    = arr ⟨2, ![1024, 128]⟩ fun i j _ => q i (o + j) := by
  rw [arr_slice2]
  simp only [zero_add]
  rfl

/-- The columns of a slice rotated. -/
theorem turn_slice (o : ℕ) (h1 hi h2 h3 h4) :
    truncf (F := Ideal) (φ := .f32) .bf16 (addf (F := Ideal) (φ := .f32)
      (mulf (F := Ideal) (φ := .f32) (extractStridedSlice ⟨2, ![1024, 128]⟩ ![0, o] (arr ⟨2, ![1024, 1024]⟩ fun i j _ => q i j) h1) (arr ⟨2, ![1024, 128]⟩ fun i j _ => rc i j))
      (mulf (F := Ideal) (φ := .f32) (select (cmpi .slt (iota .tc ⟨2, ![1024, 128]⟩ 32 [1] hi) (broadcast ⟨2, ![1024, 128]⟩ 32#32))
        (dynamicRotate 1 96#32 none (extractStridedSlice ⟨2, ![1024, 128]⟩ ![0, o] (arr ⟨2, ![1024, 1024]⟩ fun i j _ => q i j) h1) h2)
        (dynamicRotate 1 32#32 none (extractStridedSlice ⟨2, ![1024, 128]⟩ ![0, o] (arr ⟨2, ![1024, 1024]⟩ fun i j _ => q i j) h1) h3)) (arr ⟨2, ![1024, 128]⟩ fun i j _ => rs i j))) h4
      = arr ⟨2, ![1024, 128]⟩ fun i j _ => turn (fun i l => q i (o + l)) rc rs i j := by
  rw [arr_slice2, arr_swap]
  simp only [zero_add]
  rfl
end Stores

end Cert.QForward
-- ==== Proof.QForwardValue.lean ====
/-
  The queries' up-projection, kernel side: the arrays the region finds, the blocks the points read, what a point leaves in
  its result block, and the result array after the run.
-/
module

public import proofs.«01_k».proof.Proof.Angle
public import proofs.«01_k».proof.Proof.QForwardForm
public import proofs.«01_k».proof.Proof.Gen.Kernel11Ideal.Value
public import Idealize.ShloMosaic.Lib.Tactic
public import Idealize.ShloMosaic.Lib.StableHlo.RunRead
public import Idealize.ShloMosaic.Lib.Pipeline.ValueKit.Geometry

@[expose] public section

set_option maxRecDepth 16384

noncomputable section

open Idealize.ShloMosaic Idealize.ShloMosaic.TcCoe Idealize.SL.Sem
open Idealize.ShloMosaic.Pipeline (Dat)
open Cert.Arr

namespace Cert.Kernel11Ideal.QForward

open Cert.Kernel11Ideal Cert.Kernel11Ideal.Gen Cert.Kernel11Ideal.Value Cert.QForward
open Cert.KvForward (padded cos2 sin2)

theorem hz : (![0, 0] : Fin 2 → Nat) = fun _ => 0 := funext fun a => by fin_cases a <;> rfl

section Arrays
variable (m : (ℓ : Loc nD τ sig) → Buf (Elt Ideal) ℓ) (c : Dev nD)

theorem V_x {x : ℕ → ℕ → ℕ → EReal} (h : m ((c : Thread nD τ).loc main_arg0) = arr S4096x512 x) :
    V m c main_v26 = arr S4096x512 fun i j _ => x i j 0 := by
  unfold V
  after_reads_simp
  rw [h]
  exact arr2_ext fun _ _ _ _ => rfl

theorem V_w {w : ℕ → ℕ → ℕ → EReal} (h : m ((c : Thread nD τ).loc main_arg2) = arr S512x16x192 w) :
    V m c main_v25 = arr S512x4096 fun i j _ => wide w i j := by
  unfold V
  after_reads_simp
  rw [h]
  show shapeCast S512x4096 (pad S512x16x256 ![0, 0, 0] ![0, 0, 64] ![0, 0, 0] (arr S512x16x192 w) (sitofp (F := Ideal) .bf16 (constantI S_ 32 0#32)) pads_S512x16x192_S512x16x256_000_000_0640 h_S_) shapeCasts_S512x16x256_S512x4096 = _
  rw [arr_sitofp_zero, arr_pad3, arr_merge (b := 16) (c := 256) (bc := 4096) _ rfl]
  rfl

/-- The cosines twice, padded with zeros. -/
theorem V_cos {cs : ℕ → ℕ → ℕ → EReal} (h : cosines (m ((c : Thread nD τ).loc main_arg1)) = arr S4096x32 cs) :
    V m c main_v19 = arr S4096x128 fun i j _ => padded 64 (cos2 cs) i j := by
  unfold V
  after_reads_simp
  show pad S4096x128 ![0, 0] ![0, 64] ![0, 0] (concatenate S4096x64 1 [⟨S4096x32, _⟩, ⟨S4096x32, _⟩] concatenates_S4096x32_S4096x32_S4096x64_d1)
    (sitofp (F := Ideal) .f32 (constantI S_ 32 0#32)) pads_S4096x64_S4096x128_000_0640 h_S_ = _
  rw [concat1_eq (n := 4096) (m₁ := 32) (m₂ := 32) cs cs ?hx ?hy, arr_sitofp_zero, arr_pad2]
  · rfl
  · after_reads_simp; exact h
  · after_reads_simp; exact h

/-- The sines negated and the sines, padded with zeros. -/
theorem V_sin {sn : ℕ → ℕ → ℕ → EReal} (h : sines (m ((c : Thread nD τ).loc main_arg1)) = arr S4096x32 sn) :
    V m c main_v22 = arr S4096x128 fun i j _ => padded 64 (sin2 sn) i j := by
  unfold V
  after_reads_simp
  show pad S4096x128 ![0, 0] ![0, 64] ![0, 0] (concatenate S4096x64 1 [⟨S4096x32, _⟩, ⟨S4096x32, _⟩] concatenates_S4096x32_S4096x32_S4096x64_d1)
    (sitofp (F := Ideal) .f32 (constantI S_ 32 0#32)) pads_S4096x64_S4096x128_000_0640 h_S_ = _
  rw [concat1_eq (n := 4096) (m₁ := 32) (m₂ := 32) (fun i j _ => -sn i j 0) sn ?hx ?hy, arr_sitofp_zero, arr_pad2]
  · rfl
  · after_reads_simp; exact (congrArg (Host.negf (F := Ideal) (φ := .f32)) h).trans rfl
  · after_reads_simp; exact h

/-! ## The blocks the points read and write -/

theorem idx0 : ∀ t : Fin cfg0.N, win0_0.index t 0 = t.val / 4 ∧ win0_0.index t 1 = 0 := by decide +kernel
theorem idx1 : ∀ t : Fin cfg0.N, win0_1.index t 0 = 0 ∧ win0_1.index t 1 = t.val % 4 := by decide +kernel
theorem idx2 : ∀ t : Fin cfg0.N, win0_2.index t 0 = t.val / 4 ∧ win0_2.index t 1 = 0 := by decide +kernel
theorem idx3 : ∀ t : Fin cfg0.N, win0_3.index t 0 = t.val / 4 ∧ win0_3.index t 1 = 0 := by decide +kernel
theorem idx4 : ∀ t : Fin cfg0.N, win0_4.index t 0 = t.val / 4 ∧ win0_4.index t 1 = t.val % 4 := by decide +kernel

variable (t : Fin cfg0.N) {f : ℕ → ℕ → ℕ → EReal}

theorem blk0 (h : V m c main_v26 = arr S4096x512 f) : iblk m c 0 t = arr S1024x512 fun i j _ => f (t.val / 4 * 1024 + i) j 0 := by
  funext j
  unfold iblk
  rw [View.read_apply]
  show V m c main_v26 _ = _
  rw [h]
  refine at_congr (f := f) ?_ ?_
  · show win0_0.index t 0 * 1024 + 1 * (j 0).val = t.val / 4 * 1024 + (j 0).val
    rw [(idx0 t).1]; omega
  · show win0_0.index t 1 * 512 + 1 * (j 1).val = (j 1).val
    rw [(idx0 t).2]; omega
theorem blk1 (h : V m c main_v25 = arr S512x4096 f) : iblk m c 1 t = arr S512x1024 fun i j _ => f i (t.val % 4 * 1024 + j) 0 := by
  funext j
  unfold iblk
  rw [View.read_apply]
  show V m c main_v25 _ = _
  rw [h]
  refine at_congr (f := f) ?_ ?_
  · show win0_1.index t 0 * 512 + 1 * (j 0).val = (j 0).val
    rw [(idx1 t).1]; omega
  · show win0_1.index t 1 * 1024 + 1 * (j 1).val = t.val % 4 * 1024 + (j 1).val
    rw [(idx1 t).2]; omega
theorem blk2 (h : V m c main_v19 = arr S4096x128 f) : iblk m c 2 t = arr S1024x128 fun i j _ => f (t.val / 4 * 1024 + i) j 0 := by
  funext j
  unfold iblk
  rw [View.read_apply]
  show V m c main_v19 _ = _
  rw [h]
  refine at_congr (f := f) ?_ ?_
  · show win0_2.index t 0 * 1024 + 1 * (j 0).val = t.val / 4 * 1024 + (j 0).val
    rw [(idx2 t).1]; omega
  · show win0_2.index t 1 * 128 + 1 * (j 1).val = (j 1).val
    rw [(idx2 t).2]; omega
theorem blk3 (h : V m c main_v22 = arr S4096x128 f) : iblk m c 3 t = arr S1024x128 fun i j _ => f (t.val / 4 * 1024 + i) j 0 := by
  funext j
  unfold iblk
  rw [View.read_apply]
  show V m c main_v22 _ = _
  rw [h]
  refine at_congr (f := f) ?_ ?_
  · show win0_3.index t 0 * 1024 + 1 * (j 0).val = t.val / 4 * 1024 + (j 0).val
    rw [(idx3 t).1]; omega
  · show win0_3.index t 1 * 128 + 1 * (j 1).val = (j 1).val
    rw [(idx3 t).2]; omega

/-! ## What a point leaves -/

section Points
variable (x w rc rs : ℕ → ℕ → EReal)

theorem pay6_eq : k0_pay6 (F := Ideal) (arr S1024x512 fun i j _ => x i j) (arr S512x1024 fun i j _ => w i j) = arr S1024x1024 fun i j _ => qp x w i j := by
  unfold k0_pay6
  simp only [dot_S1024x512_S512x1024_S1024x1024_1_0_0_1_n_n, arr_cast_self, arr_const, Ideal.ofBits_zero_f32]
  rw [arr_matmul_nn (n := 1024) (m := 1024) (K := 512)]
  simp only [zero_add]
  rfl

theorem out4_eq : out0_4 (F := Ideal) (arr S1024x512 fun i j _ => x i j) (arr S512x1024 fun i j _ => w i j) (arr S1024x128 fun i j _ => rc i j) (arr S1024x128 fun i j _ => rs i j)
    = arr S1024x1024 fun i j _ => turned (qp x w) rc rs i j := by
  obtain ⟨g, hg⟩ := canon_some_bf16 (n := 1024) (m := 1024) []
  unfold out0_4 k0_pay17 k0_pay18 k0_pay19 k0_pay1 k0_pay2 k0_pay3 k0_pay4 k0_pay5 k0_pay9 k0_pay10 k0_pay11 k0_pay13 k0_pay14 k0_pay15 k0_pay16 k0_pay12 k0_pay7 k0_pay8 r0_0 r0_1 r0_2
  simp only [View.ld_unit_zero (S := S1024x512) hz, View.ld_unit_zero (S := S512x1024) hz, View.ld_unit_zero (S := S1024x128) hz, pay6_eq, arr_cast_self]
  refine (stores (q := qp x w) (rc := rc) (rs := rs) (g := g) 3 rfl rfl (stores 2 rfl rfl (stores 1 rfl rfl (stores 0 rfl rfl (hg.trans (arr2_ext fun i j _ _ => (if_neg (by omega)).symm))
    (plain_slice 0 _ _) (turn_slice 128 _ _ _ _ _) _ _) (plain_slice 256 _ _) (turn_slice 384 _ _ _ _ _) _ _) (plain_slice 512 _ _) (turn_slice 640 _ _ _ _ _) _ _)
    (plain_slice 768 _ _) (turn_slice 896 _ _ _ _ _) _ _).trans (arr2_ext fun i j _ hj => if_pos (by omega))
end Points
end Arrays

/-! ## The result after the run -/

variable (m : (ℓ : Loc nD τ sig) → Buf (Elt Ideal) ℓ) (c : Dev nD)
variable {x w cs sn : ℕ → ℕ → ℕ → EReal}

/-- The arguments of the kernel as functions of coordinates, and the cosines and sines of the rotation's angles. -/
structure Args (x w cs sn : ℕ → ℕ → ℕ → EReal) : Prop where
  hx : m ((c : Thread nD τ).loc main_arg0) = arr S4096x512 x
  hw : m ((c : Thread nD τ).loc main_arg2) = arr S512x16x192 w
  hcs : cosines (m ((c : Thread nD τ).loc main_arg1)) = arr S4096x32 cs
  hsn : sines (m ((c : Thread nD τ).loc main_arg1)) = arr S4096x32 sn

/-- Rows from `1024·t` on. -/
def rows (t : ℕ) (f : ℕ → ℕ → EReal) (i j : ℕ) : EReal := f (t * 1024 + i) j
/-- Columns from `1024·t` on. -/
def cols (t : ℕ) (f : ℕ → ℕ → EReal) (i j : ℕ) : EReal := f i (t * 1024 + j)

/-- A block of the heads is the heads of the blocks. -/
theorem turned_block (x w rc rs : ℕ → ℕ → EReal) (a b i j : ℕ) :
    turned (qp (rows a x) (cols b w)) (rows a rc) (rows a rs) i j = turned (qp x w) rc rs (a * 1024 + i) (b * 1024 + j) := by
  unfold turned
  rw [show (b * 1024 + j) % 256 = j % 256 by omega]
  refine if_congr Iff.rfl rfl ?_
  unfold turn
  rw [show (b * 1024 + j) / 256 * 256 = b * 1024 + j / 256 * 256 by omega]
  unfold qp rows cols
  simp only [Nat.add_assoc]

/-- The result: the projection's heads, their last columns rotated. -/
theorem final4 (h : Args m c x w cs sn) : (dats m 0 c).arrAt 4 cfg0.N
    = arr S4096x4096 fun i j _ => turned (qp (fun i k => x i k 0) (wide w)) (padded 64 (cos2 cs)) (padded 64 (sin2 sn)) i j := by
  refine (dats m 0 c).arrAt_eq_of_covers 4 _ (by decide +kernel) fun t hf y => ?_
  have r0 : iblk m c 0 t = arr S1024x512 fun i j _ => rows (t.val / 4) (fun i k => x i k 0) i j := blk0 m c t (f := fun i j _ => x i j 0) (V_x m c (x := x) h.hx)
  have r1 : iblk m c 1 t = arr S512x1024 fun i j _ => cols (t.val % 4) (wide w) i j := blk1 m c t (f := fun i j _ => wide w i j) (V_w m c (w := w) h.hw)
  have r2 : iblk m c 2 t = arr S1024x128 fun i j _ => rows (t.val / 4) (padded 64 (cos2 cs)) i j := blk2 m c t (f := fun i j _ => padded 64 (cos2 cs) i j) (V_cos m c (cs := cs) h.hcs)
  have r3 : iblk m c 3 t = arr S1024x128 fun i j _ => rows (t.val / 4) (padded 64 (sin2 sn)) i j := blk3 m c t (f := fun i j _ => padded 64 (sin2 sn) i j) (V_sin m c (sn := sn) h.hsn)
  blk_simp
  rw [after0_4, r0, r1, r2, r3, out4_eq]
  have e0 : (((win0_4.blk t).view.emb y) 0).val = t.val / 4 * 1024 + (y 0).val := by blk_simp [(idx4 t).1]
  have e1 : (((win0_4.blk t).view.emb y) 1).val = t.val % 4 * 1024 + (y 1).val := by blk_simp [(idx4 t).2]
  show turned (qp (rows (t.val / 4) fun i k => x i k 0) (cols (t.val % 4) (wide w))) (rows (t.val / 4) (padded 64 (cos2 cs))) (rows (t.val / 4) (padded 64 (sin2 sn))) (y 0).val (y 1).val
    = turned (qp (fun i k => x i k 0) (wide w)) (padded 64 (cos2 cs)) (padded 64 (sin2 sn)) (((win0_4.blk t).view.emb y) 0).val (((win0_4.blk t).view.emb y) 1).val
  rw [e0, e1, turned_block]

end Cert.Kernel11Ideal.QForward
-- ==== Proof.QForwardReference.lean ====
/-
  The queries' up-projection, reference side: what the result holds, as a formula of the arguments' elements.
-/
module

public import proofs.«01_k».proof.Proof.Angle
public import proofs.«01_k».proof.Proof.QForwardForm
public import proofs.«01_k».proof.Proof.Heads
public import proofs.«01_k».proof.Proof.Gen.Reference11Ideal.Run

@[expose] public section

set_option maxRecDepth 16384

noncomputable section

open Idealize.ShloMosaic Idealize.ShloMosaic.TcCoe Idealize.SL.Sem
open Cert.Arr

namespace Cert.Reference11Ideal.QForward

open Cert.Reference11Ideal Cert.Reference11Ideal.Gen Cert.Reference11Ideal.Value Cert.QForward

variable (m : (ℓ : Loc nD τ sig) → Buf (Elt Ideal) ℓ) (ρ : Dev nD → PrngReg)

/-- The arguments of the reference as functions of coordinates, and the cosines and sines of the rotation's angles. -/
structure Args (c : Dev nD) (x w cs sn : ℕ → ℕ → ℕ → EReal) : Prop where
  hx : m ((c : Thread nD τ).loc main_arg0) = arr S4096x512 x
  hw : m ((c : Thread nD τ).loc main_arg2) = arr S512x16x192 w
  hcs : Host.cos (F := Ideal) (φ := .f32) (angle (m ((c : Thread nD τ).loc main_arg1))) = arr S4096x32 cs
  hsn : Host.sin (F := Ideal) (φ := .f32) (angle (m ((c : Thread nD τ).loc main_arg1))) = arr S4096x32 sn

/-- The projection. -/
theorem dot_eq (x w : ℕ → ℕ → ℕ → EReal) : Host.dotGeneral (F := Ideal) (φ₁ := .f32) (φ₂ := .f32) dot_S4096x512_S512x16x192_S4096x16x192_1_0_0_12_n_n none (arr S4096x512 x) (arr S512x16x192 w)
    = arr S4096x16x192 fun i h d => qh (fun i k => x i k 0) w i h d := by
  simp only [dot_S4096x512_S512x16x192_S4096x16x192_1_0_0_12_n_n]
  exact arr_dot_1_0 (n := 4096) (K := 512) (m := 16) (l := 192) _ _ _ _

theorem res_eq {c : Dev nD} {x w cs sn : ℕ → ℕ → ℕ → EReal} (h : Args m c x w cs sn) :
    res_main_v39 m c = arr S4096x4096 fun i j _ => wide (head (fun i k => x i k 0) w cs sn) i j := by
  unfold res_main_v39
  show shapeCast S4096x4096 (pad S4096x16x256 ![0, 0, 0] ![0, 0, 64] ![0, 0, 0] (concatenate S4096x16x192 2 [⟨S4096x16x128, _⟩, ⟨S4096x16x64, concatenate S4096x16x64 2 [⟨S4096x16x32, _⟩, ⟨S4096x16x32, _⟩]
      concatenates_S4096x16x32_S4096x16x32_S4096x16x64_d2⟩] concatenates_S4096x16x128_S4096x16x64_S4096x16x192_d2)
    (sitofp (F := Ideal) .f32 (constantI S_ 32 0#32)) pads_S4096x16x192_S4096x16x256_000_000_0640 h_S_) shapeCasts_S4096x16x256_S4096x4096 = _
  rw [concat2_eq (n := 4096) (m := 16) (l := 192) (l₁ := 128) (l₂ := 64) (f := fun i h d => qh (fun i k => x i k 0) w i h d)
      (g := fun i h d => rope (fun i l => qh (fun i k => x i k 0) w i h (128 + l)) cs sn i d) ?hx ?hy, arr_sitofp_zero, arr_pad3, arr_merge (b := 16) (c := 256) (bc := 4096) _ rfl]
  · rfl
  case hx =>
    rw [h.hx, h.hw, dot_eq]
    simp only [arr_slice3 (n := 4096) (m := 16) (l := 192) (n' := 4096) (m' := 16) (l' := 128), zero_add]
  case hy =>
    refine (concat2_eq (n := 4096) (m := 16) (l := 64) (l₁ := 32) (l₂ := 32)
      (f := fun i h d => qh (fun i k => x i k 0) w i h (128 + d) * cs i d 0 - qh (fun i k => x i k 0) w i h (128 + (32 + d)) * sn i d 0)
      (g := fun i h d => qh (fun i k => x i k 0) w i h (128 + (32 + d)) * cs i d 0 + qh (fun i k => x i k 0) w i h (128 + d) * sn i d 0) ?_ ?_ _).trans ?_
    · rw [h.hx, h.hw, h.hcs, h.hsn, dot_eq]
      simp only [arr_slice3 (n := 4096) (m := 16) (l := 192) (n' := 4096) (m' := 16) (l' := 64), arr_slice3 (n := 4096) (m := 16) (l := 64) (n' := 4096) (m' := 16) (l' := 32),
        arr_bid_02 (n := 4096) (l := 32), arr_bid_mid (n := 4096) (m := 16) (l := 32), arr_mul, arr_sub, zero_add]
    · rw [h.hx, h.hw, h.hcs, h.hsn, dot_eq]
      simp only [arr_slice3 (n := 4096) (m := 16) (l := 192) (n' := 4096) (m' := 16) (l' := 64), arr_slice3 (n := 4096) (m := 16) (l := 64) (n' := 4096) (m' := 16) (l' := 32),
        arr_bid_02 (n := 4096) (l := 32), arr_bid_mid (n := 4096) (m := 16) (l := 32), arr_mul, arr_add, zero_add]
    · rfl

/-- The run, its result by its formula. -/
theorem run_at {x w cs sn : Dev nD → ℕ → ℕ → ℕ → EReal} (h : ∀ c, Args m c (x c) (w c) (cs c) (sn c)) :
    θ_run defs (onTc (τ := τ) (main (F := Ideal))) ⟨m, fun _ => 0, ρ⟩ fun r => ∀ c : Dev nD,
      r.2.mem ((c.tc : Thread nD τ).loc main_v39) = arr S4096x4096 (fun i j _ => wide (head (fun i k => x c i k 0) (w c) (cs c) (sn c)) i j)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r hr c => ⟨(hr c).1.trans (res_eq m (h c)), (hr c).2⟩) (Value.run m ρ)

/-- The reference leaves its arguments, and every counter at zero. -/
theorem frame :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0 :=
  (θ_run defs _ _).mono (fun r h => ⟨fun c => (h c).2, sem_eq_zero_of_no_sems (by decide) r.2⟩) (Value.run m ρ)

end Cert.Reference11Ideal.QForward
-- ==== Proof.QForward.lean ====
/-
  The queries' up-projection: the claim about this call. It needs no precondition.
-/
module

public import proofs.«01_k».proof.Defs
public import proofs.«01_k».proof.Proof.QForwardValue
public import proofs.«01_k».proof.Proof.QForwardReference
public import proofs.«01_k».proof.Proof.Gen.Kernel11.Frame

@[expose] public section

noncomputable section

open Idealize.ShloMosaic Idealize.ShloMosaic.TcCoe Idealize.SL.Sem
open Cert.Arr
open Cert.Kernel11Ideal (nD τ main_arg0 main_arg1 main_arg2)

namespace Cert.QForward

/-- The two programs' results are equal. -/
theorem value : Cert.algebraic_Kernel11Ideal_Reference11Ideal := by
  intro m ρ m' ρ' hpre hargs
  have key : ∀ c : Dev nD, ∃ x w cs sn, Cert.Kernel11Ideal.QForward.Args m c x w cs sn ∧ Cert.Reference11Ideal.QForward.Args m' c x w cs sn := by
    intro c
    obtain ⟨a0, a1, a2⟩ := hargs c
    obtain ⟨x, hx⟩ := exists_arr (s := ⟨2, ![4096, 512]⟩) (by decide) (m ((c.tc : Thread nD τ).loc main_arg0))
    obtain ⟨w, hw⟩ := exists_arr (s := ⟨3, ![512, 16, 192]⟩) (by decide) (m ((c.tc : Thread nD τ).loc main_arg2))
    obtain ⟨cs, hcs⟩ := exists_arr (s := ⟨2, ![4096, 32]⟩) (by decide) (cosines (m ((c.tc : Thread nD τ).loc main_arg1)))
    obtain ⟨sn, hsn⟩ := exists_arr (s := ⟨2, ![4096, 32]⟩) (by decide) (sines (m ((c.tc : Thread nD τ).loc main_arg1)))
    exact ⟨x, w, cs, sn, ⟨hx, hw, hcs, hsn⟩, ⟨a0.trans hx, a2.trans hw,
      (congrArg cosines a1).trans hcs,
      (congrArg sines a1).trans hsn⟩⟩
  choose x w cs sn hk hr using key
  refine ⟨_, (θ_run Cert.Kernel11Ideal.defs _ _).mono (fun r h c => ⟨(h c).1.trans (Cert.Kernel11Ideal.QForward.final4 m c (hk c)), (h c).2⟩)
    (Cert.Kernel11Ideal.Value.run_blocks m ρ), ?_⟩
  refine (θ_run Cert.Reference11Ideal.defs _ _).mono (fun r h c => ⟨(h c).1.trans ?_, (h c).2⟩) (Cert.Reference11Ideal.QForward.run_at m' ρ' hr)
  exact arr2_ext fun i j hi hj => (turned_wide _ _ _ _ i j).symm

end Cert.QForward
-- ==== Proof.lean ====
module

public import proofs.«01_k».proof.Defs
public import proofs.«01_k».proof.Proof.QNorm
public import proofs.«01_k».proof.Proof.KvNorm
public import proofs.«01_k».proof.Proof.FirstNorm
public import proofs.«01_k».proof.Proof.LossHead
public import proofs.«01_k».proof.Proof.Attention
public import proofs.«01_k».proof.Proof.AttentionForward
public import proofs.«01_k».proof.Proof.KvForward
public import proofs.«01_k».proof.Proof.QForward
public import proofs.«01_k».proof.Proof.Gen.KernelIdeal.Value
public import proofs.«01_k».proof.Proof.Gen.Kernel.Frame
public import proofs.«01_k».proof.Proof.Gen.ReferenceIdeal.Run
public import proofs.«01_k».proof.Proof.Gen.Kernel2Ideal.Value
public import proofs.«01_k».proof.Proof.Gen.Kernel2.Frame
public import proofs.«01_k».proof.Proof.Gen.Reference2Ideal.Run
public import proofs.«01_k».proof.Proof.Gen.Kernel3Ideal.Value
public import proofs.«01_k».proof.Proof.Gen.Kernel3.Frame
public import proofs.«01_k».proof.Proof.Gen.Reference3Ideal.Run
public import proofs.«01_k».proof.Proof.Gen.Kernel4Ideal.Value
public import proofs.«01_k».proof.Proof.Gen.Kernel4.Frame
public import proofs.«01_k».proof.Proof.Gen.Reference4Ideal.Run
public import proofs.«01_k».proof.Proof.Gen.Kernel6Ideal.Value
public import proofs.«01_k».proof.Proof.Gen.Kernel6.Frame
public import proofs.«01_k».proof.Proof.Gen.Reference6Ideal.Run
public import proofs.«01_k».proof.Proof.Gen.Kernel9Ideal.Value
public import proofs.«01_k».proof.Proof.Gen.Kernel9.Frame
public import proofs.«01_k».proof.Proof.Gen.Reference9Ideal.Run
public import proofs.«01_k».proof.Proof.Gen.Kernel10Ideal.Value
public import proofs.«01_k».proof.Proof.Gen.Kernel10.Frame
public import proofs.«01_k».proof.Proof.Gen.Reference10Ideal.Run
public import proofs.«01_k».proof.Proof.Gen.Kernel11Ideal.Value
public import proofs.«01_k».proof.Proof.Gen.Kernel11.Frame
public import proofs.«01_k».proof.Proof.Gen.Reference11Ideal.Run

@[expose] public section

noncomputable section

namespace Cert.Proof

open Idealize.ShloMosaic Idealize.SL.Sem

theorem claim : Cert.Claim := ⟨
  Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel6.Gen.facts, Cert.Kernel6Ideal.Gen.facts, Cert.Reference6Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.QNorm.preFacts,
  Cert.KvNorm.preFacts,
  Cert.FirstNorm.preFacts,
  Cert.LossHead.preFacts,
  Cert.Attention.preFacts,
  Cert.AttentionForward.preFacts,
  fun m ρ _ => Cert.Kernel.Gen.frame m ρ, fun m ρ _ => Cert.KernelIdeal.Gen.frame m ρ, fun m ρ _ => Cert.KernelIdeal.Gen.frame m ρ,
  fun m ρ _ => Cert.ReferenceIdeal.QNorm.frame m ρ, fun m ρ _ => Cert.ReferenceIdeal.QNorm.frame m ρ,
  fun m ρ _ => Cert.Kernel2.Gen.frame m ρ, fun m ρ _ => Cert.Kernel2Ideal.Gen.frame m ρ, fun m ρ _ => Cert.Kernel2Ideal.Gen.frame m ρ,
  fun m ρ _ => Cert.Reference2Ideal.KvNorm.frame m ρ, fun m ρ _ => Cert.Reference2Ideal.KvNorm.frame m ρ,
  fun m ρ _ => Cert.Kernel3.Gen.frame m ρ, fun m ρ _ => Cert.Kernel3Ideal.Gen.frame m ρ, fun m ρ _ => Cert.Kernel3Ideal.Gen.frame m ρ,
  fun m ρ _ => Cert.Reference3Ideal.FirstNorm.frame m ρ, fun m ρ _ => Cert.Reference3Ideal.FirstNorm.frame m ρ,
  fun m ρ _ => Cert.Kernel4.Gen.frame m ρ, fun m ρ _ => Cert.Kernel4Ideal.Gen.frame m ρ, fun m ρ _ => Cert.Kernel4Ideal.Gen.frame m ρ,
  fun m ρ _ => Cert.Reference4Ideal.LossHead.frame m ρ, fun m ρ _ => Cert.Reference4Ideal.LossHead.frame m ρ,
  fun m ρ _ => Cert.Kernel6.Gen.frame m ρ, fun m ρ _ => Cert.Kernel6Ideal.Gen.frame m ρ, fun m ρ _ => Cert.Kernel6Ideal.Gen.frame m ρ,
  fun m ρ _ => Cert.Reference6Ideal.Attention.frame m ρ, fun m ρ _ => Cert.Reference6Ideal.Attention.frame m ρ,
  fun m ρ _ => Cert.Kernel9.Gen.frame m ρ, fun m ρ _ => Cert.Kernel9Ideal.Gen.frame m ρ, fun m ρ _ => Cert.Kernel9Ideal.Gen.frame m ρ,
  fun m ρ _ => Cert.Reference9Ideal.Attention.frame m ρ, fun m ρ _ => Cert.Reference9Ideal.Attention.frame m ρ,
  fun m ρ _ => Cert.Kernel10.Gen.frame m ρ, fun m ρ _ => Cert.Kernel10Ideal.Gen.frame m ρ, fun m ρ _ => Cert.Reference10Ideal.KvForward.frame m ρ,
  fun m ρ _ => Cert.Kernel11.Gen.frame m ρ, fun m ρ _ => Cert.Kernel11Ideal.Gen.frame m ρ, fun m ρ _ => Cert.Reference11Ideal.QForward.frame m ρ,
  trivial, Cert.QNorm.value,
  trivial, Cert.KvNorm.value,
  trivial, Cert.FirstNorm.value,
  trivial, Cert.LossHead.value,
  ⟨IdealRules.named_const.statement Cert.Kernel6Ideal.κ "mask" .f32 0xF149F2CA#32 ⊥ rfl,
    IdealRules.named_const.statement Cert.Kernel6Ideal.κ "scale_log2e" .f32 0x3DD53B95#32 (((Real.sqrt 192)⁻¹ * (Real.log 2)⁻¹ : ℝ) : EReal) rfl,
    IdealRules.named_const.statement Cert.Kernel6Ideal.κ "log2e" .f32 0x3FB8AA3B#32 (((Real.log 2)⁻¹ : ℝ) : EReal) rfl,
    IdealRules.named_const.statement Cert.Kernel6Ideal.κ "scale" .f32 0x3D93CD3A#32 (((Real.sqrt 192)⁻¹ : ℝ) : EReal) rfl⟩, Cert.Attention.value,
  ⟨IdealRules.named_const.statement Cert.Kernel9Ideal.κ "mask" .f32 0xF149F2CA#32 ⊥ rfl,
    IdealRules.named_const.statement Cert.Kernel9Ideal.κ "scale_log2e" .f32 0x3DD53B95#32 (((Real.sqrt 192)⁻¹ * (Real.log 2)⁻¹ : ℝ) : EReal) rfl,
    IdealRules.named_const.statement Cert.Kernel9Ideal.κ "scale" .f32 0x3D93CD3A#32 (((Real.sqrt 192)⁻¹ : ℝ) : EReal) rfl⟩, Cert.AttentionForward.value,
  trivial, Cert.KvForward.value,
  trivial, Cert.QForward.value⟩

end Cert.Proof

end
